-- ==== Defs.lean ====
def Pre_PoolScaleBwd (m : (ℓ : Loc Cert.PoolScaleBwd.nD Cert.PoolScaleBwd.τ Cert.PoolScaleBwd.sig) → Buf (Elt Bits) ℓ) : Prop :=
  True

def Pre_PoolScaleBwdIdeal (m : (ℓ : Loc Cert.PoolScaleBwdIdeal.nD Cert.PoolScaleBwdIdeal.τ Cert.PoolScaleBwdIdeal.sig) → Buf (Elt Ideal) ℓ) : Prop :=
  True

def Pre_PoolScaleRefIdeal (m : (ℓ : Loc Cert.PoolScaleRefIdeal.nD Cert.PoolScaleRefIdeal.τ Cert.PoolScaleRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_q_k [hPre_finite_q_k : Cert.Pre_finite_q_k.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_q_k.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_q_k.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_q_k [hPre_finite_q_k : Cert.Pre_finite_q_k.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_q_k.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_q_k.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_dx_wd_b [hPre_finite_dx_wd_b : Cert.Pre_finite_dx_wd_b.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_dx_wd_b.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_finite_dx_wd_b.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 = (fun _ => 1#1)
    ∧ (Cert.Pre_finite_dx_wd_b.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_dx_wd_b [hPre_finite_dx_wd_b : Cert.Pre_finite_dx_wd_b.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_dx_wd_b.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_dx_wd_b.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_dx_wd_b.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_gate [hPre_finite_gate : Cert.Pre_finite_gate.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.2.1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.2.2.1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.2.2.2.1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.2.2.2.2.1 = (fun _ => 1#1)
    ∧ (Cert.Pre_finite_gate.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))).2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_gate [hPre_finite_gate : Cert.Pre_finite_gate.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.1 = (fun _ => 1#1)
    ∧ (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_dd [hPre_finite_dd : Cert.Pre_finite_dd.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_dd.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_dd [hPre_finite_dd : Cert.Pre_finite_dd.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_dd.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormKvBwd (m : (ℓ : Loc Cert.NormKvBwd.nD Cert.NormKvBwd.τ Cert.NormKvBwd.sig) → Buf (Elt Bits) ℓ) : Prop :=
  True

def Pre_NormKvBwdIdeal (m : (ℓ : Loc Cert.NormKvBwdIdeal.nD Cert.NormKvBwdIdeal.τ Cert.NormKvBwdIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_g [hPre_finite_g : Cert.Pre_finite_g.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_g.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_g [hPre_finite_g : Cert.Pre_finite_g.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_g.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GroupFwd (m : (ℓ : Loc Cert.GroupFwd.nD Cert.GroupFwd.τ Cert.GroupFwd.sig) → Buf (Elt Bits) ℓ) : Prop :=
  True

def Pre_GroupFwdIdeal (m : (ℓ : Loc Cert.GroupFwdIdeal.nD Cert.GroupFwdIdeal.τ Cert.GroupFwdIdeal.sig) → Buf (Elt Ideal) ℓ) : Prop :=
  True

def Pre_GroupFwdRefIdeal (m : (ℓ : Loc Cert.GroupFwdRefIdeal.nD Cert.GroupFwdRefIdeal.τ Cert.GroupFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_RowsFwd (m : (ℓ : Loc Cert.RowsFwd.nD Cert.RowsFwd.τ Cert.RowsFwd.sig) → Buf (Elt Bits) ℓ) : Prop :=
  True

def Pre_RowsFwdIdeal (m : (ℓ : Loc Cert.RowsFwdIdeal.nD Cert.RowsFwdIdeal.τ Cert.RowsFwdIdeal.sig) → Buf (Elt Ideal) ℓ) : Prop :=
  True

def Pre_RowsFwdRefIdeal (m : (ℓ : Loc Cert.RowsFwdRefIdeal.nD Cert.RowsFwdRefIdeal.τ Cert.RowsFwdRefIdeal.sig) → Buf (Elt Ideal) ℓ) : Prop :=
  True

def Pre_RowsBwd (m : (ℓ : Loc Cert.RowsBwd.nD Cert.RowsBwd.τ Cert.RowsBwd.sig) → Buf (Elt Bits) ℓ) : Prop :=
  True

def Pre_RowsBwdIdeal (m : (ℓ : Loc Cert.RowsBwdIdeal.nD Cert.RowsBwdIdeal.τ Cert.RowsBwdIdeal.sig) → Buf (Elt Ideal) ℓ) : Prop :=
  True

def Pre_RowsBwdRefIdeal (m : (ℓ : Loc Cert.RowsBwdRefIdeal.nD Cert.RowsBwdRefIdeal.τ Cert.RowsBwdRefIdeal.sig) → Buf (Elt Ideal) ℓ) : Prop :=
  True

def Pre_WeightBwd (m : (ℓ : Loc Cert.WeightBwd.nD Cert.WeightBwd.τ Cert.WeightBwd.sig) → Buf (Elt Bits) ℓ) : Prop :=
  True

def Pre_WeightBwdIdeal (m : (ℓ : Loc Cert.WeightBwdIdeal.nD Cert.WeightBwdIdeal.τ Cert.WeightBwdIdeal.sig) → Buf (Elt Ideal) ℓ) : Prop :=
  True

def Pre_WeightBwdRefIdeal (m : (ℓ : Loc Cert.WeightBwdRefIdeal.nD Cert.WeightBwdRefIdeal.τ Cert.WeightBwdRefIdeal.sig) → Buf (Elt Ideal) ℓ) : Prop :=
  True

def Pre_RowsSumBwd (m : (ℓ : Loc Cert.RowsSumBwd.nD Cert.RowsSumBwd.τ Cert.RowsSumBwd.sig) → Buf (Elt Bits) ℓ) : Prop :=
  True

def Pre_RowsSumBwdIdeal (m : (ℓ : Loc Cert.RowsSumBwdIdeal.nD Cert.RowsSumBwdIdeal.τ Cert.RowsSumBwdIdeal.sig) → Buf (Elt Ideal) ℓ) : Prop :=
  True

def Pre_RowsSumBwdRefIdeal (m : (ℓ : Loc Cert.RowsSumBwdRefIdeal.nD Cert.RowsSumBwdRefIdeal.τ Cert.RowsSumBwdRefIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamStepRefIdeal (m : (ℓ : Loc Cert.AdamStepRefIdeal.nD Cert.AdamStepRefIdeal.τ Cert.AdamStepRefIdeal.sig) → Buf (Elt Ideal) ℓ) : Prop :=
  True

def Pre_ColsFwd (m : (ℓ : Loc Cert.ColsFwd.nD Cert.ColsFwd.τ Cert.ColsFwd.sig) → Buf (Elt Bits) ℓ) : Prop :=
  True

def Pre_ColsFwdIdeal (m : (ℓ : Loc Cert.ColsFwdIdeal.nD Cert.ColsFwdIdeal.τ Cert.ColsFwdIdeal.sig) → Buf (Elt Ideal) ℓ) : Prop :=
  True

def Pre_ColsFwdRefIdeal (m : (ℓ : Loc Cert.ColsFwdRefIdeal.nD Cert.ColsFwdRefIdeal.τ Cert.ColsFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_ColsWeightBwd (m : (ℓ : Loc Cert.ColsWeightBwd.nD Cert.ColsWeightBwd.τ Cert.ColsWeightBwd.sig) → Buf (Elt Bits) ℓ) : Prop :=
  True

def Pre_ColsWeightBwdIdeal (m : (ℓ : Loc Cert.ColsWeightBwdIdeal.nD Cert.ColsWeightBwdIdeal.τ Cert.ColsWeightBwdIdeal.sig) → Buf (Elt Ideal) ℓ) : Prop :=
  True

def Pre_ColsWeightBwdRefIdeal (m : (ℓ : Loc Cert.ColsWeightBwdRefIdeal.nD Cert.ColsWeightBwdRefIdeal.τ Cert.ColsWeightBwdRefIdeal.sig) → Buf (Elt Ideal) ℓ) : Prop :=
  True

def Pre_InWeightBwd (m : (ℓ : Loc Cert.InWeightBwd.nD Cert.InWeightBwd.τ Cert.InWeightBwd.sig) → Buf (Elt Bits) ℓ) : Prop :=
  True

def Pre_InWeightBwdIdeal (m : (ℓ : Loc Cert.InWeightBwdIdeal.nD Cert.InWeightBwdIdeal.τ Cert.InWeightBwdIdeal.sig) → Buf (Elt Ideal) ℓ) : Prop :=
  True

def Pre_InWeightBwdRefIdeal (m : (ℓ : Loc Cert.InWeightBwdRefIdeal.nD Cert.InWeightBwdRefIdeal.τ Cert.InWeightBwdRefIdeal.sig) → Buf (Elt Ideal) ℓ) : Prop :=
  True

def Pre_DownWeightBwd (m : (ℓ : Loc Cert.DownWeightBwd.nD Cert.DownWeightBwd.τ Cert.DownWeightBwd.sig) → Buf (Elt Bits) ℓ) : Prop :=
  True

def Pre_DownWeightBwdIdeal (m : (ℓ : Loc Cert.DownWeightBwdIdeal.nD Cert.DownWeightBwdIdeal.τ Cert.DownWeightBwdIdeal.sig) → Buf (Elt Ideal) ℓ) : Prop :=
  True

def Pre_DownWeightBwdRefIdeal (m : (ℓ : Loc Cert.DownWeightBwdRefIdeal.nD Cert.DownWeightBwdRefIdeal.τ Cert.DownWeightBwdRefIdeal.sig) → Buf (Elt Ideal) ℓ) : Prop :=
  True

def Pre_InRowsBwd (m : (ℓ : Loc Cert.InRowsBwd.nD Cert.InRowsBwd.τ Cert.InRowsBwd.sig) → Buf (Elt Bits) ℓ) : Prop :=
  True

def Pre_InRowsBwdIdeal (m : (ℓ : Loc Cert.InRowsBwdIdeal.nD Cert.InRowsBwdIdeal.τ Cert.InRowsBwdIdeal.sig) → Buf (Elt Ideal) ℓ) : Prop :=
  True

def Pre_InRowsBwdRefIdeal (m : (ℓ : Loc Cert.InRowsBwdRefIdeal.nD Cert.InRowsBwdRefIdeal.τ Cert.InRowsBwdRefIdeal.sig) → Buf (Elt Ideal) ℓ) : Prop :=
  True

def quiescent_PoolScaleBwd [hPoolScaleBwd : Cert.PoolScaleBwd.Facts] : Prop :=
  ∀ (m : (ℓ : Loc Cert.PoolScaleBwd.nD Cert.PoolScaleBwd.τ Cert.PoolScaleBwd.sig) → Buf (Elt Bits) ℓ) (g : Dev Cert.PoolScaleBwd.nD → PrngReg), Pre_PoolScaleBwd m →
    θ_run (Cert.PoolScaleBwd.defs (F := Bits)) (onTc (τ := Cert.PoolScaleBwd.τ) (Cert.PoolScaleBwd.main (F := Bits))) ⟨m, fun _ => 0, g⟩ (fun r => (∀ c : Dev Cert.PoolScaleBwd.nD,
      r.2.mem ((c.tc : Thread Cert.PoolScaleBwd.nD Cert.PoolScaleBwd.τ).loc Cert.PoolScaleBwd.main_arg0) = m ((c.tc : Thread Cert.PoolScaleBwd.nD Cert.PoolScaleBwd.τ).loc Cert.PoolScaleBwd.main_arg0)
      ∧ r.2.mem ((c.tc : Thread Cert.PoolScaleBwd.nD Cert.PoolScaleBwd.τ).loc Cert.PoolScaleBwd.main_arg1) = m ((c.tc : Thread Cert.PoolScaleBwd.nD Cert.PoolScaleBwd.τ).loc Cert.PoolScaleBwd.main_arg1)
      ∧ r.2.mem ((c.tc : Thread Cert.PoolScaleBwd.nD Cert.PoolScaleBwd.τ).loc Cert.PoolScaleBwd.main_arg2) = m ((c.tc : Thread Cert.PoolScaleBwd.nD Cert.PoolScaleBwd.τ).loc Cert.PoolScaleBwd.main_arg2)
      ∧ r.2.mem ((c.tc : Thread Cert.PoolScaleBwd.nD Cert.PoolScaleBwd.τ).loc Cert.PoolScaleBwd.main_arg3) = m ((c.tc : Thread Cert.PoolScaleBwd.nD Cert.PoolScaleBwd.τ).loc Cert.PoolScaleBwd.main_arg3))
      ∧ r.2.sem = fun _ => 0)

def quiescent_PoolScaleBwdIdeal [hPoolScaleBwdIdeal : Cert.PoolScaleBwdIdeal.Facts] : Prop :=
  ∀ (m : (ℓ : Loc Cert.PoolScaleBwdIdeal.nD Cert.PoolScaleBwdIdeal.τ Cert.PoolScaleBwdIdeal.sig) → Buf (Elt Ideal) ℓ) (g : Dev Cert.PoolScaleBwdIdeal.nD → PrngReg), Pre_PoolScaleBwdIdeal m →
    θ_run (Cert.PoolScaleBwdIdeal.defs (F := Ideal)) (onTc (τ := Cert.PoolScaleBwdIdeal.τ) (Cert.PoolScaleBwdIdeal.main (F := Ideal))) ⟨m, fun _ => 0, g⟩ (fun r => (∀ c : Dev Cert.PoolScaleBwdIdeal.nD,
      r.2.mem ((c.tc : Thread Cert.PoolScaleBwdIdeal.nD Cert.PoolScaleBwdIdeal.τ).loc Cert.PoolScaleBwdIdeal.main_arg0) = m ((c.tc : Thread Cert.PoolScaleBwdIdeal.nD Cert.PoolScaleBwdIdeal.τ).loc Cert.PoolScaleBwdIdeal.main_arg0)
      ∧ r.2.mem ((c.tc : Thread Cert.PoolScaleBwdIdeal.nD Cert.PoolScaleBwdIdeal.τ).loc Cert.PoolScaleBwdIdeal.main_arg1) = m ((c.tc : Thread Cert.PoolScaleBwdIdeal.nD Cert.PoolScaleBwdIdeal.τ).loc Cert.PoolScaleBwdIdeal.main_arg1)
      ∧ r.2.mem ((c.tc : Thread Cert.PoolScaleBwdIdeal.nD Cert.PoolScaleBwdIdeal.τ).loc Cert.PoolScaleBwdIdeal.main_arg2) = m ((c.tc : Thread Cert.PoolScaleBwdIdeal.nD Cert.PoolScaleBwdIdeal.τ).loc Cert.PoolScaleBwdIdeal.main_arg2)
      ∧ r.2.mem ((c.tc : Thread Cert.PoolScaleBwdIdeal.nD Cert.PoolScaleBwdIdeal.τ).loc Cert.PoolScaleBwdIdeal.main_arg3) = m ((c.tc : Thread Cert.PoolScaleBwdIdeal.nD Cert.PoolScaleBwdIdeal.τ).loc Cert.PoolScaleBwdIdeal.main_arg3))
      ∧ r.2.sem = fun _ => 0)

def quiescent_PoolScaleRefIdeal [hPoolScaleRefIdeal : Cert.PoolScaleRefIdeal.Facts] : Prop :=
  ∀ (m : (ℓ : Loc Cert.PoolScaleRefIdeal.nD Cert.PoolScaleRefIdeal.τ Cert.PoolScaleRefIdeal.sig) → Buf (Elt Ideal) ℓ) (g : Dev Cert.PoolScaleRefIdeal.nD → PrngReg), Pre_PoolScaleRefIdeal m →
    θ_run (Cert.PoolScaleRefIdeal.defs (F := Ideal)) (onTc (τ := Cert.PoolScaleRefIdeal.τ) (Cert.PoolScaleRefIdeal.main (F := Ideal))) ⟨m, fun _ => 0, g⟩ (fun r => (∀ c : Dev Cert.PoolScaleRefIdeal.nD,
      r.2.mem ((c.tc : Thread Cert.PoolScaleRefIdeal.nD Cert.PoolScaleRefIdeal.τ).loc Cert.PoolScaleRefIdeal.main_arg0) = m ((c.tc : Thread Cert.PoolScaleRefIdeal.nD Cert.PoolScaleRefIdeal.τ).loc Cert.PoolScaleRefIdeal.main_arg0)
      ∧ r.2.mem ((c.tc : Thread Cert.PoolScaleRefIdeal.nD Cert.PoolScaleRefIdeal.τ).loc Cert.PoolScaleRefIdeal.main_arg1) = m ((c.tc : Thread Cert.PoolScaleRefIdeal.nD Cert.PoolScaleRefIdeal.τ).loc Cert.PoolScaleRefIdeal.main_arg1)
      ∧ r.2.mem ((c.tc : Thread Cert.PoolScaleRefIdeal.nD Cert.PoolScaleRefIdeal.τ).loc Cert.PoolScaleRefIdeal.main_arg2) = m ((c.tc : Thread Cert.PoolScaleRefIdeal.nD Cert.PoolScaleRefIdeal.τ).loc Cert.PoolScaleRefIdeal.main_arg2)
      ∧ r.2.mem ((c.tc : Thread Cert.PoolScaleRefIdeal.nD Cert.PoolScaleRefIdeal.τ).loc Cert.PoolScaleRefIdeal.main_arg3) = m ((c.tc : Thread Cert.PoolScaleRefIdeal.nD Cert.PoolScaleRefIdeal.τ).loc Cert.PoolScaleRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_q_k [hAttnBwdIdeal : Cert.AttnBwdIdeal.Facts] [hPre_finite_q_k : Cert.Pre_finite_q_k.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_q_k m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_q_k [hAttnRefIdeal : Cert.AttnRefIdeal.Facts] [hPre_finite_q_k : Cert.Pre_finite_q_k.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_q_k m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_dx_wd_b [hGateBwdIdeal : Cert.GateBwdIdeal.Facts] [hPre_finite_dx_wd_b : Cert.Pre_finite_dx_wd_b.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_dx_wd_b m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_dx_wd_b [hGateRefIdeal : Cert.GateRefIdeal.Facts] [hPre_finite_dx_wd_b : Cert.Pre_finite_dx_wd_b.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_dx_wd_b m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ r.2.sem = fun _ => 0)

def quiescent_MixBwdIdeal_pre_finite_gate [hMixBwdIdeal : Cert.MixBwdIdeal.Facts] [hPre_finite_gate : Cert.Pre_finite_gate.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_gate m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite_gate [hMixRefIdeal : Cert.MixRefIdeal.Facts] [hPre_finite_gate : Cert.Pre_finite_gate.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_gate m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite_dd [hPoolBwdIdeal : Cert.PoolBwdIdeal.Facts] [hPre_finite_dd : Cert.Pre_finite_dd.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_dd m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_dd [hPoolRefIdeal : Cert.PoolRefIdeal.Facts] [hPre_finite_dd : Cert.Pre_finite_dd.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_dd m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormKvBwd [hNormKvBwd : Cert.NormKvBwd.Facts] : Prop :=
  ∀ (m : (ℓ : Loc Cert.NormKvBwd.nD Cert.NormKvBwd.τ Cert.NormKvBwd.sig) → Buf (Elt Bits) ℓ) (g : Dev Cert.NormKvBwd.nD → PrngReg), Pre_NormKvBwd m →
    θ_run (Cert.NormKvBwd.defs (F := Bits)) (onTc (τ := Cert.NormKvBwd.τ) (Cert.NormKvBwd.main (F := Bits))) ⟨m, fun _ => 0, g⟩ (fun r => (∀ c : Dev Cert.NormKvBwd.nD,
      r.2.mem ((c.tc : Thread Cert.NormKvBwd.nD Cert.NormKvBwd.τ).loc Cert.NormKvBwd.main_arg0) = m ((c.tc : Thread Cert.NormKvBwd.nD Cert.NormKvBwd.τ).loc Cert.NormKvBwd.main_arg0)
      ∧ r.2.mem ((c.tc : Thread Cert.NormKvBwd.nD Cert.NormKvBwd.τ).loc Cert.NormKvBwd.main_arg1) = m ((c.tc : Thread Cert.NormKvBwd.nD Cert.NormKvBwd.τ).loc Cert.NormKvBwd.main_arg1)
      ∧ r.2.mem ((c.tc : Thread Cert.NormKvBwd.nD Cert.NormKvBwd.τ).loc Cert.NormKvBwd.main_arg2) = m ((c.tc : Thread Cert.NormKvBwd.nD Cert.NormKvBwd.τ).loc Cert.NormKvBwd.main_arg2))
      ∧ r.2.sem = fun _ => 0)

def quiescent_NormKvBwdIdeal [hNormKvBwdIdeal : Cert.NormKvBwdIdeal.Facts] : Prop :=
  ∀ (m : (ℓ : Loc Cert.NormKvBwdIdeal.nD Cert.NormKvBwdIdeal.τ Cert.NormKvBwdIdeal.sig) → Buf (Elt Ideal) ℓ) (g : Dev Cert.NormKvBwdIdeal.nD → PrngReg), Pre_NormKvBwdIdeal m →
    θ_run (Cert.NormKvBwdIdeal.defs (F := Ideal)) (onTc (τ := Cert.NormKvBwdIdeal.τ) (Cert.NormKvBwdIdeal.main (F := Ideal))) ⟨m, fun _ => 0, g⟩ (fun r => (∀ c : Dev Cert.NormKvBwdIdeal.nD,
      r.2.mem ((c.tc : Thread Cert.NormKvBwdIdeal.nD Cert.NormKvBwdIdeal.τ).loc Cert.NormKvBwdIdeal.main_arg0) = m ((c.tc : Thread Cert.NormKvBwdIdeal.nD Cert.NormKvBwdIdeal.τ).loc Cert.NormKvBwdIdeal.main_arg0)
      ∧ r.2.mem ((c.tc : Thread Cert.NormKvBwdIdeal.nD Cert.NormKvBwdIdeal.τ).loc Cert.NormKvBwdIdeal.main_arg1) = m ((c.tc : Thread Cert.NormKvBwdIdeal.nD Cert.NormKvBwdIdeal.τ).loc Cert.NormKvBwdIdeal.main_arg1)
      ∧ r.2.mem ((c.tc : Thread Cert.NormKvBwdIdeal.nD Cert.NormKvBwdIdeal.τ).loc Cert.NormKvBwdIdeal.main_arg2) = m ((c.tc : Thread Cert.NormKvBwdIdeal.nD Cert.NormKvBwdIdeal.τ).loc Cert.NormKvBwdIdeal.main_arg2))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ r.2.sem = fun _ => 0)

def quiescent_PoolFwdIdeal_pre_finite_g [hPoolFwdIdeal : Cert.PoolFwdIdeal.Facts] [hPre_finite_g : Cert.Pre_finite_g.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_g m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1))
      ∧ r.2.sem = fun _ => 0)

def quiescent_PoolFwdRefIdeal_pre_finite_g [hPoolFwdRefIdeal : Cert.PoolFwdRefIdeal.Facts] [hPre_finite_g : Cert.Pre_finite_g.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_g m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def quiescent_GroupFwd [hGroupFwd : Cert.GroupFwd.Facts] : Prop :=
  ∀ (m : (ℓ : Loc Cert.GroupFwd.nD Cert.GroupFwd.τ Cert.GroupFwd.sig) → Buf (Elt Bits) ℓ) (g : Dev Cert.GroupFwd.nD → PrngReg), Pre_GroupFwd m →
    θ_run (Cert.GroupFwd.defs (F := Bits)) (onTc (τ := Cert.GroupFwd.τ) (Cert.GroupFwd.main (F := Bits))) ⟨m, fun _ => 0, g⟩ (fun r => (∀ c : Dev Cert.GroupFwd.nD,
      r.2.mem ((c.tc : Thread Cert.GroupFwd.nD Cert.GroupFwd.τ).loc Cert.GroupFwd.main_arg0) = m ((c.tc : Thread Cert.GroupFwd.nD Cert.GroupFwd.τ).loc Cert.GroupFwd.main_arg0)
      ∧ r.2.mem ((c.tc : Thread Cert.GroupFwd.nD Cert.GroupFwd.τ).loc Cert.GroupFwd.main_arg1) = m ((c.tc : Thread Cert.GroupFwd.nD Cert.GroupFwd.τ).loc Cert.GroupFwd.main_arg1)
      ∧ r.2.mem ((c.tc : Thread Cert.GroupFwd.nD Cert.GroupFwd.τ).loc Cert.GroupFwd.main_arg2) = m ((c.tc : Thread Cert.GroupFwd.nD Cert.GroupFwd.τ).loc Cert.GroupFwd.main_arg2)
      ∧ r.2.mem ((c.tc : Thread Cert.GroupFwd.nD Cert.GroupFwd.τ).loc Cert.GroupFwd.main_arg3) = m ((c.tc : Thread Cert.GroupFwd.nD Cert.GroupFwd.τ).loc Cert.GroupFwd.main_arg3)
      ∧ r.2.mem ((c.tc : Thread Cert.GroupFwd.nD Cert.GroupFwd.τ).loc Cert.GroupFwd.main_arg4) = m ((c.tc : Thread Cert.GroupFwd.nD Cert.GroupFwd.τ).loc Cert.GroupFwd.main_arg4))
      ∧ r.2.sem = fun _ => 0)

def quiescent_GroupFwdIdeal [hGroupFwdIdeal : Cert.GroupFwdIdeal.Facts] : Prop :=
  ∀ (m : (ℓ : Loc Cert.GroupFwdIdeal.nD Cert.GroupFwdIdeal.τ Cert.GroupFwdIdeal.sig) → Buf (Elt Ideal) ℓ) (g : Dev Cert.GroupFwdIdeal.nD → PrngReg), Pre_GroupFwdIdeal m →
    θ_run (Cert.GroupFwdIdeal.defs (F := Ideal)) (onTc (τ := Cert.GroupFwdIdeal.τ) (Cert.GroupFwdIdeal.main (F := Ideal))) ⟨m, fun _ => 0, g⟩ (fun r => (∀ c : Dev Cert.GroupFwdIdeal.nD,
      r.2.mem ((c.tc : Thread Cert.GroupFwdIdeal.nD Cert.GroupFwdIdeal.τ).loc Cert.GroupFwdIdeal.main_arg0) = m ((c.tc : Thread Cert.GroupFwdIdeal.nD Cert.GroupFwdIdeal.τ).loc Cert.GroupFwdIdeal.main_arg0)
      ∧ r.2.mem ((c.tc : Thread Cert.GroupFwdIdeal.nD Cert.GroupFwdIdeal.τ).loc Cert.GroupFwdIdeal.main_arg1) = m ((c.tc : Thread Cert.GroupFwdIdeal.nD Cert.GroupFwdIdeal.τ).loc Cert.GroupFwdIdeal.main_arg1)
      ∧ r.2.mem ((c.tc : Thread Cert.GroupFwdIdeal.nD Cert.GroupFwdIdeal.τ).loc Cert.GroupFwdIdeal.main_arg2) = m ((c.tc : Thread Cert.GroupFwdIdeal.nD Cert.GroupFwdIdeal.τ).loc Cert.GroupFwdIdeal.main_arg2)
      ∧ r.2.mem ((c.tc : Thread Cert.GroupFwdIdeal.nD Cert.GroupFwdIdeal.τ).loc Cert.GroupFwdIdeal.main_arg3) = m ((c.tc : Thread Cert.GroupFwdIdeal.nD Cert.GroupFwdIdeal.τ).loc Cert.GroupFwdIdeal.main_arg3)
      ∧ r.2.mem ((c.tc : Thread Cert.GroupFwdIdeal.nD Cert.GroupFwdIdeal.τ).loc Cert.GroupFwdIdeal.main_arg4) = m ((c.tc : Thread Cert.GroupFwdIdeal.nD Cert.GroupFwdIdeal.τ).loc Cert.GroupFwdIdeal.main_arg4))
      ∧ r.2.sem = fun _ => 0)

def quiescent_GroupFwdRefIdeal [hGroupFwdRefIdeal : Cert.GroupFwdRefIdeal.Facts] : Prop :=
  ∀ (m : (ℓ : Loc Cert.GroupFwdRefIdeal.nD Cert.GroupFwdRefIdeal.τ Cert.GroupFwdRefIdeal.sig) → Buf (Elt Ideal) ℓ) (g : Dev Cert.GroupFwdRefIdeal.nD → PrngReg), Pre_GroupFwdRefIdeal m →
    θ_run (Cert.GroupFwdRefIdeal.defs (F := Ideal)) (onTc (τ := Cert.GroupFwdRefIdeal.τ) (Cert.GroupFwdRefIdeal.main (F := Ideal))) ⟨m, fun _ => 0, g⟩ (fun r => (∀ c : Dev Cert.GroupFwdRefIdeal.nD,
      r.2.mem ((c.tc : Thread Cert.GroupFwdRefIdeal.nD Cert.GroupFwdRefIdeal.τ).loc Cert.GroupFwdRefIdeal.main_arg0) = m ((c.tc : Thread Cert.GroupFwdRefIdeal.nD Cert.GroupFwdRefIdeal.τ).loc Cert.GroupFwdRefIdeal.main_arg0)
      ∧ r.2.mem ((c.tc : Thread Cert.GroupFwdRefIdeal.nD Cert.GroupFwdRefIdeal.τ).loc Cert.GroupFwdRefIdeal.main_arg1) = m ((c.tc : Thread Cert.GroupFwdRefIdeal.nD Cert.GroupFwdRefIdeal.τ).loc Cert.GroupFwdRefIdeal.main_arg1)
      ∧ r.2.mem ((c.tc : Thread Cert.GroupFwdRefIdeal.nD Cert.GroupFwdRefIdeal.τ).loc Cert.GroupFwdRefIdeal.main_arg2) = m ((c.tc : Thread Cert.GroupFwdRefIdeal.nD Cert.GroupFwdRefIdeal.τ).loc Cert.GroupFwdRefIdeal.main_arg2)
      ∧ r.2.mem ((c.tc : Thread Cert.GroupFwdRefIdeal.nD Cert.GroupFwdRefIdeal.τ).loc Cert.GroupFwdRefIdeal.main_arg3) = m ((c.tc : Thread Cert.GroupFwdRefIdeal.nD Cert.GroupFwdRefIdeal.τ).loc Cert.GroupFwdRefIdeal.main_arg3)
      ∧ r.2.mem ((c.tc : Thread Cert.GroupFwdRefIdeal.nD Cert.GroupFwdRefIdeal.τ).loc Cert.GroupFwdRefIdeal.main_arg4) = m ((c.tc : Thread Cert.GroupFwdRefIdeal.nD Cert.GroupFwdRefIdeal.τ).loc Cert.GroupFwdRefIdeal.main_arg4))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_RowsFwd [hRowsFwd : Cert.RowsFwd.Facts] : Prop :=
  ∀ (m : (ℓ : Loc Cert.RowsFwd.nD Cert.RowsFwd.τ Cert.RowsFwd.sig) → Buf (Elt Bits) ℓ) (g : Dev Cert.RowsFwd.nD → PrngReg), Pre_RowsFwd m →
    θ_run (Cert.RowsFwd.defs (F := Bits)) (onTc (τ := Cert.RowsFwd.τ) (Cert.RowsFwd.main (F := Bits))) ⟨m, fun _ => 0, g⟩ (fun r => (∀ c : Dev Cert.RowsFwd.nD,
      r.2.mem ((c.tc : Thread Cert.RowsFwd.nD Cert.RowsFwd.τ).loc Cert.RowsFwd.main_arg0) = m ((c.tc : Thread Cert.RowsFwd.nD Cert.RowsFwd.τ).loc Cert.RowsFwd.main_arg0)
      ∧ r.2.mem ((c.tc : Thread Cert.RowsFwd.nD Cert.RowsFwd.τ).loc Cert.RowsFwd.main_arg1) = m ((c.tc : Thread Cert.RowsFwd.nD Cert.RowsFwd.τ).loc Cert.RowsFwd.main_arg1)
      ∧ r.2.mem ((c.tc : Thread Cert.RowsFwd.nD Cert.RowsFwd.τ).loc Cert.RowsFwd.main_arg2) = m ((c.tc : Thread Cert.RowsFwd.nD Cert.RowsFwd.τ).loc Cert.RowsFwd.main_arg2)
      ∧ r.2.mem ((c.tc : Thread Cert.RowsFwd.nD Cert.RowsFwd.τ).loc Cert.RowsFwd.main_arg3) = m ((c.tc : Thread Cert.RowsFwd.nD Cert.RowsFwd.τ).loc Cert.RowsFwd.main_arg3))
      ∧ r.2.sem = fun _ => 0)

def quiescent_RowsFwdIdeal [hRowsFwdIdeal : Cert.RowsFwdIdeal.Facts] : Prop :=
  ∀ (m : (ℓ : Loc Cert.RowsFwdIdeal.nD Cert.RowsFwdIdeal.τ Cert.RowsFwdIdeal.sig) → Buf (Elt Ideal) ℓ) (g : Dev Cert.RowsFwdIdeal.nD → PrngReg), Pre_RowsFwdIdeal m →
    θ_run (Cert.RowsFwdIdeal.defs (F := Ideal)) (onTc (τ := Cert.RowsFwdIdeal.τ) (Cert.RowsFwdIdeal.main (F := Ideal))) ⟨m, fun _ => 0, g⟩ (fun r => (∀ c : Dev Cert.RowsFwdIdeal.nD,
      r.2.mem ((c.tc : Thread Cert.RowsFwdIdeal.nD Cert.RowsFwdIdeal.τ).loc Cert.RowsFwdIdeal.main_arg0) = m ((c.tc : Thread Cert.RowsFwdIdeal.nD Cert.RowsFwdIdeal.τ).loc Cert.RowsFwdIdeal.main_arg0)
      ∧ r.2.mem ((c.tc : Thread Cert.RowsFwdIdeal.nD Cert.RowsFwdIdeal.τ).loc Cert.RowsFwdIdeal.main_arg1) = m ((c.tc : Thread Cert.RowsFwdIdeal.nD Cert.RowsFwdIdeal.τ).loc Cert.RowsFwdIdeal.main_arg1)
      ∧ r.2.mem ((c.tc : Thread Cert.RowsFwdIdeal.nD Cert.RowsFwdIdeal.τ).loc Cert.RowsFwdIdeal.main_arg2) = m ((c.tc : Thread Cert.RowsFwdIdeal.nD Cert.RowsFwdIdeal.τ).loc Cert.RowsFwdIdeal.main_arg2)
      ∧ r.2.mem ((c.tc : Thread Cert.RowsFwdIdeal.nD Cert.RowsFwdIdeal.τ).loc Cert.RowsFwdIdeal.main_arg3) = m ((c.tc : Thread Cert.RowsFwdIdeal.nD Cert.RowsFwdIdeal.τ).loc Cert.RowsFwdIdeal.main_arg3))
      ∧ r.2.sem = fun _ => 0)

def quiescent_RowsFwdRefIdeal [hRowsFwdRefIdeal : Cert.RowsFwdRefIdeal.Facts] : Prop :=
  ∀ (m : (ℓ : Loc Cert.RowsFwdRefIdeal.nD Cert.RowsFwdRefIdeal.τ Cert.RowsFwdRefIdeal.sig) → Buf (Elt Ideal) ℓ) (g : Dev Cert.RowsFwdRefIdeal.nD → PrngReg), Pre_RowsFwdRefIdeal m →
    θ_run (Cert.RowsFwdRefIdeal.defs (F := Ideal)) (onTc (τ := Cert.RowsFwdRefIdeal.τ) (Cert.RowsFwdRefIdeal.main (F := Ideal))) ⟨m, fun _ => 0, g⟩ (fun r => (∀ c : Dev Cert.RowsFwdRefIdeal.nD,
      r.2.mem ((c.tc : Thread Cert.RowsFwdRefIdeal.nD Cert.RowsFwdRefIdeal.τ).loc Cert.RowsFwdRefIdeal.main_arg0) = m ((c.tc : Thread Cert.RowsFwdRefIdeal.nD Cert.RowsFwdRefIdeal.τ).loc Cert.RowsFwdRefIdeal.main_arg0)
      ∧ r.2.mem ((c.tc : Thread Cert.RowsFwdRefIdeal.nD Cert.RowsFwdRefIdeal.τ).loc Cert.RowsFwdRefIdeal.main_arg1) = m ((c.tc : Thread Cert.RowsFwdRefIdeal.nD Cert.RowsFwdRefIdeal.τ).loc Cert.RowsFwdRefIdeal.main_arg1)
      ∧ r.2.mem ((c.tc : Thread Cert.RowsFwdRefIdeal.nD Cert.RowsFwdRefIdeal.τ).loc Cert.RowsFwdRefIdeal.main_arg2) = m ((c.tc : Thread Cert.RowsFwdRefIdeal.nD Cert.RowsFwdRefIdeal.τ).loc Cert.RowsFwdRefIdeal.main_arg2)
      ∧ r.2.mem ((c.tc : Thread Cert.RowsFwdRefIdeal.nD Cert.RowsFwdRefIdeal.τ).loc Cert.RowsFwdRefIdeal.main_arg3) = m ((c.tc : Thread Cert.RowsFwdRefIdeal.nD Cert.RowsFwdRefIdeal.τ).loc Cert.RowsFwdRefIdeal.main_arg3))
      ∧ r.2.sem = fun _ => 0)

def quiescent_RowsBwd [hRowsBwd : Cert.RowsBwd.Facts] : Prop :=
  ∀ (m : (ℓ : Loc Cert.RowsBwd.nD Cert.RowsBwd.τ Cert.RowsBwd.sig) → Buf (Elt Bits) ℓ) (g : Dev Cert.RowsBwd.nD → PrngReg), Pre_RowsBwd m →
    θ_run (Cert.RowsBwd.defs (F := Bits)) (onTc (τ := Cert.RowsBwd.τ) (Cert.RowsBwd.main (F := Bits))) ⟨m, fun _ => 0, g⟩ (fun r => (∀ c : Dev Cert.RowsBwd.nD,
      r.2.mem ((c.tc : Thread Cert.RowsBwd.nD Cert.RowsBwd.τ).loc Cert.RowsBwd.main_arg0) = m ((c.tc : Thread Cert.RowsBwd.nD Cert.RowsBwd.τ).loc Cert.RowsBwd.main_arg0)
      ∧ r.2.mem ((c.tc : Thread Cert.RowsBwd.nD Cert.RowsBwd.τ).loc Cert.RowsBwd.main_arg1) = m ((c.tc : Thread Cert.RowsBwd.nD Cert.RowsBwd.τ).loc Cert.RowsBwd.main_arg1))
      ∧ r.2.sem = fun _ => 0)

def quiescent_RowsBwdIdeal [hRowsBwdIdeal : Cert.RowsBwdIdeal.Facts] : Prop :=
  ∀ (m : (ℓ : Loc Cert.RowsBwdIdeal.nD Cert.RowsBwdIdeal.τ Cert.RowsBwdIdeal.sig) → Buf (Elt Ideal) ℓ) (g : Dev Cert.RowsBwdIdeal.nD → PrngReg), Pre_RowsBwdIdeal m →
    θ_run (Cert.RowsBwdIdeal.defs (F := Ideal)) (onTc (τ := Cert.RowsBwdIdeal.τ) (Cert.RowsBwdIdeal.main (F := Ideal))) ⟨m, fun _ => 0, g⟩ (fun r => (∀ c : Dev Cert.RowsBwdIdeal.nD,
      r.2.mem ((c.tc : Thread Cert.RowsBwdIdeal.nD Cert.RowsBwdIdeal.τ).loc Cert.RowsBwdIdeal.main_arg0) = m ((c.tc : Thread Cert.RowsBwdIdeal.nD Cert.RowsBwdIdeal.τ).loc Cert.RowsBwdIdeal.main_arg0)
      ∧ r.2.mem ((c.tc : Thread Cert.RowsBwdIdeal.nD Cert.RowsBwdIdeal.τ).loc Cert.RowsBwdIdeal.main_arg1) = m ((c.tc : Thread Cert.RowsBwdIdeal.nD Cert.RowsBwdIdeal.τ).loc Cert.RowsBwdIdeal.main_arg1))
      ∧ r.2.sem = fun _ => 0)

def quiescent_RowsBwdRefIdeal [hRowsBwdRefIdeal : Cert.RowsBwdRefIdeal.Facts] : Prop :=
  ∀ (m : (ℓ : Loc Cert.RowsBwdRefIdeal.nD Cert.RowsBwdRefIdeal.τ Cert.RowsBwdRefIdeal.sig) → Buf (Elt Ideal) ℓ) (g : Dev Cert.RowsBwdRefIdeal.nD → PrngReg), Pre_RowsBwdRefIdeal m →
    θ_run (Cert.RowsBwdRefIdeal.defs (F := Ideal)) (onTc (τ := Cert.RowsBwdRefIdeal.τ) (Cert.RowsBwdRefIdeal.main (F := Ideal))) ⟨m, fun _ => 0, g⟩ (fun r => (∀ c : Dev Cert.RowsBwdRefIdeal.nD,
      r.2.mem ((c.tc : Thread Cert.RowsBwdRefIdeal.nD Cert.RowsBwdRefIdeal.τ).loc Cert.RowsBwdRefIdeal.main_arg0) = m ((c.tc : Thread Cert.RowsBwdRefIdeal.nD Cert.RowsBwdRefIdeal.τ).loc Cert.RowsBwdRefIdeal.main_arg0)
      ∧ r.2.mem ((c.tc : Thread Cert.RowsBwdRefIdeal.nD Cert.RowsBwdRefIdeal.τ).loc Cert.RowsBwdRefIdeal.main_arg1) = m ((c.tc : Thread Cert.RowsBwdRefIdeal.nD Cert.RowsBwdRefIdeal.τ).loc Cert.RowsBwdRefIdeal.main_arg1))
      ∧ r.2.sem = fun _ => 0)

def quiescent_WeightBwd [hWeightBwd : Cert.WeightBwd.Facts] : Prop :=
  ∀ (m : (ℓ : Loc Cert.WeightBwd.nD Cert.WeightBwd.τ Cert.WeightBwd.sig) → Buf (Elt Bits) ℓ) (g : Dev Cert.WeightBwd.nD → PrngReg), Pre_WeightBwd m →
    θ_run (Cert.WeightBwd.defs (F := Bits)) (onTc (τ := Cert.WeightBwd.τ) (Cert.WeightBwd.main (F := Bits))) ⟨m, fun _ => 0, g⟩ (fun r => (∀ c : Dev Cert.WeightBwd.nD,
      r.2.mem ((c.tc : Thread Cert.WeightBwd.nD Cert.WeightBwd.τ).loc Cert.WeightBwd.main_arg0) = m ((c.tc : Thread Cert.WeightBwd.nD Cert.WeightBwd.τ).loc Cert.WeightBwd.main_arg0)
      ∧ r.2.mem ((c.tc : Thread Cert.WeightBwd.nD Cert.WeightBwd.τ).loc Cert.WeightBwd.main_arg1) = m ((c.tc : Thread Cert.WeightBwd.nD Cert.WeightBwd.τ).loc Cert.WeightBwd.main_arg1))
      ∧ r.2.sem = fun _ => 0)

def quiescent_WeightBwdIdeal [hWeightBwdIdeal : Cert.WeightBwdIdeal.Facts] : Prop :=
  ∀ (m : (ℓ : Loc Cert.WeightBwdIdeal.nD Cert.WeightBwdIdeal.τ Cert.WeightBwdIdeal.sig) → Buf (Elt Ideal) ℓ) (g : Dev Cert.WeightBwdIdeal.nD → PrngReg), Pre_WeightBwdIdeal m →
    θ_run (Cert.WeightBwdIdeal.defs (F := Ideal)) (onTc (τ := Cert.WeightBwdIdeal.τ) (Cert.WeightBwdIdeal.main (F := Ideal))) ⟨m, fun _ => 0, g⟩ (fun r => (∀ c : Dev Cert.WeightBwdIdeal.nD,
      r.2.mem ((c.tc : Thread Cert.WeightBwdIdeal.nD Cert.WeightBwdIdeal.τ).loc Cert.WeightBwdIdeal.main_arg0) = m ((c.tc : Thread Cert.WeightBwdIdeal.nD Cert.WeightBwdIdeal.τ).loc Cert.WeightBwdIdeal.main_arg0)
      ∧ r.2.mem ((c.tc : Thread Cert.WeightBwdIdeal.nD Cert.WeightBwdIdeal.τ).loc Cert.WeightBwdIdeal.main_arg1) = m ((c.tc : Thread Cert.WeightBwdIdeal.nD Cert.WeightBwdIdeal.τ).loc Cert.WeightBwdIdeal.main_arg1))
      ∧ r.2.sem = fun _ => 0)

def quiescent_WeightBwdRefIdeal [hWeightBwdRefIdeal : Cert.WeightBwdRefIdeal.Facts] : Prop :=
  ∀ (m : (ℓ : Loc Cert.WeightBwdRefIdeal.nD Cert.WeightBwdRefIdeal.τ Cert.WeightBwdRefIdeal.sig) → Buf (Elt Ideal) ℓ) (g : Dev Cert.WeightBwdRefIdeal.nD → PrngReg), Pre_WeightBwdRefIdeal m →
    θ_run (Cert.WeightBwdRefIdeal.defs (F := Ideal)) (onTc (τ := Cert.WeightBwdRefIdeal.τ) (Cert.WeightBwdRefIdeal.main (F := Ideal))) ⟨m, fun _ => 0, g⟩ (fun r => (∀ c : Dev Cert.WeightBwdRefIdeal.nD,
      r.2.mem ((c.tc : Thread Cert.WeightBwdRefIdeal.nD Cert.WeightBwdRefIdeal.τ).loc Cert.WeightBwdRefIdeal.main_arg0) = m ((c.tc : Thread Cert.WeightBwdRefIdeal.nD Cert.WeightBwdRefIdeal.τ).loc Cert.WeightBwdRefIdeal.main_arg0)
      ∧ r.2.mem ((c.tc : Thread Cert.WeightBwdRefIdeal.nD Cert.WeightBwdRefIdeal.τ).loc Cert.WeightBwdRefIdeal.main_arg1) = m ((c.tc : Thread Cert.WeightBwdRefIdeal.nD Cert.WeightBwdRefIdeal.τ).loc Cert.WeightBwdRefIdeal.main_arg1))
      ∧ r.2.sem = fun _ => 0)

def quiescent_RowsSumBwd [hRowsSumBwd : Cert.RowsSumBwd.Facts] : Prop :=
  ∀ (m : (ℓ : Loc Cert.RowsSumBwd.nD Cert.RowsSumBwd.τ Cert.RowsSumBwd.sig) → Buf (Elt Bits) ℓ) (g : Dev Cert.RowsSumBwd.nD → PrngReg), Pre_RowsSumBwd m →
    θ_run (Cert.RowsSumBwd.defs (F := Bits)) (onTc (τ := Cert.RowsSumBwd.τ) (Cert.RowsSumBwd.main (F := Bits))) ⟨m, fun _ => 0, g⟩ (fun r => (∀ c : Dev Cert.RowsSumBwd.nD,
      r.2.mem ((c.tc : Thread Cert.RowsSumBwd.nD Cert.RowsSumBwd.τ).loc Cert.RowsSumBwd.main_arg0) = m ((c.tc : Thread Cert.RowsSumBwd.nD Cert.RowsSumBwd.τ).loc Cert.RowsSumBwd.main_arg0)
      ∧ r.2.mem ((c.tc : Thread Cert.RowsSumBwd.nD Cert.RowsSumBwd.τ).loc Cert.RowsSumBwd.main_arg1) = m ((c.tc : Thread Cert.RowsSumBwd.nD Cert.RowsSumBwd.τ).loc Cert.RowsSumBwd.main_arg1)
      ∧ r.2.mem ((c.tc : Thread Cert.RowsSumBwd.nD Cert.RowsSumBwd.τ).loc Cert.RowsSumBwd.main_arg2) = m ((c.tc : Thread Cert.RowsSumBwd.nD Cert.RowsSumBwd.τ).loc Cert.RowsSumBwd.main_arg2)
      ∧ r.2.mem ((c.tc : Thread Cert.RowsSumBwd.nD Cert.RowsSumBwd.τ).loc Cert.RowsSumBwd.main_arg3) = m ((c.tc : Thread Cert.RowsSumBwd.nD Cert.RowsSumBwd.τ).loc Cert.RowsSumBwd.main_arg3))
      ∧ r.2.sem = fun _ => 0)

def quiescent_RowsSumBwdIdeal [hRowsSumBwdIdeal : Cert.RowsSumBwdIdeal.Facts] : Prop :=
  ∀ (m : (ℓ : Loc Cert.RowsSumBwdIdeal.nD Cert.RowsSumBwdIdeal.τ Cert.RowsSumBwdIdeal.sig) → Buf (Elt Ideal) ℓ) (g : Dev Cert.RowsSumBwdIdeal.nD → PrngReg), Pre_RowsSumBwdIdeal m →
    θ_run (Cert.RowsSumBwdIdeal.defs (F := Ideal)) (onTc (τ := Cert.RowsSumBwdIdeal.τ) (Cert.RowsSumBwdIdeal.main (F := Ideal))) ⟨m, fun _ => 0, g⟩ (fun r => (∀ c : Dev Cert.RowsSumBwdIdeal.nD,
      r.2.mem ((c.tc : Thread Cert.RowsSumBwdIdeal.nD Cert.RowsSumBwdIdeal.τ).loc Cert.RowsSumBwdIdeal.main_arg0) = m ((c.tc : Thread Cert.RowsSumBwdIdeal.nD Cert.RowsSumBwdIdeal.τ).loc Cert.RowsSumBwdIdeal.main_arg0)
      ∧ r.2.mem ((c.tc : Thread Cert.RowsSumBwdIdeal.nD Cert.RowsSumBwdIdeal.τ).loc Cert.RowsSumBwdIdeal.main_arg1) = m ((c.tc : Thread Cert.RowsSumBwdIdeal.nD Cert.RowsSumBwdIdeal.τ).loc Cert.RowsSumBwdIdeal.main_arg1)
      ∧ r.2.mem ((c.tc : Thread Cert.RowsSumBwdIdeal.nD Cert.RowsSumBwdIdeal.τ).loc Cert.RowsSumBwdIdeal.main_arg2) = m ((c.tc : Thread Cert.RowsSumBwdIdeal.nD Cert.RowsSumBwdIdeal.τ).loc Cert.RowsSumBwdIdeal.main_arg2)
      ∧ r.2.mem ((c.tc : Thread Cert.RowsSumBwdIdeal.nD Cert.RowsSumBwdIdeal.τ).loc Cert.RowsSumBwdIdeal.main_arg3) = m ((c.tc : Thread Cert.RowsSumBwdIdeal.nD Cert.RowsSumBwdIdeal.τ).loc Cert.RowsSumBwdIdeal.main_arg3))
      ∧ r.2.sem = fun _ => 0)

def quiescent_RowsSumBwdRefIdeal [hRowsSumBwdRefIdeal : Cert.RowsSumBwdRefIdeal.Facts] : Prop :=
  ∀ (m : (ℓ : Loc Cert.RowsSumBwdRefIdeal.nD Cert.RowsSumBwdRefIdeal.τ Cert.RowsSumBwdRefIdeal.sig) → Buf (Elt Ideal) ℓ) (g : Dev Cert.RowsSumBwdRefIdeal.nD → PrngReg), Pre_RowsSumBwdRefIdeal m →
    θ_run (Cert.RowsSumBwdRefIdeal.defs (F := Ideal)) (onTc (τ := Cert.RowsSumBwdRefIdeal.τ) (Cert.RowsSumBwdRefIdeal.main (F := Ideal))) ⟨m, fun _ => 0, g⟩ (fun r => (∀ c : Dev Cert.RowsSumBwdRefIdeal.nD,
      r.2.mem ((c.tc : Thread Cert.RowsSumBwdRefIdeal.nD Cert.RowsSumBwdRefIdeal.τ).loc Cert.RowsSumBwdRefIdeal.main_arg0) = m ((c.tc : Thread Cert.RowsSumBwdRefIdeal.nD Cert.RowsSumBwdRefIdeal.τ).loc Cert.RowsSumBwdRefIdeal.main_arg0)
      ∧ r.2.mem ((c.tc : Thread Cert.RowsSumBwdRefIdeal.nD Cert.RowsSumBwdRefIdeal.τ).loc Cert.RowsSumBwdRefIdeal.main_arg1) = m ((c.tc : Thread Cert.RowsSumBwdRefIdeal.nD Cert.RowsSumBwdRefIdeal.τ).loc Cert.RowsSumBwdRefIdeal.main_arg1)
      ∧ r.2.mem ((c.tc : Thread Cert.RowsSumBwdRefIdeal.nD Cert.RowsSumBwdRefIdeal.τ).loc Cert.RowsSumBwdRefIdeal.main_arg2) = m ((c.tc : Thread Cert.RowsSumBwdRefIdeal.nD Cert.RowsSumBwdRefIdeal.τ).loc Cert.RowsSumBwdRefIdeal.main_arg2)
      ∧ r.2.mem ((c.tc : Thread Cert.RowsSumBwdRefIdeal.nD Cert.RowsSumBwdRefIdeal.τ).loc Cert.RowsSumBwdRefIdeal.main_arg3) = m ((c.tc : Thread Cert.RowsSumBwdRefIdeal.nD Cert.RowsSumBwdRefIdeal.τ).loc Cert.RowsSumBwdRefIdeal.main_arg3))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ r.2.sem = fun _ => 0)

def quiescent_AdamStepRefIdeal [hAdamStepRefIdeal : Cert.AdamStepRefIdeal.Facts] : Prop :=
  ∀ (m : (ℓ : Loc Cert.AdamStepRefIdeal.nD Cert.AdamStepRefIdeal.τ Cert.AdamStepRefIdeal.sig) → Buf (Elt Ideal) ℓ) (g : Dev Cert.AdamStepRefIdeal.nD → PrngReg), Pre_AdamStepRefIdeal m →
    θ_run (Cert.AdamStepRefIdeal.defs (F := Ideal)) (onTc (τ := Cert.AdamStepRefIdeal.τ) (Cert.AdamStepRefIdeal.main (F := Ideal))) ⟨m, fun _ => 0, g⟩ (fun r => (∀ c : Dev Cert.AdamStepRefIdeal.nD,
      r.2.mem ((c.tc : Thread Cert.AdamStepRefIdeal.nD Cert.AdamStepRefIdeal.τ).loc Cert.AdamStepRefIdeal.main_arg0) = m ((c.tc : Thread Cert.AdamStepRefIdeal.nD Cert.AdamStepRefIdeal.τ).loc Cert.AdamStepRefIdeal.main_arg0)
      ∧ r.2.mem ((c.tc : Thread Cert.AdamStepRefIdeal.nD Cert.AdamStepRefIdeal.τ).loc Cert.AdamStepRefIdeal.main_arg1) = m ((c.tc : Thread Cert.AdamStepRefIdeal.nD Cert.AdamStepRefIdeal.τ).loc Cert.AdamStepRefIdeal.main_arg1)
      ∧ r.2.mem ((c.tc : Thread Cert.AdamStepRefIdeal.nD Cert.AdamStepRefIdeal.τ).loc Cert.AdamStepRefIdeal.main_arg2) = m ((c.tc : Thread Cert.AdamStepRefIdeal.nD Cert.AdamStepRefIdeal.τ).loc Cert.AdamStepRefIdeal.main_arg2)
      ∧ r.2.mem ((c.tc : Thread Cert.AdamStepRefIdeal.nD Cert.AdamStepRefIdeal.τ).loc Cert.AdamStepRefIdeal.main_arg3) = m ((c.tc : Thread Cert.AdamStepRefIdeal.nD Cert.AdamStepRefIdeal.τ).loc Cert.AdamStepRefIdeal.main_arg3))
      ∧ r.2.sem = fun _ => 0)

def quiescent_ColsFwd [hColsFwd : Cert.ColsFwd.Facts] : Prop :=
  ∀ (m : (ℓ : Loc Cert.ColsFwd.nD Cert.ColsFwd.τ Cert.ColsFwd.sig) → Buf (Elt Bits) ℓ) (g : Dev Cert.ColsFwd.nD → PrngReg), Pre_ColsFwd m →
    θ_run (Cert.ColsFwd.defs (F := Bits)) (onTc (τ := Cert.ColsFwd.τ) (Cert.ColsFwd.main (F := Bits))) ⟨m, fun _ => 0, g⟩ (fun r => (∀ c : Dev Cert.ColsFwd.nD,
      r.2.mem ((c.tc : Thread Cert.ColsFwd.nD Cert.ColsFwd.τ).loc Cert.ColsFwd.main_arg0) = m ((c.tc : Thread Cert.ColsFwd.nD Cert.ColsFwd.τ).loc Cert.ColsFwd.main_arg0)
      ∧ r.2.mem ((c.tc : Thread Cert.ColsFwd.nD Cert.ColsFwd.τ).loc Cert.ColsFwd.main_arg1) = m ((c.tc : Thread Cert.ColsFwd.nD Cert.ColsFwd.τ).loc Cert.ColsFwd.main_arg1))
      ∧ r.2.sem = fun _ => 0)

def quiescent_ColsFwdIdeal [hColsFwdIdeal : Cert.ColsFwdIdeal.Facts] : Prop :=
  ∀ (m : (ℓ : Loc Cert.ColsFwdIdeal.nD Cert.ColsFwdIdeal.τ Cert.ColsFwdIdeal.sig) → Buf (Elt Ideal) ℓ) (g : Dev Cert.ColsFwdIdeal.nD → PrngReg), Pre_ColsFwdIdeal m →
    θ_run (Cert.ColsFwdIdeal.defs (F := Ideal)) (onTc (τ := Cert.ColsFwdIdeal.τ) (Cert.ColsFwdIdeal.main (F := Ideal))) ⟨m, fun _ => 0, g⟩ (fun r => (∀ c : Dev Cert.ColsFwdIdeal.nD,
      r.2.mem ((c.tc : Thread Cert.ColsFwdIdeal.nD Cert.ColsFwdIdeal.τ).loc Cert.ColsFwdIdeal.main_arg0) = m ((c.tc : Thread Cert.ColsFwdIdeal.nD Cert.ColsFwdIdeal.τ).loc Cert.ColsFwdIdeal.main_arg0)
      ∧ r.2.mem ((c.tc : Thread Cert.ColsFwdIdeal.nD Cert.ColsFwdIdeal.τ).loc Cert.ColsFwdIdeal.main_arg1) = m ((c.tc : Thread Cert.ColsFwdIdeal.nD Cert.ColsFwdIdeal.τ).loc Cert.ColsFwdIdeal.main_arg1))
      ∧ r.2.sem = fun _ => 0)

def quiescent_ColsFwdRefIdeal [hColsFwdRefIdeal : Cert.ColsFwdRefIdeal.Facts] : Prop :=
  ∀ (m : (ℓ : Loc Cert.ColsFwdRefIdeal.nD Cert.ColsFwdRefIdeal.τ Cert.ColsFwdRefIdeal.sig) → Buf (Elt Ideal) ℓ) (g : Dev Cert.ColsFwdRefIdeal.nD → PrngReg), Pre_ColsFwdRefIdeal m →
    θ_run (Cert.ColsFwdRefIdeal.defs (F := Ideal)) (onTc (τ := Cert.ColsFwdRefIdeal.τ) (Cert.ColsFwdRefIdeal.main (F := Ideal))) ⟨m, fun _ => 0, g⟩ (fun r => (∀ c : Dev Cert.ColsFwdRefIdeal.nD,
      r.2.mem ((c.tc : Thread Cert.ColsFwdRefIdeal.nD Cert.ColsFwdRefIdeal.τ).loc Cert.ColsFwdRefIdeal.main_arg0) = m ((c.tc : Thread Cert.ColsFwdRefIdeal.nD Cert.ColsFwdRefIdeal.τ).loc Cert.ColsFwdRefIdeal.main_arg0)
      ∧ r.2.mem ((c.tc : Thread Cert.ColsFwdRefIdeal.nD Cert.ColsFwdRefIdeal.τ).loc Cert.ColsFwdRefIdeal.main_arg1) = m ((c.tc : Thread Cert.ColsFwdRefIdeal.nD Cert.ColsFwdRefIdeal.τ).loc Cert.ColsFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_ColsWeightBwd [hColsWeightBwd : Cert.ColsWeightBwd.Facts] : Prop :=
  ∀ (m : (ℓ : Loc Cert.ColsWeightBwd.nD Cert.ColsWeightBwd.τ Cert.ColsWeightBwd.sig) → Buf (Elt Bits) ℓ) (g : Dev Cert.ColsWeightBwd.nD → PrngReg), Pre_ColsWeightBwd m →
    θ_run (Cert.ColsWeightBwd.defs (F := Bits)) (onTc (τ := Cert.ColsWeightBwd.τ) (Cert.ColsWeightBwd.main (F := Bits))) ⟨m, fun _ => 0, g⟩ (fun r => (∀ c : Dev Cert.ColsWeightBwd.nD,
      r.2.mem ((c.tc : Thread Cert.ColsWeightBwd.nD Cert.ColsWeightBwd.τ).loc Cert.ColsWeightBwd.main_arg0) = m ((c.tc : Thread Cert.ColsWeightBwd.nD Cert.ColsWeightBwd.τ).loc Cert.ColsWeightBwd.main_arg0)
      ∧ r.2.mem ((c.tc : Thread Cert.ColsWeightBwd.nD Cert.ColsWeightBwd.τ).loc Cert.ColsWeightBwd.main_arg1) = m ((c.tc : Thread Cert.ColsWeightBwd.nD Cert.ColsWeightBwd.τ).loc Cert.ColsWeightBwd.main_arg1))
      ∧ r.2.sem = fun _ => 0)

def quiescent_ColsWeightBwdIdeal [hColsWeightBwdIdeal : Cert.ColsWeightBwdIdeal.Facts] : Prop :=
  ∀ (m : (ℓ : Loc Cert.ColsWeightBwdIdeal.nD Cert.ColsWeightBwdIdeal.τ Cert.ColsWeightBwdIdeal.sig) → Buf (Elt Ideal) ℓ) (g : Dev Cert.ColsWeightBwdIdeal.nD → PrngReg), Pre_ColsWeightBwdIdeal m →
    θ_run (Cert.ColsWeightBwdIdeal.defs (F := Ideal)) (onTc (τ := Cert.ColsWeightBwdIdeal.τ) (Cert.ColsWeightBwdIdeal.main (F := Ideal))) ⟨m, fun _ => 0, g⟩ (fun r => (∀ c : Dev Cert.ColsWeightBwdIdeal.nD,
      r.2.mem ((c.tc : Thread Cert.ColsWeightBwdIdeal.nD Cert.ColsWeightBwdIdeal.τ).loc Cert.ColsWeightBwdIdeal.main_arg0) = m ((c.tc : Thread Cert.ColsWeightBwdIdeal.nD Cert.ColsWeightBwdIdeal.τ).loc Cert.ColsWeightBwdIdeal.main_arg0)
      ∧ r.2.mem ((c.tc : Thread Cert.ColsWeightBwdIdeal.nD Cert.ColsWeightBwdIdeal.τ).loc Cert.ColsWeightBwdIdeal.main_arg1) = m ((c.tc : Thread Cert.ColsWeightBwdIdeal.nD Cert.ColsWeightBwdIdeal.τ).loc Cert.ColsWeightBwdIdeal.main_arg1))
      ∧ r.2.sem = fun _ => 0)

def quiescent_ColsWeightBwdRefIdeal [hColsWeightBwdRefIdeal : Cert.ColsWeightBwdRefIdeal.Facts] : Prop :=
  ∀ (m : (ℓ : Loc Cert.ColsWeightBwdRefIdeal.nD Cert.ColsWeightBwdRefIdeal.τ Cert.ColsWeightBwdRefIdeal.sig) → Buf (Elt Ideal) ℓ) (g : Dev Cert.ColsWeightBwdRefIdeal.nD → PrngReg), Pre_ColsWeightBwdRefIdeal m →
    θ_run (Cert.ColsWeightBwdRefIdeal.defs (F := Ideal)) (onTc (τ := Cert.ColsWeightBwdRefIdeal.τ) (Cert.ColsWeightBwdRefIdeal.main (F := Ideal))) ⟨m, fun _ => 0, g⟩ (fun r => (∀ c : Dev Cert.ColsWeightBwdRefIdeal.nD,
      r.2.mem ((c.tc : Thread Cert.ColsWeightBwdRefIdeal.nD Cert.ColsWeightBwdRefIdeal.τ).loc Cert.ColsWeightBwdRefIdeal.main_arg0) = m ((c.tc : Thread Cert.ColsWeightBwdRefIdeal.nD Cert.ColsWeightBwdRefIdeal.τ).loc Cert.ColsWeightBwdRefIdeal.main_arg0)
      ∧ r.2.mem ((c.tc : Thread Cert.ColsWeightBwdRefIdeal.nD Cert.ColsWeightBwdRefIdeal.τ).loc Cert.ColsWeightBwdRefIdeal.main_arg1) = m ((c.tc : Thread Cert.ColsWeightBwdRefIdeal.nD Cert.ColsWeightBwdRefIdeal.τ).loc Cert.ColsWeightBwdRefIdeal.main_arg1))
      ∧ r.2.sem = fun _ => 0)

def quiescent_InWeightBwd [hInWeightBwd : Cert.InWeightBwd.Facts] : Prop :=
  ∀ (m : (ℓ : Loc Cert.InWeightBwd.nD Cert.InWeightBwd.τ Cert.InWeightBwd.sig) → Buf (Elt Bits) ℓ) (g : Dev Cert.InWeightBwd.nD → PrngReg), Pre_InWeightBwd m →
    θ_run (Cert.InWeightBwd.defs (F := Bits)) (onTc (τ := Cert.InWeightBwd.τ) (Cert.InWeightBwd.main (F := Bits))) ⟨m, fun _ => 0, g⟩ (fun r => (∀ c : Dev Cert.InWeightBwd.nD,
      r.2.mem ((c.tc : Thread Cert.InWeightBwd.nD Cert.InWeightBwd.τ).loc Cert.InWeightBwd.main_arg0) = m ((c.tc : Thread Cert.InWeightBwd.nD Cert.InWeightBwd.τ).loc Cert.InWeightBwd.main_arg0)
      ∧ r.2.mem ((c.tc : Thread Cert.InWeightBwd.nD Cert.InWeightBwd.τ).loc Cert.InWeightBwd.main_arg1) = m ((c.tc : Thread Cert.InWeightBwd.nD Cert.InWeightBwd.τ).loc Cert.InWeightBwd.main_arg1))
      ∧ r.2.sem = fun _ => 0)

def quiescent_InWeightBwdIdeal [hInWeightBwdIdeal : Cert.InWeightBwdIdeal.Facts] : Prop :=
  ∀ (m : (ℓ : Loc Cert.InWeightBwdIdeal.nD Cert.InWeightBwdIdeal.τ Cert.InWeightBwdIdeal.sig) → Buf (Elt Ideal) ℓ) (g : Dev Cert.InWeightBwdIdeal.nD → PrngReg), Pre_InWeightBwdIdeal m →
    θ_run (Cert.InWeightBwdIdeal.defs (F := Ideal)) (onTc (τ := Cert.InWeightBwdIdeal.τ) (Cert.InWeightBwdIdeal.main (F := Ideal))) ⟨m, fun _ => 0, g⟩ (fun r => (∀ c : Dev Cert.InWeightBwdIdeal.nD,
      r.2.mem ((c.tc : Thread Cert.InWeightBwdIdeal.nD Cert.InWeightBwdIdeal.τ).loc Cert.InWeightBwdIdeal.main_arg0) = m ((c.tc : Thread Cert.InWeightBwdIdeal.nD Cert.InWeightBwdIdeal.τ).loc Cert.InWeightBwdIdeal.main_arg0)
      ∧ r.2.mem ((c.tc : Thread Cert.InWeightBwdIdeal.nD Cert.InWeightBwdIdeal.τ).loc Cert.InWeightBwdIdeal.main_arg1) = m ((c.tc : Thread Cert.InWeightBwdIdeal.nD Cert.InWeightBwdIdeal.τ).loc Cert.InWeightBwdIdeal.main_arg1))
      ∧ r.2.sem = fun _ => 0)

def quiescent_InWeightBwdRefIdeal [hInWeightBwdRefIdeal : Cert.InWeightBwdRefIdeal.Facts] : Prop :=
  ∀ (m : (ℓ : Loc Cert.InWeightBwdRefIdeal.nD Cert.InWeightBwdRefIdeal.τ Cert.InWeightBwdRefIdeal.sig) → Buf (Elt Ideal) ℓ) (g : Dev Cert.InWeightBwdRefIdeal.nD → PrngReg), Pre_InWeightBwdRefIdeal m →
    θ_run (Cert.InWeightBwdRefIdeal.defs (F := Ideal)) (onTc (τ := Cert.InWeightBwdRefIdeal.τ) (Cert.InWeightBwdRefIdeal.main (F := Ideal))) ⟨m, fun _ => 0, g⟩ (fun r => (∀ c : Dev Cert.InWeightBwdRefIdeal.nD,
      r.2.mem ((c.tc : Thread Cert.InWeightBwdRefIdeal.nD Cert.InWeightBwdRefIdeal.τ).loc Cert.InWeightBwdRefIdeal.main_arg0) = m ((c.tc : Thread Cert.InWeightBwdRefIdeal.nD Cert.InWeightBwdRefIdeal.τ).loc Cert.InWeightBwdRefIdeal.main_arg0)
      ∧ r.2.mem ((c.tc : Thread Cert.InWeightBwdRefIdeal.nD Cert.InWeightBwdRefIdeal.τ).loc Cert.InWeightBwdRefIdeal.main_arg1) = m ((c.tc : Thread Cert.InWeightBwdRefIdeal.nD Cert.InWeightBwdRefIdeal.τ).loc Cert.InWeightBwdRefIdeal.main_arg1))
      ∧ r.2.sem = fun _ => 0)

def quiescent_DownWeightBwd [hDownWeightBwd : Cert.DownWeightBwd.Facts] : Prop :=
  ∀ (m : (ℓ : Loc Cert.DownWeightBwd.nD Cert.DownWeightBwd.τ Cert.DownWeightBwd.sig) → Buf (Elt Bits) ℓ) (g : Dev Cert.DownWeightBwd.nD → PrngReg), Pre_DownWeightBwd m →
    θ_run (Cert.DownWeightBwd.defs (F := Bits)) (onTc (τ := Cert.DownWeightBwd.τ) (Cert.DownWeightBwd.main (F := Bits))) ⟨m, fun _ => 0, g⟩ (fun r => (∀ c : Dev Cert.DownWeightBwd.nD,
      r.2.mem ((c.tc : Thread Cert.DownWeightBwd.nD Cert.DownWeightBwd.τ).loc Cert.DownWeightBwd.main_arg0) = m ((c.tc : Thread Cert.DownWeightBwd.nD Cert.DownWeightBwd.τ).loc Cert.DownWeightBwd.main_arg0)
      ∧ r.2.mem ((c.tc : Thread Cert.DownWeightBwd.nD Cert.DownWeightBwd.τ).loc Cert.DownWeightBwd.main_arg1) = m ((c.tc : Thread Cert.DownWeightBwd.nD Cert.DownWeightBwd.τ).loc Cert.DownWeightBwd.main_arg1))
      ∧ r.2.sem = fun _ => 0)

def quiescent_DownWeightBwdIdeal [hDownWeightBwdIdeal : Cert.DownWeightBwdIdeal.Facts] : Prop :=
  ∀ (m : (ℓ : Loc Cert.DownWeightBwdIdeal.nD Cert.DownWeightBwdIdeal.τ Cert.DownWeightBwdIdeal.sig) → Buf (Elt Ideal) ℓ) (g : Dev Cert.DownWeightBwdIdeal.nD → PrngReg), Pre_DownWeightBwdIdeal m →
    θ_run (Cert.DownWeightBwdIdeal.defs (F := Ideal)) (onTc (τ := Cert.DownWeightBwdIdeal.τ) (Cert.DownWeightBwdIdeal.main (F := Ideal))) ⟨m, fun _ => 0, g⟩ (fun r => (∀ c : Dev Cert.DownWeightBwdIdeal.nD,
      r.2.mem ((c.tc : Thread Cert.DownWeightBwdIdeal.nD Cert.DownWeightBwdIdeal.τ).loc Cert.DownWeightBwdIdeal.main_arg0) = m ((c.tc : Thread Cert.DownWeightBwdIdeal.nD Cert.DownWeightBwdIdeal.τ).loc Cert.DownWeightBwdIdeal.main_arg0)
      ∧ r.2.mem ((c.tc : Thread Cert.DownWeightBwdIdeal.nD Cert.DownWeightBwdIdeal.τ).loc Cert.DownWeightBwdIdeal.main_arg1) = m ((c.tc : Thread Cert.DownWeightBwdIdeal.nD Cert.DownWeightBwdIdeal.τ).loc Cert.DownWeightBwdIdeal.main_arg1))
      ∧ r.2.sem = fun _ => 0)

def quiescent_DownWeightBwdRefIdeal [hDownWeightBwdRefIdeal : Cert.DownWeightBwdRefIdeal.Facts] : Prop :=
  ∀ (m : (ℓ : Loc Cert.DownWeightBwdRefIdeal.nD Cert.DownWeightBwdRefIdeal.τ Cert.DownWeightBwdRefIdeal.sig) → Buf (Elt Ideal) ℓ) (g : Dev Cert.DownWeightBwdRefIdeal.nD → PrngReg), Pre_DownWeightBwdRefIdeal m →
    θ_run (Cert.DownWeightBwdRefIdeal.defs (F := Ideal)) (onTc (τ := Cert.DownWeightBwdRefIdeal.τ) (Cert.DownWeightBwdRefIdeal.main (F := Ideal))) ⟨m, fun _ => 0, g⟩ (fun r => (∀ c : Dev Cert.DownWeightBwdRefIdeal.nD,
      r.2.mem ((c.tc : Thread Cert.DownWeightBwdRefIdeal.nD Cert.DownWeightBwdRefIdeal.τ).loc Cert.DownWeightBwdRefIdeal.main_arg0) = m ((c.tc : Thread Cert.DownWeightBwdRefIdeal.nD Cert.DownWeightBwdRefIdeal.τ).loc Cert.DownWeightBwdRefIdeal.main_arg0)
      ∧ r.2.mem ((c.tc : Thread Cert.DownWeightBwdRefIdeal.nD Cert.DownWeightBwdRefIdeal.τ).loc Cert.DownWeightBwdRefIdeal.main_arg1) = m ((c.tc : Thread Cert.DownWeightBwdRefIdeal.nD Cert.DownWeightBwdRefIdeal.τ).loc Cert.DownWeightBwdRefIdeal.main_arg1))
      ∧ r.2.sem = fun _ => 0)

def quiescent_InRowsBwd [hInRowsBwd : Cert.InRowsBwd.Facts] : Prop :=
  ∀ (m : (ℓ : Loc Cert.InRowsBwd.nD Cert.InRowsBwd.τ Cert.InRowsBwd.sig) → Buf (Elt Bits) ℓ) (g : Dev Cert.InRowsBwd.nD → PrngReg), Pre_InRowsBwd m →
    θ_run (Cert.InRowsBwd.defs (F := Bits)) (onTc (τ := Cert.InRowsBwd.τ) (Cert.InRowsBwd.main (F := Bits))) ⟨m, fun _ => 0, g⟩ (fun r => (∀ c : Dev Cert.InRowsBwd.nD,
      r.2.mem ((c.tc : Thread Cert.InRowsBwd.nD Cert.InRowsBwd.τ).loc Cert.InRowsBwd.main_arg0) = m ((c.tc : Thread Cert.InRowsBwd.nD Cert.InRowsBwd.τ).loc Cert.InRowsBwd.main_arg0)
      ∧ r.2.mem ((c.tc : Thread Cert.InRowsBwd.nD Cert.InRowsBwd.τ).loc Cert.InRowsBwd.main_arg1) = m ((c.tc : Thread Cert.InRowsBwd.nD Cert.InRowsBwd.τ).loc Cert.InRowsBwd.main_arg1))
      ∧ r.2.sem = fun _ => 0)

def quiescent_InRowsBwdIdeal [hInRowsBwdIdeal : Cert.InRowsBwdIdeal.Facts] : Prop :=
  ∀ (m : (ℓ : Loc Cert.InRowsBwdIdeal.nD Cert.InRowsBwdIdeal.τ Cert.InRowsBwdIdeal.sig) → Buf (Elt Ideal) ℓ) (g : Dev Cert.InRowsBwdIdeal.nD → PrngReg), Pre_InRowsBwdIdeal m →
    θ_run (Cert.InRowsBwdIdeal.defs (F := Ideal)) (onTc (τ := Cert.InRowsBwdIdeal.τ) (Cert.InRowsBwdIdeal.main (F := Ideal))) ⟨m, fun _ => 0, g⟩ (fun r => (∀ c : Dev Cert.InRowsBwdIdeal.nD,
      r.2.mem ((c.tc : Thread Cert.InRowsBwdIdeal.nD Cert.InRowsBwdIdeal.τ).loc Cert.InRowsBwdIdeal.main_arg0) = m ((c.tc : Thread Cert.InRowsBwdIdeal.nD Cert.InRowsBwdIdeal.τ).loc Cert.InRowsBwdIdeal.main_arg0)
      ∧ r.2.mem ((c.tc : Thread Cert.InRowsBwdIdeal.nD Cert.InRowsBwdIdeal.τ).loc Cert.InRowsBwdIdeal.main_arg1) = m ((c.tc : Thread Cert.InRowsBwdIdeal.nD Cert.InRowsBwdIdeal.τ).loc Cert.InRowsBwdIdeal.main_arg1))
      ∧ r.2.sem = fun _ => 0)

def quiescent_InRowsBwdRefIdeal [hInRowsBwdRefIdeal : Cert.InRowsBwdRefIdeal.Facts] : Prop :=
  ∀ (m : (ℓ : Loc Cert.InRowsBwdRefIdeal.nD Cert.InRowsBwdRefIdeal.τ Cert.InRowsBwdRefIdeal.sig) → Buf (Elt Ideal) ℓ) (g : Dev Cert.InRowsBwdRefIdeal.nD → PrngReg), Pre_InRowsBwdRefIdeal m →
    θ_run (Cert.InRowsBwdRefIdeal.defs (F := Ideal)) (onTc (τ := Cert.InRowsBwdRefIdeal.τ) (Cert.InRowsBwdRefIdeal.main (F := Ideal))) ⟨m, fun _ => 0, g⟩ (fun r => (∀ c : Dev Cert.InRowsBwdRefIdeal.nD,
      r.2.mem ((c.tc : Thread Cert.InRowsBwdRefIdeal.nD Cert.InRowsBwdRefIdeal.τ).loc Cert.InRowsBwdRefIdeal.main_arg0) = m ((c.tc : Thread Cert.InRowsBwdRefIdeal.nD Cert.InRowsBwdRefIdeal.τ).loc Cert.InRowsBwdRefIdeal.main_arg0)
      ∧ r.2.mem ((c.tc : Thread Cert.InRowsBwdRefIdeal.nD Cert.InRowsBwdRefIdeal.τ).loc Cert.InRowsBwdRefIdeal.main_arg1) = m ((c.tc : Thread Cert.InRowsBwdRefIdeal.nD Cert.InRowsBwdRefIdeal.τ).loc Cert.InRowsBwdRefIdeal.main_arg1))
      ∧ r.2.sem = fun _ => 0)

def preserves_PoolScaleBwd_PoolScaleBwdIdeal : Prop :=
  True

def algebraic_PoolScaleBwdIdeal_PoolScaleRefIdeal [hPoolScaleBwdIdeal : Cert.PoolScaleBwdIdeal.Facts] [hPoolScaleRefIdeal : Cert.PoolScaleRefIdeal.Facts] : Prop :=
  ∀ (m : (ℓ : Loc Cert.PoolScaleBwdIdeal.nD Cert.PoolScaleBwdIdeal.τ Cert.PoolScaleBwdIdeal.sig) → Buf (Elt Ideal) ℓ) (g : Dev Cert.PoolScaleBwdIdeal.nD → PrngReg)
    (m' : (ℓ : Loc Cert.PoolScaleRefIdeal.nD Cert.PoolScaleRefIdeal.τ Cert.PoolScaleRefIdeal.sig) → Buf (Elt Ideal) ℓ) (g' : Dev Cert.PoolScaleRefIdeal.nD → PrngReg), Pre_PoolScaleBwdIdeal m →
    (∀ c : Dev Cert.PoolScaleBwdIdeal.nD,
      m' ((c.tc : Thread Cert.PoolScaleRefIdeal.nD Cert.PoolScaleRefIdeal.τ).loc Cert.PoolScaleRefIdeal.main_arg0) = m ((c.tc : Thread Cert.PoolScaleBwdIdeal.nD Cert.PoolScaleBwdIdeal.τ).loc Cert.PoolScaleBwdIdeal.main_arg0)
      ∧ m' ((c.tc : Thread Cert.PoolScaleRefIdeal.nD Cert.PoolScaleRefIdeal.τ).loc Cert.PoolScaleRefIdeal.main_arg1) = m ((c.tc : Thread Cert.PoolScaleBwdIdeal.nD Cert.PoolScaleBwdIdeal.τ).loc Cert.PoolScaleBwdIdeal.main_arg1)
      ∧ m' ((c.tc : Thread Cert.PoolScaleRefIdeal.nD Cert.PoolScaleRefIdeal.τ).loc Cert.PoolScaleRefIdeal.main_arg2) = m ((c.tc : Thread Cert.PoolScaleBwdIdeal.nD Cert.PoolScaleBwdIdeal.τ).loc Cert.PoolScaleBwdIdeal.main_arg2)
      ∧ m' ((c.tc : Thread Cert.PoolScaleRefIdeal.nD Cert.PoolScaleRefIdeal.τ).loc Cert.PoolScaleRefIdeal.main_arg3) = m ((c.tc : Thread Cert.PoolScaleBwdIdeal.nD Cert.PoolScaleBwdIdeal.τ).loc Cert.PoolScaleBwdIdeal.main_arg3)) →
    ∃ (v0 : (c : Dev Cert.PoolScaleBwdIdeal.nD) → Buf (Elt Ideal) ((c.tc : Thread Cert.PoolScaleBwdIdeal.nD Cert.PoolScaleBwdIdeal.τ).loc Cert.PoolScaleBwdIdeal.main_v4_0)) (v1 : (c : Dev Cert.PoolScaleBwdIdeal.nD) → Buf (Elt Ideal) ((c.tc : Thread Cert.PoolScaleBwdIdeal.nD Cert.PoolScaleBwdIdeal.τ).loc Cert.PoolScaleBwdIdeal.main_v4_1)) (v2 : (c : Dev Cert.PoolScaleBwdIdeal.nD) → Buf (Elt Ideal) ((c.tc : Thread Cert.PoolScaleBwdIdeal.nD Cert.PoolScaleBwdIdeal.τ).loc Cert.PoolScaleBwdIdeal.main_v4_2)),
      θ_run (Cert.PoolScaleBwdIdeal.defs (F := Ideal)) (onTc (τ := Cert.PoolScaleBwdIdeal.τ) (Cert.PoolScaleBwdIdeal.main (F := Ideal))) ⟨m, fun _ => 0, g⟩ (fun r => ∀ c : Dev Cert.PoolScaleBwdIdeal.nD,
          r.2.mem ((c.tc : Thread Cert.PoolScaleBwdIdeal.nD Cert.PoolScaleBwdIdeal.τ).loc Cert.PoolScaleBwdIdeal.main_v4_0) = v0 c
          ∧ r.2.mem ((c.tc : Thread Cert.PoolScaleBwdIdeal.nD Cert.PoolScaleBwdIdeal.τ).loc Cert.PoolScaleBwdIdeal.main_v4_1) = v1 c
          ∧ r.2.mem ((c.tc : Thread Cert.PoolScaleBwdIdeal.nD Cert.PoolScaleBwdIdeal.τ).loc Cert.PoolScaleBwdIdeal.main_v4_2) = v2 c
          ∧ r.2.mem ((c.tc : Thread Cert.PoolScaleBwdIdeal.nD Cert.PoolScaleBwdIdeal.τ).loc Cert.PoolScaleBwdIdeal.main_arg0) = m ((c.tc : Thread Cert.PoolScaleBwdIdeal.nD Cert.PoolScaleBwdIdeal.τ).loc Cert.PoolScaleBwdIdeal.main_arg0)
          ∧ r.2.mem ((c.tc : Thread Cert.PoolScaleBwdIdeal.nD Cert.PoolScaleBwdIdeal.τ).loc Cert.PoolScaleBwdIdeal.main_arg1) = m ((c.tc : Thread Cert.PoolScaleBwdIdeal.nD Cert.PoolScaleBwdIdeal.τ).loc Cert.PoolScaleBwdIdeal.main_arg1)
          ∧ r.2.mem ((c.tc : Thread Cert.PoolScaleBwdIdeal.nD Cert.PoolScaleBwdIdeal.τ).loc Cert.PoolScaleBwdIdeal.main_arg2) = m ((c.tc : Thread Cert.PoolScaleBwdIdeal.nD Cert.PoolScaleBwdIdeal.τ).loc Cert.PoolScaleBwdIdeal.main_arg2)
          ∧ r.2.mem ((c.tc : Thread Cert.PoolScaleBwdIdeal.nD Cert.PoolScaleBwdIdeal.τ).loc Cert.PoolScaleBwdIdeal.main_arg3) = m ((c.tc : Thread Cert.PoolScaleBwdIdeal.nD Cert.PoolScaleBwdIdeal.τ).loc Cert.PoolScaleBwdIdeal.main_arg3))
      ∧ θ_run (Cert.PoolScaleRefIdeal.defs (F := Ideal)) (onTc (τ := Cert.PoolScaleRefIdeal.τ) (Cert.PoolScaleRefIdeal.main (F := Ideal))) ⟨m', fun _ => 0, g'⟩ (fun r => ∀ c : Dev Cert.PoolScaleRefIdeal.nD,
          r.2.mem ((c.tc : Thread Cert.PoolScaleRefIdeal.nD Cert.PoolScaleRefIdeal.τ).loc Cert.PoolScaleRefIdeal.main_v17) = v0 c
          ∧ r.2.mem ((c.tc : Thread Cert.PoolScaleRefIdeal.nD Cert.PoolScaleRefIdeal.τ).loc Cert.PoolScaleRefIdeal.main_v18) = v1 c
          ∧ r.2.mem ((c.tc : Thread Cert.PoolScaleRefIdeal.nD Cert.PoolScaleRefIdeal.τ).loc Cert.PoolScaleRefIdeal.main_v19) = v2 c
          ∧ r.2.mem ((c.tc : Thread Cert.PoolScaleRefIdeal.nD Cert.PoolScaleRefIdeal.τ).loc Cert.PoolScaleRefIdeal.main_arg0) = m' ((c.tc : Thread Cert.PoolScaleRefIdeal.nD Cert.PoolScaleRefIdeal.τ).loc Cert.PoolScaleRefIdeal.main_arg0)
          ∧ r.2.mem ((c.tc : Thread Cert.PoolScaleRefIdeal.nD Cert.PoolScaleRefIdeal.τ).loc Cert.PoolScaleRefIdeal.main_arg1) = m' ((c.tc : Thread Cert.PoolScaleRefIdeal.nD Cert.PoolScaleRefIdeal.τ).loc Cert.PoolScaleRefIdeal.main_arg1)
          ∧ r.2.mem ((c.tc : Thread Cert.PoolScaleRefIdeal.nD Cert.PoolScaleRefIdeal.τ).loc Cert.PoolScaleRefIdeal.main_arg2) = m' ((c.tc : Thread Cert.PoolScaleRefIdeal.nD Cert.PoolScaleRefIdeal.τ).loc Cert.PoolScaleRefIdeal.main_arg2)
          ∧ r.2.mem ((c.tc : Thread Cert.PoolScaleRefIdeal.nD Cert.PoolScaleRefIdeal.τ).loc Cert.PoolScaleRefIdeal.main_arg3) = m' ((c.tc : Thread Cert.PoolScaleRefIdeal.nD Cert.PoolScaleRefIdeal.τ).loc Cert.PoolScaleRefIdeal.main_arg3))

def preserves_AttnBwd_AttnBwdIdeal : Prop :=
  True

def algebraic_AttnBwdIdeal_AttnRefIdeal_pre_finite_q_k [hAttnBwdIdeal : Cert.AttnBwdIdeal.Facts] [hAttnRefIdeal : Cert.AttnRefIdeal.Facts] [hPre_finite_q_k : Cert.Pre_finite_q_k.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_q_k m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_GateBwd_GateBwdIdeal : Prop :=
  True

def algebraic_GateBwdIdeal_GateRefIdeal_pre_finite_dx_wd_b [hGateBwdIdeal : Cert.GateBwdIdeal.Facts] [hGateRefIdeal : Cert.GateRefIdeal.Facts] [hPre_finite_dx_wd_b : Cert.Pre_finite_dx_wd_b.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal_finite_dx_wd_b m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)
      ∧ m' ((c.tc : Thread Cert.GateRefIdeal.nD Cert.GateRefIdeal.τ).loc Cert.GateRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v2_0)) (v1 : (c : Dev Cert.GateBwdIdeal.nD) → Buf (Elt Ideal) ((c.tc : Thread Cert.GateBwdIdeal.nD Cert.GateBwdIdeal.τ).loc Cert.GateBwdIdeal.main_v2_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v2_0) = v0 c
          ∧ r.2.mem ((c.tc : Thread Cert.GateBwdIdeal.nD Cert.GateBwdIdeal.τ).loc Cert.GateBwdIdeal.main_v2_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v15) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v3_0)) (v1 : (c : Dev Cert.GateFwdIdeal.nD) → Buf (Elt Ideal) ((c.tc : Thread Cert.GateFwdIdeal.nD Cert.GateFwdIdeal.τ).loc Cert.GateFwdIdeal.main_v3_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3_0) = v0 c
          ∧ r.2.mem ((c.tc : Thread Cert.GateFwdIdeal.nD Cert.GateFwdIdeal.τ).loc Cert.GateFwdIdeal.main_v3_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v2) = v0 c
          ∧ r.2.mem ((c.tc : Thread Cert.GateFwdRefIdeal.nD Cert.GateFwdRefIdeal.τ).loc Cert.GateFwdRefIdeal.main_v6) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v5_0)) (v1 : (c : Dev Cert.ConvBwdIdeal.nD) → Buf (Elt Ideal) ((c.tc : Thread Cert.ConvBwdIdeal.nD Cert.ConvBwdIdeal.τ).loc Cert.ConvBwdIdeal.main_v5_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v5_0) = v0 c
          ∧ r.2.mem ((c.tc : Thread Cert.ConvBwdIdeal.nD Cert.ConvBwdIdeal.τ).loc Cert.ConvBwdIdeal.main_v5_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v344) = v0 c
          ∧ r.2.mem ((c.tc : Thread Cert.ConvRefIdeal.nD Cert.ConvRefIdeal.τ).loc Cert.ConvRefIdeal.main_v345) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_MixBwd_MixBwdIdeal : Prop :=
  True

def algebraic_MixBwdIdeal_MixRefIdeal_pre_finite_gate [hMixBwdIdeal : Cert.MixBwdIdeal.Facts] [hMixRefIdeal : Cert.MixRefIdeal.Facts] [hPre_finite_gate : Cert.Pre_finite_gate.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_finite_gate m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)
      ∧ m' ((c.tc : Thread Cert.MixRefIdeal.nD Cert.MixRefIdeal.τ).loc Cert.MixRefIdeal.main_arg9) = m ((c.tc : Thread Cert.MixBwdIdeal.nD Cert.MixBwdIdeal.τ).loc Cert.MixBwdIdeal.main_arg9)
      ∧ m' ((c.tc : Thread Cert.MixRefIdeal.nD Cert.MixRefIdeal.τ).loc Cert.MixRefIdeal.main_arg10) = m ((c.tc : Thread Cert.MixBwdIdeal.nD Cert.MixBwdIdeal.τ).loc Cert.MixBwdIdeal.main_arg10)
      ∧ m' ((c.tc : Thread Cert.MixRefIdeal.nD Cert.MixRefIdeal.τ).loc Cert.MixRefIdeal.main_arg11) = m ((c.tc : Thread Cert.MixBwdIdeal.nD Cert.MixBwdIdeal.τ).loc Cert.MixBwdIdeal.main_arg11)) →
    ∃ (v0 : (c : Dev Cert.MixBwdIdeal.nD) → Buf (Elt Ideal) ((c.tc : Thread Cert.MixBwdIdeal.nD Cert.MixBwdIdeal.τ).loc Cert.MixBwdIdeal.main_v13_0)) (v1 : (c : Dev Cert.MixBwdIdeal.nD) → Buf (Elt Ideal) ((c.tc : Thread Cert.MixBwdIdeal.nD Cert.MixBwdIdeal.τ).loc Cert.MixBwdIdeal.main_v13_1)) (v2 : (c : Dev Cert.MixBwdIdeal.nD) → Buf (Elt Ideal) ((c.tc : Thread Cert.MixBwdIdeal.nD Cert.MixBwdIdeal.τ).loc Cert.MixBwdIdeal.main_v13_2)) (v3 : (c : Dev Cert.MixBwdIdeal.nD) → Buf (Elt Ideal) ((c.tc : Thread Cert.MixBwdIdeal.nD Cert.MixBwdIdeal.τ).loc Cert.MixBwdIdeal.main_v13_3)) (v4 : (c : Dev Cert.MixBwdIdeal.nD) → Buf (Elt Ideal) ((c.tc : Thread Cert.MixBwdIdeal.nD Cert.MixBwdIdeal.τ).loc Cert.MixBwdIdeal.main_v13_4)) (v5 : (c : Dev Cert.MixBwdIdeal.nD) → Buf (Elt Ideal) ((c.tc : Thread Cert.MixBwdIdeal.nD Cert.MixBwdIdeal.τ).loc Cert.MixBwdIdeal.main_v13_5)) (v6 : (c : Dev Cert.MixBwdIdeal.nD) → Buf (Elt Ideal) ((c.tc : Thread Cert.MixBwdIdeal.nD Cert.MixBwdIdeal.τ).loc Cert.MixBwdIdeal.main_v13_6)) (v7 : (c : Dev Cert.MixBwdIdeal.nD) → Buf (Elt Ideal) ((c.tc : Thread Cert.MixBwdIdeal.nD Cert.MixBwdIdeal.τ).loc Cert.MixBwdIdeal.main_v13_7)) (v8 : (c : Dev Cert.MixBwdIdeal.nD) → Buf (Elt Ideal) ((c.tc : Thread Cert.MixBwdIdeal.nD Cert.MixBwdIdeal.τ).loc Cert.MixBwdIdeal.main_v13_8)) (v9 : (c : Dev Cert.MixBwdIdeal.nD) → Buf (Elt Ideal) ((c.tc : Thread Cert.MixBwdIdeal.nD Cert.MixBwdIdeal.τ).loc Cert.MixBwdIdeal.main_v13_9)) (v10 : (c : Dev Cert.MixBwdIdeal.nD) → Buf (Elt Ideal) ((c.tc : Thread Cert.MixBwdIdeal.nD Cert.MixBwdIdeal.τ).loc Cert.MixBwdIdeal.main_v13_10)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v13_0) = v0 c
          ∧ r.2.mem ((c.tc : Thread Cert.MixBwdIdeal.nD Cert.MixBwdIdeal.τ).loc Cert.MixBwdIdeal.main_v13_1) = v1 c
          ∧ r.2.mem ((c.tc : Thread Cert.MixBwdIdeal.nD Cert.MixBwdIdeal.τ).loc Cert.MixBwdIdeal.main_v13_2) = v2 c
          ∧ r.2.mem ((c.tc : Thread Cert.MixBwdIdeal.nD Cert.MixBwdIdeal.τ).loc Cert.MixBwdIdeal.main_v13_3) = v3 c
          ∧ r.2.mem ((c.tc : Thread Cert.MixBwdIdeal.nD Cert.MixBwdIdeal.τ).loc Cert.MixBwdIdeal.main_v13_4) = v4 c
          ∧ r.2.mem ((c.tc : Thread Cert.MixBwdIdeal.nD Cert.MixBwdIdeal.τ).loc Cert.MixBwdIdeal.main_v13_5) = v5 c
          ∧ r.2.mem ((c.tc : Thread Cert.MixBwdIdeal.nD Cert.MixBwdIdeal.τ).loc Cert.MixBwdIdeal.main_v13_6) = v6 c
          ∧ r.2.mem ((c.tc : Thread Cert.MixBwdIdeal.nD Cert.MixBwdIdeal.τ).loc Cert.MixBwdIdeal.main_v13_7) = v7 c
          ∧ r.2.mem ((c.tc : Thread Cert.MixBwdIdeal.nD Cert.MixBwdIdeal.τ).loc Cert.MixBwdIdeal.main_v13_8) = v8 c
          ∧ r.2.mem ((c.tc : Thread Cert.MixBwdIdeal.nD Cert.MixBwdIdeal.τ).loc Cert.MixBwdIdeal.main_v13_9) = v9 c
          ∧ r.2.mem ((c.tc : Thread Cert.MixBwdIdeal.nD Cert.MixBwdIdeal.τ).loc Cert.MixBwdIdeal.main_v13_10) = v10 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v622) = v0 c
          ∧ r.2.mem ((c.tc : Thread Cert.MixRefIdeal.nD Cert.MixRefIdeal.τ).loc Cert.MixRefIdeal.main_v422) = v1 c
          ∧ r.2.mem ((c.tc : Thread Cert.MixRefIdeal.nD Cert.MixRefIdeal.τ).loc Cert.MixRefIdeal.main_v109) = v2 c
          ∧ r.2.mem ((c.tc : Thread Cert.MixRefIdeal.nD Cert.MixRefIdeal.τ).loc Cert.MixRefIdeal.main_v103) = v3 c
          ∧ r.2.mem ((c.tc : Thread Cert.MixRefIdeal.nD Cert.MixRefIdeal.τ).loc Cert.MixRefIdeal.main_v623) = v4 c
          ∧ r.2.mem ((c.tc : Thread Cert.MixRefIdeal.nD Cert.MixRefIdeal.τ).loc Cert.MixRefIdeal.main_v624) = v5 c
          ∧ r.2.mem ((c.tc : Thread Cert.MixRefIdeal.nD Cert.MixRefIdeal.τ).loc Cert.MixRefIdeal.main_v621) = v6 c
          ∧ r.2.mem ((c.tc : Thread Cert.MixRefIdeal.nD Cert.MixRefIdeal.τ).loc Cert.MixRefIdeal.main_v625) = v7 c
          ∧ r.2.mem ((c.tc : Thread Cert.MixRefIdeal.nD Cert.MixRefIdeal.τ).loc Cert.MixRefIdeal.main_v626) = v8 c
          ∧ r.2.mem ((c.tc : Thread Cert.MixRefIdeal.nD Cert.MixRefIdeal.τ).loc Cert.MixRefIdeal.main_v627) = v9 c
          ∧ r.2.mem ((c.tc : Thread Cert.MixRefIdeal.nD Cert.MixRefIdeal.τ).loc Cert.MixRefIdeal.main_v628) = v10 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_PoolBwd_PoolBwdIdeal : Prop :=
  True

def algebraic_PoolBwdIdeal_PoolRefIdeal_pre_finite_dd [hPoolBwdIdeal : Cert.PoolBwdIdeal.Facts] [hPoolRefIdeal : Cert.PoolRefIdeal.Facts] [hPre_finite_dd : Cert.Pre_finite_dd.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_finite_dd m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v1_0)) (v1 : (c : Dev Cert.PoolBwdIdeal.nD) → Buf (Elt Ideal) ((c.tc : Thread Cert.PoolBwdIdeal.nD Cert.PoolBwdIdeal.τ).loc Cert.PoolBwdIdeal.main_v1_1)) (v2 : (c : Dev Cert.PoolBwdIdeal.nD) → Buf (Elt Ideal) ((c.tc : Thread Cert.PoolBwdIdeal.nD Cert.PoolBwdIdeal.τ).loc Cert.PoolBwdIdeal.main_v1_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v1_0) = v0 c
          ∧ r.2.mem ((c.tc : Thread Cert.PoolBwdIdeal.nD Cert.PoolBwdIdeal.τ).loc Cert.PoolBwdIdeal.main_v1_1) = v1 c
          ∧ r.2.mem ((c.tc : Thread Cert.PoolBwdIdeal.nD Cert.PoolBwdIdeal.τ).loc Cert.PoolBwdIdeal.main_v1_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v142) = v0 c
          ∧ r.2.mem ((c.tc : Thread Cert.PoolRefIdeal.nD Cert.PoolRefIdeal.τ).loc Cert.PoolRefIdeal.main_v143) = v1 c
          ∧ r.2.mem ((c.tc : Thread Cert.PoolRefIdeal.nD Cert.PoolRefIdeal.τ).loc Cert.PoolRefIdeal.main_v144) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_NormBwd_NormBwdIdeal : Prop :=
  True

def algebraic_NormBwdIdeal_NormRefIdeal [hNormBwdIdeal : Cert.NormBwdIdeal.Facts] [hNormRefIdeal : Cert.NormRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormKvBwd_NormKvBwdIdeal : Prop :=
  True

def algebraic_NormKvBwdIdeal_NormKvRefIdeal [hNormKvBwdIdeal : Cert.NormKvBwdIdeal.Facts] [hNormKvRefIdeal : Cert.NormKvRefIdeal.Facts] : Prop :=
  ∀ (m : (ℓ : Loc Cert.NormKvBwdIdeal.nD Cert.NormKvBwdIdeal.τ Cert.NormKvBwdIdeal.sig) → Buf (Elt Ideal) ℓ) (g : Dev Cert.NormKvBwdIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvBwdIdeal m →
    (∀ c : Dev Cert.NormKvBwdIdeal.nD,
      m' ((c.tc : Thread Cert.NormKvRefIdeal.nD Cert.NormKvRefIdeal.τ).loc Cert.NormKvRefIdeal.main_arg0) = m ((c.tc : Thread Cert.NormKvBwdIdeal.nD Cert.NormKvBwdIdeal.τ).loc Cert.NormKvBwdIdeal.main_arg0)
      ∧ m' ((c.tc : Thread Cert.NormKvRefIdeal.nD Cert.NormKvRefIdeal.τ).loc Cert.NormKvRefIdeal.main_arg1) = m ((c.tc : Thread Cert.NormKvBwdIdeal.nD Cert.NormKvBwdIdeal.τ).loc Cert.NormKvBwdIdeal.main_arg1)
      ∧ m' ((c.tc : Thread Cert.NormKvRefIdeal.nD Cert.NormKvRefIdeal.τ).loc Cert.NormKvRefIdeal.main_arg2) = m ((c.tc : Thread Cert.NormKvBwdIdeal.nD Cert.NormKvBwdIdeal.τ).loc Cert.NormKvBwdIdeal.main_arg2)) →
    ∃ (v0 : (c : Dev Cert.NormKvBwdIdeal.nD) → Buf (Elt Ideal) ((c.tc : Thread Cert.NormKvBwdIdeal.nD Cert.NormKvBwdIdeal.τ).loc Cert.NormKvBwdIdeal.main_v1)),
      θ_run (Cert.NormKvBwdIdeal.defs (F := Ideal)) (onTc (τ := Cert.NormKvBwdIdeal.τ) (Cert.NormKvBwdIdeal.main (F := Ideal))) ⟨m, fun _ => 0, g⟩ (fun r => ∀ c : Dev Cert.NormKvBwdIdeal.nD,
          r.2.mem ((c.tc : Thread Cert.NormKvBwdIdeal.nD Cert.NormKvBwdIdeal.τ).loc Cert.NormKvBwdIdeal.main_v1) = v0 c
          ∧ r.2.mem ((c.tc : Thread Cert.NormKvBwdIdeal.nD Cert.NormKvBwdIdeal.τ).loc Cert.NormKvBwdIdeal.main_arg0) = m ((c.tc : Thread Cert.NormKvBwdIdeal.nD Cert.NormKvBwdIdeal.τ).loc Cert.NormKvBwdIdeal.main_arg0)
          ∧ r.2.mem ((c.tc : Thread Cert.NormKvBwdIdeal.nD Cert.NormKvBwdIdeal.τ).loc Cert.NormKvBwdIdeal.main_arg1) = m ((c.tc : Thread Cert.NormKvBwdIdeal.nD Cert.NormKvBwdIdeal.τ).loc Cert.NormKvBwdIdeal.main_arg1)
          ∧ r.2.mem ((c.tc : Thread Cert.NormKvBwdIdeal.nD Cert.NormKvBwdIdeal.τ).loc Cert.NormKvBwdIdeal.main_arg2) = m ((c.tc : Thread Cert.NormKvBwdIdeal.nD Cert.NormKvBwdIdeal.τ).loc Cert.NormKvBwdIdeal.main_arg2))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v17) = v0 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v1_0)) (v1 : (c : Dev Cert.LossBwdIdeal.nD) → Buf (Elt Ideal) ((c.tc : Thread Cert.LossBwdIdeal.nD Cert.LossBwdIdeal.τ).loc Cert.LossBwdIdeal.main_v1_1)) (v2 : (c : Dev Cert.LossBwdIdeal.nD) → Buf (Elt Ideal) ((c.tc : Thread Cert.LossBwdIdeal.nD Cert.LossBwdIdeal.τ).loc Cert.LossBwdIdeal.main_v1_2)) (v3 : (c : Dev Cert.LossBwdIdeal.nD) → Buf (Elt Ideal) ((c.tc : Thread Cert.LossBwdIdeal.nD Cert.LossBwdIdeal.τ).loc Cert.LossBwdIdeal.main_v1_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v1_0) = v0 c
          ∧ r.2.mem ((c.tc : Thread Cert.LossBwdIdeal.nD Cert.LossBwdIdeal.τ).loc Cert.LossBwdIdeal.main_v1_1) = v1 c
          ∧ r.2.mem ((c.tc : Thread Cert.LossBwdIdeal.nD Cert.LossBwdIdeal.τ).loc Cert.LossBwdIdeal.main_v1_2) = v2 c
          ∧ r.2.mem ((c.tc : Thread Cert.LossBwdIdeal.nD Cert.LossBwdIdeal.τ).loc Cert.LossBwdIdeal.main_v1_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_PoolFwd_PoolFwdIdeal : Prop :=
  True

def algebraic_PoolFwdIdeal_PoolFwdRefIdeal_pre_finite_g [hPoolFwdIdeal : Cert.PoolFwdIdeal.Facts] [hPoolFwdRefIdeal : Cert.PoolFwdRefIdeal.Facts] [hPre_finite_g : Cert.Pre_finite_g.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_g m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)) →
    ∃ (v0 : (c : Dev Cert.PoolFwdIdeal.nD) → Buf (Elt Ideal) ((c.tc : Thread Cert.PoolFwdIdeal.nD Cert.PoolFwdIdeal.τ).loc Cert.PoolFwdIdeal.main_v1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v63) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v13)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v13) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v301) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9))

def preserves_GroupFwd_GroupFwdIdeal : Prop :=
  True

def algebraic_GroupFwdIdeal_GroupFwdRefIdeal [hGroupFwdIdeal : Cert.GroupFwdIdeal.Facts] [hGroupFwdRefIdeal : Cert.GroupFwdRefIdeal.Facts] : Prop :=
  ∀ (m : (ℓ : Loc Cert.GroupFwdIdeal.nD Cert.GroupFwdIdeal.τ Cert.GroupFwdIdeal.sig) → Buf (Elt Ideal) ℓ) (g : Dev Cert.GroupFwdIdeal.nD → PrngReg)
    (m' : (ℓ : Loc Cert.GroupFwdRefIdeal.nD Cert.GroupFwdRefIdeal.τ Cert.GroupFwdRefIdeal.sig) → Buf (Elt Ideal) ℓ) (g' : Dev Cert.GroupFwdRefIdeal.nD → PrngReg), Pre_GroupFwdIdeal m →
    (∀ c : Dev Cert.GroupFwdIdeal.nD,
      m' ((c.tc : Thread Cert.GroupFwdRefIdeal.nD Cert.GroupFwdRefIdeal.τ).loc Cert.GroupFwdRefIdeal.main_arg0) = m ((c.tc : Thread Cert.GroupFwdIdeal.nD Cert.GroupFwdIdeal.τ).loc Cert.GroupFwdIdeal.main_arg0)
      ∧ m' ((c.tc : Thread Cert.GroupFwdRefIdeal.nD Cert.GroupFwdRefIdeal.τ).loc Cert.GroupFwdRefIdeal.main_arg1) = m ((c.tc : Thread Cert.GroupFwdIdeal.nD Cert.GroupFwdIdeal.τ).loc Cert.GroupFwdIdeal.main_arg1)
      ∧ m' ((c.tc : Thread Cert.GroupFwdRefIdeal.nD Cert.GroupFwdRefIdeal.τ).loc Cert.GroupFwdRefIdeal.main_arg2) = m ((c.tc : Thread Cert.GroupFwdIdeal.nD Cert.GroupFwdIdeal.τ).loc Cert.GroupFwdIdeal.main_arg2)
      ∧ m' ((c.tc : Thread Cert.GroupFwdRefIdeal.nD Cert.GroupFwdRefIdeal.τ).loc Cert.GroupFwdRefIdeal.main_arg3) = m ((c.tc : Thread Cert.GroupFwdIdeal.nD Cert.GroupFwdIdeal.τ).loc Cert.GroupFwdIdeal.main_arg3)
      ∧ m' ((c.tc : Thread Cert.GroupFwdRefIdeal.nD Cert.GroupFwdRefIdeal.τ).loc Cert.GroupFwdRefIdeal.main_arg4) = m ((c.tc : Thread Cert.GroupFwdIdeal.nD Cert.GroupFwdIdeal.τ).loc Cert.GroupFwdIdeal.main_arg4)) →
    ∃ (v0 : (c : Dev Cert.GroupFwdIdeal.nD) → Buf (Elt Ideal) ((c.tc : Thread Cert.GroupFwdIdeal.nD Cert.GroupFwdIdeal.τ).loc Cert.GroupFwdIdeal.main_v6_0)) (v1 : (c : Dev Cert.GroupFwdIdeal.nD) → Buf (Elt Ideal) ((c.tc : Thread Cert.GroupFwdIdeal.nD Cert.GroupFwdIdeal.τ).loc Cert.GroupFwdIdeal.main_v6_1)),
      θ_run (Cert.GroupFwdIdeal.defs (F := Ideal)) (onTc (τ := Cert.GroupFwdIdeal.τ) (Cert.GroupFwdIdeal.main (F := Ideal))) ⟨m, fun _ => 0, g⟩ (fun r => ∀ c : Dev Cert.GroupFwdIdeal.nD,
          r.2.mem ((c.tc : Thread Cert.GroupFwdIdeal.nD Cert.GroupFwdIdeal.τ).loc Cert.GroupFwdIdeal.main_v6_0) = v0 c
          ∧ r.2.mem ((c.tc : Thread Cert.GroupFwdIdeal.nD Cert.GroupFwdIdeal.τ).loc Cert.GroupFwdIdeal.main_v6_1) = v1 c
          ∧ r.2.mem ((c.tc : Thread Cert.GroupFwdIdeal.nD Cert.GroupFwdIdeal.τ).loc Cert.GroupFwdIdeal.main_arg0) = m ((c.tc : Thread Cert.GroupFwdIdeal.nD Cert.GroupFwdIdeal.τ).loc Cert.GroupFwdIdeal.main_arg0)
          ∧ r.2.mem ((c.tc : Thread Cert.GroupFwdIdeal.nD Cert.GroupFwdIdeal.τ).loc Cert.GroupFwdIdeal.main_arg1) = m ((c.tc : Thread Cert.GroupFwdIdeal.nD Cert.GroupFwdIdeal.τ).loc Cert.GroupFwdIdeal.main_arg1)
          ∧ r.2.mem ((c.tc : Thread Cert.GroupFwdIdeal.nD Cert.GroupFwdIdeal.τ).loc Cert.GroupFwdIdeal.main_arg2) = m ((c.tc : Thread Cert.GroupFwdIdeal.nD Cert.GroupFwdIdeal.τ).loc Cert.GroupFwdIdeal.main_arg2)
          ∧ r.2.mem ((c.tc : Thread Cert.GroupFwdIdeal.nD Cert.GroupFwdIdeal.τ).loc Cert.GroupFwdIdeal.main_arg3) = m ((c.tc : Thread Cert.GroupFwdIdeal.nD Cert.GroupFwdIdeal.τ).loc Cert.GroupFwdIdeal.main_arg3)
          ∧ r.2.mem ((c.tc : Thread Cert.GroupFwdIdeal.nD Cert.GroupFwdIdeal.τ).loc Cert.GroupFwdIdeal.main_arg4) = m ((c.tc : Thread Cert.GroupFwdIdeal.nD Cert.GroupFwdIdeal.τ).loc Cert.GroupFwdIdeal.main_arg4))
      ∧ θ_run (Cert.GroupFwdRefIdeal.defs (F := Ideal)) (onTc (τ := Cert.GroupFwdRefIdeal.τ) (Cert.GroupFwdRefIdeal.main (F := Ideal))) ⟨m', fun _ => 0, g'⟩ (fun r => ∀ c : Dev Cert.GroupFwdRefIdeal.nD,
          r.2.mem ((c.tc : Thread Cert.GroupFwdRefIdeal.nD Cert.GroupFwdRefIdeal.τ).loc Cert.GroupFwdRefIdeal.main_v41) = v0 c
          ∧ r.2.mem ((c.tc : Thread Cert.GroupFwdRefIdeal.nD Cert.GroupFwdRefIdeal.τ).loc Cert.GroupFwdRefIdeal.main_v37) = v1 c
          ∧ r.2.mem ((c.tc : Thread Cert.GroupFwdRefIdeal.nD Cert.GroupFwdRefIdeal.τ).loc Cert.GroupFwdRefIdeal.main_arg0) = m' ((c.tc : Thread Cert.GroupFwdRefIdeal.nD Cert.GroupFwdRefIdeal.τ).loc Cert.GroupFwdRefIdeal.main_arg0)
          ∧ r.2.mem ((c.tc : Thread Cert.GroupFwdRefIdeal.nD Cert.GroupFwdRefIdeal.τ).loc Cert.GroupFwdRefIdeal.main_arg1) = m' ((c.tc : Thread Cert.GroupFwdRefIdeal.nD Cert.GroupFwdRefIdeal.τ).loc Cert.GroupFwdRefIdeal.main_arg1)
          ∧ r.2.mem ((c.tc : Thread Cert.GroupFwdRefIdeal.nD Cert.GroupFwdRefIdeal.τ).loc Cert.GroupFwdRefIdeal.main_arg2) = m' ((c.tc : Thread Cert.GroupFwdRefIdeal.nD Cert.GroupFwdRefIdeal.τ).loc Cert.GroupFwdRefIdeal.main_arg2)
          ∧ r.2.mem ((c.tc : Thread Cert.GroupFwdRefIdeal.nD Cert.GroupFwdRefIdeal.τ).loc Cert.GroupFwdRefIdeal.main_arg3) = m' ((c.tc : Thread Cert.GroupFwdRefIdeal.nD Cert.GroupFwdRefIdeal.τ).loc Cert.GroupFwdRefIdeal.main_arg3)
          ∧ r.2.mem ((c.tc : Thread Cert.GroupFwdRefIdeal.nD Cert.GroupFwdRefIdeal.τ).loc Cert.GroupFwdRefIdeal.main_arg4) = m' ((c.tc : Thread Cert.GroupFwdRefIdeal.nD Cert.GroupFwdRefIdeal.τ).loc Cert.GroupFwdRefIdeal.main_arg4))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v4) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_RowsFwd_RowsFwdIdeal : Prop :=
  True

def algebraic_RowsFwdIdeal_RowsFwdRefIdeal [hRowsFwdIdeal : Cert.RowsFwdIdeal.Facts] [hRowsFwdRefIdeal : Cert.RowsFwdRefIdeal.Facts] : Prop :=
  ∀ (m : (ℓ : Loc Cert.RowsFwdIdeal.nD Cert.RowsFwdIdeal.τ Cert.RowsFwdIdeal.sig) → Buf (Elt Ideal) ℓ) (g : Dev Cert.RowsFwdIdeal.nD → PrngReg)
    (m' : (ℓ : Loc Cert.RowsFwdRefIdeal.nD Cert.RowsFwdRefIdeal.τ Cert.RowsFwdRefIdeal.sig) → Buf (Elt Ideal) ℓ) (g' : Dev Cert.RowsFwdRefIdeal.nD → PrngReg), Pre_RowsFwdIdeal m →
    (∀ c : Dev Cert.RowsFwdIdeal.nD,
      m' ((c.tc : Thread Cert.RowsFwdRefIdeal.nD Cert.RowsFwdRefIdeal.τ).loc Cert.RowsFwdRefIdeal.main_arg0) = m ((c.tc : Thread Cert.RowsFwdIdeal.nD Cert.RowsFwdIdeal.τ).loc Cert.RowsFwdIdeal.main_arg0)
      ∧ m' ((c.tc : Thread Cert.RowsFwdRefIdeal.nD Cert.RowsFwdRefIdeal.τ).loc Cert.RowsFwdRefIdeal.main_arg1) = m ((c.tc : Thread Cert.RowsFwdIdeal.nD Cert.RowsFwdIdeal.τ).loc Cert.RowsFwdIdeal.main_arg1)
      ∧ m' ((c.tc : Thread Cert.RowsFwdRefIdeal.nD Cert.RowsFwdRefIdeal.τ).loc Cert.RowsFwdRefIdeal.main_arg2) = m ((c.tc : Thread Cert.RowsFwdIdeal.nD Cert.RowsFwdIdeal.τ).loc Cert.RowsFwdIdeal.main_arg2)
      ∧ m' ((c.tc : Thread Cert.RowsFwdRefIdeal.nD Cert.RowsFwdRefIdeal.τ).loc Cert.RowsFwdRefIdeal.main_arg3) = m ((c.tc : Thread Cert.RowsFwdIdeal.nD Cert.RowsFwdIdeal.τ).loc Cert.RowsFwdIdeal.main_arg3)) →
    ∃ (v0 : (c : Dev Cert.RowsFwdIdeal.nD) → Buf (Elt Ideal) ((c.tc : Thread Cert.RowsFwdIdeal.nD Cert.RowsFwdIdeal.τ).loc Cert.RowsFwdIdeal.main_v3)),
      θ_run (Cert.RowsFwdIdeal.defs (F := Ideal)) (onTc (τ := Cert.RowsFwdIdeal.τ) (Cert.RowsFwdIdeal.main (F := Ideal))) ⟨m, fun _ => 0, g⟩ (fun r => ∀ c : Dev Cert.RowsFwdIdeal.nD,
          r.2.mem ((c.tc : Thread Cert.RowsFwdIdeal.nD Cert.RowsFwdIdeal.τ).loc Cert.RowsFwdIdeal.main_v3) = v0 c
          ∧ r.2.mem ((c.tc : Thread Cert.RowsFwdIdeal.nD Cert.RowsFwdIdeal.τ).loc Cert.RowsFwdIdeal.main_arg0) = m ((c.tc : Thread Cert.RowsFwdIdeal.nD Cert.RowsFwdIdeal.τ).loc Cert.RowsFwdIdeal.main_arg0)
          ∧ r.2.mem ((c.tc : Thread Cert.RowsFwdIdeal.nD Cert.RowsFwdIdeal.τ).loc Cert.RowsFwdIdeal.main_arg1) = m ((c.tc : Thread Cert.RowsFwdIdeal.nD Cert.RowsFwdIdeal.τ).loc Cert.RowsFwdIdeal.main_arg1)
          ∧ r.2.mem ((c.tc : Thread Cert.RowsFwdIdeal.nD Cert.RowsFwdIdeal.τ).loc Cert.RowsFwdIdeal.main_arg2) = m ((c.tc : Thread Cert.RowsFwdIdeal.nD Cert.RowsFwdIdeal.τ).loc Cert.RowsFwdIdeal.main_arg2)
          ∧ r.2.mem ((c.tc : Thread Cert.RowsFwdIdeal.nD Cert.RowsFwdIdeal.τ).loc Cert.RowsFwdIdeal.main_arg3) = m ((c.tc : Thread Cert.RowsFwdIdeal.nD Cert.RowsFwdIdeal.τ).loc Cert.RowsFwdIdeal.main_arg3))
      ∧ θ_run (Cert.RowsFwdRefIdeal.defs (F := Ideal)) (onTc (τ := Cert.RowsFwdRefIdeal.τ) (Cert.RowsFwdRefIdeal.main (F := Ideal))) ⟨m', fun _ => 0, g'⟩ (fun r => ∀ c : Dev Cert.RowsFwdRefIdeal.nD,
          r.2.mem ((c.tc : Thread Cert.RowsFwdRefIdeal.nD Cert.RowsFwdRefIdeal.τ).loc Cert.RowsFwdRefIdeal.main_v5) = v0 c
          ∧ r.2.mem ((c.tc : Thread Cert.RowsFwdRefIdeal.nD Cert.RowsFwdRefIdeal.τ).loc Cert.RowsFwdRefIdeal.main_arg0) = m' ((c.tc : Thread Cert.RowsFwdRefIdeal.nD Cert.RowsFwdRefIdeal.τ).loc Cert.RowsFwdRefIdeal.main_arg0)
          ∧ r.2.mem ((c.tc : Thread Cert.RowsFwdRefIdeal.nD Cert.RowsFwdRefIdeal.τ).loc Cert.RowsFwdRefIdeal.main_arg1) = m' ((c.tc : Thread Cert.RowsFwdRefIdeal.nD Cert.RowsFwdRefIdeal.τ).loc Cert.RowsFwdRefIdeal.main_arg1)
          ∧ r.2.mem ((c.tc : Thread Cert.RowsFwdRefIdeal.nD Cert.RowsFwdRefIdeal.τ).loc Cert.RowsFwdRefIdeal.main_arg2) = m' ((c.tc : Thread Cert.RowsFwdRefIdeal.nD Cert.RowsFwdRefIdeal.τ).loc Cert.RowsFwdRefIdeal.main_arg2)
          ∧ r.2.mem ((c.tc : Thread Cert.RowsFwdRefIdeal.nD Cert.RowsFwdRefIdeal.τ).loc Cert.RowsFwdRefIdeal.main_arg3) = m' ((c.tc : Thread Cert.RowsFwdRefIdeal.nD Cert.RowsFwdRefIdeal.τ).loc Cert.RowsFwdRefIdeal.main_arg3))

def preserves_RowsBwd_RowsBwdIdeal : Prop :=
  True

def algebraic_RowsBwdIdeal_RowsBwdRefIdeal [hRowsBwdIdeal : Cert.RowsBwdIdeal.Facts] [hRowsBwdRefIdeal : Cert.RowsBwdRefIdeal.Facts] : Prop :=
  ∀ (m : (ℓ : Loc Cert.RowsBwdIdeal.nD Cert.RowsBwdIdeal.τ Cert.RowsBwdIdeal.sig) → Buf (Elt Ideal) ℓ) (g : Dev Cert.RowsBwdIdeal.nD → PrngReg)
    (m' : (ℓ : Loc Cert.RowsBwdRefIdeal.nD Cert.RowsBwdRefIdeal.τ Cert.RowsBwdRefIdeal.sig) → Buf (Elt Ideal) ℓ) (g' : Dev Cert.RowsBwdRefIdeal.nD → PrngReg), Pre_RowsBwdIdeal m →
    (∀ c : Dev Cert.RowsBwdIdeal.nD,
      m' ((c.tc : Thread Cert.RowsBwdRefIdeal.nD Cert.RowsBwdRefIdeal.τ).loc Cert.RowsBwdRefIdeal.main_arg0) = m ((c.tc : Thread Cert.RowsBwdIdeal.nD Cert.RowsBwdIdeal.τ).loc Cert.RowsBwdIdeal.main_arg0)
      ∧ m' ((c.tc : Thread Cert.RowsBwdRefIdeal.nD Cert.RowsBwdRefIdeal.τ).loc Cert.RowsBwdRefIdeal.main_arg1) = m ((c.tc : Thread Cert.RowsBwdIdeal.nD Cert.RowsBwdIdeal.τ).loc Cert.RowsBwdIdeal.main_arg1)) →
    ∃ (v0 : (c : Dev Cert.RowsBwdIdeal.nD) → Buf (Elt Ideal) ((c.tc : Thread Cert.RowsBwdIdeal.nD Cert.RowsBwdIdeal.τ).loc Cert.RowsBwdIdeal.main_v2)),
      θ_run (Cert.RowsBwdIdeal.defs (F := Ideal)) (onTc (τ := Cert.RowsBwdIdeal.τ) (Cert.RowsBwdIdeal.main (F := Ideal))) ⟨m, fun _ => 0, g⟩ (fun r => ∀ c : Dev Cert.RowsBwdIdeal.nD,
          r.2.mem ((c.tc : Thread Cert.RowsBwdIdeal.nD Cert.RowsBwdIdeal.τ).loc Cert.RowsBwdIdeal.main_v2) = v0 c
          ∧ r.2.mem ((c.tc : Thread Cert.RowsBwdIdeal.nD Cert.RowsBwdIdeal.τ).loc Cert.RowsBwdIdeal.main_arg0) = m ((c.tc : Thread Cert.RowsBwdIdeal.nD Cert.RowsBwdIdeal.τ).loc Cert.RowsBwdIdeal.main_arg0)
          ∧ r.2.mem ((c.tc : Thread Cert.RowsBwdIdeal.nD Cert.RowsBwdIdeal.τ).loc Cert.RowsBwdIdeal.main_arg1) = m ((c.tc : Thread Cert.RowsBwdIdeal.nD Cert.RowsBwdIdeal.τ).loc Cert.RowsBwdIdeal.main_arg1))
      ∧ θ_run (Cert.RowsBwdRefIdeal.defs (F := Ideal)) (onTc (τ := Cert.RowsBwdRefIdeal.τ) (Cert.RowsBwdRefIdeal.main (F := Ideal))) ⟨m', fun _ => 0, g'⟩ (fun r => ∀ c : Dev Cert.RowsBwdRefIdeal.nD,
          r.2.mem ((c.tc : Thread Cert.RowsBwdRefIdeal.nD Cert.RowsBwdRefIdeal.τ).loc Cert.RowsBwdRefIdeal.main_v3) = v0 c
          ∧ r.2.mem ((c.tc : Thread Cert.RowsBwdRefIdeal.nD Cert.RowsBwdRefIdeal.τ).loc Cert.RowsBwdRefIdeal.main_arg0) = m' ((c.tc : Thread Cert.RowsBwdRefIdeal.nD Cert.RowsBwdRefIdeal.τ).loc Cert.RowsBwdRefIdeal.main_arg0)
          ∧ r.2.mem ((c.tc : Thread Cert.RowsBwdRefIdeal.nD Cert.RowsBwdRefIdeal.τ).loc Cert.RowsBwdRefIdeal.main_arg1) = m' ((c.tc : Thread Cert.RowsBwdRefIdeal.nD Cert.RowsBwdRefIdeal.τ).loc Cert.RowsBwdRefIdeal.main_arg1))

def preserves_WeightBwd_WeightBwdIdeal : Prop :=
  True

def algebraic_WeightBwdIdeal_WeightBwdRefIdeal [hWeightBwdIdeal : Cert.WeightBwdIdeal.Facts] [hWeightBwdRefIdeal : Cert.WeightBwdRefIdeal.Facts] : Prop :=
  ∀ (m : (ℓ : Loc Cert.WeightBwdIdeal.nD Cert.WeightBwdIdeal.τ Cert.WeightBwdIdeal.sig) → Buf (Elt Ideal) ℓ) (g : Dev Cert.WeightBwdIdeal.nD → PrngReg)
    (m' : (ℓ : Loc Cert.WeightBwdRefIdeal.nD Cert.WeightBwdRefIdeal.τ Cert.WeightBwdRefIdeal.sig) → Buf (Elt Ideal) ℓ) (g' : Dev Cert.WeightBwdRefIdeal.nD → PrngReg), Pre_WeightBwdIdeal m →
    (∀ c : Dev Cert.WeightBwdIdeal.nD,
      m' ((c.tc : Thread Cert.WeightBwdRefIdeal.nD Cert.WeightBwdRefIdeal.τ).loc Cert.WeightBwdRefIdeal.main_arg0) = m ((c.tc : Thread Cert.WeightBwdIdeal.nD Cert.WeightBwdIdeal.τ).loc Cert.WeightBwdIdeal.main_arg0)
      ∧ m' ((c.tc : Thread Cert.WeightBwdRefIdeal.nD Cert.WeightBwdRefIdeal.τ).loc Cert.WeightBwdRefIdeal.main_arg1) = m ((c.tc : Thread Cert.WeightBwdIdeal.nD Cert.WeightBwdIdeal.τ).loc Cert.WeightBwdIdeal.main_arg1)) →
    ∃ (v0 : (c : Dev Cert.WeightBwdIdeal.nD) → Buf (Elt Ideal) ((c.tc : Thread Cert.WeightBwdIdeal.nD Cert.WeightBwdIdeal.τ).loc Cert.WeightBwdIdeal.main_v0)),
      θ_run (Cert.WeightBwdIdeal.defs (F := Ideal)) (onTc (τ := Cert.WeightBwdIdeal.τ) (Cert.WeightBwdIdeal.main (F := Ideal))) ⟨m, fun _ => 0, g⟩ (fun r => ∀ c : Dev Cert.WeightBwdIdeal.nD,
          r.2.mem ((c.tc : Thread Cert.WeightBwdIdeal.nD Cert.WeightBwdIdeal.τ).loc Cert.WeightBwdIdeal.main_v0) = v0 c
          ∧ r.2.mem ((c.tc : Thread Cert.WeightBwdIdeal.nD Cert.WeightBwdIdeal.τ).loc Cert.WeightBwdIdeal.main_arg0) = m ((c.tc : Thread Cert.WeightBwdIdeal.nD Cert.WeightBwdIdeal.τ).loc Cert.WeightBwdIdeal.main_arg0)
          ∧ r.2.mem ((c.tc : Thread Cert.WeightBwdIdeal.nD Cert.WeightBwdIdeal.τ).loc Cert.WeightBwdIdeal.main_arg1) = m ((c.tc : Thread Cert.WeightBwdIdeal.nD Cert.WeightBwdIdeal.τ).loc Cert.WeightBwdIdeal.main_arg1))
      ∧ θ_run (Cert.WeightBwdRefIdeal.defs (F := Ideal)) (onTc (τ := Cert.WeightBwdRefIdeal.τ) (Cert.WeightBwdRefIdeal.main (F := Ideal))) ⟨m', fun _ => 0, g'⟩ (fun r => ∀ c : Dev Cert.WeightBwdRefIdeal.nD,
          r.2.mem ((c.tc : Thread Cert.WeightBwdRefIdeal.nD Cert.WeightBwdRefIdeal.τ).loc Cert.WeightBwdRefIdeal.main_v7) = v0 c
          ∧ r.2.mem ((c.tc : Thread Cert.WeightBwdRefIdeal.nD Cert.WeightBwdRefIdeal.τ).loc Cert.WeightBwdRefIdeal.main_arg0) = m' ((c.tc : Thread Cert.WeightBwdRefIdeal.nD Cert.WeightBwdRefIdeal.τ).loc Cert.WeightBwdRefIdeal.main_arg0)
          ∧ r.2.mem ((c.tc : Thread Cert.WeightBwdRefIdeal.nD Cert.WeightBwdRefIdeal.τ).loc Cert.WeightBwdRefIdeal.main_arg1) = m' ((c.tc : Thread Cert.WeightBwdRefIdeal.nD Cert.WeightBwdRefIdeal.τ).loc Cert.WeightBwdRefIdeal.main_arg1))

def preserves_RowsSumBwd_RowsSumBwdIdeal : Prop :=
  True

def algebraic_RowsSumBwdIdeal_RowsSumBwdRefIdeal [hRowsSumBwdIdeal : Cert.RowsSumBwdIdeal.Facts] [hRowsSumBwdRefIdeal : Cert.RowsSumBwdRefIdeal.Facts] : Prop :=
  ∀ (m : (ℓ : Loc Cert.RowsSumBwdIdeal.nD Cert.RowsSumBwdIdeal.τ Cert.RowsSumBwdIdeal.sig) → Buf (Elt Ideal) ℓ) (g : Dev Cert.RowsSumBwdIdeal.nD → PrngReg)
    (m' : (ℓ : Loc Cert.RowsSumBwdRefIdeal.nD Cert.RowsSumBwdRefIdeal.τ Cert.RowsSumBwdRefIdeal.sig) → Buf (Elt Ideal) ℓ) (g' : Dev Cert.RowsSumBwdRefIdeal.nD → PrngReg), Pre_RowsSumBwdIdeal m →
    (∀ c : Dev Cert.RowsSumBwdIdeal.nD,
      m' ((c.tc : Thread Cert.RowsSumBwdRefIdeal.nD Cert.RowsSumBwdRefIdeal.τ).loc Cert.RowsSumBwdRefIdeal.main_arg0) = m ((c.tc : Thread Cert.RowsSumBwdIdeal.nD Cert.RowsSumBwdIdeal.τ).loc Cert.RowsSumBwdIdeal.main_arg0)
      ∧ m' ((c.tc : Thread Cert.RowsSumBwdRefIdeal.nD Cert.RowsSumBwdRefIdeal.τ).loc Cert.RowsSumBwdRefIdeal.main_arg1) = m ((c.tc : Thread Cert.RowsSumBwdIdeal.nD Cert.RowsSumBwdIdeal.τ).loc Cert.RowsSumBwdIdeal.main_arg1)
      ∧ m' ((c.tc : Thread Cert.RowsSumBwdRefIdeal.nD Cert.RowsSumBwdRefIdeal.τ).loc Cert.RowsSumBwdRefIdeal.main_arg2) = m ((c.tc : Thread Cert.RowsSumBwdIdeal.nD Cert.RowsSumBwdIdeal.τ).loc Cert.RowsSumBwdIdeal.main_arg2)
      ∧ m' ((c.tc : Thread Cert.RowsSumBwdRefIdeal.nD Cert.RowsSumBwdRefIdeal.τ).loc Cert.RowsSumBwdRefIdeal.main_arg3) = m ((c.tc : Thread Cert.RowsSumBwdIdeal.nD Cert.RowsSumBwdIdeal.τ).loc Cert.RowsSumBwdIdeal.main_arg3)) →
    ∃ (v0 : (c : Dev Cert.RowsSumBwdIdeal.nD) → Buf (Elt Ideal) ((c.tc : Thread Cert.RowsSumBwdIdeal.nD Cert.RowsSumBwdIdeal.τ).loc Cert.RowsSumBwdIdeal.main_v6)),
      θ_run (Cert.RowsSumBwdIdeal.defs (F := Ideal)) (onTc (τ := Cert.RowsSumBwdIdeal.τ) (Cert.RowsSumBwdIdeal.main (F := Ideal))) ⟨m, fun _ => 0, g⟩ (fun r => ∀ c : Dev Cert.RowsSumBwdIdeal.nD,
          r.2.mem ((c.tc : Thread Cert.RowsSumBwdIdeal.nD Cert.RowsSumBwdIdeal.τ).loc Cert.RowsSumBwdIdeal.main_v6) = v0 c
          ∧ r.2.mem ((c.tc : Thread Cert.RowsSumBwdIdeal.nD Cert.RowsSumBwdIdeal.τ).loc Cert.RowsSumBwdIdeal.main_arg0) = m ((c.tc : Thread Cert.RowsSumBwdIdeal.nD Cert.RowsSumBwdIdeal.τ).loc Cert.RowsSumBwdIdeal.main_arg0)
          ∧ r.2.mem ((c.tc : Thread Cert.RowsSumBwdIdeal.nD Cert.RowsSumBwdIdeal.τ).loc Cert.RowsSumBwdIdeal.main_arg1) = m ((c.tc : Thread Cert.RowsSumBwdIdeal.nD Cert.RowsSumBwdIdeal.τ).loc Cert.RowsSumBwdIdeal.main_arg1)
          ∧ r.2.mem ((c.tc : Thread Cert.RowsSumBwdIdeal.nD Cert.RowsSumBwdIdeal.τ).loc Cert.RowsSumBwdIdeal.main_arg2) = m ((c.tc : Thread Cert.RowsSumBwdIdeal.nD Cert.RowsSumBwdIdeal.τ).loc Cert.RowsSumBwdIdeal.main_arg2)
          ∧ r.2.mem ((c.tc : Thread Cert.RowsSumBwdIdeal.nD Cert.RowsSumBwdIdeal.τ).loc Cert.RowsSumBwdIdeal.main_arg3) = m ((c.tc : Thread Cert.RowsSumBwdIdeal.nD Cert.RowsSumBwdIdeal.τ).loc Cert.RowsSumBwdIdeal.main_arg3))
      ∧ θ_run (Cert.RowsSumBwdRefIdeal.defs (F := Ideal)) (onTc (τ := Cert.RowsSumBwdRefIdeal.τ) (Cert.RowsSumBwdRefIdeal.main (F := Ideal))) ⟨m', fun _ => 0, g'⟩ (fun r => ∀ c : Dev Cert.RowsSumBwdRefIdeal.nD,
          r.2.mem ((c.tc : Thread Cert.RowsSumBwdRefIdeal.nD Cert.RowsSumBwdRefIdeal.τ).loc Cert.RowsSumBwdRefIdeal.main_v7) = v0 c
          ∧ r.2.mem ((c.tc : Thread Cert.RowsSumBwdRefIdeal.nD Cert.RowsSumBwdRefIdeal.τ).loc Cert.RowsSumBwdRefIdeal.main_arg0) = m' ((c.tc : Thread Cert.RowsSumBwdRefIdeal.nD Cert.RowsSumBwdRefIdeal.τ).loc Cert.RowsSumBwdRefIdeal.main_arg0)
          ∧ r.2.mem ((c.tc : Thread Cert.RowsSumBwdRefIdeal.nD Cert.RowsSumBwdRefIdeal.τ).loc Cert.RowsSumBwdRefIdeal.main_arg1) = m' ((c.tc : Thread Cert.RowsSumBwdRefIdeal.nD Cert.RowsSumBwdRefIdeal.τ).loc Cert.RowsSumBwdRefIdeal.main_arg1)
          ∧ r.2.mem ((c.tc : Thread Cert.RowsSumBwdRefIdeal.nD Cert.RowsSumBwdRefIdeal.τ).loc Cert.RowsSumBwdRefIdeal.main_arg2) = m' ((c.tc : Thread Cert.RowsSumBwdRefIdeal.nD Cert.RowsSumBwdRefIdeal.τ).loc Cert.RowsSumBwdRefIdeal.main_arg2)
          ∧ r.2.mem ((c.tc : Thread Cert.RowsSumBwdRefIdeal.nD Cert.RowsSumBwdRefIdeal.τ).loc Cert.RowsSumBwdRefIdeal.main_arg3) = m' ((c.tc : Thread Cert.RowsSumBwdRefIdeal.nD Cert.RowsSumBwdRefIdeal.τ).loc Cert.RowsSumBwdRefIdeal.main_arg3))

def preserves_AdamStep_AdamStepIdeal : Prop :=
  True

def algebraic_AdamStepIdeal_AdamStepRefIdeal [hAdamStepIdeal : Cert.AdamStepIdeal.Facts] [hAdamStepRefIdeal : Cert.AdamStepRefIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamStepRefIdeal.nD Cert.AdamStepRefIdeal.τ Cert.AdamStepRefIdeal.sig) → Buf (Elt Ideal) ℓ) (g' : Dev Cert.AdamStepRefIdeal.nD → PrngReg), Pre_AdamStepIdeal m →
    (∀ c : Dev Cert.AdamStepIdeal.nD,
      m' ((c.tc : Thread Cert.AdamStepRefIdeal.nD Cert.AdamStepRefIdeal.τ).loc Cert.AdamStepRefIdeal.main_arg0) = m ((c.tc : Thread Cert.AdamStepIdeal.nD Cert.AdamStepIdeal.τ).loc Cert.AdamStepIdeal.main_arg0)
      ∧ m' ((c.tc : Thread Cert.AdamStepRefIdeal.nD Cert.AdamStepRefIdeal.τ).loc Cert.AdamStepRefIdeal.main_arg1) = m ((c.tc : Thread Cert.AdamStepIdeal.nD Cert.AdamStepIdeal.τ).loc Cert.AdamStepIdeal.main_arg1)
      ∧ m' ((c.tc : Thread Cert.AdamStepRefIdeal.nD Cert.AdamStepRefIdeal.τ).loc Cert.AdamStepRefIdeal.main_arg2) = m ((c.tc : Thread Cert.AdamStepIdeal.nD Cert.AdamStepIdeal.τ).loc Cert.AdamStepIdeal.main_arg2)
      ∧ m' ((c.tc : Thread Cert.AdamStepRefIdeal.nD Cert.AdamStepRefIdeal.τ).loc Cert.AdamStepRefIdeal.main_arg3) = m ((c.tc : Thread Cert.AdamStepIdeal.nD Cert.AdamStepIdeal.τ).loc Cert.AdamStepIdeal.main_arg3)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)) (v3 : (c : Dev Cert.AdamStepIdeal.nD) → Buf (Elt Ideal) ((c.tc : Thread Cert.AdamStepIdeal.nD Cert.AdamStepIdeal.τ).loc Cert.AdamStepIdeal.main_v0_3)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_v0_3) = v3 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ θ_run (Cert.AdamStepRefIdeal.defs (F := Ideal)) (onTc (τ := Cert.AdamStepRefIdeal.τ) (Cert.AdamStepRefIdeal.main (F := Ideal))) ⟨m', fun _ => 0, g'⟩ (fun r => ∀ c : Dev Cert.AdamStepRefIdeal.nD,
          r.2.mem ((c.tc : Thread Cert.AdamStepRefIdeal.nD Cert.AdamStepRefIdeal.τ).loc Cert.AdamStepRefIdeal.main_arg1) = v0 c
          ∧ r.2.mem ((c.tc : Thread Cert.AdamStepRefIdeal.nD Cert.AdamStepRefIdeal.τ).loc Cert.AdamStepRefIdeal.main_v23) = v1 c
          ∧ r.2.mem ((c.tc : Thread Cert.AdamStepRefIdeal.nD Cert.AdamStepRefIdeal.τ).loc Cert.AdamStepRefIdeal.main_v4) = v2 c
          ∧ r.2.mem ((c.tc : Thread Cert.AdamStepRefIdeal.nD Cert.AdamStepRefIdeal.τ).loc Cert.AdamStepRefIdeal.main_v10) = v3 c
          ∧ r.2.mem ((c.tc : Thread Cert.AdamStepRefIdeal.nD Cert.AdamStepRefIdeal.τ).loc Cert.AdamStepRefIdeal.main_arg0) = m' ((c.tc : Thread Cert.AdamStepRefIdeal.nD Cert.AdamStepRefIdeal.τ).loc Cert.AdamStepRefIdeal.main_arg0)
          ∧ r.2.mem ((c.tc : Thread Cert.AdamStepRefIdeal.nD Cert.AdamStepRefIdeal.τ).loc Cert.AdamStepRefIdeal.main_arg1) = m' ((c.tc : Thread Cert.AdamStepRefIdeal.nD Cert.AdamStepRefIdeal.τ).loc Cert.AdamStepRefIdeal.main_arg1)
          ∧ r.2.mem ((c.tc : Thread Cert.AdamStepRefIdeal.nD Cert.AdamStepRefIdeal.τ).loc Cert.AdamStepRefIdeal.main_arg2) = m' ((c.tc : Thread Cert.AdamStepRefIdeal.nD Cert.AdamStepRefIdeal.τ).loc Cert.AdamStepRefIdeal.main_arg2)
          ∧ r.2.mem ((c.tc : Thread Cert.AdamStepRefIdeal.nD Cert.AdamStepRefIdeal.τ).loc Cert.AdamStepRefIdeal.main_arg3) = m' ((c.tc : Thread Cert.AdamStepRefIdeal.nD Cert.AdamStepRefIdeal.τ).loc Cert.AdamStepRefIdeal.main_arg3))

def preserves_ColsFwd_ColsFwdIdeal : Prop :=
  True

def algebraic_ColsFwdIdeal_ColsFwdRefIdeal [hColsFwdIdeal : Cert.ColsFwdIdeal.Facts] [hColsFwdRefIdeal : Cert.ColsFwdRefIdeal.Facts] : Prop :=
  ∀ (m : (ℓ : Loc Cert.ColsFwdIdeal.nD Cert.ColsFwdIdeal.τ Cert.ColsFwdIdeal.sig) → Buf (Elt Ideal) ℓ) (g : Dev Cert.ColsFwdIdeal.nD → PrngReg)
    (m' : (ℓ : Loc Cert.ColsFwdRefIdeal.nD Cert.ColsFwdRefIdeal.τ Cert.ColsFwdRefIdeal.sig) → Buf (Elt Ideal) ℓ) (g' : Dev Cert.ColsFwdRefIdeal.nD → PrngReg), Pre_ColsFwdIdeal m →
    (∀ c : Dev Cert.ColsFwdIdeal.nD,
      m' ((c.tc : Thread Cert.ColsFwdRefIdeal.nD Cert.ColsFwdRefIdeal.τ).loc Cert.ColsFwdRefIdeal.main_arg0) = m ((c.tc : Thread Cert.ColsFwdIdeal.nD Cert.ColsFwdIdeal.τ).loc Cert.ColsFwdIdeal.main_arg0)
      ∧ m' ((c.tc : Thread Cert.ColsFwdRefIdeal.nD Cert.ColsFwdRefIdeal.τ).loc Cert.ColsFwdRefIdeal.main_arg1) = m ((c.tc : Thread Cert.ColsFwdIdeal.nD Cert.ColsFwdIdeal.τ).loc Cert.ColsFwdIdeal.main_arg1)) →
    ∃ (v0 : (c : Dev Cert.ColsFwdIdeal.nD) → Buf (Elt Ideal) ((c.tc : Thread Cert.ColsFwdIdeal.nD Cert.ColsFwdIdeal.τ).loc Cert.ColsFwdIdeal.main_v3)),
      θ_run (Cert.ColsFwdIdeal.defs (F := Ideal)) (onTc (τ := Cert.ColsFwdIdeal.τ) (Cert.ColsFwdIdeal.main (F := Ideal))) ⟨m, fun _ => 0, g⟩ (fun r => ∀ c : Dev Cert.ColsFwdIdeal.nD,
          r.2.mem ((c.tc : Thread Cert.ColsFwdIdeal.nD Cert.ColsFwdIdeal.τ).loc Cert.ColsFwdIdeal.main_v3) = v0 c
          ∧ r.2.mem ((c.tc : Thread Cert.ColsFwdIdeal.nD Cert.ColsFwdIdeal.τ).loc Cert.ColsFwdIdeal.main_arg0) = m ((c.tc : Thread Cert.ColsFwdIdeal.nD Cert.ColsFwdIdeal.τ).loc Cert.ColsFwdIdeal.main_arg0)
          ∧ r.2.mem ((c.tc : Thread Cert.ColsFwdIdeal.nD Cert.ColsFwdIdeal.τ).loc Cert.ColsFwdIdeal.main_arg1) = m ((c.tc : Thread Cert.ColsFwdIdeal.nD Cert.ColsFwdIdeal.τ).loc Cert.ColsFwdIdeal.main_arg1))
      ∧ θ_run (Cert.ColsFwdRefIdeal.defs (F := Ideal)) (onTc (τ := Cert.ColsFwdRefIdeal.τ) (Cert.ColsFwdRefIdeal.main (F := Ideal))) ⟨m', fun _ => 0, g'⟩ (fun r => ∀ c : Dev Cert.ColsFwdRefIdeal.nD,
          r.2.mem ((c.tc : Thread Cert.ColsFwdRefIdeal.nD Cert.ColsFwdRefIdeal.τ).loc Cert.ColsFwdRefIdeal.main_v2) = v0 c
          ∧ r.2.mem ((c.tc : Thread Cert.ColsFwdRefIdeal.nD Cert.ColsFwdRefIdeal.τ).loc Cert.ColsFwdRefIdeal.main_arg0) = m' ((c.tc : Thread Cert.ColsFwdRefIdeal.nD Cert.ColsFwdRefIdeal.τ).loc Cert.ColsFwdRefIdeal.main_arg0)
          ∧ r.2.mem ((c.tc : Thread Cert.ColsFwdRefIdeal.nD Cert.ColsFwdRefIdeal.τ).loc Cert.ColsFwdRefIdeal.main_arg1) = m' ((c.tc : Thread Cert.ColsFwdRefIdeal.nD Cert.ColsFwdRefIdeal.τ).loc Cert.ColsFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_ColsWeightBwd_ColsWeightBwdIdeal : Prop :=
  True

def algebraic_ColsWeightBwdIdeal_ColsWeightBwdRefIdeal [hColsWeightBwdIdeal : Cert.ColsWeightBwdIdeal.Facts] [hColsWeightBwdRefIdeal : Cert.ColsWeightBwdRefIdeal.Facts] : Prop :=
  ∀ (m : (ℓ : Loc Cert.ColsWeightBwdIdeal.nD Cert.ColsWeightBwdIdeal.τ Cert.ColsWeightBwdIdeal.sig) → Buf (Elt Ideal) ℓ) (g : Dev Cert.ColsWeightBwdIdeal.nD → PrngReg)
    (m' : (ℓ : Loc Cert.ColsWeightBwdRefIdeal.nD Cert.ColsWeightBwdRefIdeal.τ Cert.ColsWeightBwdRefIdeal.sig) → Buf (Elt Ideal) ℓ) (g' : Dev Cert.ColsWeightBwdRefIdeal.nD → PrngReg), Pre_ColsWeightBwdIdeal m →
    (∀ c : Dev Cert.ColsWeightBwdIdeal.nD,
      m' ((c.tc : Thread Cert.ColsWeightBwdRefIdeal.nD Cert.ColsWeightBwdRefIdeal.τ).loc Cert.ColsWeightBwdRefIdeal.main_arg0) = m ((c.tc : Thread Cert.ColsWeightBwdIdeal.nD Cert.ColsWeightBwdIdeal.τ).loc Cert.ColsWeightBwdIdeal.main_arg0)
      ∧ m' ((c.tc : Thread Cert.ColsWeightBwdRefIdeal.nD Cert.ColsWeightBwdRefIdeal.τ).loc Cert.ColsWeightBwdRefIdeal.main_arg1) = m ((c.tc : Thread Cert.ColsWeightBwdIdeal.nD Cert.ColsWeightBwdIdeal.τ).loc Cert.ColsWeightBwdIdeal.main_arg1)) →
    ∃ (v0 : (c : Dev Cert.ColsWeightBwdIdeal.nD) → Buf (Elt Ideal) ((c.tc : Thread Cert.ColsWeightBwdIdeal.nD Cert.ColsWeightBwdIdeal.τ).loc Cert.ColsWeightBwdIdeal.main_v0)),
      θ_run (Cert.ColsWeightBwdIdeal.defs (F := Ideal)) (onTc (τ := Cert.ColsWeightBwdIdeal.τ) (Cert.ColsWeightBwdIdeal.main (F := Ideal))) ⟨m, fun _ => 0, g⟩ (fun r => ∀ c : Dev Cert.ColsWeightBwdIdeal.nD,
          r.2.mem ((c.tc : Thread Cert.ColsWeightBwdIdeal.nD Cert.ColsWeightBwdIdeal.τ).loc Cert.ColsWeightBwdIdeal.main_v0) = v0 c
          ∧ r.2.mem ((c.tc : Thread Cert.ColsWeightBwdIdeal.nD Cert.ColsWeightBwdIdeal.τ).loc Cert.ColsWeightBwdIdeal.main_arg0) = m ((c.tc : Thread Cert.ColsWeightBwdIdeal.nD Cert.ColsWeightBwdIdeal.τ).loc Cert.ColsWeightBwdIdeal.main_arg0)
          ∧ r.2.mem ((c.tc : Thread Cert.ColsWeightBwdIdeal.nD Cert.ColsWeightBwdIdeal.τ).loc Cert.ColsWeightBwdIdeal.main_arg1) = m ((c.tc : Thread Cert.ColsWeightBwdIdeal.nD Cert.ColsWeightBwdIdeal.τ).loc Cert.ColsWeightBwdIdeal.main_arg1))
      ∧ θ_run (Cert.ColsWeightBwdRefIdeal.defs (F := Ideal)) (onTc (τ := Cert.ColsWeightBwdRefIdeal.τ) (Cert.ColsWeightBwdRefIdeal.main (F := Ideal))) ⟨m', fun _ => 0, g'⟩ (fun r => ∀ c : Dev Cert.ColsWeightBwdRefIdeal.nD,
          r.2.mem ((c.tc : Thread Cert.ColsWeightBwdRefIdeal.nD Cert.ColsWeightBwdRefIdeal.τ).loc Cert.ColsWeightBwdRefIdeal.main_v8) = v0 c
          ∧ r.2.mem ((c.tc : Thread Cert.ColsWeightBwdRefIdeal.nD Cert.ColsWeightBwdRefIdeal.τ).loc Cert.ColsWeightBwdRefIdeal.main_arg0) = m' ((c.tc : Thread Cert.ColsWeightBwdRefIdeal.nD Cert.ColsWeightBwdRefIdeal.τ).loc Cert.ColsWeightBwdRefIdeal.main_arg0)
          ∧ r.2.mem ((c.tc : Thread Cert.ColsWeightBwdRefIdeal.nD Cert.ColsWeightBwdRefIdeal.τ).loc Cert.ColsWeightBwdRefIdeal.main_arg1) = m' ((c.tc : Thread Cert.ColsWeightBwdRefIdeal.nD Cert.ColsWeightBwdRefIdeal.τ).loc Cert.ColsWeightBwdRefIdeal.main_arg1))

def preserves_InWeightBwd_InWeightBwdIdeal : Prop :=
  True

def algebraic_InWeightBwdIdeal_InWeightBwdRefIdeal [hInWeightBwdIdeal : Cert.InWeightBwdIdeal.Facts] [hInWeightBwdRefIdeal : Cert.InWeightBwdRefIdeal.Facts] : Prop :=
  ∀ (m : (ℓ : Loc Cert.InWeightBwdIdeal.nD Cert.InWeightBwdIdeal.τ Cert.InWeightBwdIdeal.sig) → Buf (Elt Ideal) ℓ) (g : Dev Cert.InWeightBwdIdeal.nD → PrngReg)
    (m' : (ℓ : Loc Cert.InWeightBwdRefIdeal.nD Cert.InWeightBwdRefIdeal.τ Cert.InWeightBwdRefIdeal.sig) → Buf (Elt Ideal) ℓ) (g' : Dev Cert.InWeightBwdRefIdeal.nD → PrngReg), Pre_InWeightBwdIdeal m →
    (∀ c : Dev Cert.InWeightBwdIdeal.nD,
      m' ((c.tc : Thread Cert.InWeightBwdRefIdeal.nD Cert.InWeightBwdRefIdeal.τ).loc Cert.InWeightBwdRefIdeal.main_arg0) = m ((c.tc : Thread Cert.InWeightBwdIdeal.nD Cert.InWeightBwdIdeal.τ).loc Cert.InWeightBwdIdeal.main_arg0)
      ∧ m' ((c.tc : Thread Cert.InWeightBwdRefIdeal.nD Cert.InWeightBwdRefIdeal.τ).loc Cert.InWeightBwdRefIdeal.main_arg1) = m ((c.tc : Thread Cert.InWeightBwdIdeal.nD Cert.InWeightBwdIdeal.τ).loc Cert.InWeightBwdIdeal.main_arg1)) →
    ∃ (v0 : (c : Dev Cert.InWeightBwdIdeal.nD) → Buf (Elt Ideal) ((c.tc : Thread Cert.InWeightBwdIdeal.nD Cert.InWeightBwdIdeal.τ).loc Cert.InWeightBwdIdeal.main_v0)),
      θ_run (Cert.InWeightBwdIdeal.defs (F := Ideal)) (onTc (τ := Cert.InWeightBwdIdeal.τ) (Cert.InWeightBwdIdeal.main (F := Ideal))) ⟨m, fun _ => 0, g⟩ (fun r => ∀ c : Dev Cert.InWeightBwdIdeal.nD,
          r.2.mem ((c.tc : Thread Cert.InWeightBwdIdeal.nD Cert.InWeightBwdIdeal.τ).loc Cert.InWeightBwdIdeal.main_v0) = v0 c
          ∧ r.2.mem ((c.tc : Thread Cert.InWeightBwdIdeal.nD Cert.InWeightBwdIdeal.τ).loc Cert.InWeightBwdIdeal.main_arg0) = m ((c.tc : Thread Cert.InWeightBwdIdeal.nD Cert.InWeightBwdIdeal.τ).loc Cert.InWeightBwdIdeal.main_arg0)
          ∧ r.2.mem ((c.tc : Thread Cert.InWeightBwdIdeal.nD Cert.InWeightBwdIdeal.τ).loc Cert.InWeightBwdIdeal.main_arg1) = m ((c.tc : Thread Cert.InWeightBwdIdeal.nD Cert.InWeightBwdIdeal.τ).loc Cert.InWeightBwdIdeal.main_arg1))
      ∧ θ_run (Cert.InWeightBwdRefIdeal.defs (F := Ideal)) (onTc (τ := Cert.InWeightBwdRefIdeal.τ) (Cert.InWeightBwdRefIdeal.main (F := Ideal))) ⟨m', fun _ => 0, g'⟩ (fun r => ∀ c : Dev Cert.InWeightBwdRefIdeal.nD,
          r.2.mem ((c.tc : Thread Cert.InWeightBwdRefIdeal.nD Cert.InWeightBwdRefIdeal.τ).loc Cert.InWeightBwdRefIdeal.main_v8) = v0 c
          ∧ r.2.mem ((c.tc : Thread Cert.InWeightBwdRefIdeal.nD Cert.InWeightBwdRefIdeal.τ).loc Cert.InWeightBwdRefIdeal.main_arg0) = m' ((c.tc : Thread Cert.InWeightBwdRefIdeal.nD Cert.InWeightBwdRefIdeal.τ).loc Cert.InWeightBwdRefIdeal.main_arg0)
          ∧ r.2.mem ((c.tc : Thread Cert.InWeightBwdRefIdeal.nD Cert.InWeightBwdRefIdeal.τ).loc Cert.InWeightBwdRefIdeal.main_arg1) = m' ((c.tc : Thread Cert.InWeightBwdRefIdeal.nD Cert.InWeightBwdRefIdeal.τ).loc Cert.InWeightBwdRefIdeal.main_arg1))

def preserves_DownWeightBwd_DownWeightBwdIdeal : Prop :=
  True

def algebraic_DownWeightBwdIdeal_DownWeightBwdRefIdeal [hDownWeightBwdIdeal : Cert.DownWeightBwdIdeal.Facts] [hDownWeightBwdRefIdeal : Cert.DownWeightBwdRefIdeal.Facts] : Prop :=
  ∀ (m : (ℓ : Loc Cert.DownWeightBwdIdeal.nD Cert.DownWeightBwdIdeal.τ Cert.DownWeightBwdIdeal.sig) → Buf (Elt Ideal) ℓ) (g : Dev Cert.DownWeightBwdIdeal.nD → PrngReg)
    (m' : (ℓ : Loc Cert.DownWeightBwdRefIdeal.nD Cert.DownWeightBwdRefIdeal.τ Cert.DownWeightBwdRefIdeal.sig) → Buf (Elt Ideal) ℓ) (g' : Dev Cert.DownWeightBwdRefIdeal.nD → PrngReg), Pre_DownWeightBwdIdeal m →
    (∀ c : Dev Cert.DownWeightBwdIdeal.nD,
      m' ((c.tc : Thread Cert.DownWeightBwdRefIdeal.nD Cert.DownWeightBwdRefIdeal.τ).loc Cert.DownWeightBwdRefIdeal.main_arg0) = m ((c.tc : Thread Cert.DownWeightBwdIdeal.nD Cert.DownWeightBwdIdeal.τ).loc Cert.DownWeightBwdIdeal.main_arg0)
      ∧ m' ((c.tc : Thread Cert.DownWeightBwdRefIdeal.nD Cert.DownWeightBwdRefIdeal.τ).loc Cert.DownWeightBwdRefIdeal.main_arg1) = m ((c.tc : Thread Cert.DownWeightBwdIdeal.nD Cert.DownWeightBwdIdeal.τ).loc Cert.DownWeightBwdIdeal.main_arg1)) →
    ∃ (v0 : (c : Dev Cert.DownWeightBwdIdeal.nD) → Buf (Elt Ideal) ((c.tc : Thread Cert.DownWeightBwdIdeal.nD Cert.DownWeightBwdIdeal.τ).loc Cert.DownWeightBwdIdeal.main_v0)),
      θ_run (Cert.DownWeightBwdIdeal.defs (F := Ideal)) (onTc (τ := Cert.DownWeightBwdIdeal.τ) (Cert.DownWeightBwdIdeal.main (F := Ideal))) ⟨m, fun _ => 0, g⟩ (fun r => ∀ c : Dev Cert.DownWeightBwdIdeal.nD,
          r.2.mem ((c.tc : Thread Cert.DownWeightBwdIdeal.nD Cert.DownWeightBwdIdeal.τ).loc Cert.DownWeightBwdIdeal.main_v0) = v0 c
          ∧ r.2.mem ((c.tc : Thread Cert.DownWeightBwdIdeal.nD Cert.DownWeightBwdIdeal.τ).loc Cert.DownWeightBwdIdeal.main_arg0) = m ((c.tc : Thread Cert.DownWeightBwdIdeal.nD Cert.DownWeightBwdIdeal.τ).loc Cert.DownWeightBwdIdeal.main_arg0)
          ∧ r.2.mem ((c.tc : Thread Cert.DownWeightBwdIdeal.nD Cert.DownWeightBwdIdeal.τ).loc Cert.DownWeightBwdIdeal.main_arg1) = m ((c.tc : Thread Cert.DownWeightBwdIdeal.nD Cert.DownWeightBwdIdeal.τ).loc Cert.DownWeightBwdIdeal.main_arg1))
      ∧ θ_run (Cert.DownWeightBwdRefIdeal.defs (F := Ideal)) (onTc (τ := Cert.DownWeightBwdRefIdeal.τ) (Cert.DownWeightBwdRefIdeal.main (F := Ideal))) ⟨m', fun _ => 0, g'⟩ (fun r => ∀ c : Dev Cert.DownWeightBwdRefIdeal.nD,
          r.2.mem ((c.tc : Thread Cert.DownWeightBwdRefIdeal.nD Cert.DownWeightBwdRefIdeal.τ).loc Cert.DownWeightBwdRefIdeal.main_v11) = v0 c
          ∧ r.2.mem ((c.tc : Thread Cert.DownWeightBwdRefIdeal.nD Cert.DownWeightBwdRefIdeal.τ).loc Cert.DownWeightBwdRefIdeal.main_arg0) = m' ((c.tc : Thread Cert.DownWeightBwdRefIdeal.nD Cert.DownWeightBwdRefIdeal.τ).loc Cert.DownWeightBwdRefIdeal.main_arg0)
          ∧ r.2.mem ((c.tc : Thread Cert.DownWeightBwdRefIdeal.nD Cert.DownWeightBwdRefIdeal.τ).loc Cert.DownWeightBwdRefIdeal.main_arg1) = m' ((c.tc : Thread Cert.DownWeightBwdRefIdeal.nD Cert.DownWeightBwdRefIdeal.τ).loc Cert.DownWeightBwdRefIdeal.main_arg1))

def preserves_InRowsBwd_InRowsBwdIdeal : Prop :=
  True

def algebraic_InRowsBwdIdeal_InRowsBwdRefIdeal [hInRowsBwdIdeal : Cert.InRowsBwdIdeal.Facts] [hInRowsBwdRefIdeal : Cert.InRowsBwdRefIdeal.Facts] : Prop :=
  ∀ (m : (ℓ : Loc Cert.InRowsBwdIdeal.nD Cert.InRowsBwdIdeal.τ Cert.InRowsBwdIdeal.sig) → Buf (Elt Ideal) ℓ) (g : Dev Cert.InRowsBwdIdeal.nD → PrngReg)
    (m' : (ℓ : Loc Cert.InRowsBwdRefIdeal.nD Cert.InRowsBwdRefIdeal.τ Cert.InRowsBwdRefIdeal.sig) → Buf (Elt Ideal) ℓ) (g' : Dev Cert.InRowsBwdRefIdeal.nD → PrngReg), Pre_InRowsBwdIdeal m →
    (∀ c : Dev Cert.InRowsBwdIdeal.nD,
      m' ((c.tc : Thread Cert.InRowsBwdRefIdeal.nD Cert.InRowsBwdRefIdeal.τ).loc Cert.InRowsBwdRefIdeal.main_arg0) = m ((c.tc : Thread Cert.InRowsBwdIdeal.nD Cert.InRowsBwdIdeal.τ).loc Cert.InRowsBwdIdeal.main_arg0)
      ∧ m' ((c.tc : Thread Cert.InRowsBwdRefIdeal.nD Cert.InRowsBwdRefIdeal.τ).loc Cert.InRowsBwdRefIdeal.main_arg1) = m ((c.tc : Thread Cert.InRowsBwdIdeal.nD Cert.InRowsBwdIdeal.τ).loc Cert.InRowsBwdIdeal.main_arg1)) →
    ∃ (v0 : (c : Dev Cert.InRowsBwdIdeal.nD) → Buf (Elt Ideal) ((c.tc : Thread Cert.InRowsBwdIdeal.nD Cert.InRowsBwdIdeal.τ).loc Cert.InRowsBwdIdeal.main_v3)),
      θ_run (Cert.InRowsBwdIdeal.defs (F := Ideal)) (onTc (τ := Cert.InRowsBwdIdeal.τ) (Cert.InRowsBwdIdeal.main (F := Ideal))) ⟨m, fun _ => 0, g⟩ (fun r => ∀ c : Dev Cert.InRowsBwdIdeal.nD,
          r.2.mem ((c.tc : Thread Cert.InRowsBwdIdeal.nD Cert.InRowsBwdIdeal.τ).loc Cert.InRowsBwdIdeal.main_v3) = v0 c
          ∧ r.2.mem ((c.tc : Thread Cert.InRowsBwdIdeal.nD Cert.InRowsBwdIdeal.τ).loc Cert.InRowsBwdIdeal.main_arg0) = m ((c.tc : Thread Cert.InRowsBwdIdeal.nD Cert.InRowsBwdIdeal.τ).loc Cert.InRowsBwdIdeal.main_arg0)
          ∧ r.2.mem ((c.tc : Thread Cert.InRowsBwdIdeal.nD Cert.InRowsBwdIdeal.τ).loc Cert.InRowsBwdIdeal.main_arg1) = m ((c.tc : Thread Cert.InRowsBwdIdeal.nD Cert.InRowsBwdIdeal.τ).loc Cert.InRowsBwdIdeal.main_arg1))
      ∧ θ_run (Cert.InRowsBwdRefIdeal.defs (F := Ideal)) (onTc (τ := Cert.InRowsBwdRefIdeal.τ) (Cert.InRowsBwdRefIdeal.main (F := Ideal))) ⟨m', fun _ => 0, g'⟩ (fun r => ∀ c : Dev Cert.InRowsBwdRefIdeal.nD,
          r.2.mem ((c.tc : Thread Cert.InRowsBwdRefIdeal.nD Cert.InRowsBwdRefIdeal.τ).loc Cert.InRowsBwdRefIdeal.main_v3) = v0 c
          ∧ r.2.mem ((c.tc : Thread Cert.InRowsBwdRefIdeal.nD Cert.InRowsBwdRefIdeal.τ).loc Cert.InRowsBwdRefIdeal.main_arg0) = m' ((c.tc : Thread Cert.InRowsBwdRefIdeal.nD Cert.InRowsBwdRefIdeal.τ).loc Cert.InRowsBwdRefIdeal.main_arg0)
          ∧ r.2.mem ((c.tc : Thread Cert.InRowsBwdRefIdeal.nD Cert.InRowsBwdRefIdeal.τ).loc Cert.InRowsBwdRefIdeal.main_arg1) = m' ((c.tc : Thread Cert.InRowsBwdRefIdeal.nD Cert.InRowsBwdRefIdeal.τ).loc Cert.InRowsBwdRefIdeal.main_arg1))

def Claim : Prop :=
  ∃ (hPoolScaleBwd : Cert.PoolScaleBwd.Facts) (hPoolScaleBwdIdeal : Cert.PoolScaleBwdIdeal.Facts) (hPoolScaleRefIdeal : Cert.PoolScaleRefIdeal.Facts) (hAttnBwd : Cert.AttnBwd.Facts) (hAttnBwdIdeal : Cert.AttnBwdIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hGateBwd : Cert.GateBwd.Facts) (hGateBwdIdeal : Cert.GateBwdIdeal.Facts) (hGateRefIdeal : Cert.GateRefIdeal.Facts) (hGateFwd : Cert.GateFwd.Facts) (hGateFwdIdeal : Cert.GateFwdIdeal.Facts) (hGateFwdRefIdeal : Cert.GateFwdRefIdeal.Facts) (hConvBwd : Cert.ConvBwd.Facts) (hConvBwdIdeal : Cert.ConvBwdIdeal.Facts) (hConvRefIdeal : Cert.ConvRefIdeal.Facts) (hMixBwd : Cert.MixBwd.Facts) (hMixBwdIdeal : Cert.MixBwdIdeal.Facts) (hMixRefIdeal : Cert.MixRefIdeal.Facts) (hPoolBwd : Cert.PoolBwd.Facts) (hPoolBwdIdeal : Cert.PoolBwdIdeal.Facts) (hPoolRefIdeal : Cert.PoolRefIdeal.Facts) (hNormBwd : Cert.NormBwd.Facts) (hNormBwdIdeal : Cert.NormBwdIdeal.Facts) (hNormRefIdeal : Cert.NormRefIdeal.Facts) (hNormKvBwd : Cert.NormKvBwd.Facts) (hNormKvBwdIdeal : Cert.NormKvBwdIdeal.Facts) (hNormKvRefIdeal : Cert.NormKvRefIdeal.Facts) (hLossBwd : Cert.LossBwd.Facts) (hLossBwdIdeal : Cert.LossBwdIdeal.Facts) (hLossRefIdeal : Cert.LossRefIdeal.Facts) (hNormFwd : Cert.NormFwd.Facts) (hNormFwdIdeal : Cert.NormFwdIdeal.Facts) (hNormFwdRefIdeal : Cert.NormFwdRefIdeal.Facts) (hPoolFwd : Cert.PoolFwd.Facts) (hPoolFwdIdeal : Cert.PoolFwdIdeal.Facts) (hPoolFwdRefIdeal : Cert.PoolFwdRefIdeal.Facts) (hMixFwd : Cert.MixFwd.Facts) (hMixFwdIdeal : Cert.MixFwdIdeal.Facts) (hMixFwdRefIdeal : Cert.MixFwdRefIdeal.Facts) (hGroupFwd : Cert.GroupFwd.Facts) (hGroupFwdIdeal : Cert.GroupFwdIdeal.Facts) (hGroupFwdRefIdeal : Cert.GroupFwdRefIdeal.Facts) (hDownFwd : Cert.DownFwd.Facts) (hDownFwdIdeal : Cert.DownFwdIdeal.Facts) (hDownFwdRefIdeal : Cert.DownFwdRefIdeal.Facts) (hRowsFwd : Cert.RowsFwd.Facts) (hRowsFwdIdeal : Cert.RowsFwdIdeal.Facts) (hRowsFwdRefIdeal : Cert.RowsFwdRefIdeal.Facts) (hRowsBwd : Cert.RowsBwd.Facts) (hRowsBwdIdeal : Cert.RowsBwdIdeal.Facts) (hRowsBwdRefIdeal : Cert.RowsBwdRefIdeal.Facts) (hWeightBwd : Cert.WeightBwd.Facts) (hWeightBwdIdeal : Cert.WeightBwdIdeal.Facts) (hWeightBwdRefIdeal : Cert.WeightBwdRefIdeal.Facts) (hRowsSumBwd : Cert.RowsSumBwd.Facts) (hRowsSumBwdIdeal : Cert.RowsSumBwdIdeal.Facts) (hRowsSumBwdRefIdeal : Cert.RowsSumBwdRefIdeal.Facts) (hAdamStep : Cert.AdamStep.Facts) (hAdamStepIdeal : Cert.AdamStepIdeal.Facts) (hAdamStepRefIdeal : Cert.AdamStepRefIdeal.Facts) (hColsFwd : Cert.ColsFwd.Facts) (hColsFwdIdeal : Cert.ColsFwdIdeal.Facts) (hColsFwdRefIdeal : Cert.ColsFwdRefIdeal.Facts) (hInFwd : Cert.InFwd.Facts) (hInFwdIdeal : Cert.InFwdIdeal.Facts) (hInFwdRefIdeal : Cert.InFwdRefIdeal.Facts) (hColsWeightBwd : Cert.ColsWeightBwd.Facts) (hColsWeightBwdIdeal : Cert.ColsWeightBwdIdeal.Facts) (hColsWeightBwdRefIdeal : Cert.ColsWeightBwdRefIdeal.Facts) (hInWeightBwd : Cert.InWeightBwd.Facts) (hInWeightBwdIdeal : Cert.InWeightBwdIdeal.Facts) (hInWeightBwdRefIdeal : Cert.InWeightBwdRefIdeal.Facts) (hDownWeightBwd : Cert.DownWeightBwd.Facts) (hDownWeightBwdIdeal : Cert.DownWeightBwdIdeal.Facts) (hDownWeightBwdRefIdeal : Cert.DownWeightBwdRefIdeal.Facts) (hInRowsBwd : Cert.InRowsBwd.Facts) (hInRowsBwdIdeal : Cert.InRowsBwdIdeal.Facts) (hInRowsBwdRefIdeal : Cert.InRowsBwdRefIdeal.Facts) (hPre_finite_q_k : Cert.Pre_finite_q_k.Facts) (hPre_finite_dx_wd_b : Cert.Pre_finite_dx_wd_b.Facts) (hPre_finite_gate : Cert.Pre_finite_gate.Facts) (hPre_finite_dd : Cert.Pre_finite_dd.Facts) (hPre_finite_g : Cert.Pre_finite_g.Facts),
    quiescent_PoolScaleBwd (hPoolScaleBwd := hPoolScaleBwd)
    ∧ quiescent_PoolScaleBwdIdeal (hPoolScaleBwdIdeal := hPoolScaleBwdIdeal)
    ∧ quiescent_PoolScaleRefIdeal (hPoolScaleRefIdeal := hPoolScaleRefIdeal)
    ∧ quiescent_AttnBwd (hAttnBwd := hAttnBwd)
    ∧ quiescent_AttnBwdIdeal (hAttnBwdIdeal := hAttnBwdIdeal)
    ∧ quiescent_AttnBwdIdeal_pre_finite_q_k (hAttnBwdIdeal := hAttnBwdIdeal) (hPre_finite_q_k := hPre_finite_q_k)
    ∧ quiescent_AttnRefIdeal (hAttnRefIdeal := hAttnRefIdeal)
    ∧ quiescent_AttnRefIdeal_pre_finite_q_k (hAttnRefIdeal := hAttnRefIdeal) (hPre_finite_q_k := hPre_finite_q_k)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GateBwd (hGateBwd := hGateBwd)
    ∧ quiescent_GateBwdIdeal (hGateBwdIdeal := hGateBwdIdeal)
    ∧ quiescent_GateBwdIdeal_pre_finite_dx_wd_b (hGateBwdIdeal := hGateBwdIdeal) (hPre_finite_dx_wd_b := hPre_finite_dx_wd_b)
    ∧ quiescent_GateRefIdeal (hGateRefIdeal := hGateRefIdeal)
    ∧ quiescent_GateRefIdeal_pre_finite_dx_wd_b (hGateRefIdeal := hGateRefIdeal) (hPre_finite_dx_wd_b := hPre_finite_dx_wd_b)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_MixBwd (hMixBwd := hMixBwd)
    ∧ quiescent_MixBwdIdeal (hMixBwdIdeal := hMixBwdIdeal)
    ∧ quiescent_MixBwdIdeal_pre_finite_gate (hMixBwdIdeal := hMixBwdIdeal) (hPre_finite_gate := hPre_finite_gate)
    ∧ quiescent_MixRefIdeal (hMixRefIdeal := hMixRefIdeal)
    ∧ quiescent_MixRefIdeal_pre_finite_gate (hMixRefIdeal := hMixRefIdeal) (hPre_finite_gate := hPre_finite_gate)
    ∧ quiescent_PoolBwd (hPoolBwd := hPoolBwd)
    ∧ quiescent_PoolBwdIdeal (hPoolBwdIdeal := hPoolBwdIdeal)
    ∧ quiescent_PoolBwdIdeal_pre_finite_dd (hPoolBwdIdeal := hPoolBwdIdeal) (hPre_finite_dd := hPre_finite_dd)
    ∧ quiescent_PoolRefIdeal (hPoolRefIdeal := hPoolRefIdeal)
    ∧ quiescent_PoolRefIdeal_pre_finite_dd (hPoolRefIdeal := hPoolRefIdeal) (hPre_finite_dd := hPre_finite_dd)
    ∧ quiescent_NormBwd (hNormBwd := hNormBwd)
    ∧ quiescent_NormBwdIdeal (hNormBwdIdeal := hNormBwdIdeal)
    ∧ quiescent_NormRefIdeal (hNormRefIdeal := hNormRefIdeal)
    ∧ quiescent_NormKvBwd (hNormKvBwd := hNormKvBwd)
    ∧ quiescent_NormKvBwdIdeal (hNormKvBwdIdeal := hNormKvBwdIdeal)
    ∧ quiescent_NormKvRefIdeal (hNormKvRefIdeal := hNormKvRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_PoolFwd (hPoolFwd := hPoolFwd)
    ∧ quiescent_PoolFwdIdeal (hPoolFwdIdeal := hPoolFwdIdeal)
    ∧ quiescent_PoolFwdIdeal_pre_finite_g (hPoolFwdIdeal := hPoolFwdIdeal) (hPre_finite_g := hPre_finite_g)
    ∧ quiescent_PoolFwdRefIdeal (hPoolFwdRefIdeal := hPoolFwdRefIdeal)
    ∧ quiescent_PoolFwdRefIdeal_pre_finite_g (hPoolFwdRefIdeal := hPoolFwdRefIdeal) (hPre_finite_g := hPre_finite_g)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GroupFwd (hGroupFwd := hGroupFwd)
    ∧ quiescent_GroupFwdIdeal (hGroupFwdIdeal := hGroupFwdIdeal)
    ∧ quiescent_GroupFwdRefIdeal (hGroupFwdRefIdeal := hGroupFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_RowsFwd (hRowsFwd := hRowsFwd)
    ∧ quiescent_RowsFwdIdeal (hRowsFwdIdeal := hRowsFwdIdeal)
    ∧ quiescent_RowsFwdRefIdeal (hRowsFwdRefIdeal := hRowsFwdRefIdeal)
    ∧ quiescent_RowsBwd (hRowsBwd := hRowsBwd)
    ∧ quiescent_RowsBwdIdeal (hRowsBwdIdeal := hRowsBwdIdeal)
    ∧ quiescent_RowsBwdRefIdeal (hRowsBwdRefIdeal := hRowsBwdRefIdeal)
    ∧ quiescent_WeightBwd (hWeightBwd := hWeightBwd)
    ∧ quiescent_WeightBwdIdeal (hWeightBwdIdeal := hWeightBwdIdeal)
    ∧ quiescent_WeightBwdRefIdeal (hWeightBwdRefIdeal := hWeightBwdRefIdeal)
    ∧ quiescent_RowsSumBwd (hRowsSumBwd := hRowsSumBwd)
    ∧ quiescent_RowsSumBwdIdeal (hRowsSumBwdIdeal := hRowsSumBwdIdeal)
    ∧ quiescent_RowsSumBwdRefIdeal (hRowsSumBwdRefIdeal := hRowsSumBwdRefIdeal)
    ∧ quiescent_AdamStep (hAdamStep := hAdamStep)
    ∧ quiescent_AdamStepIdeal (hAdamStepIdeal := hAdamStepIdeal)
    ∧ quiescent_AdamStepRefIdeal (hAdamStepRefIdeal := hAdamStepRefIdeal)
    ∧ quiescent_ColsFwd (hColsFwd := hColsFwd)
    ∧ quiescent_ColsFwdIdeal (hColsFwdIdeal := hColsFwdIdeal)
    ∧ quiescent_ColsFwdRefIdeal (hColsFwdRefIdeal := hColsFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_ColsWeightBwd (hColsWeightBwd := hColsWeightBwd)
    ∧ quiescent_ColsWeightBwdIdeal (hColsWeightBwdIdeal := hColsWeightBwdIdeal)
    ∧ quiescent_ColsWeightBwdRefIdeal (hColsWeightBwdRefIdeal := hColsWeightBwdRefIdeal)
    ∧ quiescent_InWeightBwd (hInWeightBwd := hInWeightBwd)
    ∧ quiescent_InWeightBwdIdeal (hInWeightBwdIdeal := hInWeightBwdIdeal)
    ∧ quiescent_InWeightBwdRefIdeal (hInWeightBwdRefIdeal := hInWeightBwdRefIdeal)
    ∧ quiescent_DownWeightBwd (hDownWeightBwd := hDownWeightBwd)
    ∧ quiescent_DownWeightBwdIdeal (hDownWeightBwdIdeal := hDownWeightBwdIdeal)
    ∧ quiescent_DownWeightBwdRefIdeal (hDownWeightBwdRefIdeal := hDownWeightBwdRefIdeal)
    ∧ quiescent_InRowsBwd (hInRowsBwd := hInRowsBwd)
    ∧ quiescent_InRowsBwdIdeal (hInRowsBwdIdeal := hInRowsBwdIdeal)
    ∧ quiescent_InRowsBwdRefIdeal (hInRowsBwdRefIdeal := hInRowsBwdRefIdeal)
    ∧ preserves_PoolScaleBwd_PoolScaleBwdIdeal
    ∧ algebraic_PoolScaleBwdIdeal_PoolScaleRefIdeal (hPoolScaleBwdIdeal := hPoolScaleBwdIdeal) (hPoolScaleRefIdeal := hPoolScaleRefIdeal)
    ∧ preserves_AttnBwd_AttnBwdIdeal
    ∧ algebraic_AttnBwdIdeal_AttnRefIdeal_pre_finite_q_k (hAttnBwdIdeal := hAttnBwdIdeal) (hAttnRefIdeal := hAttnRefIdeal) (hPre_finite_q_k := hPre_finite_q_k)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GateBwd_GateBwdIdeal
    ∧ algebraic_GateBwdIdeal_GateRefIdeal_pre_finite_dx_wd_b (hGateBwdIdeal := hGateBwdIdeal) (hGateRefIdeal := hGateRefIdeal) (hPre_finite_dx_wd_b := hPre_finite_dx_wd_b)
    ∧ preserves_GateFwd_GateFwdIdeal
    ∧ algebraic_GateFwdIdeal_GateFwdRefIdeal (hGateFwdIdeal := hGateFwdIdeal) (hGateFwdRefIdeal := hGateFwdRefIdeal)
    ∧ preserves_ConvBwd_ConvBwdIdeal
    ∧ algebraic_ConvBwdIdeal_ConvRefIdeal (hConvBwdIdeal := hConvBwdIdeal) (hConvRefIdeal := hConvRefIdeal)
    ∧ preserves_MixBwd_MixBwdIdeal
    ∧ algebraic_MixBwdIdeal_MixRefIdeal_pre_finite_gate (hMixBwdIdeal := hMixBwdIdeal) (hMixRefIdeal := hMixRefIdeal) (hPre_finite_gate := hPre_finite_gate)
    ∧ preserves_PoolBwd_PoolBwdIdeal
    ∧ algebraic_PoolBwdIdeal_PoolRefIdeal_pre_finite_dd (hPoolBwdIdeal := hPoolBwdIdeal) (hPoolRefIdeal := hPoolRefIdeal) (hPre_finite_dd := hPre_finite_dd)
    ∧ preserves_NormBwd_NormBwdIdeal
    ∧ algebraic_NormBwdIdeal_NormRefIdeal (hNormBwdIdeal := hNormBwdIdeal) (hNormRefIdeal := hNormRefIdeal)
    ∧ preserves_NormKvBwd_NormKvBwdIdeal
    ∧ algebraic_NormKvBwdIdeal_NormKvRefIdeal (hNormKvBwdIdeal := hNormKvBwdIdeal) (hNormKvRefIdeal := hNormKvRefIdeal)
    ∧ preserves_LossBwd_LossBwdIdeal
    ∧ algebraic_LossBwdIdeal_LossRefIdeal (hLossBwdIdeal := hLossBwdIdeal) (hLossRefIdeal := hLossRefIdeal)
    ∧ preserves_NormFwd_NormFwdIdeal
    ∧ algebraic_NormFwdIdeal_NormFwdRefIdeal (hNormFwdIdeal := hNormFwdIdeal) (hNormFwdRefIdeal := hNormFwdRefIdeal)
    ∧ preserves_PoolFwd_PoolFwdIdeal
    ∧ algebraic_PoolFwdIdeal_PoolFwdRefIdeal_pre_finite_g (hPoolFwdIdeal := hPoolFwdIdeal) (hPoolFwdRefIdeal := hPoolFwdRefIdeal) (hPre_finite_g := hPre_finite_g)
    ∧ preserves_MixFwd_MixFwdIdeal
    ∧ algebraic_MixFwdIdeal_MixFwdRefIdeal (hMixFwdIdeal := hMixFwdIdeal) (hMixFwdRefIdeal := hMixFwdRefIdeal)
    ∧ preserves_GroupFwd_GroupFwdIdeal
    ∧ algebraic_GroupFwdIdeal_GroupFwdRefIdeal (hGroupFwdIdeal := hGroupFwdIdeal) (hGroupFwdRefIdeal := hGroupFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_RowsFwd_RowsFwdIdeal
    ∧ algebraic_RowsFwdIdeal_RowsFwdRefIdeal (hRowsFwdIdeal := hRowsFwdIdeal) (hRowsFwdRefIdeal := hRowsFwdRefIdeal)
    ∧ preserves_RowsBwd_RowsBwdIdeal
    ∧ algebraic_RowsBwdIdeal_RowsBwdRefIdeal (hRowsBwdIdeal := hRowsBwdIdeal) (hRowsBwdRefIdeal := hRowsBwdRefIdeal)
    ∧ preserves_WeightBwd_WeightBwdIdeal
    ∧ algebraic_WeightBwdIdeal_WeightBwdRefIdeal (hWeightBwdIdeal := hWeightBwdIdeal) (hWeightBwdRefIdeal := hWeightBwdRefIdeal)
    ∧ preserves_RowsSumBwd_RowsSumBwdIdeal
    ∧ algebraic_RowsSumBwdIdeal_RowsSumBwdRefIdeal (hRowsSumBwdIdeal := hRowsSumBwdIdeal) (hRowsSumBwdRefIdeal := hRowsSumBwdRefIdeal)
    ∧ preserves_AdamStep_AdamStepIdeal
    ∧ algebraic_AdamStepIdeal_AdamStepRefIdeal (hAdamStepIdeal := hAdamStepIdeal) (hAdamStepRefIdeal := hAdamStepRefIdeal)
    ∧ preserves_ColsFwd_ColsFwdIdeal
    ∧ algebraic_ColsFwdIdeal_ColsFwdRefIdeal (hColsFwdIdeal := hColsFwdIdeal) (hColsFwdRefIdeal := hColsFwdRefIdeal)
    ∧ preserves_InFwd_InFwdIdeal
    ∧ algebraic_InFwdIdeal_InFwdRefIdeal (hInFwdIdeal := hInFwdIdeal) (hInFwdRefIdeal := hInFwdRefIdeal)
    ∧ preserves_ColsWeightBwd_ColsWeightBwdIdeal
    ∧ algebraic_ColsWeightBwdIdeal_ColsWeightBwdRefIdeal (hColsWeightBwdIdeal := hColsWeightBwdIdeal) (hColsWeightBwdRefIdeal := hColsWeightBwdRefIdeal)
    ∧ preserves_InWeightBwd_InWeightBwdIdeal
    ∧ algebraic_InWeightBwdIdeal_InWeightBwdRefIdeal (hInWeightBwdIdeal := hInWeightBwdIdeal) (hInWeightBwdRefIdeal := hInWeightBwdRefIdeal)
    ∧ preserves_DownWeightBwd_DownWeightBwdIdeal
    ∧ algebraic_DownWeightBwdIdeal_DownWeightBwdRefIdeal (hDownWeightBwdIdeal := hDownWeightBwdIdeal) (hDownWeightBwdRefIdeal := hDownWeightBwdRefIdeal)
    ∧ preserves_InRowsBwd_InRowsBwdIdeal
    ∧ algebraic_InRowsBwdIdeal_InRowsBwdRefIdeal (hInRowsBwdIdeal := hInRowsBwdIdeal) (hInRowsBwdRefIdeal := hInRowsBwdRefIdeal)
-- ==== Pre_finite_dd.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048x2048 .f32) (main_arg3 : FVec F S2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_finite_dx_wd_b.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S5632x2048 .f32) (main_arg2 : FVec F S2048x5632 .bf16) (main_arg3 : FVec F S2048x5632 .bf16) : IVec S2048x2048 1 × IVec S5632x2048 1 × IVec S2048x5632 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S2048x5632 .f32 := (extf .f32 · bitsLt_bf16_f32) main_arg3
  let main_v8 : FVec F S2048x5632 .f32 := Host.absf main_v7
  let main_cst_1 : FVec F S_ .f32 := constant S_ .f32 0x7F800000#32
  let main_v9 : FVec F S2048x5632 .f32 := broadcastInDim S2048x5632 ![] bcast_S_S2048x5632 main_cst_1
  let main_v10 : IVec S2048x5632 1 := cmpf .olt main_v8 main_v9
  (main_v3, main_v6, main_v10)
-- ==== Pre_finite_g.lean ====
abbrev S2048x2048 : Shape := ⟨2, ![2048, 2048]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x2048 .f32) (main_arg1 : FVec F S2048 .f32) : IVec S2048 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  main_v2
-- ==== Pre_finite_gate.lean ====
abbrev S2048x4096 : Shape := ⟨2, ![2048, 4096]⟩
abbrev S4096 : Shape := ⟨1, ![4096]⟩
abbrev S2048x2048 : Shape := ⟨2, ![2048, 2048]⟩
abbrev S8x128x128 : Shape := ⟨3, ![8, 128, 128]⟩
abbrev S8x128 : Shape := ⟨2, ![8, 128]⟩
abbrev S1024 : Shape := ⟨1, ![1024]⟩
abbrev S31x1x1024 : Shape := ⟨3, ![31, 1, 1024]⟩
abbrev S_ : Shape := ⟨0, ![]⟩
abbrev S2048 : Shape := ⟨1, ![2048]⟩
abbrev S2048x1024 : Shape := ⟨2, ![2048, 1024]⟩

class Facts : Prop where
  slices_S2048x4096_S2048x2048_0_0 : S2048x4096.Slices ![0, 0] S2048x2048
  bcast_S_S2048x2048 : S_.BroadcastsInDim S2048x2048 (![] : Fin 0 → Fin S2048x2048.rank)
  slices_S4096_S2048_0 : S4096.Slices ![0] S2048
  bcast_S_S2048 : S_.BroadcastsInDim S2048 (![] : Fin 0 → Fin S2048.rank)
  slices_S2048x2048_S2048x1024_0_0 : S2048x2048.Slices ![0, 0] S2048x1024
  bcast_S_S2048x1024 : S_.BroadcastsInDim S2048x1024 (![] : Fin 0 → Fin S2048x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024 : S_.BroadcastsInDim S1024 (![] : Fin 0 → Fin S1024.rank)

variable [Facts]

def fn_part1 {F : FTy → Type} [FloatOps F] (main_arg7 : FVec F S1024 .f32) (main_v3 : IVec S2048x2048 1) (main_v7 : IVec S2048 1) (main_v11 : IVec S2048x1024 1) (main_v14 : IVec S8x128x128 1) (main_v17 : IVec S8x128 1) (main_v18 : FVec F S1024 .f32) : IVec S2048x2048 1 × IVec S2048 1 × IVec S2048x1024 1 × IVec S8x128x128 1 × IVec S8x128 1 × IVec S1024 1 × IVec S1024 1 :=
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_v21 : FVec F S1024 .f32 := Host.absf main_arg7
  let main_cst_5 : FVec F S_ .f32 := constant S_ .f32 0x7F800000#32
  let main_v22 : FVec F S1024 .f32 := broadcastInDim S1024 ![] bcast_S_S1024 main_cst_5
  let main_v23 : IVec S1024 1 := cmpf .olt main_v21 main_v22
  (main_v3, main_v7, main_v11, main_v14, main_v17, main_v20, main_v23)

def fn {F : FTy → Type} [FloatOps F] (main_arg0 : FVec F S2048x4096 .f32) (main_arg1 : FVec F S4096 .f32) (main_arg2 : FVec F S2048x2048 .f32) (main_arg3 : FVec F S2048x2048 .f32) (main_arg4 : FVec F S8x128x128 .f32) (main_arg5 : FVec F S8x128 .f32) (main_arg6 : FVec F S1024 .f32) (main_arg7 : FVec F S1024 .f32) (main_arg8 : FVec F S31x1x1024 .f32) (main_arg9 : FVec F S1024 .f32) (main_arg10 : FVec F S1024 .f32) (main_arg11 : FVec F S1024 .f32) : IVec S2048x2048 1 × IVec S2048 1 × IVec S2048x1024 1 × IVec S8x128x128 1 × IVec S8x128 1 × IVec S1024 1 × IVec S1024 1 :=
  let main_v0 : FVec F S2048x2048 .f32 := (extractStridedSlice S2048x2048 ![0, 0] · slices_S2048x4096_S2048x2048_0_0) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048 .f32 := (extractStridedSlice S2048 ![0] · slices_S4096_S2048_0) main_arg1
  let main_v5 : FVec F S2048 .f32 := Host.absf main_v4
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_v8 : FVec F S2048x1024 .f32 := (extractStridedSlice S2048x1024 ![0, 0] · slices_S2048x2048_S2048x1024_0_0) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S8x128x128 .f32 := Host.absf main_arg4
  let main_cst_2 : FVec F S_ .f32 := constant S_ .f32 0x7F800000#32
  let main_v13 : FVec F S8x128x128 .f32 := broadcastInDim S8x128x128 ![] bcast_S_S8x128x128 main_cst_2
  let main_v14 : IVec S8x128x128 1 := cmpf .olt main_v12 main_v13
  let main_v15 : FVec F S8x128 .f32 := Host.absf main_arg5
  let main_cst_3 : FVec F S_ .f32 := constant S_ .f32 0x7F800000#32
  let main_v16 : FVec F S8x128 .f32 := broadcastInDim S8x128 ![] bcast_S_S8x128 main_cst_3
  let main_v17 : IVec S8x128 1 := cmpf .olt main_v15 main_v16
  let main_v18 : FVec F S1024 .f32 := Host.absf main_arg6
  fn_part1 (F := F) main_arg7 main_v3 main_v7 main_v11 main_v14 main_v17 main_v18
-- ==== Pre_finite_q_k.lean ====
abbrev S2048x2048 : Shape := ⟨2, ![2048, 2048]⟩
abbrev S256x2048 : Shape := ⟨2, ![256, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S2048x2048 .bf16) (main_arg2 : FVec F S256x2048 .bf16) (main_arg3 : FVec F S256x2048 .bf16) : IVec S2048x2048 1 × IVec S256x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S256x2048 .f32 := (extf .f32 · bitsLt_bf16_f32) main_arg2
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== PoolScaleBwd.lean ====
abbrev S2048x2048 : Shape := ⟨2, ![2048, 2048]⟩
abbrev S4x512 : Shape := ⟨2, ![4, 512]⟩
abbrev S2048 : Shape := ⟨1, ![2048]⟩
abbrev S1x2048 : Shape := ⟨2, ![1, 2048]⟩
abbrev S256x2048 : Shape := ⟨2, ![256, 2048]⟩

abbrev nBuf : Space → Nat
  | .hbm => 11
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def k0_cond3 (i : grid0.Coords) : BitVec 1 :=
  let arg0 : BitVec 32 := BitVec.ofNat 32 (i 0).val
  let c0_i32_11 : BitVec 32 := 0#32
  let v22 : BitVec 1 := Scalar.cmpi .eq arg0 c0_i32_11
  let v23 : BitVec 32 := Scalar.extui v22
  let c0_i32_12 : BitVec 32 := 0#32
  let v24 : BitVec 1 := Scalar.cmpi .ne v23 c0_i32_12
  v24

def k0_cond4 (i : grid0.Coords) : BitVec 1 :=
  let arg0 : BitVec 32 := BitVec.ofNat 32 (i 0).val
  let c0_i32_13 : BitVec 32 := 0#32
  let v25 : BitVec 1 := Scalar.cmpi .sgt arg0 c0_i32_13
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PoolScaleRefIdeal.lean ====
abbrev S2048x2048 : Shape := ⟨2, ![2048, 2048]⟩
abbrev S4x512 : Shape := ⟨2, ![4, 512]⟩
abbrev S2048 : Shape := ⟨1, ![2048]⟩
abbrev S1x2048 : Shape := ⟨2, ![1, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S2048, .f32⟩
  | .hbm, ⟨24, _⟩ => ⟨S4x512, .f32⟩
  | .hbm, ⟨25, _⟩ => ⟨S2048x2048, .bf16⟩
  | .hbm, ⟨26, _⟩ => ⟨S1x2048, .f32⟩
  | .hbm, ⟨27, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== AttnBwd.lean ====
abbrev S2048x2048 : Shape := ⟨2, ![2048, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S256x2048, .bf16⟩
  | .hbm, ⟨3, _⟩ => ⟨S256x2048, .bf16⟩
  | .hbm, ⟨4, _⟩ => ⟨S2048x2048, .bf16⟩
  | .hbm, ⟨5, _⟩ => ⟨S256x2048, .f32⟩
  | .hbm, ⟨6, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v129 : BitVec 1 := Scalar.cmpi .eq arg0 c0_i32
  let v130 : BitVec 32 := Scalar.extui v129
  let c0_i32_48 : BitVec 32 := 0#32
  let v131 : BitVec 1 := Scalar.cmpi .ne v130 c0_i32_48
  v131

def k0_cond2 (i : grid0.Coords) : BitVec 1 :=
  let arg0 : BitVec 32 := BitVec.ofNat 32 (i 0).val
  let c0_i32_49 : BitVec 32 := 0#32
  let v132 : BitVec 1 := Scalar.cmpi .sgt arg0 c0_i32_49
  let v133 : BitVec 32 := Scalar.extui v132
  let c0_i32_50 : BitVec 32 := 0#32
  let v134 : BitVec 1 := Scalar.cmpi .ne v133 c0_i32_50
  v134

def k0_cond3 (i : grid0.Coords) : BitVec 1 :=
  let arg0 : BitVec 32 := BitVec.ofNat 32 (i 0).val
  let c0_i32_51 : BitVec 32 := 0#32
  let v135 : BitVec 1 := Scalar.cmpi .eq arg0 c0_i32_51
  let v136 : BitVec 32 := Scalar.extui v135
  let c0_i32_52 : BitVec 32 := 0#32
  let v137 : BitVec 1 := Scalar.cmpi .ne v136 c0_i32_52
  v137

def k0_cond4 (i : grid0.Coords) : BitVec 1 :=
  let arg0 : BitVec 32 := BitVec.ofNat 32 (i 0).val
  let c0_i32_53 : BitVec 32 := 0#32
  let v138 : BitVec 1 := Scalar.cmpi .sgt arg0 c0_i32_53
  let v139 : BitVec 32 := Scalar.extui v138
  let c0_i32_54 : BitVec 32 := 0#32
  let v140 : BitVec 1 := Scalar.cmpi .ne v139 c0_i32_54
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S256x2048, .bf16⟩
  | .hbm, ⟨3, _⟩ => ⟨S256x2048, .bf16⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S2048x4x512, .f32⟩
  | .hbm, ⟨8, _⟩ => ⟨S256x4x512, .f32⟩
  | .hbm, ⟨9, _⟩ => ⟨S256x4x512, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x512x2048, .f32⟩
  | .hbm, ⟨53, _⟩ => ⟨S2048x4x512, .f32⟩
  | .hbm, ⟨54, _⟩ => ⟨S2048x2048, .f32⟩
  | .hbm, ⟨55, _⟩ => ⟨S2048x2048, .f32⟩
  | .hbm, ⟨56, _⟩ => ⟨S2048x4x512, .f32⟩
  | .hbm, ⟨57, _⟩ => ⟨S4x512x2048, .f32⟩
  | .hbm, ⟨58, _⟩ => ⟨S4x2048x256, .f32⟩
  | .hbm, ⟨59, _⟩ => ⟨S4x512x256, .f32⟩
  | .hbm, ⟨60, _⟩ => ⟨S256x4x512, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x512, .f32⟩
  | .hbm, ⟨79, _⟩ => ⟨S256x4x512, .f32⟩
  | .hbm, ⟨80, _⟩ => ⟨S4x2048x512, .f32⟩
  | .hbm, ⟨81, _⟩ => ⟨S2048x4x512, .f32⟩
  | .hbm, ⟨82, _⟩ => ⟨S256x2048, .f32⟩
  | .hbm, ⟨83, _⟩ => ⟨S256x2048, .f32⟩
  | .hbm, ⟨84, _⟩ => ⟨S2048x2048, .f32⟩
  | .hbm, ⟨85, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== AttnFwd.lean ====
abbrev S2048x2048 : Shape := ⟨2, ![2048, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x4x512, .f32⟩
  | .hbm, ⟨7, _⟩ => ⟨S256x4x512, .f32⟩
  | .hbm, ⟨8, _⟩ => ⟨S256x4x512, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x512x2048, .f32⟩
  | .hbm, ⟨28, _⟩ => ⟨S2048x4x512, .f32⟩
  | .hbm, ⟨29, _⟩ => ⟨S2048x2048, .f32⟩
  | .hbm, ⟨30, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== GateBwd.lean ====
abbrev S2048x2048 : Shape := ⟨2, ![2048, 2048]⟩
abbrev S5632x2048 : Shape := ⟨2, ![5632, 2048]⟩
abbrev S2048x5632 : Shape := ⟨2, ![2048, 5632]⟩
abbrev S4x1408x2048 : Shape := ⟨3, ![4, 1408, 2048]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩
abbrev S256x1408 : Shape := ⟨2, ![256, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x1408x2048, .bf16⟩
  | .hbm, ⟨6, _⟩ => ⟨S2048x5632, .bf16⟩
  | .hbm, ⟨7, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .bf16⟩
  | .hbm, ⟨36, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== GateFwd.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S256x1408 : Shape := ⟨2, ![256, 1408]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x5632, .bf16⟩
  | .hbm, ⟨7, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateFwdRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .bf16⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== ConvBwd.lean ====
abbrev S2048x4096 : Shape := ⟨2, ![2048, 4096]⟩
abbrev S4096 : Shape := ⟨1, ![4096]⟩
abbrev S2048x2048 : Shape := ⟨2, ![2048, 2048]⟩
abbrev S2048x1024 : Shape := ⟨2, ![2048, 1024]⟩
abbrev S31x1x1024 : Shape := ⟨3, ![31, 1, 1024]⟩
abbrev S1x4096 : Shape := ⟨2, ![1, 4096]⟩
abbrev S31x1024 : Shape := ⟨2, ![31, 1024]⟩
abbrev S_ : Shape := ⟨0, ![]⟩
abbrev S32x1024 : Shape := ⟨2, ![32, 1024]⟩
abbrev S256x4096 : Shape := ⟨2, ![256, 4096]⟩
abbrev S256x2048 : Shape := ⟨2, ![256, 2048]⟩
abbrev S256x1024 : Shape := ⟨2, ![256, 1024]⟩
abbrev S288x1024 : Shape := ⟨2, ![288, 1024]⟩
abbrev S1x1024 : Shape := ⟨2, ![1, 1024]⟩

abbrev nBuf : Space → Nat
  | .hbm => 14
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096, .f32⟩
  | .hbm, ⟨2, _⟩ => ⟨S2048x2048, .f32⟩
  | .hbm, ⟨3, _⟩ => ⟨S2048x1024, .f32⟩
  | .hbm, ⟨4, _⟩ => ⟨S31x1x1024, .f32⟩
  | .hbm, ⟨5, _⟩ => ⟨S1x4096, .f32⟩
  | .hbm, ⟨6, _⟩ => ⟨S2048x4096, .f32⟩
  | .hbm, ⟨7, _⟩ => ⟨S2048x4096, .f32⟩
  | .hbm, ⟨8, _⟩ => ⟨S31x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S2048x4096, .bf16⟩
  | .hbm, ⟨13, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v240 : BitVec 1 := Scalar.cmpi .eq arg0 c0_i32
  let v241 : BitVec 32 := Scalar.extui v240
  let c0_i32_44 : BitVec 32 := 0#32
  let v242 : BitVec 1 := Scalar.cmpi .ne v241 c0_i32_44
  v242

def k0_cond2 (i : grid0.Coords) : BitVec 1 :=
  let arg0 : BitVec 32 := BitVec.ofNat 32 (i 0).val
  let c0_i32_45 : BitVec 32 := 0#32
  let v243 : BitVec 1 := Scalar.cmpi .sgt arg0 c0_i32_45
  let v244 : BitVec 32 := Scalar.extui v243
  let c0_i32_46 : BitVec 32 := 0#32
  let v245 : BitVec 1 := Scalar.cmpi .ne v244 c0_i32_46
  v245

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S2048x4096 : Shape := ⟨2, ![2048, 4096]⟩
abbrev S4096 : Shape := ⟨1, ![4096]⟩
abbrev S2048x2048 : Shape := ⟨2, ![2048, 2048]⟩
abbrev S2048x1024 : Shape := ⟨2, ![2048, 1024]⟩
abbrev S31x1x1024 : Shape := ⟨3, ![31, 1, 1024]⟩
abbrev S1x4096 : Shape := ⟨2, ![1, 4096]⟩
abbrev S_ : Shape := ⟨0, ![]⟩
abbrev S30x1024 : Shape := ⟨2, ![30, 1024]⟩
abbrev S2078x1024 : Shape := ⟨2, ![2078, 1024]⟩
abbrev S1x1x1024 : Shape := ⟨3, ![1, 1, 1024]⟩
abbrev S1x1024 : Shape := ⟨2, ![1, 1024]⟩

abbrev nBuf : Space → Nat
  | .hbm => 393
  | .vmem => 0
  | .smem => 0
  | _ => 0

abbrev hbmTy0_0 (i : Nat) : BufTy := match i % 128 with
  | 0 => ⟨S2048x4096, .f32⟩
  | 1 => ⟨S4096, .f32⟩
  | 2 => ⟨S2048x2048, .f32⟩
  | 3 => ⟨S2048x1024, .f32⟩
  | 4 => ⟨S31x1x1024, .f32⟩
  | 5 => ⟨S1x4096, .f32⟩
  | 6 => ⟨S2048x4096, .f32⟩
  | 7 => ⟨S2048x4096, .f32⟩
  | 8 => ⟨S2048x1024, .f32⟩
  | 9 => ⟨S2048x1024, .f32⟩
  | 10 => ⟨S2048x2048, .f32⟩
  | 11 => ⟨S_, .f32⟩
  | 12 => ⟨S30x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S2048x1024, .f32⟩
  | 26 => ⟨S2078x1024, .f32⟩
  | 27 => ⟨S_, .f32⟩
  | 28 => ⟨S30x1024, .f32⟩
  | 29 => ⟨S2048x1024, .f32⟩
  | 30 => ⟨S1x1x1024, .f32⟩
  | 31 => ⟨S1x1024, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S1x1x1024, .f32⟩
  | 39 => ⟨S1x1024, .f32⟩
  | 40 => ⟨S2048x1024, .f32⟩
  | 41 => ⟨S2048x1024, .f32⟩
  | 42 => ⟨S2048x1024, .f32⟩
  | 43 => ⟨S2048x1024, .f32⟩
  | 44 => ⟨S1x1x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S1x1x1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1x1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S1x1x1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S1x1x1024, .f32⟩
  | 69 => ⟨S1x1024, .f32⟩
  | 70 => ⟨S2048x1024, .f32⟩
  | 71 => ⟨S2048x1024, .f32⟩
  | 72 => ⟨S2048x1024, .f32⟩
  | 73 => ⟨S2048x1024, .f32⟩
  | 74 => ⟨S1x1x1024, .f32⟩
  | 75 => ⟨S1x1024, .f32⟩
  | 76 => ⟨S2048x1024, .f32⟩
  | 77 => ⟨S2048x1024, .f32⟩
  | 78 => ⟨S2048x1024, .f32⟩
  | 79 => ⟨S2048x1024, .f32⟩
  | 80 => ⟨S1x1x1024, .f32⟩
  | 81 => ⟨S1x1024, .f32⟩
  | 82 => ⟨S2048x1024, .f32⟩
  | 83 => ⟨S2048x1024, .f32⟩
  | 84 => ⟨S2048x1024, .f32⟩
  | 85 => ⟨S2048x1024, .f32⟩
  | 86 => ⟨S1x1x1024, .f32⟩
  | 87 => ⟨S1x1024, .f32⟩
  | 88 => ⟨S2048x1024, .f32⟩
  | 89 => ⟨S2048x1024, .f32⟩
  | 90 => ⟨S2048x1024, .f32⟩
  | 91 => ⟨S2048x1024, .f32⟩
  | 92 => ⟨S1x1x1024, .f32⟩
  | 93 => ⟨S1x1024, .f32⟩
  | 94 => ⟨S2048x1024, .f32⟩
  | 95 => ⟨S2048x1024, .f32⟩
  | 96 => ⟨S2048x1024, .f32⟩
  | 97 => ⟨S2048x1024, .f32⟩
  | 98 => ⟨S1x1x1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S1x1x1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S1x1x1024, .f32⟩
  | 111 => ⟨S1x1024, .f32⟩
  | 112 => ⟨S2048x1024, .f32⟩
  | 113 => ⟨S2048x1024, .f32⟩
  | 114 => ⟨S2048x1024, .f32⟩
  | 115 => ⟨S2048x1024, .f32⟩
  | 116 => ⟨S1x1x1024, .f32⟩
  | 117 => ⟨S1x1024, .f32⟩
  | 118 => ⟨S2048x1024, .f32⟩
  | 119 => ⟨S2048x1024, .f32⟩
  | 120 => ⟨S2048x1024, .f32⟩
  | 121 => ⟨S2048x1024, .f32⟩
  | 122 => ⟨S1x1x1024, .f32⟩
  | 123 => ⟨S1x1024, .f32⟩
  | 124 => ⟨S2048x1024, .f32⟩
  | 125 => ⟨S2048x1024, .f32⟩
  | 126 => ⟨S2048x1024, .f32⟩
  | 127 => ⟨S2048x1024, .f32⟩
  | _ => ⟨S2048x4096, .f32⟩

abbrev hbmTy0_1 (i : Nat) : BufTy := match i % 128 with
  | 0 => ⟨S1x1x1024, .f32⟩
  | 1 => ⟨S1x1024, .f32⟩
  | 2 => ⟨S2048x1024, .f32⟩
  | 3 => ⟨S2048x1024, .f32⟩
  | 4 => ⟨S2048x1024, .f32⟩
  | 5 => ⟨S2048x1024, .f32⟩
  | 6 => ⟨S1x1x1024, .f32⟩
  | 7 => ⟨S1x1024, .f32⟩
  | 8 => ⟨S2048x1024, .f32⟩
  | 9 => ⟨S2048x1024, .f32⟩
  | 10 => ⟨S2048x1024, .f32⟩
  | 11 => ⟨S2048x1024, .f32⟩
  | 12 => ⟨S1x1x1024, .f32⟩
  | 13 => ⟨S1x1024, .f32⟩
  | 14 => ⟨S2048x1024, .f32⟩
  | 15 => ⟨S2048x1024, .f32⟩
  | 16 => ⟨S2048x1024, .f32⟩
  | 17 => ⟨S2048x1024, .f32⟩
  | 18 => ⟨S1x1x1024, .f32⟩
  | 19 => ⟨S1x1024, .f32⟩
  | 20 => ⟨S2048x1024, .f32⟩
  | 21 => ⟨S2048x1024, .f32⟩
  | 22 => ⟨S2048x1024, .f32⟩
  | 23 => ⟨S2048x1024, .f32⟩
  | 24 => ⟨S1x1x1024, .f32⟩
  | 25 => ⟨S1x1024, .f32⟩
  | 26 => ⟨S2048x1024, .f32⟩
  | 27 => ⟨S2048x1024, .f32⟩
  | 28 => ⟨S2048x1024, .f32⟩
  | 29 => ⟨S2048x1024, .f32⟩
  | 30 => ⟨S1x1x1024, .f32⟩
  | 31 => ⟨S1x1024, .f32⟩
  | 32 => ⟨S2048x1024, .f32⟩
  | 33 => ⟨S2048x1024, .f32⟩
  | 34 => ⟨S2048x1024, .f32⟩
  | 35 => ⟨S2048x1024, .f32⟩
  | 36 => ⟨S1x1x1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S1x1x1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S1x1x1024, .f32⟩
  | 49 => ⟨S1x1024, .f32⟩
  | 50 => ⟨S2048x1024, .f32⟩
  | 51 => ⟨S2048x1024, .f32⟩
  | 52 => ⟨S2048x1024, .f32⟩
  | 53 => ⟨S2048x1024, .f32⟩
  | 54 => ⟨S1x1x1024, .f32⟩
  | 55 => ⟨S1x1024, .f32⟩
  | 56 => ⟨S2048x1024, .f32⟩
  | 57 => ⟨S2048x1024, .f32⟩
  | 58 => ⟨S2048x1024, .f32⟩
  | 59 => ⟨S2048x1024, .f32⟩
  | 60 => ⟨S1x1x1024, .f32⟩
  | 61 => ⟨S1x1024, .f32⟩
  | 62 => ⟨S2048x1024, .f32⟩
  | 63 => ⟨S2048x1024, .f32⟩
  | 64 => ⟨S2048x1024, .f32⟩
  | 65 => ⟨S2048x1024, .f32⟩
  | 66 => ⟨S1x1x1024, .f32⟩
  | 67 => ⟨S1x1024, .f32⟩
  | 68 => ⟨S2048x1024, .f32⟩
  | 69 => ⟨S2048x1024, .f32⟩
  | 70 => ⟨S2048x1024, .f32⟩
  | 71 => ⟨S2048x1024, .f32⟩
  | 72 => ⟨S1x1x1024, .f32⟩
  | 73 => ⟨S1x1024, .f32⟩
  | 74 => ⟨S2048x1024, .f32⟩
  | 75 => ⟨S2048x1024, .f32⟩
  | 76 => ⟨S2048x1024, .f32⟩
  | 77 => ⟨S2048x1024, .f32⟩
  | 78 => ⟨S1x1x1024, .f32⟩
  | 79 => ⟨S1x1024, .f32⟩
  | 80 => ⟨S2048x1024, .f32⟩
  | 81 => ⟨S2048x1024, .f32⟩
  | 82 => ⟨S2048x1024, .f32⟩
  | 83 => ⟨S2048x1024, .f32⟩
  | 84 => ⟨S1x1x1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S_, .f32⟩
  | 94 => ⟨S2078x1024, .f32⟩
  | 95 => ⟨S2048x1024, .f32⟩
  | 96 => ⟨S2048x1024, .f32⟩
  | 97 => ⟨S_, .f32⟩
  | 98 => ⟨S2078x1024, .f32⟩
  | 99 => ⟨S2078x1024, .f32⟩
  | 100 => ⟨S2048x1024, .f32⟩
  | 101 => ⟨S2048x1024, .f32⟩
  | 102 => ⟨S_, .f32⟩
  | 103 => ⟨S2078x1024, .f32⟩
  | 104 => ⟨S2078x1024, .f32⟩
  | 105 => ⟨S2048x1024, .f32⟩
  | 106 => ⟨S2048x1024, .f32⟩
  | 107 => ⟨S_, .f32⟩
  | 108 => ⟨S2078x1024, .f32⟩
  | 109 => ⟨S2078x1024, .f32⟩
  | 110 => ⟨S2048x1024, .f32⟩
  | 111 => ⟨S2048x1024, .f32⟩
  | 112 => ⟨S_, .f32⟩
  | 113 => ⟨S2078x1024, .f32⟩
  | 114 => ⟨S2078x1024, .f32⟩
  | 115 => ⟨S2048x1024, .f32⟩
  | 116 => ⟨S2048x1024, .f32⟩
  | 117 => ⟨S_, .f32⟩
  | 118 => ⟨S2078x1024, .f32⟩
  | 119 => ⟨S2078x1024, .f32⟩
  | 120 => ⟨S2048x1024, .f32⟩
  | 121 => ⟨S2048x1024, .f32⟩
  | 122 => ⟨S_, .f32⟩
  | 123 => ⟨S2078x1024, .f32⟩
  | 124 => ⟨S2078x1024, .f32⟩
  | 125 => ⟨S2048x1024, .f32⟩
  | 126 => ⟨S2048x1024, .f32⟩
  | 127 => ⟨S_, .f32⟩
  | _ => ⟨S2048x4096, .f32⟩

abbrev hbmTy0_2 (i : Nat) : BufTy := match i % 128 with
  | 0 => ⟨S2078x1024, .f32⟩
  | 1 => ⟨S2078x1024, .f32⟩
  | 2 => ⟨S2048x1024, .f32⟩
  | 3 => ⟨S2048x1024, .f32⟩
  | 4 => ⟨S_, .f32⟩
  | 5 => ⟨S2078x1024, .f32⟩
  | 6 => ⟨S2078x1024, .f32⟩
  | 7 => ⟨S2048x1024, .f32⟩
  | 8 => ⟨S2048x1024, .f32⟩
  | 9 => ⟨S_, .f32⟩
  | 10 => ⟨S2078x1024, .f32⟩
  | 11 => ⟨S2078x1024, .f32⟩
  | 12 => ⟨S2048x1024, .f32⟩
  | 13 => ⟨S2048x1024, .f32⟩
  | 14 => ⟨S_, .f32⟩
  | 15 => ⟨S2078x1024, .f32⟩
  | 16 => ⟨S2078x1024, .f32⟩
  | 17 => ⟨S2048x1024, .f32⟩
  | 18 => ⟨S2048x1024, .f32⟩
  | 19 => ⟨S_, .f32⟩
  | 20 => ⟨S2078x1024, .f32⟩
  | 21 => ⟨S2078x1024, .f32⟩
  | 22 => ⟨S2048x1024, .f32⟩
  | 23 => ⟨S2048x1024, .f32⟩
  | 24 => ⟨S_, .f32⟩
  | 25 => ⟨S2078x1024, .f32⟩
  | 26 => ⟨S2078x1024, .f32⟩
  | 27 => ⟨S2048x1024, .f32⟩
  | 28 => ⟨S2048x1024, .f32⟩
  | 29 => ⟨S_, .f32⟩
  | 30 => ⟨S2078x1024, .f32⟩
  | 31 => ⟨S2078x1024, .f32⟩
  | 32 => ⟨S2048x1024, .f32⟩
  | 33 => ⟨S2048x1024, .f32⟩
  | 34 => ⟨S_, .f32⟩
  | 35 => ⟨S2078x1024, .f32⟩
  | 36 => ⟨S2078x1024, .f32⟩
  | 37 => ⟨S2048x1024, .f32⟩
  | 38 => ⟨S2048x1024, .f32⟩
  | 39 => ⟨S_, .f32⟩
  | 40 => ⟨S2078x1024, .f32⟩
  | 41 => ⟨S2078x1024, .f32⟩
  | 42 => ⟨S2048x1024, .f32⟩
  | 43 => ⟨S2048x1024, .f32⟩
  | 44 => ⟨S_, .f32⟩
  | 45 => ⟨S2078x1024, .f32⟩
  | 46 => ⟨S2078x1024, .f32⟩
  | 47 => ⟨S2048x1024, .f32⟩
  | 48 => ⟨S2048x1024, .f32⟩
  | 49 => ⟨S_, .f32⟩
  | 50 => ⟨S2078x1024, .f32⟩
  | 51 => ⟨S2078x1024, .f32⟩
  | 52 => ⟨S2048x1024, .f32⟩
  | 53 => ⟨S2048x1024, .f32⟩
  | 54 => ⟨S_, .f32⟩
  | 55 => ⟨S2078x1024, .f32⟩
  | 56 => ⟨S2078x1024, .f32⟩
  | 57 => ⟨S2048x1024, .f32⟩
  | 58 => ⟨S2048x1024, .f32⟩
  | 59 => ⟨S_, .f32⟩
  | 60 => ⟨S2078x1024, .f32⟩
  | 61 => ⟨S2078x1024, .f32⟩
  | 62 => ⟨S2048x1024, .f32⟩
  | 63 => ⟨S2048x1024, .f32⟩
  | 64 => ⟨S_, .f32⟩
  | 65 => ⟨S2078x1024, .f32⟩
  | 66 => ⟨S2078x1024, .f32⟩
  | 67 => ⟨S2048x1024, .f32⟩
  | 68 => ⟨S2048x1024, .f32⟩
  | 69 => ⟨S_, .f32⟩
  | 70 => ⟨S2078x1024, .f32⟩
  | 71 => ⟨S2078x1024, .f32⟩
  | 72 => ⟨S2048x1024, .f32⟩
  | 73 => ⟨S2048x1024, .f32⟩
  | 74 => ⟨S_, .f32⟩
  | 75 => ⟨S2078x1024, .f32⟩
  | 76 => ⟨S2078x1024, .f32⟩
  | 77 => ⟨S2048x1024, .f32⟩
  | 78 => ⟨S2048x1024, .f32⟩
  | 79 => ⟨S_, .f32⟩
  | 80 => ⟨S2078x1024, .f32⟩
  | 81 => ⟨S2078x1024, .f32⟩
  | 82 => ⟨S2048x1024, .f32⟩
  | 83 => ⟨S2048x1024, .f32⟩
  | 84 => ⟨S_, .f32⟩
  | 85 => ⟨S2078x1024, .f32⟩
  | 86 => ⟨S2078x1024, .f32⟩
  | 87 => ⟨S2048x1024, .f32⟩
  | 88 => ⟨S2048x1024, .f32⟩
  | 89 => ⟨S_, .f32⟩
  | 90 => ⟨S2078x1024, .f32⟩
  | 91 => ⟨S2078x1024, .f32⟩
  | 92 => ⟨S2048x1024, .f32⟩
  | 93 => ⟨S2048x1024, .f32⟩
  | 94 => ⟨S_, .f32⟩
  | 95 => ⟨S2078x1024, .f32⟩
  | 96 => ⟨S2078x1024, .f32⟩
  | 97 => ⟨S2048x1024, .f32⟩
  | 98 => ⟨S2048x1024, .f32⟩
  | 99 => ⟨S_, .f32⟩
  | 100 => ⟨S2078x1024, .f32⟩
  | 101 => ⟨S2078x1024, .f32⟩
  | 102 => ⟨S2048x1024, .f32⟩
  | 103 => ⟨S2048x1024, .f32⟩
  | 104 => ⟨S_, .f32⟩
  | 105 => ⟨S2078x1024, .f32⟩
  | 106 => ⟨S2078x1024, .f32⟩
  | 107 => ⟨S2048x1024, .f32⟩
  | 108 => ⟨S2048x1024, .f32⟩
  | 109 => ⟨S_, .f32⟩
  | 110 => ⟨S2078x1024, .f32⟩
  | 111 => ⟨S2078x1024, .f32⟩
  | 112 => ⟨S2048x1024, .f32⟩
  | 113 => ⟨S2048x1024, .f32⟩
  | 114 => ⟨S_, .f32⟩
  | 115 => ⟨S2078x1024, .f32⟩
  | 116 => ⟨S2078x1024, .f32⟩
  | 117 => ⟨S30x1024, .f32⟩
  | 118 => ⟨S2048x1024, .f32⟩
  | 119 => ⟨S2048x1024, .f32⟩
  | 120 => ⟨S2048x1024, .f32⟩
  | 121 => ⟨S2048x1024, .f32⟩
  | 122 => ⟨S_, .f32⟩
  | 123 => ⟨S2048x4096, .f32⟩
  | 124 => ⟨S_, .f32⟩
  | 125 => ⟨S2048x4096, .f32⟩
  | 126 => ⟨S2048x4096, .f32⟩
  | 127 => ⟨S_, .f32⟩
  | _ => ⟨S2048x4096, .f32⟩

abbrev hbmTy0_3 (i : Nat) : BufTy := match i % 128 with
  | 0 => ⟨S2048x4096, .f32⟩
  | 1 => ⟨S2048x4096, .f32⟩
  | 2 => ⟨S_, .f32⟩
  | 3 => ⟨S4096, .f32⟩
  | 4 => ⟨S1x4096, .f32⟩
  | 5 => ⟨S_, .f32⟩
  | 6 => ⟨S4096, .f32⟩
  | 7 => ⟨S2048x4096, .bf16⟩
  | 8 => ⟨S1x4096, .f32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_cst_5 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_cst_6 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_cst_7 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_cst_8 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_cst_9 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_cst_10 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_cst_11 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_cst_12 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_cst_13 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_cst_14 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_cst_15 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_cst_16 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_cst_17 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_cst_18 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_cst_19 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_cst_20 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_cst_21 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_cst_22 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_cst_23 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_cst_24 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_cst_25 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_cst_26 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_cst_27 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_cst_28 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_cst_29 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_30 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_31 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_cst_32 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_cst_33 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_cst_34 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_cst_35 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_cst_36 : Ref sig .tc := ⟨.hbm, 378, rfl⟩
abbrev main_v336 : Ref sig .tc := ⟨.hbm, 379, rfl⟩
abbrev main_cst_37 : Ref sig .tc := ⟨.hbm, 380, rfl⟩
abbrev main_v337 : Ref sig .tc := ⟨.hbm, 381, rfl⟩
abbrev main_v338 : Ref sig .tc := ⟨.hbm, 382, rfl⟩
abbrev main_cst_38 : Ref sig .tc := ⟨.hbm, 383, rfl⟩
abbrev main_v339 : Ref sig .tc := ⟨.hbm, 384, rfl⟩
abbrev main_v340 : Ref sig .tc := ⟨.hbm, 385, rfl⟩
abbrev main_cst_39 : Ref sig .tc := ⟨.hbm, 386, rfl⟩
abbrev main_v341 : Ref sig .tc := ⟨.hbm, 387, rfl⟩
abbrev main_v342 : Ref sig .tc := ⟨.hbm, 388, rfl⟩
abbrev main_cst_40 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩

abbrev nD : Nat := 1
abbrev τ : Topo := Topo.v7x

variable {F : FTy → Type} [FloatOps F]
-- ==== MixBwd.lean ====
abbrev S2048x4096 : Shape := ⟨2, ![2048, 4096]⟩
abbrev S4096 : Shape := ⟨1, ![4096]⟩
abbrev S2048x2048 : Shape := ⟨2, ![2048, 2048]⟩
abbrev S8x128x128 : Shape := ⟨3, ![8, 128, 128]⟩
abbrev S8x128 : Shape := ⟨2, ![8, 128]⟩
abbrev S1024 : Shape := ⟨1, ![1024]⟩
abbrev S31x1x1024 : Shape := ⟨3, ![31, 1, 1024]⟩
abbrev S1x4096 : Shape := ⟨2, ![1, 4096]⟩
abbrev S31x1024 : Shape := ⟨2, ![31, 1024]⟩
abbrev S128x8 : Shape := ⟨2, ![128, 8]⟩
abbrev S128x8x128 : Shape := ⟨3, ![128, 8, 128]⟩
abbrev S128x1024 : Shape := ⟨2, ![128, 1024]⟩
abbrev S_ : Shape := ⟨0, ![]⟩
abbrev S32x1024 : Shape := ⟨2, ![32, 1024]⟩
abbrev S1x1024 : Shape := ⟨2, ![1, 1024]⟩
abbrev S2048x1024 : Shape := ⟨2, ![2048, 1024]⟩
abbrev S1x2048 : Shape := ⟨2, ![1, 2048]⟩
abbrev S256x4096 : Shape := ⟨2, ![256, 4096]⟩
abbrev S32x4096 : Shape := ⟨2, ![32, 4096]⟩
abbrev S256x2048 : Shape := ⟨2, ![256, 2048]⟩
abbrev S256x1024 : Shape := ⟨2, ![256, 1024]⟩
abbrev S128x128 : Shape := ⟨2, ![128, 128]⟩
abbrev S256 : Shape := ⟨1, ![256]⟩
abbrev S256x1 : Shape := ⟨2, ![256, 1]⟩
abbrev S1x128x128 : Shape := ⟨3, ![1, 128, 128]⟩
abbrev S288x1024 : Shape := ⟨2, ![288, 1024]⟩
abbrev S32x1 : Shape := ⟨2, ![32, 1]⟩
abbrev S2048 : Shape := ⟨1, ![2048]⟩

abbrev nBuf : Space → Nat
  | .hbm => 38
  | .vmem => 29
  | .smem => 0
  | _ => 0

abbrev bufTy : (tb : Table) → Fin (tcTables nBuf tb) → BufTy
  | .hbm, ⟨0, _⟩ => ⟨S2048x4096, .f32⟩
  | .hbm, ⟨1, _⟩ => ⟨S4096, .f32⟩
  | .hbm, ⟨2, _⟩ => ⟨S2048x2048, .f32⟩
  | .hbm, ⟨3, _⟩ => ⟨S2048x2048, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S1024, .f32⟩
  | .hbm, ⟨8, _⟩ => ⟨S31x1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x4096, .f32⟩
  | .hbm, ⟨13, _⟩ => ⟨S2048x4096, .f32⟩
  | .hbm, ⟨14, _⟩ => ⟨S2048x4096, .f32⟩
  | .hbm, ⟨15, _⟩ => ⟨S31x1024, .f32⟩
  | .hbm, ⟨16, _⟩ => ⟨S128x8, .f32⟩
  | .hbm, ⟨17, _⟩ => ⟨S128x8x128, .f32⟩
  | .hbm, ⟨18, _⟩ => ⟨S128x1024, .f32⟩
  | .hbm, ⟨19, _⟩ => ⟨S_, .i32⟩
  | .hbm, ⟨20, _⟩ => ⟨S_, .f32⟩
  | .hbm, ⟨21, _⟩ => ⟨S32x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S2048x2048, .f32⟩
  | .hbm, ⟨28, _⟩ => ⟨S2048x1024, .f32⟩
  | .hbm, ⟨29, _⟩ => ⟨S8x128x128, .f32⟩
  | .hbm, ⟨30, _⟩ => ⟨S128x1024, .f32⟩
  | .hbm, ⟨31, _⟩ => ⟨S1x1024, .f32⟩
  | .hbm, ⟨32, _⟩ => ⟨S1x1024, .f32⟩
  | .hbm, ⟨33, _⟩ => ⟨S32x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x2048, .f32⟩
  | .local _ .vmem, ⟨0, _⟩ => ⟨S256x4096, .f32⟩
  | .local _ .vmem, ⟨1, _⟩ => ⟨S256x4096, .f32⟩
  | .local _ .vmem, ⟨2, _⟩ => ⟨S32x4096, .f32⟩
  | .local _ .vmem, ⟨3, _⟩ => ⟨S32x4096, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128x128, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S32x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x2048, .f32⟩
  | .local _ .vmem, ⟨17, _⟩ => ⟨S256x2048, .f32⟩
  | .local _ .vmem, ⟨18, _⟩ => ⟨S256x1024, .f32⟩
  | .local _ .vmem, ⟨19, _⟩ => ⟨S256x1024, .f32⟩
  | .local _ .vmem, ⟨20, _⟩ => ⟨S8x128x128, .f32⟩
  | .local _ .vmem, ⟨21, _⟩ => ⟨S128x1024, .f32⟩
  | .local _ .vmem, ⟨22, _⟩ => ⟨S1x1024, .f32⟩
  | .local _ .vmem, ⟨23, _⟩ => ⟨S1x1024, .f32⟩
  | .local _ .vmem, ⟨24, _⟩ => ⟨S32x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v13_5 : Ref sig .tc := ⟨.hbm, 32, rfl⟩
abbrev main_v13_6 : Ref sig .tc := ⟨.hbm, 33, rfl⟩
abbrev main_v13_7 : Ref sig .tc := ⟨.hbm, 34, rfl⟩
abbrev main_v13_8 : Ref sig .tc := ⟨.hbm, 35, rfl⟩
abbrev main_v13_9 : Ref sig .tc := ⟨.hbm, 36, rfl⟩
abbrev main_v13_10 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_373 : BitVec 32 := 0#32
  let v1195 : BitVec 1 := Scalar.cmpi .eq arg0 c0_i32_373
  let v1196 : BitVec 32 := Scalar.extui v1195
  let c0_i32_374 : BitVec 32 := 0#32
  let v1197 : BitVec 1 := Scalar.cmpi .ne v1196 c0_i32_374
  v1197

def k0_cond2 (i : grid0.Coords) : BitVec 1 :=
  let arg0 : BitVec 32 := BitVec.ofNat 32 (i 0).val
  let c0_i32_375 : BitVec 32 := 0#32
  let v1198 : BitVec 1 := Scalar.cmpi .sgt arg0 c0_i32_375
  let v1199 : BitVec 32 := Scalar.extui v1198
  let c0_i32_376 : BitVec 32 := 0#32
  let v1200 : BitVec 1 := Scalar.cmpi .ne v1199 c0_i32_376
  v1200

def k0_cond3 (i : grid0.Coords) : BitVec 1 :=
  let arg0 : BitVec 32 := BitVec.ofNat 32 (i 0).val
  let c0_i32_377 : BitVec 32 := 0#32
  let v1201 : BitVec 1 := Scalar.cmpi .eq arg0 c0_i32_377
  let v1202 : BitVec 32 := Scalar.extui v1201
  let c0_i32_378 : BitVec 32 := 0#32
  let v1203 : BitVec 1 := Scalar.cmpi .ne v1202 c0_i32_378
  v1203

def k0_cond4 (i : grid0.Coords) : BitVec 1 :=
  let arg0 : BitVec 32 := BitVec.ofNat 32 (i 0).val
  let c0_i32_379 : BitVec 32 := 0#32
  let v1204 : BitVec 1 := Scalar.cmpi .sgt arg0 c0_i32_379
  let v1205 : BitVec 32 := Scalar.extui v1204
  let c0_i32_380 : BitVec 32 := 0#32
  let v1206 : BitVec 1 := Scalar.cmpi .ne v1205 c0_i32_380
  v1206

def k0_cond5 (i : grid0.Coords) : BitVec 1 :=
  let arg0 : BitVec 32 := BitVec.ofNat 32 (i 0).val
  let c0_i32_381 : BitVec 32 := 0#32
  let v1207 : BitVec 1 := Scalar.cmpi .eq arg0 c0_i32_381
  let v1208 : BitVec 32 := Scalar.extui v1207
  let c0_i32_382 : BitVec 32 := 0#32
  let v1209 : BitVec 1 := Scalar.cmpi .ne v1208 c0_i32_382
  v1209

def k0_cond6 (i : grid0.Coords) : BitVec 1 :=
  let arg0 : BitVec 32 := BitVec.ofNat 32 (i 0).val
  let c0_i32_383 : BitVec 32 := 0#32
  let v1210 : BitVec 1 := Scalar.cmpi .sgt arg0 c0_i32_383
  let v1211 : BitVec 32 := Scalar.extui v1210
  let c0_i32_384 : BitVec 32 := 0#32
  let v1212 : BitVec 1 := Scalar.cmpi .ne v1211 c0_i32_384
  v1212

def k0_cond7 (i : grid0.Coords) : BitVec 1 :=
  let arg0 : BitVec 32 := BitVec.ofNat 32 (i 0).val
  let c0_i32_385 : BitVec 32 := 0#32
  let v1213 : BitVec 1 := Scalar.cmpi .eq arg0 c0_i32_385
  let v1214 : BitVec 32 := Scalar.extui v1213
  let c0_i32_386 : BitVec 32 := 0#32
  let v1215 : BitVec 1 := Scalar.cmpi .ne v1214 c0_i32_386
  v1215

def k0_cond8 (i : grid0.Coords) : BitVec 1 :=
  let arg0 : BitVec 32 := BitVec.ofNat 32 (i 0).val
  let c0_i32_387 : BitVec 32 := 0#32
  let v1216 : BitVec 1 := Scalar.cmpi .sgt arg0 c0_i32_387
  let v1217 : BitVec 32 := Scalar.extui v1216
  let c0_i32_388 : BitVec 32 := 0#32
  let v1218 : BitVec 1 := Scalar.cmpi .ne v1217 c0_i32_388
  v1218

def k0_cond9 (i : grid0.Coords) : BitVec 1 :=
  let arg0 : BitVec 32 := BitVec.ofNat 32 (i 0).val
  let c0_i32_389 : BitVec 32 := 0#32
  let v1219 : BitVec 1 := Scalar.cmpi .eq arg0 c0_i32_389
  let v1220 : BitVec 32 := Scalar.extui v1219
  let c0_i32_390 : BitVec 32 := 0#32
  let v1221 : BitVec 1 := Scalar.cmpi .ne v1220 c0_i32_390
  v1221

def k0_cond10 (i : grid0.Coords) : BitVec 1 :=
  let arg0 : BitVec 32 := BitVec.ofNat 32 (i 0).val
  let c0_i32_391 : BitVec 32 := 0#32
  let v1222 : BitVec 1 := Scalar.cmpi .sgt arg0 c0_i32_391
  let v1223 : BitVec 32 := Scalar.extui v1222
  let c0_i32_392 : BitVec 32 := 0#32
  let v1224 : BitVec 1 := Scalar.cmpi .ne v1223 c0_i32_392
  v1224

def k0_cond11 (i : grid0.Coords) : BitVec 1 :=
  let arg0 : BitVec 32 := BitVec.ofNat 32 (i 0).val
  let c0_i32_393 : BitVec 32 := 0#32
  let v1225 : BitVec 1 := Scalar.cmpi .eq arg0 c0_i32_393
  let v1226 : BitVec 32 := Scalar.extui v1225
  let c0_i32_394 : BitVec 32 := 0#32
  let v1227 : BitVec 1 := Scalar.cmpi .ne v1226 c0_i32_394
  v1227

def k0_cond12 (i : grid0.Coords) : BitVec 1 :=
  let arg0 : BitVec 32 := BitVec.ofNat 32 (i 0).val
  let c0_i32_395 : BitVec 32 := 0#32
  let v1228 : BitVec 1 := Scalar.cmpi .sgt arg0 c0_i32_395
  let v1229 : BitVec 32 := Scalar.extui v1228
  let c0_i32_396 : BitVec 32 := 0#32
  let v1230 : BitVec 1 := Scalar.cmpi .ne v1229 c0_i32_396
  v1230

def k0_cond13 (i : grid0.Coords) : BitVec 1 :=
  let arg0 : BitVec 32 := BitVec.ofNat 32 (i 0).val
  let c0_i32_397 : BitVec 32 := 0#32
  let v1231 : BitVec 1 := Scalar.cmpi .eq arg0 c0_i32_397
  let v1232 : BitVec 32 := Scalar.extui v1231
  let c0_i32_398 : BitVec 32 := 0#32
  let v1233 : BitVec 1 := Scalar.cmpi .ne v1232 c0_i32_398
  v1233

def k0_cond14 (i : grid0.Coords) : BitVec 1 :=
  let arg0 : BitVec 32 := BitVec.ofNat 32 (i 0).val
  let c0_i32_399 : BitVec 32 := 0#32
  let v1234 : BitVec 1 := Scalar.cmpi .sgt arg0 c0_i32_399
  let v1235 : BitVec 32 := Scalar.extui v1234
  let c0_i32_400 : BitVec 32 := 0#32
  let v1236 : BitVec 1 := Scalar.cmpi .ne v1235 c0_i32_400
  v1236

def k0_cond15 (i : grid0.Coords) : BitVec 1 :=
  let arg0 : BitVec 32 := BitVec.ofNat 32 (i 0).val
  let c0_i32_401 : BitVec 32 := 0#32
  let v1237 : BitVec 1 := Scalar.cmpi .eq arg0 c0_i32_401
  let v1238 : BitVec 32 := Scalar.extui v1237
  let c0_i32_402 : BitVec 32 := 0#32
  let v1239 : BitVec 1 := Scalar.cmpi .ne v1238 c0_i32_402
  v1239

def k0_cond16 (i : grid0.Coords) : BitVec 1 :=
  let arg0 : BitVec 32 := BitVec.ofNat 32 (i 0).val
  let c0_i32_403 : BitVec 32 := 0#32
  let v1240 : BitVec 1 := Scalar.cmpi .sgt arg0 c0_i32_403
  let v1241 : BitVec 32 := Scalar.extui v1240
  let c0_i32_404 : BitVec 32 := 0#32
  let v1242 : BitVec 1 := Scalar.cmpi .ne v1241 c0_i32_404
  v1242

def k0_cond17 (i : grid0.Coords) : BitVec 1 :=
  let arg0 : BitVec 32 := BitVec.ofNat 32 (i 0).val
  let c0_i32_405 : BitVec 32 := 0#32
  let v1243 : BitVec 1 := Scalar.cmpi .eq arg0 c0_i32_405
  let v1244 : BitVec 32 := Scalar.extui v1243
  let c0_i32_406 : BitVec 32 := 0#32
  let v1245 : BitVec 1 := Scalar.cmpi .ne v1244 c0_i32_406
  v1245

def k0_cond18 (i : grid0.Coords) : BitVec 1 :=
  let arg0 : BitVec 32 := BitVec.ofNat 32 (i 0).val
  let c0_i32_407 : BitVec 32 := 0#32
  let v1246 : BitVec 1 := Scalar.cmpi .sgt arg0 c0_i32_407
  let v1247 : BitVec 32 := Scalar.extui v1246
  let c0_i32_408 : BitVec 32 := 0#32
  let v1248 : BitVec 1 := Scalar.cmpi .ne v1247 c0_i32_408
  v1248

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixRefIdeal.lean ====
abbrev S2048x4096 : Shape := ⟨2, ![2048, 4096]⟩
abbrev S4096 : Shape := ⟨1, ![4096]⟩
abbrev S2048x2048 : Shape := ⟨2, ![2048, 2048]⟩
abbrev S8x128x128 : Shape := ⟨3, ![8, 128, 128]⟩
abbrev S8x128 : Shape := ⟨2, ![8, 128]⟩
abbrev S1024 : Shape := ⟨1, ![1024]⟩
abbrev S31x1x1024 : Shape := ⟨3, ![31, 1, 1024]⟩
abbrev S1x4096 : Shape := ⟨2, ![1, 4096]⟩
abbrev S2048x1024 : Shape := ⟨2, ![2048, 1024]⟩
abbrev S128x8 : Shape := ⟨2, ![128, 8]⟩
abbrev S128x8x1 : Shape := ⟨3, ![128, 8, 1]⟩
abbrev S128x8x128 : Shape := ⟨3, ![128, 8, 128]⟩
abbrev S128x1024 : Shape := ⟨2, ![128, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x128x8x128 : Shape := ⟨4, ![16, 128, 8, 128]⟩
abbrev S8x16x128x128 : Shape := ⟨4, ![8, 16, 128, 128]⟩
abbrev S1x128x8x128 : Shape := ⟨4, ![1, 128, 8, 128]⟩
abbrev S30x1024 : Shape := ⟨2, ![30, 1024]⟩
abbrev S2078x1024 : Shape := ⟨2, ![2078, 1024]⟩
abbrev S1x1x1024 : Shape := ⟨3, ![1, 1, 1024]⟩
abbrev S1x2048 : Shape := ⟨2, ![1, 2048]⟩
abbrev S31x1024 : Shape := ⟨2, ![31, 1024]⟩
abbrev S32x1024 : Shape := ⟨2, ![32, 1024]⟩

abbrev nBuf : Space → Nat
  | .hbm => 822
  | .vmem => 0
  | .smem => 0
  | _ => 0

abbrev hbmTy0_0 (i : Nat) : BufTy := match i % 128 with
  | 0 => ⟨S2048x4096, .f32⟩
  | 1 => ⟨S4096, .f32⟩
  | 2 => ⟨S2048x2048, .f32⟩
  | 3 => ⟨S2048x2048, .f32⟩
  | 4 => ⟨S8x128x128, .f32⟩
  | 5 => ⟨S8x128, .f32⟩
  | 6 => ⟨S1024, .f32⟩
  | 7 => ⟨S1024, .f32⟩
  | 8 => ⟨S31x1x1024, .f32⟩
  | 9 => ⟨S1024, .f32⟩
  | 10 => ⟨S1024, .f32⟩
  | 11 => ⟨S1024, .f32⟩
  | 12 => ⟨S1x4096, .f32⟩
  | 13 => ⟨S2048x4096, .f32⟩
  | 14 => ⟨S2048x4096, .f32⟩
  | 15 => ⟨S2048x1024, .f32⟩
  | 16 => ⟨S2048x1024, .f32⟩
  | 17 => ⟨S2048x1024, .f32⟩
  | 18 => ⟨S2048x1024, .f32⟩
  | 19 => ⟨S128x8, .f32⟩
  | 20 => ⟨S128x8x1, .f32⟩
  | 21 => ⟨S128x8x128, .f32⟩
  | 22 => ⟨S128x1024, .f32⟩
  | 23 => ⟨S2048x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S_, .f32⟩
  | 41 => ⟨S2048x1024, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S_, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S_, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S2048x1024, .f32⟩
  | 79 => ⟨S_, .f32⟩
  | 80 => ⟨S2048, .f32⟩
  | 81 => ⟨S2048x1, .f32⟩
  | 82 => ⟨S_, .f32⟩
  | 83 => ⟨S2048x1, .f32⟩
  | 84 => ⟨S2048x1, .f32⟩
  | 85 => ⟨S2048x1024, .f32⟩
  | 86 => ⟨S2048x1024, .f32⟩
  | 87 => ⟨S2048x1024, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S2048x1024, .f32⟩
  | 103 => ⟨S2048x1024, .f32⟩
  | 104 => ⟨S1x1024, .f32⟩
  | 105 => ⟨S2048x1024, .f32⟩
  | 106 => ⟨S2048x1024, .f32⟩
  | 107 => ⟨S1x1024, .f32⟩
  | 108 => ⟨S2048x1024, .f32⟩
  | 109 => ⟨S2048x1024, .f32⟩
  | 110 => ⟨S128, .i32⟩
  | 111 => ⟨S1x128, .i32⟩
  | 112 => ⟨S_, .i32⟩
  | 113 => ⟨S_, .i32⟩
  | 114 => ⟨S1x128, .i32⟩
  | 115 => ⟨S1x128, .i32⟩
  | 116 => ⟨S1x128, .i32⟩
  | 117 => ⟨S_, .i32⟩
  | 118 => ⟨S1x128, .i32⟩
  | 119 => ⟨S1x128, .i1⟩
  | 120 => ⟨S1x128, .i32⟩
  | 121 => ⟨S1x128, .i32⟩
  | 122 => ⟨S_, .i32⟩
  | 123 => ⟨S1x128, .i32⟩
  | 124 => ⟨S1x128, .i1⟩
  | 125 => ⟨S1x128, .i1⟩
  | 126 => ⟨S_, .i32⟩
  | 127 => ⟨S1x128, .i32⟩
  | _ => ⟨S2048x4096, .f32⟩

abbrev hbmTy0_1 (i : Nat) : BufTy := match i % 128 with
  | 0 => ⟨S1x128, .i32⟩
  | 1 => ⟨S1x128, .i32⟩
  | 2 => ⟨S128x1, .i32⟩
  | 3 => ⟨S_, .i32⟩
  | 4 => ⟨S_, .i32⟩
  | 5 => ⟨S128x1, .i32⟩
  | 6 => ⟨S128x1, .i32⟩
  | 7 => ⟨S128x1, .i32⟩
  | 8 => ⟨S_, .i32⟩
  | 9 => ⟨S128x1, .i32⟩
  | 10 => ⟨S128x1, .i1⟩
  | 11 => ⟨S128x1, .i32⟩
  | 12 => ⟨S128x1, .i32⟩
  | 13 => ⟨S_, .i32⟩
  | 14 => ⟨S128x1, .i32⟩
  | 15 => ⟨S128x1, .i1⟩
  | 16 => ⟨S128x1, .i1⟩
  | 17 => ⟨S_, .i32⟩
  | 18 => ⟨S128x1, .i32⟩
  | 19 => ⟨S128x1, .i32⟩
  | 20 => ⟨S128x1, .i32⟩
  | 21 => ⟨S128x128, .i32⟩
  | 22 => ⟨S128x128, .i32⟩
  | 23 => ⟨S128x128, .i1⟩
  | 24 => ⟨S1x128x128, .i1⟩
  | 25 => ⟨S_, .f32⟩
  | 26 => ⟨S8x128x128, .f32⟩
  | 27 => ⟨S8x128x128, .i1⟩
  | 28 => ⟨S8x128x128, .f32⟩
  | 29 => ⟨S_, .f32⟩
  | 30 => ⟨S8x128x128, .f32⟩
  | 31 => ⟨S16x128x8x128, .f32⟩
  | 32 => ⟨S8x16x128x128, .f32⟩
  | 33 => ⟨S16x128x8x128, .f32⟩
  | 34 => ⟨S1x128x8x128, .f32⟩
  | 35 => ⟨S16x128x8x128, .f32⟩
  | 36 => ⟨S16x128x8x128, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S16x128x8x128, .f32⟩
  | 43 => ⟨S_, .f32⟩
  | 44 => ⟨S128x8x128, .f32⟩
  | 45 => ⟨S1x128x8x128, .f32⟩
  | 46 => ⟨S128x1024, .f32⟩
  | 47 => ⟨S8x16x128x128, .f32⟩
  | 48 => ⟨S8x128x128, .f32⟩
  | 49 => ⟨S8x16x128x128, .f32⟩
  | 50 => ⟨S16x128x8x128, .f32⟩
  | 51 => ⟨S2048x1024, .f32⟩
  | 52 => ⟨S_, .f32⟩
  | 53 => ⟨S8x128x128, .f32⟩
  | 54 => ⟨S8x128x128, .f32⟩
  | 55 => ⟨S_, .f32⟩
  | 56 => ⟨S1024, .f32⟩
  | 57 => ⟨S1x1024, .f32⟩
  | 58 => ⟨S_, .f32⟩
  | 59 => ⟨S1024, .f32⟩
  | 60 => ⟨S2048x1024, .f32⟩
  | 61 => ⟨S_, .f32⟩
  | 62 => ⟨S1024, .f32⟩
  | 63 => ⟨S1x1024, .f32⟩
  | 64 => ⟨S2048x1024, .f32⟩
  | 65 => ⟨S2048x1024, .f32⟩
  | 66 => ⟨S_, .f32⟩
  | 67 => ⟨S1024, .f32⟩
  | 68 => ⟨S2048x1024, .f32⟩
  | 69 => ⟨S_, .f32⟩
  | 70 => ⟨S2048, .f32⟩
  | 71 => ⟨S2048x1, .f32⟩
  | 72 => ⟨S2048x1024, .f32⟩
  | 73 => ⟨S2048x1024, .f32⟩
  | 74 => ⟨S2048x1, .f32⟩
  | 75 => ⟨S_, .f32⟩
  | 76 => ⟨S2048x1, .f32⟩
  | 77 => ⟨S2048x1, .f32⟩
  | 78 => ⟨S_, .f32⟩
  | 79 => ⟨S2048, .f32⟩
  | 80 => ⟨S2048x1024, .f32⟩
  | 81 => ⟨S2048x1024, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S_, .f32⟩
  | 93 => ⟨S2048, .f32⟩
  | 94 => ⟨S2048x1024, .f32⟩
  | 95 => ⟨S2048x1024, .f32⟩
  | 96 => ⟨S2048x1024, .f32⟩
  | 97 => ⟨S2048x1024, .f32⟩
  | 98 => ⟨S_, .f32⟩
  | 99 => ⟨S2048x1024, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S2048x1024, .f32⟩
  | 115 => ⟨S2048x1024, .f32⟩
  | 116 => ⟨S2048x1024, .f32⟩
  | 117 => ⟨S_, .f32⟩
  | 118 => ⟨S2048x1024, .f32⟩
  | 119 => ⟨S2048x1024, .f32⟩
  | 120 => ⟨S2048x1024, .f32⟩
  | 121 => ⟨S_, .f32⟩
  | 122 => ⟨S2048x1024, .f32⟩
  | 123 => ⟨S2048x1024, .f32⟩
  | 124 => ⟨S2048x1024, .f32⟩
  | 125 => ⟨S2048x1024, .f32⟩
  | 126 => ⟨S_, .f32⟩
  | 127 => ⟨S30x1024, .f32⟩
  | _ => ⟨S2048x4096, .f32⟩

abbrev hbmTy0_2 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S_, .f32⟩
  | 6 => ⟨S2048x1024, .f32⟩
  | 7 => ⟨S2048x1024, .f32⟩
  | 8 => ⟨S2048x1024, .f32⟩
  | 9 => ⟨S2078x1024, .f32⟩
  | 10 => ⟨S2048x1024, .f32⟩
  | 11 => ⟨S1x1x1024, .f32⟩
  | 12 => ⟨S1x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S1x1x1024, .f32⟩
  | 20 => ⟨S1x1024, .f32⟩
  | 21 => ⟨S2048x1024, .f32⟩
  | 22 => ⟨S2048x1024, .f32⟩
  | 23 => ⟨S2048x1024, .f32⟩
  | 24 => ⟨S2048x1024, .f32⟩
  | 25 => ⟨S1x1x1024, .f32⟩
  | 26 => ⟨S1x1024, .f32⟩
  | 27 => ⟨S2048x1024, .f32⟩
  | 28 => ⟨S2048x1024, .f32⟩
  | 29 => ⟨S2048x1024, .f32⟩
  | 30 => ⟨S2048x1024, .f32⟩
  | 31 => ⟨S1x1x1024, .f32⟩
  | 32 => ⟨S1x1024, .f32⟩
  | 33 => ⟨S2048x1024, .f32⟩
  | 34 => ⟨S2048x1024, .f32⟩
  | 35 => ⟨S2048x1024, .f32⟩
  | 36 => ⟨S2048x1024, .f32⟩
  | 37 => ⟨S1x1x1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S1x1x1024, .f32⟩
  | 44 => ⟨S1x1024, .f32⟩
  | 45 => ⟨S2048x1024, .f32⟩
  | 46 => ⟨S2048x1024, .f32⟩
  | 47 => ⟨S2048x1024, .f32⟩
  | 48 => ⟨S2048x1024, .f32⟩
  | 49 => ⟨S1x1x1024, .f32⟩
  | 50 => ⟨S1x1024, .f32⟩
  | 51 => ⟨S2048x1024, .f32⟩
  | 52 => ⟨S2048x1024, .f32⟩
  | 53 => ⟨S2048x1024, .f32⟩
  | 54 => ⟨S2048x1024, .f32⟩
  | 55 => ⟨S1x1x1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S1x1x1024, .f32⟩
  | 62 => ⟨S1x1024, .f32⟩
  | 63 => ⟨S2048x1024, .f32⟩
  | 64 => ⟨S2048x1024, .f32⟩
  | 65 => ⟨S2048x1024, .f32⟩
  | 66 => ⟨S2048x1024, .f32⟩
  | 67 => ⟨S1x1x1024, .f32⟩
  | 68 => ⟨S1x1024, .f32⟩
  | 69 => ⟨S2048x1024, .f32⟩
  | 70 => ⟨S2048x1024, .f32⟩
  | 71 => ⟨S2048x1024, .f32⟩
  | 72 => ⟨S2048x1024, .f32⟩
  | 73 => ⟨S1x1x1024, .f32⟩
  | 74 => ⟨S1x1024, .f32⟩
  | 75 => ⟨S2048x1024, .f32⟩
  | 76 => ⟨S2048x1024, .f32⟩
  | 77 => ⟨S2048x1024, .f32⟩
  | 78 => ⟨S2048x1024, .f32⟩
  | 79 => ⟨S1x1x1024, .f32⟩
  | 80 => ⟨S1x1024, .f32⟩
  | 81 => ⟨S2048x1024, .f32⟩
  | 82 => ⟨S2048x1024, .f32⟩
  | 83 => ⟨S2048x1024, .f32⟩
  | 84 => ⟨S2048x1024, .f32⟩
  | 85 => ⟨S1x1x1024, .f32⟩
  | 86 => ⟨S1x1024, .f32⟩
  | 87 => ⟨S2048x1024, .f32⟩
  | 88 => ⟨S2048x1024, .f32⟩
  | 89 => ⟨S2048x1024, .f32⟩
  | 90 => ⟨S2048x1024, .f32⟩
  | 91 => ⟨S1x1x1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S1x1x1024, .f32⟩
  | 98 => ⟨S1x1024, .f32⟩
  | 99 => ⟨S2048x1024, .f32⟩
  | 100 => ⟨S2048x1024, .f32⟩
  | 101 => ⟨S2048x1024, .f32⟩
  | 102 => ⟨S2048x1024, .f32⟩
  | 103 => ⟨S1x1x1024, .f32⟩
  | 104 => ⟨S1x1024, .f32⟩
  | 105 => ⟨S2048x1024, .f32⟩
  | 106 => ⟨S2048x1024, .f32⟩
  | 107 => ⟨S2048x1024, .f32⟩
  | 108 => ⟨S2048x1024, .f32⟩
  | 109 => ⟨S1x1x1024, .f32⟩
  | 110 => ⟨S1x1024, .f32⟩
  | 111 => ⟨S2048x1024, .f32⟩
  | 112 => ⟨S2048x1024, .f32⟩
  | 113 => ⟨S2048x1024, .f32⟩
  | 114 => ⟨S2048x1024, .f32⟩
  | 115 => ⟨S1x1x1024, .f32⟩
  | 116 => ⟨S1x1024, .f32⟩
  | 117 => ⟨S2048x1024, .f32⟩
  | 118 => ⟨S2048x1024, .f32⟩
  | 119 => ⟨S2048x1024, .f32⟩
  | 120 => ⟨S2048x1024, .f32⟩
  | 121 => ⟨S1x1x1024, .f32⟩
  | 122 => ⟨S1x1024, .f32⟩
  | 123 => ⟨S2048x1024, .f32⟩
  | 124 => ⟨S2048x1024, .f32⟩
  | 125 => ⟨S2048x1024, .f32⟩
  | 126 => ⟨S2048x1024, .f32⟩
  | 127 => ⟨S1x1x1024, .f32⟩
  | _ => ⟨S2048x4096, .f32⟩

abbrev hbmTy0_3 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S2048x1024, .f32⟩
  | 5 => ⟨S1x1x1024, .f32⟩
  | 6 => ⟨S1x1024, .f32⟩
  | 7 => ⟨S2048x1024, .f32⟩
  | 8 => ⟨S2048x1024, .f32⟩
  | 9 => ⟨S2048x1024, .f32⟩
  | 10 => ⟨S2048x1024, .f32⟩
  | 11 => ⟨S1x1x1024, .f32⟩
  | 12 => ⟨S1x1024, .f32⟩
  | 13 => ⟨S2048x1024, .f32⟩
  | 14 => ⟨S2048x1024, .f32⟩
  | 15 => ⟨S2048x1024, .f32⟩
  | 16 => ⟨S2048x1024, .f32⟩
  | 17 => ⟨S1x1x1024, .f32⟩
  | 18 => ⟨S1x1024, .f32⟩
  | 19 => ⟨S2048x1024, .f32⟩
  | 20 => ⟨S2048x1024, .f32⟩
  | 21 => ⟨S2048x1024, .f32⟩
  | 22 => ⟨S2048x1024, .f32⟩
  | 23 => ⟨S1x1x1024, .f32⟩
  | 24 => ⟨S1x1024, .f32⟩
  | 25 => ⟨S2048x1024, .f32⟩
  | 26 => ⟨S2048x1024, .f32⟩
  | 27 => ⟨S2048x1024, .f32⟩
  | 28 => ⟨S2048x1024, .f32⟩
  | 29 => ⟨S1x1x1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S1x1x1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S1x1x1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S1x1x1024, .f32⟩
  | 48 => ⟨S1x1024, .f32⟩
  | 49 => ⟨S2048x1024, .f32⟩
  | 50 => ⟨S2048x1024, .f32⟩
  | 51 => ⟨S2048x1024, .f32⟩
  | 52 => ⟨S2048x1024, .f32⟩
  | 53 => ⟨S1x1x1024, .f32⟩
  | 54 => ⟨S1x1024, .f32⟩
  | 55 => ⟨S2048x1024, .f32⟩
  | 56 => ⟨S2048x1024, .f32⟩
  | 57 => ⟨S2048x1024, .f32⟩
  | 58 => ⟨S2048x1024, .f32⟩
  | 59 => ⟨S1x1x1024, .f32⟩
  | 60 => ⟨S1x1024, .f32⟩
  | 61 => ⟨S2048x1024, .f32⟩
  | 62 => ⟨S2048x1024, .f32⟩
  | 63 => ⟨S2048x1024, .f32⟩
  | 64 => ⟨S2048x1024, .f32⟩
  | 65 => ⟨S1x1x1024, .f32⟩
  | 66 => ⟨S1x1024, .f32⟩
  | 67 => ⟨S2048x1024, .f32⟩
  | 68 => ⟨S2048x1024, .f32⟩
  | 69 => ⟨S2048x1024, .f32⟩
  | 70 => ⟨S1x1024, .f32⟩
  | 71 => ⟨S2048x1024, .f32⟩
  | 72 => ⟨S2048x1024, .f32⟩
  | 73 => ⟨S_, .f32⟩
  | 74 => ⟨S2048, .f32⟩
  | 75 => ⟨S2048x1, .f32⟩
  | 76 => ⟨S_, .f32⟩
  | 77 => ⟨S2048x1, .f32⟩
  | 78 => ⟨S2048x1, .f32⟩
  | 79 => ⟨S2048x1024, .f32⟩
  | 80 => ⟨S2048x1024, .f32⟩
  | 81 => ⟨S2048x1024, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x1, .f32⟩
  | 92 => ⟨S2048x1, .f32⟩
  | 93 => ⟨S_, .f32⟩
  | 94 => ⟨S2048x1, .f32⟩
  | 95 => ⟨S2048x1, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S1x1024, .f32⟩
  | 102 => ⟨S2048x1024, .f32⟩
  | 103 => ⟨S2048x1024, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S2048x1024, .f32⟩
  | _ => ⟨S2048x4096, .f32⟩

abbrev hbmTy0_4 (i : Nat) : BufTy := match i % 128 with
  | 0 => ⟨S_, .f32⟩
  | 1 => ⟨S1024, .f32⟩
  | 2 => ⟨S1x1024, .f32⟩
  | 3 => ⟨S2048x1024, .f32⟩
  | 4 => ⟨S2048x1024, .f32⟩
  | 5 => ⟨S_, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S2048x1024, .f32⟩
  | 12 => ⟨S2048x1024, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S2048, .f32⟩
  | 33 => ⟨S2048x1024, .f32⟩
  | 34 => ⟨S2048x1024, .f32⟩
  | 35 => ⟨S_, .f32⟩
  | 36 => ⟨S1024, .f32⟩
  | 37 => ⟨S1x1024, .f32⟩
  | 38 => ⟨S_, .f32⟩
  | 39 => ⟨S1024, .f32⟩
  | 40 => ⟨S2048x1024, .f32⟩
  | 41 => ⟨S_, .f32⟩
  | 42 => ⟨S1024, .f32⟩
  | 43 => ⟨S1x1024, .f32⟩
  | 44 => ⟨S1x1x1024, .f32⟩
  | 45 => ⟨S_, .f32⟩
  | 46 => ⟨S31x1x1024, .f32⟩
  | 47 => ⟨S2048x1024, .f32⟩
  | 48 => ⟨S_, .f32⟩
  | 49 => ⟨S1024, .f32⟩
  | 50 => ⟨S1x1024, .f32⟩
  | 51 => ⟨S1x1x1024, .f32⟩
  | 52 => ⟨S_, .f32⟩
  | 53 => ⟨S31x1x1024, .f32⟩
  | 54 => ⟨S31x1x1024, .f32⟩
  | 55 => ⟨S2048x1024, .f32⟩
  | 56 => ⟨S_, .f32⟩
  | 57 => ⟨S1024, .f32⟩
  | 58 => ⟨S1x1024, .f32⟩
  | 59 => ⟨S1x1x1024, .f32⟩
  | 60 => ⟨S_, .f32⟩
  | 61 => ⟨S31x1x1024, .f32⟩
  | 62 => ⟨S31x1x1024, .f32⟩
  | 63 => ⟨S2048x1024, .f32⟩
  | 64 => ⟨S_, .f32⟩
  | 65 => ⟨S1024, .f32⟩
  | 66 => ⟨S1x1024, .f32⟩
  | 67 => ⟨S1x1x1024, .f32⟩
  | 68 => ⟨S_, .f32⟩
  | 69 => ⟨S31x1x1024, .f32⟩
  | 70 => ⟨S31x1x1024, .f32⟩
  | 71 => ⟨S2048x1024, .f32⟩
  | 72 => ⟨S_, .f32⟩
  | 73 => ⟨S1024, .f32⟩
  | 74 => ⟨S1x1024, .f32⟩
  | 75 => ⟨S1x1x1024, .f32⟩
  | 76 => ⟨S_, .f32⟩
  | 77 => ⟨S31x1x1024, .f32⟩
  | 78 => ⟨S31x1x1024, .f32⟩
  | 79 => ⟨S2048x1024, .f32⟩
  | 80 => ⟨S_, .f32⟩
  | 81 => ⟨S1024, .f32⟩
  | 82 => ⟨S1x1024, .f32⟩
  | 83 => ⟨S1x1x1024, .f32⟩
  | 84 => ⟨S_, .f32⟩
  | 85 => ⟨S31x1x1024, .f32⟩
  | 86 => ⟨S31x1x1024, .f32⟩
  | 87 => ⟨S2048x1024, .f32⟩
  | 88 => ⟨S_, .f32⟩
  | 89 => ⟨S1024, .f32⟩
  | 90 => ⟨S1x1024, .f32⟩
  | 91 => ⟨S1x1x1024, .f32⟩
  | 92 => ⟨S_, .f32⟩
  | 93 => ⟨S31x1x1024, .f32⟩
  | 94 => ⟨S31x1x1024, .f32⟩
  | 95 => ⟨S2048x1024, .f32⟩
  | 96 => ⟨S_, .f32⟩
  | 97 => ⟨S1024, .f32⟩
  | 98 => ⟨S1x1024, .f32⟩
  | 99 => ⟨S1x1x1024, .f32⟩
  | 100 => ⟨S_, .f32⟩
  | 101 => ⟨S31x1x1024, .f32⟩
  | 102 => ⟨S31x1x1024, .f32⟩
  | 103 => ⟨S2048x1024, .f32⟩
  | 104 => ⟨S_, .f32⟩
  | 105 => ⟨S1024, .f32⟩
  | 106 => ⟨S1x1024, .f32⟩
  | 107 => ⟨S1x1x1024, .f32⟩
  | 108 => ⟨S_, .f32⟩
  | 109 => ⟨S31x1x1024, .f32⟩
  | 110 => ⟨S31x1x1024, .f32⟩
  | 111 => ⟨S2048x1024, .f32⟩
  | 112 => ⟨S_, .f32⟩
  | 113 => ⟨S1024, .f32⟩
  | 114 => ⟨S1x1024, .f32⟩
  | 115 => ⟨S1x1x1024, .f32⟩
  | 116 => ⟨S_, .f32⟩
  | 117 => ⟨S31x1x1024, .f32⟩
  | 118 => ⟨S31x1x1024, .f32⟩
  | 119 => ⟨S2048x1024, .f32⟩
  | 120 => ⟨S_, .f32⟩
  | 121 => ⟨S1024, .f32⟩
  | 122 => ⟨S1x1024, .f32⟩
  | 123 => ⟨S1x1x1024, .f32⟩
  | 124 => ⟨S_, .f32⟩
  | 125 => ⟨S31x1x1024, .f32⟩
  | 126 => ⟨S31x1x1024, .f32⟩
  | 127 => ⟨S2048x1024, .f32⟩
  | _ => ⟨S2048x4096, .f32⟩

abbrev hbmTy0_5 (i : Nat) : BufTy := match i % 128 with
  | 0 => ⟨S_, .f32⟩
  | 1 => ⟨S1024, .f32⟩
  | 2 => ⟨S1x1024, .f32⟩
  | 3 => ⟨S1x1x1024, .f32⟩
  | 4 => ⟨S_, .f32⟩
  | 5 => ⟨S31x1x1024, .f32⟩
  | 6 => ⟨S31x1x1024, .f32⟩
  | 7 => ⟨S2048x1024, .f32⟩
  | 8 => ⟨S_, .f32⟩
  | 9 => ⟨S1024, .f32⟩
  | 10 => ⟨S1x1024, .f32⟩
  | 11 => ⟨S1x1x1024, .f32⟩
  | 12 => ⟨S_, .f32⟩
  | 13 => ⟨S31x1x1024, .f32⟩
  | 14 => ⟨S31x1x1024, .f32⟩
  | 15 => ⟨S2048x1024, .f32⟩
  | 16 => ⟨S_, .f32⟩
  | 17 => ⟨S1024, .f32⟩
  | 18 => ⟨S1x1024, .f32⟩
  | 19 => ⟨S1x1x1024, .f32⟩
  | 20 => ⟨S_, .f32⟩
  | 21 => ⟨S31x1x1024, .f32⟩
  | 22 => ⟨S31x1x1024, .f32⟩
  | 23 => ⟨S2048x1024, .f32⟩
  | 24 => ⟨S_, .f32⟩
  | 25 => ⟨S1024, .f32⟩
  | 26 => ⟨S1x1024, .f32⟩
  | 27 => ⟨S1x1x1024, .f32⟩
  | 28 => ⟨S_, .f32⟩
  | 29 => ⟨S31x1x1024, .f32⟩
  | 30 => ⟨S31x1x1024, .f32⟩
  | 31 => ⟨S2048x1024, .f32⟩
  | 32 => ⟨S_, .f32⟩
  | 33 => ⟨S1024, .f32⟩
  | 34 => ⟨S1x1024, .f32⟩
  | 35 => ⟨S1x1x1024, .f32⟩
  | 36 => ⟨S_, .f32⟩
  | 37 => ⟨S31x1x1024, .f32⟩
  | 38 => ⟨S31x1x1024, .f32⟩
  | 39 => ⟨S2048x1024, .f32⟩
  | 40 => ⟨S_, .f32⟩
  | 41 => ⟨S1024, .f32⟩
  | 42 => ⟨S1x1024, .f32⟩
  | 43 => ⟨S1x1x1024, .f32⟩
  | 44 => ⟨S_, .f32⟩
  | 45 => ⟨S31x1x1024, .f32⟩
  | 46 => ⟨S31x1x1024, .f32⟩
  | 47 => ⟨S2048x1024, .f32⟩
  | 48 => ⟨S_, .f32⟩
  | 49 => ⟨S1024, .f32⟩
  | 50 => ⟨S1x1024, .f32⟩
  | 51 => ⟨S1x1x1024, .f32⟩
  | 52 => ⟨S_, .f32⟩
  | 53 => ⟨S31x1x1024, .f32⟩
  | 54 => ⟨S31x1x1024, .f32⟩
  | 55 => ⟨S2048x1024, .f32⟩
  | 56 => ⟨S_, .f32⟩
  | 57 => ⟨S1024, .f32⟩
  | 58 => ⟨S1x1024, .f32⟩
  | 59 => ⟨S1x1x1024, .f32⟩
  | 60 => ⟨S_, .f32⟩
  | 61 => ⟨S31x1x1024, .f32⟩
  | 62 => ⟨S31x1x1024, .f32⟩
  | 63 => ⟨S2048x1024, .f32⟩
  | 64 => ⟨S_, .f32⟩
  | 65 => ⟨S1024, .f32⟩
  | 66 => ⟨S1x1024, .f32⟩
  | 67 => ⟨S1x1x1024, .f32⟩
  | 68 => ⟨S_, .f32⟩
  | 69 => ⟨S31x1x1024, .f32⟩
  | 70 => ⟨S31x1x1024, .f32⟩
  | 71 => ⟨S2048x1024, .f32⟩
  | 72 => ⟨S_, .f32⟩
  | 73 => ⟨S1024, .f32⟩
  | 74 => ⟨S1x1024, .f32⟩
  | 75 => ⟨S1x1x1024, .f32⟩
  | 76 => ⟨S_, .f32⟩
  | 77 => ⟨S31x1x1024, .f32⟩
  | 78 => ⟨S31x1x1024, .f32⟩
  | 79 => ⟨S2048x1024, .f32⟩
  | 80 => ⟨S_, .f32⟩
  | 81 => ⟨S1024, .f32⟩
  | 82 => ⟨S1x1024, .f32⟩
  | 83 => ⟨S1x1x1024, .f32⟩
  | 84 => ⟨S_, .f32⟩
  | 85 => ⟨S31x1x1024, .f32⟩
  | 86 => ⟨S31x1x1024, .f32⟩
  | 87 => ⟨S2048x1024, .f32⟩
  | 88 => ⟨S_, .f32⟩
  | 89 => ⟨S1024, .f32⟩
  | 90 => ⟨S1x1024, .f32⟩
  | 91 => ⟨S1x1x1024, .f32⟩
  | 92 => ⟨S_, .f32⟩
  | 93 => ⟨S31x1x1024, .f32⟩
  | 94 => ⟨S31x1x1024, .f32⟩
  | 95 => ⟨S2048x1024, .f32⟩
  | 96 => ⟨S_, .f32⟩
  | 97 => ⟨S1024, .f32⟩
  | 98 => ⟨S1x1024, .f32⟩
  | 99 => ⟨S1x1x1024, .f32⟩
  | 100 => ⟨S_, .f32⟩
  | 101 => ⟨S31x1x1024, .f32⟩
  | 102 => ⟨S31x1x1024, .f32⟩
  | 103 => ⟨S2048x1024, .f32⟩
  | 104 => ⟨S_, .f32⟩
  | 105 => ⟨S1024, .f32⟩
  | 106 => ⟨S1x1024, .f32⟩
  | 107 => ⟨S1x1x1024, .f32⟩
  | 108 => ⟨S_, .f32⟩
  | 109 => ⟨S31x1x1024, .f32⟩
  | 110 => ⟨S31x1x1024, .f32⟩
  | 111 => ⟨S2048x1024, .f32⟩
  | 112 => ⟨S_, .f32⟩
  | 113 => ⟨S1024, .f32⟩
  | 114 => ⟨S1x1024, .f32⟩
  | 115 => ⟨S1x1x1024, .f32⟩
  | 116 => ⟨S_, .f32⟩
  | 117 => ⟨S31x1x1024, .f32⟩
  | 118 => ⟨S31x1x1024, .f32⟩
  | 119 => ⟨S2048x1024, .f32⟩
  | 120 => ⟨S_, .f32⟩
  | 121 => ⟨S1024, .f32⟩
  | 122 => ⟨S1x1024, .f32⟩
  | 123 => ⟨S1x1x1024, .f32⟩
  | 124 => ⟨S_, .f32⟩
  | 125 => ⟨S31x1x1024, .f32⟩
  | 126 => ⟨S31x1x1024, .f32⟩
  | 127 => ⟨S2048x1024, .f32⟩
  | _ => ⟨S2048x4096, .f32⟩

abbrev hbmTy0_6 (i : Nat) : BufTy := match i % 128 with
  | 0 => ⟨S_, .f32⟩
  | 1 => ⟨S1024, .f32⟩
  | 2 => ⟨S1x1024, .f32⟩
  | 3 => ⟨S1x1x1024, .f32⟩
  | 4 => ⟨S_, .f32⟩
  | 5 => ⟨S31x1x1024, .f32⟩
  | 6 => ⟨S31x1x1024, .f32⟩
  | 7 => ⟨S2048x1024, .f32⟩
  | 8 => ⟨S_, .f32⟩
  | 9 => ⟨S1024, .f32⟩
  | 10 => ⟨S1x1024, .f32⟩
  | 11 => ⟨S1x1x1024, .f32⟩
  | 12 => ⟨S_, .f32⟩
  | 13 => ⟨S31x1x1024, .f32⟩
  | 14 => ⟨S31x1x1024, .f32⟩
  | 15 => ⟨S2048x1024, .f32⟩
  | 16 => ⟨S_, .f32⟩
  | 17 => ⟨S1024, .f32⟩
  | 18 => ⟨S1x1024, .f32⟩
  | 19 => ⟨S1x1x1024, .f32⟩
  | 20 => ⟨S_, .f32⟩
  | 21 => ⟨S31x1x1024, .f32⟩
  | 22 => ⟨S31x1x1024, .f32⟩
  | 23 => ⟨S2048x1024, .f32⟩
  | 24 => ⟨S_, .f32⟩
  | 25 => ⟨S1024, .f32⟩
  | 26 => ⟨S1x1024, .f32⟩
  | 27 => ⟨S1x1x1024, .f32⟩
  | 28 => ⟨S_, .f32⟩
  | 29 => ⟨S31x1x1024, .f32⟩
  | 30 => ⟨S31x1x1024, .f32⟩
  | 31 => ⟨S_, .f32⟩
  | 32 => ⟨S2048, .f32⟩
  | 33 => ⟨S_, .f32⟩
  | 34 => ⟨S2048x2048, .f32⟩
  | 35 => ⟨S1x2048, .f32⟩
  | 36 => ⟨S2048x2048, .f32⟩
  | 37 => ⟨S2048x2048, .f32⟩
  | 38 => ⟨S_, .f32⟩
  | 39 => ⟨S2048, .f32⟩
  | 40 => ⟨S1x2048, .f32⟩
  | 41 => ⟨S_, .f32⟩
  | 42 => ⟨S2048, .f32⟩
  | 43 => ⟨S31x1024, .f32⟩
  | 44 => ⟨S_, .f32⟩
  | 45 => ⟨S1x1024, .f32⟩
  | 46 => ⟨S32x1024, .f32⟩
  | 47 => ⟨S2048x2048, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x2048, .f32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_cst_16 : Ref sig .tc := ⟨.hbm, 91, rfl⟩
abbrev main_v62 : Ref sig .tc := ⟨.hbm, 92, rfl⟩
abbrev main_v63 : Ref sig .tc := ⟨.hbm, 93, rfl⟩
abbrev main_cst_17 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_v5 : Ref sig .tc := ⟨.hbm, 118, rfl⟩
abbrev main_call0_v6 : Ref sig .tc := ⟨.hbm, 119, rfl⟩
abbrev main_call0_v7 : Ref sig .tc := ⟨.hbm, 120, rfl⟩
abbrev main_call0_v8 : Ref sig .tc := ⟨.hbm, 121, rfl⟩
abbrev main_call0_c : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_call0_c_0 : Ref sig .tc := ⟨.hbm, 126, rfl⟩
abbrev main_call0_v12 : Ref sig .tc := ⟨.hbm, 127, rfl⟩
abbrev main_call0_v13 : Ref sig .tc := ⟨.hbm, 128, rfl⟩
abbrev main_v80 : Ref sig .tc := ⟨.hbm, 129, rfl⟩
abbrev main_v81 : Ref sig .tc := ⟨.hbm, 130, rfl⟩
abbrev main_c_19 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_v8 : Ref sig .tc := ⟨.hbm, 140, rfl⟩
abbrev main_call1_c : Ref sig .tc := ⟨.hbm, 141, rfl⟩
abbrev main_call1_v9 : Ref sig .tc := ⟨.hbm, 142, rfl⟩
abbrev main_call1_v10 : Ref sig .tc := ⟨.hbm, 143, rfl⟩
abbrev main_call1_v11 : Ref sig .tc := ⟨.hbm, 144, rfl⟩
abbrev main_call1_c_0 : Ref sig .tc := ⟨.hbm, 145, rfl⟩
abbrev main_call1_v12 : Ref sig .tc := ⟨.hbm, 146, rfl⟩
abbrev main_call1_v13 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_20 : Ref sig .tc := ⟨.hbm, 153, rfl⟩
abbrev main_v87 : Ref sig .tc := ⟨.hbm, 154, rfl⟩
abbrev main_v88_1 : Ref sig .tc := ⟨.hbm, 155, rfl⟩
abbrev main_v88_0 : Ref sig .tc := ⟨.hbm, 156, rfl⟩
abbrev main_call2_cst : Ref sig .tc := ⟨.hbm, 157, rfl⟩
abbrev main_v88_2 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_21 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_call3_cst : Ref sig .tc := ⟨.hbm, 180, rfl⟩
abbrev main_call3_v0 : Ref sig .tc := ⟨.hbm, 181, rfl⟩
abbrev main_v109 : Ref sig .tc := ⟨.hbm, 182, rfl⟩
abbrev main_cst_22 : Ref sig .tc := ⟨.hbm, 183, rfl⟩
abbrev main_v110 : Ref sig .tc := ⟨.hbm, 184, rfl⟩
abbrev main_v111 : Ref sig .tc := ⟨.hbm, 185, rfl⟩
abbrev main_cst_23 : Ref sig .tc := ⟨.hbm, 186, rfl⟩
abbrev main_v112 : Ref sig .tc := ⟨.hbm, 187, rfl⟩
abbrev main_v113 : Ref sig .tc := ⟨.hbm, 188, rfl⟩
abbrev main_cst_24 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_25 : Ref sig .tc := ⟨.hbm, 194, rfl⟩
abbrev main_v118 : Ref sig .tc := ⟨.hbm, 195, rfl⟩
abbrev main_v119 : Ref sig .tc := ⟨.hbm, 196, rfl⟩
abbrev main_cst_26 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_27 : Ref sig .tc := ⟨.hbm, 203, rfl⟩
abbrev main_v125 : Ref sig .tc := ⟨.hbm, 204, rfl⟩
abbrev main_v126 : Ref sig .tc := ⟨.hbm, 205, rfl⟩
abbrev main_cst_28 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_29 : Ref sig .tc := ⟨.hbm, 214, rfl⟩
abbrev main_v134 : Ref sig .tc := ⟨.hbm, 215, rfl⟩
abbrev main_v135 : Ref sig .tc := ⟨.hbm, 216, rfl⟩
abbrev main_cst_30 : Ref sig .tc := ⟨.hbm, 217, rfl⟩
abbrev main_v136 : Ref sig .tc := ⟨.hbm, 218, rfl⟩
abbrev main_v137 : Ref sig .tc := ⟨.hbm, 219, rfl⟩
abbrev main_cst_31 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_32 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_33 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_34 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_35 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_cst_36 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_cst_37 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_cst_38 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_cst_39 : Ref sig .tc := ⟨.hbm, 258, rfl⟩
abbrev main_v168 : Ref sig .tc := ⟨.hbm, 259, rfl⟩
abbrev main_v169 : Ref sig .tc := ⟨.hbm, 260, rfl⟩
abbrev main_cst_40 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_cst_41 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_v357 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_cst_42 : Ref sig .tc := ⟨.hbm, 457, rfl⟩
abbrev main_v364 : Ref sig .tc := ⟨.hbm, 458, rfl⟩
abbrev main_v365 : Ref sig .tc := ⟨.hbm, 459, rfl⟩
abbrev main_cst_43 : Ref sig .tc := ⟨.hbm, 460, rfl⟩
abbrev main_v366 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_cst_44 : Ref sig .tc := ⟨.hbm, 466, rfl⟩
abbrev main_v371 : Ref sig .tc := ⟨.hbm, 467, rfl⟩
abbrev main_v372 : Ref sig .tc := ⟨.hbm, 468, rfl⟩
abbrev main_cst_45 : Ref sig .tc := ⟨.hbm, 469, rfl⟩
abbrev main_v373 : Ref sig .tc := ⟨.hbm, 470, rfl⟩
abbrev main_v374 : Ref sig .tc := ⟨.hbm, 471, rfl⟩
abbrev main_cst_46 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_cst_47 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_call4_v0 : Ref sig .tc := ⟨.hbm, 488, rfl⟩
abbrev main_call4_v1 : Ref sig .tc := ⟨.hbm, 489, rfl⟩
abbrev main_call4_cst : Ref sig .tc := ⟨.hbm, 490, rfl⟩
abbrev main_call4_v2 : Ref sig .tc := ⟨.hbm, 491, rfl⟩
abbrev main_call4_v3 : Ref sig .tc := ⟨.hbm, 492, rfl⟩
abbrev main_call4_cst_0 : Ref sig .tc := ⟨.hbm, 493, rfl⟩
abbrev main_call4_v4 : Ref sig .tc := ⟨.hbm, 494, rfl⟩
abbrev main_v389_2 : Ref sig .tc := ⟨.hbm, 495, rfl⟩
abbrev main_call4_cst_1 : Ref sig .tc := ⟨.hbm, 496, rfl⟩
abbrev main_call4_v6 : Ref sig .tc := ⟨.hbm, 497, rfl⟩
abbrev main_call4_v7 : Ref sig .tc := ⟨.hbm, 498, rfl⟩
abbrev main_v389_1 : Ref sig .tc := ⟨.hbm, 499, rfl⟩
abbrev main_v389_0 : Ref sig .tc := ⟨.hbm, 500, rfl⟩
abbrev main_v390 : Ref sig .tc := ⟨.hbm, 501, rfl⟩
abbrev main_call5_v0 : Ref sig .tc := ⟨.hbm, 502, rfl⟩
abbrev main_call5_v1 : Ref sig .tc := ⟨.hbm, 503, rfl⟩
abbrev main_call5_v2 : Ref sig .tc := ⟨.hbm, 504, rfl⟩
abbrev main_v391 : Ref sig .tc := ⟨.hbm, 505, rfl⟩
abbrev main_cst_48 : Ref sig .tc := ⟨.hbm, 506, rfl⟩
abbrev main_v392 : Ref sig .tc := ⟨.hbm, 507, rfl⟩
abbrev main_v393 : Ref sig .tc := ⟨.hbm, 508, rfl⟩
abbrev main_cst_49 : Ref sig .tc := ⟨.hbm, 509, rfl⟩
abbrev main_v394 : Ref sig .tc := ⟨.hbm, 510, rfl⟩
abbrev main_v395 : Ref sig .tc := ⟨.hbm, 511, rfl⟩
abbrev main_cst_50 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_v399 : Ref sig .tc := ⟨.hbm, 516, rfl⟩
abbrev main_cst_51 : Ref sig .tc := ⟨.hbm, 517, rfl⟩
abbrev main_v400 : Ref sig .tc := ⟨.hbm, 518, rfl⟩
abbrev main_v401 : Ref sig .tc := ⟨.hbm, 519, rfl⟩
abbrev main_cst_52 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_v405 : Ref sig .tc := ⟨.hbm, 524, rfl⟩
abbrev main_v406 : Ref sig .tc := ⟨.hbm, 525, rfl⟩
abbrev main_cst_53 : Ref sig .tc := ⟨.hbm, 526, rfl⟩
abbrev main_v407 : Ref sig .tc := ⟨.hbm, 527, rfl⟩
abbrev main_v408 : Ref sig .tc := ⟨.hbm, 528, rfl⟩
abbrev main_cst_54 : Ref sig .tc := ⟨.hbm, 529, rfl⟩
abbrev main_v409 : Ref sig .tc := ⟨.hbm, 530, rfl⟩
abbrev main_v410 : Ref sig .tc := ⟨.hbm, 531, rfl⟩
abbrev main_v411 : Ref sig .tc := ⟨.hbm, 532, rfl⟩
abbrev main_v412 : Ref sig .tc := ⟨.hbm, 533, rfl⟩
abbrev main_v413 : Ref sig .tc := ⟨.hbm, 534, rfl⟩
abbrev main_v414 : Ref sig .tc := ⟨.hbm, 535, rfl⟩
abbrev main_v415 : Ref sig .tc := ⟨.hbm, 536, rfl⟩
abbrev main_cst_55 : Ref sig .tc := ⟨.hbm, 537, rfl⟩
abbrev main_v416 : Ref sig .tc := ⟨.hbm, 538, rfl⟩
abbrev main_v417 : Ref sig .tc := ⟨.hbm, 539, rfl⟩
abbrev main_cst_56 : Ref sig .tc := ⟨.hbm, 540, rfl⟩
abbrev main_v418 : Ref sig .tc := ⟨.hbm, 541, rfl⟩
abbrev main_v419 : Ref sig .tc := ⟨.hbm, 542, rfl⟩
abbrev main_cst_57 : Ref sig .tc := ⟨.hbm, 543, rfl⟩
abbrev main_v420 : Ref sig .tc := ⟨.hbm, 544, rfl⟩
abbrev main_v421 : Ref sig .tc := ⟨.hbm, 545, rfl⟩
abbrev main_v422 : Ref sig .tc := ⟨.hbm, 546, rfl⟩
abbrev main_cst_58 : Ref sig .tc := ⟨.hbm, 547, rfl⟩
abbrev main_v423 : Ref sig .tc := ⟨.hbm, 548, rfl⟩
abbrev main_v424 : Ref sig .tc := ⟨.hbm, 549, rfl⟩
abbrev main_cst_59 : Ref sig .tc := ⟨.hbm, 550, rfl⟩
abbrev main_v425 : Ref sig .tc := ⟨.hbm, 551, rfl⟩
abbrev main_v426 : Ref sig .tc := ⟨.hbm, 552, rfl⟩
abbrev main_cst_60 : Ref sig .tc := ⟨.hbm, 553, rfl⟩
abbrev main_v427 : Ref sig .tc := ⟨.hbm, 554, rfl⟩
abbrev main_v428 : Ref sig .tc := ⟨.hbm, 555, rfl⟩
abbrev main_v429 : Ref sig .tc := ⟨.hbm, 556, rfl⟩
abbrev main_cst_61 : Ref sig .tc := ⟨.hbm, 557, rfl⟩
abbrev main_v430 : Ref sig .tc := ⟨.hbm, 558, rfl⟩
abbrev main_v431 : Ref sig .tc := ⟨.hbm, 559, rfl⟩
abbrev main_cst_62 : Ref sig .tc := ⟨.hbm, 560, rfl⟩
abbrev main_v432 : Ref sig .tc := ⟨.hbm, 561, rfl⟩
abbrev main_v433 : Ref sig .tc := ⟨.hbm, 562, rfl⟩
abbrev main_v434 : Ref sig .tc := ⟨.hbm, 563, rfl⟩
abbrev main_cst_63 : Ref sig .tc := ⟨.hbm, 564, rfl⟩
abbrev main_v435 : Ref sig .tc := ⟨.hbm, 565, rfl⟩
abbrev main_v436 : Ref sig .tc := ⟨.hbm, 566, rfl⟩
abbrev main_v437 : Ref sig .tc := ⟨.hbm, 567, rfl⟩
abbrev main_cst_64 : Ref sig .tc := ⟨.hbm, 568, rfl⟩
abbrev main_v438 : Ref sig .tc := ⟨.hbm, 569, rfl⟩
abbrev main_v439 : Ref sig .tc := ⟨.hbm, 570, rfl⟩
abbrev main_v440 : Ref sig .tc := ⟨.hbm, 571, rfl⟩
abbrev main_cst_65 : Ref sig .tc := ⟨.hbm, 572, rfl⟩
abbrev main_v441 : Ref sig .tc := ⟨.hbm, 573, rfl⟩
abbrev main_v442 : Ref sig .tc := ⟨.hbm, 574, rfl⟩
abbrev main_v443 : Ref sig .tc := ⟨.hbm, 575, rfl⟩
abbrev main_cst_66 : Ref sig .tc := ⟨.hbm, 576, rfl⟩
abbrev main_v444 : Ref sig .tc := ⟨.hbm, 577, rfl⟩
abbrev main_v445 : Ref sig .tc := ⟨.hbm, 578, rfl⟩
abbrev main_v446 : Ref sig .tc := ⟨.hbm, 579, rfl⟩
abbrev main_cst_67 : Ref sig .tc := ⟨.hbm, 580, rfl⟩
abbrev main_v447 : Ref sig .tc := ⟨.hbm, 581, rfl⟩
abbrev main_v448 : Ref sig .tc := ⟨.hbm, 582, rfl⟩
abbrev main_v449 : Ref sig .tc := ⟨.hbm, 583, rfl⟩
abbrev main_cst_68 : Ref sig .tc := ⟨.hbm, 584, rfl⟩
abbrev main_v450 : Ref sig .tc := ⟨.hbm, 585, rfl⟩
abbrev main_v451 : Ref sig .tc := ⟨.hbm, 586, rfl⟩
abbrev main_v452 : Ref sig .tc := ⟨.hbm, 587, rfl⟩
abbrev main_cst_69 : Ref sig .tc := ⟨.hbm, 588, rfl⟩
abbrev main_v453 : Ref sig .tc := ⟨.hbm, 589, rfl⟩
abbrev main_v454 : Ref sig .tc := ⟨.hbm, 590, rfl⟩
abbrev main_v455 : Ref sig .tc := ⟨.hbm, 591, rfl⟩
abbrev main_cst_70 : Ref sig .tc := ⟨.hbm, 592, rfl⟩
abbrev main_v456 : Ref sig .tc := ⟨.hbm, 593, rfl⟩
abbrev main_v457 : Ref sig .tc := ⟨.hbm, 594, rfl⟩
abbrev main_v458 : Ref sig .tc := ⟨.hbm, 595, rfl⟩
abbrev main_cst_71 : Ref sig .tc := ⟨.hbm, 596, rfl⟩
abbrev main_v459 : Ref sig .tc := ⟨.hbm, 597, rfl⟩
abbrev main_v460 : Ref sig .tc := ⟨.hbm, 598, rfl⟩
abbrev main_v461 : Ref sig .tc := ⟨.hbm, 599, rfl⟩
abbrev main_cst_72 : Ref sig .tc := ⟨.hbm, 600, rfl⟩
abbrev main_v462 : Ref sig .tc := ⟨.hbm, 601, rfl⟩
abbrev main_v463 : Ref sig .tc := ⟨.hbm, 602, rfl⟩
abbrev main_v464 : Ref sig .tc := ⟨.hbm, 603, rfl⟩
abbrev main_cst_73 : Ref sig .tc := ⟨.hbm, 604, rfl⟩
abbrev main_v465 : Ref sig .tc := ⟨.hbm, 605, rfl⟩
abbrev main_v466 : Ref sig .tc := ⟨.hbm, 606, rfl⟩
abbrev main_v467 : Ref sig .tc := ⟨.hbm, 607, rfl⟩
abbrev main_cst_74 : Ref sig .tc := ⟨.hbm, 608, rfl⟩
abbrev main_v468 : Ref sig .tc := ⟨.hbm, 609, rfl⟩
abbrev main_v469 : Ref sig .tc := ⟨.hbm, 610, rfl⟩
abbrev main_v470 : Ref sig .tc := ⟨.hbm, 611, rfl⟩
abbrev main_cst_75 : Ref sig .tc := ⟨.hbm, 612, rfl⟩
abbrev main_v471 : Ref sig .tc := ⟨.hbm, 613, rfl⟩
abbrev main_v472 : Ref sig .tc := ⟨.hbm, 614, rfl⟩
abbrev main_v473 : Ref sig .tc := ⟨.hbm, 615, rfl⟩
abbrev main_cst_76 : Ref sig .tc := ⟨.hbm, 616, rfl⟩
abbrev main_v474 : Ref sig .tc := ⟨.hbm, 617, rfl⟩
abbrev main_v475 : Ref sig .tc := ⟨.hbm, 618, rfl⟩
abbrev main_v476 : Ref sig .tc := ⟨.hbm, 619, rfl⟩
abbrev main_cst_77 : Ref sig .tc := ⟨.hbm, 620, rfl⟩
abbrev main_v477 : Ref sig .tc := ⟨.hbm, 621, rfl⟩
abbrev main_v478 : Ref sig .tc := ⟨.hbm, 622, rfl⟩
abbrev main_v479 : Ref sig .tc := ⟨.hbm, 623, rfl⟩
abbrev main_cst_78 : Ref sig .tc := ⟨.hbm, 624, rfl⟩
abbrev main_v480 : Ref sig .tc := ⟨.hbm, 625, rfl⟩
abbrev main_v481 : Ref sig .tc := ⟨.hbm, 626, rfl⟩
abbrev main_v482 : Ref sig .tc := ⟨.hbm, 627, rfl⟩
abbrev main_cst_79 : Ref sig .tc := ⟨.hbm, 628, rfl⟩
abbrev main_v483 : Ref sig .tc := ⟨.hbm, 629, rfl⟩
abbrev main_v484 : Ref sig .tc := ⟨.hbm, 630, rfl⟩
abbrev main_v485 : Ref sig .tc := ⟨.hbm, 631, rfl⟩
abbrev main_cst_80 : Ref sig .tc := ⟨.hbm, 632, rfl⟩
abbrev main_v486 : Ref sig .tc := ⟨.hbm, 633, rfl⟩
abbrev main_v487 : Ref sig .tc := ⟨.hbm, 634, rfl⟩
abbrev main_v488 : Ref sig .tc := ⟨.hbm, 635, rfl⟩
abbrev main_cst_81 : Ref sig .tc := ⟨.hbm, 636, rfl⟩
abbrev main_v489 : Ref sig .tc := ⟨.hbm, 637, rfl⟩
abbrev main_v490 : Ref sig .tc := ⟨.hbm, 638, rfl⟩
abbrev main_v491 : Ref sig .tc := ⟨.hbm, 639, rfl⟩
abbrev main_cst_82 : Ref sig .tc := ⟨.hbm, 640, rfl⟩
abbrev main_v492 : Ref sig .tc := ⟨.hbm, 641, rfl⟩
abbrev main_v493 : Ref sig .tc := ⟨.hbm, 642, rfl⟩
abbrev main_v494 : Ref sig .tc := ⟨.hbm, 643, rfl⟩
abbrev main_cst_83 : Ref sig .tc := ⟨.hbm, 644, rfl⟩
abbrev main_v495 : Ref sig .tc := ⟨.hbm, 645, rfl⟩
abbrev main_v496 : Ref sig .tc := ⟨.hbm, 646, rfl⟩
abbrev main_v497 : Ref sig .tc := ⟨.hbm, 647, rfl⟩
abbrev main_cst_84 : Ref sig .tc := ⟨.hbm, 648, rfl⟩
abbrev main_v498 : Ref sig .tc := ⟨.hbm, 649, rfl⟩
abbrev main_v499 : Ref sig .tc := ⟨.hbm, 650, rfl⟩
abbrev main_v500 : Ref sig .tc := ⟨.hbm, 651, rfl⟩
abbrev main_cst_85 : Ref sig .tc := ⟨.hbm, 652, rfl⟩
abbrev main_v501 : Ref sig .tc := ⟨.hbm, 653, rfl⟩
abbrev main_v502 : Ref sig .tc := ⟨.hbm, 654, rfl⟩
abbrev main_v503 : Ref sig .tc := ⟨.hbm, 655, rfl⟩
abbrev main_cst_86 : Ref sig .tc := ⟨.hbm, 656, rfl⟩
abbrev main_v504 : Ref sig .tc := ⟨.hbm, 657, rfl⟩
abbrev main_v505 : Ref sig .tc := ⟨.hbm, 658, rfl⟩
abbrev main_v506 : Ref sig .tc := ⟨.hbm, 659, rfl⟩
abbrev main_cst_87 : Ref sig .tc := ⟨.hbm, 660, rfl⟩
abbrev main_v507 : Ref sig .tc := ⟨.hbm, 661, rfl⟩
abbrev main_v508 : Ref sig .tc := ⟨.hbm, 662, rfl⟩
abbrev main_v509 : Ref sig .tc := ⟨.hbm, 663, rfl⟩
abbrev main_cst_88 : Ref sig .tc := ⟨.hbm, 664, rfl⟩
abbrev main_v510 : Ref sig .tc := ⟨.hbm, 665, rfl⟩
abbrev main_v511 : Ref sig .tc := ⟨.hbm, 666, rfl⟩
abbrev main_v512 : Ref sig .tc := ⟨.hbm, 667, rfl⟩
abbrev main_cst_89 : Ref sig .tc := ⟨.hbm, 668, rfl⟩
abbrev main_v513 : Ref sig .tc := ⟨.hbm, 669, rfl⟩
abbrev main_v514 : Ref sig .tc := ⟨.hbm, 670, rfl⟩
abbrev main_v515 : Ref sig .tc := ⟨.hbm, 671, rfl⟩
abbrev main_cst_90 : Ref sig .tc := ⟨.hbm, 672, rfl⟩
abbrev main_v516 : Ref sig .tc := ⟨.hbm, 673, rfl⟩
abbrev main_v517 : Ref sig .tc := ⟨.hbm, 674, rfl⟩
abbrev main_v518 : Ref sig .tc := ⟨.hbm, 675, rfl⟩
abbrev main_cst_91 : Ref sig .tc := ⟨.hbm, 676, rfl⟩
abbrev main_v519 : Ref sig .tc := ⟨.hbm, 677, rfl⟩
abbrev main_v520 : Ref sig .tc := ⟨.hbm, 678, rfl⟩
abbrev main_v521 : Ref sig .tc := ⟨.hbm, 679, rfl⟩
abbrev main_cst_92 : Ref sig .tc := ⟨.hbm, 680, rfl⟩
abbrev main_v522 : Ref sig .tc := ⟨.hbm, 681, rfl⟩
abbrev main_v523 : Ref sig .tc := ⟨.hbm, 682, rfl⟩
abbrev main_v524 : Ref sig .tc := ⟨.hbm, 683, rfl⟩
abbrev main_cst_93 : Ref sig .tc := ⟨.hbm, 684, rfl⟩
abbrev main_v525 : Ref sig .tc := ⟨.hbm, 685, rfl⟩
abbrev main_v526 : Ref sig .tc := ⟨.hbm, 686, rfl⟩
abbrev main_v527 : Ref sig .tc := ⟨.hbm, 687, rfl⟩
abbrev main_cst_94 : Ref sig .tc := ⟨.hbm, 688, rfl⟩
abbrev main_v528 : Ref sig .tc := ⟨.hbm, 689, rfl⟩
abbrev main_v529 : Ref sig .tc := ⟨.hbm, 690, rfl⟩
abbrev main_v530 : Ref sig .tc := ⟨.hbm, 691, rfl⟩
abbrev main_cst_95 : Ref sig .tc := ⟨.hbm, 692, rfl⟩
abbrev main_v531 : Ref sig .tc := ⟨.hbm, 693, rfl⟩
abbrev main_v532 : Ref sig .tc := ⟨.hbm, 694, rfl⟩
abbrev main_v533 : Ref sig .tc := ⟨.hbm, 695, rfl⟩
abbrev main_cst_96 : Ref sig .tc := ⟨.hbm, 696, rfl⟩
abbrev main_v534 : Ref sig .tc := ⟨.hbm, 697, rfl⟩
abbrev main_v535 : Ref sig .tc := ⟨.hbm, 698, rfl⟩
abbrev main_v536 : Ref sig .tc := ⟨.hbm, 699, rfl⟩
abbrev main_cst_97 : Ref sig .tc := ⟨.hbm, 700, rfl⟩
abbrev main_v537 : Ref sig .tc := ⟨.hbm, 701, rfl⟩
abbrev main_v538 : Ref sig .tc := ⟨.hbm, 702, rfl⟩
abbrev main_v539 : Ref sig .tc := ⟨.hbm, 703, rfl⟩
abbrev main_cst_98 : Ref sig .tc := ⟨.hbm, 704, rfl⟩
abbrev main_v540 : Ref sig .tc := ⟨.hbm, 705, rfl⟩
abbrev main_v541 : Ref sig .tc := ⟨.hbm, 706, rfl⟩
abbrev main_v542 : Ref sig .tc := ⟨.hbm, 707, rfl⟩
abbrev main_cst_99 : Ref sig .tc := ⟨.hbm, 708, rfl⟩
abbrev main_v543 : Ref sig .tc := ⟨.hbm, 709, rfl⟩
abbrev main_v544 : Ref sig .tc := ⟨.hbm, 710, rfl⟩
abbrev main_v545 : Ref sig .tc := ⟨.hbm, 711, rfl⟩
abbrev main_cst_100 : Ref sig .tc := ⟨.hbm, 712, rfl⟩
abbrev main_v546 : Ref sig .tc := ⟨.hbm, 713, rfl⟩
abbrev main_v547 : Ref sig .tc := ⟨.hbm, 714, rfl⟩
abbrev main_v548 : Ref sig .tc := ⟨.hbm, 715, rfl⟩
abbrev main_cst_101 : Ref sig .tc := ⟨.hbm, 716, rfl⟩
abbrev main_v549 : Ref sig .tc := ⟨.hbm, 717, rfl⟩
abbrev main_v550 : Ref sig .tc := ⟨.hbm, 718, rfl⟩
abbrev main_v551 : Ref sig .tc := ⟨.hbm, 719, rfl⟩
abbrev main_cst_102 : Ref sig .tc := ⟨.hbm, 720, rfl⟩
abbrev main_v552 : Ref sig .tc := ⟨.hbm, 721, rfl⟩
abbrev main_v553 : Ref sig .tc := ⟨.hbm, 722, rfl⟩
abbrev main_v554 : Ref sig .tc := ⟨.hbm, 723, rfl⟩
abbrev main_cst_103 : Ref sig .tc := ⟨.hbm, 724, rfl⟩
abbrev main_v555 : Ref sig .tc := ⟨.hbm, 725, rfl⟩
abbrev main_v556 : Ref sig .tc := ⟨.hbm, 726, rfl⟩
abbrev main_v557 : Ref sig .tc := ⟨.hbm, 727, rfl⟩
abbrev main_cst_104 : Ref sig .tc := ⟨.hbm, 728, rfl⟩
abbrev main_v558 : Ref sig .tc := ⟨.hbm, 729, rfl⟩
abbrev main_v559 : Ref sig .tc := ⟨.hbm, 730, rfl⟩
abbrev main_v560 : Ref sig .tc := ⟨.hbm, 731, rfl⟩
abbrev main_cst_105 : Ref sig .tc := ⟨.hbm, 732, rfl⟩
abbrev main_v561 : Ref sig .tc := ⟨.hbm, 733, rfl⟩
abbrev main_v562 : Ref sig .tc := ⟨.hbm, 734, rfl⟩
abbrev main_v563 : Ref sig .tc := ⟨.hbm, 735, rfl⟩
abbrev main_cst_106 : Ref sig .tc := ⟨.hbm, 736, rfl⟩
abbrev main_v564 : Ref sig .tc := ⟨.hbm, 737, rfl⟩
abbrev main_v565 : Ref sig .tc := ⟨.hbm, 738, rfl⟩
abbrev main_v566 : Ref sig .tc := ⟨.hbm, 739, rfl⟩
abbrev main_cst_107 : Ref sig .tc := ⟨.hbm, 740, rfl⟩
abbrev main_v567 : Ref sig .tc := ⟨.hbm, 741, rfl⟩
abbrev main_v568 : Ref sig .tc := ⟨.hbm, 742, rfl⟩
abbrev main_v569 : Ref sig .tc := ⟨.hbm, 743, rfl⟩
abbrev main_cst_108 : Ref sig .tc := ⟨.hbm, 744, rfl⟩
abbrev main_v570 : Ref sig .tc := ⟨.hbm, 745, rfl⟩
abbrev main_v571 : Ref sig .tc := ⟨.hbm, 746, rfl⟩
abbrev main_v572 : Ref sig .tc := ⟨.hbm, 747, rfl⟩
abbrev main_cst_109 : Ref sig .tc := ⟨.hbm, 748, rfl⟩
abbrev main_v573 : Ref sig .tc := ⟨.hbm, 749, rfl⟩
abbrev main_v574 : Ref sig .tc := ⟨.hbm, 750, rfl⟩
abbrev main_v575 : Ref sig .tc := ⟨.hbm, 751, rfl⟩
abbrev main_cst_110 : Ref sig .tc := ⟨.hbm, 752, rfl⟩
abbrev main_v576 : Ref sig .tc := ⟨.hbm, 753, rfl⟩
abbrev main_v577 : Ref sig .tc := ⟨.hbm, 754, rfl⟩
abbrev main_v578 : Ref sig .tc := ⟨.hbm, 755, rfl⟩
abbrev main_cst_111 : Ref sig .tc := ⟨.hbm, 756, rfl⟩
abbrev main_v579 : Ref sig .tc := ⟨.hbm, 757, rfl⟩
abbrev main_v580 : Ref sig .tc := ⟨.hbm, 758, rfl⟩
abbrev main_v581 : Ref sig .tc := ⟨.hbm, 759, rfl⟩
abbrev main_cst_112 : Ref sig .tc := ⟨.hbm, 760, rfl⟩
abbrev main_v582 : Ref sig .tc := ⟨.hbm, 761, rfl⟩
abbrev main_v583 : Ref sig .tc := ⟨.hbm, 762, rfl⟩
abbrev main_v584 : Ref sig .tc := ⟨.hbm, 763, rfl⟩
abbrev main_cst_113 : Ref sig .tc := ⟨.hbm, 764, rfl⟩
abbrev main_v585 : Ref sig .tc := ⟨.hbm, 765, rfl⟩
abbrev main_v586 : Ref sig .tc := ⟨.hbm, 766, rfl⟩
abbrev main_v587 : Ref sig .tc := ⟨.hbm, 767, rfl⟩
abbrev main_cst_114 : Ref sig .tc := ⟨.hbm, 768, rfl⟩
abbrev main_v588 : Ref sig .tc := ⟨.hbm, 769, rfl⟩
abbrev main_v589 : Ref sig .tc := ⟨.hbm, 770, rfl⟩
abbrev main_v590 : Ref sig .tc := ⟨.hbm, 771, rfl⟩
abbrev main_cst_115 : Ref sig .tc := ⟨.hbm, 772, rfl⟩
abbrev main_v591 : Ref sig .tc := ⟨.hbm, 773, rfl⟩
abbrev main_v592 : Ref sig .tc := ⟨.hbm, 774, rfl⟩
abbrev main_v593 : Ref sig .tc := ⟨.hbm, 775, rfl⟩
abbrev main_cst_116 : Ref sig .tc := ⟨.hbm, 776, rfl⟩
abbrev main_v594 : Ref sig .tc := ⟨.hbm, 777, rfl⟩
abbrev main_v595 : Ref sig .tc := ⟨.hbm, 778, rfl⟩
abbrev main_v596 : Ref sig .tc := ⟨.hbm, 779, rfl⟩
abbrev main_cst_117 : Ref sig .tc := ⟨.hbm, 780, rfl⟩
abbrev main_v597 : Ref sig .tc := ⟨.hbm, 781, rfl⟩
abbrev main_v598 : Ref sig .tc := ⟨.hbm, 782, rfl⟩
abbrev main_v599 : Ref sig .tc := ⟨.hbm, 783, rfl⟩
abbrev main_cst_118 : Ref sig .tc := ⟨.hbm, 784, rfl⟩
abbrev main_v600 : Ref sig .tc := ⟨.hbm, 785, rfl⟩
abbrev main_v601 : Ref sig .tc := ⟨.hbm, 786, rfl⟩
abbrev main_v602 : Ref sig .tc := ⟨.hbm, 787, rfl⟩
abbrev main_cst_119 : Ref sig .tc := ⟨.hbm, 788, rfl⟩
abbrev main_v603 : Ref sig .tc := ⟨.hbm, 789, rfl⟩
abbrev main_v604 : Ref sig .tc := ⟨.hbm, 790, rfl⟩
abbrev main_v605 : Ref sig .tc := ⟨.hbm, 791, rfl⟩
abbrev main_cst_120 : Ref sig .tc := ⟨.hbm, 792, rfl⟩
abbrev main_v606 : Ref sig .tc := ⟨.hbm, 793, rfl⟩
abbrev main_v607 : Ref sig .tc := ⟨.hbm, 794, rfl⟩
abbrev main_v608 : Ref sig .tc := ⟨.hbm, 795, rfl⟩
abbrev main_cst_121 : Ref sig .tc := ⟨.hbm, 796, rfl⟩
abbrev main_v609 : Ref sig .tc := ⟨.hbm, 797, rfl⟩
abbrev main_v610 : Ref sig .tc := ⟨.hbm, 798, rfl⟩
abbrev main_cst_122 : Ref sig .tc := ⟨.hbm, 799, rfl⟩
abbrev main_v611 : Ref sig .tc := ⟨.hbm, 800, rfl⟩
abbrev main_cst_123 : Ref sig .tc := ⟨.hbm, 801, rfl⟩
abbrev main_v612 : Ref sig .tc := ⟨.hbm, 802, rfl⟩
abbrev main_v613 : Ref sig .tc := ⟨.hbm, 803, rfl⟩
abbrev main_v614 : Ref sig .tc := ⟨.hbm, 804, rfl⟩
abbrev main_v615 : Ref sig .tc := ⟨.hbm, 805, rfl⟩
abbrev main_cst_124 : Ref sig .tc := ⟨.hbm, 806, rfl⟩
abbrev main_v616 : Ref sig .tc := ⟨.hbm, 807, rfl⟩
abbrev main_v617 : Ref sig .tc := ⟨.hbm, 808, rfl⟩
abbrev main_cst_125 : Ref sig .tc := ⟨.hbm, 809, rfl⟩
abbrev main_v618 : Ref sig .tc := ⟨.hbm, 810, rfl⟩
abbrev main_v619 : Ref sig .tc := ⟨.hbm, 811, rfl⟩
abbrev main_cst_126 : Ref sig .tc := ⟨.hbm, 812, rfl⟩
abbrev main_v620 : Ref sig .tc := ⟨.hbm, 813, rfl⟩
abbrev main_v621 : Ref sig .tc := ⟨.hbm, 814, rfl⟩
abbrev main_v622 : Ref sig .tc := ⟨.hbm, 815, rfl⟩
abbrev main_v623 : Ref sig .tc := ⟨.hbm, 816, rfl⟩
abbrev main_v624 : Ref sig .tc := ⟨.hbm, 817, rfl⟩
abbrev main_v625 : Ref sig .tc := ⟨.hbm, 818, rfl⟩
abbrev main_v626 : Ref sig .tc := ⟨.hbm, 819, rfl⟩
abbrev main_v627 : Ref sig .tc := ⟨.hbm, 820, rfl⟩
abbrev main_v628 : Ref sig .tc := ⟨.hbm, 821, rfl⟩

abbrev nD : Nat := 1
abbrev τ : Topo := Topo.v7x

variable {F : FTy → Type} [FloatOps F]
-- ==== PoolBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S32x2048 : Shape := ⟨2, ![32, 2048]⟩
abbrev S256x1 : Shape := ⟨2, ![256, 1]⟩
abbrev S256x512 : Shape := ⟨2, ![256, 512]⟩
abbrev S32x1 : Shape := ⟨2, ![32, 1]⟩
abbrev S32x512 : Shape := ⟨2, ![32, 512]⟩
abbrev S288x2048 : Shape := ⟨2, ![288, 2048]⟩
abbrev S288x512 : Shape := ⟨2, ![288, 512]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v144 : BitVec 1 := Scalar.cmpi .eq arg0 c0_i32
  let v145 : BitVec 32 := Scalar.extui v144
  let c0_i32_40 : BitVec 32 := 0#32
  let v146 : BitVec 1 := Scalar.cmpi .ne v145 c0_i32_40
  v146

def k0_cond2 (i : grid0.Coords) : BitVec 1 :=
  let arg0 : BitVec 32 := BitVec.ofNat 32 (i 0).val
  let c0_i32_41 : BitVec 32 := 0#32
  let v147 : BitVec 1 := Scalar.cmpi .sgt arg0 c0_i32_41
  let v148 : BitVec 32 := Scalar.extui v147
  let c0_i32_42 : BitVec 32 := 0#32
  let v149 : BitVec 1 := Scalar.cmpi .ne v148 c0_i32_42
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x512 : Shape := ⟨2, ![2048, 512]⟩
abbrev S2x512 : Shape := ⟨2, ![2, 512]⟩
abbrev S2050x512 : Shape := ⟨2, ![2050, 512]⟩
abbrev S4x512 : Shape := ⟨2, ![4, 512]⟩
abbrev S2052x512 : Shape := ⟨2, ![2052, 512]⟩
abbrev S8x512 : Shape := ⟨2, ![8, 512]⟩
abbrev S2056x512 : Shape := ⟨2, ![2056, 512]⟩
abbrev S16x512 : Shape := ⟨2, ![16, 512]⟩
abbrev S2064x512 : Shape := ⟨2, ![2064, 512]⟩

abbrev nBuf : Space → Nat
  | .hbm => 187
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048, .f32⟩
  | 4 => ⟨S2048x2048, .f32⟩
  | 5 => ⟨S_, .f32⟩
  | 6 => ⟨S2048, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048x1, .f32⟩
  | 13 => ⟨S2048x1, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x2048, .f32⟩
  | 20 => ⟨S2048x2048, .f32⟩
  | 21 => ⟨S1x2048, .f32⟩
  | 22 => ⟨S2048x2048, .f32⟩
  | 23 => ⟨S2048x2048, .f32⟩
  | 24 => ⟨S_, .f32⟩
  | 25 => ⟨S_, .f32⟩
  | 26 => ⟨S2048x2048, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x512, .f32⟩
  | 33 => ⟨S_, .f32⟩
  | 34 => ⟨S2x512, .f32⟩
  | 35 => ⟨S2050x512, .f32⟩
  | 36 => ⟨S_, .f32⟩
  | 37 => ⟨S2x512, .f32⟩
  | 38 => ⟨S2048x512, .f32⟩
  | 39 => ⟨S2048x512, .f32⟩
  | 40 => ⟨S_, .f32⟩
  | 41 => ⟨S2048x1, .f32⟩
  | 42 => ⟨S2048x1, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S4x512, .f32⟩
  | 50 => ⟨S2052x512, .f32⟩
  | 51 => ⟨S_, .f32⟩
  | 52 => ⟨S4x512, .f32⟩
  | 53 => ⟨S2048x512, .f32⟩
  | 54 => ⟨S2048x512, .f32⟩
  | 55 => ⟨S_, .f32⟩
  | 56 => ⟨S2048x1, .f32⟩
  | 57 => ⟨S2048x1, .f32⟩
  | 58 => ⟨S2048x512, .f32⟩
  | 59 => ⟨S2048x512, .f32⟩
  | 60 => ⟨S2048x512, .f32⟩
  | 61 => ⟨S2048x512, .f32⟩
  | 62 => ⟨S2048x512, .f32⟩
  | 63 => ⟨S_, .f32⟩
  | 64 => ⟨S8x512, .f32⟩
  | 65 => ⟨S2056x512, .f32⟩
  | 66 => ⟨S_, .f32⟩
  | 67 => ⟨S8x512, .f32⟩
  | 68 => ⟨S2048x512, .f32⟩
  | 69 => ⟨S2048x512, .f32⟩
  | 70 => ⟨S_, .f32⟩
  | 71 => ⟨S2048x1, .f32⟩
  | 72 => ⟨S2048x1, .f32⟩
  | 73 => ⟨S2048x512, .f32⟩
  | 74 => ⟨S2048x512, .f32⟩
  | 75 => ⟨S2048x512, .f32⟩
  | 76 => ⟨S2048x512, .f32⟩
  | 77 => ⟨S2048x512, .f32⟩
  | 78 => ⟨S_, .f32⟩
  | 79 => ⟨S16x512, .f32⟩
  | 80 => ⟨S2064x512, .f32⟩
  | 81 => ⟨S_, .f32⟩
  | 82 => ⟨S16x512, .f32⟩
  | 83 => ⟨S2048x512, .f32⟩
  | 84 => ⟨S2048x512, .f32⟩
  | 85 => ⟨S_, .f32⟩
  | 86 => ⟨S2048x1, .f32⟩
  | 87 => ⟨S2048x1, .f32⟩
  | 88 => ⟨S2048x512, .f32⟩
  | 89 => ⟨S2048x512, .f32⟩
  | 90 => ⟨S2048x512, .f32⟩
  | 91 => ⟨S2048x512, .f32⟩
  | 92 => ⟨S2048x2048, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x2048, .f32⟩
  | 100 => ⟨S2048x512, .f32⟩
  | 101 => ⟨S2048x512, .f32⟩
  | 102 => ⟨S2048x512, .f32⟩
  | 103 => ⟨S_, .f32⟩
  | 104 => ⟨S2064x512, .f32⟩
  | 105 => ⟨S16x512, .f32⟩
  | 106 => ⟨S2048x512, .f32⟩
  | 107 => ⟨S2048x512, .f32⟩
  | 108 => ⟨S_, .f32⟩
  | 109 => ⟨S2048x2048, .f32⟩
  | 110 => ⟨S2048x512, .f32⟩
  | 111 => ⟨S_, .f32⟩
  | 112 => ⟨S2048x2048, .f32⟩
  | 113 => ⟨S2048x2048, .f32⟩
  | 114 => ⟨S2048x512, .f32⟩
  | 115 => ⟨S2048x512, .f32⟩
  | 116 => ⟨S2048x512, .f32⟩
  | 117 => ⟨S_, .f32⟩
  | 118 => ⟨S2056x512, .f32⟩
  | 119 => ⟨S8x512, .f32⟩
  | 120 => ⟨S2048x512, .f32⟩
  | 121 => ⟨S2048x512, .f32⟩
  | 122 => ⟨S_, .f32⟩
  | 123 => ⟨S2048x2048, .f32⟩
  | 124 => ⟨S2048x2048, .f32⟩
  | 125 => ⟨S2048x512, .f32⟩
  | 126 => ⟨S_, .f32⟩
  | 127 => ⟨S2048x2048, .f32⟩
  | _ => ⟨S2048x2048, .f32⟩

abbrev hbmTy0_1 (i : Nat) : BufTy := match i % 128 with
  | 0 => ⟨S2048x2048, .f32⟩
  | 1 => ⟨S2048x512, .f32⟩
  | 2 => ⟨S2048x512, .f32⟩
  | 3 => ⟨S2048x512, .f32⟩
  | 4 => ⟨S_, .f32⟩
  | 5 => ⟨S2052x512, .f32⟩
  | 6 => ⟨S4x512, .f32⟩
  | 7 => ⟨S2048x512, .f32⟩
  | 8 => ⟨S2048x512, .f32⟩
  | 9 => ⟨S_, .f32⟩
  | 10 => ⟨S2048x2048, .f32⟩
  | 11 => ⟨S2048x2048, .f32⟩
  | 12 => ⟨S2048x512, .f32⟩
  | 13 => ⟨S_, .f32⟩
  | 14 => ⟨S2048x2048, .f32⟩
  | 15 => ⟨S2048x2048, .f32⟩
  | 16 => ⟨S2048x512, .f32⟩
  | 17 => ⟨S2048x512, .f32⟩
  | 18 => ⟨S2048x512, .f32⟩
  | 19 => ⟨S_, .f32⟩
  | 20 => ⟨S2050x512, .f32⟩
  | 21 => ⟨S2x512, .f32⟩
  | 22 => ⟨S2048x512, .f32⟩
  | 23 => ⟨S2048x512, .f32⟩
  | 24 => ⟨S_, .f32⟩
  | 25 => ⟨S2048x2048, .f32⟩
  | 26 => ⟨S2048x2048, .f32⟩
  | 27 => ⟨S_, .f32⟩
  | 28 => ⟨S_, .f32⟩
  | 29 => ⟨S2048x2048, .f32⟩
  | 30 => ⟨S2048x2048, .f32⟩
  | 31 => ⟨S2048x2048, .f32⟩
  | 32 => ⟨S_, .f32⟩
  | 33 => ⟨S2048, .f32⟩
  | 34 => ⟨S1x2048, .f32⟩
  | 35 => ⟨S2048x2048, .f32⟩
  | 36 => ⟨S2048x2048, .f32⟩
  | 37 => ⟨S_, .f32⟩
  | 38 => ⟨S2048, .f32⟩
  | 39 => ⟨S2048x2048, .f32⟩
  | 40 => ⟨S_, .f32⟩
  | 41 => ⟨S2048, .f32⟩
  | 42 => ⟨S2048x1, .f32⟩
  | 43 => ⟨S2048x2048, .f32⟩
  | 44 => ⟨S2048x2048, .f32⟩
  | 45 => ⟨S2048x2048, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S2048, .f32⟩
  | 52 => ⟨S2048x2048, .f32⟩
  | 53 => ⟨S2048x2048, .f32⟩
  | 54 => ⟨S2048x2048, .f32⟩
  | 55 => ⟨S2048x2048, .f32⟩
  | 56 => ⟨S2048x2048, .f32⟩
  | 57 => ⟨S2048x2048, .bf16⟩
  | 58 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_call0_cst : Ref sig .tc := ⟨.hbm, 24, rfl⟩
abbrev main_call0_call0_v0 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_23 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_24 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_25 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_26 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_27 : Ref sig .tc := ⟨.hbm, 152, rfl⟩
abbrev main_v118 : Ref sig .tc := ⟨.hbm, 153, rfl⟩
abbrev main_v119 : Ref sig .tc := ⟨.hbm, 154, rfl⟩
abbrev main_call1_call0_cst : Ref sig .tc := ⟨.hbm, 155, rfl⟩
abbrev main_call1_call0_v0 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_28 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_29 : Ref sig .tc := ⟨.hbm, 165, rfl⟩
abbrev main_v127 : Ref sig .tc := ⟨.hbm, 166, rfl⟩
abbrev main_v128 : Ref sig .tc := ⟨.hbm, 167, rfl⟩
abbrev main_cst_30 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_31 : Ref sig .tc := ⟨.hbm, 175, rfl⟩
abbrev main_v135 : Ref sig .tc := ⟨.hbm, 176, rfl⟩
abbrev main_v136 : Ref sig .tc := ⟨.hbm, 177, rfl⟩
abbrev main_cst_32 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩

abbrev nD : Nat := 1
abbrev τ : Topo := Topo.v7x

variable {F : FTy → Type} [FloatOps F]
-- ==== NormBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32_19 : BitVec 32 := 0#32
  let v46 : BitVec 1 := Scalar.cmpi .sgt arg0 c0_i32_19
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormKvBwd.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormKvRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S2048, .f32⟩
  | .hbm, ⟨25, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== LossBwd.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_21 : BitVec 32 := 0#32
  let v58 : BitVec 1 := Scalar.cmpi .ne v57 c0_i32_21
  v58

def k0_cond2 (i : grid0.Coords) : BitVec 1 :=
  let arg0 : BitVec 32 := BitVec.ofNat 32 (i 0).val
  let c0_i32_22 : BitVec 32 := 0#32
  let v59 : BitVec 1 := Scalar.cmpi .sgt arg0 c0_i32_22
  let v60 : BitVec 32 := Scalar.extui v59
  let c0_i32_23 : BitVec 32 := 0#32
  let v61 : BitVec 1 := Scalar.cmpi .ne v60 c0_i32_23
  v61

def k0_cond3 (i : grid0.Coords) : BitVec 1 :=
  let arg0 : BitVec 32 := BitVec.ofNat 32 (i 0).val
  let c0_i32_24 : BitVec 32 := 0#32
  let v62 : BitVec 1 := Scalar.cmpi .eq arg0 c0_i32_24
  let v63 : BitVec 32 := Scalar.extui v62
  let c0_i32_25 : BitVec 32 := 0#32
  let v64 : BitVec 1 := Scalar.cmpi .ne v63 c0_i32_25
  v64

def k0_cond4 (i : grid0.Coords) : BitVec 1 :=
  let arg0 : BitVec 32 := BitVec.ofNat 32 (i 0).val
  let c0_i32_26 : BitVec 32 := 0#32
  let v65 : BitVec 1 := Scalar.cmpi .sgt arg0 c0_i32_26
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S1x2048, .f32⟩
  | .hbm, ⟨73, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== NormFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PoolFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S32x2048 : Shape := ⟨2, ![32, 2048]⟩
abbrev S256 : Shape := ⟨1, ![256]⟩
abbrev S256x1 : Shape := ⟨2, ![256, 1]⟩
abbrev S32 : Shape := ⟨1, ![32]⟩
abbrev S32x1 : Shape := ⟨2, ![32, 1]⟩
abbrev S288x2048 : Shape := ⟨2, ![288, 2048]⟩
abbrev S288x512 : Shape := ⟨2, ![288, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x512 : Shape := ⟨2, ![2048, 512]⟩
abbrev S2x512 : Shape := ⟨2, ![2, 512]⟩
abbrev S2050x512 : Shape := ⟨2, ![2050, 512]⟩
abbrev S4x512 : Shape := ⟨2, ![4, 512]⟩
abbrev S2052x512 : Shape := ⟨2, ![2052, 512]⟩
abbrev S8x512 : Shape := ⟨2, ![8, 512]⟩
abbrev S2056x512 : Shape := ⟨2, ![2056, 512]⟩
abbrev S16x512 : Shape := ⟨2, ![16, 512]⟩
abbrev S2064x512 : Shape := ⟨2, ![2064, 512]⟩

abbrev nBuf : Space → Nat
  | .hbm => 80
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S_, .f32⟩
  | .hbm, ⟨20, _⟩ => ⟨S2048x2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x1, .f32⟩
  | .hbm, ⟨26, _⟩ => ⟨S2048x512, .f32⟩
  | .hbm, ⟨27, _⟩ => ⟨S_, .f32⟩
  | .hbm, ⟨28, _⟩ => ⟨S2x512, .f32⟩
  | .hbm, ⟨29, _⟩ => ⟨S2050x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S4x512, .f32⟩
  | .hbm, ⟨42, _⟩ => ⟨S2052x512, .f32⟩
  | .hbm, ⟨43, _⟩ => ⟨S2048x512, .f32⟩
  | .hbm, ⟨44, _⟩ => ⟨S2048x512, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S8x512, .f32⟩
  | .hbm, ⟨55, _⟩ => ⟨S2056x512, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S16x512, .f32⟩
  | .hbm, ⟨68, _⟩ => ⟨S2064x512, .f32⟩
  | .hbm, ⟨69, _⟩ => ⟨S2048x512, .f32⟩
  | .hbm, ⟨70, _⟩ => ⟨S2048x512, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x2048, .f32⟩
  | .hbm, ⟨79, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_cst : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== MixFwd.lean ====
abbrev S2048x4096 : Shape := ⟨2, ![2048, 4096]⟩
abbrev S4096 : Shape := ⟨1, ![4096]⟩
abbrev S8x128x128 : Shape := ⟨3, ![8, 128, 128]⟩
abbrev S8x128 : Shape := ⟨2, ![8, 128]⟩
abbrev S1024 : Shape := ⟨1, ![1024]⟩
abbrev S31x1x1024 : Shape := ⟨3, ![31, 1, 1024]⟩
abbrev S1x4096 : Shape := ⟨2, ![1, 4096]⟩
abbrev S31x1024 : Shape := ⟨2, ![31, 1024]⟩
abbrev S128x8 : Shape := ⟨2, ![128, 8]⟩
abbrev S128x8x128 : Shape := ⟨3, ![128, 8, 128]⟩
abbrev S128x1024 : Shape := ⟨2, ![128, 1024]⟩
abbrev S_ : Shape := ⟨0, ![]⟩
abbrev S32x1024 : Shape := ⟨2, ![32, 1024]⟩
abbrev S1x1024 : Shape := ⟨2, ![1, 1024]⟩
abbrev S2048x2048 : Shape := ⟨2, ![2048, 2048]⟩
abbrev S256x4096 : Shape := ⟨2, ![256, 4096]⟩
abbrev S32x4096 : Shape := ⟨2, ![32, 4096]⟩
abbrev S256x2048 : Shape := ⟨2, ![256, 2048]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S288x1024 : Shape := ⟨2, ![288, 1024]⟩

abbrev nBuf : Space → Nat
  | .hbm => 26
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096, .f32⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S1024, .f32⟩
  | .hbm, ⟨6, _⟩ => ⟨S31x1x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S31x1024, .f32⟩
  | .hbm, ⟨14, _⟩ => ⟨S128x8, .f32⟩
  | .hbm, ⟨15, _⟩ => ⟨S128x8x128, .f32⟩
  | .hbm, ⟨16, _⟩ => ⟨S128x1024, .f32⟩
  | .hbm, ⟨17, _⟩ => ⟨S_, .i32⟩
  | .hbm, ⟨18, _⟩ => ⟨S_, .f32⟩
  | .hbm, ⟨19, _⟩ => ⟨S32x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S2048x2048, .bf16⟩
  | .local _ .vmem, ⟨0, _⟩ => ⟨S256x4096, .f32⟩
  | .local _ .vmem, ⟨1, _⟩ => ⟨S256x4096, .f32⟩
  | .local _ .vmem, ⟨2, _⟩ => ⟨S32x4096, .f32⟩
  | .local _ .vmem, ⟨3, _⟩ => ⟨S32x4096, .f32⟩
  | .local _ .vmem, ⟨4, _⟩ => ⟨S8x128x128, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x2048, .bf16⟩
  | .local _ .vmem, ⟨13, _⟩ => ⟨S256x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFwdRefIdeal.lean ====
abbrev S2048x4096 : Shape := ⟨2, ![2048, 4096]⟩
abbrev S4096 : Shape := ⟨1, ![4096]⟩
abbrev S8x128x128 : Shape := ⟨3, ![8, 128, 128]⟩
abbrev S8x128 : Shape := ⟨2, ![8, 128]⟩
abbrev S1024 : Shape := ⟨1, ![1024]⟩
abbrev S31x1x1024 : Shape := ⟨3, ![31, 1, 1024]⟩
abbrev S1x4096 : Shape := ⟨2, ![1, 4096]⟩
abbrev S2048x1024 : Shape := ⟨2, ![2048, 1024]⟩
abbrev S128x8 : Shape := ⟨2, ![128, 8]⟩
abbrev S128x8x1 : Shape := ⟨3, ![128, 8, 1]⟩
abbrev S128x8x128 : Shape := ⟨3, ![128, 8, 128]⟩
abbrev S128x1024 : Shape := ⟨2, ![128, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x128x8x128 : Shape := ⟨4, ![16, 128, 8, 128]⟩
abbrev S8x16x128x128 : Shape := ⟨4, ![8, 16, 128, 128]⟩
abbrev S1x128x8x128 : Shape := ⟨4, ![1, 128, 8, 128]⟩
abbrev S30x1024 : Shape := ⟨2, ![30, 1024]⟩
abbrev S2078x1024 : Shape := ⟨2, ![2078, 1024]⟩
abbrev S1x1x1024 : Shape := ⟨3, ![1, 1, 1024]⟩
abbrev S2048x2048 : Shape := ⟨2, ![2048, 2048]⟩

abbrev nBuf : Space → Nat
  | .hbm => 378
  | .vmem => 0
  | .smem => 0
  | _ => 0

abbrev hbmTy0_0 (i : Nat) : BufTy := match i % 128 with
  | 0 => ⟨S2048x4096, .f32⟩
  | 1 => ⟨S4096, .f32⟩
  | 2 => ⟨S8x128x128, .f32⟩
  | 3 => ⟨S8x128, .f32⟩
  | 4 => ⟨S1024, .f32⟩
  | 5 => ⟨S1024, .f32⟩
  | 6 => ⟨S31x1x1024, .f32⟩
  | 7 => ⟨S1024, .f32⟩
  | 8 => ⟨S1024, .f32⟩
  | 9 => ⟨S1024, .f32⟩
  | 10 => ⟨S1x4096, .f32⟩
  | 11 => ⟨S2048x4096, .f32⟩
  | 12 => ⟨S2048x4096, .f32⟩
  | 13 => ⟨S2048x1024, .f32⟩
  | 14 => ⟨S2048x1024, .f32⟩
  | 15 => ⟨S2048x1024, .f32⟩
  | 16 => ⟨S2048x1024, .f32⟩
  | 17 => ⟨S128x8, .f32⟩
  | 18 => ⟨S128x8x1, .f32⟩
  | 19 => ⟨S128x8x128, .f32⟩
  | 20 => ⟨S128x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S_, .f32⟩
  | 41 => ⟨S2048x1024, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S2048x1024, .f32⟩
  | 55 => ⟨S_, .f32⟩
  | 56 => ⟨S2048, .f32⟩
  | 57 => ⟨S2048x1, .f32⟩
  | 58 => ⟨S_, .f32⟩
  | 59 => ⟨S2048x1, .f32⟩
  | 60 => ⟨S2048x1, .f32⟩
  | 61 => ⟨S2048x1024, .f32⟩
  | 62 => ⟨S2048x1024, .f32⟩
  | 63 => ⟨S2048x1024, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S_, .f32⟩
  | 71 => ⟨S2048x1, .f32⟩
  | 72 => ⟨S2048x1, .f32⟩
  | 73 => ⟨S2048x1, .f32⟩
  | 74 => ⟨S2048x1024, .f32⟩
  | 75 => ⟨S2048x1024, .f32⟩
  | 76 => ⟨S1x1024, .f32⟩
  | 77 => ⟨S2048x1024, .f32⟩
  | 78 => ⟨S2048x1024, .f32⟩
  | 79 => ⟨S1x1024, .f32⟩
  | 80 => ⟨S2048x1024, .f32⟩
  | 81 => ⟨S2048x1024, .f32⟩
  | 82 => ⟨S128, .i32⟩
  | 83 => ⟨S1x128, .i32⟩
  | 84 => ⟨S_, .i32⟩
  | 85 => ⟨S_, .i32⟩
  | 86 => ⟨S1x128, .i32⟩
  | 87 => ⟨S1x128, .i32⟩
  | 88 => ⟨S1x128, .i32⟩
  | 89 => ⟨S_, .i32⟩
  | 90 => ⟨S1x128, .i32⟩
  | 91 => ⟨S1x128, .i1⟩
  | 92 => ⟨S1x128, .i32⟩
  | 93 => ⟨S1x128, .i32⟩
  | 94 => ⟨S_, .i32⟩
  | 95 => ⟨S1x128, .i32⟩
  | 96 => ⟨S1x128, .i1⟩
  | 97 => ⟨S1x128, .i1⟩
  | 98 => ⟨S_, .i32⟩
  | 99 => ⟨S1x128, .i32⟩
  | 100 => ⟨S1x128, .i32⟩
  | 101 => ⟨S1x128, .i32⟩
  | 102 => ⟨S128x1, .i32⟩
  | 103 => ⟨S_, .i32⟩
  | 104 => ⟨S_, .i32⟩
  | 105 => ⟨S128x1, .i32⟩
  | 106 => ⟨S128x1, .i32⟩
  | 107 => ⟨S128x1, .i32⟩
  | 108 => ⟨S_, .i32⟩
  | 109 => ⟨S128x1, .i32⟩
  | 110 => ⟨S128x1, .i1⟩
  | 111 => ⟨S128x1, .i32⟩
  | 112 => ⟨S128x1, .i32⟩
  | 113 => ⟨S_, .i32⟩
  | 114 => ⟨S128x1, .i32⟩
  | 115 => ⟨S128x1, .i1⟩
  | 116 => ⟨S128x1, .i1⟩
  | 117 => ⟨S_, .i32⟩
  | 118 => ⟨S128x1, .i32⟩
  | 119 => ⟨S128x1, .i32⟩
  | 120 => ⟨S128x1, .i32⟩
  | 121 => ⟨S128x128, .i32⟩
  | 122 => ⟨S128x128, .i32⟩
  | 123 => ⟨S128x128, .i1⟩
  | 124 => ⟨S1x128x128, .i1⟩
  | 125 => ⟨S_, .f32⟩
  | 126 => ⟨S8x128x128, .f32⟩
  | 127 => ⟨S8x128x128, .i1⟩
  | _ => ⟨S2048x4096, .f32⟩

abbrev hbmTy0_1 (i : Nat) : BufTy := match i % 128 with
  | 0 => ⟨S8x128x128, .f32⟩
  | 1 => ⟨S16x128x8x128, .f32⟩
  | 2 => ⟨S8x16x128x128, .f32⟩
  | 3 => ⟨S16x128x8x128, .f32⟩
  | 4 => ⟨S1x128x8x128, .f32⟩
  | 5 => ⟨S16x128x8x128, .f32⟩
  | 6 => ⟨S16x128x8x128, .f32⟩
  | 7 => ⟨S2048x1024, .f32⟩
  | 8 => ⟨S2048x1024, .f32⟩
  | 9 => ⟨S_, .f32⟩
  | 10 => ⟨S30x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S2078x1024, .f32⟩
  | 21 => ⟨S2048x1024, .f32⟩
  | 22 => ⟨S1x1x1024, .f32⟩
  | 23 => ⟨S1x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S1x1x1024, .f32⟩
  | 31 => ⟨S1x1024, .f32⟩
  | 32 => ⟨S2048x1024, .f32⟩
  | 33 => ⟨S2048x1024, .f32⟩
  | 34 => ⟨S2048x1024, .f32⟩
  | 35 => ⟨S2048x1024, .f32⟩
  | 36 => ⟨S1x1x1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S1x1x1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S1x1x1024, .f32⟩
  | 49 => ⟨S1x1024, .f32⟩
  | 50 => ⟨S2048x1024, .f32⟩
  | 51 => ⟨S2048x1024, .f32⟩
  | 52 => ⟨S2048x1024, .f32⟩
  | 53 => ⟨S2048x1024, .f32⟩
  | 54 => ⟨S1x1x1024, .f32⟩
  | 55 => ⟨S1x1024, .f32⟩
  | 56 => ⟨S2048x1024, .f32⟩
  | 57 => ⟨S2048x1024, .f32⟩
  | 58 => ⟨S2048x1024, .f32⟩
  | 59 => ⟨S2048x1024, .f32⟩
  | 60 => ⟨S1x1x1024, .f32⟩
  | 61 => ⟨S1x1024, .f32⟩
  | 62 => ⟨S2048x1024, .f32⟩
  | 63 => ⟨S2048x1024, .f32⟩
  | 64 => ⟨S2048x1024, .f32⟩
  | 65 => ⟨S2048x1024, .f32⟩
  | 66 => ⟨S1x1x1024, .f32⟩
  | 67 => ⟨S1x1024, .f32⟩
  | 68 => ⟨S2048x1024, .f32⟩
  | 69 => ⟨S2048x1024, .f32⟩
  | 70 => ⟨S2048x1024, .f32⟩
  | 71 => ⟨S2048x1024, .f32⟩
  | 72 => ⟨S1x1x1024, .f32⟩
  | 73 => ⟨S1x1024, .f32⟩
  | 74 => ⟨S2048x1024, .f32⟩
  | 75 => ⟨S2048x1024, .f32⟩
  | 76 => ⟨S2048x1024, .f32⟩
  | 77 => ⟨S2048x1024, .f32⟩
  | 78 => ⟨S1x1x1024, .f32⟩
  | 79 => ⟨S1x1024, .f32⟩
  | 80 => ⟨S2048x1024, .f32⟩
  | 81 => ⟨S2048x1024, .f32⟩
  | 82 => ⟨S2048x1024, .f32⟩
  | 83 => ⟨S2048x1024, .f32⟩
  | 84 => ⟨S1x1x1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S1x1x1024, .f32⟩
  | 91 => ⟨S1x1024, .f32⟩
  | 92 => ⟨S2048x1024, .f32⟩
  | 93 => ⟨S2048x1024, .f32⟩
  | 94 => ⟨S2048x1024, .f32⟩
  | 95 => ⟨S2048x1024, .f32⟩
  | 96 => ⟨S1x1x1024, .f32⟩
  | 97 => ⟨S1x1024, .f32⟩
  | 98 => ⟨S2048x1024, .f32⟩
  | 99 => ⟨S2048x1024, .f32⟩
  | 100 => ⟨S2048x1024, .f32⟩
  | 101 => ⟨S2048x1024, .f32⟩
  | 102 => ⟨S1x1x1024, .f32⟩
  | 103 => ⟨S1x1024, .f32⟩
  | 104 => ⟨S2048x1024, .f32⟩
  | 105 => ⟨S2048x1024, .f32⟩
  | 106 => ⟨S2048x1024, .f32⟩
  | 107 => ⟨S2048x1024, .f32⟩
  | 108 => ⟨S1x1x1024, .f32⟩
  | 109 => ⟨S1x1024, .f32⟩
  | 110 => ⟨S2048x1024, .f32⟩
  | 111 => ⟨S2048x1024, .f32⟩
  | 112 => ⟨S2048x1024, .f32⟩
  | 113 => ⟨S2048x1024, .f32⟩
  | 114 => ⟨S1x1x1024, .f32⟩
  | 115 => ⟨S1x1024, .f32⟩
  | 116 => ⟨S2048x1024, .f32⟩
  | 117 => ⟨S2048x1024, .f32⟩
  | 118 => ⟨S2048x1024, .f32⟩
  | 119 => ⟨S2048x1024, .f32⟩
  | 120 => ⟨S1x1x1024, .f32⟩
  | 121 => ⟨S1x1024, .f32⟩
  | 122 => ⟨S2048x1024, .f32⟩
  | 123 => ⟨S2048x1024, .f32⟩
  | 124 => ⟨S2048x1024, .f32⟩
  | 125 => ⟨S2048x1024, .f32⟩
  | 126 => ⟨S1x1x1024, .f32⟩
  | 127 => ⟨S1x1024, .f32⟩
  | _ => ⟨S2048x4096, .f32⟩

abbrev hbmTy0_2 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S1x1x1024, .f32⟩
  | 5 => ⟨S1x1024, .f32⟩
  | 6 => ⟨S2048x1024, .f32⟩
  | 7 => ⟨S2048x1024, .f32⟩
  | 8 => ⟨S2048x1024, .f32⟩
  | 9 => ⟨S2048x1024, .f32⟩
  | 10 => ⟨S1x1x1024, .f32⟩
  | 11 => ⟨S1x1024, .f32⟩
  | 12 => ⟨S2048x1024, .f32⟩
  | 13 => ⟨S2048x1024, .f32⟩
  | 14 => ⟨S2048x1024, .f32⟩
  | 15 => ⟨S2048x1024, .f32⟩
  | 16 => ⟨S1x1x1024, .f32⟩
  | 17 => ⟨S1x1024, .f32⟩
  | 18 => ⟨S2048x1024, .f32⟩
  | 19 => ⟨S2048x1024, .f32⟩
  | 20 => ⟨S2048x1024, .f32⟩
  | 21 => ⟨S2048x1024, .f32⟩
  | 22 => ⟨S1x1x1024, .f32⟩
  | 23 => ⟨S1x1024, .f32⟩
  | 24 => ⟨S2048x1024, .f32⟩
  | 25 => ⟨S2048x1024, .f32⟩
  | 26 => ⟨S2048x1024, .f32⟩
  | 27 => ⟨S2048x1024, .f32⟩
  | 28 => ⟨S1x1x1024, .f32⟩
  | 29 => ⟨S1x1024, .f32⟩
  | 30 => ⟨S2048x1024, .f32⟩
  | 31 => ⟨S2048x1024, .f32⟩
  | 32 => ⟨S2048x1024, .f32⟩
  | 33 => ⟨S2048x1024, .f32⟩
  | 34 => ⟨S1x1x1024, .f32⟩
  | 35 => ⟨S1x1024, .f32⟩
  | 36 => ⟨S2048x1024, .f32⟩
  | 37 => ⟨S2048x1024, .f32⟩
  | 38 => ⟨S2048x1024, .f32⟩
  | 39 => ⟨S2048x1024, .f32⟩
  | 40 => ⟨S1x1x1024, .f32⟩
  | 41 => ⟨S1x1024, .f32⟩
  | 42 => ⟨S2048x1024, .f32⟩
  | 43 => ⟨S2048x1024, .f32⟩
  | 44 => ⟨S2048x1024, .f32⟩
  | 45 => ⟨S2048x1024, .f32⟩
  | 46 => ⟨S1x1x1024, .f32⟩
  | 47 => ⟨S1x1024, .f32⟩
  | 48 => ⟨S2048x1024, .f32⟩
  | 49 => ⟨S2048x1024, .f32⟩
  | 50 => ⟨S2048x1024, .f32⟩
  | 51 => ⟨S2048x1024, .f32⟩
  | 52 => ⟨S1x1x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S1x1x1024, .f32⟩
  | 59 => ⟨S1x1024, .f32⟩
  | 60 => ⟨S2048x1024, .f32⟩
  | 61 => ⟨S2048x1024, .f32⟩
  | 62 => ⟨S2048x1024, .f32⟩
  | 63 => ⟨S2048x1024, .f32⟩
  | 64 => ⟨S1x1x1024, .f32⟩
  | 65 => ⟨S1x1024, .f32⟩
  | 66 => ⟨S2048x1024, .f32⟩
  | 67 => ⟨S2048x1024, .f32⟩
  | 68 => ⟨S2048x1024, .f32⟩
  | 69 => ⟨S2048x1024, .f32⟩
  | 70 => ⟨S1x1x1024, .f32⟩
  | 71 => ⟨S1x1024, .f32⟩
  | 72 => ⟨S2048x1024, .f32⟩
  | 73 => ⟨S2048x1024, .f32⟩
  | 74 => ⟨S2048x1024, .f32⟩
  | 75 => ⟨S2048x1024, .f32⟩
  | 76 => ⟨S1x1x1024, .f32⟩
  | 77 => ⟨S1x1024, .f32⟩
  | 78 => ⟨S2048x1024, .f32⟩
  | 79 => ⟨S2048x1024, .f32⟩
  | 80 => ⟨S2048x1024, .f32⟩
  | 81 => ⟨S1x1024, .f32⟩
  | 82 => ⟨S2048x1024, .f32⟩
  | 83 => ⟨S2048x1024, .f32⟩
  | 84 => ⟨S_, .f32⟩
  | 85 => ⟨S2048, .f32⟩
  | 86 => ⟨S2048x1, .f32⟩
  | 87 => ⟨S_, .f32⟩
  | 88 => ⟨S2048x1, .f32⟩
  | 89 => ⟨S2048x1, .f32⟩
  | 90 => ⟨S2048x1024, .f32⟩
  | 91 => ⟨S2048x1024, .f32⟩
  | 92 => ⟨S2048x1024, .f32⟩
  | 93 => ⟨S_, .f32⟩
  | 94 => ⟨S2048, .f32⟩
  | 95 => ⟨S2048x1, .f32⟩
  | 96 => ⟨S_, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S2048x1, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S1x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S2048x1024, .f32⟩
  | 120 => ⟨S2048x2048, .f32⟩
  | 121 => ⟨S2048x2048, .bf16⟩
  | _ => ⟨S2048x4096, .f32⟩

abbrev hbmTy (i : Nat) : BufTy := match i / 128 with
  | 0 => hbmTy0_0 i
  | 1 => hbmTy0_1 i
  | 2 => hbmTy0_2 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v61 : Ref sig .tc := ⟨.hbm, 101, rfl⟩
abbrev main_v62 : Ref sig .tc := ⟨.hbm, 102, rfl⟩
abbrev main_c_12 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_c : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_0 : Ref sig .tc := ⟨.hbm, 117, rfl⟩
abbrev main_call1_v12 : Ref sig .tc := ⟨.hbm, 118, rfl⟩
abbrev main_call1_v13 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_13 : Ref sig .tc := ⟨.hbm, 125, rfl⟩
abbrev main_v68 : Ref sig .tc := ⟨.hbm, 126, rfl⟩
abbrev main_call2_v0 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_14 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_15 : Ref sig .tc := ⟨.hbm, 141, rfl⟩
abbrev main_v81 : Ref sig .tc := ⟨.hbm, 142, rfl⟩
abbrev main_v82 : Ref sig .tc := ⟨.hbm, 143, rfl⟩
abbrev main_cst_16 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_17 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_cst_18 : Ref sig .tc := ⟨.hbm, 340, rfl⟩
abbrev main_v277 : Ref sig .tc := ⟨.hbm, 341, rfl⟩
abbrev main_v278 : Ref sig .tc := ⟨.hbm, 342, rfl⟩
abbrev main_cst_19 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_cst_20 : Ref sig .tc := ⟨.hbm, 349, rfl⟩
abbrev main_v284 : Ref sig .tc := ⟨.hbm, 350, rfl⟩
abbrev main_v285 : Ref sig .tc := ⟨.hbm, 351, rfl⟩
abbrev main_cst_21 : Ref sig .tc := ⟨.hbm, 352, rfl⟩
abbrev main_v286 : Ref sig .tc := ⟨.hbm, 353, rfl⟩
abbrev main_v287 : Ref sig .tc := ⟨.hbm, 354, rfl⟩
abbrev main_cst_22 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_call3_v0 : Ref sig .tc := ⟨.hbm, 367, rfl⟩
abbrev main_call3_v1 : Ref sig .tc := ⟨.hbm, 368, rfl⟩
abbrev main_call3_cst : Ref sig .tc := ⟨.hbm, 369, rfl⟩
abbrev main_call3_v2 : Ref sig .tc := ⟨.hbm, 370, rfl⟩
abbrev main_call3_v3 : Ref sig .tc := ⟨.hbm, 371, rfl⟩
abbrev main_call3_cst_0 : Ref sig .tc := ⟨.hbm, 372, rfl⟩
abbrev main_call3_v4 : Ref sig .tc := ⟨.hbm, 373, rfl⟩
abbrev main_call3_v5 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩

abbrev nD : Nat := 1
abbrev τ : Topo := Topo.v7x

variable {F : FTy → Type} [FloatOps F]
-- ==== GroupFwd.lean ====
abbrev S2048x2048 : Shape := ⟨2, ![2048, 2048]⟩
abbrev S4x512x512 : Shape := ⟨3, ![4, 512, 512]⟩
abbrev S4x512 : Shape := ⟨2, ![4, 512]⟩
abbrev S2048 : Shape := ⟨1, ![2048]⟩
abbrev S4x4x128x512 : Shape := ⟨4, ![4, 4, 128, 512]⟩
abbrev S1x2048 : Shape := ⟨2, ![1, 2048]⟩
abbrev S512x128 : Shape := ⟨2, ![512, 128]⟩
abbrev S1x128x512 : Shape := ⟨3, ![1, 128, 512]⟩
abbrev S1x512 : Shape := ⟨2, ![1, 512]⟩
abbrev S512x512 : Shape := ⟨2, ![512, 512]⟩
abbrev S128x512 : Shape := ⟨2, ![128, 512]⟩

abbrev nBuf : Space → Nat
  | .hbm => 13
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S2048x2048, .f32⟩
  | .hbm, ⟨5, _⟩ => ⟨S4x512x512, .bf16⟩
  | .hbm, ⟨6, _⟩ => ⟨S4x4x128x512, .bf16⟩
  | .hbm, ⟨7, _⟩ => ⟨S4x4x128x512, .bf16⟩
  | .hbm, ⟨8, _⟩ => ⟨S4x512x512, .bf16⟩
  | .hbm, ⟨9, _⟩ => ⟨S1x2048, .f32⟩
  | .hbm, ⟨10, _⟩ => ⟨S1x2048, .f32⟩
  | .hbm, ⟨11, _⟩ => ⟨S2048x2048, .f32⟩
  | .hbm, ⟨12, _⟩ => ⟨S2048x2048, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GroupFwdRefIdeal.lean ====
abbrev S2048x2048 : Shape := ⟨2, ![2048, 2048]⟩
abbrev S4x512x512 : Shape := ⟨3, ![4, 512, 512]⟩
abbrev S4x512 : Shape := ⟨2, ![4, 512]⟩
abbrev S2048 : Shape := ⟨1, ![2048]⟩
abbrev S2048x512 : Shape := ⟨2, ![2048, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x512, .f32⟩
  | .hbm, ⟨7, _⟩ => ⟨S1x512x512, .f32⟩
  | .hbm, ⟨8, _⟩ => ⟨S512x512, .f32⟩
  | .hbm, ⟨9, _⟩ => ⟨S2048x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S1x512x512, .f32⟩
  | .hbm, ⟨17, _⟩ => ⟨S512x512, .f32⟩
  | .hbm, ⟨18, _⟩ => ⟨S2048x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S1x512x512, .f32⟩
  | .hbm, ⟨26, _⟩ => ⟨S512x512, .f32⟩
  | .hbm, ⟨27, _⟩ => ⟨S2048x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S1x512x512, .f32⟩
  | .hbm, ⟨35, _⟩ => ⟨S512x512, .f32⟩
  | .hbm, ⟨36, _⟩ => ⟨S2048x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S2048x512, .f32⟩
  | .hbm, ⟨41, _⟩ => ⟨S2048x512, .f32⟩
  | .hbm, ⟨42, _⟩ => ⟨S2048x2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== DownFwd.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S1024x5632 : Shape := ⟨2, ![1024, 5632]⟩
abbrev S4x1408x256 : Shape := ⟨3, ![4, 1408, 256]⟩
abbrev S1024x256 : Shape := ⟨2, ![1024, 256]⟩
abbrev S5632x256 : Shape := ⟨2, ![5632, 256]⟩

abbrev nBuf : Space → Nat
  | .hbm => 6
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S5632x2048, .bf16⟩
  | .hbm, ⟨4, _⟩ => ⟨S4x1408x2048, .bf16⟩
  | .hbm, ⟨5, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x1408x256, .bf16⟩
  | .local _ .vmem, ⟨3, _⟩ => ⟨S4x1408x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownFwdRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== RowsFwd.lean ====
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S1024x2048 : Shape := ⟨2, ![1024, 2048]⟩
abbrev S4x512x512 : Shape := ⟨3, ![4, 512, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S4x512x2048, .bf16⟩
  | .hbm, ⟨6, _⟩ => ⟨S1x2048, .f32⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RowsFwdRefIdeal.lean ====
abbrev S2048x2048 : Shape := ⟨2, ![2048, 2048]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== RowsBwd.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RowsBwdRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WeightBwd.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightBwdRefIdeal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RowsSumBwd.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x4x1408, .bf16⟩
  | .hbm, ⟨6, _⟩ => ⟨S4x2048x1408, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RowsSumBwdRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== AdamStep.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamStepRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ColsFwd.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColsFwdRefIdeal.lean ====
abbrev S2048x2048 : Shape := ⟨2, ![2048, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x2048, .f32⟩
  | .hbm, ⟨3, _⟩ => ⟨S2048x5632, .f32⟩
  | .hbm, ⟨4, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFwd.lean ====
abbrev S2048x2048 : Shape := ⟨2, ![2048, 2048]⟩
abbrev S2048x4096 : Shape := ⟨2, ![2048, 4096]⟩
abbrev S4096 : Shape := ⟨1, ![4096]⟩
abbrev S2048x4x1024 : Shape := ⟨3, ![2048, 4, 1024]⟩
abbrev S4x2048x1024 : Shape := ⟨3, ![4, 2048, 1024]⟩
abbrev S1x4096 : Shape := ⟨2, ![1, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S1x4096, .f32⟩
  | .hbm, ⟨7, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InFwdRefIdeal.lean ====
abbrev S2048x2048 : Shape := ⟨2, ![2048, 2048]⟩
abbrev S2048x4096 : Shape := ⟨2, ![2048, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S4096, .f32⟩
  | .hbm, ⟨3, _⟩ => ⟨S2048x2048, .f32⟩
  | .hbm, ⟨4, _⟩ => ⟨S2048x4096, .f32⟩
  | .hbm, ⟨5, _⟩ => ⟨S1x4096, .f32⟩
  | .hbm, ⟨6, _⟩ => ⟨S2048x4096, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ColsWeightBwd.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColsWeightBwdRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InWeightBwd.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InWeightBwdRefIdeal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownWeightBwd.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWeightBwdRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | .hbm, ⟨16, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InRowsBwd.lean ====
abbrev S2048x4096 : Shape := ⟨2, ![2048, 4096]⟩
abbrev S2048x4x1024 : Shape := ⟨3, ![2048, 4, 1024]⟩
abbrev S4x2048x1024 : Shape := ⟨3, ![4, 2048, 1024]⟩
abbrev S2048x2048 : Shape := ⟨2, ![2048, 2048]⟩
abbrev S512x4096 : Shape := ⟨2, ![512, 4096]⟩
abbrev S4x256x1024 : Shape := ⟨3, ![4, 256, 1024]⟩
abbrev S512x256 : Shape := ⟨2, ![512, 256]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4x256x1024, .bf16⟩
  | .local _ .vmem, ⟨3, _⟩ => ⟨S4x256x1024, .bf16⟩
  | .local _ .vmem, ⟨4, _⟩ => ⟨S512x256, .f32⟩
  | .local _ .vmem, ⟨5, _⟩ => ⟨S512x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRowsBwdRefIdeal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S_, .f32⟩
  | .hbm, ⟨3, _⟩ => ⟨S2048x2048, .f32⟩
  | .hbm, ⟨4, _⟩ => ⟨S2048x4096, .f32⟩
  | .hbm, ⟨5, _⟩ => ⟨S2048x4096, .f32⟩
  | .hbm, ⟨6, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Rows.lean ====
/- Rows of a tile as rows of the whole array, and sums over them. -/
module

public import Idealize.ShloMosaic.Lib.Claim
public import Idealize.ShloMosaic.Lib.Pointwise
public import Idealize.ShloMosaic.Lib.Pipeline.ValueKit

@[expose] public section

open Idealize.ShloMosaic

namespace Cert.Rows

/-- Row `r` of tile `t`, of eight tiles of 256 rows. -/
def row (t : Fin 8) (r : Fin 256) : Fin 2048 := ⟨t.val * 256 + r.val, by omega⟩

theorem row_val (t : Fin 8) (r : Fin 256) : (row t r).val = t.val * 256 + r.val := rfl

/-- A sum over all rows is the sum over the tiles of the sums over each tile's rows. -/
theorem sum_rows {α : Type*} [AddCommMonoid α] (f : Fin 2048 → α) :
    ∑ t : Fin 8, ∑ r : Fin 256, f (row t r) = ∑ l, f l :=
  Fin.sum_mul_add_congr (S := 8) (n := 256) (L := 2048) (fun _ _ _ => rfl) rfl

/-- Every row is one of some tile. -/
theorem exists_row (l : Fin 2048) : ∃ t r, l = row t r :=
  ⟨⟨l.val / 256, by omega⟩, ⟨l.val % 256, by omega⟩, Fin.ext (by simp only [row_val]; omega)⟩

/-- Column `d` of head `h`, of four heads of 512 columns. -/
def col (h : Fin 4) (d : Fin 512) : Fin 2048 := ⟨h.val * 512 + d.val, by omega⟩

theorem col_val (h : Fin 4) (d : Fin 512) : (col h d).val = h.val * 512 + d.val := rfl

/-- Every column is one of some head. -/
theorem exists_col (l : Fin 2048) : ∃ h d, l = col h d :=
  ⟨⟨l.val / 512, by omega⟩, ⟨l.val % 512, by omega⟩, Fin.ext (by simp only [col_val]; omega)⟩

end Cert.Rows
-- ==== Proof.PoolScale.lean ====
/- The value of the pooling scale's gradient call against the derivative of the scale and bias. -/
module

public import proofs.«01_k».proof.Defs
public import proofs.«01_k».proof.Proof.Gen.PoolScaleBwdIdeal.Value
public import proofs.«01_k».proof.Proof.Gen.PoolScaleRefIdeal.Run
public import proofs.«01_k».proof.Proof.Gen.PoolScaleRefIdeal.Read
public import proofs.«01_k».proof.Proof.Rows
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolScaleBwdIdeal.RefValue

open Cert.PoolScaleBwdIdeal Cert.PoolScaleBwdIdeal.Gen
open Cert.PoolScaleRefIdeal.Read Cert.Rows

variable (m : (ℓ : Loc nD τ sig) → Buf (Elt Ideal) ℓ)

/-- The block every window shows at grid point `t`. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The call's scale argument is the reference's vector laid out as one row. -/
theorem scale_row (c : Dev nD) (a : Fin 1) (b : Fin 2048) :
    V m c main_v3 (ix2 a b) = m ((c : Thread nD τ).loc main_arg3) (ix1 b) := by
  entry_read
  pointwise

/-- The call's second argument is the forward's value before the scale. -/
theorem pre_entry (c : Dev nD) (a b : Fin 2048) :
    V m c main_v2 (ix2 a b) = val_main_v3 (F := Ideal) (m ((c : Thread nD τ).loc main_arg1)) (m ((c : Thread nD τ).loc main_arg2)) (ix2 a b) := by
  entry_read
  pointwise [val_main_v3, val_main_v2, val_main_v1, val_main_v0]

theorem blk0 (c : Dev nD) (t : Fin 8) (r : Fin 256) (k : Fin 2048) :
    iblk m c 0 t (ix2 r k) = m ((c : Thread nD τ).loc main_arg0) (ix2 (row t r) k) := by
  blk_point [iblk, V, idx t]
  blk_ext [idx t, row_val]

theorem blk1 (c : Dev nD) (t : Fin 8) (r : Fin 256) (k : Fin 2048) :
    iblk m c 1 t (ix2 r k) = val_main_v3 (F := Ideal) (m ((c : Thread nD τ).loc main_arg1)) (m ((c : Thread nD τ).loc main_arg2)) (ix2 (row t r) k) := by
  rw [← pre_entry]
  blk_point [iblk, idx t]
  blk_ext [idx t, row_val]

theorem blk2 (c : Dev nD) (t : Fin 8) (a : Fin 1) (k : Fin 2048) :
    iblk m c 2 t (ix2 a k) = m ((c : Thread nD τ).loc main_arg3) (ix1 k) := by
  rw [← scale_row m c a]
  blk_point [iblk, idx t]
  blk_ext [idx t, row_val]

theorem ref_do (x0 : FVec Ideal S2048x2048 .f32) (x3 : FVec Ideal S2048 .f32) (a b : Fin 2048) :
    val_main_v17 (F := Ideal) x0 x3 (ix2 a b) = x0 (ix2 a b) * x3 (ix1 b) := by
  pointwise [val_main_v17, val_main_v11, val_main_v10, val_main_v4]

theorem ref_dscale (x0 x1 : FVec Ideal S2048x2048 .f32) (x2 : FVec Ideal S4x512 .f32) (a : Fin 1) (b : Fin 2048) :
    val_main_v18 (F := Ideal) x0 x1 x2 (ix2 a b) = ∑ r : Fin 2048, x0 (ix2 r b) * val_main_v3 (F := Ideal) x1 x2 (ix2 r b) := by
  pointwise [val_main_v18, val_main_v12, val_main_cst_0, val_main_v9, val_main_v8, val_main_v7, val_main_cst]
  simp only [Fin.sum_univ_one, Finset.univ_unique, Finset.sum_singleton, mul_comm]

theorem ref_db (x0 : FVec Ideal S2048x2048 .f32) (x3 : FVec Ideal S2048 .f32) (a : Fin 1) (b : Fin 2048) :
    val_main_v19 (F := Ideal) x0 x3 (ix2 a b) = ∑ r : Fin 2048, x0 (ix2 r b) * x3 (ix1 b) := by
  pointwise [val_main_v19, val_main_v16, val_main_v15, val_main_cst_2, val_main_v14, val_main_v13, val_main_v11, val_main_cst_1, val_main_v10, val_main_v4]
  simp only [Finset.univ_unique, Finset.sum_singleton]

/-- One entry of the call's row block. -/
theorem pay_do (x : FVec Ideal S256x2048 .f32) (s : FVec Ideal S1x2048 .f32) (r : Fin 256) (k : Fin 2048) :
    k0_pay4 (F := Ideal) x s (ix2 r k) = x (ix2 r k) * s (ix2 0 k) := by
  pointwise [k0_pay1, k0_pay4]

/-- One entry of a tile's part of the scale's gradient. -/
theorem pay_dscale (x y : FVec Ideal S256x2048 .f32) (a : Fin 1) (k : Fin 2048) :
    k0_pay2 (F := Ideal) x y (ix2 a k) = ∑ r : Fin 256, x (ix2 r k) * y (ix2 r k) := by
  pointwise [k0_pay2]

/-- One entry of a tile's part of the bias's gradient. -/
theorem pay_db (x : FVec Ideal S256x2048 .f32) (s : FVec Ideal S1x2048 .f32) (a : Fin 1) (k : Fin 2048) :
    k0_pay3 (F := Ideal) x s (ix2 a k) = ∑ r : Fin 256, x (ix2 r k) * s (ix2 0 k) := by
  pointwise [k0_pay1, k0_pay3]

theorem outs_do (c : Dev nD) (t : Fin cfg0.N) :
    (outsAt0 m c t.val t.isLt).1 = k0_pay4 (iblk m c 0 t) (iblk m c 2 t) := by
  have ht : t.val < 8 := t.isLt.trans_eq N_0
  by_cases h : t.val % 8 = 0
  · rw [outsAt0_A m c t h (by omega) h (by omega)]; frame_out
  · rw [outsAt0_B m c t h (by omega) h (by omega)]; frame_out

theorem do_at (c : Dev nD) (t : Fin 8) (a : Fin 256) (b : Fin 2048) :
    k0_pay4 (F := Ideal) (iblk m c 0 t) (iblk m c 2 t) (ix2 a b)
      = val_main_v17 (F := Ideal) (m ((c : Thread nD τ).loc main_arg0)) (m ((c : Thread nD τ).loc main_arg3)) (ix2 (row t a) b) := by
  refine (pay_do _ _ a b).trans ?_
  erw [ref_do, blk0 m c t, blk2 m c t]

theorem final_do (c : Dev nD) : (dats m 0 c).arrAt 3 cfg0.N
    = val_main_v17 (F := Ideal) (m ((c : Thread nD τ).loc main_arg0)) (m ((c : Thread nD τ).loc main_arg3)) := by
  refine (dats m 0 c).arrAt_eq_of_covers 3 _ (by decide +kernel) fun t hf y => ?_
  blk_simp; rw [after0_3, outs_do]
  obtain ⟨a, b, rfl⟩ : ∃ (a : Fin 256) (b : Fin 2048), y = ix2 a b := ⟨y 0, y 1, eq_ix2 y⟩
  refine (do_at m c t a b).trans ?_
  blk_ext [idx t]
  exact row_val t a

/-- The second accumulator after the last tile. -/
theorem acc_dscale (c : Dev nD) (j : S1x2048.Idx) : (outsAt0 m c t0_7.val t0_7.isLt).2.1 j
    = ∑ t : Fin 8, k0_pay2 (F := Ideal) (iblk m c 0 t) (iblk m c 1 t) j := by
  rw [Pipeline.eq_sum_fin_of_reset_step_apply_last (fun n h => (outsAt0 m c n h).2.1) 8 (fun _ => 0)
    (fun t j => k0_pay2 (iblk m c 0 t) (iblk m c 1 t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      pointwise [k0_pay5])
    (le_of_eq N_0) t0_7 rfl j, zero_add]
  rfl

theorem dscale_at (c : Dev nD) (a : Fin 1) (b : Fin 2048) :
    ∑ t : Fin 8, k0_pay2 (F := Ideal) (iblk m c 0 t) (iblk m c 1 t) (ix2 a b)
      = val_main_v18 (F := Ideal) (m ((c : Thread nD τ).loc main_arg0)) (m ((c : Thread nD τ).loc main_arg1)) (m ((c : Thread nD τ).loc main_arg2)) (ix2 a b) := by
  rw [ref_dscale, ← sum_rows]
  refine Finset.sum_congr rfl fun t _ => (pay_dscale _ _ a b).trans (Finset.sum_congr rfl fun r _ => ?_)
  erw [blk0 m c t, blk1 m c t]

theorem final_dscale (c : Dev nD) : (dats m 0 c).arrAt 4 cfg0.N
    = val_main_v18 (F := Ideal) (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4]
  obtain ⟨a, b, rfl⟩ : ∃ (a : Fin 1) (b : Fin 2048), j = ix2 a b := ⟨j 0, j 1, eq_ix2 j⟩
  exact (acc_dscale m c _).trans (dscale_at m c a b)

/-- The third accumulator after the last tile. -/
theorem acc_db (c : Dev nD) (j : S1x2048.Idx) : (outsAt0 m c t0_7.val t0_7.isLt).2.2 j
    = ∑ t : Fin 8, k0_pay3 (F := Ideal) (iblk m c 0 t) (iblk m c 2 t) j := by
  rw [Pipeline.eq_sum_fin_of_reset_step_apply_last (fun n h => (outsAt0 m c n h).2.2) 8 (fun _ => 0)
    (fun t j => k0_pay3 (F := Ideal) (iblk m c 0 t) (iblk m c 2 t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      pointwise [k0_pay6])
    (le_of_eq N_0) t0_7 rfl j, zero_add]
  rfl

theorem db_at (c : Dev nD) (a : Fin 1) (b : Fin 2048) :
    ∑ t : Fin 8, k0_pay3 (F := Ideal) (iblk m c 0 t) (iblk m c 2 t) (ix2 a b)
      = val_main_v19 (F := Ideal) (m ((c : Thread nD τ).loc main_arg0)) (m ((c : Thread nD τ).loc main_arg3)) (ix2 a b) := by
  rw [ref_db, ← sum_rows]
  refine Finset.sum_congr rfl fun t _ => (pay_db _ _ a b).trans (Finset.sum_congr rfl fun r _ => ?_)
  erw [blk0 m c t, blk2 m c t]

theorem final_db (c : Dev nD) : (dats m 0 c).arrAt 5 cfg0.N
    = val_main_v19 (F := Ideal) (m ((c : Thread nD τ).loc main_arg0)) (m ((c : Thread nD τ).loc main_arg3)) := by
  refine (dats m 0 c).arrAt_eq_of_after_last 5 t0_7 (by decide +kernel) _ fun j => ?_
  blk_simp
  rw [after0_5]
  obtain ⟨a, b, rfl⟩ : ∃ (a : Fin 1) (b : Fin 2048), j = ix2 a b := ⟨j 0, j 1, eq_ix2 j⟩
  exact (acc_db m c _).trans (db_at m c a b)

end Cert.PoolScaleBwdIdeal.RefValue

namespace Cert.Proof

/-- The call computes the derivative of the scale and bias. -/
theorem pool_scale : Cert.algebraic_PoolScaleBwdIdeal_PoolScaleRefIdeal := by
  pair_intro
  · run_from Cert.PoolScaleBwdIdeal.Value.run_blocks m g
  · hlo_run
    · exact (Cert.PoolScaleBwdIdeal.RefValue.final_do m c).symm
    · exact (Cert.PoolScaleBwdIdeal.RefValue.final_dscale m c).symm
    · exact (Cert.PoolScaleBwdIdeal.RefValue.final_db m c).symm

end Cert.Proof
-- ==== Proof.Reals.lean ====
/- Extended reals that are real, and what can be done with a real factor. -/
module

public import Idealize.ShloMosaic.Lib.Claim
public import Idealize.ShloMosaic.Lib.Pointwise

@[expose] public section

open Idealize.ShloMosaic

namespace Cert.Reals

/-- An extended real that is neither infinity. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sum {ι : Type*} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any sum. -/
theorem coe_mul_add {a : ℝ} (ha : 0 ≤ a) (x y : EReal) : (a : EReal) * (x + y) = a * x + a * y :=
  EReal.left_distrib_of_nonneg_of_ne_top (EReal.coe_nonneg.mpr ha) (EReal.coe_ne_top a) x y

/-- A nonnegative real factor passes through a sum of any extended reals. -/
theorem mul_sum_of_nonneg {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert b s hb ih => rw [Finset.sum_insert hb, Finset.sum_insert hb, coe_mul_add ha, ih]

/-- A real is finite: its absolute value is below infinity. -/
theorem isReal_of_abs_lt {x : EReal} (h : max x (-x) < ⊤) : IsReal x := by
  induction x with
  | bot => simp at h
  | top => simp at h
  | coe r => exact ⟨r, rfl⟩

/-- The test `abs x < inf` of a precondition. -/
theorem isReal_of_test {φ : FTy} {x : Ideal φ}
    (h : BitVec.ofBool (decide (FloatOps.absf x < Ideal.ofBits .f32 0x7F800000#32)) = 1#1) : IsReal x := by
  refine isReal_of_abs_lt ?_
  have e : Ideal.ofBits .f32 0x7F800000#32 = ⊤ := by simp [Ideal.ofBits, Ideal.ieee]
  rw [e] at h
  by_contra hn
  have hn : ¬ FloatOps.absf x < (⊤ : EReal) := hn
  rw [decide_eq_false hn] at h
  exact absurd h (by decide)

theorem isReal_ofBits_f32 {w : BitVec 32} (h : (w.extractLsb' 23 8).toNat ≠ 255) : IsReal (Ideal.ofBits .f32 w) := by
  unfold Ideal.ofBits Ideal.ieee
  simp only
  rw [if_neg (by simpa using h)]
  split
  · exact isReal_coe _
  · exact isReal_coe _

/-- The maximum of finitely many reals, from minus infinity, is real where there is one. -/
theorem isReal_fold_max {n : ℕ} [NeZero n] {f : Fin n → EReal} (h : ∀ i, IsReal (f i)) :
    IsReal (Finset.fold max ⊥ f Finset.univ) := by
  have hf : Finset.fold max ⊥ f Finset.univ = Finset.univ.sup f := rfl
  rw [hf]
  obtain ⟨i, -, hi⟩ := Finset.exists_mem_eq_sup Finset.univ ⟨(0 : Fin n), Finset.mem_univ _⟩ f
  rw [hi]
  exact h i

end Cert.Reals
-- ==== Proof.SoftmaxGrad.lean ====
/- The gradient of one row of softmax, by the formula in its probabilities and by differentiating the quotient. -/
module

public import proofs.«01_k».proof.Proof.Reals

@[expose] public section

noncomputable section

open Idealize.ShloMosaic

namespace Cert.SoftmaxGrad

open Cert.Reals

variable {n : ℕ} [NeZero n]

/-- The largest of a row. -/
def top (x : Fin n → EReal) : EReal := Finset.fold max (Ideal.ofBits .f32 0xFF800000#32) x Finset.univ

/-- A row's exponentials, relative to its largest entry. -/
def ex (x : Fin n → EReal) (j : Fin n) : EReal := Ideal.exp (x j - top x)

/-- Their sum. -/
def den (x : Fin n → EReal) : EReal := ∑ j, ex x j

/-- The softmax of a row. -/
def prob (x : Fin n → EReal) (j : Fin n) : EReal := Ideal.div (ex x j) (den x)

/-- The gradient of a row `x` whose softmax has gradient `g`, in the probabilities. -/
def byProb (x g : Fin n → EReal) (j : Fin n) : EReal := prob x j * (g j - ∑ i, g i * prob x i)

/-- The same, as the gradient of a quotient of an exponential and the sum. -/
def byQuotient (x g : Fin n → EReal) (j : Fin n) : EReal :=
  (Ideal.div (g j) (den x) + -(∑ i, g i * Ideal.div 1 (den x * den x) * ex x i)) * ex x j

theorem ofBits_neg_inf : Ideal.ofBits .f32 0xFF800000#32 = ⊥ := by
  simp [Ideal.ofBits, Ideal.ieee]

/-- Of a row of reals, the exponentials are positive reals. -/
theorem ex_pos {x : Fin n → EReal} (hx : ∀ j, IsReal (x j)) (j : Fin n) : ∃ r : ℝ, 0 < r ∧ ex x j = (r : EReal) := by
  have ht : IsReal (top x) := by
    unfold top
    rw [ofBits_neg_inf]
    exact isReal_fold_max hx
  obtain ⟨r, hr⟩ := (hx j).sub ht
  exact ⟨Real.exp r, Real.exp_pos r, by unfold ex; rw [hr, Ideal.exp_coe]⟩

theorem byQuotient_eq {x : Fin n → EReal} (hx : ∀ j, IsReal (x j)) (g : Fin n → EReal) (j : Fin n) :
    byQuotient x g j = byProb x g j := by
  choose e he hee using ex_pos hx
  have hs : 0 < ∑ i, e i := Finset.sum_pos (fun i _ => he i) ⟨0, Finset.mem_univ _⟩
  have hden : den x = ((∑ i, e i : ℝ) : EReal) := by
    unfold den; rw [coe_sum]; exact Finset.sum_congr rfl fun i _ => hee i
  set s : ℝ := ∑ i, e i
  have ha : 0 ≤ 1 / s := by positivity
  have hp : ∀ i, prob x i = ((e i : ℝ) : EReal) * ((1 / s : ℝ) : EReal) := fun i => by
    unfold prob; rw [hden, hee, Ideal.div_coe hs.ne']
  unfold byQuotient byProb
  rw [hp, hden, hee, Ideal.div_coe hs.ne', ← EReal.coe_mul, Ideal.div_coe (mul_pos hs hs).ne', one_mul]
  have h1 : ∑ i, g i * ((1 / (s * s) : ℝ) : EReal) * ex x i = ((1 / s : ℝ) : EReal) * ∑ i, g i * prob x i := by
    rw [mul_sum_of_nonneg ha]
    refine Finset.sum_congr rfl fun i _ => ?_
    rw [hp, hee, show (1 / (s * s) : ℝ) = (1 / s) * (1 / s) by field_simp, EReal.coe_mul]
    ac_nf
  rw [h1, mul_comm (g j), ← mul_neg, ← coe_mul_add ha, ← sub_eq_add_neg]
  ac_nf

end Cert.SoftmaxGrad
-- ==== Proof.AttnHead.lean ====
/- One head of the attention's gradient call on one tile of 256 rows. -/
module

public import proofs.«01_k».proof.Defs
public import proofs.«01_k».proof.Proof.Gen.AttnBwdIdeal.Value
public import proofs.«01_k».proof.Proof.Rows
public import proofs.«01_k».proof.Proof.SoftmaxGrad

@[expose] public section

set_option maxRecDepth 16384

noncomputable section

open Idealize.ShloMosaic Idealize.ShloMosaic.TcCoe Idealize.SL.Sem

namespace Cert.AttnBwdIdeal.RefValue

open Cert.AttnBwdIdeal Cert.AttnBwdIdeal.Gen Cert.SoftmaxGrad

/-- The softmax of one head's scores, a row of `q` against every row of `k`. -/
def probV (q k : FVec Ideal S256x512 .bf16) : FVec Ideal S256x256 .f32 :=
  have x : FVec Ideal S256x256 .f32 := mulf (matmul dot_S256x512_S256x512_S256x256_1_1_0_0_n_n none q k (constant S256x256 .f32 0x00000000#32))
    (broadcast S256x256 (Scalar.ofBits .f32 0x3D3504F3#32))
  have e : FVec Ideal S256x256 .f32 := exp (subf x (broadcastTo S256x256 (shapeCast S256x1 (multiReduction .maximumf [1] S256 x 0xFF800000#32 reduces_S256x256_S256 (.inl rfl) rfl) shapeCasts_S256_S256x1) broadcasts_S256x1_S256x256))
  divf e (broadcastTo S256x256 (shapeCast S256x1 (multiReduction .add [1] S256 e 0x00000000#32 reduces_S256x256_S256 (.inl rfl) rfl) shapeCasts_S256_S256x1) broadcasts_S256x1_S256x256)

/-- The gradient of one head's scores before the scale, times the scale. -/
def dsV (q dO k v : FVec Ideal S256x512 .bf16) : FVec Ideal S256x256 .bf16 :=
  have g : FVec Ideal S256x256 .f32 := matmul dot_S256x512_S256x512_S256x256_1_1_0_0_n_n none dO v (constant S256x256 .f32 0x00000000#32)
  truncf .bf16 (mulf (mulf (probV q k) (subf g (broadcastTo S256x256 (shapeCast S256x1 (multiReduction .add [1] S256 (mulf g (probV q k)) 0x00000000#32 reduces_S256x256_S256 (.inl rfl) rfl) shapeCasts_S256_S256x1) broadcasts_S256x1_S256x256)))
    (broadcast S256x256 (Scalar.ofBits .f32 0x3D3504F3#32))) bitsLt_bf16_f32

/-- One head's gradients of `q`, `k` and `v` on the tile. -/
def dqV (q dO k v : FVec Ideal S256x512 .bf16) : FVec Ideal S256x512 .f32 :=
  matmul dot_S256x256_S256x512_S256x512_1_0_0_1_n_n none (dsV q dO k v) k (constant S256x512 .f32 0x00000000#32)
def dkV (q dO k v : FVec Ideal S256x512 .bf16) : FVec Ideal S256x512 .f32 :=
  matmul dot_S256x256_S256x512_S256x512_0_0_1_1_n_n none (dsV q dO k v) q (constant S256x512 .f32 0x00000000#32)
def dvV (q dO k : FVec Ideal S256x512 .bf16) : FVec Ideal S256x512 .f32 :=
  matmul dot_S256x256_S256x512_S256x512_0_0_1_1_n_n none (truncf .bf16 (probV q k) bitsLt_bf16_f32) dO (constant S256x512 .f32 0x00000000#32)

/-- The columns of each head. -/
def sl0 (v : FVec Ideal S256x2048 .bf16) : FVec Ideal S256x512 .bf16 := extractStridedSlice S256x512 ![0, 0] v slices_S256x2048_o0_0_S256x512
def sl1 (v : FVec Ideal S256x2048 .bf16) : FVec Ideal S256x512 .bf16 := extractStridedSlice S256x512 ![0, 512] v slices_S256x2048_o0_512_S256x512
def sl2 (v : FVec Ideal S256x2048 .bf16) : FVec Ideal S256x512 .bf16 := extractStridedSlice S256x512 ![0, 1024] v slices_S256x2048_o0_1024_S256x512
def sl3 (v : FVec Ideal S256x2048 .bf16) : FVec Ideal S256x512 .bf16 := extractStridedSlice S256x512 ![0, 1536] v slices_S256x2048_o0_1536_S256x512

/-- Four heads' columns side by side. -/
def side (a b c d : FVec Ideal S256x512 .f32) : FVec Ideal S256x2048 .f32 :=
  concatenate S256x2048 1 [⟨S256x512, a⟩, ⟨S256x512, b⟩, ⟨S256x512, c⟩, ⟨S256x512, d⟩] concatenates_S256x512_S256x512_S256x512_S256x512_S256x2048_d1

/-- What the tile stores as the gradient of `q`, and adds to those of `k` and `v`. -/
def tileDq (v0 v1 v2 v3 : FVec Ideal S256x2048 .bf16) : FVec Ideal S256x2048 .bf16 :=
  k0_pay36 (F := Ideal) v0 v1 v2 v3 (k0_pay9 v0 v1 v2 v3)
        (k0_pay19 (k0_pay12 v2) (k0_pay13 v3) (k0_pay14 v1) (k0_pay15 v0 v2) (FloatOps.ofBits FTy.f32 1026884851#32))
        (k0_pay22 v2) (k0_pay24 v0 v2) (k0_pay26 v1 v3) (k0_pay27 v0 v1 v2 v3)
def tileDk (v0 v1 v2 v3 : FVec Ideal S256x2048 .bf16) : FVec Ideal S256x2048 .f32 :=
  k0_pay34 (F := Ideal) v0 v1 v2 v3 (k0_pay10 v0 v1 v2 v3)
          (k0_pay20 (k0_pay11 v0) (k0_pay13 v3) (k0_pay14 v1) (k0_pay15 v0 v2) (FloatOps.ofBits FTy.f32 1026884851#32))
          (k0_pay21 v0) (k0_pay24 v0 v2) (k0_pay26 v1 v3) (k0_pay27 v0 v1 v2 v3)
def tileDv (v0 v1 v2 : FVec Ideal S256x2048 .bf16) : FVec Ideal S256x2048 .f32 :=
  k0_pay35 (F := Ideal) v0 v1 v2 (k0_pay7 v0 v1 v2)
          (k0_pay17 (k0_pay14 v1) (k0_pay15 v0 v2) (FloatOps.ofBits FTy.f32 1026884851#32)) (k0_pay25 v0 v1 v2)

theorem tileDq_eq (v0 v1 v2 v3 : FVec Ideal S256x2048 .bf16) : tileDq v0 v1 v2 v3 = truncf .bf16
    (side (dqV (sl0 v0) (sl0 v1) (sl0 v2) (sl0 v3)) (dqV (sl1 v0) (sl1 v1) (sl1 v2) (sl1 v3))
      (dqV (sl2 v0) (sl2 v1) (sl2 v2) (sl2 v3)) (dqV (sl3 v0) (sl3 v1) (sl3 v2) (sl3 v3))) bitsLt_bf16_f32 := rfl

theorem tileDk_eq (v0 v1 v2 v3 : FVec Ideal S256x2048 .bf16) : tileDk v0 v1 v2 v3 =
    side (dkV (sl0 v0) (sl0 v1) (sl0 v2) (sl0 v3)) (dkV (sl1 v0) (sl1 v1) (sl1 v2) (sl1 v3))
      (dkV (sl2 v0) (sl2 v1) (sl2 v2) (sl2 v3)) (dkV (sl3 v0) (sl3 v1) (sl3 v2) (sl3 v3)) := rfl

theorem tileDv_eq (v0 v1 v2 : FVec Ideal S256x2048 .bf16) : tileDv v0 v1 v2 =
    side (dvV (sl0 v0) (sl0 v1) (sl0 v2)) (dvV (sl1 v0) (sl1 v1) (sl1 v2))
      (dvV (sl2 v0) (sl2 v1) (sl2 v2)) (dvV (sl3 v0) (sl3 v1) (sl3 v2)) := rfl

/-- The scale of the scores. -/
abbrev scale : EReal := Ideal.ofBits .f32 0x3D3504F3#32

/-- A row's scores, and a row's gradient of the probabilities: the products with every row of `k` (of `v`). -/
def dots (a : Fin 512 → EReal) (b : Fin 256 → Fin 512 → EReal) (j : Fin 256) : EReal := ∑ x, a x * b j x
def score (a : Fin 512 → EReal) (b : Fin 256 → Fin 512 → EReal) (j : Fin 256) : EReal := dots a b j * scale

theorem probV_at (q k : FVec Ideal S256x512 .bf16) (r j : Fin 256) :
    probV q k (ix2 r j) = prob (score (fun x => q (ix2 r x)) fun i x => k (ix2 i x)) j := by
  pointwise [probV]
  rfl

theorem dsV_at (q dO k v : FVec Ideal S256x512 .bf16) (r j : Fin 256) :
    dsV q dO k v (ix2 r j) = byProb (score (fun x => q (ix2 r x)) fun i x => k (ix2 i x))
      (dots (fun x => dO (ix2 r x)) fun i x => v (ix2 i x)) j * scale := by
  pointwise [dsV, probV_at]
  rfl

theorem dqV_at (q dO k v : FVec Ideal S256x512 .bf16) (r : Fin 256) (d : Fin 512) :
    dqV q dO k v (ix2 r d) = ∑ j, dsV q dO k v (ix2 r j) * k (ix2 j d) := by
  pointwise [dqV]

theorem dkV_at (q dO k v : FVec Ideal S256x512 .bf16) (j : Fin 256) (d : Fin 512) :
    dkV q dO k v (ix2 j d) = ∑ r, dsV q dO k v (ix2 r j) * q (ix2 r d) := by
  pointwise [dkV]

theorem dvV_at (q dO k : FVec Ideal S256x512 .bf16) (j : Fin 256) (d : Fin 512) :
    dvV q dO k (ix2 j d) = ∑ r, probV q k (ix2 r j) * dO (ix2 r d) := by
  pointwise [dvV]

/-- Head `h`'s columns of row `l`. -/
def part {n : ℕ} (w : (⟨2, ![n, 2048]⟩ : Shape).Idx → EReal) (h : Fin 4) (l : Fin n) (x : Fin 512) : EReal := w (ix2 l (Cert.Rows.col h x))

/-- Head `h`'s columns, as a tile. -/
def sl (h : Fin 4) (v : FVec Ideal S256x2048 .bf16) : FVec Ideal S256x512 .bf16 := fun i => part v h (i 0) (i 1)

theorem sl_at (h : Fin 4) (v : FVec Ideal S256x2048 .bf16) (r : Fin 256) (x : Fin 512) : sl h v (ix2 r x) = part v h r x := rfl

theorem part_of (v : FVec Ideal S256x2048 .bf16) (h : Fin 4) (r : Fin 256) (x : Fin 512) (n : ℕ) (p : n < 2048)
    (e : n = h.val * 512 + x.val) : v (ix2 r ⟨n, p⟩) = part v h r x := by
  subst e; rfl

theorem sl0_eq (v : FVec Ideal S256x2048 .bf16) : sl0 v = sl 0 v := by
  funext i; obtain ⟨r, x, rfl⟩ : ∃ (r : Fin 256) (x : Fin 512), i = ix2 r x := ⟨i 0, i 1, eq_ix2 i⟩
  pointwise [sl0]; exact part_of v 0 r x _ _ (by simp)
theorem sl1_eq (v : FVec Ideal S256x2048 .bf16) : sl1 v = sl 1 v := by
  funext i; obtain ⟨r, x, rfl⟩ : ∃ (r : Fin 256) (x : Fin 512), i = ix2 r x := ⟨i 0, i 1, eq_ix2 i⟩
  pointwise [sl1]; exact part_of v 1 r x _ _ (by simp)
theorem sl2_eq (v : FVec Ideal S256x2048 .bf16) : sl2 v = sl 2 v := by
  funext i; obtain ⟨r, x, rfl⟩ : ∃ (r : Fin 256) (x : Fin 512), i = ix2 r x := ⟨i 0, i 1, eq_ix2 i⟩
  pointwise [sl2]; exact part_of v 2 r x _ _ (by simp)
theorem sl3_eq (v : FVec Ideal S256x2048 .bf16) : sl3 v = sl 3 v := by
  funext i; obtain ⟨r, x, rfl⟩ : ∃ (r : Fin 256) (x : Fin 512), i = ix2 r x := ⟨i 0, i 1, eq_ix2 i⟩
  pointwise [sl3]; exact part_of v 3 r x _ _ (by simp)

theorem at_of (f : FVec Ideal S256x512 .f32) (r : Fin 256) (d : Fin 512) (n : ℕ) (p : n < 512) (e : n = d.val) :
    f (ix2 r ⟨n, p⟩) = f (ix2 r d) := by
  subst e; rfl

/-- Of four heads side by side, the columns of each. -/
theorem side_at (f : Fin 4 → FVec Ideal S256x512 .f32) (r : Fin 256) (h : Fin 4) (d : Fin 512) :
    side (f 0) (f 1) (f 2) (f 3) (ix2 r (Cert.Rows.col h d)) = f h (ix2 r d) := by
  have hc := Cert.Rows.col_val h d
  have hd := d.isLt
  pointwise [side]
  fin_cases h <;> simp only [Fin.mk_zero, Fin.mk_one, Fin.reduceFinMk, Fin.val_zero, Fin.val_one, Fin.val_two, Fin.isValue] at hc ⊢
  · rw [dif_pos (by omega)]; exact at_of _ r d _ _ (by omega)
  · rw [dif_neg (by omega), dif_pos (by omega)]; exact at_of _ r d _ _ (by omega)
  · rw [dif_neg (by omega), dif_neg (by omega), dif_pos (by omega)]; exact at_of _ r d _ _ (by omega)
  · have hc : (Cert.Rows.col 3 d).val = 3 * 512 + d.val := hc
    rw [dif_neg (by omega), dif_neg (by omega), dif_neg (by omega)]; exact at_of _ r d _ _ (by omega)

/-- Row `r`'s scores in head `h`, and the gradient of its probabilities. -/
abbrev tsc (q k : FVec Ideal S256x2048 .bf16) (h : Fin 4) (r : Fin 256) : Fin 256 → EReal := score (part q h r) (part k h)
abbrev tdp (dO v : FVec Ideal S256x2048 .bf16) (h : Fin 4) (r : Fin 256) : Fin 256 → EReal := dots (part dO h r) (part v h)

variable (q dO k v : FVec Ideal S256x2048 .bf16)

theorem tileDq_at (r : Fin 256) (h : Fin 4) (d : Fin 512) : tileDq q dO k v (ix2 r (Cert.Rows.col h d))
    = ∑ j, byProb (tsc q k h r) (tdp dO v h r) j * scale * k (ix2 j (Cert.Rows.col h d)) := by
  rw [tileDq_eq, sl0_eq, sl1_eq, sl2_eq, sl3_eq, sl0_eq, sl1_eq, sl2_eq, sl3_eq, sl0_eq, sl1_eq, sl2_eq, sl3_eq, sl0_eq, sl1_eq, sl2_eq, sl3_eq]
  refine (side_at (fun h => dqV (sl h q) (sl h dO) (sl h k) (sl h v)) r h d).trans ?_
  rw [dqV_at]
  exact Finset.sum_congr rfl fun j _ => by rw [dsV_at]; rfl

theorem tileDk_at (j : Fin 256) (h : Fin 4) (d : Fin 512) : tileDk q dO k v (ix2 j (Cert.Rows.col h d))
    = ∑ r, byProb (tsc q k h r) (tdp dO v h r) j * scale * q (ix2 r (Cert.Rows.col h d)) := by
  rw [tileDk_eq, sl0_eq, sl1_eq, sl2_eq, sl3_eq, sl0_eq, sl1_eq, sl2_eq, sl3_eq, sl0_eq, sl1_eq, sl2_eq, sl3_eq, sl0_eq, sl1_eq, sl2_eq, sl3_eq]
  refine (side_at (fun h => dkV (sl h q) (sl h dO) (sl h k) (sl h v)) j h d).trans ?_
  rw [dkV_at]
  exact Finset.sum_congr rfl fun r _ => by rw [dsV_at]; rfl

theorem tileDv_at (j : Fin 256) (h : Fin 4) (d : Fin 512) : tileDv q dO k (ix2 j (Cert.Rows.col h d))
    = ∑ r, prob (tsc q k h r) j * dO (ix2 r (Cert.Rows.col h d)) := by
  rw [tileDv_eq, sl0_eq, sl1_eq, sl2_eq, sl3_eq, sl0_eq, sl1_eq, sl2_eq, sl3_eq, sl0_eq, sl1_eq, sl2_eq, sl3_eq]
  refine (side_at (fun h => dvV (sl h q) (sl h dO) (sl h k)) j h d).trans ?_
  rw [dvV_at]
  exact Finset.sum_congr rfl fun r _ => by rw [probV_at]; rfl

end Cert.AttnBwdIdeal.RefValue
-- ==== Proof.AttnRef.lean ====
/- What the derivative of the attention computes, row by row and head by head. -/
module

public import proofs.«01_k».proof.Proof.Gen.AttnRefIdeal.Read
public import proofs.«01_k».proof.Proof.AttnHead

@[expose] public section

set_option maxRecDepth 16384

noncomputable section

open Idealize.ShloMosaic Idealize.ShloMosaic.TcCoe

namespace Cert.AttnRefIdeal.RefValue

open Cert.AttnRefIdeal Cert.AttnRefIdeal.Gen Cert.AttnRefIdeal.Read Cert.Rows Cert.SoftmaxGrad Cert.Reals
open Cert.AttnBwdIdeal.RefValue (scale score dots part)

variable (q dO : FVec Ideal S2048x2048 .bf16) (k v : FVec Ideal S256x2048 .bf16)

/-- A row's scores with every row of `k`, and the gradient of its probabilities. -/
abbrev sc (h : Fin 4) (l : Fin 2048) : Fin 256 → EReal := score (part q h l) (part k h)
abbrev dp (h : Fin 4) (l : Fin 2048) : Fin 256 → EReal := dots (part dO h l) (part v h)

theorem v8_at (h : Fin 4) (l : Fin 2048) (j : Fin 256) : val_main_v8 (F := Ideal) q k (ix3 h l j) = sc q k h l j := by
  pointwise [val_main_v8, val_main_v7, val_main_cst, val_main_v6, val_main_v5, val_main_v4, val_main_v3, val_main_v2, val_main_v1, val_main_v0]
  rfl

/-- A row's largest entry, at any array of scores. -/
theorem reduce_max (x : FVec Ideal S4x2048x256 .f32) (h : Fin 4) (l : Fin 2048) :
    Host.reduce (FloatOps.maximumf (F := Ideal) (φ := .f32)) x (val_main_cst_0 (F := Ideal)) reducesTo_S4x2048x256_S4x2048_d2 h_S_ (ix2 h l)
      = top fun j => x (ix3 h l j) := by
  pointwise [val_main_cst_0]
  rfl

theorem v9_at (h : Fin 4) (l : Fin 2048) : val_main_v9 (F := Ideal) q k (ix2 h l) = top (sc q k h l) := by
  unfold val_main_v9
  rw [reduce_max]
  exact congrArg top (funext fun j => v8_at q k h l j)

theorem v15_at (h : Fin 4) (l : Fin 2048) : val_main_v15 (F := Ideal) (ix2 h l) = (⊥ : EReal) := by
  pointwise [val_main_v15, val_main_cst_2]
  exact ofBits_neg_inf

theorem v16_at (h : Fin 4) (l : Fin 2048) : val_main_v16 (F := Ideal) q k (ix2 h l) = top (sc q k h l) := by
  rw [val_main_v16_apply, v9_at, v15_at]
  exact max_eq_right (bot_le (a := top (sc q k h l)))

theorem v29_at (h : Fin 4) (l : Fin 2048) (j : Fin 256) : val_main_v29 (F := Ideal) q k (ix3 h l j) = ex (sc q k h l) j := by
  pointwise [val_main_v29, val_main_v28, val_main_v27, val_main_v26, v16_at, v8_at]
  rfl

theorem v31_at (h : Fin 4) (l : Fin 2048) (a : Fin 1) : val_main_v31 (F := Ideal) q k (ix3 h l a) = den (sc q k h l) := by
  pointwise [val_main_v31, val_main_v30, val_main_cst_8, v29_at]
  rfl

theorem v33_at (h : Fin 4) (l : Fin 2048) (j : Fin 256) : val_main_v33 (F := Ideal) q k (ix3 h l j) = prob (sc q k h l) j := by
  pointwise [val_main_v33, val_main_v32, v31_at, v29_at]
  rfl

theorem v43_at (h : Fin 4) (l : Fin 2048) (j : Fin 256) : val_main_v43 (F := Ideal) dO v (ix3 h l j) = dp dO v h l j := by
  pointwise [val_main_v43, val_main_v42, val_main_v41, val_main_v40, val_main_v5, val_main_v2]
  rfl

theorem v57_at (h : Fin 4) (l : Fin 2048) (j : Fin 256) :
    val_main_v57 (F := Ideal) q dO k v (ix3 h l j) = byQuotient (sc q k h l) (dp dO v h l) j := by
  pointwise [val_main_v57, val_main_v56, val_main_v55, val_main_v54, val_main_v53, val_main_v52, val_main_v51, val_main_v50, val_main_v49,
    val_main_v48, val_main_v47, val_main_v46, val_main_v36, val_main_v35, val_main_v34, val_main_cst_9, val_main_cst_10, val_main_cst_11, v31_at, v29_at, v43_at]
  simp only [Finset.univ_unique, Finset.sum_singleton]
  rfl

theorem v59_at (h : Fin 4) (l : Fin 2048) (j : Fin 256) :
    val_main_v59 (F := Ideal) q dO k v (ix3 h l j) = byQuotient (sc q k h l) (dp dO v h l) j * scale := by
  pointwise [val_main_v59, val_main_v58, val_main_cst_12, v57_at]

theorem head_col (h : Fin 4) (d : Fin 512) (p : (col h d).val / 512 < 4) : (⟨(col h d).val / 512, p⟩ : Fin 4) = h :=
  Fin.ext (by simp only [col_val]; omega)

theorem v67_at (l : Fin 2048) (h : Fin 4) (d : Fin 512) : val_main_v67 (F := Ideal) q dO k v (ix2 l (col h d))
    = ∑ j, byQuotient (sc q k h l) (dp dO v h l) j * scale * k (ix2 j (col h d)) := by
  pointwise [val_main_v67, val_main_v66, val_main_v63, val_main_v62, val_main_v4, val_main_v1, v59_at]
  rw [head_col]

theorem v65_at (j : Fin 256) (h : Fin 4) (d : Fin 512) : val_main_v65 (F := Ideal) q dO k v (ix2 j (col h d))
    = ∑ l, byQuotient (sc q k h l) (dp dO v h l) j * scale * q (ix2 l (col h d)) := by
  pointwise [val_main_v65, val_main_v61, val_main_v60, val_main_v3, val_main_v0, v59_at]
  rw [head_col]

theorem v64_at (j : Fin 256) (h : Fin 4) (d : Fin 512) : val_main_v64 (F := Ideal) q dO k (ix2 j (col h d))
    = ∑ l, dO (ix2 l (col h d)) * prob (sc q k h l) j := by
  pointwise [val_main_v64, val_main_v45, val_main_v44, val_main_v42, val_main_v41, val_main_v40, v33_at]
  rw [head_col]

end Cert.AttnRefIdeal.RefValue
-- ==== Proof.Attn.lean ====
/- The value of the attention's gradient call against the derivative of the attention. -/
module

public import proofs.«01_k».proof.Defs
public import proofs.«01_k».proof.Proof.Gen.AttnBwdIdeal.Value
public import proofs.«01_k».proof.Proof.Gen.AttnRefIdeal.Run
public import proofs.«01_k».proof.Proof.Gen.AttnRefIdeal.Read
public import proofs.«01_k».proof.Proof.AttnHead
public import proofs.«01_k».proof.Proof.AttnRef
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnBwdIdeal.RefValue

open Cert.AttnBwdIdeal Cert.AttnBwdIdeal.Gen
open Cert.AttnRefIdeal.Read Cert.AttnRefIdeal.RefValue Cert.Rows Cert.SoftmaxGrad Cert.Reals

variable (m : (ℓ : Loc nD τ sig) → Buf (Elt Ideal) ℓ)

/-- The arguments: queries, the gradient of the output, keys and values. -/
abbrev aq (c : Dev nD) : FVec Ideal S2048x2048 .bf16 := m ((c : Thread nD τ).loc main_arg0)
abbrev ado (c : Dev nD) : FVec Ideal S2048x2048 .bf16 := m ((c : Thread nD τ).loc main_arg1)
abbrev ak (c : Dev nD) : FVec Ideal S256x2048 .bf16 := m ((c : Thread nD τ).loc main_arg2)
abbrev av (c : Dev nD) : FVec Ideal S256x2048 .bf16 := m ((c : Thread nD τ).loc main_arg3)

/-- A tile's rows of the queries and of the output's gradient. -/
abbrev tq (c : Dev nD) (t : Fin 8) : FVec Ideal S256x2048 .bf16 := iblk m c 0 t
abbrev tdo (c : Dev nD) (t : Fin 8) : FVec Ideal S256x2048 .bf16 := iblk m c 1 t

/-- The block every window shows at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

theorem blk0 (c : Dev nD) (t : Fin 8) (r : Fin 256) (b : Fin 2048) : tq m c t (ix2 r b) = aq m c (ix2 (row t r) b) := by
  show iblk m c 0 t (ix2 r b) = m ((c : Thread nD τ).loc main_arg0) (ix2 (row t r) b)
  blk_point [iblk, V, idx t]
  blk_ext [idx t, row_val]

theorem blk1 (c : Dev nD) (t : Fin 8) (r : Fin 256) (b : Fin 2048) : tdo m c t (ix2 r b) = ado m c (ix2 (row t r) b) := by
  show iblk m c 1 t (ix2 r b) = m ((c : Thread nD τ).loc main_arg1) (ix2 (row t r) b)
  blk_point [iblk, V, idx t]
  blk_ext [idx t, row_val]

theorem blk2 (c : Dev nD) (t : Fin 8) : iblk m c 2 t = ak m c := by
  funext i; obtain ⟨r, b, rfl⟩ : ∃ (r : Fin 256) (b : Fin 2048), i = ix2 r b := ⟨i 0, i 1, eq_ix2 i⟩
  show iblk m c 2 t (ix2 r b) = m ((c : Thread nD τ).loc main_arg2) (ix2 r b)
  blk_point [iblk, V, idx t]
  blk_ext [idx t]

theorem blk3 (c : Dev nD) (t : Fin 8) : iblk m c 3 t = av m c := by
  funext i; obtain ⟨r, b, rfl⟩ : ∃ (r : Fin 256) (b : Fin 2048), i = ix2 r b := ⟨i 0, i 1, eq_ix2 i⟩
  show iblk m c 3 t (ix2 r b) = m ((c : Thread nD τ).loc main_arg3) (ix2 r b)
  blk_point [iblk, V, idx t]
  blk_ext [idx t]

theorem part0 (c : Dev nD) (t : Fin 8) (h : Fin 4) (r : Fin 256) : part (tq m c t) h r = part (aq m c) h (row t r) :=
  funext fun x => blk0 m c t r (col h x)

theorem part1 (c : Dev nD) (t : Fin 8) (h : Fin 4) (r : Fin 256) : part (tdo m c t) h r = part (ado m c) h (row t r) :=
  funext fun x => blk1 m c t r (col h x)

theorem outs_dq (c : Dev nD) (t : Fin cfg0.N) :
    (outsAt0 m c t.val t.isLt).1 = tileDq (tq m c t) (tdo m c t) (iblk m c 2 t) (iblk m c 3 t) := by
  have ht : t.val < 8 := t.isLt.trans_eq N_0
  by_cases h : t.val % 8 = 0
  · rw [outsAt0_A m c t h (by omega) h (by omega)]; frame_out; rfl
  · rw [outsAt0_B m c t h (by omega) h (by omega)]; frame_out; rfl

/-- A tile's part added to an accumulator. -/
theorem add_dk (x p : FVec Ideal S256x2048 .f32) (j : S256x2048.Idx) : k0_pay1 (F := Ideal) x p j = p j + x j := by
  pointwise [k0_pay1]
theorem add_dv (x p : FVec Ideal S256x2048 .f32) (j : S256x2048.Idx) : k0_pay2 (F := Ideal) x p j = p j + x j := by
  pointwise [k0_pay2]

/-- The accumulators after the last tile. -/
theorem acc_dk (c : Dev nD) (j : S256x2048.Idx) : (outsAt0 m c t0_7.val t0_7.isLt).2.1 j
    = ∑ t : Fin 8, tileDk (tq m c t) (tdo m c t) (iblk m c 2 t) (iblk m c 3 t) j := by
  rw [Pipeline.eq_sum_fin_of_reset_step_apply_last (fun n h => (outsAt0 m c n h).2.1) 8 (fun _ => 0)
    (fun t j => tileDk (tq m c t) (tdo m c t) (iblk m c 2 t) (iblk m c 3 t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      exact add_dk _ _ j)
    (le_of_eq N_0) t0_7 rfl j, zero_add]
  rfl

theorem acc_dv (c : Dev nD) (j : S256x2048.Idx) : (outsAt0 m c t0_7.val t0_7.isLt).2.2 j
    = ∑ t : Fin 8, tileDv (tq m c t) (tdo m c t) (iblk m c 2 t) j := by
  rw [Pipeline.eq_sum_fin_of_reset_step_apply_last (fun n h => (outsAt0 m c n h).2.2) 8 (fun _ => 0)
    (fun t j => tileDv (tq m c t) (tdo m c t) (iblk m c 2 t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      exact add_dv _ _ j)
    (le_of_eq N_0) t0_7 rfl j, zero_add]
  rfl

/-- The queries and keys are reals. -/
def Real (c : Dev nD) : Prop := (∀ i, IsReal (aq m c i)) ∧ ∀ i, IsReal (ak m c i)

theorem scale_real : IsReal scale := isReal_ofBits_f32 (by decide)

theorem sc_real {c : Dev nD} (hr : Real m c) (h : Fin 4) (l : Fin 2048) (j : Fin 256) : IsReal (sc (aq m c) (ak m c) h l j) :=
  (IsReal.sum fun x _ => (hr.1 _).mul (hr.2 _)).mul scale_real

theorem dq_at {c : Dev nD} (hr : Real m c) (t : Fin 8) (a : Fin 256) (b : Fin 2048) :
    tileDq (tq m c t) (tdo m c t) (iblk m c 2 t) (iblk m c 3 t) (ix2 a b)
      = val_main_v67 (F := Ideal) (aq m c) (ado m c) (ak m c) (av m c) (ix2 (row t a) b) := by
  obtain ⟨h, d, rfl⟩ := exists_col b
  rw [v67_at, blk2, blk3, tileDq_at, tsc, tdp, part0, part1]
  exact Finset.sum_congr rfl fun j _ => by rw [byQuotient_eq (sc_real m hr h _)]

theorem dk_at {c : Dev nD} (hr : Real m c) (a : Fin 256) (b : Fin 2048) :
    ∑ t : Fin 8, tileDk (tq m c t) (tdo m c t) (iblk m c 2 t) (iblk m c 3 t) (ix2 a b)
      = val_main_v65 (F := Ideal) (aq m c) (ado m c) (ak m c) (av m c) (ix2 a b) := by
  obtain ⟨h, d, rfl⟩ := exists_col b
  rw [v65_at, ← sum_rows]
  refine Finset.sum_congr rfl fun t _ => ?_
  rw [blk2, blk3, tileDk_at]
  exact Finset.sum_congr rfl fun r _ => by rw [tsc, tdp, part0, part1, byQuotient_eq (sc_real m hr h _), blk0]

theorem dv_at {c : Dev nD} (a : Fin 256) (b : Fin 2048) :
    ∑ t : Fin 8, tileDv (tq m c t) (tdo m c t) (iblk m c 2 t) (ix2 a b)
      = val_main_v64 (F := Ideal) (aq m c) (ado m c) (ak m c) (ix2 a b) := by
  obtain ⟨h, d, rfl⟩ := exists_col b
  rw [v64_at, ← sum_rows]
  refine Finset.sum_congr rfl fun t _ => ?_
  rw [blk2, tileDv_at]
  exact Finset.sum_congr rfl fun r _ => by rw [tsc, part0, blk1, mul_comm]

theorem final_dq {c : Dev nD} (hr : Real m c) : (dats m 0 c).arrAt 4 cfg0.N
    = val_main_v67 (F := Ideal) (aq m c) (ado m c) (ak m c) (av m c) := by
  refine (dats m 0 c).arrAt_eq_of_covers 4 _ (by decide +kernel) fun t hf y => ?_
  blk_simp; rw [after0_4, outs_dq]
  obtain ⟨a, b, rfl⟩ : ∃ (a : Fin 256) (b : Fin 2048), y = ix2 a b := ⟨y 0, y 1, eq_ix2 y⟩
  refine (dq_at m hr t a b).trans ?_
  blk_ext [idx t]
  exact row_val t a

theorem final_dk {c : Dev nD} (hr : Real m c) : (dats m 0 c).arrAt 5 cfg0.N
    = val_main_v65 (F := Ideal) (aq m c) (ado m c) (ak m c) (av m c) := by
  refine (dats m 0 c).arrAt_eq_of_after_last 5 t0_7 (by decide +kernel) _ fun j => ?_
  blk_simp; rw [after0_5]
  obtain ⟨a, b, rfl⟩ : ∃ (a : Fin 256) (b : Fin 2048), j = ix2 a b := ⟨j 0, j 1, eq_ix2 j⟩
  exact (acc_dk m c _).trans (dk_at m hr a b)

theorem final_dv (c : Dev nD) : (dats m 0 c).arrAt 6 cfg0.N
    = val_main_v64 (F := Ideal) (aq m c) (ado m c) (ak m c) := by
  refine (dats m 0 c).arrAt_eq_of_after_last 6 t0_7 (by decide +kernel) _ fun j => ?_
  blk_simp; rw [after0_6]
  obtain ⟨a, b, rfl⟩ : ∃ (a : Fin 256) (b : Fin 2048), j = ix2 a b := ⟨j 0, j 1, eq_ix2 j⟩
  exact (acc_dv m c _).trans (dv_at m a b)

/-- What the precondition says: no query and no key is infinite. -/
theorem real_of_pre [Cert.Pre_finite_q_k.Facts] (h : Cert.Pre_AttnBwdIdeal_finite_q_k m) (c : Dev nD) : Real m c := by
  obtain ⟨h1, h2⟩ := h c
  refine ⟨fun i => ?_, fun i => ?_⟩
  · obtain ⟨a, b, rfl⟩ : ∃ (a b : Fin 2048), i = ix2 a b := ⟨i 0, i 1, eq_ix2 i⟩
    have := congrFun h1 (ix2 a b)
    revert this
    pointwise [Cert.Pre_finite_q_k.fn]
    exact isReal_of_test
  · obtain ⟨a, b, rfl⟩ : ∃ (a : Fin 256) (b : Fin 2048), i = ix2 a b := ⟨i 0, i 1, eq_ix2 i⟩
    have := congrFun h2 (ix2 a b)
    revert this
    pointwise [Cert.Pre_finite_q_k.fn]
    exact isReal_of_test

end Cert.AttnBwdIdeal.RefValue

namespace Cert.Proof

/-- The call computes the derivative of the attention, where the queries and the keys are finite. -/
theorem attn [Cert.Pre_finite_q_k.Facts] : Cert.algebraic_AttnBwdIdeal_AttnRefIdeal_pre_finite_q_k := by
  pair_intro
  · run_from Cert.AttnBwdIdeal.Value.run_blocks m g
  · hlo_run
    · exact (Cert.AttnBwdIdeal.RefValue.final_dq m (Cert.AttnBwdIdeal.RefValue.real_of_pre m (by assumption) c)).symm
    · exact (Cert.AttnBwdIdeal.RefValue.final_dk m (Cert.AttnBwdIdeal.RefValue.real_of_pre m (by assumption) c)).symm
    · exact (Cert.AttnBwdIdeal.RefValue.final_dv m c).symm

end Cert.Proof
-- ==== Proof.AttnFwd.lean ====
/- The attention's forward call against the softmax attention of the reference. -/
module

public import proofs.«01_k».proof.Defs
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnHead
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnFwdRefIdeal.RefValue

open Cert.AttnFwdRefIdeal Cert.AttnFwdRefIdeal.Gen Cert.AttnFwdRefIdeal.Read Cert.Rows Cert.SoftmaxGrad Cert.Reals
open Cert.AttnBwdIdeal.RefValue (scale score dots part)

variable (q : FVec Ideal S2048x2048 .bf16) (k v : FVec Ideal S256x2048 .bf16)

/-- A row's scores with every row of `k`. -/
abbrev sc (h : Fin 4) (l : Fin 2048) : Fin 256 → EReal := score (part q h l) (part k h)

theorem v8_at (h : Fin 4) (l : Fin 2048) (j : Fin 256) : val_main_v8 (F := Ideal) q k (ix3 h l j) = sc q k h l j := by
  pointwise [val_main_v8, val_main_v7, val_main_cst, val_main_v6, val_main_v4, val_main_v3, val_main_v1, val_main_v0]
  rfl

theorem reduce_max (x : FVec Ideal S4x2048x256 .f32) (h : Fin 4) (l : Fin 2048) :
    Host.reduce (FloatOps.maximumf (F := Ideal) (φ := .f32)) x (val_main_cst_0 (F := Ideal)) reducesTo_S4x2048x256_S4x2048_d2 h_S_ (ix2 h l)
      = top fun j => x (ix3 h l j) := by
  pointwise [val_main_cst_0]
  rfl

theorem v11_at (h : Fin 4) (l : Fin 2048) : val_main_v11 (F := Ideal) q k (ix2 h l) = top (sc q k h l) := by
  have e9 : val_main_v9 (F := Ideal) q k (ix2 h l) = top (sc q k h l) := by
    unfold val_main_v9
    rw [reduce_max]
    exact congrArg top (funext fun j => v8_at q k h l j)
  have e10 : val_main_v10 (F := Ideal) (ix2 h l) = (⊥ : EReal) := by
    pointwise [val_main_v10, val_main_cst_1]
    exact ofBits_neg_inf
  rw [val_main_v11_apply, e9, e10]
  exact max_eq_right (bot_le (a := top (sc q k h l)))

theorem v15_at (h : Fin 4) (l : Fin 2048) (j : Fin 256) : val_main_v15 (F := Ideal) q k (ix3 h l j) = ex (sc q k h l) j := by
  pointwise [val_main_v15, val_main_v14, val_main_v13, val_main_v12, v11_at, v8_at]
  rfl

theorem v19_at (h : Fin 4) (l : Fin 2048) (j : Fin 256) : val_main_v19 (F := Ideal) q k (ix3 h l j) = prob (sc q k h l) j := by
  pointwise [val_main_v19, val_main_v18, val_main_v17, val_main_v16, val_main_cst_2, v15_at]
  rfl

theorem head_col (h : Fin 4) (d : Fin 512) (p : (col h d).val / 512 < 4) : (⟨(col h d).val / 512, p⟩ : Fin 4) = h :=
  Fin.ext (by simp only [col_val]; omega)

theorem v23_at (l : Fin 2048) (h : Fin 4) (d : Fin 512) : val_main_v23 (F := Ideal) q k v (ix2 l (col h d))
    = ∑ j, v (ix2 j (col h d)) * prob (sc q k h l) j := by
  pointwise [val_main_v23, val_main_v22, val_main_v21, val_main_v20, val_main_v5, val_main_v2, v19_at]
  rw [head_col]

end Cert.AttnFwdRefIdeal.RefValue

namespace Cert.AttnFwdIdeal.RefValue

open Cert.AttnFwdIdeal Cert.AttnFwdIdeal.Gen
open Cert.AttnFwdRefIdeal.Read Cert.AttnFwdRefIdeal.RefValue Cert.Rows Cert.SoftmaxGrad Cert.Reals
open Cert.AttnBwdIdeal.RefValue (scale score dots part probV probV_at sl sl0 sl1 sl2 sl3 sl0_eq sl1_eq sl2_eq sl3_eq side side_at sl_at)

/-- One head's output on a tile. -/
def oV (q k v : FVec Ideal S256x512 .bf16) : FVec Ideal S256x512 .f32 :=
  matmul dot_S256x256_S256x512_S256x512_1_0_0_1_n_n none (truncf .bf16 (probV q k) bitsLt_bf16_f32) v (constant S256x512 .f32 0x00000000#32)

theorem oV_at (q k v : FVec Ideal S256x512 .bf16) (r : Fin 256) (d : Fin 512) :
    oV q k v (ix2 r d) = ∑ j, probV q k (ix2 r j) * v (ix2 j d) := by
  pointwise [oV]

/-- What a tile stores. -/
def tileO (q k v : FVec Ideal S256x2048 .bf16) : FVec Ideal S256x2048 .bf16 :=
  k0_pay1 (F := Ideal) q k v (k0_pay2 q k v) (k0_pay3 q k v) (k0_pay4 q k) (k0_pay5 (F := Ideal))

theorem tileO_eq (q k v : FVec Ideal S256x2048 .bf16) : tileO q k v = truncf .bf16
    (side (oV (sl0 q) (sl0 k) (sl0 v)) (oV (sl1 q) (sl1 k) (sl1 v)) (oV (sl2 q) (sl2 k) (sl2 v)) (oV (sl3 q) (sl3 k) (sl3 v)))
    bitsLt_bf16_f32 := rfl

theorem tileO_at (q k v : FVec Ideal S256x2048 .bf16) (r : Fin 256) (h : Fin 4) (d : Fin 512) : tileO q k v (ix2 r (col h d))
    = ∑ j, prob (score (part q h r) (part k h)) j * v (ix2 j (col h d)) := by
  rw [tileO_eq, sl0_eq, sl1_eq, sl2_eq, sl3_eq, sl0_eq, sl1_eq, sl2_eq, sl3_eq, sl0_eq, sl1_eq, sl2_eq, sl3_eq]
  refine (side_at (fun h => oV (sl h q) (sl h k) (sl h v)) r h d).trans ?_
  rw [oV_at]
  exact Finset.sum_congr rfl fun j _ => by rw [probV_at]; rfl

variable (m : (ℓ : Loc nD τ sig) → Buf (Elt Ideal) ℓ)

/-- The arguments: queries, keys and values. -/
abbrev aq (c : Dev nD) : FVec Ideal S2048x2048 .bf16 := m ((c : Thread nD τ).loc main_arg0)
abbrev ak (c : Dev nD) : FVec Ideal S256x2048 .bf16 := m ((c : Thread nD τ).loc main_arg1)
abbrev av (c : Dev nD) : FVec Ideal S256x2048 .bf16 := m ((c : Thread nD τ).loc main_arg2)

/-- A tile's rows of the queries. -/
abbrev tq (c : Dev nD) (t : Fin 8) : FVec Ideal S256x2048 .bf16 := iblk m c 0 t

/-- The block every window shows at grid point `t`. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem blk0 (c : Dev nD) (t : Fin 8) (r : Fin 256) (b : Fin 2048) : tq m c t (ix2 r b) = aq m c (ix2 (row t r) b) := by
  show iblk m c 0 t (ix2 r b) = m ((c : Thread nD τ).loc main_arg0) (ix2 (row t r) b)
  blk_point [iblk, V, idx t]
  blk_ext [idx t, row_val]

theorem blk1 (c : Dev nD) (t : Fin 8) : iblk m c 1 t = ak m c := by
  funext i; obtain ⟨r, b, rfl⟩ : ∃ (r : Fin 256) (b : Fin 2048), i = ix2 r b := ⟨i 0, i 1, eq_ix2 i⟩
  show iblk m c 1 t (ix2 r b) = m ((c : Thread nD τ).loc main_arg1) (ix2 r b)
  blk_point [iblk, V, idx t]
  blk_ext [idx t]

theorem blk2 (c : Dev nD) (t : Fin 8) : iblk m c 2 t = av m c := by
  funext i; obtain ⟨r, b, rfl⟩ : ∃ (r : Fin 256) (b : Fin 2048), i = ix2 r b := ⟨i 0, i 1, eq_ix2 i⟩
  show iblk m c 2 t (ix2 r b) = m ((c : Thread nD τ).loc main_arg2) (ix2 r b)
  blk_point [iblk, V, idx t]
  blk_ext [idx t]

theorem outs_o (c : Dev nD) (t : Fin cfg0.N) :
    out0_3 (iblk m c 0 t) (iblk m c 1 t) (iblk m c 2 t) = tileO (tq m c t) (iblk m c 1 t) (iblk m c 2 t) := by
  frame_out; rfl

theorem part0 (c : Dev nD) (t : Fin 8) (h : Fin 4) (r : Fin 256) : part (tq m c t) h r = part (aq m c) h (row t r) :=
  funext fun x => blk0 m c t r (col h x)

theorem o_at (c : Dev nD) (t : Fin 8) (a : Fin 256) (b : Fin 2048) :
    tileO (tq m c t) (iblk m c 1 t) (iblk m c 2 t) (ix2 a b)
      = val_main_v23 (F := Ideal) (aq m c) (ak m c) (av m c) (ix2 (row t a) b) := by
  obtain ⟨h, d, rfl⟩ := exists_col b
  rw [v23_at, blk1, blk2, tileO_at, part0]
  exact Finset.sum_congr rfl fun j _ => mul_comm _ _

theorem final_o (c : Dev nD) : (dats m 0 c).arrAt 3 cfg0.N = val_main_v23 (F := Ideal) (aq m c) (ak m c) (av m c) := by
  refine (dats m 0 c).arrAt_eq_of_covers 3 _ (by decide +kernel) fun t hf y => ?_
  blk_simp; rw [after0_3, outs_o]
  obtain ⟨a, b, rfl⟩ : ∃ (a : Fin 256) (b : Fin 2048), y = ix2 a b := ⟨y 0, y 1, eq_ix2 y⟩
  refine (o_at m c t a b).trans ?_
  blk_ext [idx t]
  exact row_val t a

end Cert.AttnFwdIdeal.RefValue

namespace Cert.Proof

/-- The call computes the softmax attention. -/
theorem attn_fwd : Cert.algebraic_AttnFwdIdeal_AttnFwdRefIdeal := by
  pair_intro
  · run_from Cert.AttnFwdIdeal.Value.run_blocks m g
  · hlo_run
    exact (Cert.AttnFwdIdeal.RefValue.final_o m c).symm

end Cert.Proof
-- ==== Proof.Gate.lean ====
/- The value of the gate's gradient call against the derivative of the gated product. -/
module

public import proofs.«01_k».proof.Defs
public import proofs.«01_k».proof.Proof.Gen.GateBwdIdeal.Value
public import proofs.«01_k».proof.Proof.Gen.GateRefIdeal.Run
public import proofs.«01_k».proof.Proof.Gen.GateRefIdeal.Read
public import proofs.«01_k».proof.Proof.Rows
public import proofs.«01_k».proof.Proof.Reals
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateBwdIdeal.RefValue

open Cert.GateBwdIdeal Cert.GateBwdIdeal.Gen
open Cert.GateRefIdeal.Read Cert.Rows Cert.Reals

/-- The product's element that reaches the gate: half of a row of the cotangent against a row of the weight. -/
def ds (x : FVec Ideal S1024x2048 .bf16) (w : FVec Ideal S1x1408x2048 .bf16) (r : Fin 1024) (j : Fin 1408) : EReal :=
  Ideal.ofBits .f32 1056964608#32 * ∑ k : Fin 2048, x (ix2 r k) * w (ix3 (0 : Fin 1) j k)

/-- The gradient of `silu a * b` by `a`, times the cotangent `d`. -/
def gd (d a b : EReal) : EReal := d * b * (Ideal.logistic a * (1 + a * (1 - Ideal.logistic a)))

/-- The gradient of `silu a * b` by `b`, times the cotangent `d`. -/
def gu (d a : EReal) : EReal := d * (a * Ideal.logistic a)

section Chunks

variable (x : FVec Ideal S1024x2048 .bf16) (w : FVec Ideal S1x1408x2048 .bf16) (a b : FVec Ideal S1024x1408 .bf16)

theorem ld_x : View.ld (Val := Elt Ideal) (e' := .bf16) x r0_0 = x :=
  View.ld_unit_zero (Val := Elt Ideal) (e := .bf16) (S := S1024x2048) (off := ![0, 0]) (by decide) _ x
theorem ld_w : View.ld (Val := Elt Ideal) (e' := .bf16) w r0_1 = w :=
  View.ld_unit_zero (Val := Elt Ideal) (e := .bf16) (S := S1x1408x2048) (off := ![0, 0, 0]) (by decide) _ w

/-- The whole block of the first result. -/
def blockA (y : S1024x1408.Idx) : EReal := gd (ds x w (y 0) (y 1)) (a y) (b y)

/-- The whole block of the second result. -/
def blockB (y : S1024x1408.Idx) : EReal := gu (ds x w (y 0) (y 1)) (a y)

theorem emb (o : Nat) (inb) (r : Fin 256) (j : Fin 1408) (h : o + r.val < 1024) :
    (Rect.unit (s := S1024x1408) ![o, 0] S256x1408.size inb).emb (ix2 r j) = ix2 (⟨o + r.val, h⟩ : Fin 1024) j := by
  funext k
  fin_cases k
  · exact Fin.ext (by simp)
  · exact Fin.ext (by simp)

theorem chunkA0 (r : Fin 256) (j : Fin 1408) :
    k0_pay10 (F := Ideal) x w (View.ld a r0_2) (View.ld b r0_2) (ix2 r j) = blockA x w a b (r0_2.emb (ix2 r j)) := by
  rw [emb 0 _ r j (by omega), View.ld_unit, View.ld_unit]
  pointwise [k0_pay10, k0_pay9, k0_pay8, k0_pay7, k0_pay6, blockA, gd, ds]

theorem chunkA1 (r : Fin 256) (j : Fin 1408) :
    k0_pay16 (F := Ideal) (k0_pay12 x w) (k0_pay13 (View.ld a r0_3)) (k0_pay14 (View.ld b r0_3)) (k0_pay15 (View.ld a r0_3)) (ix2 r j)
      = blockA x w a b (r0_3.emb (ix2 r j)) := by
  rw [emb 256 _ r j (by omega), View.ld_unit, View.ld_unit]
  pointwise [k0_pay16, k0_pay12, k0_pay13, k0_pay14, k0_pay15, k0_pay6, blockA, gd, ds]

theorem chunkA2 (r : Fin 256) (j : Fin 1408) :
    k0_pay21 (F := Ideal) (k0_pay6 x w) (View.ld a r0_4) (View.ld b r0_4) (ix2 r j) = blockA x w a b (r0_4.emb (ix2 r j)) := by
  rw [emb 512 _ r j (by omega), View.ld_unit, View.ld_unit]
  pointwise [k0_pay21, k0_pay18, k0_pay19, k0_pay20, k0_pay6, blockA, gd, ds]

theorem chunkA3 (r : Fin 256) (j : Fin 1408) :
    k0_pay4 (F := Ideal) (k0_pay23 (k0_pay6 x w)) k0_pay24 (View.ld a r0_5) (View.ld b r0_5) (ix2 r j) = blockA x w a b (r0_5.emb (ix2 r j)) := by
  rw [emb 768 _ r j (by omega), View.ld_unit, View.ld_unit]
  pointwise [k0_pay4, k0_pay1, k0_pay2, k0_pay3, k0_pay23, k0_pay24, k0_pay6, blockA, gd, ds]

theorem chunkB0 (r : Fin 256) (j : Fin 1408) :
    k0_pay11 (F := Ideal) x w (View.ld a r0_2) (ix2 r j) = blockB x w a (r0_2.emb (ix2 r j)) := by
  rw [emb 0 _ r j (by omega), View.ld_unit]
  pointwise [k0_pay11, k0_pay9, k0_pay8, k0_pay7, k0_pay6, blockB, gu, ds]

theorem chunkB1 (r : Fin 256) (j : Fin 1408) :
    k0_pay17 (F := Ideal) (k0_pay12 x w) (k0_pay13 (View.ld a r0_3)) (k0_pay15 (View.ld a r0_3)) (ix2 r j)
      = blockB x w a (r0_3.emb (ix2 r j)) := by
  rw [emb 256 _ r j (by omega), View.ld_unit]
  pointwise [k0_pay17, k0_pay12, k0_pay13, k0_pay15, k0_pay6, blockB, gu, ds]

theorem chunkB2 (r : Fin 256) (j : Fin 1408) :
    k0_pay22 (F := Ideal) (k0_pay6 x w) (View.ld a r0_4) (ix2 r j) = blockB x w a (r0_4.emb (ix2 r j)) := by
  rw [emb 512 _ r j (by omega), View.ld_unit]
  pointwise [k0_pay22, k0_pay18, k0_pay19, k0_pay20, k0_pay6, blockB, gu, ds]

theorem chunkB3 (r : Fin 256) (j : Fin 1408) :
    k0_pay5 (F := Ideal) (k0_pay23 (k0_pay6 x w)) k0_pay24 (View.ld a r0_5) (ix2 r j) = blockB x w a (r0_5.emb (ix2 r j)) := by
  rw [emb 768 _ r j (by omega), View.ld_unit]
  pointwise [k0_pay5, k0_pay1, k0_pay2, k0_pay3, k0_pay23, k0_pay24, k0_pay6, blockB, gu, ds]

/-- The four row chunks of the first result make up its whole block. -/
theorem out_a (y : S1024x1408.Idx) : out0_4 (F := Ideal) x w a b y = blockA x w a b y := by
  unfold_out out0_4
  rw [ld_x, ld_w]
  refine View.canon_apply_of_pieces (Val := Elt Ideal) (e := .bf16) (blockA x w a b) _ ?_ y (cover0_4 _ _ _ _ y)
  intro p hp z
  simp only [List.mem_cons, List.not_mem_nil, or_false] at hp
  rcases hp with rfl | rfl | rfl | rfl
  · obtain ⟨r, j, rfl⟩ : ∃ (r : Fin 256) (j : Fin 1408), z = ix2 r j := ⟨z 0, z 1, eq_ix2 z⟩
    exact chunkA3 x w a b r j
  · obtain ⟨r, j, rfl⟩ : ∃ (r : Fin 256) (j : Fin 1408), z = ix2 r j := ⟨z 0, z 1, eq_ix2 z⟩
    exact chunkA2 x w a b r j
  · obtain ⟨r, j, rfl⟩ : ∃ (r : Fin 256) (j : Fin 1408), z = ix2 r j := ⟨z 0, z 1, eq_ix2 z⟩
    exact chunkA1 x w a b r j
  · obtain ⟨r, j, rfl⟩ : ∃ (r : Fin 256) (j : Fin 1408), z = ix2 r j := ⟨z 0, z 1, eq_ix2 z⟩
    exact chunkA0 x w a b r j

/-- The four row chunks of the second result make up its whole block. -/
theorem out_b (y : S1024x1408.Idx) : out0_5 (F := Ideal) x w a b y = blockB x w a y := by
  unfold_out out0_5
  rw [ld_x, ld_w]
  refine View.canon_apply_of_pieces (Val := Elt Ideal) (e := .bf16) (blockB x w a) _ ?_ y (cover0_5 _ _ _ _ y)
  intro p hp z
  simp only [List.mem_cons, List.not_mem_nil, or_false] at hp
  rcases hp with rfl | rfl | rfl | rfl
  · obtain ⟨r, j, rfl⟩ : ∃ (r : Fin 256) (j : Fin 1408), z = ix2 r j := ⟨z 0, z 1, eq_ix2 z⟩
    exact chunkB3 x w a r j
  · obtain ⟨r, j, rfl⟩ : ∃ (r : Fin 256) (j : Fin 1408), z = ix2 r j := ⟨z 0, z 1, eq_ix2 z⟩
    exact chunkB2 x w a r j
  · obtain ⟨r, j, rfl⟩ : ∃ (r : Fin 256) (j : Fin 1408), z = ix2 r j := ⟨z 0, z 1, eq_ix2 z⟩
    exact chunkB1 x w a r j
  · obtain ⟨r, j, rfl⟩ : ∃ (r : Fin 256) (j : Fin 1408), z = ix2 r j := ⟨z 0, z 1, eq_ix2 z⟩
    exact chunkB0 x w a r j

end Chunks

/-- The quotient that the reference takes for the logistic function. -/
def sg (a : EReal) : EReal := Ideal.div 1 (1 + Ideal.exp (-a))

theorem sg_eq (a : EReal) : sg a = Ideal.logistic a := rfl

/-- The two ways to write the derivative of `silu` agree at every extended real, times a real. -/
theorem silu_grad {X : EReal} (hX : IsReal X) (a : EReal) :
    X * (Ideal.logistic a * (1 + a * (1 - Ideal.logistic a)))
      = X * Ideal.logistic a + (a * X) * (Ideal.logistic a * (1 - Ideal.logistic a)) := by
  obtain ⟨x, rfl⟩ := hX
  induction a with
  | bot =>
    rw [Ideal.logistic_bot]; simp
  | top =>
    have h0 : (1 : EReal) - 1 = 0 := by rw [← EReal.coe_one, ← EReal.coe_sub, sub_self, EReal.coe_zero]
    rw [Ideal.logistic_top, h0]; simp
  | coe a =>
    rw [Ideal.logistic_coe]
    norm_cast
    ring

theorem half_real : ∃ s : ℝ, Ideal.ofBits .f32 1056964608#32 = (s : EReal) ∧ 0 ≤ s :=
  ⟨1 / 2, by simp [Ideal.ofBits, Ideal.ieee]; rw [← EReal.coe_mul]; norm_num, by norm_num⟩

section Values

variable (m : (ℓ : Loc nD τ sig) → Buf (Elt Ideal) ℓ)

abbrev ax (c : Dev nD) : FVec Ideal S2048x2048 .bf16 := m ((c : Thread nD τ).loc main_arg0)
abbrev aw (c : Dev nD) : FVec Ideal S5632x2048 .f32 := m ((c : Thread nD τ).loc main_arg1)
abbrev aa (c : Dev nD) : FVec Ideal S2048x5632 .bf16 := m ((c : Thread nD τ).loc main_arg2)
abbrev ab (c : Dev nD) : FVec Ideal S2048x5632 .bf16 := m ((c : Thread nD τ).loc main_arg3)

/-- Row `r` of block `i`, column `j` of block `q`. -/
def R (i : Fin 2) (r : Fin 1024) : Fin 2048 := ⟨i.val * 1024 + r.val, by omega⟩
def C (q : Fin 4) (j : Fin 1408) : Fin 5632 := ⟨q.val * 1408 + j.val, by omega⟩

theorem R_val (i : Fin 2) (r : Fin 1024) : (R i r).val = i.val * 1024 + r.val := rfl
theorem C_val (q : Fin 4) (j : Fin 1408) : (C q j).val = q.val * 1408 + j.val := rfl

/-- The block every window shows at the grid point of column block `q` and row block `i`. -/
theorem idx : ∀ t : Fin cfg0.N, ∀ q : Fin 4, ∀ i : Fin 2, t.val = q.val * 2 + i.val →
    win0_0.index t = ![i.val, 0] ∧ win0_1.index t = ![q.val, 0, 0] ∧ win0_2.index t = ![i.val, q.val]
    ∧ win0_3.index t = ![i.val, q.val] ∧ win0_4.index t = ![i.val, q.val] ∧ win0_5.index t = ![i.val, q.val] :=
  (by decide +kernel : ∀ t : Fin grid0.N, _)

theorem weight_entry (c : Dev nD) (q : Fin 4) (j : Fin 1408) (k : Fin 2048) : V m c main_v1 (ix3 q j k) = aw m c (ix2 (C q j) k) := by
  entry_read
  pointwise
  rfl

variable (c : Dev nD) (t : Fin 8) (q : Fin 4) (i : Fin 2) (h : t.val = q.val * 2 + i.val)
include h

theorem blk0 (r : Fin 1024) (k : Fin 2048) : iblk m c 0 t (ix2 r k) = ax m c (ix2 (R i r) k) := by
  blk_point [iblk, V, idx t q i h]
  blk_ext [idx t q i h, R_val]

theorem blk1 (a : Fin 1) (j : Fin 1408) (k : Fin 2048) : iblk m c 1 t (ix3 a j k) = aw m c (ix2 (C q j) k) := by
  rw [← weight_entry]
  blk_point [iblk, idx t q i h]
  blk_ext [idx t q i h]

theorem blk2 (r : Fin 1024) (j : Fin 1408) : iblk m c 2 t (ix2 r j) = aa m c (ix2 (R i r) (C q j)) := by
  blk_point [iblk, V, idx t q i h]
  · rfl
  · rfl

theorem blk3 (r : Fin 1024) (j : Fin 1408) : iblk m c 3 t (ix2 r j) = ab m c (ix2 (R i r) (C q j)) := by
  blk_point [iblk, V, idx t q i h]
  · rfl
  · rfl

/-- Half of a sum of products is the sum of the halved products. -/
theorem ds_eq (r : Fin 1024) (j : Fin 1408) :
    ds (iblk m c 0 t) (iblk m c 1 t) r j = val_main_v10 (F := Ideal) (ax m c) (aw m c) (ix2 (R i r) (C q j)) := by
  have e : val_main_v10 (F := Ideal) (ax m c) (aw m c) (ix2 (R i r) (C q j))
      = ∑ k : Fin 2048, Ideal.ofBits .f32 1056964608#32 * ax m c (ix2 (R i r) k) * aw m c (ix2 (C q j) k) := by
    pointwise [val_main_v10, val_main_v9, val_main_v8, val_main_v7, val_main_cst_0]
  rw [e]
  unfold ds
  obtain ⟨s, hs, h0⟩ := half_real
  rw [hs, mul_sum_of_nonneg h0]
  refine Finset.sum_congr rfl fun k _ => ?_
  rw [mul_assoc]
  exact congrArg _ (congrArg₂ _ (blk0 m c t q i h r k) (blk1 m c t q i h 0 j k))

omit h

theorem sig_at (a : FVec Ideal S2048x5632 .bf16) (r : Fin 2048) (j : Fin 5632) :
    val_main_v2_2 (F := Ideal) a (ix2 r j) = Ideal.logistic (a (ix2 r j)) := by
  pointwise [val_main_v2_2, val_main_call0_v4, val_main_call0_v3, val_main_call0_v2, val_main_call0_v1, val_main_call0_v0, val_main_v0, val_main_call0_cst, val_main_call0_cst_0]
  rfl

theorem v14_at (x : FVec Ideal S2048x2048 .bf16) (w : FVec Ideal S5632x2048 .f32) (a b : FVec Ideal S2048x5632 .bf16) (r : Fin 2048) (j : Fin 5632)
    (hX : IsReal (val_main_v10 (F := Ideal) x w (ix2 r j) * b (ix2 r j))) :
    val_main_v14 (F := Ideal) x w a b (ix2 r j) = gd (val_main_v10 (F := Ideal) x w (ix2 r j)) (a (ix2 r j)) (b (ix2 r j)) := by
  refine Eq.trans ?_ (silu_grad hX (a (ix2 r j))).symm
  pointwise [val_main_v14, val_main_v13, val_main_v12, val_main_v2_1, val_main_call1_v0, val_main_call1_v1, val_main_call1_v2, val_main_call0_v7, val_main_call0_v6, val_main_call0_cst_1, val_main_v0, val_main_v1, sig_at]

theorem v15_at (x : FVec Ideal S2048x2048 .bf16) (w : FVec Ideal S5632x2048 .f32) (a : FVec Ideal S2048x5632 .bf16) (r : Fin 2048) (j : Fin 5632) :
    val_main_v15 (F := Ideal) x w a (ix2 r j) = gu (val_main_v10 (F := Ideal) x w (ix2 r j)) (a (ix2 r j)) := by
  refine Eq.trans ?_ (mul_comm _ _)
  pointwise [val_main_v15, val_main_v11, val_main_v2_0, val_main_v0, sig_at]

/-- The cotangent, the weight and the second factor are reals. -/
def Real : Prop := (∀ i, IsReal (ax m c i)) ∧ (∀ i, IsReal (aw m c i)) ∧ ∀ i, IsReal (ab m c i)

theorem real_prod (hr : Real m c) (r : Fin 2048) (j : Fin 5632) :
    IsReal (val_main_v10 (F := Ideal) (ax m c) (aw m c) (ix2 r j) * ab m c (ix2 r j)) := by
  refine IsReal.mul ?_ (hr.2.2 _)
  have e : val_main_v10 (F := Ideal) (ax m c) (aw m c) (ix2 r j)
      = ∑ k : Fin 2048, Ideal.ofBits .f32 1056964608#32 * ax m c (ix2 r k) * aw m c (ix2 j k) := by
    pointwise [val_main_v10, val_main_v9, val_main_v8, val_main_v7, val_main_cst_0]
  rw [e]
  exact IsReal.sum fun k _ => ((isReal_ofBits_f32 (by decide)).mul (hr.1 _)).mul (hr.2.1 _)

/-- Every grid point is one of a column block and a row block. -/
theorem exists_point (t : Fin cfg0.N) : ∃ (q : Fin 4) (i : Fin 2), t.val = q.val * 2 + i.val := by
  have ht : t.val < 8 := t.isLt.trans_eq N_0
  exact ⟨⟨t.val / 2, by omega⟩, ⟨t.val % 2, by omega⟩, by show t.val = t.val / 2 * 2 + t.val % 2; omega⟩

theorem final_da (hr : Real m c) : (dats m 0 c).arrAt 4 cfg0.N = val_main_v14 (F := Ideal) (ax m c) (aw m c) (aa m c) (ab m c) := by
  refine (dats m 0 c).arrAt_eq_of_covers 4 _ (by decide +kernel) fun t hf y => ?_
  obtain ⟨q, i, h⟩ := exists_point t
  blk_simp; rw [after0_4]
  obtain ⟨a, b, rfl⟩ : ∃ (a : Fin 1024) (b : Fin 1408), y = ix2 a b := ⟨y 0, y 1, eq_ix2 y⟩
  refine (out_a _ _ _ _ _).trans ?_
  have e : blockA (iblk m c 0 t) (iblk m c 1 t) (iblk m c 2 t) (iblk m c 3 t) (ix2 a b)
      = val_main_v14 (F := Ideal) (ax m c) (aw m c) (aa m c) (ab m c) (ix2 (R i a) (C q b)) := by
    rw [v14_at _ _ _ _ _ _ (real_prod m c hr _ _), ← ds_eq m c t q i h, ← blk2 m c t q i h, ← blk3 m c t q i h]
    rfl
  refine e.trans ?_
  blk_ext [idx t q i h]
  · rfl
  · rfl

theorem final_db : (dats m 0 c).arrAt 5 cfg0.N = val_main_v15 (F := Ideal) (ax m c) (aw m c) (aa m c) := by
  refine (dats m 0 c).arrAt_eq_of_covers 5 _ (by decide +kernel) fun t hf y => ?_
  obtain ⟨q, i, h⟩ := exists_point t
  blk_simp; rw [after0_5]
  obtain ⟨a, b, rfl⟩ : ∃ (a : Fin 1024) (b : Fin 1408), y = ix2 a b := ⟨y 0, y 1, eq_ix2 y⟩
  refine (out_b _ _ _ _ _).trans ?_
  have e : blockB (iblk m c 0 t) (iblk m c 1 t) (iblk m c 2 t) (ix2 a b)
      = val_main_v15 (F := Ideal) (ax m c) (aw m c) (aa m c) (ix2 (R i a) (C q b)) := by
    rw [v15_at, ← ds_eq m c t q i h, ← blk2 m c t q i h]
    rfl
  refine e.trans ?_
  blk_ext [idx t q i h]
  · rfl
  · rfl

/-- What the precondition says: no cotangent, weight or second factor is infinite. -/
theorem real_of_pre [Cert.Pre_finite_dx_wd_b.Facts] (h : Cert.Pre_GateBwdIdeal_finite_dx_wd_b m) : Real m c := by
  obtain ⟨h1, h2, h3⟩ := h c
  refine ⟨fun i => ?_, fun i => ?_, fun i => ?_⟩
  · obtain ⟨a, b, rfl⟩ : ∃ (a b : Fin 2048), i = ix2 a b := ⟨i 0, i 1, eq_ix2 i⟩
    have := congrFun h1 (ix2 a b)
    revert this
    pointwise [Cert.Pre_finite_dx_wd_b.fn]
    exact isReal_of_test
  · obtain ⟨a, b, rfl⟩ : ∃ (a : Fin 5632) (b : Fin 2048), i = ix2 a b := ⟨i 0, i 1, eq_ix2 i⟩
    have := congrFun h2 (ix2 a b)
    revert this
    pointwise [Cert.Pre_finite_dx_wd_b.fn]
    exact isReal_of_test
  · obtain ⟨a, b, rfl⟩ : ∃ (a : Fin 2048) (b : Fin 5632), i = ix2 a b := ⟨i 0, i 1, eq_ix2 i⟩
    have := congrFun h3 (ix2 a b)
    revert this
    pointwise [Cert.Pre_finite_dx_wd_b.fn]
    exact isReal_of_test

end Values

end Cert.GateBwdIdeal.RefValue

namespace Cert.Proof

/-- The call computes the derivative of the gate, where the cotangent, the weight and the ungated factor are finite. -/
theorem gate [Cert.Pre_finite_dx_wd_b.Facts] : Cert.algebraic_GateBwdIdeal_GateRefIdeal_pre_finite_dx_wd_b := by
  pair_intro
  · run_from Cert.GateBwdIdeal.Value.run_blocks m g
  · hlo_run
    · exact (Cert.GateBwdIdeal.RefValue.final_da m c (Cert.GateBwdIdeal.RefValue.real_of_pre m c (by assumption))).symm
    · exact (Cert.GateBwdIdeal.RefValue.final_db m c).symm

end Cert.Proof
-- ==== Proof.GateFwd.lean ====
/- The gate's forward call, the product with the up weight fused with the gate, against the reference's gate. -/
module

public import proofs.«01_k».proof.Defs
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateFwdIdeal.RefValue

open Cert.GateFwdIdeal Cert.GateFwdIdeal.Gen
open Cert.GateFwdRefIdeal.Read
open Cert.GateBwdIdeal.RefValue (R C R_val C_val)

/-- A row of `x` against a column of the weight. -/
def up (x : FVec Ideal S1024x2048 .bf16) (w : FVec Ideal S1x2048x1408 .bf16) (r : Fin 1024) (j : Fin 1408) : EReal :=
  ∑ k : Fin 2048, x (ix2 r k) * w (ix3 (0 : Fin 1) k j)

/-- `silu a`, times the product's element `b`. -/
def gated (a b : EReal) : EReal := a * Ideal.logistic a * b

section Chunks

variable (x : FVec Ideal S1024x2048 .bf16) (w : FVec Ideal S1x2048x1408 .bf16) (a : FVec Ideal S1024x1408 .bf16)

theorem ld_x : View.ld (Val := Elt Ideal) (e' := .bf16) x r0_0 = x :=
  View.ld_unit_zero (Val := Elt Ideal) (e := .bf16) (S := S1024x2048) (off := ![0, 0]) (by decide) _ x
theorem ld_w : View.ld (Val := Elt Ideal) (e' := .bf16) w r0_1 = w :=
  View.ld_unit_zero (Val := Elt Ideal) (e := .bf16) (S := S1x2048x1408) (off := ![0, 0, 0]) (by decide) _ w

/-- The whole blocks of the two results. -/
def blockB (y : S1024x1408.Idx) : EReal := up x w (y 0) (y 1)
def blockS (y : S1024x1408.Idx) : EReal := gated (a y) (up x w (y 0) (y 1))

theorem emb (o : Nat) (inb) (r : Fin 256) (j : Fin 1408) (h : o + r.val < 1024) :
    (Rect.unit (s := S1024x1408) ![o, 0] S256x1408.size inb).emb (ix2 r j) = ix2 (⟨o + r.val, h⟩ : Fin 1024) j := by
  funext k
  fin_cases k
  · exact Fin.ext (by simp)
  · exact Fin.ext (by simp)

theorem chunkB0 (r : Fin 256) (j : Fin 1408) : k0_pay7 (F := Ideal) x w (ix2 r j) = blockB x w (r0_2.emb (ix2 r j)) := by
  rw [emb 0 _ r j (by omega)]
  pointwise [k0_pay7, k0_pay6, k0_pay5, blockB, up]

theorem chunkB1 (r : Fin 256) (j : Fin 1408) : k0_pay10 (F := Ideal) x w (ix2 r j) = blockB x w (r0_3.emb (ix2 r j)) := by
  rw [emb 256 _ r j (by omega)]
  pointwise [k0_pay10, k0_pay9, k0_pay5, blockB, up]

theorem chunkB2 (r : Fin 256) (j : Fin 1408) : k0_pay13 (F := Ideal) x w (ix2 r j) = blockB x w (r0_4.emb (ix2 r j)) := by
  rw [emb 512 _ r j (by omega)]
  pointwise [k0_pay13, k0_pay12, k0_pay5, blockB, up]

theorem chunkB3 (r : Fin 256) (j : Fin 1408) : k0_pay3 (F := Ideal) (k0_pay5 x w) (ix2 r j) = blockB x w (r0_5.emb (ix2 r j)) := by
  rw [emb 768 _ r j (by omega)]
  pointwise [k0_pay3, k0_pay2, k0_pay5, blockB, up]

theorem chunkS0 (r : Fin 256) (j : Fin 1408) :
    k0_pay8 (F := Ideal) x w (View.ld a r0_2) (ix2 r j) = blockS x w a (r0_2.emb (ix2 r j)) := by
  rw [emb 0 _ r j (by omega), View.ld_unit]
  pointwise [k0_pay8, k0_pay6, k0_pay5, blockS, gated, up]

theorem chunkS1 (r : Fin 256) (j : Fin 1408) :
    k0_pay11 (F := Ideal) x w (View.ld a r0_3) (ix2 r j) = blockS x w a (r0_3.emb (ix2 r j)) := by
  rw [emb 256 _ r j (by omega), View.ld_unit]
  pointwise [k0_pay11, k0_pay9, k0_pay5, blockS, gated, up]

theorem chunkS2 (r : Fin 256) (j : Fin 1408) :
    k0_pay1 (F := Ideal) (k0_pay12 x w) (k0_pay14 (View.ld a r0_4)) (ix2 r j) = blockS x w a (r0_4.emb (ix2 r j)) := by
  rw [emb 512 _ r j (by omega), View.ld_unit]
  pointwise [k0_pay1, k0_pay12, k0_pay14, k0_pay5, blockS, gated, up]

theorem chunkS3 (r : Fin 256) (j : Fin 1408) :
    k0_pay4 (F := Ideal) (k0_pay5 x w) (View.ld a r0_5) (ix2 r j) = blockS x w a (r0_5.emb (ix2 r j)) := by
  rw [emb 768 _ r j (by omega), View.ld_unit]
  pointwise [k0_pay4, k0_pay2, k0_pay5, blockS, gated, up]

/-- The four row chunks of each result make up its whole block. -/
theorem out_b (y : S1024x1408.Idx) : out0_3 (F := Ideal) x w a y = blockB x w y := by
  unfold_out out0_3
  rw [ld_x, ld_w]
  refine View.canon_apply_of_pieces (Val := Elt Ideal) (e := .bf16) (blockB x w) _ ?_ y (cover0_3 _ _ _ _ y)
  intro p hp z
  simp only [List.mem_cons, List.not_mem_nil, or_false] at hp
  rcases hp with rfl | rfl | rfl | rfl
  · obtain ⟨r, j, rfl⟩ : ∃ (r : Fin 256) (j : Fin 1408), z = ix2 r j := ⟨z 0, z 1, eq_ix2 z⟩
    exact chunkB3 x w r j
  · obtain ⟨r, j, rfl⟩ : ∃ (r : Fin 256) (j : Fin 1408), z = ix2 r j := ⟨z 0, z 1, eq_ix2 z⟩
    exact chunkB2 x w r j
  · obtain ⟨r, j, rfl⟩ : ∃ (r : Fin 256) (j : Fin 1408), z = ix2 r j := ⟨z 0, z 1, eq_ix2 z⟩
    exact chunkB1 x w r j
  · obtain ⟨r, j, rfl⟩ : ∃ (r : Fin 256) (j : Fin 1408), z = ix2 r j := ⟨z 0, z 1, eq_ix2 z⟩
    exact chunkB0 x w r j

theorem out_s (y : S1024x1408.Idx) : out0_4 (F := Ideal) x w a y = blockS x w a y := by
  unfold_out out0_4
  rw [ld_x, ld_w]
  refine View.canon_apply_of_pieces (Val := Elt Ideal) (e := .bf16) (blockS x w a) _ ?_ y (cover0_4 _ _ _ _ y)
  intro p hp z
  simp only [List.mem_cons, List.not_mem_nil, or_false] at hp
  rcases hp with rfl | rfl | rfl | rfl
  · obtain ⟨r, j, rfl⟩ : ∃ (r : Fin 256) (j : Fin 1408), z = ix2 r j := ⟨z 0, z 1, eq_ix2 z⟩
    exact chunkS3 x w a r j
  · obtain ⟨r, j, rfl⟩ : ∃ (r : Fin 256) (j : Fin 1408), z = ix2 r j := ⟨z 0, z 1, eq_ix2 z⟩
    exact chunkS2 x w a r j
  · obtain ⟨r, j, rfl⟩ : ∃ (r : Fin 256) (j : Fin 1408), z = ix2 r j := ⟨z 0, z 1, eq_ix2 z⟩
    exact chunkS1 x w a r j
  · obtain ⟨r, j, rfl⟩ : ∃ (r : Fin 256) (j : Fin 1408), z = ix2 r j := ⟨z 0, z 1, eq_ix2 z⟩
    exact chunkS0 x w a r j

end Chunks

section Values

variable (m : (ℓ : Loc nD τ sig) → Buf (Elt Ideal) ℓ)

/-- The arguments: the normed rows, the up weight and the gate's product. -/
abbrev ax (c : Dev nD) : FVec Ideal S2048x2048 .bf16 := m ((c : Thread nD τ).loc main_arg0)
abbrev aw (c : Dev nD) : FVec Ideal S2048x5632 .f32 := m ((c : Thread nD τ).loc main_arg1)
abbrev aa (c : Dev nD) : FVec Ideal S2048x5632 .bf16 := m ((c : Thread nD τ).loc main_arg2)

/-- The block every window shows at the grid point of column block `q` and row block `i`. -/
theorem idx : ∀ t : Fin cfg0.N, ∀ q : Fin 4, ∀ i : Fin 2, t.val = q.val * 2 + i.val →
    win0_0.index t = ![i.val, 0] ∧ win0_1.index t = ![q.val, 0, 0] ∧ win0_2.index t = ![i.val, q.val]
    ∧ win0_3.index t = ![i.val, q.val] ∧ win0_4.index t = ![i.val, q.val] :=
  (by decide +kernel : ∀ t : Fin grid0.N, _)

theorem weight_entry (c : Dev nD) (q : Fin 4) (k : Fin 2048) (j : Fin 1408) : V m c main_v2 (ix3 q k j) = aw m c (ix2 k (C q j)) := by
  entry_read
  pointwise
  blk_ext [C]

variable (c : Dev nD) (t : Fin 8) (q : Fin 4) (i : Fin 2) (h : t.val = q.val * 2 + i.val)
include h

theorem blk0 (r : Fin 1024) (k : Fin 2048) : iblk m c 0 t (ix2 r k) = ax m c (ix2 (R i r) k) := by
  blk_point [iblk, V, idx t q i h]
  blk_ext [idx t q i h, R_val]

theorem blk1 (a : Fin 1) (k : Fin 2048) (j : Fin 1408) : iblk m c 1 t (ix3 a k j) = aw m c (ix2 k (C q j)) := by
  rw [← weight_entry]
  blk_point [iblk, idx t q i h]
  blk_ext [idx t q i h]

theorem blk2 (r : Fin 1024) (j : Fin 1408) : iblk m c 2 t (ix2 r j) = aa m c (ix2 (R i r) (C q j)) := by
  blk_point [iblk, V, idx t q i h]
  · rfl
  · rfl

theorem up_eq (r : Fin 1024) (j : Fin 1408) :
    up (iblk m c 0 t) (iblk m c 1 t) r j = val_main_v1 (F := Ideal) (ax m c) (aw m c) (ix2 (R i r) (C q j)) := by
  have e : val_main_v1 (F := Ideal) (ax m c) (aw m c) (ix2 (R i r) (C q j))
      = ∑ k : Fin 2048, ax m c (ix2 (R i r) k) * aw m c (ix2 k (C q j)) := by
    pointwise [val_main_v1, val_main_v0]
  rw [e]
  exact Finset.sum_congr rfl fun k _ => congrArg₂ _ (blk0 m c t q i h r k) (blk1 m c t q i h 0 k j)

omit h

theorem v6_at (x : FVec Ideal S2048x2048 .bf16) (w : FVec Ideal S2048x5632 .f32) (a : FVec Ideal S2048x5632 .bf16) (r : Fin 2048) (j : Fin 5632) :
    val_main_v6 (F := Ideal) x w a (ix2 r j) = gated (a (ix2 r j)) (val_main_v1 (F := Ideal) x w (ix2 r j)) := by
  generalize e : val_main_v1 (F := Ideal) x w (ix2 r j) = b
  pointwise [val_main_v6, val_main_v5, val_main_v4, val_main_call0_v5, val_main_call0_v4, val_main_call0_v3, val_main_call0_v2,
    val_main_call0_v1, val_main_call0_v0, val_main_call0_cst, val_main_call0_cst_0, val_main_v3]
  rw [e]
  rfl

theorem final_b : (dats m 0 c).arrAt 3 cfg0.N = val_main_v2 (F := Ideal) (ax m c) (aw m c) := by
  refine (dats m 0 c).arrAt_eq_of_covers 3 _ (by decide +kernel) fun t hf y => ?_
  obtain ⟨q, i, h⟩ := Cert.GateBwdIdeal.RefValue.exists_point t
  blk_simp; rw [after0_3]
  obtain ⟨a, b, rfl⟩ : ∃ (a : Fin 1024) (b : Fin 1408), y = ix2 a b := ⟨y 0, y 1, eq_ix2 y⟩
  refine (out_b _ _ _ _).trans ?_
  have e : blockB (iblk m c 0 t) (iblk m c 1 t) (ix2 a b) = val_main_v2 (F := Ideal) (ax m c) (aw m c) (ix2 (R i a) (C q b)) :=
    up_eq m c t q i h a b
  refine e.trans ?_
  blk_ext [idx t q i h]
  · rfl
  · rfl

theorem final_s : (dats m 0 c).arrAt 4 cfg0.N = val_main_v6 (F := Ideal) (ax m c) (aw m c) (aa m c) := by
  refine (dats m 0 c).arrAt_eq_of_covers 4 _ (by decide +kernel) fun t hf y => ?_
  obtain ⟨q, i, h⟩ := Cert.GateBwdIdeal.RefValue.exists_point t
  blk_simp; rw [after0_4]
  obtain ⟨a, b, rfl⟩ : ∃ (a : Fin 1024) (b : Fin 1408), y = ix2 a b := ⟨y 0, y 1, eq_ix2 y⟩
  refine (out_s _ _ _ _).trans ?_
  have e : blockS (iblk m c 0 t) (iblk m c 1 t) (iblk m c 2 t) (ix2 a b)
      = val_main_v6 (F := Ideal) (ax m c) (aw m c) (aa m c) (ix2 (R i a) (C q b)) := by
    rw [v6_at, ← up_eq m c t q i h, ← blk2 m c t q i h]
    rfl
  refine e.trans ?_
  blk_ext [idx t q i h]
  · rfl
  · rfl

end Values

end Cert.GateFwdIdeal.RefValue

namespace Cert.Proof

/-- The call computes the product and the gate. -/
theorem gate_fwd : Cert.algebraic_GateFwdIdeal_GateFwdRefIdeal := by
  pair_intro
  · run_from Cert.GateFwdIdeal.Value.run_blocks m g
  · hlo_run
    · exact (Cert.GateFwdIdeal.RefValue.final_b m c).symm
    · exact (Cert.GateFwdIdeal.RefValue.final_s m c).symm

end Cert.Proof
-- ==== Proof.ConvTaps.lean ====
/- The taps of the convolution's gradient, in the call and in the reference. -/
module

public import proofs.«01_k».proof.Defs
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Rows
public import proofs.«01_k».proof.Proof.Reals
public import Idealize.ShloMosaic.Lib.Claim
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdIdeal.RefValue

open Cert.ConvBwdIdeal Cert.ConvBwdIdeal.Gen
open Cert.ConvRefIdeal.Read Cert.Rows Cert.Reals

/-! ## The call's taps: a rotated pair of blocks times a row of the weight -/

section Call

variable (cat : FVec Ideal S288x1024 .f32) (w : FVec Ideal S32x1024 .f32)

theorem row_inb : ∀ k : Fin 31, ∀ a, (![k.val, 0] : Fin 2 → ℕ) a + S1x1024.size a ≤ S32x1024.size a := by decide

/-- Tap `k`'s row of the weight. -/
def wrow (k : Fin 31) : FVec Ideal S1x1024 .f32 :=
  View.ld (Val := Elt Ideal) (e' := .f32) w (Rect.unit (s := S32x1024) ![k.val, 0] S1x1024.size (row_inb k))

/-- The rows a tap reads, times its row of the weight. -/
def times (x : FVec Ideal S288x1024 .f32) (k : Fin 31) : FVec Ideal S256x1024 .f32 :=
  mulf (extractStridedSlice S256x1024 ![0, 0] x slices_S288x1024_o0_0_S256x1024)
    (broadcastTo S256x1024 (shapeCast S1x1024 (wrow w k) shapeCasts_S1x1024_S1x1024) broadcasts_S1x1024_S256x1024)

/-- The first `n` taps added up. -/
def ksum : (n : ℕ) → n ≤ 30 → FVec Ideal S256x1024 .f32
  | 0, _ => broadcast S256x1024 (Scalar.ofBits (F := Ideal) .f32 0x00000000#32)
  | n + 1, h => addf (ksum n (by omega))
      (times w (dynamicRotate 0 (BitVec.ofNat 32 (258 + n)) none cat rotates_S288x1024_d0) ⟨n, by omega⟩)

/-- All taps. -/
def taps : FVec Ideal S256x1024 .f32 := addf (ksum cat w 30 (le_refl _)) (times w cat 30)

theorem times_at (x : FVec Ideal S288x1024 .f32) (k : Fin 31) (r : Fin 256) (j : Fin 1024) :
    times w x k (ix2 r j) = x (ix2 (⟨r.val, by omega⟩ : Fin 288) j) * w (ix2 (⟨k.val, by omega⟩ : Fin 32) j) := by
  unfold times wrow
  rw [View.ld_unit]
  pointwise

theorem rotated_at (n : ℕ) (h : n < 30) (r : Fin 256) (j : Fin 1024) :
    dynamicRotate 0 (BitVec.ofNat 32 (258 + n)) none cat rotates_S288x1024_d0 (ix2 (⟨r.val, by omega⟩ : Fin 288) j)
      = cat (ix2 (⟨r.val + (30 - n), by omega⟩ : Fin 288) j) := by
  refine dynamicRotate_apply 0 _ cat _ _ _ fun b => ?_
  have e : (BitVec.ofNat 32 (258 + n)).toNat = 258 + n := by rw [BitVec.toNat_ofNat]; omega
  fin_cases b
  · show r.val + (30 - n) = (r.val + 288 - (BitVec.ofNat 32 (258 + n)).toNat % 288) % 288
    rw [e]; omega
  · rfl

theorem ksum_at (n : ℕ) (h : n ≤ 30) (r : Fin 256) (j : Fin 1024) :
    ksum cat w n h (ix2 r j)
      = ∑ k : Fin n, cat (ix2 (⟨r.val + (30 - k.val), by omega⟩ : Fin 288) j) * w (ix2 (⟨k.val, by omega⟩ : Fin 32) j) := by
  induction n with
  | zero =>
    unfold ksum
    pointwise
    exact (Finset.sum_of_isEmpty _).symm
  | succ n ih =>
    rw [Fin.sum_univ_castSucc]
    refine (congrArg₂ (· + ·) (ih (by omega)) ?_)
    rw [times_at, rotated_at]
    · rfl
    · omega

theorem taps_at (r : Fin 256) (j : Fin 1024) :
    taps cat w (ix2 r j)
      = ∑ k : Fin 31, cat (ix2 (⟨r.val + (30 - k.val), by omega⟩ : Fin 288) j) * w (ix2 (⟨k.val, by omega⟩ : Fin 32) j) := by
  rw [Fin.sum_univ_castSucc]
  exact congrArg₂ (· + ·) (ksum_at cat w 30 (le_refl _) r j) (times_at w cat 30 r j)

end Call

/-! ## The reference's taps: a product padded to the place it was read from -/

section Reference

open Cert.ConvRefIdeal

variable (d : FVec Ideal S2048x1024 .f32) (w : FVec Ideal S31x1x1024 .f32)

theorem slice_row : ∀ k : Fin 31, S31x1x1024.Slices ![k.val, 0, 0] S1x1x1024 := by decide
theorem pads_row : ∀ k : Fin 31, S2048x1024.Pads (![k.val, 0] : Fin 2 → Nat) ![30 - k.val, 0] ![0, 0] S2078x1024 := by decide

def rtap (k : Fin 31) : FVec Ideal S2078x1024 .f32 :=
  pad S2078x1024 ![k.val, 0] ![30 - k.val, 0] ![0, 0]
    (mulf (shapeCast S2048x1024 d Gen.shapeCasts_S2048x1024_S2048x1024)
      (broadcastInDim S2048x1024 ![0, 1] Gen.bcast_S1x1024_S2048x1024_0_1
        (shapeCast S1x1024 (extractStridedSlice S1x1x1024 ![k.val, 0, 0] w (slice_row k)) Gen.shapeCasts_S1x1x1024_S1x1024)))
    (constant (F := Ideal) S_ .f32 0x00000000#32) (pads_row k) Gen.h_S_

/-- The last `n + 1` taps added up, the last first. -/
def rsum : (n : ℕ) → n < 31 → FVec Ideal S2078x1024 .f32
  | 0, _ => rtap d w ⟨30, by omega⟩
  | n + 1, h => addf (rsum n (by omega)) (rtap d w ⟨29 - n, by omega⟩)

theorem v330_eq : val_main_v330 (F := Ideal) d w = rsum d w 30 (by omega) := rfl

/-- Row `q` of the cotangent, zero past its end. -/
def past (q : ℕ) (j : Fin 1024) : EReal := if h : q < 2048 then d (ix2 (⟨q, h⟩ : Fin 2048) j) else 0

theorem rtap_at (k : Fin 31) (r : Fin 2048) (j : Fin 1024) :
    rtap d w k (ix2 (⟨r.val + 30, by omega⟩ : Fin 2078) j) = past d (r.val + (30 - k.val)) j * w (ix3 k (0 : Fin 1) j) := by
  have e : rtap d w k (ix2 (⟨r.val + 30, by omega⟩ : Fin 2078) j)
      = if h : k.val ≤ r.val + 30 ∧ r.val + 30 - k.val < 2048 then
          d (ix2 (⟨r.val + 30 - k.val, h.2⟩ : Fin 2048) j) * w (ix3 k (0 : Fin 1) j) else 0 := by
    unfold rtap
    pointwise
  rw [e]
  unfold past
  have hk : r.val + 30 - k.val = r.val + (30 - k.val) := by omega
  by_cases h : r.val + (30 - k.val) < 2048
  · rw [dif_pos h, dif_pos ⟨by omega, by omega⟩]
    congr 3
    exact Fin.ext hk
  · rw [dif_neg h, dif_neg (by omega), zero_mul]

theorem rsum_at (n : ℕ) (h : n < 31) (r : Fin 2048) (j : Fin 1024) :
    rsum d w n h (ix2 (⟨r.val + 30, by omega⟩ : Fin 2078) j)
      = ∑ k : Fin (n + 1), past d (r.val + k.val) j * w (ix3 (⟨30 - k.val, by omega⟩ : Fin 31) (0 : Fin 1) j) := by
  induction n with
  | zero =>
    rw [Fin.sum_univ_one]
    exact rtap_at d w ⟨30, by omega⟩ r j
  | succ n ih =>
    rw [Fin.sum_univ_castSucc]
    refine congrArg₂ (· + ·) (ih (by omega)) ((rtap_at d w ⟨29 - n, by omega⟩ r j).trans ?_)
    have e : 30 - (29 - n) = n + 1 := by omega
    have e' : 29 - n = 30 - (n + 1) := by omega
    congr 2
    · exact congrArg (r.val + ·) e
    · congr 1
      exact Fin.ext e'

theorem v330_at (r : Fin 2048) (j : Fin 1024) :
    val_main_v330 (F := Ideal) d w (ix2 (⟨r.val + 30, by omega⟩ : Fin 2078) j)
      = ∑ k : Fin 31, past d (r.val + (30 - k.val)) j * w (ix3 k (0 : Fin 1) j) := by
  rw [v330_eq, rsum_at, ← Equiv.sum_comp Fin.revPerm]
  refine Finset.sum_congr rfl fun k _ => ?_
  have e : (Fin.revPerm k).val = 30 - k.val := by rw [Fin.revPerm_apply, Fin.val_rev]; omega
  congr 2
  · rw [e]
  · congr 1
    exact Fin.ext (by show 30 - (Fin.revPerm k).val = k.val; omega)

end Reference

end Cert.ConvBwdIdeal.RefValue
-- ==== Proof.Conv.lean ====
/- The value of the convolution's gradient call against the derivative of the padded convolution. -/
module

public import proofs.«01_k».proof.Defs
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Rows
public import proofs.«01_k».proof.Proof.Reals
public import proofs.«01_k».proof.Proof.ConvTaps
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdIdeal.RefValue

open Cert.ConvBwdIdeal Cert.ConvBwdIdeal.Gen
open Cert.ConvRefIdeal.Read Cert.Rows Cert.Reals

/-- A row of the result: the first columns' cotangent, then the gradients of a gated product's two factors. -/
def rowOf (z : Fin 2048 → EReal) (D a g : Fin 1024 → EReal) (j : Fin 4096) : EReal :=
  if h : j.val < 2048 then z ⟨j.val, h⟩
  else if h' : j.val < 3072 then D ⟨j.val - 2048, by omega⟩ * Ideal.logistic (g ⟨j.val - 2048, by omega⟩)
  else a ⟨j.val - 3072, by omega⟩ * D ⟨j.val - 3072, by omega⟩
    * (Ideal.logistic (g ⟨j.val - 3072, by omega⟩) * (1 - Ideal.logistic (g ⟨j.val - 3072, by omega⟩)))

section Tile

/-- A tile of the result, from the tile of the preactivations, the cotangent's and the taps. -/
def glue (v1 : FVec Ideal S256x4096 .f32) (v2 : FVec Ideal S256x2048 .f32) (D : FVec Ideal S256x1024 .f32) : FVec Ideal S256x4096 .f32 :=
  have g : FVec Ideal S256x1024 .f32 := logistic (extractStridedSlice S256x1024 ![0, 3072] v1 slices_S256x4096_o0_3072_S256x1024)
  have one : FVec Ideal S256x1024 .f32 := broadcast S256x1024 (Scalar.ofBits (F := Ideal) .f32 0x3F800000#32)
  concatenate S256x4096 1
    [⟨S256x2048, v2⟩, ⟨S256x1024, mulf D g⟩,
     ⟨S256x1024, mulf (mulf (extractStridedSlice S256x1024 ![0, 2048] v1 slices_S256x4096_o0_2048_S256x1024) D) (mulf g (subf one g))⟩]
    concatenates_S256x2048_S256x1024_S256x1024_S256x4096_d1

theorem glue_at (v1 : FVec Ideal S256x4096 .f32) (v2 : FVec Ideal S256x2048 .f32) (D : FVec Ideal S256x1024 .f32) (r : Fin 256) (j : Fin 4096) :
    glue v1 v2 D (ix2 r j) = rowOf (fun k => v2 (ix2 r k)) (fun k => D (ix2 r k))
      (fun k => v1 (ix2 r (⟨2048 + k.val, by omega⟩ : Fin 4096))) (fun k => v1 (ix2 r (⟨3072 + k.val, by omega⟩ : Fin 4096))) j := by
  unfold glue rowOf
  pointwise
  by_cases h : j.val < 2048
  · simp only [h, dite_true]
  · by_cases h' : j.val < 3072
    · have e : j.val - 2048 < 1024 := by omega
      simp only [h, h', e, dite_true, dite_false]
    · have e : ¬ j.val - 2048 < 1024 := by omega
      simp only [h, h', e, dite_false, Nat.sub_sub, Nat.reduceAdd]

theorem sum_glue (v1 : FVec Ideal S256x4096 .f32) (j : Fin 4096) :
    shapeCast S1x4096 (multiReduction (F := Ideal) .add [0] S4096 v1 0x00000000#32 reduces_S256x4096_S4096 (.inl rfl) rfl) shapeCasts_S4096_S1x4096 (ix2 (0 : Fin 1) j)
      = ∑ r : Fin 256, v1 (ix2 r j) := by
  pointwise

theorem pay2_at (z : FVec Ideal S256x4096 .f32) (r : Fin 256) (j : Fin 4096) : k0_pay2 (F := Ideal) z (ix2 r j) = z (ix2 r j) := by
  pointwise [k0_pay2]

theorem slt7 : ∀ t : Fin 8, Scalar.cmpi CmpIPredicate.slt (BitVec.ofNat 32 t.val) 7#32 = if t.val < 7 then 1#1 else 0#1 := by decide

end Tile

section Reference

open Cert.ConvRefIdeal

variable (x : FVec Ideal S2048x4096 .f32) (b : FVec Ideal S4096 .f32) (z : FVec Ideal S2048x2048 .f32)
  (d : FVec Ideal S2048x1024 .f32) (w : FVec Ideal S31x1x1024 .f32)

/-- The sum over the taps that reaches row `r`. -/
def taps_row (r : Fin 2048) (j : Fin 1024) : EReal := ∑ k : Fin 31, past d (r.val + (30 - k.val)) j * w (ix3 k (0 : Fin 1) j)

theorem v12_at (r : Fin 2048) (j : Fin 1024) :
    val_main_v12 (F := Ideal) x b (ix2 r j) = Ideal.logistic (x (ix2 r (⟨3072 + j.val, by omega⟩ : Fin 4096)) + b (ix1 (⟨3072 + j.val, by omega⟩ : Fin 4096))) := by
  pointwise [val_main_v12, val_main_v11, val_main_v10, val_main_v9, val_main_v8, val_main_v7, val_main_v4, val_main_v2, val_main_v1, val_main_v0, val_main_cst_0, val_main_cst_1]
  rfl

theorem v332_at (r : Fin 2048) (j : Fin 1024) : val_main_v332 (F := Ideal) d w (ix2 r j) = taps_row d w r j := by
  refine Eq.trans ?_ (v330_at d w r j)
  pointwise [val_main_v332]
  blk_ext []

theorem v340_at (r : Fin 2048) (j : Fin 4096) :
    val_main_v340 (F := Ideal) x b z d w (ix2 r j) = rowOf (fun k => z (ix2 r k)) (taps_row d w r)
      (fun k => x (ix2 r (⟨2048 + k.val, by omega⟩ : Fin 4096)) + b (ix1 (⟨2048 + k.val, by omega⟩ : Fin 4096)))
      (fun k => x (ix2 r (⟨3072 + k.val, by omega⟩ : Fin 4096)) + b (ix1 (⟨3072 + k.val, by omega⟩ : Fin 4096))) j := by
  pointwise [val_main_v340, val_main_v339, val_main_v338, val_main_v337, val_main_v336, val_main_v335, val_main_v334, val_main_v333, val_main_v15, val_main_v14, val_main_v13,
    val_main_v3, val_main_v2, val_main_v1, val_main_v0, val_main_cst_2, val_main_cst_36, val_main_cst_37, val_main_cst_38, v12_at, v332_at, rowOf]
  by_cases h : j.val < 2048
  · have e : ¬ (2048 ≤ j.val ∧ j.val - 2048 < 1024) := by omega
    have e' : ¬ (3072 ≤ j.val ∧ j.val - 3072 < 1024) := by omega
    simp only [h, e, e', dite_true, dite_false, add_zero]
  · by_cases h' : j.val < 3072
    · have e : 2048 ≤ j.val ∧ j.val - 2048 < 1024 := by omega
      have e' : ¬ (3072 ≤ j.val ∧ j.val - 3072 < 1024) := by omega
      simp only [h, h', e, e', and_self, dite_true, dite_false, zero_add]
    · have e : ¬ (2048 ≤ j.val ∧ j.val - 2048 < 1024) := by omega
      have e' : 3072 ≤ j.val ∧ j.val - 3072 < 1024 := by omega
      simp only [h, h', e, e', and_self, dite_true, dite_false, zero_add, add_zero]

theorem v345_at (j : Fin 4096) :
    val_main_v345 (F := Ideal) x b z d w (ix2 (0 : Fin 1) j) = ∑ r : Fin 2048, val_main_v340 (F := Ideal) x b z d w (ix2 r j) := by
  pointwise [val_main_v345, val_main_v343, val_main_v342, val_main_v341, val_main_cst_40, val_main_cst_39]
  simp only [Finset.univ_unique, Finset.sum_singleton]

end Reference

section Values

variable (m : (ℓ : Loc nD τ sig) → Buf (Elt Ideal) ℓ)

abbrev ax (c : Dev nD) : FVec Ideal S2048x4096 .f32 := m ((c : Thread nD τ).loc main_arg0)
abbrev ab (c : Dev nD) : FVec Ideal S4096 .f32 := m ((c : Thread nD τ).loc main_arg1)
abbrev az (c : Dev nD) : FVec Ideal S2048x2048 .f32 := m ((c : Thread nD τ).loc main_arg2)
abbrev ad (c : Dev nD) : FVec Ideal S2048x1024 .f32 := m ((c : Thread nD τ).loc main_arg3)
abbrev aw (c : Dev nD) : FVec Ideal S31x1x1024 .f32 := m ((c : Thread nD τ).loc main_arg4)

/-- The block every window shows at grid point `t`. -/
theorem idx : ∀ t : Fin cfg0.N, win0_0.index t = ![t.val, 0] ∧ win0_1.index t = ![t.val, 0] ∧ win0_2.index t = ![t.val, 0]
    ∧ win0_3.index t = ![min ((t.val + 1) * 8) 63, 0] ∧ win0_4.index t = ![0, 0] ∧ win0_5.index t = ![t.val, 0] ∧ (grid0.coords t 0).val = t.val :=
  (by decide +kernel : ∀ t : Fin grid0.N, _)

theorem z_entry (c : Dev nD) (r : Fin 2048) (j : Fin 4096) : V m c main_v2 (ix2 r j) = ax m c (ix2 r j) + ab m c (ix1 j) := by
  simp only [V, hostOps0, hostOps0_1, List.flatten_cons, List.flatten_nil, List.append_nil, List.cons_append, List.nil_append]
  entry_read
  pointwise

theorem w_entry (c : Dev nD) (k : Fin 31) (j : Fin 1024) : V m c main_v4 (ix2 (⟨k.val, by omega⟩ : Fin 32) j) = aw m c (ix3 k (0 : Fin 1) j) := by
  simp only [V, hostOps0, hostOps0_1, List.flatten_cons, List.flatten_nil, List.append_nil, List.cons_append, List.nil_append]
  entry_read
  show pad S32x1024 ![0, 0] ![1, 0] ![0, 0] (shapeCast S31x1024 (aw m c) shapeCasts_S31x1x1024_S31x1024)
    (sitofp (F := Ideal) .f32 (constantI S_ 32 0#32)) pads_S31x1024_S32x1024_010_000 h_S_ (ix2 (⟨k.val, by omega⟩ : Fin 32) j) = _
  pointwise

abbrev tz (c : Dev nD) (t : Fin 8) : FVec Ideal S256x4096 .f32 := iblk m c 0 t
abbrev tza (c : Dev nD) (t : Fin 8) : FVec Ideal S256x2048 .f32 := iblk m c 1 t
abbrev td (c : Dev nD) (t : Fin 8) : FVec Ideal S256x1024 .f32 := iblk m c 2 t
abbrev tn (c : Dev nD) (t : Fin 8) : FVec Ideal S32x1024 .f32 := iblk m c 3 t
abbrev tw (c : Dev nD) (t : Fin 8) : FVec Ideal S32x1024 .f32 := iblk m c 4 t
abbrev tcat (c : Dev nD) (t : Fin 8) : FVec Ideal S288x1024 .f32 := k0_pay3 (F := Ideal) (grid0.coords t) (td m c t) (tn m c t)

/-- A tile of the result. -/
abbrev tdz (c : Dev nD) (t : Fin 8) : FVec Ideal S256x4096 .f32 := glue (k0_pay2 (F := Ideal) (tz m c t)) (tza m c t) (taps (tcat m c t) (tw m c t))

variable (c : Dev nD) (t : Fin 8)

theorem blk0 (r : Fin 256) (j : Fin 4096) : tz m c t (ix2 r j) = ax m c (ix2 (row t r) j) + ab m c (ix1 j) := by
  rw [← z_entry]
  show iblk m c 0 t (ix2 r j) = _
  blk_point [iblk, idx t]
  blk_ext [idx t, row_val]

theorem blk1 (r : Fin 256) (j : Fin 2048) : tza m c t (ix2 r j) = az m c (ix2 (row t r) j) := by
  show iblk m c 1 t (ix2 r j) = m ((c : Thread nD τ).loc main_arg2) (ix2 (row t r) j)
  blk_point [iblk, V, idx t]
  blk_ext [idx t, row_val]

theorem blk2 (r : Fin 256) (j : Fin 1024) : td m c t (ix2 r j) = ad m c (ix2 (row t r) j) := by
  show iblk m c 2 t (ix2 r j) = m ((c : Thread nD τ).loc main_arg3) (ix2 (row t r) j)
  blk_point [iblk, V, idx t]
  blk_ext [idx t, row_val]

theorem blk3 (h : t.val < 7) (r : Fin 32) (j : Fin 1024) : tn m c t (ix2 r j) = ad m c (ix2 (⟨t.val * 256 + 256 + r.val, by omega⟩ : Fin 2048) j) := by
  show iblk m c 3 t (ix2 r j) = m ((c : Thread nD τ).loc main_arg3) (ix2 (⟨t.val * 256 + 256 + r.val, by omega⟩ : Fin 2048) j)
  blk_point [iblk, V, idx t]
  blk_ext [idx t]

theorem blk4 (k : Fin 31) (j : Fin 1024) : tw m c t (ix2 (⟨k.val, by omega⟩ : Fin 32) j) = aw m c (ix3 k (0 : Fin 1) j) := by
  rw [← w_entry]
  show iblk m c 4 t (ix2 (⟨k.val, by omega⟩ : Fin 32) j) = _
  blk_point [iblk, idx t]
  blk_ext [idx t]

theorem cat_at (p : Fin 288) (j : Fin 1024) : tcat m c t (ix2 p j) = past (ad m c) (t.val * 256 + p.val) j := by
  have e : tcat m c t (ix2 p j) = if h : p.val < 256 then td m c t (ix2 (⟨p.val, h⟩ : Fin 256) j)
      else if t.val < 7 then tn m c t (ix2 (⟨p.val - 256, by omega⟩ : Fin 32) j) else 0 := by
    pointwise [k0_pay3]
    simp only [(idx t).2.2.2.2.2.2]
    rw [slt7]
    by_cases h : t.val < 7 <;> simp [h, Scalar.select]
  rw [e]
  unfold past
  by_cases h : p.val < 256
  · have e' : t.val * 256 + p.val < 2048 := by omega
    simp only [h, e', dite_true]
    exact blk2 m c t _ j
  · by_cases h' : t.val < 7
    · have e' : t.val * 256 + p.val < 2048 := by omega
      simp only [h, h', e', dite_true, dite_false, if_true]
      rw [blk3 m c t h']
      blk_ext []
    · have e' : ¬ t.val * 256 + p.val < 2048 := by omega
      simp only [h, h', e', dite_false, if_false]

/-- The tile's taps at row `r` are the reference's at the same row of all. -/
theorem taps_tile (r : Fin 256) (j : Fin 1024) : taps (tcat m c t) (tw m c t) (ix2 r j) = taps_row (ad m c) (aw m c) (row t r) j := by
  rw [taps_at]
  refine Finset.sum_congr rfl fun k _ => ?_
  rw [cat_at, blk4, row_val]
  congr 2
  simp only
  omega

/-- A tile of the kernel's result is those rows of the reference's. -/
theorem dz_at (r : Fin 256) (j : Fin 4096) :
    tdz m c t (ix2 r j) = Cert.ConvRefIdeal.Read.val_main_v340 (F := Ideal) (ax m c) (ab m c) (az m c) (ad m c) (aw m c) (ix2 (row t r) j) := by
  refine (glue_at _ _ _ r j).trans ?_
  rw [v340_at]
  congr 1
  · funext k; exact blk1 m c t r k
  · funext k; exact taps_tile m c t r k
  · funext k; refine (pay2_at _ _ _).trans ?_; exact blk0 m c t r _
  · funext k; refine (pay2_at _ _ _).trans ?_; exact blk0 m c t r _

theorem outs_dz (c : Dev nD) (t : Fin cfg0.N) : (outsAt0 m c t.val t.isLt).1 = truncf .bf16 (tdz m c t) (by decide) := by
  have ht : t.val < 8 := t.isLt.trans_eq N_0
  by_cases h : t.val % 8 = 0
  · rw [outsAt0_A m c t h (by omega)]; frame_out; rfl
  · rw [outsAt0_B m c t h (by omega)]; frame_out; rfl

theorem final_dz (c : Dev nD) :
    (dats m 0 c).arrAt 5 cfg0.N = Cert.ConvRefIdeal.Read.val_main_v344 (F := Ideal) (ax m c) (ab m c) (az m c) (ad m c) (aw m c) := by
  refine (dats m 0 c).arrAt_eq_of_covers 5 _ (by decide +kernel) fun t hf y => ?_
  blk_simp
  rw [after0_5, outs_dz]
  obtain ⟨a, b, rfl⟩ : ∃ (a : Fin 256) (b : Fin 4096), y = ix2 a b := ⟨y 0, y 1, eq_ix2 y⟩
  refine (dz_at m c t a b).trans ?_
  blk_ext [idx t]
  exact row_val t a

/-- The tile's sum over its rows, added to the accumulator. -/
theorem add_db (x p : FVec Ideal S1x4096 .f32) (j : S1x4096.Idx) : k0_pay1 (F := Ideal) x p j = p j + x j := by
  pointwise [k0_pay1]

/-- The sum over a tile's rows. -/
abbrev rowsum (v : FVec Ideal S256x4096 .f32) : FVec Ideal S1x4096 .f32 :=
  shapeCast S1x4096 (multiReduction (F := Ideal) .add [0] S4096 v 0x00000000#32 reduces_S256x4096_S4096 (.inl rfl) rfl) shapeCasts_S4096_S1x4096

/-- The accumulator after the last tile. -/
theorem acc_db (c : Dev nD) (j : S1x4096.Idx) : (outsAt0 m c t0_7.val t0_7.isLt).2 j = ∑ t : Fin 8, rowsum (tdz m c t) j := by
  rw [Pipeline.eq_sum_fin_of_reset_step_apply_last (fun n h => (outsAt0 m c n h).2) 8 (fun _ => 0)
    (fun t j => rowsum (tdz m c t) j)
    (fun t h j => by
      have ht : t.val < 8 := t.isLt.trans_eq N_0
      rw [outsAt0_A m c t h (by omega)]; frame_out
      exact (zero_add _).symm)
    (fun t h j => by
      have ht : t.val < 8 := t.isLt.trans_eq N_0
      rw [outsAt0_B m c t h (by omega)]; frame_out
      exact add_db _ _ j)
    (le_of_eq N_0) t0_7 rfl j, zero_add]
  rfl

theorem final_db (c : Dev nD) :
    (dats m 0 c).arrAt 6 cfg0.N = Cert.ConvRefIdeal.Read.val_main_v345 (F := Ideal) (ax m c) (ab m c) (az m c) (ad m c) (aw m c) := by
  refine (dats m 0 c).arrAt_eq_of_after_last 6 t0_7 (by decide +kernel) _ fun j => ?_
  blk_simp
  rw [after0_6]
  obtain ⟨a, b, rfl⟩ : ∃ (a : Fin 1) (b : Fin 4096), j = ix2 a b := ⟨j 0, j 1, eq_ix2 j⟩
  obtain rfl : a = 0 := Subsingleton.elim _ _
  refine (acc_db m c _).trans ?_
  rw [v345_at, ← sum_rows]
  refine Finset.sum_congr rfl fun t _ => (sum_glue _ b).trans ?_
  exact Finset.sum_congr rfl fun r _ => dz_at m c t r b

end Values

end Cert.ConvBwdIdeal.RefValue

namespace Cert.Proof

/-- The call computes the derivative of the gated and padded convolution. -/
theorem conv : Cert.algebraic_ConvBwdIdeal_ConvRefIdeal := by
  pair_intro
  · run_from Cert.ConvBwdIdeal.Value.run_blocks m g
  · run_from Cert.ConvRefIdeal.Value.run (F := Ideal) m' g'
    all_goals obtain ⟨h0, h1, h2, h3, h4⟩ := hagree c
    · refine (Cert.ConvRefIdeal.Read.val_main_v344_eq (F := Ideal) _).trans (Eq.trans ?_ (Cert.ConvBwdIdeal.RefValue.final_dz m c).symm)
      exact congr(Cert.ConvRefIdeal.Read.val_main_v344 (F := Ideal) $h0 $h1 $h2 $h3 $h4)
    · refine (Cert.ConvRefIdeal.Read.val_main_v345_eq (F := Ideal) _).trans (Eq.trans ?_ (Cert.ConvBwdIdeal.RefValue.final_db m c).symm)
      exact congr(Cert.ConvRefIdeal.Read.val_main_v345 (F := Ideal) $h0 $h1 $h2 $h3 $h4)

end Cert.Proof
-- ==== Proof.LnGrad.lean ====
/- The derivative of the layer norm along one row, as the extended reals read it. -/
module

public import proofs.«01_k».proof.Proof.Reals
public import Idealize.ShloMosaic.Lib.Claim
public import Idealize.ShloMosaic.Lib.Pointwise

@[expose] public section

noncomputable section

open Idealize.ShloMosaic

namespace Cert.Ln

open Cert.Reals

variable (x dy : Fin 1024 → EReal)

/-- The number of columns. -/
abbrev width : EReal := Ideal.ofBits .f32 1149239296#32

/-- An element less the row's mean. -/
def cen (j : Fin 1024) : EReal := x j - Ideal.div (∑ k, x k) width

/-- The row's variance, with the small number added. -/
def var : EReal := Ideal.div (∑ k, cen x k * cen x k) width + Ideal.ofBits .f32 897988541#32

/-- The factor that norms a row. -/
def scale : EReal := Ideal.rsqrt (var x)

/-- The normed row, before weight and bias. -/
def hat (j : Fin 1024) : EReal := cen x j * scale x

/-- The normed row with its weight and bias. -/
def out (g b : Fin 1024 → EReal) (j : Fin 1024) : EReal := hat x j * g j + b j

/-- What the factor's derivative adds at every column, before the column's own element. -/
def slope : EReal :=
  ∑ _ : Fin 1, Ideal.div ((∑ k, cen x k * dy k) * (Ideal.ofBits .f32 3204448256#32 * Ideal.div (scale x) (var x))) width

/-- The derivative in the centred row. -/
def pull (j : Fin 1024) : EReal := dy j * scale x + cen x j * slope x dy + slope x dy * cen x j

/-- The norm's derivative along a row, at the cotangent `dy` of the row normed and not yet weighted. -/
def grad (j : Fin 1024) : EReal := pull x dy j + ∑ _ : Fin 1, Ideal.div (∑ k, -(pull x dy k)) width

theorem width_eq : width = ((1024 : ℝ) : EReal) := by
  simp [Ideal.ofBits, Ideal.ieee]
  rw [← EReal.coe_mul]
  norm_num

theorem isReal_div_width {a : EReal} (h : IsReal a) : IsReal (Ideal.div a width) := by
  rw [width_eq, Ideal.div_coe (by norm_num)]
  exact h.mul (isReal_coe _)

theorem isReal_ofBits (w : BitVec 32) (h : (w.extractLsb' 23 8).toNat ≠ 255 := by decide) : IsReal (Ideal.ofBits .f32 w) :=
  isReal_ofBits_f32 h

section Real

variable {x dy}
variable (hx : ∀ k, IsReal (x k))
include hx

theorem isReal_cen (j : Fin 1024) : IsReal (cen x j) :=
  (hx j).sub (isReal_div_width (IsReal.sum fun k _ => hx k))

/-- The variance with the small number is a positive real. -/
theorem var_pos : ∃ v : ℝ, 0 < v ∧ var x = (v : EReal) := by
  choose f hf using fun k => isReal_cen hx k
  have he : ∃ e : ℝ, 0 < e ∧ Ideal.ofBits .f32 897988541#32 = (e : EReal) := by
    refine ⟨8796093 * 2 ^ (-43 : ℤ), by positivity, ?_⟩
    simp [Ideal.ofBits, Ideal.ieee]
  obtain ⟨e, he0, he⟩ := he
  refine ⟨(∑ k, f k * f k) * (1 / 1024 : ℝ) + e, ?_, ?_⟩
  · have : 0 ≤ ∑ k, f k * f k := Finset.sum_nonneg fun k _ => mul_self_nonneg (f k)
    positivity
  · unfold var
    rw [width_eq, Ideal.div_coe (by norm_num), he, EReal.coe_add, EReal.coe_mul, coe_sum]
    simp only [hf, EReal.coe_mul]

theorem isReal_var : IsReal (var x) := by
  obtain ⟨v, -, h⟩ := var_pos hx
  exact ⟨v, h⟩

theorem isReal_scale : IsReal (scale x) := by
  obtain ⟨v, h0, h⟩ := var_pos hx
  unfold scale
  rw [h, Ideal.rsqrt_coe, if_neg (not_lt.mpr h0.le), if_neg h0.ne']
  exact isReal_coe _

theorem isReal_hat (j : Fin 1024) : IsReal (hat x j) := (isReal_cen hx j).mul (isReal_scale hx)

theorem isReal_out {g b : Fin 1024 → EReal} (hg : ∀ k, IsReal (g k)) (hb : ∀ k, IsReal (b k)) (j : Fin 1024) :
    IsReal (out x g b j) := ((isReal_hat hx j).mul (hg j)).add (hb j)

theorem isReal_slope (hd : ∀ k, IsReal (dy k)) : IsReal (slope x dy) := by
  obtain ⟨v, h0, h⟩ := var_pos hx
  refine IsReal.sum fun _ _ => isReal_div_width (IsReal.mul (IsReal.sum fun k _ => (isReal_cen hx k).mul (hd k)) ?_)
  rw [h, Ideal.div_coe h0.ne']
  exact (isReal_ofBits _).mul ((isReal_scale hx).mul (isReal_coe _))

theorem isReal_pull (hd : ∀ k, IsReal (dy k)) (j : Fin 1024) : IsReal (pull x dy j) :=
  (((hd j).mul (isReal_scale hx)).add ((isReal_cen hx j).mul (isReal_slope hx hd))).add
    ((isReal_slope hx hd).mul (isReal_cen hx j))

theorem isReal_grad (hd : ∀ k, IsReal (dy k)) (j : Fin 1024) : IsReal (grad x dy j) :=
  (isReal_pull hx hd j).add (IsReal.sum fun _ _ => isReal_div_width (IsReal.sum fun k _ => (isReal_pull hx hd k).neg))

end Real

end Cert.Ln
-- ==== Proof.GeluGrad.lean ====
/- The derivative of the smooth gate at one element, as two programs write it. -/
module

public import proofs.«01_k».proof.Proof.Reals
public import Idealize.ShloMosaic.Lib.Claim
public import Idealize.ShloMosaic.Lib.Pointwise

@[expose] public section

noncomputable section

open Idealize.ShloMosaic

namespace Cert.Gelu

open Cert.Reals

abbrev half : EReal := Ideal.ofBits .f32 1056964608#32
abbrev three : EReal := Ideal.ofBits .f32 1077936128#32
/-- The factor of the cubic term. -/
abbrev cube : EReal := Ideal.ofBits .f32 1027024659#32
/-- The factor in front of the polynomial. -/
abbrev front : EReal := Ideal.ofBits .f32 1061962282#32

/-- The hyperbolic tangent of the polynomial. -/
def th (x : EReal) : EReal := Ideal.tanh (front * (x + cube * (x * x * x)))

/-- The value: half of `x`, times one and the tangent. -/
def val (x : EReal) : EReal := half * x * (1 + th x)

/-- The value with its factors in another order. -/
def val' (x : EReal) : EReal := x * (half * (1 + th x))

theorem val'_eq (x : EReal) : val' x = val x := by
  unfold val val'
  rw [← mul_assoc, mul_comm x half]

/-- What reaches the polynomial. -/
def inner (d x : EReal) : EReal := front * (half * x * d * ((1 + th x) * (1 - th x)))

/-- The derivative at cotangent `d`, the cube's by the product rule. -/
def back (d x : EReal) : EReal :=
  inner d x + x * x * (cube * inner d x) + x * (cube * inner d x * x) + cube * inner d x * x * x + half * (d * (1 + th x))

/-- What reaches the polynomial, its factors in another order. -/
def inner' (d x : EReal) : EReal := front * (half * (x * d) * ((1 + th x) * (1 - th x)))

/-- The derivative at cotangent `d`, the cube's as three times the square. -/
def back' (d x : EReal) : EReal :=
  d * (half * (1 + th x)) + inner' d x + cube * inner' d x * (three * (x * x))

theorem isReal_ofBits (w : BitVec 32) (h : (w.extractLsb' 23 8).toNat ≠ 255 := by decide) : IsReal (Ideal.ofBits .f32 w) :=
  isReal_ofBits_f32 h

theorem isReal_one : IsReal (1 : EReal) := ⟨1, rfl⟩

theorem isReal_th {x : EReal} (hx : IsReal x) : IsReal (th x) := by
  obtain ⟨r, h⟩ : IsReal (front * (x + cube * (x * x * x))) :=
    (isReal_ofBits _).mul (hx.add ((isReal_ofBits _).mul ((hx.mul hx).mul hx)))
  unfold th
  rw [h]
  exact isReal_coe _

theorem isReal_val {x : EReal} (hx : IsReal x) : IsReal (val x) :=
  ((isReal_ofBits _).mul hx).mul (isReal_one.add (isReal_th hx))

theorem three_eq : three = ((3 : ℝ) : EReal) := by
  simp [Ideal.ofBits, Ideal.ieee]
  rw [← EReal.coe_mul]
  norm_num

/-- The two derivatives agree where the cotangent and the element are real. -/
theorem back_eq {d x : EReal} (hd : IsReal d) (hx : IsReal x) : back' d x = back d x := by
  have e : inner' d x = inner d x := by unfold inner inner'; rw [mul_assoc half x d]
  unfold back back'
  rw [e, three_eq]
  obtain ⟨i, hi⟩ : IsReal (inner d x) := (isReal_ofBits _).mul ((((isReal_ofBits _).mul hx).mul hd).mul
    ((isReal_one.add (isReal_th hx)).mul (isReal_one.sub (isReal_th hx))))
  obtain ⟨t, ht⟩ : IsReal (1 + th x) := isReal_one.add (isReal_th hx)
  obtain ⟨a, ha⟩ : IsReal cube := isReal_ofBits _
  obtain ⟨f, hf⟩ : IsReal half := isReal_ofBits _
  obtain ⟨d, rfl⟩ := hd
  obtain ⟨x, rfl⟩ := hx
  rw [hi, ht, ha, hf]
  simp only [← EReal.coe_mul, ← EReal.coe_add]
  congr 1
  ring

end Cert.Gelu
-- ==== Proof.MixTile.lean ====
/- What one grid point of the mixer's gradient call computes: its parts as arrays and their elements. -/
module

public import proofs.«01_k».proof.Defs
public import proofs.«01_k».proof.Proof.Gen.MixBwdIdeal.Value
public import proofs.«01_k».proof.Proof.Rows
public import proofs.«01_k».proof.Proof.Reals
public import proofs.«01_k».proof.Proof.LnGrad
public import proofs.«01_k».proof.Proof.GeluGrad
public import Idealize.ShloMosaic.Lib.Claim
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MixBwdIdeal.RefValue

open Cert.MixBwdIdeal Cert.MixBwdIdeal.Gen
open Cert.Rows Cert.Reals

/-- Row `p` of block `b` of a tile. -/
def rb (b : Fin 2) (p : Fin 128) : Fin 256 := ⟨b.val * 128 + p.val, by omega⟩

/-- Column `q` of head `h`. -/
def hc (h : Fin 8) (q : Fin 128) : Fin 1024 := ⟨h.val * 128 + q.val, by omega⟩

theorem exists_rb (r : Fin 256) : ∃ b p, r = rb b p :=
  ⟨⟨r.val / 128, by omega⟩, ⟨r.val % 128, by omega⟩, Fin.ext (by simp only [rb]; omega)⟩

theorem exists_hc (j : Fin 1024) : ∃ h q, j = hc h q :=
  ⟨⟨j.val / 128, by omega⟩, ⟨j.val % 128, by omega⟩, Fin.ext (by simp only [hc]; omega)⟩

/-! ## The smooth gate and the layer norm of a tile -/

section Row

variable (x y d : FVec Ideal S256x1024 .f32)

theorem gate_at (z : FVec Ideal S256x4096 .f32) (r : Fin 256) (j : Fin 1024) :
    k0_pay23 (F := Ideal) (k0_pay17 z) (k0_pay19 z) (ix2 r j) = Gelu.val (z (ix2 r (⟨j.val, by omega⟩ : Fin 4096))) := by
  pointwise [k0_pay23, k0_pay22, k0_pay20, k0_pay19, k0_pay18, k0_pay17, k0_pay15]
  rfl

/-- The smooth gate of an array. -/
def gelu : FVec Ideal S256x1024 .f32 := mulf (k0_pay24 (F := Ideal) x) (k0_pay28 (F := Ideal) x)

theorem gelu_at (r : Fin 256) (j : Fin 1024) : gelu x (ix2 r j) = Gelu.val (x (ix2 r j)) := by
  unfold gelu
  pointwise [k0_pay24, k0_pay28, k0_pay26, k0_pay25]
  rfl

/-- The sum along each row, over the number of columns. -/
def mean : FVec Ideal S256x1 .f32 :=
  divf (shapeCast S256x1 (multiReduction (F := Ideal) .add [1] S256 x 0x00000000#32 reduces_S256x1024_S256 (.inl rfl) rfl) shapeCasts_S256_S256x1)
    (broadcast S256x1 (Scalar.ofBits (F := Ideal) .f32 0x44800000#32))

def lncen : FVec Ideal S256x1024 .f32 := subf x (broadcastTo S256x1024 (mean x) broadcasts_S256x1_S256x1024)

def lnvar : FVec Ideal S256x1 .f32 :=
  addf (mean (mulf (lncen x) (lncen x))) (broadcast S256x1 (Scalar.ofBits (F := Ideal) .f32 0x358637BD#32))

def lnscale : FVec Ideal S256x1 .f32 := rsqrt (lnvar x)

def lnfac : FVec Ideal S256x1 .f32 := mulf (broadcast S256x1 (Scalar.ofBits (F := Ideal) .f32 0xBF000000#32)) (divf (lnscale x) (lnvar x))

def lnhat : FVec Ideal S256x1024 .f32 := mulf (lncen x) (broadcastTo S256x1024 (lnscale x) broadcasts_S256x1_S256x1024)

def lnout (g b : FVec Ideal S1x1024 .f32) : FVec Ideal S256x1024 .f32 :=
  addf (mulf (lnhat x) (broadcastTo S256x1024 g broadcasts_S1x1024_S256x1024)) (broadcastTo S256x1024 b broadcasts_S1x1024_S256x1024)

/-- The layer norm's derivative of an array whose normed rows have the cotangent `d`. -/
def lnback : FVec Ideal S256x1024 .f32 := k0_pay148 (F := Ideal) (lncen x) (lnscale x) (lnfac x) d

theorem mean_at (r : Fin 256) (a : Fin 1) : mean x (ix2 r a) = Ideal.div (∑ k, x (ix2 r k)) Ln.width := by
  unfold mean
  pointwise

theorem lncen_at (r : Fin 256) (j : Fin 1024) : lncen x (ix2 r j) = Ln.cen (fun k => x (ix2 r k)) j := by
  unfold lncen
  pointwise [mean_at]
  rfl

theorem lnvar_at (r : Fin 256) (a : Fin 1) : lnvar x (ix2 r a) = Ln.var (fun k => x (ix2 r k)) := by
  unfold lnvar
  pointwise [mean_at, lncen_at]
  rfl

theorem lnscale_at (r : Fin 256) (a : Fin 1) : lnscale x (ix2 r a) = Ln.scale (fun k => x (ix2 r k)) := by
  unfold lnscale
  pointwise [lnvar_at]
  rfl

theorem lnfac_at (r : Fin 256) (a : Fin 1) :
    lnfac x (ix2 r a) = Ideal.ofBits .f32 3204448256#32 * Ideal.div (Ln.scale (fun k => x (ix2 r k))) (Ln.var (fun k => x (ix2 r k))) := by
  unfold lnfac
  pointwise [lnscale_at, lnvar_at]

theorem lnhat_at (r : Fin 256) (j : Fin 1024) : lnhat x (ix2 r j) = Ln.hat (fun k => x (ix2 r k)) j := by
  unfold lnhat
  pointwise [lncen_at, lnscale_at]
  rfl

theorem lnout_at (g b : FVec Ideal S1x1024 .f32) (r : Fin 256) (j : Fin 1024) :
    lnout x g b (ix2 r j) = Ln.out (fun k => x (ix2 r k)) (fun k => g (ix2 (0 : Fin 1) k)) (fun k => b (ix2 (0 : Fin 1) k)) j := by
  unfold lnout
  pointwise [lnhat_at]
  rfl

theorem lnback_at (r : Fin 256) (j : Fin 1024) :
    lnback x d (ix2 r j) = Ln.grad (fun k => x (ix2 r k)) (fun k => d (ix2 r k)) j := by
  unfold lnback
  pointwise [k0_pay148, lncen_at, lnscale_at, lnfac_at]
  simp only [zero_sub]
  rfl

/-- The gate's derivative of an array at cotangent `d`. -/
def geluback : FVec Ideal S256x1024 .f32 :=
  have h : FVec Ideal S256x1024 .f32 := mulf (broadcast S256x1024 (Scalar.ofBits (F := Ideal) .f32 0x3F4C422A#32)) (mulf (mulf (k0_pay24 (F := Ideal) x) d) (k0_pay27 (F := Ideal) x))
  have q : FVec Ideal S256x1024 .f32 := mulf (broadcast S256x1024 (Scalar.ofBits (F := Ideal) .f32 0x3D372713#32)) h
  addf (addf (addf (addf h (mulf (k0_pay25 (F := Ideal) x) q)) (mulf x (mulf q x))) (mulf (mulf q x) x))
    (mulf (broadcast S256x1024 (Scalar.ofBits (F := Ideal) .f32 0x3F000000#32)) (mulf d (k0_pay28 (F := Ideal) x)))

theorem geluback_at (r : Fin 256) (j : Fin 1024) : geluback x d (ix2 r j) = Gelu.back (d (ix2 r j)) (x (ix2 r j)) := by
  unfold geluback
  pointwise [k0_pay24, k0_pay25, k0_pay26, k0_pay27, k0_pay28]
  rfl

theorem colsum_at (j : Fin 1024) :
    shapeCast S1x1024 (multiReduction (F := Ideal) .add [0] S1024 x 0x00000000#32 reduces_S256x1024_S1024 (.inl rfl) rfl) shapeCasts_S1024_S1x1024 (ix2 (0 : Fin 1) j)
      = ∑ r : Fin 256, x (ix2 r j) := by
  pointwise

theorem colsum2048_at (x : FVec Ideal S256x2048 .f32) (j : Fin 2048) :
    k0_pay172 (F := Ideal) x (ix2 (0 : Fin 1) j) = ∑ r : Fin 256, x (ix2 r j) := by
  pointwise [k0_pay172]

end Row

/-! ## The products over a block's positions -/

section Spatial

/-- Eight arrays side by side. -/
def cat8 (f : Fin 8 → FVec Ideal S128x128 .f32) : FVec Ideal S128x1024 .f32 :=
  concatenate S128x1024 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩]
    concatenates_S128x128_S128x128_S128x128_S128x128_S128x128_S128x128_S128x128_S128x128_S128x1024_d1

/-- Eight arrays one after the other. -/
def stack8 (f : Fin 8 → FVec Ideal S1x128x128 .f32) : FVec Ideal S8x128x128 .f32 :=
  concatenate S8x128x128 0 [⟨S1x128x128, f 0⟩, ⟨S1x128x128, f 1⟩, ⟨S1x128x128, f 2⟩, ⟨S1x128x128, f 3⟩, ⟨S1x128x128, f 4⟩, ⟨S1x128x128, f 5⟩, ⟨S1x128x128, f 6⟩, ⟨S1x128x128, f 7⟩]
    concatenates_S1x128x128_S1x128x128_S1x128x128_S1x128x128_S1x128x128_S1x128x128_S1x128x128_S1x128x128_S8x128x128_d0

theorem pick (f : Fin 8 → FVec Ideal S128x128 .f32) (p : Fin 128) (k h : Fin 8) (a q : Fin 128)
    (e : k.val * 128 + a.val = h.val * 128 + q.val) : f k (ix2 p a) = f h (ix2 p q) := by
  obtain rfl : k = h := Fin.ext (by omega)
  obtain rfl : a = q := Fin.ext (by omega)
  rfl

theorem cat8_at (f : Fin 8 → FVec Ideal S128x128 .f32) (p : Fin 128) (h : Fin 8) (q : Fin 128) :
    cat8 f (ix2 p (hc h q)) = f h (ix2 p q) := by
  unfold cat8 hc
  pointwise
  split_ifs <;> refine pick f p _ h _ q ?_ <;> simp <;> omega

theorem stack8_at (f : Fin 8 → FVec Ideal S1x128x128 .f32) (h : Fin 8) (p q : Fin 128) :
    stack8 f (ix3 h p q) = f h (ix3 (0 : Fin 1) p q) := by
  unfold stack8
  fin_cases h <;> pointwise

variable (M : IVec S128x128 1) (w : Fin 8 → FVec Ideal S1x128x128 .f32)

/-- A head's weight where the mask allows it, zero elsewhere. -/
def mw (h : Fin 8) : FVec Ideal S128x128 .bf16 :=
  truncf .bf16 (select M (shapeCast S128x128 (w h) shapeCasts_S1x128x128_S128x128) (broadcast S128x128 (Scalar.ofBits (F := Ideal) .f32 0x00000000#32))) bitsLt_bf16_f32

theorem mw_at (h : Fin 8) (p q : Fin 128) : mw M w h (ix2 p q) = if M (ix2 p q) = 1#1 then w h (ix3 (0 : Fin 1) p q) else 0 := by
  unfold mw
  pointwise
  rfl

theorem slices_block : ∀ b : Fin 2, S256x1024.Slices ![b.val * 128, 0] S128x1024 := by decide
theorem slices_head : ∀ h : Fin 8, S128x1024.Slices ![0, h.val * 128] S128x128 := by decide
theorem slices_both : ∀ (b : Fin 2) (h : Fin 8), S256x1024.Slices ![b.val * 128, h.val * 128] S128x128 := by decide

/-- The part of an array at a block's rows and a head's columns. -/
def part {φ : FTy} (x : FVec Ideal S256x1024 φ) (b : Fin 2) (h : Fin 8) : FVec Ideal S128x128 φ :=
  extractStridedSlice S128x128 ![b.val * 128, h.val * 128] x (slices_both b h)

theorem part_at {φ : FTy} (x : FVec Ideal S256x1024 φ) (b : Fin 2) (h : Fin 8) (p q : Fin 128) : part x b h (ix2 p q) = x (ix2 (rb b p) (hc h q)) := by
  unfold part
  pointwise
  rfl

/-- Block `b` of the mixed rows, with the bias added. -/
def mixb (x : FVec Ideal S256x1024 .bf16) (bias : FVec Ideal S128x1024 .f32) (b : Fin 2) : FVec Ideal S128x1024 .f32 :=
  addf (cat8 fun h => matmul dot_S128x128_S128x128_S128x128_1_0_0_1_n_n none (mw M w h)
    (extractStridedSlice S128x128 ![0, h.val * 128] (extractStridedSlice S128x1024 ![b.val * 128, 0] x (slices_block b)) (slices_head h))
    (constant (F := Ideal) S128x128 .f32 0x00000000#32)) bias

/-- Two blocks' rows, one after the other. -/
def stack2 (x y : FVec Ideal S128x1024 .f32) : FVec Ideal S256x1024 .f32 :=
  concatenate S256x1024 0 [⟨S128x1024, x⟩, ⟨S128x1024, y⟩] concatenates_S128x1024_S128x1024_S256x1024_d0

theorem stack2_at (f : Fin 2 → FVec Ideal S128x1024 .f32) (b : Fin 2) (p : Fin 128) (j : Fin 1024) :
    stack2 (f 0) (f 1) (ix2 (rb b p) j) = f b (ix2 p j) := by
  unfold stack2 rb
  pointwise
  fin_cases b
  · simp
  · simp

theorem mixb_at (x : FVec Ideal S256x1024 .bf16) (bias : FVec Ideal S128x1024 .f32) (b : Fin 2) (p : Fin 128) (h : Fin 8) (q : Fin 128) :
    mixb M w x bias b (ix2 p (hc h q)) = (∑ k, mw M w h (ix2 p k) * x (ix2 (rb b k) (hc h q))) + bias (ix2 p (hc h q)) := by
  unfold mixb
  refine congrArg₂ (· + ·) ((cat8_at _ p h q).trans ?_) rfl
  pointwise
  rfl

/-- What a block's rows of the cotangent give back to the rows mixed. -/
def unmixb (d : FVec Ideal S256x1024 .bf16) (b : Fin 2) : FVec Ideal S128x1024 .f32 :=
  cat8 fun h => matmul dot_S128x128_S128x128_S128x128_0_0_1_1_n_n none (mw M w h) (part d b h) (constant (F := Ideal) S128x128 .f32 0x00000000#32)

theorem unmixb_at (d : FVec Ideal S256x1024 .bf16) (b : Fin 2) (p : Fin 128) (h : Fin 8) (q : Fin 128) :
    unmixb M w d b (ix2 p (hc h q)) = ∑ k, mw M w h (ix2 k p) * d (ix2 (rb b k) (hc h q)) := by
  unfold unmixb
  refine (cat8_at _ p h q).trans ?_
  pointwise [part_at]

/-- A head's part of the weight's gradient, where the mask allows it. -/
def wgrad (d x : FVec Ideal S256x1024 .bf16) (h : Fin 8) : FVec Ideal S128x128 .f32 :=
  select M
    (addf (addf (broadcast S128x128 (Scalar.ofBits (F := Ideal) .f32 0x00000000#32))
      (matmul dot_S128x128_S128x128_S128x128_1_1_0_0_n_n none (part d 0 h) (part x 0 h) (constant (F := Ideal) S128x128 .f32 0x00000000#32)))
      (matmul dot_S128x128_S128x128_S128x128_1_1_0_0_n_n none (part d 1 h) (part x 1 h) (constant (F := Ideal) S128x128 .f32 0x00000000#32)))
    (broadcast S128x128 (Scalar.ofBits (F := Ideal) .f32 0x00000000#32))

theorem wgrad_at (d x : FVec Ideal S256x1024 .bf16) (h : Fin 8) (p q : Fin 128) :
    wgrad M d x h (ix2 p q) = if M (ix2 p q) = 1#1 then ∑ b : Fin 2, ∑ k, d (ix2 (rb b p) (hc h k)) * x (ix2 (rb b q) (hc h k)) else 0 := by
  unfold wgrad
  pointwise [part_at]
  rw [Fin.sum_univ_two]
  rfl

/-- The weight's gradient of a tile. -/
def wgrads (d x : FVec Ideal S256x1024 .bf16) : FVec Ideal S8x128x128 .f32 :=
  stack8 fun h => shapeCast S1x128x128 (wgrad M d x h) shapeCasts_S128x128_S1x128x128

theorem wgrads_at (d x : FVec Ideal S256x1024 .bf16) (h : Fin 8) (p q : Fin 128) :
    wgrads M d x (ix3 h p q) = if M (ix2 p q) = 1#1 then ∑ b : Fin 2, ∑ k, d (ix2 (rb b p) (hc h k)) * x (ix2 (rb b q) (hc h k)) else 0 := by
  unfold wgrads
  refine (stack8_at _ h p q).trans ?_
  pointwise [wgrad_at]

/-- The bias's gradient of a tile. -/
def bgrad (d : FVec Ideal S256x1024 .f32) : FVec Ideal S128x1024 .f32 :=
  addf (addf (broadcast S128x1024 (Scalar.ofBits (F := Ideal) .f32 0x00000000#32)) (extractStridedSlice S128x1024 ![0, 0] d slices_S256x1024_o0_0_S128x1024))
    (extractStridedSlice S128x1024 ![128, 0] d slices_S256x1024_o128_0_S128x1024)

theorem bgrad_at (d : FVec Ideal S256x1024 .f32) (p : Fin 128) (j : Fin 1024) :
    bgrad d (ix2 p j) = ∑ b : Fin 2, d (ix2 (rb b p) j) := by
  unfold bgrad
  pointwise
  rw [Fin.sum_univ_two]
  unfold rb
  simp

end Spatial

end Cert.MixBwdIdeal.RefValue
-- ==== Proof.MixTaps.lean ====
/- The convolution's taps in the mixer's gradient call and in the reference: forward and the weight's gradient. -/
module

public import proofs.«01_k».proof.Defs
public import proofs.«01_k».proof.Proof.Gen.MixBwdIdeal.Value
public import proofs.«01_k».proof.Proof.Gen.MixRefIdeal.Run
public import proofs.«01_k».proof.Proof.Gen.MixRefIdeal.Read
public import Idealize.ShloMosaic.Lib.Claim
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MixBwdIdeal.RefValue

open Cert.MixBwdIdeal Cert.MixBwdIdeal.Gen
open Cert.MixRefIdeal.Read

/-! ## The call's taps -/

section Call

variable (cat : FVec Ideal S288x1024 .f32) (w : FVec Ideal S32x1024 .f32) (d : FVec Ideal S256x1024 .f32)

theorem row_inb : ∀ k : Fin 31, ∀ a, (![k.val, 0] : Fin 2 → ℕ) a + S1x1024.size a ≤ S32x1024.size a := by decide

/-- Tap `k`'s row of the weight. -/
def wrow (k : Fin 31) : FVec Ideal S1x1024 .f32 :=
  View.ld (Val := Elt Ideal) (e' := .f32) w (Rect.unit (s := S32x1024) ![k.val, 0] S1x1024.size (row_inb k))

/-- The rows tap `n` reads, of the rows before the tile and the tile. -/
def seen (n : ℕ) : FVec Ideal S256x1024 .f32 :=
  extractStridedSlice S256x1024 ![32, 0] (dynamicRotate 0 (BitVec.ofNat 32 (30 - n)) none cat rotates_S288x1024_d0) slices_S288x1024_o32_0_S256x1024

/-- The rows the last tap reads. -/
def seenLast : FVec Ideal S256x1024 .f32 := extractStridedSlice S256x1024 ![32, 0] cat slices_S288x1024_o32_0_S256x1024

/-- The rows a tap reads, times its row of the weight. -/
def times (x : FVec Ideal S256x1024 .f32) (k : Fin 31) : FVec Ideal S256x1024 .f32 :=
  mulf x (broadcastTo S256x1024 (shapeCast S1x1024 (wrow w k) shapeCasts_S1x1024_S1x1024) broadcasts_S1x1024_S256x1024)

/-- The first `n` taps added up. -/
def ksum : (n : ℕ) → n ≤ 30 → FVec Ideal S256x1024 .f32
  | 0, _ => broadcast S256x1024 (Scalar.ofBits (F := Ideal) .f32 0x00000000#32)
  | n + 1, h => addf (ksum n (by omega)) (times w (seen cat n) ⟨n, by omega⟩)

/-- All taps. -/
def taps : FVec Ideal S256x1024 .f32 := addf (ksum cat w 30 (le_refl _)) (times w (seenLast cat) 30)

theorem times_at (x : FVec Ideal S256x1024 .f32) (k : Fin 31) (r : Fin 256) (j : Fin 1024) :
    times w x k (ix2 r j) = x (ix2 r j) * w (ix2 (⟨k.val, by omega⟩ : Fin 32) j) := by
  unfold times wrow
  rw [View.ld_unit]
  pointwise

theorem rotated_at (n : ℕ) (h : n < 30) (r : Fin 256) (j : Fin 1024) :
    dynamicRotate 0 (BitVec.ofNat 32 (30 - n)) none cat rotates_S288x1024_d0 (ix2 (⟨32 + r.val, by omega⟩ : Fin 288) j)
      = cat (ix2 (⟨r.val + 2 + n, by omega⟩ : Fin 288) j) := by
  refine dynamicRotate_apply 0 _ cat _ _ _ fun b => ?_
  have e : (BitVec.ofNat 32 (30 - n)).toNat = 30 - n := by rw [BitVec.toNat_ofNat]; omega
  fin_cases b
  · show r.val + 2 + n = (32 + r.val + 288 - (BitVec.ofNat 32 (30 - n)).toNat % 288) % 288
    rw [e]; omega
  · rfl

theorem seen_at (n : ℕ) (h : n < 30) (r : Fin 256) (j : Fin 1024) :
    seen cat n (ix2 r j) = cat (ix2 (⟨r.val + 2 + n, by omega⟩ : Fin 288) j) := by
  rw [← rotated_at cat n h r j]
  unfold seen
  generalize dynamicRotate 0 (BitVec.ofNat 32 (30 - n)) none cat rotates_S288x1024_d0 = y
  pointwise

theorem seenLast_at (r : Fin 256) (j : Fin 1024) :
    seenLast cat (ix2 r j) = cat (ix2 (⟨r.val + 2 + 30, by omega⟩ : Fin 288) j) := by
  unfold seenLast
  pointwise
  blk_ext []

theorem ksum_at (n : ℕ) (h : n ≤ 30) (r : Fin 256) (j : Fin 1024) :
    ksum cat w n h (ix2 r j)
      = ∑ k : Fin n, cat (ix2 (⟨r.val + 2 + k.val, by omega⟩ : Fin 288) j) * w (ix2 (⟨k.val, by omega⟩ : Fin 32) j) := by
  induction n with
  | zero =>
    unfold ksum
    pointwise
    exact (Finset.sum_of_isEmpty _).symm
  | succ n ih =>
    rw [Fin.sum_univ_castSucc]
    refine (congrArg₂ (· + ·) (ih (by omega)) ?_)
    rw [times_at, seen_at]
    · rfl
    · omega

theorem taps_at (r : Fin 256) (j : Fin 1024) :
    taps cat w (ix2 r j)
      = ∑ k : Fin 31, cat (ix2 (⟨r.val + 2 + k.val, by omega⟩ : Fin 288) j) * w (ix2 (⟨k.val, by omega⟩ : Fin 32) j) := by
  rw [Fin.sum_univ_castSucc]
  exact congrArg₂ (· + ·) (ksum_at cat w 30 (le_refl _) r j) ((times_at w _ 30 r j).trans (by rw [seenLast_at]; rfl))

/-- Tap `n`'s part of the weight's gradient: a row's sum at row `n`, zero elsewhere. -/
def dtap (n : ℕ) (x : FVec Ideal S256x1024 .f32) : FVec Ideal S32x1024 .f32 :=
  select (broadcastTo S32x1024 (shapeCast S32x1 (cmpi .eq (iota .tc S32x1 32 [0] iota_S32x1_d0_w32) (broadcast S32x1 (BitVec.ofNat 32 n))) shapeCasts_S32x1_S32x1) broadcasts_S32x1_S32x1024)
    (broadcastTo S32x1024 (shapeCast S1x1024 (shapeCast S1x1024 (multiReduction (F := Ideal) .add [0] S1024 (mulf d x) 0x00000000#32 reduces_S256x1024_S1024 (.inl rfl) rfl) shapeCasts_S1024_S1x1024) shapeCasts_S1x1024_S1x1024) broadcasts_S1x1024_S32x1024)
    (broadcast S32x1024 (Scalar.ofBits (F := Ideal) .f32 0x00000000#32))

/-- The first `n` taps' parts added up. -/
def dsum : ℕ → FVec Ideal S32x1024 .f32
  | 0 => broadcast S32x1024 (Scalar.ofBits (F := Ideal) .f32 0x00000000#32)
  | n + 1 => addf (dsum n) (dtap d n (seen cat n))

/-- The weight's gradient of a tile. -/
def dtaps : FVec Ideal S32x1024 .f32 := addf (dsum cat d 30) (dtap d 30 (seenLast cat))

theorem eq_iota : ∀ k n : Fin 32, IntOp.cmpi CmpIPredicate.eq (BitVec.ofNat 32 k.val) (BitVec.ofNat 32 n.val) = if k.val = n.val then 1#1 else 0#1 := by decide

theorem dtap_at (n : ℕ) (h : n < 32) (x : FVec Ideal S256x1024 .f32) (k : Fin 32) (j : Fin 1024) :
    dtap d n x (ix2 k j) = if k.val = n then ∑ r : Fin 256, d (ix2 r j) * x (ix2 r j) else 0 := by
  unfold dtap
  pointwise
  rw [show IntOp.cmpi CmpIPredicate.eq (BitVec.ofNat 32 k.val) (BitVec.ofNat 32 n) = if k.val = n then 1#1 else 0#1 from eq_iota k ⟨n, h⟩]
  by_cases e : k.val = n <;> simp [e, Scalar.select]

theorem dsum_at (n : ℕ) (h : n ≤ 30) (k : Fin 32) (j : Fin 1024) :
    dsum cat d n (ix2 k j) = if k.val < n then ∑ r : Fin 256, d (ix2 r j) * seen cat k.val (ix2 r j) else 0 := by
  induction n with
  | zero =>
    unfold dsum
    pointwise
    rfl
  | succ n ih =>
    refine (congrArg₂ (· + ·) (ih (by omega)) (dtap_at d n (by omega) _ k j)).trans ?_
    by_cases e : k.val = n
    · rw [if_neg (by omega), if_pos e, if_pos (by omega), zero_add, e]
    · by_cases e' : k.val < n
      · rw [if_pos e', if_neg e, if_pos (by omega), add_zero]
      · rw [if_neg e', if_neg e, if_neg (by omega), add_zero]

theorem dtaps_at (k : Fin 31) (j : Fin 1024) :
    dtaps cat d (ix2 (⟨k.val, by omega⟩ : Fin 32) j)
      = ∑ r : Fin 256, d (ix2 r j) * cat (ix2 (⟨r.val + 2 + k.val, by omega⟩ : Fin 288) j) := by
  refine (congrArg₂ (· + ·) (dsum_at cat d 30 (le_refl _) _ j) (dtap_at d 30 (by omega) _ _ j)).trans ?_
  by_cases e : k.val = 30
  · simp only [e, lt_irrefl, if_false, if_true, zero_add]
    exact Finset.sum_congr rfl fun r _ => by rw [seenLast_at]
  · have e' : k.val < 30 := by omega
    simp only [e, e', if_true, if_false, add_zero]
    exact Finset.sum_congr rfl fun r _ => by rw [seen_at cat k.val e']

theorem dtaps_last (j : Fin 1024) : dtaps cat d (ix2 (31 : Fin 32) j) = 0 := by
  refine (congrArg₂ (· + ·) (dsum_at cat d 30 (le_refl _) _ j) (dtap_at d 30 (by omega) _ _ j)).trans ?_
  simp

end Call

/-! ## The reference's taps -/

section Reference

open Cert.MixRefIdeal

variable (x : FVec Ideal S2048x4096 .f32) (b : FVec Ideal S4096 .f32) (w : FVec Ideal S31x1x1024 .f32)
  (D : FVec Ideal S2048x1024 .f32)

theorem slices_seen : ∀ k : Fin 31, S2078x1024.Slices ![k.val, 0] S2048x1024 := by decide
theorem slices_tap : ∀ k : Fin 31, S31x1x1024.Slices ![k.val, 0, 0] S1x1x1024 := by decide
theorem pads_tap : ∀ k : Fin 31, S1x1x1024.Pads (![k.val, 0, 0] : Fin 3 → Nat) ![30 - k.val, 0, 0] ![0, 0, 0] S31x1x1024 := by decide

variable (y : FVec Ideal S2078x1024 .f32)

/-- The rows tap `k` reads. -/
def rseen (k : Fin 31) : FVec Ideal S2048x1024 .f32 := extractStridedSlice S2048x1024 ![k.val, 0] y (slices_seen k)

def rtimes (k : Fin 31) : FVec Ideal S2048x1024 .f32 :=
  mulf (rseen y k) (broadcastInDim S2048x1024 ![0, 1] Gen.bcast_S1x1024_S2048x1024_0_1
    (shapeCast S1x1024 (extractStridedSlice S1x1x1024 ![k.val, 0, 0] w (slices_tap k)) Gen.shapeCasts_S1x1x1024_S1x1024))

/-- The first `n` taps added up. -/
def rsum : (n : ℕ) → n ≤ 31 → FVec Ideal S2048x1024 .f32
  | 0, _ => broadcastInDim S2048x1024 ![] Gen.bcast_S_S2048x1024 (constant (F := Ideal) S_ .f32 0x00000000#32)
  | n + 1, h => addf (rsum n (by omega)) (rtimes w y ⟨n, by omega⟩)

theorem v360_eq : val_main_v360 (F := Ideal) x b w = rsum w (val_main_v173 (F := Ideal) x b) 31 (le_refl _) := rfl

theorem rseen_at (k : Fin 31) (r : Fin 2048) (j : Fin 1024) :
    rseen y k (ix2 r j) = y (ix2 (⟨r.val + k.val, by omega⟩ : Fin 2078) j) := by
  unfold rseen
  pointwise
  blk_ext []

theorem rsum_at (n : ℕ) (h : n ≤ 31) (r : Fin 2048) (j : Fin 1024) :
    rsum w y n h (ix2 r j)
      = ∑ k : Fin n, y (ix2 (⟨r.val + k.val, by omega⟩ : Fin 2078) j) * w (ix3 (⟨k.val, by omega⟩ : Fin 31) (0 : Fin 1) j) := by
  induction n with
  | zero =>
    unfold rsum
    pointwise
    exact (Finset.sum_of_isEmpty _).symm
  | succ n ih =>
    rw [Fin.sum_univ_castSucc]
    refine congrArg₂ (· + ·) (ih (by omega)) ?_
    unfold rtimes
    pointwise [rseen_at]
    rfl

/-- Tap `k`'s part of the weight's gradient, padded to its row. -/
def rdtap (k : Fin 31) : FVec Ideal S31x1x1024 .f32 :=
  pad S31x1x1024 ![k.val, 0, 0] ![30 - k.val, 0, 0] ![0, 0, 0]
    (broadcastInDim S1x1x1024 ![1, 2] Gen.bcast_S1x1024_S1x1x1024_1_2
      (shapeCast S1x1024 (Host.reduceAdd (mulf (rseen y k) D) (constant (F := Ideal) S_ .f32 0x00000000#32) Gen.reducesTo_S2048x1024_S1024_d0 Gen.h_S_) Gen.shapeCasts_S1024_S1x1024))
    (constant (F := Ideal) S_ .f32 0x00000000#32) (pads_tap k) Gen.h_S_

/-- The last `n + 1` taps' parts added up, the last first. -/
def rdsum : (n : ℕ) → n < 31 → FVec Ideal S31x1x1024 .f32
  | 0, _ => rdtap D y ⟨30, by omega⟩
  | n + 1, h => addf (rdsum n (by omega)) (rdtap D y ⟨29 - n, by omega⟩)

theorem rdtap_at (k k' : Fin 31) (j : Fin 1024) :
    rdtap D y k (ix3 k' (0 : Fin 1) j)
      = if k'.val = k.val then ∑ r : Fin 2048, y (ix2 (⟨r.val + k.val, by omega⟩ : Fin 2078) j) * D (ix2 r j) else 0 := by
  unfold rdtap
  pointwise [rseen_at]
  by_cases e : k'.val = k.val
  · have e' : k.val ≤ k'.val ∧ k'.val - k.val < 1 := by omega
    simp only [e, e', and_self, dite_true, if_true]
    simp
  · have e' : ¬ (k.val ≤ k'.val ∧ k'.val - k.val < 1) := by omega
    simp only [e, e', dite_false, if_false]

theorem rdsum_at (n : ℕ) (h : n < 31) (k : Fin 31) (j : Fin 1024) :
    rdsum D y n h (ix3 k (0 : Fin 1) j)
      = if 30 - n ≤ k.val then ∑ r : Fin 2048, y (ix2 (⟨r.val + k.val, by omega⟩ : Fin 2078) j) * D (ix2 r j) else 0 := by
  induction n with
  | zero =>
    refine (rdtap_at D y _ k j).trans ?_
    by_cases e : k.val = 30
    · simp only [e, if_true, Nat.sub_zero, le_refl]
    · rw [if_neg e, if_neg (by omega)]
  | succ n ih =>
    refine (congrArg₂ (· + ·) (ih (by omega)) (rdtap_at D y _ k j)).trans ?_
    by_cases e : k.val = 29 - n
    · rw [if_neg (by omega), if_pos (by omega), if_pos (by omega), zero_add]
      simp only [e]
    · by_cases e' : 30 - n ≤ k.val
      · rw [if_pos e', if_neg e, if_pos (by omega), add_zero]
      · rw [if_neg e', if_neg e, if_neg (by omega), add_zero]

theorem v610_eq (x2 : FVec Ideal S2048x2048 .f32) (x9 x10 x11 : FVec Ideal S1024 .f32) :
    val_main_v610 (F := Ideal) x b x2 w x9 x10 x11
      = rdsum (val_main_v422 (F := Ideal) x b x2 w x9 x10 x11) (val_main_v173 (F := Ideal) x b) 30 (by omega) := rfl

end Reference

end Cert.MixBwdIdeal.RefValue
-- ==== Proof.MixVals.lean ====
/- What the mixer's gradient call computes at a tile, part by part, and the contents it leaves there. -/
module

public import proofs.«01_k».proof.Defs
public import proofs.«01_k».proof.Proof.Gen.MixBwdIdeal.Value
public import proofs.«01_k».proof.Proof.MixTile
public import proofs.«01_k».proof.Proof.MixTaps
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixBwdIdeal.RefValue

open Cert.MixBwdIdeal Cert.MixBwdIdeal.Gen
open Cert.Rows Cert.Reals

/-! ## The parts of a tile -/

section Tile

theorem head_inb : ∀ h : Fin 8, ∀ a, (![h.val, 0, 0] : Fin 3 → ℕ) a + S1x128x128.size a ≤ S8x128x128.size a := by decide

/-- A head's weight. -/
def heads (w : FVec Ideal S8x128x128 .f32) (h : Fin 8) : FVec Ideal S1x128x128 .f32 :=
  View.ld (Val := Elt Ideal) (e' := .f32) w (Rect.unit (s := S8x128x128) ![h.val, 0, 0] S1x128x128.size (head_inb h))

theorem heads_at (w : FVec Ideal S8x128x128 .f32) (h : Fin 8) (p q : Fin 128) : heads w h (ix3 (0 : Fin 1) p q) = w (ix3 h p q) := by
  unfold heads
  rw [View.ld_unit]
  pointwise

/-- Which positions of a block a position sees. -/
def mask : IVec S128x128 1 :=
  k0_pay12 (iota .tc S128x128 32 [0] iota_S128x128_d0_w32) (iota .tc S128x128 32 [1] iota_S128x128_d1_w32) 64#32 k0_pay10 k0_pay11
    (Scalar.subi (Scalar.extui (Scalar.cmpi .sgt 64#32 0#32)) (Scalar.extui (Scalar.cmpi .slt 64#32 0#32)))

variable (z : FVec Ideal S256x4096 .f32) (zp : FVec Ideal S32x4096 .f32) (dy : FVec Ideal S256x2048 .f32)
  (ws : FVec Ideal S8x128x128 .f32) (bias : FVec Ideal S128x1024 .f32) (g b : FVec Ideal S1x1024 .f32)
  (cw : FVec Ideal S32x1024 .f32) (cb cg cbb : FVec Ideal S1x1024 .f32)

/-- The normed second half of the gate. -/
def vn : FVec Ideal S256x1024 .f32 := lnout (gelu (k0_pay16 (F := Ideal) z)) g b

/-- The mixed rows. -/
def sp : FVec Ideal S256x1024 .f32 :=
  stack2 (mixb mask (heads ws) (truncf .bf16 (vn z g b) bitsLt_bf16_f32) bias 0) (mixb mask (heads ws) (truncf .bf16 (vn z g b) bitsLt_bf16_f32) bias 1)

/-- The mixed rows' cotangent. -/
def dsp : FVec Ideal S256x1024 .f32 := mulf (k0_pay13 (F := Ideal) dy) (k0_pay23 (F := Ideal) (k0_pay17 z) (k0_pay19 z))

/-- The normed half's cotangent. -/
def dvn : FVec Ideal S256x1024 .f32 :=
  stack2 (unmixb mask (heads ws) (truncf .bf16 (dsp z dy) bitsLt_bf16_f32) 0) (unmixb mask (heads ws) (truncf .bf16 (dsp z dy) bitsLt_bf16_f32) 1)

def dzu : FVec Ideal S256x1024 .f32 := geluback (k0_pay15 (F := Ideal) z) (mulf (k0_pay13 (F := Ideal) dy) (sp z ws bias g b))

def dzv : FVec Ideal S256x1024 .f32 :=
  geluback (k0_pay16 (F := Ideal) z) (lnback (gelu (k0_pay16 (F := Ideal) z)) (mulf (dvn z dy ws) (broadcastTo S256x1024 g broadcasts_S1x1024_S256x1024)))

/-- The rows' sum. -/
def colsum (x : FVec Ideal S256x1024 .f32) : FVec Ideal S1x1024 .f32 :=
  shapeCast S1x1024 (multiReduction (F := Ideal) .add [0] S1024 x 0x00000000#32 reduces_S256x1024_S1024 (.inl rfl) rfl) shapeCasts_S1024_S1x1024

/-- The rows the convolution reads: those before the tile and the tile's. -/
def seenRows (i : BitVec 32) : FVec Ideal S288x1024 .f32 := k0_pay123 (F := Ideal) (k0_pay121 z) (k0_pay122 i zp)

/-- The convolution's rows. -/
def conv (i : BitVec 32) : FVec Ideal S256x1024 .f32 := addf (taps (seenRows z zp i) cw) (broadcastTo S256x1024 cb broadcasts_S1x1024_S256x1024)

/-- The cotangent before the smooth step. -/
def dact (i : BitVec 32) : FVec Ideal S256x1024 .f32 :=
  have y : FVec Ideal S256x1024 .f32 := lnout (conv z zp cw cb i) cg cbb
  have s : FVec Ideal S256x1024 .f32 := logistic y
  have d : FVec Ideal S256x1024 .f32 := k0_pay14 (F := Ideal) dy
  addf (mulf d s) (mulf (mulf y d) (mulf s (subf (broadcast S256x1024 (Scalar.ofBits (F := Ideal) .f32 0x3F800000#32)) s)))

def dconv (i : BitVec 32) : FVec Ideal S256x1024 .f32 :=
  lnback (conv z zp cw cb i) (mulf (dact z zp dy cw cb cg cbb i) (broadcastTo S256x1024 cg broadcasts_S1x1024_S256x1024))

end Tile

section Values

variable (m : (ℓ : Loc nD τ sig) → Buf (Elt Ideal) ℓ)

abbrev tz (c : Dev nD) (t : Fin 8) : FVec Ideal S256x4096 .f32 := k0_pay2 (F := Ideal) (iblk m c 0 t)
abbrev tp (c : Dev nD) (t : Fin 8) : FVec Ideal S32x4096 .f32 := k0_pay3 (F := Ideal) (iblk m c 1 t)
abbrev ty (c : Dev nD) (t : Fin 8) : FVec Ideal S256x2048 .f32 := iblk m c 2 t
abbrev tx (c : Dev nD) (t : Fin 8) : FVec Ideal S256x2048 .f32 := iblk m c 3 t
abbrev tws (c : Dev nD) (t : Fin 8) : FVec Ideal S8x128x128 .f32 := iblk m c 4 t
abbrev tbias (c : Dev nD) (t : Fin 8) : FVec Ideal S128x1024 .f32 := k0_pay4 (F := Ideal) (iblk m c 5 t)
abbrev tg (c : Dev nD) (t : Fin 8) : FVec Ideal S1x1024 .f32 := k0_pay5 (F := Ideal) (iblk m c 6 t)
abbrev tb (c : Dev nD) (t : Fin 8) : FVec Ideal S1x1024 .f32 := k0_pay6 (F := Ideal) (iblk m c 7 t)
abbrev tcw (c : Dev nD) (t : Fin 8) : FVec Ideal S32x1024 .f32 := iblk m c 8 t
abbrev tcb (c : Dev nD) (t : Fin 8) : FVec Ideal S1x1024 .f32 := k0_pay7 (F := Ideal) (iblk m c 9 t)
abbrev tcg (c : Dev nD) (t : Fin 8) : FVec Ideal S1x1024 .f32 := k0_pay8 (F := Ideal) (iblk m c 10 t)
abbrev tcbb (c : Dev nD) (t : Fin 8) : FVec Ideal S1x1024 .f32 := k0_pay9 (F := Ideal) (iblk m c 11 t)
abbrev ti (t : Fin 8) : BitVec 32 := BitVec.ofNat 32 (grid0.coords t 0).val

abbrev tdzu (c : Dev nD) (t : Fin 8) : FVec Ideal S256x1024 .f32 := dzu (tz m c t) (ty m c t) (tws m c t) (tbias m c t) (tg m c t) (tb m c t)
abbrev tdzv (c : Dev nD) (t : Fin 8) : FVec Ideal S256x1024 .f32 := dzv (tz m c t) (ty m c t) (tws m c t) (tg m c t)
abbrev tdsp (c : Dev nD) (t : Fin 8) : FVec Ideal S256x1024 .f32 := dsp (tz m c t) (ty m c t)
abbrev tvn (c : Dev nD) (t : Fin 8) : FVec Ideal S256x1024 .f32 := vn (tz m c t) (tg m c t) (tb m c t)
abbrev tdvn (c : Dev nD) (t : Fin 8) : FVec Ideal S256x1024 .f32 := dvn (tz m c t) (ty m c t) (tws m c t)
abbrev tconv (c : Dev nD) (t : Fin 8) : FVec Ideal S256x1024 .f32 := conv (tz m c t) (tp m c t) (tcw m c t) (tcb m c t) (ti t)
abbrev tdact (c : Dev nD) (t : Fin 8) : FVec Ideal S256x1024 .f32 := dact (tz m c t) (tp m c t) (ty m c t) (tcw m c t) (tcb m c t) (tcg m c t) (tcbb m c t) (ti t)
abbrev tdconv (c : Dev nD) (t : Fin 8) : FVec Ideal S256x1024 .f32 := dconv (tz m c t) (tp m c t) (ty m c t) (tcw m c t) (tcb m c t) (tcg m c t) (tcbb m c t) (ti t)

theorem add_at {s : Shape} (h : s.ShapeCasts s) (old x : FVec Ideal s .f32) (j : s.Idx) : addf (shapeCast s old h) x j = old j + x j := by
  show shapeCast s old h j + x j = _
  rw [shapeCast_self]

/-- An output that is set at the first tile and added to at the others holds the sum over the tiles after the last. -/
theorem acc_sum {s : Shape} (f : (n : ℕ) → n < cfg0.N → s.Idx → EReal) (x : Fin 8 → s.Idx → EReal)
    (reset : ∀ (t : Fin cfg0.N), t.val % 8 = 0 → ¬ 1 ≤ t.val → ∀ j, f t.val t.isLt j = x t j)
    (step : ∀ (t : Fin cfg0.N), ¬ t.val % 8 = 0 → 1 ≤ t.val → ∀ j, f t.val t.isLt j = f (t.val - 1) (by have := t.isLt; omega) j + x t j)
    (j : s.Idx) : f t0_7.val t0_7.isLt j = ∑ t : Fin 8, x t j := by
  rw [Pipeline.eq_sum_fin_of_reset_step_apply_last f 8 (fun _ => 0) (fun t j => x t j)
    (fun t h j => by
      have ht : t.val < 8 := t.isLt.trans_eq N_0
      rw [reset t h (by omega) j, zero_add])
    (fun t h j => step t h (by omega) j)
    (le_of_eq N_0) t0_7 rfl j, zero_add]
  rfl

set_option maxHeartbeats 4000000 in
theorem outs_dz (c : Dev nD) (t : Fin cfg0.N) : (outsAt0 m c t.val t.isLt).1 = k0_pay177 (F := Ideal) (tdzu m c t) (tdzv m c t) := by
  by_cases h : t.val % 8 = 0
  · have h' : ¬ 1 ≤ t.val := by have ht : t.val < 8 := t.isLt.trans_eq N_0; omega
    rw [outsAt0_A m c t h h' h h' h h' h h' h h' h h' h h' h h' h h']; frame_out; rfl
  · have h' : 1 ≤ t.val := by omega
    rw [outsAt0_B m c t h h' h h' h h' h h' h h' h h' h h' h h' h h']; frame_out; rfl

set_option maxHeartbeats 4000000 in
theorem outs_dconv (c : Dev nD) (t : Fin cfg0.N) : (outsAt0 m c t.val t.isLt).2.1 = tdconv m c t := by
  by_cases h : t.val % 8 = 0
  · have h' : ¬ 1 ≤ t.val := by have ht : t.val < 8 := t.isLt.trans_eq N_0; omega
    rw [outsAt0_A m c t h h' h h' h h' h h' h h' h h' h h' h h' h h']; frame_out; rfl
  · have h' : 1 ≤ t.val := by omega
    rw [outsAt0_B m c t h h' h h' h h' h h' h h' h h' h h' h h' h h']; frame_out; rfl

/-- A tile's part of the spatial weight's gradient. -/
abbrev tdws (c : Dev nD) (t : Fin 8) : FVec Ideal S8x128x128 .f32 := wgrads mask (truncf .bf16 (tdsp m c t) bitsLt_bf16_f32) (truncf .bf16 (tvn m c t) bitsLt_bf16_f32)

set_option maxHeartbeats 4000000 in
theorem acc_tdws (c : Dev nD) (j : S8x128x128.Idx) : (outsAt0 m c t0_7.val t0_7.isLt).2.2.1 j = ∑ t : Fin 8, tdws m c t j :=
  acc_sum (fun n h => (outsAt0 m c n h).2.2.1) (tdws m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the spatial bias's gradient. -/
abbrev tdbs (c : Dev nD) (t : Fin 8) : FVec Ideal S128x1024 .f32 := bgrad (tdsp m c t)

set_option maxHeartbeats 4000000 in
theorem acc_tdbs (c : Dev nD) (j : S128x1024.Idx) : (outsAt0 m c t0_7.val t0_7.isLt).2.2.2.1 j = ∑ t : Fin 8, tdbs m c t j :=
  acc_sum (fun n h => (outsAt0 m c n h).2.2.2.1) (tdbs m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the gate's norm's scale's gradient. -/
abbrev tdgg (c : Dev nD) (t : Fin 8) : FVec Ideal S1x1024 .f32 := colsum (mulf (lnhat (gelu (k0_pay16 (F := Ideal) (tz m c t)))) (tdvn m c t))

set_option maxHeartbeats 4000000 in
theorem acc_tdgg (c : Dev nD) (j : S1x1024.Idx) : (outsAt0 m c t0_7.val t0_7.isLt).2.2.2.2.1 j = ∑ t : Fin 8, tdgg m c t j :=
  acc_sum (fun n h => (outsAt0 m c n h).2.2.2.2.1) (tdgg m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the gate's norm's shift's gradient. -/
abbrev tdgb (c : Dev nD) (t : Fin 8) : FVec Ideal S1x1024 .f32 := colsum (tdvn m c t)

set_option maxHeartbeats 4000000 in
theorem acc_tdgb (c : Dev nD) (j : S1x1024.Idx) : (outsAt0 m c t0_7.val t0_7.isLt).2.2.2.2.2.1 j = ∑ t : Fin 8, tdgb m c t j :=
  acc_sum (fun n h => (outsAt0 m c n h).2.2.2.2.2.1) (tdgb m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the convolution's weight's gradient. -/
abbrev tdcw (c : Dev nD) (t : Fin 8) : FVec Ideal S32x1024 .f32 := dtaps (seenRows (tz m c t) (tp m c t) (ti t)) (tdconv m c t)

set_option maxHeartbeats 4000000 in
theorem acc_tdcw (c : Dev nD) (j : S32x1024.Idx) : (outsAt0 m c t0_7.val t0_7.isLt).2.2.2.2.2.2.1 j = ∑ t : Fin 8, tdcw m c t j :=
  acc_sum (fun n h => (outsAt0 m c n h).2.2.2.2.2.2.1) (tdcw m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the convolution's bias's gradient. -/
abbrev tdcb (c : Dev nD) (t : Fin 8) : FVec Ideal S1x1024 .f32 := colsum (tdconv m c t)

set_option maxHeartbeats 4000000 in
theorem acc_tdcb (c : Dev nD) (j : S1x1024.Idx) : (outsAt0 m c t0_7.val t0_7.isLt).2.2.2.2.2.2.2.1 j = ∑ t : Fin 8, tdcb m c t j :=
  acc_sum (fun n h => (outsAt0 m c n h).2.2.2.2.2.2.2.1) (tdcb m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the convolution's norm's scale's gradient. -/
abbrev tdcg (c : Dev nD) (t : Fin 8) : FVec Ideal S1x1024 .f32 := colsum (mulf (lnhat (tconv m c t)) (tdact m c t))

set_option maxHeartbeats 4000000 in
theorem acc_tdcg (c : Dev nD) (j : S1x1024.Idx) : (outsAt0 m c t0_7.val t0_7.isLt).2.2.2.2.2.2.2.2.1 j = ∑ t : Fin 8, tdcg m c t j :=
  acc_sum (fun n h => (outsAt0 m c n h).2.2.2.2.2.2.2.2.1) (tdcg m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the convolution's norm's shift's gradient. -/
abbrev tdcn (c : Dev nD) (t : Fin 8) : FVec Ideal S1x1024 .f32 := colsum (tdact m c t)

set_option maxHeartbeats 4000000 in
theorem acc_tdcn (c : Dev nD) (j : S1x1024.Idx) : (outsAt0 m c t0_7.val t0_7.isLt).2.2.2.2.2.2.2.2.2.1 j = ∑ t : Fin 8, tdcn m c t j :=
  acc_sum (fun n h => (outsAt0 m c n h).2.2.2.2.2.2.2.2.2.1) (tdcn m c)
    (fun t h h' j => by rw [outsAt0_A m c t h h' h h' h h' h h' h h' h h' h h' h h' h h']; frame_out; rfl)
    (fun t h h' j => by rw [outsAt0_B m c t h h' h h' h h' h h' h h' h h' h h' h h' h h']; frame_out; exact add_at _ _ _ j) j

/-- A tile's part of the output bias's gradient. -/
abbrev tdbo (c : Dev nD) (t : Fin 8) : FVec Ideal S1x2048 .f32 := k0_pay172 (F := Ideal) (tx m c t)

set_option maxHeartbeats 4000000 in
theorem acc_tdbo (c : Dev nD) (j : S1x2048.Idx) : (outsAt0 m c t0_7.val t0_7.isLt).2.2.2.2.2.2.2.2.2.2 j = ∑ t : Fin 8, tdbo m c t j :=
  acc_sum (fun n h => (outsAt0 m c n h).2.2.2.2.2.2.2.2.2.2) (tdbo m c)
    (fun t h h' j => by rw [outsAt0_A m c t h h' h h' h h' h h' h h' h h' h h' h h' h h']; frame_out)
    (fun t h h' j => by rw [outsAt0_B m c t h h' h h' h h' h h' h h' h h' h h' h h' h h']; frame_out; exact add_at _ _ _ j) j

end Values

end Cert.MixBwdIdeal.RefValue
-- ==== Proof.MixRef.lean ====
/- The reference's value of the mixer's gradients, element by element. -/
module

public import proofs.«01_k».proof.Defs
public import proofs.«01_k».proof.Proof.Gen.MixRefIdeal.Run
public import proofs.«01_k».proof.Proof.Gen.MixRefIdeal.Read
public import proofs.«01_k».proof.Proof.Rows
public import proofs.«01_k».proof.Proof.LnGrad
public import proofs.«01_k».proof.Proof.GeluGrad
public import proofs.«01_k».proof.Proof.MixTile
public import proofs.«01_k».proof.Proof.MixTaps
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.MixBwdIdeal.RefValue

open Cert.MixRefIdeal Cert.MixRefIdeal.Gen Cert.MixRefIdeal.Read
open Cert.Rows Cert.Reals

/-- Row `p` of block `n`. -/
def nb (n : Fin 16) (p : Fin 128) : Fin 2048 := ⟨n.val * 128 + p.val, by omega⟩

/-- The column `j` columns after `o`. -/
def at2 (o : Fin 2) (j : Fin 1024) : Fin 2048 := ⟨o.val * 1024 + j.val, by omega⟩

/-- The column `j` columns after `o`. -/
def at4 (o : Fin 4) (j : Fin 1024) : Fin 4096 := ⟨o.val * 1024 + j.val, by omega⟩

theorem exists_nb (r : Fin 2048) : ∃ n p, r = nb n p :=
  ⟨⟨r.val / 128, by omega⟩, ⟨r.val % 128, by omega⟩, Fin.ext (by simp only [nb]; omega)⟩

variable (x0 : FVec Ideal S2048x4096 .f32) (x1 : FVec Ideal S4096 .f32) (x2 x3 : FVec Ideal S2048x2048 .f32)
  (x4 : FVec Ideal S8x128x128 .f32) (x5 : FVec Ideal S8x128 .f32) (x6 x7 : FVec Ideal S1024 .f32)
  (x8 : FVec Ideal S31x1x1024 .f32) (x9 x10 x11 : FVec Ideal S1024 .f32)

/-- The preactivations. -/
def pre (o : Fin 4) (r : Fin 2048) (j : Fin 1024) : EReal := x0 (ix2 r (at4 o j)) + x1 (ix1 (at4 o j))

theorem pre0 (r : Fin 2048) (j : Fin 1024) : val_main_v3 (F := Ideal) x0 x1 (ix2 r j) = pre x0 x1 0 r j := by
  unfold pre at4
  pointwise [val_main_v3, val_main_v2, val_main_v1, val_main_v0]

theorem pre1 (r : Fin 2048) (j : Fin 1024) : val_main_v4 (F := Ideal) x0 x1 (ix2 r j) = pre x0 x1 1 r j := by
  unfold pre at4
  pointwise [val_main_v4, val_main_v2, val_main_v1, val_main_v0]

theorem pre2 (r : Fin 2048) (j : Fin 1024) : val_main_v5 (F := Ideal) x0 x1 (ix2 r j) = pre x0 x1 2 r j := by
  unfold pre at4
  pointwise [val_main_v5, val_main_v2, val_main_v1, val_main_v0]

theorem pre3 (r : Fin 2048) (j : Fin 1024) : val_main_v6 (F := Ideal) x0 x1 (ix2 r j) = pre x0 x1 3 r j := by
  unfold pre at4
  pointwise [val_main_v6, val_main_v2, val_main_v1, val_main_v0]

/-! ## The gate -/

theorem v31_at (r : Fin 2048) (j : Fin 1024) : val_main_v31 (F := Ideal) x0 x1 (ix2 r j) = Gelu.val (pre x0 x1 0 r j) := by
  rw [← Gelu.val'_eq]
  pointwise [val_main_v31, val_main_v30, val_main_v29, val_main_v28, val_main_v27, val_main_v21, val_main_v20, val_main_v19, val_main_v18, val_main_v17, val_main_v16,
    val_main_v12, val_main_v11, val_main_cst_0, val_main_cst_1, val_main_cst_4, val_main_cst_5, pre0]
  rfl

theorem v52_at (r : Fin 2048) (j : Fin 1024) : val_main_v52 (F := Ideal) x0 x1 (ix2 r j) = Gelu.val (pre x0 x1 1 r j) := by
  rw [← Gelu.val'_eq]
  pointwise [val_main_v52, val_main_v51, val_main_v50, val_main_v49, val_main_v48, val_main_v42, val_main_v41, val_main_v40, val_main_v39, val_main_v38, val_main_v37,
    val_main_v33, val_main_v32, val_main_cst_7, val_main_cst_8, val_main_cst_11, val_main_cst_12, pre1]
  rfl

/-- The gate's second half, before the norm. -/
def gated (r : Fin 2048) (j : Fin 1024) : EReal := Gelu.val (pre x0 x1 1 r j)

theorem v58_at (r : Fin 2048) (j : Fin 1024) : val_main_v58 (F := Ideal) x0 x1 (ix2 r j) = Ln.cen (gated x0 x1 r) j := by
  pointwise [val_main_v58, val_main_v57, val_main_v56, val_main_v55, val_main_v54, val_main_v53, val_main_cst_13, val_main_cst_14, v52_at]
  rfl

theorem v65_at (r : Fin 2048) (a : Fin 1) : val_main_v65 (F := Ideal) x0 x1 (ix2 r a) = Ln.var (gated x0 x1 r) := by
  pointwise [val_main_v65, val_main_v64, val_main_v63, val_main_v62, val_main_v61, val_main_v60, val_main_v59, val_main_cst_15, val_main_cst_16, val_main_cst_17, v58_at]
  rfl

theorem v66_at (r : Fin 2048) (a : Fin 1) : val_main_v66 (F := Ideal) x0 x1 (ix2 r a) = Ln.scale (gated x0 x1 r) := by
  pointwise [val_main_v66, v65_at]
  rfl

theorem v71_at (r : Fin 2048) (j : Fin 1024) : val_main_v71 (F := Ideal) x0 x1 (ix2 r j) = Ln.hat (gated x0 x1 r) j := by
  pointwise [val_main_v71, val_main_v70, v58_at, v66_at]
  rfl

theorem v77_at (r : Fin 2048) (j : Fin 1024) :
    val_main_v77 (F := Ideal) x0 x1 x6 x7 (ix2 r j) = Ln.out (gated x0 x1 r) (fun k => x6 (ix1 k)) (fun k => x7 (ix1 k)) j := by
  pointwise [val_main_v77, val_main_v76, val_main_v75, val_main_v74, val_main_v73, val_main_v72, v71_at]
  rfl

/-! ## The product over a block's positions -/

theorem v89_at (n : Fin 16) (p : Fin 128) (h : Fin 8) (q : Fin 128) :
    val_main_v89 (F := Ideal) x0 x1 x6 x7 (ix4 n p h q) = val_main_v77 (F := Ideal) x0 x1 x6 x7 (ix2 (nb n p) (hc h q)) := by
  unfold val_main_v89
  generalize val_main_v77 (F := Ideal) x0 x1 x6 x7 = y
  pointwise
  blk_ext [nb, hc]

theorem flat_at (y : FVec Ideal S16x128x8x128 .f32) (n : Fin 16) (p : Fin 128) (h : Fin 8) (q : Fin 128) :
    shapeCast S2048x1024 y Gen.shapeCasts_S16x128x8x128_S2048x1024 (ix2 (nb n p) (hc h q)) = y (ix4 n p h q) := by
  unfold nb hc
  pointwise
  blk_ext []

theorem unflat_at (y : FVec Ideal S2048x1024 .f32) (n : Fin 16) (p : Fin 128) (h : Fin 8) (q : Fin 128) :
    shapeCast S16x128x8x128 y Gen.shapeCasts_S2048x1024_S16x128x8x128 (ix4 n p h q) = y (ix2 (nb n p) (hc h q)) := by
  pointwise
  blk_ext [nb, hc]

theorem v10_at (p : Fin 128) (h : Fin 8) (q : Fin 128) : val_main_v10 (F := Ideal) x5 (ix2 p (hc h q)) = x5 (ix2 h p) := by
  unfold val_main_v10
  have e : ∀ y : FVec Ideal S128x8x128 .f32, shapeCast S128x1024 y Gen.shapeCasts_S128x8x128_S128x1024 (ix2 p (hc h q)) = y (ix3 p h q) := fun y => by
    unfold hc
    pointwise
    blk_ext []
  refine (e _).trans ?_
  pointwise [val_main_v9, val_main_v8, val_main_v7]

theorem v95_at (n : Fin 16) (p : Fin 128) (h : Fin 8) (q : Fin 128) :
    val_main_v95 (F := Ideal) x0 x1 x4 x5 x6 x7 (ix2 (nb n p) (hc h q))
      = (∑ k : Fin 128, val_main_v88_0 (F := Ideal) x4 (ix3 h p k) * val_main_v77 (F := Ideal) x0 x1 x6 x7 (ix2 (nb n k) (hc h q))) + x5 (ix2 h p) := by
  unfold val_main_v95
  refine (flat_at _ n p h q).trans ?_
  unfold val_main_v94
  refine congrArg₂ (· + ·) ?_ ?_
  · pointwise [val_main_v91, val_main_v90, v89_at]
    exact Finset.sum_congr rfl fun k _ => mul_comm _ _
  · refine Eq.trans ?_ (v10_at x5 p h q)
    unfold val_main_v93 val_main_v92
    generalize val_main_v10 (F := Ideal) x5 = y
    pointwise
    blk_ext [hc]

theorem v97_at (r : Fin 2048) (j : Fin 1024) : val_main_v97 (F := Ideal) x2 (ix2 r j) = x2 (ix2 r (at2 0 j)) := by
  unfold at2
  pointwise [val_main_v97]

theorem v98_at (r : Fin 2048) (j : Fin 1024) :
    val_main_v98 (F := Ideal) x0 x1 x2 (ix2 r j) = Gelu.val (pre x0 x1 0 r j) * x2 (ix2 r (at2 0 j)) := by
  pointwise [val_main_v98, v31_at, v97_at]

theorem v99_at (r : Fin 2048) (j : Fin 1024) :
    val_main_v99 (F := Ideal) x0 x1 x2 x4 x5 x6 x7 (ix2 r j) = x2 (ix2 r (at2 0 j)) * val_main_v95 (F := Ideal) x0 x1 x4 x5 x6 x7 (ix2 r j) := by
  pointwise [val_main_v99, v97_at]

theorem v100_at (n : Fin 16) (p : Fin 128) (h : Fin 8) (q : Fin 128) :
    val_main_v100 (F := Ideal) x0 x1 x2 (ix4 n p h q) = val_main_v98 (F := Ideal) x0 x1 x2 (ix2 (nb n p) (hc h q)) :=
  unflat_at _ n p h q

theorem v103_at (p : Fin 128) (h : Fin 8) (q : Fin 128) :
    val_main_v103 (F := Ideal) x0 x1 x2 (ix2 p (hc h q)) = ∑ n : Fin 16, val_main_v98 (F := Ideal) x0 x1 x2 (ix2 (nb n p) (hc h q)) := by
  unfold val_main_v103 val_main_v102
  have e : ∀ y : FVec Ideal S128x8x128 .f32, shapeCast S128x1024 (shapeCast S1x128x8x128 y Gen.shapeCasts_S128x8x128_S1x128x8x128) Gen.shapeCasts_S1x128x8x128_S128x1024 (ix2 p (hc h q)) = y (ix3 p h q) := fun y => by
    unfold hc
    pointwise
    blk_ext []
  refine (e _).trans ?_
  pointwise [val_main_v101, val_main_cst_21, v100_at]

theorem v104_at (h : Fin 8) (n : Fin 16) (q : Fin 128) (p : Fin 128) :
    val_main_v104 (F := Ideal) x0 x1 x2 (ix4 h n q p) = val_main_v98 (F := Ideal) x0 x1 x2 (ix2 (nb n p) (hc h q)) := by
  pointwise [val_main_v104, v100_at]

theorem v105_at (h : Fin 8) (p q : Fin 128) :
    val_main_v105 (F := Ideal) x0 x1 x2 x6 x7 (ix3 h p q)
      = ∑ n : Fin 16, ∑ k : Fin 128, val_main_v98 (F := Ideal) x0 x1 x2 (ix2 (nb n p) (hc h k)) * val_main_v77 (F := Ideal) x0 x1 x6 x7 (ix2 (nb n q) (hc h k)) := by
  pointwise [val_main_v105, v104_at, v89_at]

theorem v108_at (n : Fin 16) (p : Fin 128) (h : Fin 8) (q : Fin 128) :
    val_main_v108 (F := Ideal) x0 x1 x2 x4 (ix2 (nb n p) (hc h q))
      = ∑ k : Fin 128, val_main_v88_0 (F := Ideal) x4 (ix3 h k p) * val_main_v98 (F := Ideal) x0 x1 x2 (ix2 (nb n k) (hc h q)) := by
  unfold val_main_v108
  refine (flat_at _ n p h q).trans ?_
  pointwise [val_main_v107, val_main_v106, v104_at]
  exact Finset.sum_congr rfl fun k _ => mul_comm _ _

/-! ## The gate's gradients -/

theorem v623_at (j : Fin 1024) :
    val_main_v623 (F := Ideal) x0 x1 x2 x4 (ix2 (0 : Fin 1) j) = ∑ r : Fin 2048, Ln.hat (gated x0 x1 r) j * val_main_v108 (F := Ideal) x0 x1 x2 x4 (ix2 r j) := by
  pointwise [val_main_v623, val_main_v118, val_main_v115, val_main_v114, val_main_v113, val_main_cst_24, val_main_cst_25, v71_at]
  simp only [Finset.univ_unique, Finset.sum_singleton]

theorem v624_at (j : Fin 1024) :
    val_main_v624 (F := Ideal) x0 x1 x2 x4 (ix2 (0 : Fin 1) j) = ∑ r : Fin 2048, val_main_v108 (F := Ideal) x0 x1 x2 x4 (ix2 r j) := by
  pointwise [val_main_v624, val_main_v112, val_main_v111, val_main_v110, val_main_cst_22, val_main_cst_23]
  simp only [Finset.univ_unique, Finset.sum_singleton]

/-- The cotangent of the normed rows before their scale. -/
def dnorm (r : Fin 2048) (j : Fin 1024) : EReal := val_main_v108 (F := Ideal) x0 x1 x2 x4 (ix2 r j) * x6 (ix1 j)

theorem v117_at (r : Fin 2048) (j : Fin 1024) : val_main_v117 (F := Ideal) x0 x1 x2 x4 x6 (ix2 r j) = dnorm x0 x1 x2 x4 x6 r j := by
  pointwise [val_main_v117, val_main_v116, val_main_v72]
  rfl

theorem v128_at (r : Fin 2048) (j : Fin 1024) :
    val_main_v128 (F := Ideal) x0 x1 x2 x4 x6 (ix2 r j) = Ln.slope (gated x0 x1 r) (dnorm x0 x1 x2 x4 x6 r) := by
  pointwise [val_main_v128, val_main_v127, val_main_v126, val_main_v125, val_main_v124, val_main_v121, val_main_v120, val_main_v119, val_main_v69, val_main_v68, val_main_v67,
    val_main_cst_18, val_main_cst_26, val_main_cst_27, val_main_cst_28, v117_at, v58_at, v65_at, v66_at]
  rfl

theorem v132_at (r : Fin 2048) (j : Fin 1024) :
    val_main_v132 (F := Ideal) x0 x1 x2 x4 x6 (ix2 r j) = Ln.pull (gated x0 x1 r) (dnorm x0 x1 x2 x4 x6 r) j := by
  pointwise [val_main_v132, val_main_v131, val_main_v130, val_main_v129, val_main_v123, val_main_v122, v117_at, v58_at, v66_at, v128_at]
  rfl

theorem v140_at (r : Fin 2048) (j : Fin 1024) :
    val_main_v140 (F := Ideal) x0 x1 x2 x4 x6 (ix2 r j) = Ln.grad (gated x0 x1 r) (dnorm x0 x1 x2 x4 x6 r) j := by
  pointwise [val_main_v140, val_main_v139, val_main_v138, val_main_v137, val_main_v136, val_main_v135, val_main_v134, val_main_v133, val_main_cst_29, val_main_cst_30, val_main_cst_31, v132_at]
  rfl

theorem v152_at (r : Fin 2048) (j : Fin 1024) :
    val_main_v152 (F := Ideal) x0 x1 x2 x4 x6 (ix2 r j) = Gelu.back' (Ln.grad (gated x0 x1 r) (dnorm x0 x1 x2 x4 x6 r) j) (pre x0 x1 1 r j) := by
  pointwise [val_main_v152, val_main_v151, val_main_v150, val_main_v149, val_main_v148, val_main_v147, val_main_v146, val_main_v145, val_main_v144, val_main_v143, val_main_v142, val_main_v141,
    val_main_v51, val_main_v50, val_main_v49, val_main_v48, val_main_v47, val_main_v46, val_main_v45, val_main_v44, val_main_v43, val_main_v42, val_main_v41, val_main_v40, val_main_v39, val_main_v38, val_main_v37,
    val_main_v36, val_main_v35, val_main_v34, val_main_v33, val_main_v32, val_main_cst_6, val_main_cst_7, val_main_cst_8, val_main_cst_9, val_main_cst_10, val_main_cst_11, val_main_cst_12,
    val_main_cst_32, val_main_cst_33, val_main_cst_34, pre1, v140_at]
  rfl

theorem v164_at (r : Fin 2048) (j : Fin 1024) :
    val_main_v164 (F := Ideal) x0 x1 x2 x4 x5 x6 x7 (ix2 r j)
      = Gelu.back' (x2 (ix2 r (at2 0 j)) * val_main_v95 (F := Ideal) x0 x1 x4 x5 x6 x7 (ix2 r j)) (pre x0 x1 0 r j) := by
  pointwise [val_main_v164, val_main_v163, val_main_v162, val_main_v161, val_main_v160, val_main_v159, val_main_v158, val_main_v157, val_main_v156, val_main_v155, val_main_v154, val_main_v153,
    val_main_v30, val_main_v29, val_main_v28, val_main_v27, val_main_v26, val_main_v25, val_main_v24, val_main_v23, val_main_v22, val_main_v21, val_main_v20, val_main_v19, val_main_v18, val_main_v17, val_main_v16,
    val_main_v15, val_main_v14, val_main_v13, val_main_v12, val_main_v11, val_main_cst, val_main_cst_0, val_main_cst_1, val_main_cst_2, val_main_cst_3, val_main_cst_4, val_main_cst_5,
    val_main_cst_35, val_main_cst_36, val_main_cst_37, pre0, v99_at]
  rfl

theorem v622_at (r : Fin 2048) (j : Fin 2048) :
    val_main_v622 (F := Ideal) x0 x1 x2 x4 x5 x6 x7 (ix2 r j)
      = if h : j.val < 1024 then val_main_v164 (F := Ideal) x0 x1 x2 x4 x5 x6 x7 (ix2 r (⟨j.val, h⟩ : Fin 1024))
        else val_main_v152 (F := Ideal) x0 x1 x2 x4 x6 (ix2 r (⟨j.val - 1024, by omega⟩ : Fin 1024)) := by
  pointwise [val_main_v622]

/-! ## The convolution -/

theorem v172_at (r : Fin 2048) (j : Fin 1024) :
    val_main_v172 (F := Ideal) x0 x1 (ix2 r j) = pre x0 x1 2 r j * Ideal.logistic (pre x0 x1 3 r j) := by
  pointwise [val_main_v172, val_main_v171, val_main_v170, val_main_v169, val_main_v168, val_main_v167, val_main_v166, val_main_cst_39, val_main_cst_40, pre2, pre3]
  rfl

/-- The convolution's rows. -/
def convd (r : Fin 2048) (j : Fin 1024) : EReal :=
  (∑ k : Fin 31, val_main_v173 (F := Ideal) x0 x1 (ix2 (⟨r.val + k.val, by omega⟩ : Fin 2078) j) * x8 (ix3 k (0 : Fin 1) j)) + x9 (ix1 j)

theorem v363_at (r : Fin 2048) (j : Fin 1024) : val_main_v363 (F := Ideal) x0 x1 x8 x9 (ix2 r j) = convd x0 x1 x8 x9 r j := by
  unfold val_main_v363 convd
  refine congrArg₂ (· + ·) ?_ ?_
  · rw [v360_eq]; exact rsum_at _ _ 31 _ r j
  · pointwise [val_main_v362, val_main_v361]

theorem v369_at (r : Fin 2048) (j : Fin 1024) : val_main_v369 (F := Ideal) x0 x1 x8 x9 (ix2 r j) = Ln.cen (convd x0 x1 x8 x9 r) j := by
  pointwise [val_main_v369, val_main_v368, val_main_v367, val_main_v366, val_main_v365, val_main_v364, val_main_cst_42, val_main_cst_43, v363_at]
  rfl

theorem v376_at (r : Fin 2048) (a : Fin 1) : val_main_v376 (F := Ideal) x0 x1 x8 x9 (ix2 r a) = Ln.var (convd x0 x1 x8 x9 r) := by
  pointwise [val_main_v376, val_main_v375, val_main_v374, val_main_v373, val_main_v372, val_main_v371, val_main_v370, val_main_cst_44, val_main_cst_45, val_main_cst_46, v369_at]
  rfl

theorem v377_at (r : Fin 2048) (a : Fin 1) : val_main_v377 (F := Ideal) x0 x1 x8 x9 (ix2 r a) = Ln.scale (convd x0 x1 x8 x9 r) := by
  pointwise [val_main_v377, v376_at]
  rfl

theorem v382_at (r : Fin 2048) (j : Fin 1024) : val_main_v382 (F := Ideal) x0 x1 x8 x9 (ix2 r j) = Ln.hat (convd x0 x1 x8 x9 r) j := by
  pointwise [val_main_v382, val_main_v381, v369_at, v377_at]
  rfl

/-- The convolution's normed rows. -/
def normed (r : Fin 2048) (j : Fin 1024) : EReal := Ln.out (convd x0 x1 x8 x9 r) (fun k => x10 (ix1 k)) (fun k => x11 (ix1 k)) j

theorem v388_at (r : Fin 2048) (j : Fin 1024) : val_main_v388 (F := Ideal) x0 x1 x8 x9 x10 x11 (ix2 r j) = normed x0 x1 x8 x9 x10 x11 r j := by
  pointwise [val_main_v388, val_main_v387, val_main_v386, val_main_v385, val_main_v384, val_main_v383, v382_at]
  rfl

/-- The smooth step's derivative at `y`, at cotangent `d`. -/
def stepBack (d y : EReal) : EReal := d * Ideal.logistic y + y * d * (Ideal.logistic y * (1 - Ideal.logistic y))

theorem v389_2_at (r : Fin 2048) (j : Fin 1024) : val_main_v389_2 (F := Ideal) x0 x1 x8 x9 x10 x11 (ix2 r j) = Ideal.logistic (normed x0 x1 x8 x9 x10 x11 r j) := by
  pointwise [val_main_v389_2, val_main_call4_v4, val_main_call4_v3, val_main_call4_v2, val_main_call4_v1, val_main_call4_v0, val_main_call4_cst, val_main_call4_cst_0, v388_at]
  rfl

theorem v391_at (r : Fin 2048) (j : Fin 1024) :
    val_main_v391 (F := Ideal) x0 x1 x2 x8 x9 x10 x11 (ix2 r j) = stepBack (x2 (ix2 r (at2 1 j))) (normed x0 x1 x8 x9 x10 x11 r j) := by
  unfold at2
  pointwise [val_main_v391, val_main_call5_v2, val_main_call5_v1, val_main_call5_v0, val_main_v390, val_main_v389_1, val_main_call4_v7, val_main_call4_v6, val_main_call4_cst_1, v389_2_at, v388_at]
  rfl

theorem v626_at (j : Fin 1024) :
    val_main_v626 (F := Ideal) x0 x1 x2 x8 x9 x10 x11 (ix2 (0 : Fin 1) j)
      = ∑ r : Fin 2048, Ln.hat (convd x0 x1 x8 x9 r) j * val_main_v391 (F := Ideal) x0 x1 x2 x8 x9 x10 x11 (ix2 r j) := by
  pointwise [val_main_v626, val_main_v400, val_main_v397, val_main_v396, val_main_v395, val_main_cst_50, val_main_cst_51, v382_at]
  simp only [Finset.univ_unique, Finset.sum_singleton]

theorem v627_at (j : Fin 1024) :
    val_main_v627 (F := Ideal) x0 x1 x2 x8 x9 x10 x11 (ix2 (0 : Fin 1) j) = ∑ r : Fin 2048, val_main_v391 (F := Ideal) x0 x1 x2 x8 x9 x10 x11 (ix2 r j) := by
  pointwise [val_main_v627, val_main_v394, val_main_v393, val_main_v392, val_main_cst_48, val_main_cst_49]
  simp only [Finset.univ_unique, Finset.sum_singleton]

/-- The cotangent of the convolution's normed rows before their scale. -/
def dstep (r : Fin 2048) (j : Fin 1024) : EReal := val_main_v391 (F := Ideal) x0 x1 x2 x8 x9 x10 x11 (ix2 r j) * x10 (ix1 j)

theorem v399_at (r : Fin 2048) (j : Fin 1024) : val_main_v399 (F := Ideal) x0 x1 x2 x8 x9 x10 x11 (ix2 r j) = dstep x0 x1 x2 x8 x9 x10 x11 r j := by
  pointwise [val_main_v399, val_main_v398, val_main_v383]
  rfl

theorem v410_at (r : Fin 2048) (j : Fin 1024) :
    val_main_v410 (F := Ideal) x0 x1 x2 x8 x9 x10 x11 (ix2 r j) = Ln.slope (convd x0 x1 x8 x9 r) (dstep x0 x1 x2 x8 x9 x10 x11 r) := by
  pointwise [val_main_v410, val_main_v409, val_main_v408, val_main_v407, val_main_v406, val_main_v403, val_main_v402, val_main_v401, val_main_v380, val_main_v379, val_main_v378,
    val_main_cst_47, val_main_cst_52, val_main_cst_53, val_main_cst_54, v399_at, v369_at, v376_at, v377_at]
  rfl

theorem v414_at (r : Fin 2048) (j : Fin 1024) :
    val_main_v414 (F := Ideal) x0 x1 x2 x8 x9 x10 x11 (ix2 r j) = Ln.pull (convd x0 x1 x8 x9 r) (dstep x0 x1 x2 x8 x9 x10 x11 r) j := by
  pointwise [val_main_v414, val_main_v413, val_main_v412, val_main_v411, val_main_v405, val_main_v404, v399_at, v369_at, v377_at, v410_at]
  rfl

theorem v422_at (r : Fin 2048) (j : Fin 1024) :
    val_main_v422 (F := Ideal) x0 x1 x2 x8 x9 x10 x11 (ix2 r j) = Ln.grad (convd x0 x1 x8 x9 r) (dstep x0 x1 x2 x8 x9 x10 x11 r) j := by
  pointwise [val_main_v422, val_main_v421, val_main_v420, val_main_v419, val_main_v418, val_main_v417, val_main_v416, val_main_v415, val_main_cst_55, val_main_cst_56, val_main_cst_57, v414_at]
  rfl

theorem v625_at (j : Fin 1024) :
    val_main_v625 (F := Ideal) x0 x1 x2 x8 x9 x10 x11 (ix2 (0 : Fin 1) j) = ∑ r : Fin 2048, val_main_v422 (F := Ideal) x0 x1 x2 x8 x9 x10 x11 (ix2 r j) := by
  pointwise [val_main_v625, val_main_v425, val_main_v424, val_main_v423, val_main_cst_58, val_main_cst_59]
  simp only [Finset.univ_unique, Finset.sum_singleton]

theorem v621_at (k : Fin 32) (j : Fin 1024) :
    val_main_v621 (F := Ideal) x0 x1 x2 x8 x9 x10 x11 (ix2 k j)
      = if h : k.val < 31 then ∑ r : Fin 2048, val_main_v173 (F := Ideal) x0 x1 (ix2 (⟨r.val + k.val, by omega⟩ : Fin 2078) j)
          * val_main_v422 (F := Ideal) x0 x1 x2 x8 x9 x10 x11 (ix2 r j)
        else 0 := by
  have e : ∀ (k : Fin 31) (j : Fin 1024), val_main_v619 (F := Ideal) x0 x1 x2 x8 x9 x10 x11 (ix2 k j)
      = ∑ r : Fin 2048, val_main_v173 (F := Ideal) x0 x1 (ix2 (⟨r.val + k.val, by omega⟩ : Fin 2078) j)
          * val_main_v422 (F := Ideal) x0 x1 x2 x8 x9 x10 x11 (ix2 r j) := fun k j => by
    unfold val_main_v619
    rw [v610_eq]
    refine Eq.trans ?_ ((rdsum_at _ _ 30 (by omega) k j).trans (if_pos (by omega)))
    generalize rdsum _ _ 30 _ = y
    pointwise
  pointwise [val_main_v621, val_main_v620, val_main_cst_126, e]

theorem v628_at (j : Fin 2048) :
    val_main_v628 (F := Ideal) x3 (ix2 (0 : Fin 1) j) = ∑ r : Fin 2048, x3 (ix2 r j) := by
  pointwise [val_main_v628, val_main_v618, val_main_v617, val_main_v616, val_main_cst_124, val_main_cst_125]
  simp only [Finset.univ_unique, Finset.sum_singleton]

theorem v173_at (p : Fin 2078) (j : Fin 1024) :
    val_main_v173 (F := Ideal) x0 x1 (ix2 p j)
      = if h : p.val < 30 then 0
        else pre x0 x1 2 (⟨p.val - 30, by omega⟩ : Fin 2048) j * Ideal.logistic (pre x0 x1 3 (⟨p.val - 30, by omega⟩ : Fin 2048) j) := by
  pointwise [val_main_v173, val_main_v165, val_main_cst_38, v172_at]

/-- The spatial weight where a position sees, from the mask. -/
theorem v88_0_at (h : Fin 8) (p q : Fin 128) :
    val_main_v88_0 (F := Ideal) x4 (ix3 h p q) = Scalar.select (val_main_v88_1 (F := Ideal) (ix3 h p q)) (x4 (ix3 h p q)) 0 := by
  pointwise [val_main_v88_0, val_main_v87, val_main_cst_20]

theorem v109_at (h : Fin 8) (p q : Fin 128) :
    val_main_v109 (F := Ideal) x0 x1 x2 x6 x7 (ix3 h p q)
      = Scalar.select (val_main_v88_1 (F := Ideal) (ix3 h p q))
          (∑ n : Fin 16, ∑ k : Fin 128, val_main_v98 (F := Ideal) x0 x1 x2 (ix2 (nb n p) (hc h k)) * val_main_v77 (F := Ideal) x0 x1 x6 x7 (ix2 (nb n q) (hc h k))) 0 := by
  pointwise [val_main_v109, val_main_call3_v0, val_main_call3_cst, v105_at]

end Cert.MixBwdIdeal.RefValue
-- ==== Proof.MixMask.lean ====
/- Which positions of a block a position sees, in both programs. -/
module

public import proofs.«01_k».proof.Proof.MixVals
public import proofs.«01_k».proof.Proof.MixRef

@[expose] public section

set_option maxRecDepth 16384

noncomputable section

open Idealize.ShloMosaic Idealize.ShloMosaic.TcCoe Idealize.SL.Sem

namespace Cert.MixBwdIdeal.RefValue

open Cert.MixRefIdeal Cert.MixRefIdeal.Read

/-- Whether position `q`'s chunk is not after position `p`'s. -/
def sees (p q : Fin 128) : BitVec 1 := if q.val / 64 ≤ p.val / 64 then 1#1 else 0#1

theorem sees_test : ∀ a b : Fin 2, IntOp.cmpi CmpIPredicate.sle (BitVec.ofNat 32 a.val) (BitVec.ofNat 32 b.val) = if a.val ≤ b.val then 1#1 else 0#1 := by decide

/-- The comparison of two chunks. -/
theorem sees_eq (p q : Fin 128) : IntOp.cmpi CmpIPredicate.sle (BitVec.ofNat 32 (q.val / 64)) (BitVec.ofNat 32 (p.val / 64)) = sees p q :=
  sees_test ⟨q.val / 64, by omega⟩ ⟨p.val / 64, by omega⟩

/-- A position's chunk as the reference's operations give it. -/
theorem chunk_host : ∀ q : Fin 128, Scalar.select
      (IntOp.andi
        (IntOp.cmpi CmpIPredicate.ne
          (if BitVec.ofNat 32 q.val = 0 then (0 : BitVec 32) else if (BitVec.ofNat 32 q.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 q.val) 64#32) 0#32))
      (IntOp.subi (IntOp.divsi ArithUnit.host (BitVec.ofNat 32 q.val) 64#32) 1#32)
      (IntOp.divsi ArithUnit.host (BitVec.ofNat 32 q.val) 64#32) = BitVec.ofNat 32 (q.val / 64) := by
  decide +kernel

/-- A position's chunk as the kernel's operations give it. -/
theorem chunk_vector : ∀ q : Fin 128, Scalar.select
        (IntOp.andi
          (IntOp.cmpi CmpIPredicate.ne
            (IntOp.subi (BitVec.setWidth 32 (IntOp.cmpi CmpIPredicate.sgt (BitVec.ofNat 32 q.val) 0#32))
              (BitVec.setWidth 32 (IntOp.cmpi CmpIPredicate.slt (BitVec.ofNat 32 q.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 q.val) 64#32) 0#32))
        (IntOp.subi (IntOp.divsi ArithUnit.vector (BitVec.ofNat 32 q.val) 64#32) 1#32)
        (IntOp.divsi ArithUnit.vector (BitVec.ofNat 32 q.val) 64#32) = BitVec.ofNat 32 (q.val / 64) := by
  decide +kernel

theorem v80_at (a : Fin 1) (q : Fin 128) : val_main_v80 (F := Ideal) (ix2 a q) = BitVec.ofNat 32 (q.val / 64) := by
  pointwise [val_main_v80, val_main_call0_v13, val_main_call0_v12, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_c, val_main_call0_c_0, val_main_c, val_main_v79, val_main_v78]
  exact chunk_host q

theorem v82_at (p : Fin 128) (a : Fin 1) : val_main_v82 (F := Ideal) (ix2 p a) = BitVec.ofNat 32 (p.val / 64) := by
  pointwise [val_main_v82, val_main_call1_v13, val_main_call1_v12, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_c, val_main_call1_c_0, val_main_c_19, val_main_v81, val_main_v78]
  exact chunk_host p

theorem v88_1_at (h : Fin 8) (p q : Fin 128) : val_main_v88_1 (F := Ideal) (ix3 h p q) = sees p q := by
  pointwise [val_main_v88_1, val_main_v86, val_main_v85, val_main_v84, val_main_v83, v80_at, v82_at]
  exact sees_eq p q

theorem mask_at (p q : Fin 128) : mask (ix2 p q) = sees p q := by
  unfold mask
  pointwise [Gen.k0_pay12, Gen.k0_pay10, Gen.k0_pay11]
  rw [chunk_vector, chunk_vector]
  exact sees_eq p q

end Cert.MixBwdIdeal.RefValue
-- ==== Proof.MixBlocks.lean ====
/- The mixer's gradient call: what a tile computes is the reference's at the tile's rows. -/
module

public import proofs.«01_k».proof.Proof.MixVals
public import proofs.«01_k».proof.Proof.MixRef
public import proofs.«01_k».proof.Proof.MixMask
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixBwdIdeal.RefValue

open Cert.MixBwdIdeal Cert.MixBwdIdeal.Gen
open Cert.MixRefIdeal.Read Cert.Rows Cert.Reals

variable (m : (ℓ : Loc nD τ sig) → Buf (Elt Ideal) ℓ)

abbrev az (c : Dev nD) : FVec Ideal S2048x4096 .f32 := m ((c : Thread nD τ).loc main_arg0)
abbrev ab (c : Dev nD) : FVec Ideal S4096 .f32 := m ((c : Thread nD τ).loc main_arg1)
abbrev ay (c : Dev nD) : FVec Ideal S2048x2048 .f32 := m ((c : Thread nD τ).loc main_arg2)
abbrev ax (c : Dev nD) : FVec Ideal S2048x2048 .f32 := m ((c : Thread nD τ).loc main_arg3)
abbrev aws (c : Dev nD) : FVec Ideal S8x128x128 .f32 := m ((c : Thread nD τ).loc main_arg4)
abbrev abs (c : Dev nD) : FVec Ideal S8x128 .f32 := m ((c : Thread nD τ).loc main_arg5)
abbrev agg (c : Dev nD) : FVec Ideal S1024 .f32 := m ((c : Thread nD τ).loc main_arg6)
abbrev agb (c : Dev nD) : FVec Ideal S1024 .f32 := m ((c : Thread nD τ).loc main_arg7)
abbrev acw (c : Dev nD) : FVec Ideal S31x1x1024 .f32 := m ((c : Thread nD τ).loc main_arg8)
abbrev acb (c : Dev nD) : FVec Ideal S1024 .f32 := m ((c : Thread nD τ).loc main_arg9)
abbrev acg (c : Dev nD) : FVec Ideal S1024 .f32 := m ((c : Thread nD τ).loc main_arg10)
abbrev acn (c : Dev nD) : FVec Ideal S1024 .f32 := m ((c : Thread nD τ).loc main_arg11)

/-! ## The windows' blocks -/

section Blocks

/-- The block each input window shows at grid point `t`. -/
theorem idx : ∀ t : Fin cfg0.N, win0_0.index t = ![t.val, 0] ∧ win0_1.index t = ![t.val * 8 - 1, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ (grid0.coords t 0).val = t.val :=
  (by decide +kernel : ∀ t : Fin grid0.N, _)

theorem coords_val (t : Fin 8) : (grid0.coords t 0).val = t.val := (idx t).2.2.2.2.2.2.2.2.2.2.2.2.2.2

theorem z_entry (c : Dev nD) (r : Fin 2048) (j : Fin 4096) : V m c main_v2 (ix2 r j) = az m c (ix2 r j) + ab m c (ix1 j) := by
  simp only [V, hostOps0, hostOps0_1, hostOps0_2, List.flatten_cons, List.flatten_nil, List.append_nil, List.cons_append, List.nil_append]
  entry_read
  pointwise

theorem bias_entry (c : Dev nD) (p : Fin 128) (h : Fin 8) (q : Fin 128) : V m c main_v6 (ix2 p (hc h q)) = abs m c (ix2 h p) := by
  simp only [V, hostOps0, hostOps0_1, hostOps0_2, List.flatten_cons, List.flatten_nil, List.append_nil, List.cons_append, List.nil_append]
  entry_read
  have e : ∀ y : FVec Ideal S128x8x128 .f32, shapeCast S128x1024 y shapeCasts_S128x8x128_S128x1024 (ix2 p (hc h q)) = y (ix3 p h q) := fun y => by
    unfold hc
    pointwise
    blk_ext []
  refine (e _).trans ?_
  pointwise

theorem w_entry (c : Dev nD) (k : Fin 31) (j : Fin 1024) : V m c main_v7 (ix2 (⟨k.val, by omega⟩ : Fin 32) j) = acw m c (ix3 k (0 : Fin 1) j) := by
  simp only [V, hostOps0, hostOps0_1, hostOps0_2, List.flatten_cons, List.flatten_nil, List.append_nil, List.cons_append, List.nil_append]
  entry_read
  show pad S32x1024 ![0, 0] ![1, 0] ![0, 0] (shapeCast S31x1024 (acw m c) shapeCasts_S31x1x1024_S31x1024)
    (sitofp (F := Ideal) .f32 (constantI S_ 32 0#32)) pads_S31x1024_S32x1024_010_000 h_S_ (ix2 (⟨k.val, by omega⟩ : Fin 32) j) = _
  pointwise

theorem gg_entry (c : Dev nD) (j : Fin 1024) : V m c main_v8 (ix2 (0 : Fin 1) j) = agg m c (ix1 j) := by
  simp only [V, hostOps0, hostOps0_1, hostOps0_2, List.flatten_cons, List.flatten_nil, List.append_nil, List.cons_append, List.nil_append]
  entry_read
  pointwise

theorem gb_entry (c : Dev nD) (j : Fin 1024) : V m c main_v9 (ix2 (0 : Fin 1) j) = agb m c (ix1 j) := by
  simp only [V, hostOps0, hostOps0_1, hostOps0_2, List.flatten_cons, List.flatten_nil, List.append_nil, List.cons_append, List.nil_append]
  entry_read
  pointwise

theorem cb_entry (c : Dev nD) (j : Fin 1024) : V m c main_v10 (ix2 (0 : Fin 1) j) = acb m c (ix1 j) := by
  simp only [V, hostOps0, hostOps0_1, hostOps0_2, List.flatten_cons, List.flatten_nil, List.append_nil, List.cons_append, List.nil_append]
  entry_read
  pointwise

theorem cg_entry (c : Dev nD) (j : Fin 1024) : V m c main_v11 (ix2 (0 : Fin 1) j) = acg m c (ix1 j) := by
  simp only [V, hostOps0, hostOps0_1, hostOps0_2, List.flatten_cons, List.flatten_nil, List.append_nil, List.cons_append, List.nil_append]
  entry_read
  pointwise

theorem cn_entry (c : Dev nD) (j : Fin 1024) : V m c main_v12 (ix2 (0 : Fin 1) j) = acn m c (ix1 j) := by
  simp only [V, hostOps0, hostOps0_1, hostOps0_2, List.flatten_cons, List.flatten_nil, List.append_nil, List.cons_append, List.nil_append]
  entry_read
  pointwise

theorem pay2_id (x : FVec Ideal S256x4096 .f32) : k0_pay2 (F := Ideal) x = x := shapeCast_self _ _
theorem pay3_id (x : FVec Ideal S32x4096 .f32) : k0_pay3 (F := Ideal) x = x := shapeCast_self _ _
theorem pay4_id (x : FVec Ideal S128x1024 .f32) : k0_pay4 (F := Ideal) x = x := shapeCast_self _ _
theorem pay5_id (x : FVec Ideal S1x1024 .f32) : k0_pay5 (F := Ideal) x = x := shapeCast_self _ _
theorem pay6_id (x : FVec Ideal S1x1024 .f32) : k0_pay6 (F := Ideal) x = x := shapeCast_self _ _
theorem pay7_id (x : FVec Ideal S1x1024 .f32) : k0_pay7 (F := Ideal) x = x := shapeCast_self _ _
theorem pay8_id (x : FVec Ideal S1x1024 .f32) : k0_pay8 (F := Ideal) x = x := shapeCast_self _ _
theorem pay9_id (x : FVec Ideal S1x1024 .f32) : k0_pay9 (F := Ideal) x = x := shapeCast_self _ _

variable (c : Dev nD) (t : Fin 8)

theorem blk_z (r : Fin 256) (j : Fin 4096) : tz m c t (ix2 r j) = az m c (ix2 (row t r) j) + ab m c (ix1 j) := by
  rw [← z_entry]
  refine (congrFun (pay2_id (iblk m c 0 t)) _).trans ?_
  show iblk m c 0 t (ix2 r j) = _
  blk_point [iblk, idx t]
  blk_ext [idx t, row_val]

theorem blk_p (h : 0 < t.val) (r : Fin 32) (j : Fin 4096) :
    tp m c t (ix2 r j) = az m c (ix2 (⟨t.val * 256 - 32 + r.val, by omega⟩ : Fin 2048) j) + ab m c (ix1 j) := by
  rw [← z_entry]
  refine (congrFun (pay3_id (iblk m c 1 t)) _).trans ?_
  show iblk m c 1 t (ix2 r j) = _
  blk_point [iblk, idx t]
  blk_ext [idx t]

theorem blk_y (r : Fin 256) (j : Fin 2048) : ty m c t (ix2 r j) = ay m c (ix2 (row t r) j) := by
  show iblk m c 2 t (ix2 r j) = m ((c : Thread nD τ).loc main_arg2) (ix2 (row t r) j)
  blk_point [iblk, V, idx t]
  blk_ext [idx t, row_val]

theorem blk_x (r : Fin 256) (j : Fin 2048) : tx m c t (ix2 r j) = ax m c (ix2 (row t r) j) := by
  show iblk m c 3 t (ix2 r j) = m ((c : Thread nD τ).loc main_arg3) (ix2 (row t r) j)
  blk_point [iblk, V, idx t]
  blk_ext [idx t, row_val]

theorem blk_ws (h : Fin 8) (p q : Fin 128) : tws m c t (ix3 h p q) = aws m c (ix3 h p q) := by
  show iblk m c 4 t (ix3 h p q) = m ((c : Thread nD τ).loc main_arg4) (ix3 h p q)
  blk_point [iblk, V, idx t]
  blk_ext [idx t]

theorem blk_bias (p : Fin 128) (h : Fin 8) (q : Fin 128) : tbias m c t (ix2 p (hc h q)) = abs m c (ix2 h p) := by
  rw [← bias_entry m c p h q]
  refine (congrFun (pay4_id (iblk m c 5 t)) _).trans ?_
  show iblk m c 5 t (ix2 p (hc h q)) = _
  blk_point [iblk, idx t]
  blk_ext [idx t]

theorem blk_g (j : Fin 1024) : tg m c t (ix2 (0 : Fin 1) j) = agg m c (ix1 j) := by
  rw [← gg_entry]
  refine (congrFun (pay5_id (iblk m c 6 t)) _).trans ?_
  show iblk m c 6 t (ix2 (0 : Fin 1) j) = _
  blk_point [iblk, idx t]
  blk_ext [idx t]

theorem blk_b (j : Fin 1024) : tb m c t (ix2 (0 : Fin 1) j) = agb m c (ix1 j) := by
  rw [← gb_entry]
  refine (congrFun (pay6_id (iblk m c 7 t)) _).trans ?_
  show iblk m c 7 t (ix2 (0 : Fin 1) j) = _
  blk_point [iblk, idx t]
  blk_ext [idx t]

theorem blk_cw (k : Fin 31) (j : Fin 1024) : tcw m c t (ix2 (⟨k.val, by omega⟩ : Fin 32) j) = acw m c (ix3 k (0 : Fin 1) j) := by
  rw [← w_entry]
  show iblk m c 8 t (ix2 (⟨k.val, by omega⟩ : Fin 32) j) = _
  blk_point [iblk, idx t]
  blk_ext [idx t]

theorem blk_cb (j : Fin 1024) : tcb m c t (ix2 (0 : Fin 1) j) = acb m c (ix1 j) := by
  rw [← cb_entry]
  refine (congrFun (pay7_id (iblk m c 9 t)) _).trans ?_
  show iblk m c 9 t (ix2 (0 : Fin 1) j) = _
  blk_point [iblk, idx t]
  blk_ext [idx t]

theorem blk_cg (j : Fin 1024) : tcg m c t (ix2 (0 : Fin 1) j) = acg m c (ix1 j) := by
  rw [← cg_entry]
  refine (congrFun (pay8_id (iblk m c 10 t)) _).trans ?_
  show iblk m c 10 t (ix2 (0 : Fin 1) j) = _
  blk_point [iblk, idx t]
  blk_ext [idx t]

theorem blk_cn (j : Fin 1024) : tcbb m c t (ix2 (0 : Fin 1) j) = acn m c (ix1 j) := by
  rw [← cn_entry]
  refine (congrFun (pay9_id (iblk m c 11 t)) _).trans ?_
  show iblk m c 11 t (ix2 (0 : Fin 1) j) = _
  blk_point [iblk, idx t]
  blk_ext [idx t]

end Blocks

/-! ## A tile's values are the reference's -/

section Gate

variable (c : Dev nD) (t : Fin 8)

/-- The block of all rows that is block `b` of tile `t`. -/
def blockOf (t : Fin 8) (b : Fin 2) : Fin 16 := ⟨t.val * 2 + b.val, by omega⟩

theorem row_rb (t : Fin 8) (b : Fin 2) (p : Fin 128) : row t (rb b p) = nb (blockOf t b) p :=
  Fin.ext (by simp only [row_val, rb, nb, blockOf]; omega)

/-- A sum over the tiles' blocks is the sum over all blocks. -/
theorem sum_blocks {α : Type*} [AddCommMonoid α] (f : Fin 16 → α) : ∑ t : Fin 8, ∑ b : Fin 2, f (blockOf t b) = ∑ n, f n :=
  Fin.sum_mul_add_congr (S := 8) (n := 2) (L := 16) (fun _ _ _ => rfl) rfl

theorem z_pre (o : Fin 4) (r : Fin 256) (j : Fin 1024) : tz m c t (ix2 r (at4 o j)) = pre (az m c) (ab m c) o (row t r) j := blk_z m c t r _

theorem pay15_at (z : FVec Ideal S256x4096 .f32) (r : Fin 256) (j : Fin 1024) : k0_pay15 (F := Ideal) z (ix2 r j) = z (ix2 r (at4 0 j)) := by
  unfold at4
  pointwise [k0_pay15]

theorem pay16_at (z : FVec Ideal S256x4096 .f32) (r : Fin 256) (j : Fin 1024) : k0_pay16 (F := Ideal) z (ix2 r j) = z (ix2 r (at4 1 j)) := by
  unfold at4
  pointwise [k0_pay16]

theorem pay13_at (y : FVec Ideal S256x2048 .f32) (r : Fin 256) (j : Fin 1024) : k0_pay13 (F := Ideal) y (ix2 r j) = y (ix2 r (at2 0 j)) := by
  unfold at2
  pointwise [k0_pay13]

theorem pay14_at (y : FVec Ideal S256x2048 .f32) (r : Fin 256) (j : Fin 1024) : k0_pay14 (F := Ideal) y (ix2 r j) = y (ix2 r (at2 1 j)) := by
  unfold at2
  pointwise [k0_pay14]

theorem gated_eq (r : Fin 256) (j : Fin 1024) :
    gelu (k0_pay16 (F := Ideal) (tz m c t)) (ix2 r j) = gated (az m c) (ab m c) (row t r) j := by
  rw [gelu_at, pay16_at, z_pre]
  rfl

theorem gated_row (r : Fin 256) : (fun k => gelu (k0_pay16 (F := Ideal) (tz m c t)) (ix2 r k)) = gated (az m c) (ab m c) (row t r) :=
  funext fun j => gated_eq m c t r j

theorem vn_eq (r : Fin 256) (j : Fin 1024) :
    tvn m c t (ix2 r j) = val_main_v77 (F := Ideal) (az m c) (ab m c) (agg m c) (agb m c) (ix2 (row t r) j) := by
  refine (lnout_at _ _ _ r j).trans ?_
  rw [v77_at, gated_row]
  exact congrArg₂ (fun g b => Ln.out _ g b j) (funext fun k => blk_g m c t k) (funext fun k => blk_b m c t k)

theorem dsp_eq (r : Fin 256) (j : Fin 1024) :
    tdsp m c t (ix2 r j) = val_main_v98 (F := Ideal) (az m c) (ab m c) (ay m c) (ix2 (row t r) j) := by
  rw [v98_at, mul_comm]
  refine congrArg₂ (· * ·) ((pay13_at _ r j).trans (blk_y m c t r _)) ((gate_at _ r j).trans (congrArg Gelu.val ?_))
  rw [← z_pre m c t 0 r j]
  unfold at4
  blk_ext []

theorem mw_eq (h : Fin 8) (p q : Fin 128) : mw mask (heads (tws m c t)) h (ix2 p q) = val_main_v88_0 (F := Ideal) (aws m c) (ix3 h p q) := by
  rw [mw_at, mask_at, v88_0_at, v88_1_at, heads_at, blk_ws]
  rfl

theorem sp_eq (b : Fin 2) (p : Fin 128) (h : Fin 8) (q : Fin 128) :
    sp (tz m c t) (tws m c t) (tbias m c t) (tg m c t) (tb m c t) (ix2 (rb b p) (hc h q))
      = val_main_v95 (F := Ideal) (az m c) (ab m c) (aws m c) (abs m c) (agg m c) (agb m c) (ix2 (row t (rb b p)) (hc h q)) := by
  refine (stack2_at (mixb mask (heads (tws m c t)) (truncf .bf16 (tvn m c t) bitsLt_bf16_f32) (tbias m c t)) b p _).trans ?_
  refine (mixb_at _ _ _ _ b p h q).trans ?_
  rw [row_rb, v95_at, blk_bias]
  refine congrArg₂ (· + ·) (Finset.sum_congr rfl fun k _ => ?_) rfl
  rw [mw_eq, ← row_rb, ← vn_eq]
  rfl

theorem dvn_eq (r : Fin 256) (j : Fin 1024) :
    tdvn m c t (ix2 r j) = val_main_v108 (F := Ideal) (az m c) (ab m c) (ay m c) (aws m c) (ix2 (row t r) j) := by
  obtain ⟨b, p, rfl⟩ := exists_rb r
  obtain ⟨h, q, rfl⟩ := exists_hc j
  refine (stack2_at (unmixb mask (heads (tws m c t)) (truncf .bf16 (tdsp m c t) bitsLt_bf16_f32)) b p _).trans ?_
  refine (unmixb_at _ _ _ b p h q).trans ?_
  rw [row_rb, v108_at]
  refine Finset.sum_congr rfl fun k _ => ?_
  rw [mw_eq, ← row_rb, ← dsp_eq]
  rfl

/-- The product's first cotangent at a tile. -/
theorem dzu_at (r : Fin 256) (j : Fin 1024) :
    tdzu m c t (ix2 r j) = Gelu.back (ay m c (ix2 (row t r) (at2 0 j))
      * val_main_v95 (F := Ideal) (az m c) (ab m c) (aws m c) (abs m c) (agg m c) (agb m c) (ix2 (row t r) j)) (pre (az m c) (ab m c) 0 (row t r) j) := by
  refine (geluback_at _ _ r j).trans ?_
  rw [pay15_at, z_pre]
  refine congrArg (fun d => Gelu.back d _) (congrArg₂ (· * ·) ((pay13_at _ r j).trans (blk_y m c t r _)) ?_)
  obtain ⟨b, p, rfl⟩ := exists_rb r
  obtain ⟨h, q, rfl⟩ := exists_hc j
  exact sp_eq m c t b p h q

theorem dzv_at (r : Fin 256) (j : Fin 1024) :
    tdzv m c t (ix2 r j) = Gelu.back (Ln.grad (gated (az m c) (ab m c) (row t r))
      (dnorm (az m c) (ab m c) (ay m c) (aws m c) (agg m c) (row t r)) j) (pre (az m c) (ab m c) 1 (row t r) j) := by
  refine (geluback_at _ _ r j).trans ?_
  rw [pay16_at, z_pre]
  refine congrArg (fun d => Gelu.back d _) ((lnback_at _ _ r j).trans ?_)
  rw [gated_row]
  refine congrArg (fun d => Ln.grad _ d j) (funext fun k => ?_)
  refine congrArg₂ (· * ·) (dvn_eq m c t r k) ?_
  rw [← blk_g m c t k]
  generalize tg m c t = y
  pointwise

end Gate

/-! ## The convolution at a tile -/

section Conv

variable (c : Dev nD) (t : Fin 8)

theorem past_tile : ∀ t : Fin 8, Scalar.cmpi CmpIPredicate.sgt (BitVec.ofNat 32 t.val) 0#32 = if 0 < t.val then 1#1 else 0#1 := by decide

/-- The gated product of a row of preactivations. -/
theorem seenRows_at (z : FVec Ideal S256x4096 .f32) (zp : FVec Ideal S32x4096 .f32) (p : Fin 288) (j : Fin 1024) :
    seenRows z zp (ti t) (ix2 p j)
      = if h : p.val < 32 then
          if 0 < t.val then zp (ix2 (⟨p.val, h⟩ : Fin 32) (at4 2 j)) * Ideal.logistic (zp (ix2 (⟨p.val, h⟩ : Fin 32) (at4 3 j))) else 0
        else z (ix2 (⟨p.val - 32, by omega⟩ : Fin 256) (at4 2 j)) * Ideal.logistic (z (ix2 (⟨p.val - 32, by omega⟩ : Fin 256) (at4 3 j))) := by
  unfold seenRows at4 ti
  rw [coords_val]
  pointwise [k0_pay121, k0_pay122, k0_pay123]
  rw [past_tile]
  by_cases h : 0 < t.val <;> simp [h, Scalar.select]

/-- Past its first two rows, what the tile sees is what the reference's convolution sees. -/
theorem seenRows_eq (p : Fin 286) (j : Fin 1024) :
    seenRows (tz m c t) (tp m c t) (ti t) (ix2 (⟨p.val + 2, by omega⟩ : Fin 288) j)
      = val_main_v173 (F := Ideal) (az m c) (ab m c) (ix2 (⟨t.val * 256 + p.val, by omega⟩ : Fin 2078) j) := by
  rw [seenRows_at, v173_at]
  by_cases h : p.val + 2 < 32
  · by_cases h' : 0 < t.val
    · have e : ¬ t.val * 256 + p.val < 30 := by omega
      simp only [h, h', e, dite_true, dite_false, if_true]
      rw [blk_p m c t h', blk_p m c t h']
      have e' : (⟨t.val * 256 - 32 + (p.val + 2), by omega⟩ : Fin 2048) = ⟨t.val * 256 + p.val - 30, by omega⟩ := Fin.ext (by simp only; omega)
      rw [e']
      rfl
    · have e : t.val * 256 + p.val < 30 := by omega
      simp only [h, h', e, dite_true, if_false]
  · have e : ¬ t.val * 256 + p.val < 30 := by omega
    simp only [h, e, dite_false]
    rw [z_pre, z_pre]
    have e' : row t (⟨p.val + 2 - 32, by omega⟩ : Fin 256) = ⟨t.val * 256 + p.val - 30, by omega⟩ := Fin.ext (by simp only [row_val]; omega)
    rw [e']

theorem seenRows_tap (r : Fin 256) (k : Fin 31) (j : Fin 1024) :
    seenRows (tz m c t) (tp m c t) (ti t) (ix2 (⟨r.val + 2 + k.val, by omega⟩ : Fin 288) j)
      = val_main_v173 (F := Ideal) (az m c) (ab m c) (ix2 (⟨(row t r).val + k.val, by omega⟩ : Fin 2078) j) := by
  have e : (⟨r.val + 2 + k.val, by omega⟩ : Fin 288) = ⟨(⟨r.val + k.val, by omega⟩ : Fin 286).val + 2, by simp only; omega⟩ := Fin.ext (by simp only; omega)
  rw [e, seenRows_eq]
  have e' : (⟨t.val * 256 + (⟨r.val + k.val, by omega⟩ : Fin 286).val, by simp only; omega⟩ : Fin 2078) = ⟨(row t r).val + k.val, by omega⟩ :=
    Fin.ext (by simp only [row_val]; omega)
  rw [e']

theorem conv_eq (r : Fin 256) (j : Fin 1024) :
    tconv m c t (ix2 r j) = convd (az m c) (ab m c) (acw m c) (acb m c) (row t r) j := by
  unfold convd
  refine congrArg₂ (· + ·) ((taps_at _ _ r j).trans (Finset.sum_congr rfl fun k _ => ?_)) ?_
  · rw [seenRows_tap, blk_cw]
  · rw [← blk_cb m c t j]
    generalize tcb m c t = y
    pointwise

theorem conv_row (r : Fin 256) : (fun k => tconv m c t (ix2 r k)) = convd (az m c) (ab m c) (acw m c) (acb m c) (row t r) :=
  funext fun k => conv_eq m c t r k

theorem normed_eq (r : Fin 256) (j : Fin 1024) :
    lnout (tconv m c t) (tcg m c t) (tcbb m c t) (ix2 r j)
      = normed (az m c) (ab m c) (acw m c) (acb m c) (acg m c) (acn m c) (row t r) j := by
  refine (lnout_at _ _ _ r j).trans ?_
  rw [conv_row]
  exact congrArg₂ (fun g b => Ln.out _ g b j) (funext fun k => blk_cg m c t k) (funext fun k => blk_cn m c t k)

theorem dact_eq (r : Fin 256) (j : Fin 1024) :
    tdact m c t (ix2 r j) = val_main_v391 (F := Ideal) (az m c) (ab m c) (ay m c) (acw m c) (acb m c) (acg m c) (acn m c) (ix2 (row t r) j) := by
  rw [v391_at, ← normed_eq, ← blk_y, ← pay14_at (ty m c t) r j]
  unfold tdact dact
  show _ = stepBack _ (lnout (conv (tz m c t) (tp m c t) (tcw m c t) (tcb m c t) (ti t)) (tcg m c t) (tcbb m c t) (ix2 r j))
  generalize lnout (conv (tz m c t) (tp m c t) (tcw m c t) (tcb m c t) (ti t)) (tcg m c t) (tcbb m c t) = y
  generalize k0_pay14 (F := Ideal) (ty m c t) = d
  pointwise
  rfl

theorem dconv_eq (r : Fin 256) (j : Fin 1024) :
    tdconv m c t (ix2 r j) = val_main_v422 (F := Ideal) (az m c) (ab m c) (ay m c) (acw m c) (acb m c) (acg m c) (acn m c) (ix2 (row t r) j) := by
  rw [v422_at]
  refine (lnback_at _ _ r j).trans ?_
  refine congrArg₂ (fun x d => Ln.grad x d j) (conv_row m c t r) (funext fun k => ?_)
  refine congrArg₂ (· * ·) (dact_eq m c t r k) ?_
  rw [← blk_cg m c t k]
  generalize tcg m c t = y
  pointwise

end Conv

end Cert.MixBwdIdeal.RefValue
-- ==== Proof.Mix.lean ====
/- The value of the mixer's second half's gradient call against the derivatives of the gate and of the convolution. -/
module

public import proofs.«01_k».proof.Defs
public import proofs.«01_k».proof.Proof.Gen.MixBwdIdeal.Value
public import proofs.«01_k».proof.Proof.Gen.MixRefIdeal.Run
public import proofs.«01_k».proof.Proof.Gen.MixRefIdeal.Read
public import proofs.«01_k».proof.Proof.Rows
public import proofs.«01_k».proof.Proof.Reals
public import proofs.«01_k».proof.Proof.MixBlocks
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixBwdIdeal.RefValue

open Cert.MixBwdIdeal Cert.MixBwdIdeal.Gen
open Cert.MixRefIdeal.Read Cert.Rows Cert.Reals

variable (m : (ℓ : Loc nD τ sig) → Buf (Elt Ideal) ℓ) (c : Dev nD)

/-! ## What is finite -/

/-- What the gated half reads is finite. -/
structure Real : Prop where
  z : ∀ (r j : Fin 2048), IsReal (az m c (ix2 r (⟨j.val, by omega⟩ : Fin 4096)))
  b : ∀ j : Fin 2048, IsReal (ab m c (ix1 (⟨j.val, by omega⟩ : Fin 4096)))
  y : ∀ (r : Fin 2048) (j : Fin 1024), IsReal (ay m c (ix2 r (⟨j.val, by omega⟩ : Fin 2048)))
  ws : ∀ (h : Fin 8) (p q : Fin 128), IsReal (aws m c (ix3 h p q))
  bs : ∀ (h : Fin 8) (p : Fin 128), IsReal (abs m c (ix2 h p))
  gg : ∀ j : Fin 1024, IsReal (agg m c (ix1 j))
  gb : ∀ j : Fin 1024, IsReal (agb m c (ix1 j))

theorem real_of_pre [Cert.Pre_finite_gate.Facts] (h : Cert.Pre_MixBwdIdeal_finite_gate m) : Real m c := by
  obtain ⟨h1, h2, h3, h4, h5, h6, h7⟩ := h c
  refine ⟨fun r j => ?_, fun j => ?_, fun r j => ?_, fun a p q => ?_, fun a p => ?_, fun j => ?_, fun j => ?_⟩
  · have := congrFun h1 (ix2 r j)
    revert this
    pointwise [Cert.Pre_finite_gate.fn, Cert.Pre_finite_gate.fn_part1]
    exact isReal_of_test
  · have := congrFun h2 (ix1 j)
    revert this
    pointwise [Cert.Pre_finite_gate.fn, Cert.Pre_finite_gate.fn_part1]
    exact isReal_of_test
  · have := congrFun h3 (ix2 r j)
    revert this
    pointwise [Cert.Pre_finite_gate.fn, Cert.Pre_finite_gate.fn_part1]
    exact isReal_of_test
  · have := congrFun h4 (ix3 a p q)
    revert this
    pointwise [Cert.Pre_finite_gate.fn, Cert.Pre_finite_gate.fn_part1]
    exact isReal_of_test
  · have := congrFun h5 (ix2 a p)
    revert this
    pointwise [Cert.Pre_finite_gate.fn, Cert.Pre_finite_gate.fn_part1]
    exact isReal_of_test
  · have := congrFun h6 (ix1 j)
    revert this
    pointwise [Cert.Pre_finite_gate.fn, Cert.Pre_finite_gate.fn_part1]
    exact isReal_of_test
  · have := congrFun h7 (ix1 j)
    revert this
    pointwise [Cert.Pre_finite_gate.fn, Cert.Pre_finite_gate.fn_part1]
    exact isReal_of_test

variable {m c} (hr : Real m c)
include hr

theorem real_pre (o : Fin 4) (ho : o.val < 2) (r : Fin 2048) (j : Fin 1024) : IsReal (pre (az m c) (ab m c) o r j) :=
  (hr.z r ⟨o.val * 1024 + j.val, by omega⟩).add (hr.b ⟨o.val * 1024 + j.val, by omega⟩)

theorem real_gated (r : Fin 2048) (j : Fin 1024) : IsReal (gated (az m c) (ab m c) r j) := Gelu.isReal_val (real_pre hr 1 (by decide) r j)

theorem real_y (r : Fin 2048) (j : Fin 1024) : IsReal (ay m c (ix2 r (at2 0 j))) := by
  have e : at2 0 j = (⟨j.val, by omega⟩ : Fin 2048) := Fin.ext (by simp [at2])
  rw [e]
  exact hr.y r j

theorem real_weight (h : Fin 8) (p q : Fin 128) : IsReal (val_main_v88_0 (F := Ideal) (aws m c) (ix3 h p q)) := by
  rw [v88_0_at]
  unfold Scalar.select
  split
  · exact hr.ws h p q
  · exact ⟨0, rfl⟩

theorem real_v95 (r : Fin 2048) (j : Fin 1024) :
    IsReal (val_main_v95 (F := Ideal) (az m c) (ab m c) (aws m c) (abs m c) (agg m c) (agb m c) (ix2 r j)) := by
  obtain ⟨n, p, rfl⟩ := exists_nb r
  obtain ⟨h, q, rfl⟩ := exists_hc j
  rw [v95_at]
  refine (IsReal.sum fun k _ => (real_weight hr h p k).mul ?_).add (hr.bs h p)
  rw [v77_at]
  exact Ln.isReal_out (real_gated hr _) hr.gg hr.gb _

theorem real_v108 (r : Fin 2048) (j : Fin 1024) :
    IsReal (val_main_v108 (F := Ideal) (az m c) (ab m c) (ay m c) (aws m c) (ix2 r j)) := by
  obtain ⟨n, p, rfl⟩ := exists_nb r
  obtain ⟨h, q, rfl⟩ := exists_hc j
  rw [v108_at]
  refine IsReal.sum fun k _ => (real_weight hr h k p).mul ?_
  rw [v98_at]
  exact (Gelu.isReal_val (real_pre hr 0 (by decide) _ _)).mul (real_y hr _ _)

/-! ## The results -/

theorem dzu_eq (t : Fin 8) (r : Fin 256) (j : Fin 1024) :
    tdzu m c t (ix2 r j) = val_main_v164 (F := Ideal) (az m c) (ab m c) (ay m c) (aws m c) (abs m c) (agg m c) (agb m c) (ix2 (row t r) j) := by
  rw [dzu_at, v164_at, Gelu.back_eq ((real_y hr _ _).mul (real_v95 hr _ _)) (real_pre hr 0 (by decide) _ _)]

theorem dzv_eq (t : Fin 8) (r : Fin 256) (j : Fin 1024) :
    tdzv m c t (ix2 r j) = val_main_v152 (F := Ideal) (az m c) (ab m c) (ay m c) (aws m c) (agg m c) (ix2 (row t r) j) := by
  rw [dzv_at, v152_at]
  exact (Gelu.back_eq (Ln.isReal_grad (real_gated hr _) (fun k => (real_v108 hr _ k).mul (hr.gg k)) _) (real_pre hr 1 (by decide) _ _)).symm

theorem dz_at (t : Fin 8) (r : Fin 256) (j : Fin 2048) :
    k0_pay177 (F := Ideal) (tdzu m c t) (tdzv m c t) (ix2 r j)
      = val_main_v622 (F := Ideal) (az m c) (ab m c) (ay m c) (aws m c) (abs m c) (agg m c) (agb m c) (ix2 (row t r) j) := by
  rw [v622_at]
  have e : ∀ x y : FVec Ideal S256x1024 .f32, k0_pay177 (F := Ideal) x y (ix2 r j)
      = if h : j.val < 1024 then x (ix2 r (⟨j.val, h⟩ : Fin 1024)) else y (ix2 r (⟨j.val - 1024, by omega⟩ : Fin 1024)) := fun x y => by
    pointwise [k0_pay177]
  rw [e]
  split
  · exact dzu_eq hr t r _
  · exact dzv_eq hr t r _

theorem final_dz : (dats m 0 c).arrAt 12 cfg0.N
    = val_main_v622 (F := Ideal) (az m c) (ab m c) (ay m c) (aws m c) (abs m c) (agg m c) (agb m c) := by
  refine (dats m 0 c).arrAt_eq_of_covers 12 _ (by decide +kernel) fun t hf y => ?_
  blk_simp
  rw [after0_12, outs_dz]
  obtain ⟨a, b, rfl⟩ : ∃ (a : Fin 256) (b : Fin 2048), y = ix2 a b := ⟨y 0, y 1, eq_ix2 y⟩
  refine (dz_at hr t a b).trans ?_
  blk_ext [idx t]
  exact row_val t a

omit hr
variable (m c)

theorem final_dconv : (dats m 0 c).arrAt 13 cfg0.N
    = val_main_v422 (F := Ideal) (az m c) (ab m c) (ay m c) (acw m c) (acb m c) (acg m c) (acn m c) := by
  refine (dats m 0 c).arrAt_eq_of_covers 13 _ (by decide +kernel) fun t hf y => ?_
  blk_simp
  rw [after0_13, outs_dconv]
  obtain ⟨a, b, rfl⟩ : ∃ (a : Fin 256) (b : Fin 1024), y = ix2 a b := ⟨y 0, y 1, eq_ix2 y⟩
  refine (dconv_eq m c t a b).trans ?_
  blk_ext [idx t]
  exact row_val t a

theorem final_dws : (dats m 0 c).arrAt 14 cfg0.N = val_main_v109 (F := Ideal) (az m c) (ab m c) (ay m c) (agg m c) (agb m c) := by
  refine (dats m 0 c).arrAt_eq_of_after_last 14 t0_7 (by decide +kernel) _ fun j => ?_
  blk_simp
  rw [after0_14]
  obtain ⟨h, p, q, rfl⟩ : ∃ (h : Fin 8) (p q : Fin 128), j = ix3 h p q := ⟨j 0, j 1, j 2, eq_ix3 j⟩
  refine (acc_tdws m c _).trans ?_
  rw [v109_at, v88_1_at]
  have e : ∀ t : Fin 8, tdws m c t (ix3 h p q) = Scalar.select (sees p q)
      (∑ b : Fin 2, ∑ k : Fin 128, val_main_v98 (F := Ideal) (az m c) (ab m c) (ay m c) (ix2 (nb (blockOf t b) p) (hc h k))
        * val_main_v77 (F := Ideal) (az m c) (ab m c) (agg m c) (agb m c) (ix2 (nb (blockOf t b) q) (hc h k))) 0 := fun t => by
    refine (wgrads_at _ _ _ h p q).trans ?_
    rw [mask_at]
    refine congrArg (fun x => Scalar.select (sees p q) x 0) (Finset.sum_congr rfl fun b _ => Finset.sum_congr rfl fun k _ => ?_)
    rw [← row_rb, ← row_rb, ← dsp_eq, ← vn_eq]
    rfl
  simp only [e]
  unfold Scalar.select
  split
  · exact sum_blocks fun n => ∑ k : Fin 128, val_main_v98 (F := Ideal) (az m c) (ab m c) (ay m c) (ix2 (nb n p) (hc h k))
        * val_main_v77 (F := Ideal) (az m c) (ab m c) (agg m c) (agb m c) (ix2 (nb n q) (hc h k))
  · exact Finset.sum_const_zero

theorem final_dbs : (dats m 0 c).arrAt 15 cfg0.N = val_main_v103 (F := Ideal) (az m c) (ab m c) (ay m c) := by
  refine (dats m 0 c).arrAt_eq_of_after_last 15 t0_7 (by decide +kernel) _ fun j => ?_
  blk_simp
  rw [after0_15]
  obtain ⟨p, l, rfl⟩ : ∃ (p : Fin 128) (l : Fin 1024), j = ix2 p l := ⟨j 0, j 1, eq_ix2 j⟩
  obtain ⟨h, q, rfl⟩ := exists_hc l
  refine (acc_tdbs m c _).trans ?_
  rw [v103_at, ← sum_blocks]
  refine Finset.sum_congr rfl fun t _ => (bgrad_at _ p _).trans (Finset.sum_congr rfl fun b _ => ?_)
  rw [dsp_eq, row_rb]

/-- A tile's column sum is the sum over its rows. -/
theorem colsum_eq (x : FVec Ideal S256x1024 .f32) (j : Fin 1024) : colsum x (ix2 (0 : Fin 1) j) = ∑ r, x (ix2 r j) := colsum_at x j

theorem final_dgg : (dats m 0 c).arrAt 16 cfg0.N = val_main_v623 (F := Ideal) (az m c) (ab m c) (ay m c) (aws m c) := by
  refine (dats m 0 c).arrAt_eq_of_after_last 16 t0_7 (by decide +kernel) _ fun j => ?_
  blk_simp
  rw [after0_16]
  obtain ⟨a, j, rfl⟩ : ∃ (a : Fin 1) (b : Fin 1024), j = ix2 a b := ⟨j 0, j 1, eq_ix2 j⟩
  obtain rfl : a = 0 := Subsingleton.elim _ _
  refine (acc_tdgg m c _).trans ?_
  rw [v623_at, ← sum_rows]
  refine Finset.sum_congr rfl fun t _ => (colsum_eq _ j).trans (Finset.sum_congr rfl fun r _ => ?_)
  exact congrArg₂ (· * ·) ((lnhat_at _ r j).trans (congrArg (fun x => Ln.hat x j) (gated_row m c t r))) (dvn_eq m c t r j)

theorem final_dgb : (dats m 0 c).arrAt 17 cfg0.N = val_main_v624 (F := Ideal) (az m c) (ab m c) (ay m c) (aws m c) := by
  refine (dats m 0 c).arrAt_eq_of_after_last 17 t0_7 (by decide +kernel) _ fun j => ?_
  blk_simp
  rw [after0_17]
  obtain ⟨a, j, rfl⟩ : ∃ (a : Fin 1) (b : Fin 1024), j = ix2 a b := ⟨j 0, j 1, eq_ix2 j⟩
  obtain rfl : a = 0 := Subsingleton.elim _ _
  refine (acc_tdgb m c _).trans ?_
  rw [v624_at, ← sum_rows]
  refine Finset.sum_congr rfl fun t _ => (colsum_eq _ j).trans (Finset.sum_congr rfl fun r _ => ?_)
  exact dvn_eq m c t r j

theorem final_dcw : (dats m 0 c).arrAt 18 cfg0.N = val_main_v621 (F := Ideal) (az m c) (ab m c) (ay m c) (acw m c) (acb m c) (acg m c) (acn m c) := by
  refine (dats m 0 c).arrAt_eq_of_after_last 18 t0_7 (by decide +kernel) _ fun j => ?_
  blk_simp
  rw [after0_18]
  obtain ⟨⟨k, hk⟩, j, rfl⟩ : ∃ (k : Fin 32) (b : Fin 1024), j = ix2 k b := ⟨j 0, j 1, eq_ix2 j⟩
  refine (acc_tdcw m c _).trans ?_
  rw [v621_at]
  by_cases h : k < 31
  · rw [dif_pos h, ← sum_rows]
    refine Finset.sum_congr rfl fun t _ => (dtaps_at _ _ ⟨k, h⟩ j).trans (Finset.sum_congr rfl fun r _ => ?_)
    rw [mul_comm, seenRows_tap m c t r ⟨k, h⟩ j, dconv_eq]
  · obtain rfl : k = 31 := by omega
    rw [dif_neg h]
    exact Finset.sum_eq_zero fun t _ => dtaps_last _ _ j

theorem final_dcb : (dats m 0 c).arrAt 19 cfg0.N = val_main_v625 (F := Ideal) (az m c) (ab m c) (ay m c) (acw m c) (acb m c) (acg m c) (acn m c) := by
  refine (dats m 0 c).arrAt_eq_of_after_last 19 t0_7 (by decide +kernel) _ fun j => ?_
  blk_simp
  rw [after0_19]
  obtain ⟨a, j, rfl⟩ : ∃ (a : Fin 1) (b : Fin 1024), j = ix2 a b := ⟨j 0, j 1, eq_ix2 j⟩
  obtain rfl : a = 0 := Subsingleton.elim _ _
  refine (acc_tdcb m c _).trans ?_
  rw [v625_at, ← sum_rows]
  refine Finset.sum_congr rfl fun t _ => (colsum_eq _ j).trans (Finset.sum_congr rfl fun r _ => ?_)
  exact dconv_eq m c t r j

theorem final_dcg : (dats m 0 c).arrAt 20 cfg0.N = val_main_v626 (F := Ideal) (az m c) (ab m c) (ay m c) (acw m c) (acb m c) (acg m c) (acn m c) := by
  refine (dats m 0 c).arrAt_eq_of_after_last 20 t0_7 (by decide +kernel) _ fun j => ?_
  blk_simp
  rw [after0_20]
  obtain ⟨a, j, rfl⟩ : ∃ (a : Fin 1) (b : Fin 1024), j = ix2 a b := ⟨j 0, j 1, eq_ix2 j⟩
  obtain rfl : a = 0 := Subsingleton.elim _ _
  refine (acc_tdcg m c _).trans ?_
  rw [v626_at, ← sum_rows]
  refine Finset.sum_congr rfl fun t _ => (colsum_eq _ j).trans (Finset.sum_congr rfl fun r _ => ?_)
  exact congrArg₂ (· * ·) ((lnhat_at _ r j).trans (congrArg (fun x => Ln.hat x j) (conv_row m c t r))) (dact_eq m c t r j)

theorem final_dcn : (dats m 0 c).arrAt 21 cfg0.N = val_main_v627 (F := Ideal) (az m c) (ab m c) (ay m c) (acw m c) (acb m c) (acg m c) (acn m c) := by
  refine (dats m 0 c).arrAt_eq_of_after_last 21 t0_7 (by decide +kernel) _ fun j => ?_
  blk_simp
  rw [after0_21]
  obtain ⟨a, j, rfl⟩ : ∃ (a : Fin 1) (b : Fin 1024), j = ix2 a b := ⟨j 0, j 1, eq_ix2 j⟩
  obtain rfl : a = 0 := Subsingleton.elim _ _
  refine (acc_tdcn m c _).trans ?_
  rw [v627_at, ← sum_rows]
  refine Finset.sum_congr rfl fun t _ => (colsum_eq _ j).trans (Finset.sum_congr rfl fun r _ => ?_)
  exact dact_eq m c t r j

theorem final_dbo : (dats m 0 c).arrAt 22 cfg0.N = val_main_v628 (F := Ideal) (ax m c) := by
  refine (dats m 0 c).arrAt_eq_of_after_last 22 t0_7 (by decide +kernel) _ fun j => ?_
  blk_simp
  rw [after0_22]
  obtain ⟨a, j, rfl⟩ : ∃ (a : Fin 1) (b : Fin 2048), j = ix2 a b := ⟨j 0, j 1, eq_ix2 j⟩
  obtain rfl : a = 0 := Subsingleton.elim _ _
  refine (acc_tdbo m c _).trans ?_
  rw [v628_at, ← sum_rows]
  exact Finset.sum_congr rfl fun t _ => (colsum2048_at _ j).trans (Finset.sum_congr rfl fun r _ => blk_x m c t r j)

end Cert.MixBwdIdeal.RefValue

namespace Cert.Proof

set_option maxHeartbeats 4000000 in
/-- The call computes the derivatives of the gate and of the convolution, where what the gate reads is finite. -/
theorem mix [Cert.Pre_finite_gate.Facts] : Cert.algebraic_MixBwdIdeal_MixRefIdeal_pre_finite_gate := by
  pair_intro
  · run_from Cert.MixBwdIdeal.Value.run_blocks m g
  · have hr := fun c => Cert.MixBwdIdeal.RefValue.real_of_pre m c (by assumption)
    run_from Cert.MixRefIdeal.Value.run (F := Ideal) m' g'
    all_goals obtain ⟨h0, h1, h2, h3, h4, h5, h6, h7, h8, h9, h10, h11⟩ := hagree c
    · refine (Cert.MixRefIdeal.Read.val_main_v622_eq (F := Ideal) _).trans (Eq.trans ?_ (Cert.MixBwdIdeal.RefValue.final_dz (hr c)).symm)
      exact congr(Cert.MixRefIdeal.Read.val_main_v622 (F := Ideal) $h0 $h1 $h2 $h4 $h5 $h6 $h7)
    · refine (Cert.MixRefIdeal.Read.val_main_v422_eq (F := Ideal) _).trans (Eq.trans ?_ (Cert.MixBwdIdeal.RefValue.final_dconv m c).symm)
      exact congr(Cert.MixRefIdeal.Read.val_main_v422 (F := Ideal) $h0 $h1 $h2 $h8 $h9 $h10 $h11)
    · refine (Cert.MixRefIdeal.Read.val_main_v109_eq (F := Ideal) _).trans (Eq.trans ?_ (Cert.MixBwdIdeal.RefValue.final_dws m c).symm)
      exact congr(Cert.MixRefIdeal.Read.val_main_v109 (F := Ideal) $h0 $h1 $h2 $h6 $h7)
    · refine (Cert.MixRefIdeal.Read.val_main_v103_eq (F := Ideal) _).trans (Eq.trans ?_ (Cert.MixBwdIdeal.RefValue.final_dbs m c).symm)
      exact congr(Cert.MixRefIdeal.Read.val_main_v103 (F := Ideal) $h0 $h1 $h2)
    · refine (Cert.MixRefIdeal.Read.val_main_v623_eq (F := Ideal) _).trans (Eq.trans ?_ (Cert.MixBwdIdeal.RefValue.final_dgg m c).symm)
      exact congr(Cert.MixRefIdeal.Read.val_main_v623 (F := Ideal) $h0 $h1 $h2 $h4)
    · refine (Cert.MixRefIdeal.Read.val_main_v624_eq (F := Ideal) _).trans (Eq.trans ?_ (Cert.MixBwdIdeal.RefValue.final_dgb m c).symm)
      exact congr(Cert.MixRefIdeal.Read.val_main_v624 (F := Ideal) $h0 $h1 $h2 $h4)
    · refine (Cert.MixRefIdeal.Read.val_main_v621_eq (F := Ideal) _).trans (Eq.trans ?_ (Cert.MixBwdIdeal.RefValue.final_dcw m c).symm)
      exact congr(Cert.MixRefIdeal.Read.val_main_v621 (F := Ideal) $h0 $h1 $h2 $h8 $h9 $h10 $h11)
    · refine (Cert.MixRefIdeal.Read.val_main_v625_eq (F := Ideal) _).trans (Eq.trans ?_ (Cert.MixBwdIdeal.RefValue.final_dcb m c).symm)
      exact congr(Cert.MixRefIdeal.Read.val_main_v625 (F := Ideal) $h0 $h1 $h2 $h8 $h9 $h10 $h11)
    · refine (Cert.MixRefIdeal.Read.val_main_v626_eq (F := Ideal) _).trans (Eq.trans ?_ (Cert.MixBwdIdeal.RefValue.final_dcg m c).symm)
      exact congr(Cert.MixRefIdeal.Read.val_main_v626 (F := Ideal) $h0 $h1 $h2 $h8 $h9 $h10 $h11)
    · refine (Cert.MixRefIdeal.Read.val_main_v627_eq (F := Ideal) _).trans (Eq.trans ?_ (Cert.MixBwdIdeal.RefValue.final_dcn m c).symm)
      exact congr(Cert.MixRefIdeal.Read.val_main_v627 (F := Ideal) $h0 $h1 $h2 $h8 $h9 $h10 $h11)
    · exact (Cert.MixBwdIdeal.RefValue.final_dbo m c).symm

end Cert.Proof
-- ==== Proof.RmsGrad.lean ====
/- The derivative of the root-mean-square norm along one row, as the extended reals read it. -/
module

public import Idealize.ShloMosaic.Lib.Claim
public import Idealize.ShloMosaic.Lib.Pointwise

@[expose] public section

noncomputable section

open Idealize.ShloMosaic

namespace Cert.Rms

variable {n : ℕ} (x dy : Fin n → EReal)

/-- The number of columns. -/
abbrev width : EReal := Ideal.ofBits .f32 1157627904#32

/-- The mean of a row's squares, with the small number added. -/
def meanSq : EReal := Ideal.div (∑ k, x k * x k) width + Ideal.ofBits .f32 897988541#32

/-- The factor that norms a row. -/
def scale : EReal := Ideal.rsqrt (meanSq x)

/-- What the factor's derivative adds at every column, before the column's own element. -/
def slope : EReal :=
  ∑ _ : Fin 1, Ideal.div ((∑ k, x k * dy k) * (Ideal.ofBits .f32 3204448256#32 * Ideal.div (scale x) (meanSq x))) width

/-- The norm's derivative along a row, at the cotangent `dy` of the row normed and not yet weighted. -/
def grad (j : Fin n) : EReal := dy j * scale x + x j * slope x dy + slope x dy * x j

/-- The derivative in the norm's weight that a row adds, at the cotangent `d`. -/
def wgrad (d : Fin n → EReal) (j : Fin n) : EReal := x j * scale x * d j

end Cert.Rms
-- ==== Proof.PoolWindow.lean ====
/- Sums over a window of rows, taken as differences of running sums, and the window's row counts. -/
module

public import proofs.«01_k».proof.Proof.Reals
public import Idealize.ShloMosaic.Lib.Claim
public import Idealize.ShloMosaic.Lib.Pointwise

@[expose] public section

set_option maxRecDepth 16384

noncomputable section

open Idealize.ShloMosaic
open Cert.Reals

namespace Cert.Window

/-- Summing the differences of a sequence and itself `w` places on leaves the first `w` terms and the last. -/
theorem sum_diff (g : ℕ → ℝ) (w n : ℕ) :
    ∑ k ∈ Finset.range n, (g k - g (k + w)) = ∑ k ∈ Finset.range w, g k - ∑ k ∈ Finset.range w, g (n + k) := by
  induction n with
  | zero => simp
  | succ n ih =>
    have h := (Finset.sum_range_succ' (fun k => g (n + k)) w).symm.trans (Finset.sum_range_succ (fun k => g (n + k)) w)
    rw [Finset.sum_range_succ, ih]
    have e : ∀ k, g (n + 1 + k) = g (n + (k + 1)) := fun k => by congr 1; omega
    simp only [e]
    simp only [add_zero] at h
    linarith

/-- The running sum from row `r` down, of what a row adds and the row `w` further takes off. -/
theorem suffix (e : ℕ → EReal) (hr : ∀ q, IsReal (e q)) (h0 : ∀ q, 2048 ≤ q → e q = 0) (w r : ℕ) :
    ∑ k : Fin 2048, (if r + k.val < 2048 then e (r + k.val) + -e (r + k.val + w) else 0) = ∑ i ∈ Finset.range w, e (r + i) := by
  choose f hf using hr
  have f0 : ∀ q, 2048 ≤ q → f q = 0 := fun q h => by
    have := h0 q h
    rw [hf] at this
    exact_mod_cast this
  rw [Finset.sum_range fun i => e (r + i), ← Finset.sum_range fun k => if r + k < 2048 then e (r + k) + -e (r + k + w) else 0,
    ← Finset.sum_range fun i => e (r + i)]
  have step : ∀ k, (if r + k < 2048 then e (r + k) + -e (r + k + w) else 0) = ((f (r + k) - f (r + (k + w)) : ℝ) : EReal) := fun k => by
    by_cases h : r + k < 2048
    · rw [if_pos h, hf, hf, ← add_assoc r, EReal.coe_sub, sub_eq_add_neg]
    · rw [if_neg h, f0 _ (by omega), f0 _ (by omega)]; simp
  rw [Finset.sum_congr rfl fun k _ => step k]
  simp only [hf]
  rw [← coe_sum, ← coe_sum, sum_diff (fun k => f (r + k)) w 2048]
  rw [Finset.sum_eq_zero (s := Finset.range w) (f := fun k => f (r + (2048 + k))) fun k _ => f0 _ (by omega), sub_zero]

/-- The rows a window of `w` rows that ends at row `q` holds. -/
def count (w q : ℕ) : EReal := (((min (q + 1) w : ℕ) : ℝ) : EReal)

theorem isReal_div_count {x : EReal} (h : IsReal x) {w q : ℕ} (hw : 0 < w) : IsReal (Ideal.div x (count w q)) := by
  have : ((min (q + 1) w : ℕ) : ℝ) ≠ 0 := by
    have : min (q + 1) w ≠ 0 := by omega
    exact_mod_cast this
  unfold count
  rw [Ideal.div_coe this]
  exact h.mul (isReal_coe _)

/-- The count in floats: the smaller of the row's number and the window's width. -/
theorem count_float {w q : ℕ} (hq : q < 2048) {b : BitVec 32} (hb : Ideal.ofBits .f32 b = ((w : ℝ) : EReal)) :
    min (1 + FloatOps.sitofp (F := Ideal) .f32 (BitVec.ofNat 32 q)) (Ideal.ofBits .f32 b) = count w q := by
  have e : (BitVec.ofNat 32 q).toInt = (q : ℤ) := by
    rw [BitVec.toInt_eq_toNat_of_lt] <;> rw [BitVec.toNat_ofNat] <;> omega
  have s : FloatOps.sitofp (F := Ideal) .f32 (BitVec.ofNat 32 q) = ((q : ℝ) : EReal) := by
    show ((((BitVec.ofNat 32 q).toInt : ℤ) : ℝ) : EReal) = _
    rw [e]; simp
  rw [s, hb]
  unfold count
  rw [Nat.cast_min, ← EReal.coe_one, ← EReal.coe_add]
  rw [← EReal.coe_strictMono.monotone.map_min]
  congr 2
  push_cast
  ring

/-- The count in words. -/
theorem count_word {w q : ℕ} (hq : q < 4096) (hw : w < 4096) {x : BitVec 32} (hx : x = BitVec.ofNat 32 (q + 1)) :
    FloatOps.sitofp (F := Ideal) .f32 (IntOp.minsi x (BitVec.ofNat 32 w)) = count w q := by
  have e : ∀ n, n < 5000 → (BitVec.ofNat 32 n).toInt = (n : ℤ) := fun n hn => by
    rw [BitVec.toInt_eq_toNat_of_lt] <;> rw [BitVec.toNat_ofNat] <;> omega
  subst hx
  have : IntOp.minsi (BitVec.ofNat 32 (q + 1)) (BitVec.ofNat 32 w) = BitVec.ofNat 32 (min (q + 1) w) := by
    unfold IntOp.minsi
    rw [BitVec.slt_eq_decide, e _ (by omega), e _ (by omega)]
    by_cases h : q + 1 < w
    · rw [if_pos (by simpa using by exact_mod_cast h), min_eq_left h.le]
    · rw [if_neg (by simpa using by exact_mod_cast not_lt.mp h), min_eq_right (not_lt.mp h)]
  rw [this]
  show ((((BitVec.ofNat 32 (min (q + 1) w)).toInt : ℤ) : ℝ) : EReal) = _
  rw [e _ (by omega)]
  rfl

theorem two : Ideal.ofBits .f32 1073741824#32 = (((2 : ℕ) : ℝ) : EReal) := by
  simp [Ideal.ofBits, Ideal.ieee]; rw [← EReal.coe_mul]; norm_num
theorem four : Ideal.ofBits .f32 1082130432#32 = (((4 : ℕ) : ℝ) : EReal) := by
  simp [Ideal.ofBits, Ideal.ieee]; rw [← EReal.coe_mul]; norm_num
theorem eight : Ideal.ofBits .f32 1090519040#32 = (((8 : ℕ) : ℝ) : EReal) := by
  simp [Ideal.ofBits, Ideal.ieee]; rw [← EReal.coe_mul]; norm_num
theorem sixteen : Ideal.ofBits .f32 1098907648#32 = (((16 : ℕ) : ℝ) : EReal) := by
  simp [Ideal.ofBits, Ideal.ieee]; rw [← EReal.coe_mul]; norm_num

/-- The width of a column's window: four groups of columns, each twice as wide as the one before. -/
def width (j : ℕ) : ℕ := if j < 512 then 2 else if j < 1024 then 4 else if j < 1536 then 8 else 16

theorem width_pos (j : ℕ) : 0 < width j := by unfold width; split_ifs <;> omega

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- One position of the window: the element below the row by that much, or nothing past the end. -/
theorem window_point {T D n : ℕ} (x : (⟨2, ![T, D]⟩ : Shape).Idx → EReal) (r : Fin T) (j : Fin D) (i : (⟨2, ![n, 1]⟩ : Shape).Idx)
    [Decidable (∀ a : Fin 2, ![0, 0] a ≤ (ix2 r j a).val * ![1, 1] a + (i a).val
        ∧ (ix2 r j a).val * ![1, 1] a + (i a).val - ![0, 0] a < (⟨2, ![T, D]⟩ : Shape).size a)] :
    (if hin : ∀ a : Fin 2, ![0, 0] a ≤ (ix2 r j a).val * ![1, 1] a + (i a).val
        ∧ (ix2 r j a).val * ![1, 1] a + (i a).val - ![0, 0] a < (⟨2, ![T, D]⟩ : Shape).size a then
      x (fun a => ⟨(ix2 r j a).val * ![1, 1] a + (i a).val - ![0, 0] a, (hin a).2⟩) else (0 : EReal))
      = if h : r.val + (i 0).val < T then (x (ix2 (⟨r.val + (i 0).val, h⟩ : Fin T) j) : EReal) else (0 : EReal) := by
  obtain ⟨a, b, rfl⟩ : ∃ (a : Fin n) (b : Fin 1), i = ix2 a b := ⟨i 0, i 1, eq_ix2 i⟩
  have hb : b.val = 0 := by omega
  show _ = if h : r.val + a.val < T then (x (ix2 (⟨r.val + a.val, h⟩ : Fin T) j) : EReal) else (0 : EReal)
  by_cases hr : r.val + a.val < T
  · have hin : ∀ d : Fin 2, ![0, 0] d ≤ (ix2 r j d).val * ![1, 1] d + (ix2 a b d).val
        ∧ (ix2 r j d).val * ![1, 1] d + (ix2 a b d).val - ![0, 0] d < (⟨2, ![T, D]⟩ : Shape).size d := fun d => by
      fin_cases d
      · simpa using hr
      · simp [hb]
    rw [dif_pos hin]
    rw [dif_pos hr]
    refine congrArg x (funext fun d => ?_)
    refine Fin.ext ?_
    fin_cases d
    · simp
    · simp [hb]
  · rw [dif_neg fun hin => hr (by simpa using (hin 0).2)]
    rw [dif_neg hr]

/-- The host's running sum from a row down, element by element. -/
theorem running_at {T D p n : ℕ} (x : FVec Ideal ⟨2, ![T, D]⟩ .f32) (init : FVec Ideal ⟨0, ![]⟩ .f32)
    (h : (⟨2, ![T, D]⟩ : Shape).ReduceWindows ![n, 1] ![1, 1] ![0, 0] ![p, 0] ⟨2, ![T, D]⟩) (hu : 0 < (⟨0, ![]⟩ : Shape).numel)
    (h0 : init (Shape.Idx.first hu) = (0 : EReal)) (r : Fin T) (j : Fin D) :
    Host.reduceWindowAdd (F := Ideal) (t := ⟨2, ![T, D]⟩) ![n, 1] ![1, 1] ![0, 0] ![p, 0] x init h hu (ix2 r j)
      = ∑ k : Fin n, (if h : r.val + k.val < T then x (ix2 (⟨r.val + k.val, h⟩ : Fin T) j) else (0 : EReal)) := by
  show List.foldl (fun acc e => acc + _) (init (Shape.Idx.first hu)) (List.finRange _) = _
  rw [foldl_add, h0, zero_add, ← Fin.sum_univ_def]
  refine Eq.trans (b := ∑ i : (⟨2, ![n, 1]⟩ : Shape).Idx,
    (if h : r.val + (i 0).val < T then x (ix2 (⟨r.val + (i 0).val, h⟩ : Fin T) j) else (0 : EReal))) ?_ ?_
  · rw [← Equiv.sum_comp (Shape.rowMajor ⟨2, ![n, 1]⟩).symm]
    refine Finset.sum_congr rfl fun k _ => ?_
    exact @window_point T D n x r j ((Shape.rowMajor ⟨2, ![n, 1]⟩).symm k) (Nat.decidableForallFin _)
  · rw [sum_idx2]
    exact Finset.sum_congr rfl fun a _ => by rw [Finset.univ_unique, Finset.sum_singleton]; rfl

end Cert.Window
-- ==== Proof.Pool.lean ====
/- The value of the pooling mixer's gradient call against the derivative of the pooling and its norm. -/
module

public import proofs.«01_k».proof.Defs
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.Rows
public import proofs.«01_k».proof.Proof.Reals
public import proofs.«01_k».proof.Proof.RmsGrad
public import proofs.«01_k».proof.Proof.PoolWindow
public import Idealize.ShloMosaic.Lib.KernelVsHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolBwdIdeal.RefValue

open Cert.PoolBwdIdeal Cert.PoolBwdIdeal.Gen
open Cert.PoolRefIdeal.Read Cert.Rows Cert.Reals Cert.Window

/-- A cotangent over its window's row count; nothing past the last row. -/
def share (x : FVec Ideal S2048x2048 .f32) (j : Fin 2048) (q : ℕ) : EReal :=
  if h : q < 2048 then Ideal.div (x (ix2 (⟨q, h⟩ : Fin 2048) j)) (count (width j.val) q) else 0

theorem share_real {x : FVec Ideal S2048x2048 .f32} (hx : ∀ i, IsReal (x i)) (j : Fin 2048) (q : ℕ) : IsReal (share x j q) := by
  unfold share
  split_ifs with h
  · exact isReal_div_count (hx _) (width_pos _)
  · exact ⟨0, by simp⟩

theorem share_past (x : FVec Ideal S2048x2048 .f32) (j : Fin 2048) (q : ℕ) (h : 2048 ≤ q) : share x j q = 0 :=
  dif_neg (by omega)

/-- The pooling's derivative: the shares of the windows a row lies in, less the cotangent itself. -/
def pooled (x : FVec Ideal S2048x2048 .f32) (q j : Fin 2048) : EReal :=
  ∑ i ∈ Finset.range (width j.val), share x j (q.val + i) - x (ix2 q j)

section Tile

/-- A block added to itself moved up by some rows. -/
def twice (k : BitVec 32) (x : FVec Ideal S288x512 .f32) : FVec Ideal S288x512 .f32 := addf x (dynamicRotate 0 k none x rotates_S288x512_d0)

theorem rotated_at (n : ℕ) (hn : n ≤ 8) (x : FVec Ideal S288x512 .f32) (r : ℕ) (h : r + n < 288) (d : Fin 512) :
    dynamicRotate 0 (BitVec.ofNat 32 (288 - n)) none x rotates_S288x512_d0 (ix2 (⟨r, by omega⟩ : Fin 288) d) = x (ix2 (⟨r + n, h⟩ : Fin 288) d) := by
  refine dynamicRotate_apply 0 _ x _ _ _ fun b => ?_
  have e : (BitVec.ofNat 32 (288 - n)).toNat = 288 - n := by rw [BitVec.toNat_ofNat]; omega
  fin_cases b
  · show r + n = (r + 288 - (BitVec.ofNat 32 (288 - n)).toNat % 288) % 288
    rw [e]
    by_cases h0 : n = 0
    · subst h0; simp; omega
    · omega
  · rfl

/-- The block's row `r` holds the sum of `n` terms from the `r`-th on, as far as there are so many. -/
def Holds (x : FVec Ideal S288x512 .f32) (e : ℕ → EReal) (d : Fin 512) (n : ℕ) : Prop :=
  ∀ (r : ℕ) (h : r + n ≤ 288) (hr : r < 288), x (ix2 (⟨r, hr⟩ : Fin 288) d) = ∑ i ∈ Finset.range n, e (r + i)

theorem twice_holds {x : FVec Ideal S288x512 .f32} {e : ℕ → EReal} {d : Fin 512} {n : ℕ} (hn : n ≤ 8) (hx : Holds x e d n) :
    Holds (twice (BitVec.ofNat 32 (288 - n)) x) e d (n + n) := by
  intro r h hr
  show x _ + dynamicRotate 0 (BitVec.ofNat 32 (288 - n)) none x rotates_S288x512_d0 _ = _
  by_cases h0 : r + n < 288
  · rw [rotated_at n hn x r h0, hx r (by omega), hx (r + n) (by omega), Finset.sum_range_add]
    simp only [add_assoc]
  · have : n = 0 := by omega
    omega

theorem pay8_eq (a : BitVec 32) (v1 : FVec Ideal S32x2048 .f32) (v39 : FVec Ideal S256x2048 .f32) :
    k0_pay8 (F := Ideal) a v1 v39 = twice 287#32 (extractStridedSlice S288x512 ![0, 0] (k0_pay7 a v1 v39) slices_S288x2048_o0_0_S288x512) := rfl

theorem pay9_eq (a : BitVec 32) (v1 : FVec Ideal S32x2048 .f32) (v39 : FVec Ideal S256x2048 .f32) :
    k0_pay9 (F := Ideal) a v1 v39 = twice 287#32 (extractStridedSlice S288x512 ![0, 512] (k0_pay7 a v1 v39) slices_S288x2048_o0_512_S288x512) := rfl

theorem pay10_eq (v0 : FVec Ideal S256x2048 .f32) (c : FVec Ideal S288x2048 .f32) (p q : FVec Ideal S288x512 .f32) :
    k0_pay10 (F := Ideal) v0 c p q 286#32 = subf (extractStridedSlice S256x2048 ![0, 0] (concatenate S288x2048 1 [⟨S288x512, p⟩, ⟨S288x512, twice 286#32 q⟩,
      ⟨S288x512, twice 284#32 (twice 286#32 (twice 287#32 (extractStridedSlice S288x512 ![0, 1024] c slices_S288x2048_o0_1024_S288x512)))⟩,
      ⟨S288x512, twice 280#32 (twice 284#32 (twice 286#32 (twice 287#32 (extractStridedSlice S288x512 ![0, 1536] c slices_S288x2048_o0_1536_S288x512))))⟩]
      concatenates_S288x512_S288x512_S288x512_S288x512_S288x2048_d1) slices_S288x2048_o0_0_S256x2048) v0 := rfl

theorem groups_at (v0 : FVec Ideal S256x2048 .f32) (b0 b1 b2 b3 : FVec Ideal S288x512 .f32) (r : Fin 256) (j : Fin 2048) :
    subf (F := Ideal) (extractStridedSlice S256x2048 ![0, 0] (concatenate S288x2048 1 [⟨S288x512, b0⟩, ⟨S288x512, b1⟩, ⟨S288x512, b2⟩, ⟨S288x512, b3⟩]
      concatenates_S288x512_S288x512_S288x512_S288x512_S288x2048_d1) slices_S288x2048_o0_0_S256x2048) v0 (ix2 r j)
      = (if h : j.val < 512 then b0 (ix2 (⟨r.val, by omega⟩ : Fin 288) (⟨j.val, h⟩ : Fin 512))
        else if h1 : j.val - 512 < 512 then b1 (ix2 (⟨r.val, by omega⟩ : Fin 288) (⟨j.val - 512, h1⟩ : Fin 512))
        else if h2 : j.val - 512 - 512 < 512 then b2 (ix2 (⟨r.val, by omega⟩ : Fin 288) (⟨j.val - 512 - 512, h2⟩ : Fin 512))
        else b3 (ix2 (⟨r.val, by omega⟩ : Fin 288) (⟨j.val - 512 - 512 - 512, by omega⟩ : Fin 512))) - v0 (ix2 r j) := by
  pointwise

theorem windows_at (v0 : FVec Ideal S256x2048 .f32) (a : BitVec 32) (v1 : FVec Ideal S32x2048 .f32) (v39 : FVec Ideal S256x2048 .f32)
    (r : Fin 256) (j : Fin 2048) (e : ℕ → EReal) (he : ∀ p : Fin 288, k0_pay7 (F := Ideal) a v1 v39 (ix2 p j) = e p.val) :
    k0_pay10 (F := Ideal) v0 (k0_pay7 a v1 v39) (k0_pay8 a v1 v39) (k0_pay9 a v1 v39) 286#32 (ix2 r j)
      = ∑ i ∈ Finset.range (width j.val), e (r.val + i) - v0 (ix2 r j) := by
  rw [pay10_eq, pay8_eq, pay9_eq, groups_at]
  congr 1
  have base : ∀ (o : ℕ) (hs) (d : Fin 512) (hd : o + d.val = j.val),
      Holds (extractStridedSlice S288x512 ![0, o] (k0_pay7 (F := Ideal) a v1 v39) hs) e d 1 := fun o hs d hd r h hr => by
    rw [Finset.sum_range_one, add_zero, ← he ⟨r, hr⟩]
    show k0_pay7 (F := Ideal) a v1 v39 _ = _
    congr 1
    funext b
    refine Fin.ext ?_
    fin_cases b
    · show 0 + r = r
      omega
    · exact hd
  split_ifs with h h1 h2
  · rw [show width j.val = 1 + 1 by unfold width; split_ifs <;> omega]
    exact twice_holds (by omega) (base 0 _ ⟨j.val, h⟩ (by simp)) r.val (by omega) _
  · rw [show width j.val = (1 + 1) + (1 + 1) by unfold width; split_ifs <;> omega]
    exact twice_holds (by omega) (twice_holds (by omega) (base 512 _ ⟨j.val - 512, h1⟩ (by simp; omega))) r.val (by omega) _
  · rw [show width j.val = ((1 + 1) + (1 + 1)) + ((1 + 1) + (1 + 1)) by unfold width; split_ifs <;> omega]
    exact twice_holds (by omega) (twice_holds (by omega) (twice_holds (by omega) (base 1024 _ ⟨j.val - 512 - 512, h2⟩ (by simp; omega)))) r.val (by omega) _
  · rw [show width j.val = (((1 + 1) + (1 + 1)) + ((1 + 1) + (1 + 1))) + (((1 + 1) + (1 + 1)) + ((1 + 1) + (1 + 1))) by unfold width; split_ifs <;> omega]
    exact twice_holds (by omega) (twice_holds (by omega) (twice_holds (by omega) (twice_holds (by omega)
      (base 1536 _ ⟨j.val - 512 - 512 - 512, by omega⟩ (by simp; omega))))) r.val (by omega) _

theorem counts_at (v0 : FVec Ideal S256x2048 .f32) (i : grid0.Coords) (hi : (i 0).val < 8) (r : Fin 256) (j : Fin 2048) :
    k0_pay6 (F := Ideal) i v0 (ix2 r j) = Ideal.div (v0 (ix2 r j)) (count (width j.val) ((i 0).val * 256 + r.val)) := by
  have hw : IntOp.addi (IntOp.addi (Scalar.muli (BitVec.ofNat 32 (i 0).val) 256#32) (BitVec.ofNat 32 r.val)) 1#32
      = BitVec.ofNat 32 ((i 0).val * 256 + r.val + 1) := by
    show BitVec.ofNat 32 (i 0).val * 256#32 + BitVec.ofNat 32 r.val + 1#32 = _
    simp [BitVec.ofNat_add, BitVec.ofNat_mul]
  pointwise [k0_pay6]
  rw [hw]
  congr 1
  have c := fun w hw' => count_word (w := w) (q := (i 0).val * 256 + r.val) (by omega) hw' rfl
  unfold width
  split_ifs <;> first | exact c _ (by omega) | omega

theorem next_at (v1 : FVec Ideal S32x2048 .f32) (v39 : FVec Ideal S256x2048 .f32) (t : ℕ) (ht : t < 8) (p : Fin 288) (j : Fin 2048) :
    k0_pay7 (F := Ideal) (BitVec.ofNat 32 t) v1 v39 (ix2 p j)
      = if h : p.val < 256 then v39 (ix2 (⟨p.val, h⟩ : Fin 256) j)
        else if t < 7 then Ideal.div (v1 (ix2 (⟨p.val - 256, by omega⟩ : Fin 32) j)) (count (width j.val) (t * 256 + p.val)) else 0 := by
  have slt7 : ∀ t : Fin 8, Scalar.cmpi CmpIPredicate.slt (BitVec.ofNat 32 t.val) 7#32 = if t.val < 7 then 1#1 else 0#1 := by decide
  by_cases hp : p.val < 256
  · pointwise [k0_pay7]
    simp only [hp, dite_true]
  have hw : IntOp.addi (IntOp.addi (Scalar.muli (Scalar.addi (BitVec.ofNat 32 t) 1#32) 256#32) (BitVec.ofNat 32 (p.val - 256))) 1#32
      = BitVec.ofNat 32 (t * 256 + p.val + 1) := by
    show (BitVec.ofNat 32 t + 1#32) * 256#32 + BitVec.ofNat 32 (p.val - 256) + 1#32 = _
    have : t * 256 + p.val + 1 = (t + 1) * 256 + (p.val - 256) + 1 := by omega
    rw [this]
    simp [BitVec.ofNat_add, BitVec.ofNat_mul]
  have c := fun w hw' => count_word (w := w) (q := t * 256 + p.val) (by omega) hw' rfl
  pointwise [k0_pay7]
  rw [hw]
  simp only [hp, dite_false]
  have s := slt7 ⟨t, ht⟩
  simp only at s
  rw [s]
  by_cases h7 : t < 7
  · simp only [h7, if_true, Scalar.select]
    refine (if_pos rfl).trans ?_
    congr 1
    unfold width
    split_ifs <;> first | exact c _ (by omega) | omega
  · simp [h7, Scalar.select]

end Tile

section Reference

open Cert.PoolRefIdeal

variable (x : FVec Ideal S2048x2048 .f32)

theorem v117_at (q : Fin 2048) (d : Fin 512) :
    val_main_v117 (F := Ideal) x (ix2 q d)
      = share x (⟨d.val, by omega⟩ : Fin 2048) q.val + -share x (⟨d.val, by omega⟩ : Fin 2048) (q.val + 2) := by
  have w : width (d.val) = 2 := by unfold width; split_ifs <;> omega
  unfold share
  simp only [w, add_comm q.val]
  pointwise [val_main_v117, val_main_v116, val_main_v114, val_main_v113, val_main_v112, val_main_v111, val_main_v70, val_main_v28, val_main_v27, val_main_cst_6, val_main_cst_26, val_main_v20, val_main_v19, val_main_v18, val_main_v17, val_main_cst_3]
  have c := count_float q.isLt two
  rw [c]
  congr 1
  by_cases h : 2 + q.val < 2048
  · have c' := count_float h two
    simp only [h, dite_true, c']
  · simp only [h, dite_false]
    exact (show -(0 : EReal) = 0 by simp).symm

theorem v105_at (q : Fin 2048) (d : Fin 512) :
    val_main_v105 (F := Ideal) x (ix2 q d)
      = share x (⟨512 + d.val, by omega⟩ : Fin 2048) q.val + -share x (⟨512 + d.val, by omega⟩ : Fin 2048) (q.val + 4) := by
  have w : width (512 + d.val) = 4 := by unfold width; split_ifs <;> omega
  unfold share
  simp only [w, add_comm q.val]
  pointwise [val_main_v105, val_main_v104, val_main_v102, val_main_v101, val_main_v100, val_main_v99, val_main_v71, val_main_v40, val_main_v39, val_main_cst_9, val_main_cst_23, val_main_v20, val_main_v19, val_main_v18, val_main_v17, val_main_cst_3]
  have c := count_float q.isLt four
  rw [c]
  congr 1
  by_cases h : 4 + q.val < 2048
  · have c' := count_float h four
    simp only [h, dite_true, c']
  · simp only [h, dite_false]
    exact (show -(0 : EReal) = 0 by simp).symm

theorem v93_at (q : Fin 2048) (d : Fin 512) :
    val_main_v93 (F := Ideal) x (ix2 q d)
      = share x (⟨1024 + d.val, by omega⟩ : Fin 2048) q.val + -share x (⟨1024 + d.val, by omega⟩ : Fin 2048) (q.val + 8) := by
  have w : width (1024 + d.val) = 8 := by unfold width; split_ifs <;> omega
  unfold share
  simp only [w, add_comm q.val]
  pointwise [val_main_v93, val_main_v92, val_main_v90, val_main_v89, val_main_v88, val_main_v87, val_main_v72, val_main_v52, val_main_v51, val_main_cst_12, val_main_cst_20, val_main_v20, val_main_v19, val_main_v18, val_main_v17, val_main_cst_3]
  have c := count_float q.isLt eight
  rw [c]
  congr 1
  by_cases h : 8 + q.val < 2048
  · have c' := count_float h eight
    simp only [h, dite_true, c']
  · simp only [h, dite_false]
    exact (show -(0 : EReal) = 0 by simp).symm

theorem v82_at (q : Fin 2048) (d : Fin 512) :
    val_main_v82 (F := Ideal) x (ix2 q d)
      = share x (⟨1536 + d.val, by omega⟩ : Fin 2048) q.val + -share x (⟨1536 + d.val, by omega⟩ : Fin 2048) (q.val + 16) := by
  have w : width (1536 + d.val) = 16 := by unfold width; split_ifs <;> omega
  unfold share
  simp only [w, add_comm q.val]
  pointwise [val_main_v82, val_main_v81, val_main_v79, val_main_v78, val_main_v77, val_main_v76, val_main_v73, val_main_v64, val_main_v63, val_main_cst_15, val_main_cst_17, val_main_v20, val_main_v19, val_main_v18, val_main_v17, val_main_cst_3]
  have c := count_float q.isLt sixteen
  rw [c]
  congr 1
  by_cases h : 16 + q.val < 2048
  · have c' := count_float h sixteen
    simp only [h, dite_true, c']
  · simp only [h, dite_false]
    exact (show -(0 : EReal) = 0 by simp).symm

theorem v119_at (q j : Fin 2048) :
    val_main_v119 (F := Ideal) x (ix2 q j) = share x j q.val + -share x j (q.val + width j.val) := by
  pointwise [val_main_v119, val_main_v118, val_main_v107, val_main_v106, val_main_v95, val_main_v94, val_main_v83, val_main_cst_18, val_main_cst_21, val_main_cst_24, val_main_cst_27]
  have e : ∀ (k : ℕ) (h : k < 2048), k = j.val → (⟨k, h⟩ : Fin 2048) = j := fun k h hk => Fin.ext hk
  rcases lt_or_ge j.val 512 with h | h
  · rw [dif_neg (by omega), dif_neg (by omega), dif_neg (by omega), dif_pos h, zero_add, zero_add, zero_add, v117_at, e _ _ rfl,
      show width j.val = 2 by unfold width; split_ifs <;> omega]
  rcases lt_or_ge j.val 1024 with h1 | h1
  · rw [dif_neg (by omega), dif_neg (by omega), dif_pos (by omega), dif_neg (by omega), zero_add, zero_add, add_zero, v105_at, e _ _ (by simp only; omega),
      show width j.val = 4 by unfold width; split_ifs <;> omega]
  rcases lt_or_ge j.val 1536 with h2 | h2
  · rw [dif_neg (by omega), dif_pos (by omega), dif_neg (by omega), dif_neg (by omega), zero_add, add_zero, add_zero, v93_at, e _ _ (by simp only; omega),
      show width j.val = 8 by unfold width; split_ifs <;> omega]
  · rw [dif_pos (by omega), dif_neg (by omega), dif_neg (by omega), dif_neg (by omega), add_zero, add_zero, add_zero, v82_at, e _ _ (by simp only; omega),
      show width j.val = 16 by unfold width; split_ifs <;> omega]

theorem v110_at (q j : Fin 2048) : val_main_v110 (F := Ideal) x (ix2 q j) = -x (ix2 q j) := by
  pointwise [val_main_v110, val_main_v109, val_main_v108, val_main_v98, val_main_v97, val_main_v96, val_main_v86, val_main_v85, val_main_v84, val_main_v75, val_main_v74, val_main_v73, val_main_v72, val_main_v71, val_main_v70, val_main_cst_16, val_main_cst_19, val_main_cst_22, val_main_cst_25]
  rcases lt_or_ge j.val 512 with h | h
  · simp [h, show ¬ 512 ≤ j.val by omega, show ¬ 1024 ≤ j.val by omega, show ¬ 1536 ≤ j.val by omega]
  rcases lt_or_ge j.val 1024 with h1 | h1
  · simp [h, h1, show j.val - 512 < 512 by omega, show 512 + (j.val - 512) = j.val by omega, show ¬ j.val < 512 by omega, show ¬ 1024 ≤ j.val by omega, show ¬ 1536 ≤ j.val by omega]
  rcases lt_or_ge j.val 1536 with h2 | h2
  · simp [h, h1, h2, show j.val - 1024 < 512 by omega, show 1024 + (j.val - 1024) = j.val by omega, show ¬ j.val < 512 by omega, show ¬ j.val - 512 < 512 by omega, show ¬ 1536 ≤ j.val by omega]
  · simp [h2, show j.val - 1536 < 512 by omega, show 1536 + (j.val - 1536) = j.val by omega, show ¬ j.val < 512 by omega, show ¬ j.val - 512 < 512 by omega, show ¬ j.val - 1024 < 512 by omega]

theorem v121_at (hx : ∀ i, IsReal (x i)) (q j : Fin 2048) : val_main_v121 (F := Ideal) x (ix2 q j) = pooled x q j := by
  have h : val_main_v120 (F := Ideal) x (ix2 q j) = ∑ i ∈ Finset.range (width j.val), share x j (q.val + i) := by
    unfold val_main_v120
    rw [running_at _ _ _ _ (by pointwise [val_main_call1_call0_v0, val_main_call1_call0_cst])]
    rw [← suffix _ (share_real hx j) (share_past x j)]
    refine Finset.sum_congr rfl fun k _ => ?_
    by_cases hk : q.val + k.val < 2048
    · rw [dif_pos hk, if_pos hk, v119_at]
    · rw [dif_neg hk, if_neg hk]
  show val_main_v110 (F := Ideal) x (ix2 q j) + val_main_v120 (F := Ideal) x (ix2 q j) = _
  rw [h, v110_at, add_comm]
  rfl

variable (y e : FVec Ideal S2048x2048 .f32) (g : FVec Ideal S2048 .f32)

theorem ref_dx_at (r j : Fin 2048) :
    val_main_v142 (F := Ideal) x y e g (ix2 r j)
      = e (ix2 r j) + Rms.grad (fun k => y (ix2 r k)) (fun k => val_main_v121 (F := Ideal) x (ix2 r k) * g (ix1 k)) j := by
  unfold Rms.grad
  rw [← add_assoc, ← add_assoc]
  pointwise [val_main_v142, val_main_v141, val_main_v140, val_main_v139, val_main_v138, val_main_v137, val_main_v136, val_main_v135, val_main_v134, val_main_v133, val_main_v132, val_main_v131, val_main_v130, val_main_v129, val_main_v128, val_main_v126, val_main_v125, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_30, val_main_cst_31, val_main_cst_32]
  rfl

theorem ref_dg_at (j : Fin 2048) :
    val_main_v144 (F := Ideal) x y (ix2 (0 : Fin 1) j)
      = ∑ r : Fin 2048, Rms.wgrad (fun k => y (ix2 r k)) (fun k => val_main_v121 (F := Ideal) x (ix2 r k)) j := by
  pointwise [val_main_v144, val_main_v127, val_main_v124, val_main_v123, val_main_v122, val_main_v12, val_main_v11, val_main_v7, val_main_v6, val_main_v5, val_main_v4, val_main_v3, val_main_v2, val_main_v1, val_main_v0, val_main_cst, val_main_cst_0, val_main_cst_1, val_main_cst_28, val_main_cst_29]
  simp only [Finset.univ_unique, Finset.sum_singleton]
  rfl

end Reference

section Norm

variable (v0 v2 v3 : FVec Ideal S256x2048 .f32) (v5 : FVec Ideal S1x2048 .f32) (c : FVec Ideal S288x2048 .f32) (p q : FVec Ideal S288x512 .f32)

theorem dx_at (r : Fin 256) (j : Fin 2048) :
    k0_pay2 (F := Ideal) v2 v3 (k0_pay15 v0 v2 v5 c p q 286#32) (k0_pay16 v0 v2 v5 c p q 286#32) k0_pay17 (ix2 r j)
      = v3 (ix2 r j) + Rms.grad (fun k => v2 (ix2 r k)) (fun k => k0_pay10 (F := Ideal) v0 c p q 286#32 (ix2 r k) * v5 (ix2 (0 : Fin 1) k)) j := by
  pointwise [k0_pay2, k0_pay1, k0_pay14, k0_pay15, k0_pay16, k0_pay17, k0_pay11, k0_pay12]
  rfl

theorem wgrad_at (j : Fin 2048) :
    k0_pay13 (F := Ideal) v0 v2 c p q 286#32 (ix2 (0 : Fin 1) j)
      = ∑ r : Fin 256, Rms.wgrad (fun k => v2 (ix2 r k)) (fun k => k0_pay10 (F := Ideal) v0 c p q 286#32 (ix2 r k)) j := by
  pointwise [k0_pay13, k0_pay11, k0_pay12]
  rfl

theorem add_dg (p q : FVec Ideal S1x2048 .f32) (j : S1x2048.Idx) : k0_pay4 (F := Ideal) p q j = q j + p j := by
  pointwise [k0_pay4]

theorem same_g (g : FVec Ideal S1x2048 .f32) (j : S1x2048.Idx) : k0_pay5 (F := Ideal) g j = g j := by
  pointwise [k0_pay5]

end Norm

section Values

variable (m : (ℓ : Loc nD τ sig) → Buf (Elt Ideal) ℓ)

abbrev aa (c : Dev nD) : FVec Ideal S2048x2048 .f32 := m ((c : Thread nD τ).loc main_arg0)
abbrev ax (c : Dev nD) : FVec Ideal S2048x2048 .f32 := m ((c : Thread nD τ).loc main_arg1)
abbrev ae (c : Dev nD) : FVec Ideal S2048x2048 .f32 := m ((c : Thread nD τ).loc main_arg2)
abbrev ag (c : Dev nD) : FVec Ideal S2048 .f32 := m ((c : Thread nD τ).loc main_arg3)

/-- The block every window shows at grid point `t`. -/
theorem idx : ∀ t : Fin cfg0.N, win0_0.index t = ![t.val, 0] ∧ win0_1.index t = ![min ((t.val + 1) * 8) 63, 0] ∧ win0_2.index t = ![t.val, 0]
    ∧ win0_3.index t = ![t.val, 0] ∧ win0_4.index t = ![0, 0] ∧ win0_5.index t = ![t.val, 0] ∧ win0_6.index t = ![t.val, 0]
    ∧ (grid0.coords t 0).val = t.val :=
  (by decide +kernel : ∀ t : Fin grid0.N, _)

theorem g_entry (c : Dev nD) (a : Fin 1) (j : Fin 2048) : V m c main_v0 (ix2 a j) = ag m c (ix1 j) := by
  entry_read
  pointwise

abbrev ta (c : Dev nD) (t : Fin 8) : FVec Ideal S256x2048 .f32 := iblk m c 0 t
abbrev tn (c : Dev nD) (t : Fin 8) : FVec Ideal S32x2048 .f32 := iblk m c 1 t
abbrev tx (c : Dev nD) (t : Fin 8) : FVec Ideal S256x2048 .f32 := iblk m c 2 t
abbrev te (c : Dev nD) (t : Fin 8) : FVec Ideal S256x2048 .f32 := iblk m c 3 t
abbrev tg (c : Dev nD) (t : Fin 8) : FVec Ideal S1x2048 .f32 := iblk m c 4 t

/-- A tile's cotangents over their windows' counts, then the same with the next tile's first rows. -/
abbrev tshare (c : Dev nD) (t : Fin 8) : FVec Ideal S256x2048 .f32 := k0_pay6 (F := Ideal) (grid0.coords t) (ta m c t)
abbrev word (t : Fin 8) : BitVec 32 := BitVec.ofNat 32 (grid0.coords t 0).val
abbrev tcat (c : Dev nD) (t : Fin 8) : FVec Ideal S288x2048 .f32 := k0_pay7 (F := Ideal) (word t) (tn m c t) (tshare m c t)
abbrev tp (c : Dev nD) (t : Fin 8) : FVec Ideal S288x512 .f32 := k0_pay8 (F := Ideal) (word t) (tn m c t) (tshare m c t)
abbrev tq (c : Dev nD) (t : Fin 8) : FVec Ideal S288x512 .f32 := k0_pay9 (F := Ideal) (word t) (tn m c t) (tshare m c t)

/-- A tile of the first result. -/
abbrev tdx (c : Dev nD) (t : Fin 8) : FVec Ideal S256x2048 .f32 :=
  k0_pay2 (F := Ideal) (tx m c t) (te m c t) (k0_pay15 (ta m c t) (tx m c t) (k0_pay5 (tg m c t)) (tcat m c t) (tp m c t) (tq m c t) 286#32)
    (k0_pay16 (ta m c t) (tx m c t) (k0_pay5 (tg m c t)) (tcat m c t) (tp m c t) (tq m c t) 286#32) k0_pay17

/-- What a tile adds to the weight's gradient. -/
abbrev tdg (c : Dev nD) (t : Fin 8) : FVec Ideal S1x2048 .f32 :=
  k0_pay13 (F := Ideal) (ta m c t) (tx m c t) (tcat m c t) (tp m c t) (tq m c t) 286#32

variable (c : Dev nD) (t : Fin 8)

theorem blk0 (r : Fin 256) (j : Fin 2048) : ta m c t (ix2 r j) = aa m c (ix2 (row t r) j) := by
  show iblk m c 0 t (ix2 r j) = m ((c : Thread nD τ).loc main_arg0) (ix2 (row t r) j)
  blk_point [iblk, V, idx t]
  blk_ext [idx t, row_val]

theorem blk1 (h : t.val < 7) (r : Fin 32) (j : Fin 2048) : tn m c t (ix2 r j) = aa m c (ix2 (⟨t.val * 256 + 256 + r.val, by omega⟩ : Fin 2048) j) := by
  show iblk m c 1 t (ix2 r j) = m ((c : Thread nD τ).loc main_arg0) (ix2 (⟨t.val * 256 + 256 + r.val, by omega⟩ : Fin 2048) j)
  blk_point [iblk, V, idx t]
  blk_ext [idx t]

theorem blk2 (r : Fin 256) (j : Fin 2048) : tx m c t (ix2 r j) = ax m c (ix2 (row t r) j) := by
  show iblk m c 2 t (ix2 r j) = m ((c : Thread nD τ).loc main_arg1) (ix2 (row t r) j)
  blk_point [iblk, V, idx t]
  blk_ext [idx t, row_val]

theorem blk3 (r : Fin 256) (j : Fin 2048) : te m c t (ix2 r j) = ae m c (ix2 (row t r) j) := by
  show iblk m c 3 t (ix2 r j) = m ((c : Thread nD τ).loc main_arg2) (ix2 (row t r) j)
  blk_point [iblk, V, idx t]
  blk_ext [idx t, row_val]

theorem blk4 (j : Fin 2048) : tg m c t (ix2 (0 : Fin 1) j) = ag m c (ix1 j) := by
  rw [← g_entry m c 0]
  show iblk m c 4 t (ix2 (0 : Fin 1) j) = _
  blk_point [iblk, idx t]
  blk_ext [idx t]

theorem cat_at (p : Fin 288) (j : Fin 2048) : tcat m c t (ix2 p j) = share (aa m c) j (t.val * 256 + p.val) := by
  have hi : (grid0.coords t 0).val = t.val := (idx t).2.2.2.2.2.2.2
  show k0_pay7 (F := Ideal) (BitVec.ofNat 32 (grid0.coords t 0).val) (tn m c t) (tshare m c t) (ix2 p j) = _
  rw [hi, next_at _ _ _ t.isLt]
  unfold share
  by_cases h : p.val < 256
  · have e' : t.val * 256 + p.val < 2048 := by omega
    rw [dif_pos h, dif_pos e']
    refine (counts_at _ _ (by rw [hi]; exact t.isLt) _ _).trans ?_
    rw [blk0, hi]
    rfl
  · by_cases h' : t.val < 7
    · have e' : t.val * 256 + p.val < 2048 := by omega
      rw [dif_neg h, if_pos h', dif_pos e', blk1 m c t h']
      have e : (⟨t.val * 256 + 256 + (p.val - 256), by omega⟩ : Fin 2048) = ⟨t.val * 256 + p.val, e'⟩ := Fin.ext (by simp only; omega)
      rw [e]
    · have e' : ¬ t.val * 256 + p.val < 2048 := by omega
      rw [dif_neg h, if_neg h', dif_neg e']

/-- The pooling's derivative on a tile is those rows of the whole. -/
theorem pooled_tile (r : Fin 256) (j : Fin 2048) :
    k0_pay10 (F := Ideal) (ta m c t) (tcat m c t) (tp m c t) (tq m c t) 286#32 (ix2 r j) = pooled (aa m c) (row t r) j := by
  refine (windows_at (ta m c t) (word t) (tn m c t) (tshare m c t) r j (fun p => share (aa m c) j (t.val * 256 + p)) fun p => cat_at m c t p j).trans ?_
  rw [blk0]
  unfold pooled
  simp only [row_val, add_assoc]

/-- A tile of the first result is those rows of the reference's. -/
theorem dx_tile (hx : ∀ i, IsReal (aa m c i)) (r : Fin 256) (j : Fin 2048) :
    tdx m c t (ix2 r j) = val_main_v142 (F := Ideal) (aa m c) (ax m c) (ae m c) (ag m c) (ix2 (row t r) j) := by
  refine (dx_at _ _ _ _ _ _ _ r j).trans ?_
  rw [ref_dx_at, blk3]
  simp only [blk2, same_g, blk4, v121_at _ hx, pooled_tile]

theorem outs_dx (c : Dev nD) (t : Fin cfg0.N) : (outsAt0 m c t.val t.isLt).1 = tdx m c t := by
  have ht : t.val < 8 := t.isLt.trans_eq N_0
  by_cases h : t.val % 8 = 0
  · rw [outsAt0_A m c t h (by omega)]; frame_out
  · rw [outsAt0_B m c t h (by omega)]; frame_out

theorem outs_dxb (c : Dev nD) (t : Fin cfg0.N) : (outsAt0 m c t.val t.isLt).2.1 = truncf .bf16 (tdx m c t) bitsLt_bf16_f32 := by
  have ht : t.val < 8 := t.isLt.trans_eq N_0
  by_cases h : t.val % 8 = 0
  · rw [outsAt0_A m c t h (by omega)]; frame_out; rfl
  · rw [outsAt0_B m c t h (by omega)]; frame_out; rfl

theorem final_dx (c : Dev nD) (hx : ∀ i, IsReal (aa m c i)) :
    (dats m 0 c).arrAt 5 cfg0.N = val_main_v142 (F := Ideal) (aa m c) (ax m c) (ae m c) (ag m c) := by
  refine (dats m 0 c).arrAt_eq_of_covers 5 _ (by decide +kernel) fun t hf y => ?_
  blk_simp
  rw [after0_5, outs_dx]
  obtain ⟨a, b, rfl⟩ : ∃ (a : Fin 256) (b : Fin 2048), y = ix2 a b := ⟨y 0, y 1, eq_ix2 y⟩
  refine (dx_tile m c t hx a b).trans ?_
  blk_ext [idx t]
  exact row_val t a

theorem final_dxb (c : Dev nD) (hx : ∀ i, IsReal (aa m c i)) :
    (dats m 0 c).arrAt 6 cfg0.N = val_main_v143 (F := Ideal) (aa m c) (ax m c) (ae m c) (ag m c) := by
  refine (dats m 0 c).arrAt_eq_of_covers 6 _ (by decide +kernel) fun t hf y => ?_
  blk_simp
  rw [after0_6, outs_dxb]
  obtain ⟨a, b, rfl⟩ : ∃ (a : Fin 256) (b : Fin 2048), y = ix2 a b := ⟨y 0, y 1, eq_ix2 y⟩
  refine (dx_tile m c t hx a b).trans ?_
  blk_ext [idx t]
  exact row_val t a

/-- The accumulator after the last tile. -/
theorem acc_dg (c : Dev nD) (j : S1x2048.Idx) : (outsAt0 m c t0_7.val t0_7.isLt).2.2 j = ∑ t : Fin 8, tdg m c t j := by
  rw [Pipeline.eq_sum_fin_of_reset_step_apply_last (fun n h => (outsAt0 m c n h).2.2) 8 (fun _ => 0)
    (fun t j => tdg m c t j)
    (fun t h j => by
      have ht : t.val < 8 := t.isLt.trans_eq N_0
      rw [outsAt0_A m c t h (by omega)]; frame_out
      exact (zero_add _).symm)
    (fun t h j => by
      have ht : t.val < 8 := t.isLt.trans_eq N_0
      rw [outsAt0_B m c t h (by omega)]; frame_out
      exact add_dg _ _ j)
    (le_of_eq N_0) t0_7 rfl j, zero_add]
  rfl

theorem final_dg (c : Dev nD) (hx : ∀ i, IsReal (aa m c i)) : (dats m 0 c).arrAt 7 cfg0.N = val_main_v144 (F := Ideal) (aa m c) (ax m c) := by
  refine (dats m 0 c).arrAt_eq_of_after_last 7 t0_7 (by decide +kernel) _ fun j => ?_
  blk_simp
  rw [after0_7]
  obtain ⟨a, b, rfl⟩ : ∃ (a : Fin 1) (b : Fin 2048), j = ix2 a b := ⟨j 0, j 1, eq_ix2 j⟩
  obtain rfl : a = 0 := Subsingleton.elim _ _
  refine (acc_dg m c _).trans ?_
  rw [ref_dg_at, ← sum_rows]
  refine Finset.sum_congr rfl fun t _ => (wgrad_at _ _ _ _ _ b).trans ?_
  simp only [blk2, v121_at _ hx, pooled_tile]

/-- What the precondition says: no cotangent is infinite. -/
theorem real_of_pre [Cert.Pre_finite_dd.Facts] (h : Cert.Pre_PoolBwdIdeal_finite_dd m) (c : Dev nD) : ∀ i, IsReal (aa m c i) := fun i => by
  obtain ⟨a, b, rfl⟩ : ∃ (a b : Fin 2048), i = ix2 a b := ⟨i 0, i 1, eq_ix2 i⟩
  have := congrFun (h c) (ix2 a b)
  revert this
  pointwise [Cert.Pre_finite_dd.fn]
  exact isReal_of_test

end Values

end Cert.PoolBwdIdeal.RefValue

namespace Cert.Proof

/-- The call computes the derivative of the pooling and its norm, where the cotangent is finite. -/
theorem pool [Cert.Pre_finite_dd.Facts] : Cert.algebraic_PoolBwdIdeal_PoolRefIdeal_pre_finite_dd := by
  pair_intro
  · run_from Cert.PoolBwdIdeal.Value.run_blocks m g
  · run_from Cert.PoolRefIdeal.Value.run (F := Ideal) m' g'
    all_goals obtain ⟨h0, h1, h2, h3⟩ := hagree c
    · rw [← h1, ← h2]
      refine (Cert.PoolRefIdeal.Read.val_main_v142_eq (F := Ideal) (StableHlo.launchContents m' c)).trans (Eq.trans ?_ (Cert.PoolBwdIdeal.RefValue.final_dx m c (Cert.PoolBwdIdeal.RefValue.real_of_pre m (by assumption) c)).symm)
      exact congr(Cert.PoolRefIdeal.Read.val_main_v142 (F := Ideal) $h0 $h1 $h2 $h3)
    · rw [← h1, ← h2]
      refine (Cert.PoolRefIdeal.Read.val_main_v143_eq (F := Ideal) (StableHlo.launchContents m' c)).trans (Eq.trans ?_ (Cert.PoolBwdIdeal.RefValue.final_dxb m c (Cert.PoolBwdIdeal.RefValue.real_of_pre m (by assumption) c)).symm)
      exact congr(Cert.PoolRefIdeal.Read.val_main_v143 (F := Ideal) $h0 $h1 $h2 $h3)
    · refine (Cert.PoolRefIdeal.Read.val_main_v144_eq (F := Ideal) _).trans (Eq.trans ?_ (Cert.PoolBwdIdeal.RefValue.final_dg m c (Cert.PoolBwdIdeal.RefValue.real_of_pre m (by assumption) c)).symm)
      exact congr(Cert.PoolRefIdeal.Read.val_main_v144 (F := Ideal) $h0 $h1)

end Cert.Proof
-- ==== Proof.Norm.lean ====
/- The value of the norm's gradient call against the derivative of the norm. -/
module

public import proofs.«01_k».proof.Defs
public import proofs.«01_k».proof.Proof.Gen.NormBwdIdeal.Value
public import proofs.«01_k».proof.Proof.Gen.NormRefIdeal.Run
public import proofs.«01_k».proof.Proof.Gen.NormRefIdeal.Read
public import proofs.«01_k».proof.Proof.Rows
public import proofs.«01_k».proof.Proof.Reals
public import proofs.«01_k».proof.Proof.RmsGrad
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormBwdIdeal.RefValue

open Cert.NormBwdIdeal Cert.NormBwdIdeal.Gen
open Cert.NormRefIdeal.Read Cert.Rows Cert.Reals

section Tile

variable (x d e : FVec Ideal S256x2048 .f32) (g : FVec Ideal S1x2048 .f32)

theorem grad_at (r : Fin 256) (j : Fin 2048) :
    k0_pay6 (F := Ideal) x d g (ix2 r j) = Rms.grad (fun k => x (ix2 r k)) (fun k => d (ix2 r k) * g (ix2 (0 : Fin 1) k)) j := by
  pointwise [k0_pay6, k0_pay3, k0_pay4]
  rfl

theorem dx_at (r : Fin 256) (j : Fin 2048) :
    k0_pay7 (F := Ideal) x d e g (ix2 r j)
      = e (ix2 r j) + Rms.grad (fun k => x (ix2 r k)) (fun k => d (ix2 r k) * g (ix2 (0 : Fin 1) k)) j := by
  rw [← grad_at]
  rfl

theorem wgrad_at (j : Fin 2048) :
    k0_pay5 (F := Ideal) x d (ix2 (0 : Fin 1) j) = ∑ r : Fin 256, Rms.wgrad (fun k => x (ix2 r k)) (fun k => d (ix2 r k)) j := by
  pointwise [k0_pay5, k0_pay3, k0_pay4]
  rfl

theorem add_dg (p q : FVec Ideal S1x2048 .f32) (j : S1x2048.Idx) : k0_pay2 (F := Ideal) p q j = q j + p j := by
  pointwise [k0_pay2]

end Tile

section Reference

open Cert.NormRefIdeal

variable (x d e : FVec Ideal S2048x2048 .f32) (g : FVec Ideal S2048 .f32)

theorem ref_dx_at (r j : Fin 2048) :
    val_main_v36 (F := Ideal) x g d e (ix2 r j)
      = e (ix2 r j) + Rms.grad (fun k => x (ix2 r k)) (fun k => d (ix2 r k) * g (ix1 k)) j := by
  unfold Rms.grad
  rw [← add_assoc, ← add_assoc]
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  rfl

theorem ref_dg_at (j : Fin 2048) :
    val_main_v38 (F := Ideal) x d (ix2 (0 : Fin 1) j) = ∑ r : Fin 2048, Rms.wgrad (fun k => x (ix2 r k)) (fun k => d (ix2 r k)) j := by
  pointwise [val_main_v38, val_main_v21, val_main_v18, val_main_v17, val_main_v16, val_main_v12, val_main_v11, val_main_v7, val_main_v6, val_main_v5, val_main_v4, val_main_v3, val_main_v2, val_main_v1, val_main_v0, val_main_cst, val_main_cst_0, val_main_cst_1, val_main_cst_3, val_main_cst_4]
  simp only [Finset.univ_unique, Finset.sum_singleton]
  rfl

end Reference

section Values

variable (m : (ℓ : Loc nD τ sig) → Buf (Elt Ideal) ℓ)

abbrev ax (c : Dev nD) : FVec Ideal S2048x2048 .f32 := m ((c : Thread nD τ).loc main_arg0)
abbrev ag (c : Dev nD) : FVec Ideal S2048 .f32 := m ((c : Thread nD τ).loc main_arg1)
abbrev ad (c : Dev nD) : FVec Ideal S2048x2048 .f32 := m ((c : Thread nD τ).loc main_arg2)
abbrev ae (c : Dev nD) : FVec Ideal S2048x2048 .f32 := m ((c : Thread nD τ).loc main_arg3)

/-- The block every window shows at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

theorem g_entry (c : Dev nD) (a : Fin 1) (j : Fin 2048) : V m c main_v0 (ix2 a j) = ag m c (ix1 j) := by
  entry_read
  pointwise

abbrev tx (c : Dev nD) (t : Fin 8) : FVec Ideal S256x2048 .f32 := iblk m c 0 t
abbrev td (c : Dev nD) (t : Fin 8) : FVec Ideal S256x2048 .f32 := iblk m c 1 t
abbrev te (c : Dev nD) (t : Fin 8) : FVec Ideal S256x2048 .f32 := iblk m c 2 t
abbrev tg (c : Dev nD) (t : Fin 8) : FVec Ideal S1x2048 .f32 := iblk m c 3 t

variable (c : Dev nD) (t : Fin 8)

theorem blk0 (r : Fin 256) (j : Fin 2048) : tx m c t (ix2 r j) = ax m c (ix2 (row t r) j) := by
  show iblk m c 0 t (ix2 r j) = m ((c : Thread nD τ).loc main_arg0) (ix2 (row t r) j)
  blk_point [iblk, V, idx t]
  blk_ext [idx t, row_val]

theorem blk1 (r : Fin 256) (j : Fin 2048) : td m c t (ix2 r j) = ad m c (ix2 (row t r) j) := by
  show iblk m c 1 t (ix2 r j) = m ((c : Thread nD τ).loc main_arg2) (ix2 (row t r) j)
  blk_point [iblk, V, idx t]
  blk_ext [idx t, row_val]

theorem blk2 (r : Fin 256) (j : Fin 2048) : te m c t (ix2 r j) = ae m c (ix2 (row t r) j) := by
  show iblk m c 2 t (ix2 r j) = m ((c : Thread nD τ).loc main_arg3) (ix2 (row t r) j)
  blk_point [iblk, V, idx t]
  blk_ext [idx t, row_val]

theorem blk3 (j : Fin 2048) : tg m c t (ix2 (0 : Fin 1) j) = ag m c (ix1 j) := by
  rw [← g_entry m c 0]
  show iblk m c 3 t (ix2 (0 : Fin 1) j) = _
  blk_point [iblk, idx t]
  blk_ext [idx t]

/-- A tile of the first result is those rows of the reference's. -/
theorem dx_tile (r : Fin 256) (j : Fin 2048) :
    k0_pay7 (F := Ideal) (tx m c t) (td m c t) (te m c t) (tg m c t) (ix2 r j)
      = val_main_v36 (F := Ideal) (ax m c) (ag m c) (ad m c) (ae m c) (ix2 (row t r) j) := by
  refine (dx_at _ _ _ _ r j).trans ?_
  rw [ref_dx_at, blk2]
  simp only [blk0, blk1, blk3]

theorem outs_dx (c : Dev nD) (t : Fin cfg0.N) :
    (outsAt0 m c t.val t.isLt).1 = k0_pay7 (F := Ideal) (tx m c t) (td m c t) (te m c t) (tg m c t) := by
  have ht : t.val < 8 := t.isLt.trans_eq N_0
  by_cases h : t.val % 8 = 0
  · rw [outsAt0_A m c t h (by omega)]; frame_out
  · rw [outsAt0_B m c t h (by omega)]; frame_out

theorem outs_dxb (c : Dev nD) (t : Fin cfg0.N) :
    (outsAt0 m c t.val t.isLt).2.1 = truncf .bf16 (k0_pay7 (F := Ideal) (tx m c t) (td m c t) (te m c t) (tg m c t)) bitsLt_bf16_f32 := by
  have ht : t.val < 8 := t.isLt.trans_eq N_0
  by_cases h : t.val % 8 = 0
  · rw [outsAt0_A m c t h (by omega)]; frame_out; rfl
  · rw [outsAt0_B m c t h (by omega)]; frame_out; rfl

theorem final_dx (c : Dev nD) :
    (dats m 0 c).arrAt 4 cfg0.N = val_main_v36 (F := Ideal) (ax m c) (ag m c) (ad m c) (ae m c) := by
  refine (dats m 0 c).arrAt_eq_of_covers 4 _ (by decide +kernel) fun t hf y => ?_
  blk_simp
  rw [after0_4, outs_dx]
  obtain ⟨a, b, rfl⟩ : ∃ (a : Fin 256) (b : Fin 2048), y = ix2 a b := ⟨y 0, y 1, eq_ix2 y⟩
  refine (dx_tile m c t a b).trans ?_
  blk_ext [idx t]
  exact row_val t a

theorem final_dxb (c : Dev nD) :
    (dats m 0 c).arrAt 5 cfg0.N = val_main_v37 (F := Ideal) (ax m c) (ag m c) (ad m c) (ae m c) := by
  refine (dats m 0 c).arrAt_eq_of_covers 5 _ (by decide +kernel) fun t hf y => ?_
  blk_simp
  rw [after0_5, outs_dxb]
  obtain ⟨a, b, rfl⟩ : ∃ (a : Fin 256) (b : Fin 2048), y = ix2 a b := ⟨y 0, y 1, eq_ix2 y⟩
  refine (dx_tile m c t a b).trans ?_
  blk_ext [idx t]
  exact row_val t a

/-- The accumulator after the last tile. -/
theorem acc_dg (c : Dev nD) (j : S1x2048.Idx) :
    (outsAt0 m c t0_7.val t0_7.isLt).2.2 j = ∑ t : Fin 8, k0_pay5 (F := Ideal) (tx m c t) (td m c t) j := by
  rw [Pipeline.eq_sum_fin_of_reset_step_apply_last (fun n h => (outsAt0 m c n h).2.2) 8 (fun _ => 0)
    (fun t j => k0_pay5 (F := Ideal) (tx m c t) (td m c t) j)
    (fun t h j => by
      have ht : t.val < 8 := t.isLt.trans_eq N_0
      rw [outsAt0_A m c t h (by omega)]; frame_out
      exact (zero_add _).symm)
    (fun t h j => by
      have ht : t.val < 8 := t.isLt.trans_eq N_0
      rw [outsAt0_B m c t h (by omega)]; frame_out
      exact add_dg _ _ j)
    (le_of_eq N_0) t0_7 rfl j, zero_add]
  rfl

theorem final_dg (c : Dev nD) : (dats m 0 c).arrAt 6 cfg0.N = val_main_v38 (F := Ideal) (ax m c) (ad m c) := by
  refine (dats m 0 c).arrAt_eq_of_after_last 6 t0_7 (by decide +kernel) _ fun j => ?_
  blk_simp
  rw [after0_6]
  obtain ⟨a, b, rfl⟩ : ∃ (a : Fin 1) (b : Fin 2048), j = ix2 a b := ⟨j 0, j 1, eq_ix2 j⟩
  obtain rfl : a = 0 := Subsingleton.elim _ _
  refine (acc_dg m c _).trans ?_
  rw [ref_dg_at, ← sum_rows]
  refine Finset.sum_congr rfl fun t _ => (wgrad_at _ _ b).trans ?_
  simp only [blk0, blk1]

end Values

end Cert.NormBwdIdeal.RefValue

namespace Cert.Proof

/-- The call computes the derivative of the norm and of the stream that goes past it. -/
theorem norm : Cert.algebraic_NormBwdIdeal_NormRefIdeal := by
  pair_intro
  · run_from Cert.NormBwdIdeal.Value.run_blocks m g
  · hlo_run
    · exact (Cert.NormBwdIdeal.RefValue.final_dx m c).symm
    · exact (Cert.NormBwdIdeal.RefValue.final_dxb m c).symm
    · exact (Cert.NormBwdIdeal.RefValue.final_dg m c).symm

end Cert.Proof
-- ==== Proof.NormKv.lean ====
/- The value of the keys' norm's gradient call against the derivative in the norm's weight. -/
module

public import proofs.«01_k».proof.Defs
public import proofs.«01_k».proof.Proof.Gen.NormKvBwdIdeal.Value
public import proofs.«01_k».proof.Proof.Gen.NormKvRefIdeal.Run
public import proofs.«01_k».proof.Proof.Gen.NormKvRefIdeal.Read
public import proofs.«01_k».proof.Proof.Rows
public import proofs.«01_k».proof.Proof.Reals
public import proofs.«01_k».proof.Proof.RmsGrad
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormKvBwdIdeal.RefValue

open Cert.NormKvBwdIdeal Cert.NormKvBwdIdeal.Gen
open Cert.NormKvRefIdeal.Read Cert.Rows Cert.Reals

section Elements

theorem wgrad_at (x d : FVec Ideal S256x2048 .f32) (j : Fin 2048) :
    k0_pay1 (F := Ideal) x d (ix2 (0 : Fin 1) j) = ∑ r : Fin 256, Rms.wgrad (fun k => x (ix2 r k)) (fun k => d (ix2 r k)) j := by
  pointwise [k0_pay1]
  rfl

theorem ref_dg_at (x d : FVec Ideal S256x2048 .f32) (j : Fin 2048) :
    val_main_v17 (F := Ideal) x d (ix2 (0 : Fin 1) j) = ∑ r : Fin 256, Rms.wgrad (fun k => x (ix2 r k)) (fun k => d (ix2 r k)) j := by
  pointwise [val_main_v17, val_main_v16, val_main_v15, val_main_v14, val_main_v13, val_main_v9, val_main_v8, val_main_v7, val_main_v6,
    val_main_v5, val_main_v4, val_main_v3, val_main_v2, val_main_v1, val_main_v0, val_main_cst, val_main_cst_0, val_main_cst_1, val_main_cst_2, val_main_cst_3]
  simp only [Finset.univ_unique, Finset.sum_singleton]
  rfl

end Elements

section Values

variable (m : (ℓ : Loc nD τ sig) → Buf (Elt Ideal) ℓ)

abbrev ax (c : Dev nD) : FVec Ideal S256x2048 .f32 := m ((c : Thread nD τ).loc main_arg0)
abbrev ad (c : Dev nD) : FVec Ideal S256x2048 .f32 := m ((c : Thread nD τ).loc main_arg2)

/-- The block every window shows at the only grid point. -/
theorem idx : ∀ t : Fin cfg0.N, win0_0.index t = ![0, 0] ∧ win0_1.index t = ![0, 0] ∧ win0_3.index t = ![0, 0] :=
  (by decide +kernel : ∀ t : Fin grid0.N, _)

abbrev tx (c : Dev nD) (t : Fin 1) : FVec Ideal S256x2048 .f32 := iblk m c 0 t
abbrev td (c : Dev nD) (t : Fin 1) : FVec Ideal S256x2048 .f32 := iblk m c 1 t

variable (c : Dev nD) (t : Fin 1)

theorem blk0 (r : Fin 256) (j : Fin 2048) : tx m c t (ix2 r j) = ax m c (ix2 r j) := by
  show iblk m c 0 t (ix2 r j) = m ((c : Thread nD τ).loc main_arg0) (ix2 r j)
  blk_point [iblk, V, idx t]
  blk_ext [idx t]

theorem blk1 (r : Fin 256) (j : Fin 2048) : td m c t (ix2 r j) = ad m c (ix2 r j) := by
  show iblk m c 1 t (ix2 r j) = m ((c : Thread nD τ).loc main_arg2) (ix2 r j)
  blk_point [iblk, V, idx t]
  blk_ext [idx t]

theorem dg_point (j : Fin 2048) :
    k0_pay1 (F := Ideal) (tx m c t) (td m c t) (ix2 (0 : Fin 1) j) = val_main_v17 (F := Ideal) (ax m c) (ad m c) (ix2 (0 : Fin 1) j) := by
  rw [wgrad_at, ref_dg_at]
  simp only [blk0, blk1]

theorem outs_dg (c : Dev nD) (t : Fin cfg0.N) : outsAt0 m c t = k0_pay1 (F := Ideal) (tx m c t) (td m c t) := by
  unfold outsAt0
  frame_out

theorem final_dg (c : Dev nD) : (dats m 0 c).arrAt 3 cfg0.N = val_main_v17 (F := Ideal) (ax m c) (ad m c) := by
  refine (dats m 0 c).arrAt_eq_of_after_last 3 t0_0 (by decide +kernel) _ fun j => ?_
  blk_simp
  rw [after0_3, outs_dg]
  obtain ⟨a, b, rfl⟩ : ∃ (a : Fin 1) (b : Fin 2048), j = ix2 a b := ⟨j 0, j 1, eq_ix2 j⟩
  obtain rfl : a = 0 := Subsingleton.elim _ _
  exact dg_point m c t0_0 b

end Values

end Cert.NormKvBwdIdeal.RefValue

namespace Cert.Proof

/-- The call computes the derivative in the weight of the keys' norm. -/
theorem normkv : Cert.algebraic_NormKvBwdIdeal_NormKvRefIdeal := by
  pair_intro
  · run_from Cert.NormKvBwdIdeal.Value.run_blocks m g
  · hlo_run
    · exact (Cert.NormKvBwdIdeal.RefValue.final_dg m c).symm

end Cert.Proof
-- ==== Proof.Loss.lean ====
/- The value of the loss call against the loss's value and derivative. -/
module

public import proofs.«01_k».proof.Defs
public import proofs.«01_k».proof.Proof.Gen.LossBwdIdeal.Value
public import proofs.«01_k».proof.Proof.Gen.LossRefIdeal.Run
public import proofs.«01_k».proof.Proof.Gen.LossRefIdeal.Read
public import proofs.«01_k».proof.Proof.Rows
public import proofs.«01_k».proof.Proof.Reals
public import proofs.«01_k».proof.Proof.RmsGrad
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossBwdIdeal.RefValue

open Cert.LossBwdIdeal Cert.LossBwdIdeal.Gen
open Cert.LossRefIdeal.Read Cert.Rows Cert.Reals

section Tile

/-- The error of a normed and weighted row. -/
def err {n : ℕ} (x g y : Fin n → EReal) (j : Fin n) : EReal := x j * Rms.scale x * g j - y j

/-- The loss's derivative in the norm's result, along a row. -/
def derr {n : ℕ} (x g y : Fin n → EReal) (j : Fin n) : EReal := Ideal.div (err x g y j) Rms.width

/-- A row's mean square error. -/
def mse {n : ℕ} (x g y : Fin n → EReal) : EReal := Ideal.div (∑ k, err x g y k * err x g y k) Rms.width

abbrev half : EReal := Ideal.ofBits .f32 0x3F000000#32

theorem half_eq : half = ((1 / 2 : ℝ) : EReal) := by
  simp [half, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem width_eq : Rms.width = ((2048 : ℝ) : EReal) := by
  simp [Rms.width, Ideal.ofBits, Ideal.ieee]
  rw [← EReal.coe_mul]
  norm_num

/-- Half the derivative of the square, over the width, is the error over the width. -/
theorem half_two (e : EReal) : Ideal.div half Rms.width * (Ideal.ofBits .f32 0x40000000#32 * e) = Ideal.div e Rms.width := by
  rw [width_eq, Ideal.div_coe (by norm_num), Ideal.div_coe (by norm_num), half_eq, two_eq, ← mul_assoc, ← EReal.coe_mul, ← EReal.coe_mul, mul_comm e]
  norm_num

variable (x y : FVec Ideal S256x2048 .f32) (g : FVec Ideal S1x2048 .f32)

theorem grad_at (r : Fin 256) (j : Fin 2048) :
    k0_pay12 (F := Ideal) x y g (ix2 r j)
      = Rms.grad (fun k => x (ix2 r k)) (fun k => derr (fun k => x (ix2 r k)) (fun k => g (ix2 (0 : Fin 1) k)) (fun k => y (ix2 r k)) k * g (ix2 (0 : Fin 1) k)) j := by
  pointwise [k0_pay12, k0_pay10, k0_pay9, k0_pay8, k0_pay7, k0_pay6, k0_pay5]
  rfl

theorem wgrad_at (j : Fin 2048) :
    k0_pay11 (F := Ideal) x y g (ix2 (0 : Fin 1) j)
      = ∑ r : Fin 256, Rms.wgrad (fun k => x (ix2 r k)) (derr (fun k => x (ix2 r k)) (fun k => g (ix2 (0 : Fin 1) k)) (fun k => y (ix2 r k))) j := by
  pointwise [k0_pay11, k0_pay10, k0_pay9, k0_pay8, k0_pay7, k0_pay6, k0_pay5]
  rfl

/-- The tile's share of the loss, in every lane. -/
abbrev tileLoss : FVec Ideal S1x128 .f32 := k0_pay1 (F := Ideal) (k0_pay13 (F := Ideal) x y g)

theorem loss_at (l : Fin 128) :
    tileLoss x y g (ix2 (0 : Fin 1) l)
      = half * ∑ r : Fin 256, mse (fun k => x (ix2 r k)) (fun k => g (ix2 (0 : Fin 1) k)) (fun k => y (ix2 r k)) := by
  pointwise [k0_pay1, k0_pay13, k0_pay9, k0_pay8, k0_pay7, k0_pay6, k0_pay5]
  rfl

theorem add_dg (p q : FVec Ideal S1x2048 .f32) (j : S1x2048.Idx) : k0_pay3 (F := Ideal) p q j = q j + p j := by
  pointwise [k0_pay3]

theorem add_loss (q : FVec Ideal S1x128 .f32) (v : FVec Ideal S256x2048 .f32) (j : S1x128.Idx) :
    k0_pay4 (F := Ideal) v q j = q j + k0_pay1 (F := Ideal) v j := by
  pointwise [k0_pay4]

end Tile

section Reference

open Cert.LossRefIdeal

variable (x y : FVec Ideal S2048x2048 .f32) (g : FVec Ideal S2048 .f32)

theorem ref_derr_at (r j : Fin 2048) :
    val_main_v30 (F := Ideal) x g y (ix2 r j) = derr (fun k => x (ix2 r k)) (fun k => g (ix1 k)) (fun k => y (ix2 r k)) j := by
  unfold derr
  rw [← half_two]
  pointwise [val_main_v30, val_main_v29, val_main_v28, val_main_v27, val_main_v26, val_main_v25, val_main_v19, val_main_v18, val_main_v16, val_main_v15, val_main_v14, val_main_v13, val_main_v12, val_main_v11, val_main_v7, val_main_v6, val_main_v5, val_main_v4, val_main_v3, val_main_v2, val_main_v1, val_main_v0, val_main_cst, val_main_cst_0, val_main_cst_1, val_main_cst_3, val_main_cst_8, val_main_cst_9, val_main_cst_10]
  rfl

theorem ref_dx_at (r j : Fin 2048) :
    val_main_v50 (F := Ideal) x g y (ix2 r j)
      = Rms.grad (fun k => x (ix2 r k)) (fun k => derr (fun k => x (ix2 r k)) (fun k => g (ix1 k)) (fun k => y (ix2 r k)) k * g (ix1 k)) j := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15, ref_derr_at]
  rfl

theorem ref_dg_at (j : Fin 2048) :
    val_main_v52 (F := Ideal) x g y (ix2 (0 : Fin 1) j)
      = ∑ r : Fin 2048, Rms.wgrad (fun k => x (ix2 r k)) (derr (fun k => x (ix2 r k)) (fun k => g (ix1 k)) (fun k => y (ix2 r k))) j := by
  pointwise [val_main_v52, val_main_v36, val_main_v33, val_main_v32, val_main_v31, val_main_v12, val_main_v11, val_main_v7, val_main_v6, val_main_v5, val_main_v4, val_main_v3, val_main_v2, val_main_v1, val_main_v0, val_main_cst, val_main_cst_0, val_main_cst_1, val_main_cst_11, val_main_cst_12, ref_derr_at]
  simp only [Finset.univ_unique, Finset.sum_singleton]
  rfl

theorem ref_loss_at (l : Fin 128) :
    val_main_v53 (F := Ideal) x g y (ix2 (0 : Fin 1) l)
      = half * ∑ r : Fin 2048, mse (fun k => x (ix2 r k)) (fun k => g (ix1 k)) (fun k => y (ix2 r k)) := by
  pointwise [val_main_v53, val_main_v24, val_main_v23, val_main_v22, val_main_v21, val_main_v20, val_main_v17, val_main_v16, val_main_v15, val_main_v14, val_main_v13, val_main_v12, val_main_v11, val_main_v7, val_main_v6, val_main_v5, val_main_v4, val_main_v3, val_main_v2, val_main_v1, val_main_v0, val_main_cst, val_main_cst_0, val_main_cst_1, val_main_cst_4, val_main_cst_5, val_main_cst_6, val_main_cst_7]
  rfl

end Reference

section Values

variable (m : (ℓ : Loc nD τ sig) → Buf (Elt Ideal) ℓ)

abbrev ax (c : Dev nD) : FVec Ideal S2048x2048 .f32 := m ((c : Thread nD τ).loc main_arg0)
abbrev ag (c : Dev nD) : FVec Ideal S2048 .f32 := m ((c : Thread nD τ).loc main_arg1)
abbrev ay (c : Dev nD) : FVec Ideal S2048x2048 .f32 := m ((c : Thread nD τ).loc main_arg2)

/-- The block every window shows at grid point `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

theorem g_entry (c : Dev nD) (a : Fin 1) (j : Fin 2048) : V m c main_v0 (ix2 a j) = ag m c (ix1 j) := by
  entry_read
  pointwise

abbrev tx (c : Dev nD) (t : Fin 8) : FVec Ideal S256x2048 .f32 := iblk m c 0 t
abbrev ty (c : Dev nD) (t : Fin 8) : FVec Ideal S256x2048 .f32 := iblk m c 1 t
abbrev tg (c : Dev nD) (t : Fin 8) : FVec Ideal S1x2048 .f32 := iblk m c 2 t

variable (c : Dev nD) (t : Fin 8)

theorem blk0 (r : Fin 256) (j : Fin 2048) : tx m c t (ix2 r j) = ax m c (ix2 (row t r) j) := by
  show iblk m c 0 t (ix2 r j) = m ((c : Thread nD τ).loc main_arg0) (ix2 (row t r) j)
  blk_point [iblk, V, idx t]
  blk_ext [idx t, row_val]

theorem blk1 (r : Fin 256) (j : Fin 2048) : ty m c t (ix2 r j) = ay m c (ix2 (row t r) j) := by
  show iblk m c 1 t (ix2 r j) = m ((c : Thread nD τ).loc main_arg2) (ix2 (row t r) j)
  blk_point [iblk, V, idx t]
  blk_ext [idx t, row_val]

theorem blk2 (j : Fin 2048) : tg m c t (ix2 (0 : Fin 1) j) = ag m c (ix1 j) := by
  rw [← g_entry m c 0]
  show iblk m c 2 t (ix2 (0 : Fin 1) j) = _
  blk_point [iblk, idx t]
  blk_ext [idx t]

/-- A tile of the first result is those rows of the reference's. -/
theorem dx_tile (r : Fin 256) (j : Fin 2048) :
    k0_pay12 (F := Ideal) (tx m c t) (ty m c t) (tg m c t) (ix2 r j)
      = val_main_v50 (F := Ideal) (ax m c) (ag m c) (ay m c) (ix2 (row t r) j) := by
  refine (grad_at _ _ _ r j).trans ?_
  rw [ref_dx_at]
  simp only [blk0, blk1, blk2]

theorem outs_dx (c : Dev nD) (t : Fin cfg0.N) :
    (outsAt0 m c t.val t.isLt).1 = k0_pay12 (F := Ideal) (tx m c t) (ty m c t) (tg m c t) := by
  have ht : t.val < 8 := t.isLt.trans_eq N_0
  by_cases h : t.val % 8 = 0
  · rw [outsAt0_A m c t h (by omega) h (by omega)]; frame_out
  · rw [outsAt0_B m c t h (by omega) h (by omega)]; frame_out

theorem outs_dxb (c : Dev nD) (t : Fin cfg0.N) :
    (outsAt0 m c t.val t.isLt).2.1 = truncf .bf16 (k0_pay12 (F := Ideal) (tx m c t) (ty m c t) (tg m c t)) bitsLt_bf16_f32 := by
  have ht : t.val < 8 := t.isLt.trans_eq N_0
  by_cases h : t.val % 8 = 0
  · rw [outsAt0_A m c t h (by omega) h (by omega)]; frame_out; rfl
  · rw [outsAt0_B m c t h (by omega) h (by omega)]; frame_out; rfl

theorem final_dx (c : Dev nD) : (dats m 0 c).arrAt 3 cfg0.N = val_main_v50 (F := Ideal) (ax m c) (ag m c) (ay m c) := by
  refine (dats m 0 c).arrAt_eq_of_covers 3 _ (by decide +kernel) fun t hf y => ?_
  blk_simp
  rw [after0_3, outs_dx]
  obtain ⟨a, b, rfl⟩ : ∃ (a : Fin 256) (b : Fin 2048), y = ix2 a b := ⟨y 0, y 1, eq_ix2 y⟩
  refine (dx_tile m c t a b).trans ?_
  blk_ext [idx t]
  exact row_val t a

theorem final_dxb (c : Dev nD) : (dats m 0 c).arrAt 4 cfg0.N = val_main_v51 (F := Ideal) (ax m c) (ag m c) (ay m c) := by
  refine (dats m 0 c).arrAt_eq_of_covers 4 _ (by decide +kernel) fun t hf y => ?_
  blk_simp
  rw [after0_4, outs_dxb]
  obtain ⟨a, b, rfl⟩ : ∃ (a : Fin 256) (b : Fin 2048), y = ix2 a b := ⟨y 0, y 1, eq_ix2 y⟩
  refine (dx_tile m c t a b).trans ?_
  blk_ext [idx t]
  exact row_val t a

/-- The weight's accumulator after the last tile. -/
theorem acc_dg (c : Dev nD) (j : S1x2048.Idx) :
    (outsAt0 m c t0_7.val t0_7.isLt).2.2.1 j = ∑ t : Fin 8, k0_pay11 (F := Ideal) (tx m c t) (ty m c t) (tg m c t) j := by
  rw [Pipeline.eq_sum_fin_of_reset_step_apply_last (fun n h => (outsAt0 m c n h).2.2.1) 8 (fun _ => 0)
    (fun t j => k0_pay11 (F := Ideal) (tx m c t) (ty m c t) (tg m c t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      exact add_dg _ _ j)
    (le_of_eq N_0) t0_7 rfl j, zero_add]
  rfl

/-- The loss's accumulator after the last tile. -/
theorem acc_loss (c : Dev nD) (j : S1x128.Idx) :
    (outsAt0 m c t0_7.val t0_7.isLt).2.2.2 j = ∑ t : Fin 8, tileLoss (tx m c t) (ty m c t) (tg m c t) j := by
  rw [Pipeline.eq_sum_fin_of_reset_step_apply_last (fun n h => (outsAt0 m c n h).2.2.2) 8 (fun _ => 0)
    (fun t j => tileLoss (tx m c t) (ty m c t) (tg m c t) j)
    (fun t h j => by
      have ht : t.val < 8 := t.isLt.trans_eq N_0
      rw [outsAt0_A m c t h (by omega) h (by omega)]; frame_out
      exact (zero_add _).symm)
    (fun t h j => by
      have ht : t.val < 8 := t.isLt.trans_eq N_0
      rw [outsAt0_B m c t h (by omega) h (by omega)]; frame_out
      exact add_loss _ _ j)
    (le_of_eq N_0) t0_7 rfl j, zero_add]
  rfl

theorem final_dg (c : Dev nD) : (dats m 0 c).arrAt 5 cfg0.N = val_main_v52 (F := Ideal) (ax m c) (ag m c) (ay m c) := by
  refine (dats m 0 c).arrAt_eq_of_after_last 5 t0_7 (by decide +kernel) _ fun j => ?_
  blk_simp
  rw [after0_5]
  obtain ⟨a, b, rfl⟩ : ∃ (a : Fin 1) (b : Fin 2048), j = ix2 a b := ⟨j 0, j 1, eq_ix2 j⟩
  obtain rfl : a = 0 := Subsingleton.elim _ _
  refine (acc_dg m c _).trans ?_
  rw [ref_dg_at, ← sum_rows]
  refine Finset.sum_congr rfl fun t _ => (wgrad_at _ _ _ b).trans ?_
  simp only [blk0, blk1, blk2]

theorem final_loss (c : Dev nD) : (dats m 0 c).arrAt 6 cfg0.N = val_main_v53 (F := Ideal) (ax m c) (ag m c) (ay m c) := by
  refine (dats m 0 c).arrAt_eq_of_after_last 6 t0_7 (by decide +kernel) _ fun j => ?_
  blk_simp
  rw [after0_6]
  obtain ⟨a, b, rfl⟩ : ∃ (a : Fin 1) (b : Fin 128), j = ix2 a b := ⟨j 0, j 1, eq_ix2 j⟩
  obtain rfl : a = 0 := Subsingleton.elim _ _
  refine (acc_loss m c _).trans ?_
  rw [ref_loss_at, ← sum_rows, half_eq, mul_sum_of_nonneg (by norm_num)]
  refine Finset.sum_congr rfl fun t _ => (loss_at _ _ _ b).trans ?_
  simp only [blk0, blk1, blk2, half_eq]

end Values

end Cert.LossBwdIdeal.RefValue

namespace Cert.Proof

/-- The call computes the loss and its derivative. -/
theorem loss : Cert.algebraic_LossBwdIdeal_LossRefIdeal := by
  pair_intro
  · run_from Cert.LossBwdIdeal.Value.run_blocks m g
  · hlo_run
    · exact (Cert.LossBwdIdeal.RefValue.final_dx m c).symm
    · exact (Cert.LossBwdIdeal.RefValue.final_dxb m c).symm
    · exact (Cert.LossBwdIdeal.RefValue.final_dg m c).symm
    · exact (Cert.LossBwdIdeal.RefValue.final_loss m c).symm

end Cert.Proof
-- ==== Proof.NormFwd.lean ====
/- The norm's forward call against the reference's norm. -/
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Rows
public import proofs.«01_k».proof.Proof.RmsGrad
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFwdIdeal.RefValue

open Cert.NormFwdIdeal Cert.NormFwdIdeal.Gen
open Cert.NormFwdRefIdeal.Read Cert.Rows

theorem tile_at (x : FVec Ideal S256x2048 .f32) (g : FVec Ideal S1x2048 .f32) (r : Fin 256) (j : Fin 2048) :
    k0_pay1 (F := Ideal) x g (ix2 r j)
      = x (ix2 r j) * Rms.scale (fun k => x (ix2 r k)) * g (ix2 (0 : Fin 1) j) := by
  pointwise [k0_pay1]
  rfl

theorem ref_at (x : FVec Ideal S2048x2048 .f32) (g : FVec Ideal S2048 .f32) (r j : Fin 2048) :
    val_main_v13 (F := Ideal) x g (ix2 r j)
      = x (ix2 r j) * Rms.scale (fun k => x (ix2 r k)) * g (ix1 j) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

variable (m : (ℓ : Loc nD τ sig) → Buf (Elt Ideal) ℓ)

/-- The arguments: the rows and the gains. -/
abbrev ax (c : Dev nD) : FVec Ideal S2048x2048 .f32 := m ((c : Thread nD τ).loc main_arg0)
abbrev ag (c : Dev nD) : FVec Ideal S2048 .f32 := m ((c : Thread nD τ).loc main_arg1)

/-- The block every window shows at grid point `t`. -/
theorem idx : ∀ t : Fin cfg0.N, win0_0.index t = ![t.val, 0] ∧ win0_1.index t = ![0, 0] ∧ win0_2.index t = ![t.val, 0] :=
  (by decide +kernel : ∀ t : Fin grid0.N, _)

theorem g_entry (c : Dev nD) (a : Fin 1) (j : Fin 2048) : V m c main_v0 (ix2 a j) = ag m c (ix1 j) := by
  entry_read
  pointwise

abbrev tx (c : Dev nD) (t : Fin 8) : FVec Ideal S256x2048 .f32 := iblk m c 0 t
abbrev tg (c : Dev nD) (t : Fin 8) : FVec Ideal S1x2048 .f32 := iblk m c 1 t

variable (c : Dev nD) (t : Fin 8)

theorem blk0 (r : Fin 256) (j : Fin 2048) : tx m c t (ix2 r j) = ax m c (ix2 (row t r) j) := by
  show iblk m c 0 t (ix2 r j) = m ((c : Thread nD τ).loc main_arg0) (ix2 (row t r) j)
  blk_point [iblk, V, idx t]
  blk_ext [idx t, row_val]

theorem blk1 (j : Fin 2048) : tg m c t (ix2 (0 : Fin 1) j) = ag m c (ix1 j) := by
  rw [← g_entry m c 0]
  show iblk m c 1 t (ix2 (0 : Fin 1) j) = _
  blk_point [iblk, idx t]
  blk_ext [idx t]

theorem h_tile (r : Fin 256) (j : Fin 2048) :
    k0_pay1 (F := Ideal) (tx m c t) (tg m c t) (ix2 r j) = val_main_v13 (F := Ideal) (ax m c) (ag m c) (ix2 (row t r) j) := by
  refine (tile_at _ _ r j).trans ?_
  rw [ref_at]
  simp only [blk0, blk1]

theorem outs_h (c : Dev nD) (t : Fin cfg0.N) :
    out0_2 (iblk m c 0 t) (iblk m c 1 t) = k0_pay1 (F := Ideal) (tx m c t) (tg m c t) := by
  frame_out

theorem final_h (c : Dev nD) : (dats m 0 c).arrAt 2 cfg0.N = val_main_v13 (F := Ideal) (ax m c) (ag m c) := by
  refine (dats m 0 c).arrAt_eq_of_covers 2 _ (by decide +kernel) fun t hf y => ?_
  blk_simp; rw [after0_2, outs_h]
  obtain ⟨a, b, rfl⟩ : ∃ (a : Fin 256) (b : Fin 2048), y = ix2 a b := ⟨y 0, y 1, eq_ix2 y⟩
  refine (h_tile m c t a b).trans ?_
  blk_ext [idx t]
  exact row_val t a

end Cert.NormFwdIdeal.RefValue

namespace Cert.Proof

/-- The call computes the norm. -/
theorem norm_fwd : Cert.algebraic_NormFwdIdeal_NormFwdRefIdeal := by
  pair_intro
  · run_from Cert.NormFwdIdeal.Value.run_blocks m g
  · hlo_run
    exact (Cert.NormFwdIdeal.RefValue.final_h m c).symm

end Cert.Proof
-- ==== Proof.PoolPrefix.lean ====
/- Running sums from the first row, their differences a window apart, and the norm's factor as a real number. -/
module

public import proofs.«01_k».proof.Proof.Reals
public import proofs.«01_k».proof.Proof.RmsGrad
public import proofs.«01_k».proof.Proof.PoolWindow
public import Idealize.ShloMosaic.Lib.Claim
public import Idealize.ShloMosaic.Lib.Pointwise

@[expose] public section

set_option maxRecDepth 16384

noncomputable section

open Idealize.ShloMosaic
open Cert.Reals

namespace Cert.Window

/-- The element `j` rows before row `r`; nothing before the first row. -/
def before (e : ℕ → EReal) (r j : ℕ) : EReal := if j ≤ r then e (r - j) else 0

/-- The running sum up to a row, counted from the row back. -/
theorem prefix_back (e : ℕ → EReal) (r : ℕ) :
    ∑ k : Fin 2048, (if 2047 ≤ r + k.val then e (r + k.val - 2047) else 0) = ∑ j ∈ Finset.range 2048, before e r j := by
  rw [← Finset.sum_range fun k => if 2047 ≤ r + k then e (r + k - 2047) else 0, ← Finset.sum_range_reflect]
  refine Finset.sum_congr rfl fun j hj => ?_
  have hj : j < 2048 := Finset.mem_range.mp hj
  unfold before
  by_cases h : j ≤ r
  · rw [if_pos (by omega), if_pos h]; congr 1; omega
  · rw [if_neg (by omega), if_neg h]

/-- The difference of the running sums at two rows a window apart is the window's sum. -/
theorem prefix_diff (e : ℕ → EReal) (hr : ∀ q, IsReal (e q)) (w r : ℕ) (hq : r < 2048) :
    ∑ j ∈ Finset.range 2048, before e r j - (if w ≤ r then ∑ j ∈ Finset.range 2048, before e (r - w) j else 0)
      = ∑ j ∈ Finset.range w, before e r j := by
  have real : ∀ j, IsReal (before e r j) := fun j => by
    unfold before
    split_ifs
    · exact hr _
    · exact ⟨0, by simp⟩
  have back : (if w ≤ r then ∑ j ∈ Finset.range 2048, before e (r - w) j else 0) = ∑ j ∈ Finset.range 2048, before e r (j + w) := by
    by_cases h : w ≤ r
    · rw [if_pos h]
      refine Finset.sum_congr rfl fun j _ => ?_
      unfold before
      by_cases h' : j ≤ r - w
      · rw [if_pos h', if_pos (by omega)]; congr 1; omega
      · rw [if_neg h', if_neg (by omega)]
    · rw [if_neg h]
      exact (Finset.sum_eq_zero fun j _ => if_neg (by omega)).symm
  rw [back]
  choose f hf using real
  have f0 : ∀ j, 2048 ≤ j → f j = 0 := fun j h => by
    have : before e r j = 0 := if_neg (by omega)
    rw [hf] at this
    exact_mod_cast this
  simp only [hf]
  rw [← coe_sum, ← coe_sum, ← coe_sum, ← EReal.coe_sub, ← Finset.sum_sub_distrib, sum_diff f w 2048]
  rw [Finset.sum_eq_zero (s := Finset.range w) (f := fun k => f (2048 + k)) fun k _ => f0 _ (by omega), sub_zero]

/-- One position of the window that ends at a row: the element before it by that much, or nothing before the first row. -/
theorem window_point_low {T D n p : ℕ} (x : (⟨2, ![T, D]⟩ : Shape).Idx → EReal) (r : Fin T) (j : Fin D) (i : (⟨2, ![n, 1]⟩ : Shape).Idx)
    [Decidable (∀ a : Fin 2, ![p, 0] a ≤ (ix2 r j a).val * ![1, 1] a + (i a).val
        ∧ (ix2 r j a).val * ![1, 1] a + (i a).val - ![p, 0] a < (⟨2, ![T, D]⟩ : Shape).size a)] :
    (if hin : ∀ a : Fin 2, ![p, 0] a ≤ (ix2 r j a).val * ![1, 1] a + (i a).val
        ∧ (ix2 r j a).val * ![1, 1] a + (i a).val - ![p, 0] a < (⟨2, ![T, D]⟩ : Shape).size a then
      x (fun a => ⟨(ix2 r j a).val * ![1, 1] a + (i a).val - ![p, 0] a, (hin a).2⟩) else (0 : EReal))
      = if h : p ≤ r.val + (i 0).val ∧ r.val + (i 0).val - p < T then (x (ix2 (⟨r.val + (i 0).val - p, h.2⟩ : Fin T) j) : EReal) else (0 : EReal) := by
  obtain ⟨a, b, rfl⟩ : ∃ (a : Fin n) (b : Fin 1), i = ix2 a b := ⟨i 0, i 1, eq_ix2 i⟩
  have hb : b.val = 0 := by omega
  show _ = if h : p ≤ r.val + a.val ∧ r.val + a.val - p < T then (x (ix2 (⟨r.val + a.val - p, h.2⟩ : Fin T) j) : EReal) else (0 : EReal)
  by_cases hr : p ≤ r.val + a.val ∧ r.val + a.val - p < T
  · have hin : ∀ d : Fin 2, ![p, 0] d ≤ (ix2 r j d).val * ![1, 1] d + (ix2 a b d).val
        ∧ (ix2 r j d).val * ![1, 1] d + (ix2 a b d).val - ![p, 0] d < (⟨2, ![T, D]⟩ : Shape).size d := fun d => by
      fin_cases d
      · simpa using hr
      · simp [hb]
    rw [dif_pos hin]
    rw [dif_pos hr]
    refine congrArg x (funext fun d => ?_)
    refine Fin.ext ?_
    fin_cases d
    · simp
    · simp [hb]
  · rw [dif_neg fun hin => hr (by simpa using hin 0)]
    rw [dif_neg hr]

/-- The host's running sum up to a row, element by element. -/
theorem running_low_at {T D p n : ℕ} (x : FVec Ideal ⟨2, ![T, D]⟩ .f32) (init : FVec Ideal ⟨0, ![]⟩ .f32)
    (h : (⟨2, ![T, D]⟩ : Shape).ReduceWindows ![n, 1] ![1, 1] ![p, 0] ![0, 0] ⟨2, ![T, D]⟩) (hu : 0 < (⟨0, ![]⟩ : Shape).numel)
    (h0 : init (Shape.Idx.first hu) = (0 : EReal)) (r : Fin T) (j : Fin D) :
    Host.reduceWindowAdd (F := Ideal) (t := ⟨2, ![T, D]⟩) ![n, 1] ![1, 1] ![p, 0] ![0, 0] x init h hu (ix2 r j)
      = ∑ k : Fin n, (if h : p ≤ r.val + k.val ∧ r.val + k.val - p < T then x (ix2 (⟨r.val + k.val - p, h.2⟩ : Fin T) j) else (0 : EReal)) := by
  show List.foldl (fun acc e => acc + _) (init (Shape.Idx.first hu)) (List.finRange _) = _
  rw [foldl_add, h0, zero_add, ← Fin.sum_univ_def]
  refine Eq.trans (b := ∑ i : (⟨2, ![n, 1]⟩ : Shape).Idx,
    (if h : p ≤ r.val + (i 0).val ∧ r.val + (i 0).val - p < T then x (ix2 (⟨r.val + (i 0).val - p, h.2⟩ : Fin T) j) else (0 : EReal))) ?_ ?_
  · rw [← Equiv.sum_comp (Shape.rowMajor ⟨2, ![n, 1]⟩).symm]
    refine Finset.sum_congr rfl fun k _ => ?_
    exact @window_point_low T D n p x r j ((Shape.rowMajor ⟨2, ![n, 1]⟩).symm k) (Nat.decidableForallFin _)
  · rw [sum_idx2]
    exact Finset.sum_congr rfl fun a _ => by rw [Finset.univ_unique, Finset.sum_singleton]; rfl

end Cert.Window

namespace Cert.Rms

theorem width_eq : width = ((2048 : ℝ) : EReal) := by
  unfold width
  simp [Ideal.ofBits, Ideal.ieee]; rw [← EReal.coe_mul]; norm_num

theorem small_pos : ∃ s : ℝ, 0 < s ∧ Ideal.ofBits .f32 897988541#32 = (s : EReal) := by
  refine ⟨8796093 * (2 : ℝ) ^ (-43 : ℤ), by positivity, ?_⟩
  simp [Ideal.ofBits, Ideal.ieee]

/-- An element under its row's norm is a real number, whatever the row holds: an infinite element makes the factor zero. -/
theorem normed_real {n : ℕ} (x : Fin n → EReal) (k : Fin n) : IsReal (x k * scale x) := by
  obtain ⟨s, hs, es⟩ := small_pos
  have sq : ∀ a : EReal, 0 ≤ a * a := fun a => by
    rcases le_total 0 a with h | h
    · exact mul_nonneg h h
    · have := mul_nonneg (EReal.neg_nonneg.mpr h) (EReal.neg_nonneg.mpr h)
      rwa [EReal.neg_mul, mul_comm, EReal.neg_mul, neg_neg] at this
  have h2 : (2048 : ℝ) ≠ 0 := by norm_num
  by_cases hx : ∀ i, IsReal (x i)
  · choose f hf using hx
    have e : meanSq x = (((∑ i, f i * f i) * (1 / (2048 : ℝ)) + s : ℝ) : EReal) := by
      unfold meanSq
      rw [es, width_eq, Ideal.div_coe h2]
      simp only [hf]
      rw [EReal.coe_add, EReal.coe_mul, coe_sum]
      simp only [EReal.coe_mul]
    have pos : 0 < (∑ i, f i * f i) * (1 / (2048 : ℝ)) + s := by
      have : 0 ≤ ∑ i, f i * f i := Finset.sum_nonneg fun i _ => mul_self_nonneg _
      positivity
    unfold scale
    rw [e, hf k]
    refine (isReal_coe _).mul ?_
    show IsReal (if _ < (0 : ℝ) then ⊥ else if _ = (0 : ℝ) then ⊤ else _)
    rw [if_neg (not_lt.mpr pos.le), if_neg pos.ne']
    exact isReal_coe _
  · have top : ∃ i, x i * x i = ⊤ := by
      push Not at hx
      obtain ⟨i, hi⟩ := hx
      refine ⟨i, ?_⟩
      generalize x i = a at hi
      induction a with
      | bot => exact EReal.bot_mul_bot
      | coe r => exact absurd (isReal_coe r) hi
      | top => exact EReal.top_mul_top
    obtain ⟨i, hi⟩ := top
    have sum : ∑ l, x l * x l = ⊤ := by
      have := Finset.single_le_sum (f := fun l => x l * x l) (fun l _ => sq (x l)) (Finset.mem_univ i)
      simp only [hi] at this
      exact top_le_iff.mp this
    have e : meanSq x = ⊤ := by
      unfold meanSq
      rw [sum, es, width_eq, Ideal.div_coe h2, EReal.top_mul_coe_of_pos (by norm_num)]
      exact EReal.top_add_coe _
    have z : scale x = 0 := by unfold scale; rw [e]; rfl
    rw [z, mul_zero]
    exact ⟨0, by simp⟩

end Cert.Rms
-- ==== Proof.PoolFwd.lean ====
/- The value of the pooling mixer's forward call against the norm and the windows' means. -/
module

public import proofs.«01_k».proof.Defs
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Rows
public import proofs.«01_k».proof.Proof.Reals
public import proofs.«01_k».proof.Proof.RmsGrad
public import proofs.«01_k».proof.Proof.PoolWindow
public import proofs.«01_k».proof.Proof.PoolPrefix
public import Idealize.ShloMosaic.Lib.KernelVsHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolFwdIdeal.RefValue

open Cert.PoolFwdIdeal Cert.PoolFwdIdeal.Gen
open Cert.PoolFwdRefIdeal.Read Cert.Rows Cert.Reals Cert.Window

/-- The normed rows of a column; nothing past the last row. -/
def normed (x : FVec Ideal S2048x2048 .f32) (g : FVec Ideal S2048 .f32) (j : Fin 2048) (q : ℕ) : EReal :=
  if h : q < 2048 then x (ix2 (⟨q, h⟩ : Fin 2048) j) * Rms.scale (fun k => x (ix2 (⟨q, h⟩ : Fin 2048) k)) * g (ix1 j) else 0

theorem normed_isReal (x : FVec Ideal S2048x2048 .f32) {g : FVec Ideal S2048 .f32} (hg : ∀ i, IsReal (g i)) (j : Fin 2048) (q : ℕ) :
    IsReal (normed x g j q) := by
  unfold normed
  split_ifs with h
  · exact (Rms.normed_real (fun k => x (ix2 (⟨q, h⟩ : Fin 2048) k)) j).mul (hg _)
  · exact ⟨0, by simp⟩

/-- The pooling: the mean of the window that ends at a row, less the row. -/
def pooled (x : FVec Ideal S2048x2048 .f32) (g : FVec Ideal S2048 .f32) (q j : Fin 2048) : EReal :=
  Ideal.div (∑ i ∈ Finset.range (width j.val), before (normed x g j) q.val i) (count (width j.val) q.val) - normed x g j q.val

section Tile

/-- A block added to itself moved down by some rows. -/
def twice (k : BitVec 32) (x : FVec Ideal S288x512 .f32) : FVec Ideal S288x512 .f32 := addf x (dynamicRotate 0 k none x rotates_S288x512_d0)

theorem rotated_at (n : ℕ) (hn : n ≤ 8) (x : FVec Ideal S288x512 .f32) (r : ℕ) (h : n ≤ r) (hr : r < 288) (d : Fin 512) :
    dynamicRotate 0 (BitVec.ofNat 32 n) none x rotates_S288x512_d0 (ix2 (⟨r, hr⟩ : Fin 288) d) = x (ix2 (⟨r - n, by omega⟩ : Fin 288) d) := by
  refine dynamicRotate_apply 0 _ x _ _ _ fun b => ?_
  have e : (BitVec.ofNat 32 n).toNat = n := by rw [BitVec.toNat_ofNat]; omega
  fin_cases b
  · show r - n = (r + 288 - (BitVec.ofNat 32 n).toNat % 288) % 288
    rw [e]
    omega
  · rfl

/-- The block's row `r` holds the sum of the `n` terms that end at the `r`-th, as far as there are so many. -/
def Holds (x : FVec Ideal S288x512 .f32) (e : ℕ → EReal) (d : Fin 512) (n : ℕ) : Prop :=
  ∀ (r : ℕ) (h : n ≤ r + 1) (hr : r < 288), x (ix2 (⟨r, hr⟩ : Fin 288) d) = ∑ i ∈ Finset.range n, e (r - i)

theorem twice_holds {x : FVec Ideal S288x512 .f32} {e : ℕ → EReal} {d : Fin 512} {n : ℕ} (h0 : 0 < n) (hn : n ≤ 8) (hx : Holds x e d n) :
    Holds (twice (BitVec.ofNat 32 n) x) e d (n + n) := by
  intro r h hr
  show x _ + dynamicRotate 0 (BitVec.ofNat 32 n) none x rotates_S288x512_d0 _ = _
  rw [rotated_at n hn x r (by omega) hr, hx r (by omega), hx (r - n) (by omega), Finset.sum_range_add]
  simp only [Nat.sub_sub]

theorem pay5_eq (i : grid0.Coords) (v0 : FVec Ideal S256x2048 .f32) (v1 : FVec Ideal S32x2048 .f32) (v2 : FVec Ideal S1x2048 .f32) :
    k0_pay5 (F := Ideal) i v0 v1 v2 = twice 1#32 (extractStridedSlice S288x512 ![0, 0] (k0_pay4 i v0 v1 v2) slices_S288x2048_o0_0_S288x512) := rfl

theorem pay6_eq (i : grid0.Coords) (v0 : FVec Ideal S256x2048 .f32) (v1 : FVec Ideal S32x2048 .f32) (v2 : FVec Ideal S1x2048 .f32) :
    k0_pay6 (F := Ideal) i v0 v1 v2 = twice 2#32 (twice 1#32 (extractStridedSlice S288x512 ![0, 512] (k0_pay4 i v0 v1 v2) slices_S288x2048_o0_512_S288x512)) := rfl

theorem pay7_eq (i : grid0.Coords) (v0 : FVec Ideal S256x2048 .f32) (v1 : FVec Ideal S32x2048 .f32) (v2 : FVec Ideal S1x2048 .f32) :
    k0_pay7 (F := Ideal) i v0 v1 v2 = extractStridedSlice S288x512 ![0, 1024] (k0_pay4 i v0 v1 v2) slices_S288x2048_o0_1024_S288x512 := rfl

theorem pay8_eq (c : FVec Ideal S288x2048 .f32) (p q z : FVec Ideal S288x512 .f32) :
    k0_pay8 (F := Ideal) c p q z 1#32 = extractStridedSlice S256x2048 ![32, 0] (concatenate S288x2048 1 [⟨S288x512, p⟩, ⟨S288x512, q⟩,
      ⟨S288x512, twice 4#32 (twice 2#32 (twice 1#32 z))⟩,
      ⟨S288x512, twice 8#32 (twice 4#32 (twice 2#32 (twice 1#32 (extractStridedSlice S288x512 ![0, 1536] c slices_S288x2048_o0_1536_S288x512))))⟩]
      concatenates_S288x512_S288x512_S288x512_S288x512_S288x2048_d1) slices_S288x2048_o32_0_S256x2048 := rfl

theorem groups_at (b0 b1 b2 b3 : FVec Ideal S288x512 .f32) (r : Fin 256) (j : Fin 2048) :
    extractStridedSlice S256x2048 ![32, 0] (concatenate S288x2048 1 [⟨S288x512, b0⟩, ⟨S288x512, b1⟩, ⟨S288x512, b2⟩, ⟨S288x512, b3⟩]
      concatenates_S288x512_S288x512_S288x512_S288x512_S288x2048_d1) slices_S288x2048_o32_0_S256x2048 (ix2 r j)
      = (if h : j.val < 512 then b0 (ix2 (⟨32 + r.val, by omega⟩ : Fin 288) (⟨j.val, h⟩ : Fin 512))
        else if h1 : j.val - 512 < 512 then b1 (ix2 (⟨32 + r.val, by omega⟩ : Fin 288) (⟨j.val - 512, h1⟩ : Fin 512))
        else if h2 : j.val - 512 - 512 < 512 then b2 (ix2 (⟨32 + r.val, by omega⟩ : Fin 288) (⟨j.val - 512 - 512, h2⟩ : Fin 512))
        else b3 (ix2 (⟨32 + r.val, by omega⟩ : Fin 288) (⟨j.val - 512 - 512 - 512, by omega⟩ : Fin 512))) := by
  pointwise

theorem windows_at (i : grid0.Coords) (v0 : FVec Ideal S256x2048 .f32) (v1 : FVec Ideal S32x2048 .f32) (v2 : FVec Ideal S1x2048 .f32)
    (r : Fin 256) (j : Fin 2048) (e : ℕ → EReal) (he : ∀ p : Fin 288, k0_pay4 (F := Ideal) i v0 v1 v2 (ix2 p j) = e p.val) :
    k0_pay8 (F := Ideal) (k0_pay4 i v0 v1 v2) (k0_pay5 i v0 v1 v2) (k0_pay6 i v0 v1 v2) (k0_pay7 i v0 v1 v2) 1#32 (ix2 r j)
      = ∑ k ∈ Finset.range (width j.val), e (32 + r.val - k) := by
  rw [pay8_eq, pay5_eq, pay6_eq, pay7_eq, groups_at]
  have base : ∀ (o : ℕ) (hs) (d : Fin 512) (hd : o + d.val = j.val),
      Holds (extractStridedSlice S288x512 ![0, o] (k0_pay4 (F := Ideal) i v0 v1 v2) hs) e d 1 := fun o hs d hd r h hr => by
    rw [Finset.sum_range_one, Nat.sub_zero, ← he ⟨r, hr⟩]
    show k0_pay4 (F := Ideal) i v0 v1 v2 _ = _
    congr 1
    funext b
    refine Fin.ext ?_
    fin_cases b
    · show 0 + r = r
      omega
    · exact hd
  split_ifs with h h1 h2
  · rw [show width j.val = 1 + 1 by unfold width; split_ifs <;> omega]
    exact twice_holds (by omega) (by omega) (base 0 _ ⟨j.val, h⟩ (by simp)) (32 + r.val) (by omega) _
  · rw [show width j.val = (1 + 1) + (1 + 1) by unfold width; split_ifs <;> omega]
    exact twice_holds (by omega) (by omega) (twice_holds (by omega) (by omega) (base 512 _ ⟨j.val - 512, h1⟩ (by simp; omega))) (32 + r.val) (by omega) _
  · rw [show width j.val = ((1 + 1) + (1 + 1)) + ((1 + 1) + (1 + 1)) by unfold width; split_ifs <;> omega]
    exact twice_holds (by omega) (by omega) (twice_holds (by omega) (by omega) (twice_holds (by omega) (by omega)
      (base 1024 _ ⟨j.val - 512 - 512, h2⟩ (by simp; omega)))) (32 + r.val) (by omega) _
  · rw [show width j.val = (((1 + 1) + (1 + 1)) + ((1 + 1) + (1 + 1))) + (((1 + 1) + (1 + 1)) + ((1 + 1) + (1 + 1))) by unfold width; split_ifs <;> omega]
    exact twice_holds (by omega) (by omega) (twice_holds (by omega) (by omega) (twice_holds (by omega) (by omega) (twice_holds (by omega) (by omega)
      (base 1536 _ ⟨j.val - 512 - 512 - 512, by omega⟩ (by simp; omega))))) (32 + r.val) (by omega) _

theorem counts_at (v15 v57 : FVec Ideal S256x2048 .f32) (t : ℕ) (ht : t < 8) (r : Fin 256) (j : Fin 2048) :
    k0_pay1 (F := Ideal) v15 v57 (k0_pay10 (BitVec.ofNat 32 t)) (k0_pay11 (BitVec.ofNat 32 t)) (k0_pay12 (BitVec.ofNat 32 t)) (k0_pay13 (BitVec.ofNat 32 t)) k0_pay14 (ix2 r j)
      = Ideal.div (v57 (ix2 r j)) (count (width j.val) (t * 256 + r.val)) - v15 (ix2 r j) := by
  have hw : IntOp.addi (IntOp.addi (Scalar.muli (BitVec.ofNat 32 t) 256#32) (BitVec.ofNat 32 r.val)) 1#32
      = BitVec.ofNat 32 (t * 256 + r.val + 1) := by
    show BitVec.ofNat 32 t * 256#32 + BitVec.ofNat 32 r.val + 1#32 = _
    simp [BitVec.ofNat_add, BitVec.ofNat_mul]
  pointwise [k0_pay1, k0_pay9, k0_pay10, k0_pay11, k0_pay12, k0_pay13, k0_pay14]
  rw [hw]
  congr 2
  have c := fun w hw' => count_word (w := w) (q := t * 256 + r.val) (by omega) hw' rfl
  unfold width
  split_ifs <;> first | exact c _ (by omega) | omega

theorem pay3_at (x : FVec Ideal S256x2048 .f32) (g : FVec Ideal S1x2048 .f32) (r : Fin 256) (j : Fin 2048) :
    k0_pay3 (F := Ideal) x g (ix2 r j) = x (ix2 r j) * Rms.scale (fun k => x (ix2 r k)) * g (ix2 (0 : Fin 1) j) := by
  pointwise [k0_pay3, k0_pay2]
  rfl

theorem pay4_at (i : grid0.Coords) (hi : (i 0).val < 8) (v0 : FVec Ideal S256x2048 .f32) (v1 : FVec Ideal S32x2048 .f32) (v2 : FVec Ideal S1x2048 .f32)
    (p : Fin 288) (j : Fin 2048) :
    k0_pay4 (F := Ideal) i v0 v1 v2 (ix2 p j)
      = if h : p.val < 32 then (if 0 < (i 0).val then v1 (ix2 (⟨p.val, h⟩ : Fin 32) j) * Rms.scale (fun k => v1 (ix2 (⟨p.val, h⟩ : Fin 32) k)) * v2 (ix2 (0 : Fin 1) j) else 0)
        else k0_pay3 (F := Ideal) v0 v2 (ix2 (⟨p.val - 32, by omega⟩ : Fin 256) j) := by
  have sgt : ∀ t : Fin 8, Scalar.cmpi CmpIPredicate.sgt (BitVec.ofNat 32 t.val) 0#32 = if 0 < t.val then 1#1 else 0#1 := by decide
  have s := sgt ⟨(i 0).val, hi⟩
  simp only at s
  by_cases hp : p.val < 32
  · pointwise [k0_pay4, k0_pay2]
    simp only [hp, dite_true]
    rw [s]
    by_cases h0 : 0 < (i 0).val
    · simp only [h0, if_true, Scalar.select]
      exact if_pos rfl
    · simp [h0, Scalar.select]
  · pointwise [k0_pay4]
    simp only [hp, dite_false]

end Tile

section Reference

open Cert.PoolFwdRefIdeal

variable (x : FVec Ideal S2048x2048 .f32) (g : FVec Ideal S2048 .f32)

theorem v12_at (q j : Fin 2048) : val_main_v12 (F := Ideal) x g (ix2 q j) = normed x g j q.val := by
  unfold normed
  rw [dif_pos q.isLt]
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem v13_at (q j : Fin 2048) : val_main_v13 (F := Ideal) x g (ix2 q j) = ∑ k ∈ Finset.range 2048, before (normed x g j) q.val k := by
  unfold val_main_v13
  rw [running_low_at _ _ _ _ (by pointwise [val_main_call0_call0_v0, val_main_call0_call0_cst]), ← prefix_back]
  refine Finset.sum_congr rfl fun k _ => ?_
  by_cases hk : 2047 ≤ q.val + k.val
  · have h2 : q.val + k.val - 2047 < 2048 := by omega
    rw [dif_pos ⟨hk, h2⟩, if_pos hk, v12_at]
  · rw [dif_neg fun h => hk h.1, if_neg hk]

/-- The mean of a window of `w` rows, from the running sums. -/
def meanOf (w : ℕ) (q j : Fin 2048) : EReal :=
  Ideal.div (val_main_v13 (F := Ideal) x g (ix2 q j) - (if h : q.val < w then 0 else val_main_v13 (F := Ideal) x g (ix2 (⟨q.val - w, by omega⟩ : Fin 2048) j)))
    (count w q.val) - val_main_v12 (F := Ideal) x g (ix2 q j)

theorem meanOf_eq (hg : ∀ i, IsReal (g i)) (w : ℕ) (q j : Fin 2048) (hw : width j.val = w) : meanOf x g w q j = pooled x g q j := by
  unfold meanOf pooled
  rw [hw, v12_at, v13_at, ← prefix_diff _ (normed_isReal x hg j) w q.val q.isLt]
  congr 3
  by_cases h : q.val < w
  · rw [dif_pos h, if_neg (by omega)]
  · rw [dif_neg h, if_pos (by omega), v13_at]

theorem v28_at (q : Fin 2048) (d : Fin 512) :
    val_main_v28 (F := Ideal) x g (ix2 q d) = meanOf x g 2 q (⟨0 + d.val, by omega⟩ : Fin 2048) := by
  unfold meanOf
  rw [← count_float q.isLt two]
  pointwise [val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]

theorem v39_at (q : Fin 2048) (d : Fin 512) :
    val_main_v39 (F := Ideal) x g (ix2 q d) = meanOf x g 4 q (⟨512 + d.val, by omega⟩ : Fin 2048) := by
  unfold meanOf
  rw [← count_float q.isLt four]
  pointwise [val_main_v39, val_main_v38, val_main_v37, val_main_v36, val_main_v35, val_main_v34, val_main_v33, val_main_v32, val_main_v31, val_main_v30, val_main_v29, val_main_v17, val_main_v16, val_main_v15, val_main_v14, val_main_cst_2, val_main_cst_5, val_main_cst_6]

theorem v50_at (q : Fin 2048) (d : Fin 512) :
    val_main_v50 (F := Ideal) x g (ix2 q d) = meanOf x g 8 q (⟨1024 + d.val, by omega⟩ : Fin 2048) := by
  unfold meanOf
  rw [← count_float q.isLt eight]
  pointwise [val_main_v50, val_main_v49, val_main_v48, val_main_v47, val_main_v46, val_main_v45, val_main_v44, val_main_v43, val_main_v42, val_main_v41, val_main_v40, val_main_v17, val_main_v16, val_main_v15, val_main_v14, val_main_cst_2, val_main_cst_7, val_main_cst_8]

theorem v61_at (q : Fin 2048) (d : Fin 512) :
    val_main_v61 (F := Ideal) x g (ix2 q d) = meanOf x g 16 q (⟨1536 + d.val, by omega⟩ : Fin 2048) := by
  unfold meanOf
  rw [← count_float q.isLt sixteen]
  pointwise [val_main_v61, val_main_v60, val_main_v59, val_main_v58, val_main_v57, val_main_v56, val_main_v55, val_main_v54, val_main_v53, val_main_v52, val_main_v51, val_main_v17, val_main_v16, val_main_v15, val_main_v14, val_main_cst_2, val_main_cst_9, val_main_cst_10]

theorem sides_at (b0 b1 b2 b3 : FVec Ideal S2048x512 .f32) (q j : Fin 2048) :
    concatenate S2048x2048 1 [⟨S2048x512, b0⟩, ⟨S2048x512, b1⟩, ⟨S2048x512, b2⟩, ⟨S2048x512, b3⟩]
      Gen.concatenates_S2048x512_S2048x512_S2048x512_S2048x512_S2048x2048_d1 (ix2 q j)
      = (if h : j.val < 512 then b0 (ix2 q (⟨j.val, h⟩ : Fin 512))
        else if h1 : j.val - 512 < 512 then b1 (ix2 q (⟨j.val - 512, h1⟩ : Fin 512))
        else if h2 : j.val - 512 - 512 < 512 then b2 (ix2 q (⟨j.val - 512 - 512, h2⟩ : Fin 512))
        else b3 (ix2 q (⟨j.val - 512 - 512 - 512, by omega⟩ : Fin 512))) := by
  pointwise

theorem v63_at (hg : ∀ i, IsReal (g i)) (q j : Fin 2048) : val_main_v63 (F := Ideal) x g (ix2 q j) = pooled x g q j := by
  have e : ∀ (k : ℕ) (h : k < 2048), k = j.val → (⟨k, h⟩ : Fin 2048) = j := fun k h hk => Fin.ext hk
  refine (sides_at _ _ _ _ q j).trans ?_
  by_cases h : j.val < 512
  · rw [dif_pos h, v28_at, e _ _ (by simp only; omega)]
    exact meanOf_eq x g hg _ _ _ (by unfold width; split_ifs <;> omega)
  by_cases h1 : j.val - 512 < 512
  · rw [dif_neg h, dif_pos h1, v39_at, e _ _ (by simp only; omega)]
    exact meanOf_eq x g hg _ _ _ (by unfold width; split_ifs <;> omega)
  by_cases h2 : j.val - 512 - 512 < 512
  · rw [dif_neg h, dif_neg h1, dif_pos h2, v50_at, e _ _ (by simp only; omega)]
    exact meanOf_eq x g hg _ _ _ (by unfold width; split_ifs <;> omega)
  · rw [dif_neg h, dif_neg h1, dif_neg h2, v61_at, e _ _ (by simp only; omega)]
    exact meanOf_eq x g hg _ _ _ (by unfold width; split_ifs <;> omega)

end Reference

section Values

variable (m : (ℓ : Loc nD τ sig) → Buf (Elt Ideal) ℓ)

/-- The arguments: the rows and the gains. -/
abbrev ax (c : Dev nD) : FVec Ideal S2048x2048 .f32 := m ((c : Thread nD τ).loc main_arg0)
abbrev ag (c : Dev nD) : FVec Ideal S2048 .f32 := m ((c : Thread nD τ).loc main_arg1)

/-- The block every window shows at grid point `t`. -/
theorem idx : ∀ t : Fin cfg0.N, win0_0.index t = ![t.val, 0] ∧ win0_1.index t = ![t.val * 8 - 1, 0] ∧ win0_2.index t = ![0, 0]
    ∧ win0_3.index t = ![t.val, 0] ∧ (grid0.coords t 0).val = t.val :=
  (by decide +kernel : ∀ t : Fin grid0.N, _)

theorem g_entry (c : Dev nD) (a : Fin 1) (j : Fin 2048) : V m c main_v0 (ix2 a j) = ag m c (ix1 j) := by
  entry_read
  pointwise

abbrev tx (c : Dev nD) (t : Fin 8) : FVec Ideal S256x2048 .f32 := iblk m c 0 t
abbrev tb (c : Dev nD) (t : Fin 8) : FVec Ideal S32x2048 .f32 := iblk m c 1 t
abbrev tg (c : Dev nD) (t : Fin 8) : FVec Ideal S1x2048 .f32 := iblk m c 2 t

/-- A tile's normed rows, behind the last rows of the tile before. -/
abbrev tcat (c : Dev nD) (t : Fin 8) : FVec Ideal S288x2048 .f32 := k0_pay4 (F := Ideal) (grid0.coords t) (tx m c t) (tb m c t) (tg m c t)

/-- A tile's sums over its rows' windows. -/
abbrev tsum (c : Dev nD) (t : Fin 8) : FVec Ideal S256x2048 .f32 :=
  k0_pay8 (F := Ideal) (tcat m c t) (k0_pay5 (grid0.coords t) (tx m c t) (tb m c t) (tg m c t)) (k0_pay6 (grid0.coords t) (tx m c t) (tb m c t) (tg m c t))
    (k0_pay7 (grid0.coords t) (tx m c t) (tb m c t) (tg m c t)) 1#32

/-- A tile of the result. -/
abbrev tout (c : Dev nD) (t : Fin 8) (w : BitVec 32) : FVec Ideal S256x2048 .bf16 :=
  k0_pay1 (F := Ideal) (k0_pay3 (tx m c t) (tg m c t)) (tsum m c t) (k0_pay10 w) (k0_pay11 w) (k0_pay12 w) (k0_pay13 w) k0_pay14

variable (c : Dev nD) (t : Fin 8)

theorem blk0 (r : Fin 256) (j : Fin 2048) : tx m c t (ix2 r j) = ax m c (ix2 (row t r) j) := by
  show iblk m c 0 t (ix2 r j) = m ((c : Thread nD τ).loc main_arg0) (ix2 (row t r) j)
  blk_point [iblk, V, idx t]
  blk_ext [idx t, row_val]

theorem blk1 (h : 0 < t.val) (r : Fin 32) (j : Fin 2048) : tb m c t (ix2 r j) = ax m c (ix2 (⟨t.val * 256 + r.val - 32, by omega⟩ : Fin 2048) j) := by
  show iblk m c 1 t (ix2 r j) = m ((c : Thread nD τ).loc main_arg0) (ix2 (⟨t.val * 256 + r.val - 32, by omega⟩ : Fin 2048) j)
  blk_point [iblk, V, idx t]
  blk_ext [idx t]

theorem blk2 (j : Fin 2048) : tg m c t (ix2 (0 : Fin 1) j) = ag m c (ix1 j) := by
  rw [← g_entry m c 0]
  show iblk m c 2 t (ix2 (0 : Fin 1) j) = _
  blk_point [iblk, idx t]
  blk_ext [idx t]

theorem norm_tile (r : Fin 256) (j : Fin 2048) :
    k0_pay3 (F := Ideal) (tx m c t) (tg m c t) (ix2 r j) = normed (ax m c) (ag m c) j (row t r).val := by
  refine (pay3_at _ _ r j).trans ?_
  unfold normed
  rw [dif_pos (row t r).isLt]
  simp only [blk0, blk2]

theorem cat_at (p : Fin 288) (j : Fin 2048) :
    tcat m c t (ix2 p j) = if 32 ≤ t.val * 256 + p.val then normed (ax m c) (ag m c) j (t.val * 256 + p.val - 32) else 0 := by
  have hi : (grid0.coords t 0).val = t.val := (idx t).2.2.2.2
  refine (pay4_at _ (by rw [hi]; exact t.isLt) _ _ _ p j).trans ?_
  by_cases h : p.val < 32
  · rw [dif_pos h, hi]
    by_cases h0 : 0 < t.val
    · rw [if_pos h0, if_pos (by omega)]
      unfold normed
      rw [dif_pos (by omega)]
      simp only [blk1 m c t h0, blk2]
    · rw [if_neg h0, if_neg (by omega)]
  · rw [dif_neg h, if_pos (by omega), norm_tile]
    congr 1
    simp only [row_val]
    omega

/-- A tile of the result is those rows of the pooling. -/
theorem out_tile (r : Fin 256) (j : Fin 2048) : tout m c t (BitVec.ofNat 32 t.val) (ix2 r j) = pooled (ax m c) (ag m c) (row t r) j := by
  refine (counts_at _ _ t.val t.isLt r j).trans ?_
  rw [norm_tile]
  unfold pooled
  congr 2
  refine (windows_at _ _ _ _ r j (fun p => if 32 ≤ t.val * 256 + p then normed (ax m c) (ag m c) j (t.val * 256 + p - 32) else 0) fun p => cat_at m c t p j).trans ?_
  refine Finset.sum_congr rfl fun k hk => ?_
  have hk : k < width j.val := Finset.mem_range.mp hk
  have hw : width j.val ≤ 16 := by unfold width; split_ifs <;> omega
  unfold before
  have hr := row_val t r
  by_cases h : k ≤ (row t r).val
  · rw [if_pos (by omega), if_pos h]
    congr 1
    omega
  · rw [if_neg (by omega), if_neg h]

theorem outs (c : Dev nD) (t : Fin cfg0.N) :
    out0_3 (grid0.coords t) (iblk m c 0 t) (iblk m c 1 t) (iblk m c 2 t) = tout m c t (BitVec.ofNat 32 (grid0.coords t 0).val) := by
  frame_out

theorem final (c : Dev nD) (hg : ∀ i, IsReal (ag m c i)) : (dats m 0 c).arrAt 3 cfg0.N = val_main_v63 (F := Ideal) (ax m c) (ag m c) := by
  refine (dats m 0 c).arrAt_eq_of_covers 3 _ (by decide +kernel) fun t hf y => ?_
  blk_simp
  rw [after0_3, outs, (idx t).2.2.2.2]
  obtain ⟨a, b, rfl⟩ : ∃ (a : Fin 256) (b : Fin 2048), y = ix2 a b := ⟨y 0, y 1, eq_ix2 y⟩
  refine (out_tile m c t a b).trans ((v63_at _ _ hg (row t a) b).symm.trans ?_)
  blk_ext [idx t]
  exact row_val t a

/-- What the precondition says: no gain is infinite. -/
theorem real_of_pre [Cert.Pre_finite_g.Facts] (h : Cert.Pre_PoolFwdIdeal_finite_g m) (c : Dev nD) : ∀ i, IsReal (ag m c i) := fun i => by
  obtain ⟨a, rfl⟩ : ∃ (a : Fin 2048), i = ix1 a := ⟨i 0, funext fun d => by fin_cases d; rfl⟩
  have := congrFun (h c) (ix1 a)
  revert this
  pointwise [Cert.Pre_finite_g.fn]
  exact isReal_of_test

end Values

end Cert.PoolFwdIdeal.RefValue

namespace Cert.Proof

/-- The call computes the pooling of the normed rows, where the gains are finite. -/
theorem pool_fwd [Cert.Pre_finite_g.Facts] : Cert.algebraic_PoolFwdIdeal_PoolFwdRefIdeal_pre_finite_g := by
  pair_intro
  · run_from Cert.PoolFwdIdeal.Value.run_blocks m g
  · run_from Cert.PoolFwdRefIdeal.Value.run (F := Ideal) m' g'
    all_goals obtain ⟨h0, h1⟩ := hagree c
    refine (Cert.PoolFwdRefIdeal.Read.val_main_v63_eq (F := Ideal) m' c).trans (Eq.trans ?_ (Cert.PoolFwdIdeal.RefValue.final m c (Cert.PoolFwdIdeal.RefValue.real_of_pre m (by assumption) c)).symm)
    exact congr(Cert.PoolFwdRefIdeal.Read.val_main_v63 (F := Ideal) $h0 $h1)

end Cert.Proof
-- ==== Proof.MixFwd.lean ====
/- The value of the even mixer's forward call against the gate and the convolution of its preactivations. -/
module

public import proofs.«01_k».proof.Defs
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.MixBlocks
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## A tile, from the blocks it sees -/

namespace Cert.MixBwdIdeal.RefValue

open Cert.MixBwdIdeal Cert.MixBwdIdeal.Gen
open Cert.MixRefIdeal.Read Cert.Rows Cert.Reals

/-- The blocks tile `t` sees of the arguments. -/
structure Sees (t : Fin 8) (z : FVec Ideal S256x4096 .f32) (zp : FVec Ideal S32x4096 .f32) (ws : FVec Ideal S8x128x128 .f32)
    (bias : FVec Ideal S128x1024 .f32) (g b : FVec Ideal S1x1024 .f32) (cw : FVec Ideal S32x1024 .f32) (cb cg cn : FVec Ideal S1x1024 .f32)
    (x0 : FVec Ideal S2048x4096 .f32) (x1 : FVec Ideal S4096 .f32) (x2 : FVec Ideal S8x128x128 .f32) (x3 : FVec Ideal S8x128 .f32)
    (x4 x5 : FVec Ideal S1024 .f32) (x6 : FVec Ideal S31x1x1024 .f32) (x7 x8 x9 : FVec Ideal S1024 .f32) : Prop where
  rows : ∀ (r : Fin 256) (j : Fin 4096), z (ix2 r j) = x0 (ix2 (row t r) j) + x1 (ix1 j)
  past : 0 < t.val → ∀ (r : Fin 32) (j : Fin 4096), zp (ix2 r j) = x0 (ix2 (⟨t.val * 256 - 32 + r.val, by omega⟩ : Fin 2048) j) + x1 (ix1 j)
  weight : ∀ (h : Fin 8) (p q : Fin 128), ws (ix3 h p q) = x2 (ix3 h p q)
  bias : ∀ (p : Fin 128) (h : Fin 8) (q : Fin 128), bias (ix2 p (hc h q)) = x3 (ix2 h p)
  gain : ∀ j : Fin 1024, g (ix2 (0 : Fin 1) j) = x4 (ix1 j)
  shift : ∀ j : Fin 1024, b (ix2 (0 : Fin 1) j) = x5 (ix1 j)
  tap : ∀ (k : Fin 31) (j : Fin 1024), cw (ix2 (⟨k.val, by omega⟩ : Fin 32) j) = x6 (ix3 k (0 : Fin 1) j)
  cbias : ∀ j : Fin 1024, cb (ix2 (0 : Fin 1) j) = x7 (ix1 j)
  cgain : ∀ j : Fin 1024, cg (ix2 (0 : Fin 1) j) = x8 (ix1 j)
  cshift : ∀ j : Fin 1024, cn (ix2 (0 : Fin 1) j) = x9 (ix1 j)

section Seen

variable {t : Fin 8} {z : FVec Ideal S256x4096 .f32} {zp : FVec Ideal S32x4096 .f32} {ws : FVec Ideal S8x128x128 .f32}
  {bias : FVec Ideal S128x1024 .f32} {g b : FVec Ideal S1x1024 .f32} {cw : FVec Ideal S32x1024 .f32} {cb cg cn : FVec Ideal S1x1024 .f32}
  {x0 : FVec Ideal S2048x4096 .f32} {x1 : FVec Ideal S4096 .f32} {x2 : FVec Ideal S8x128x128 .f32} {x3 : FVec Ideal S8x128 .f32}
  {x4 x5 : FVec Ideal S1024 .f32} {x6 : FVec Ideal S31x1x1024 .f32} {x7 x8 x9 : FVec Ideal S1024 .f32}
  (s : Sees t z zp ws bias g b cw cb cg cn x0 x1 x2 x3 x4 x5 x6 x7 x8 x9)

include s

theorem Sees.pre (o : Fin 4) (r : Fin 256) (j : Fin 1024) : z (ix2 r (at4 o j)) = pre x0 x1 o (row t r) j := s.rows r _

theorem Sees.gated (r : Fin 256) : (fun k => gelu (k0_pay16 (F := Ideal) z) (ix2 r k)) = gated x0 x1 (row t r) := by
  funext j
  rw [gelu_at, pay16_at, s.pre]
  rfl

theorem Sees.vn (r : Fin 256) (j : Fin 1024) : vn z g b (ix2 r j) = val_main_v77 (F := Ideal) x0 x1 x4 x5 (ix2 (row t r) j) := by
  refine (lnout_at _ _ _ r j).trans ?_
  rw [v77_at, s.gated]
  exact congrArg₂ (fun g b => Ln.out _ g b j) (funext s.gain) (funext s.shift)

theorem Sees.mw (h : Fin 8) (p q : Fin 128) : mw mask (heads ws) h (ix2 p q) = val_main_v88_0 (F := Ideal) x2 (ix3 h p q) := by
  rw [mw_at, mask_at, v88_0_at, v88_1_at, heads_at, s.weight]
  rfl

theorem Sees.sp (r : Fin 256) (j : Fin 1024) : sp z ws bias g b (ix2 r j) = val_main_v95 (F := Ideal) x0 x1 x2 x3 x4 x5 (ix2 (row t r) j) := by
  obtain ⟨o, p, rfl⟩ := exists_rb r
  obtain ⟨h, q, rfl⟩ := exists_hc j
  refine (stack2_at (mixb mask (heads ws) (truncf .bf16 (RefValue.vn z g b) bitsLt_bf16_f32) bias) o p _).trans ?_
  refine (mixb_at _ _ _ _ o p h q).trans ?_
  rw [row_rb, v95_at, s.bias]
  refine congrArg₂ (· + ·) (Finset.sum_congr rfl fun k _ => ?_) rfl
  rw [s.mw, ← row_rb, ← s.vn]
  rfl

theorem Sees.tap_at (r : Fin 256) (k : Fin 31) (j : Fin 1024) :
    seenRows z zp (BitVec.ofNat 32 t.val) (ix2 (⟨r.val + 2 + k.val, by omega⟩ : Fin 288) j)
      = val_main_v173 (F := Ideal) x0 x1 (ix2 (⟨(row t r).val + k.val, by omega⟩ : Fin 2078) j) := by
  have e : ti t = BitVec.ofNat 32 t.val := congrArg _ (coords_val t)
  have hr := row_val t r
  rw [← e, seenRows_at, v173_at]
  by_cases h : r.val + 2 + k.val < 32
  · by_cases h' : 0 < t.val
    · have e : ¬ (row t r).val + k.val < 30 := by omega
      simp only [h, h', e, dite_true, dite_false, if_true]
      rw [s.past h', s.past h']
      have e' : (⟨t.val * 256 - 32 + (r.val + 2 + k.val), by omega⟩ : Fin 2048) = ⟨(row t r).val + k.val - 30, by omega⟩ := Fin.ext (by simp only; omega)
      rw [e']
      rfl
    · have e : (row t r).val + k.val < 30 := by omega
      simp only [h, h', e, dite_true, if_false]
  · have e : ¬ (row t r).val + k.val < 30 := by omega
    simp only [h, e, dite_false]
    rw [s.pre, s.pre]
    have e' : row t (⟨r.val + 2 + k.val - 32, by omega⟩ : Fin 256) = ⟨(row t r).val + k.val - 30, by omega⟩ := Fin.ext (by simp only [row_val]; omega)
    rw [e']

theorem Sees.conv (r : Fin 256) : (fun j => conv z zp cw cb (BitVec.ofNat 32 t.val) (ix2 r j)) = convd x0 x1 x6 x7 (row t r) := by
  funext j
  unfold convd
  refine congrArg₂ (· + ·) ((taps_at _ _ r j).trans (Finset.sum_congr rfl fun k _ => ?_)) ?_
  · rw [s.tap_at, s.tap]
  · rw [← s.cbias j]
    pointwise

theorem Sees.normed (r : Fin 256) (j : Fin 1024) :
    lnout (RefValue.conv z zp cw cb (BitVec.ofNat 32 t.val)) cg cn (ix2 r j) = normed x0 x1 x6 x7 x8 x9 (row t r) j := by
  refine (lnout_at _ _ _ r j).trans ?_
  rw [s.conv]
  exact congrArg₂ (fun g b => Ln.out _ g b j) (funext s.cgain) (funext s.cshift)

end Seen

end Cert.MixBwdIdeal.RefValue

namespace Cert.MixFwdIdeal.RefValue

open Cert.MixFwdIdeal Cert.MixFwdIdeal.Gen
open Cert.Rows Cert.Reals
open Cert.MixBwdIdeal.RefValue (at4 hc pre gated convd normed lnout vn sp conv seenRows seen mask heads taps ksum mixb stack2 Sees)

/-! ## The reference -/

section Reference

open Cert.MixFwdRefIdeal.Read

variable (x0 : FVec Ideal S2048x4096 .f32) (x1 : FVec Ideal S4096 .f32) (x2 : FVec Ideal S8x128x128 .f32) (x3 : FVec Ideal S8x128 .f32)
  (x4 x5 : FVec Ideal S1024 .f32) (x6 : FVec Ideal S31x1x1024 .f32) (x7 x8 x9 : FVec Ideal S1024 .f32)

theorem first (r : Fin 2048) (j : Fin 1024) : val_main_v3 (F := Ideal) x0 x1 (ix2 r j) = pre x0 x1 0 r j := Cert.MixBwdIdeal.RefValue.pre0 x0 x1 r j

theorem second (r : Fin 2048) (j : Fin 1024) : val_main_v4 (F := Ideal) x0 x1 (ix2 r j) = pre x0 x1 1 r j := Cert.MixBwdIdeal.RefValue.pre1 x0 x1 r j

theorem v23_at (r : Fin 2048) (j : Fin 1024) : val_main_v23 (F := Ideal) x0 x1 (ix2 r j) = Gelu.val (pre x0 x1 0 r j) := by
  rw [← Gelu.val'_eq]
  pointwise [val_main_v23, val_main_v22, val_main_v21, val_main_v20, val_main_v19, val_main_v18, val_main_v17, val_main_v16, val_main_v15, val_main_v14, val_main_v13,
    val_main_v12, val_main_v11, val_main_cst, val_main_cst_0, val_main_cst_1, val_main_cst_2, first]
  rfl

theorem v36_at (r : Fin 2048) (j : Fin 1024) : val_main_v36 (F := Ideal) x0 x1 (ix2 r j) = gated x0 x1 r j := by
  refine Eq.trans ?_ (Gelu.val'_eq _)
  pointwise [val_main_v36, val_main_v35, val_main_v34, val_main_v33, val_main_v32, val_main_v31, val_main_v30, val_main_v29, val_main_v28, val_main_v27, val_main_v26,
    val_main_v25, val_main_v24, val_main_cst_3, val_main_cst_4, val_main_cst_5, val_main_cst_6, second]
  rfl

theorem v42_at (r : Fin 2048) (j : Fin 1024) : val_main_v42 (F := Ideal) x0 x1 (ix2 r j) = Ln.cen (gated x0 x1 r) j := by
  pointwise [val_main_v42, val_main_v41, val_main_v40, val_main_v39, val_main_v38, val_main_v37, val_main_cst_7, val_main_cst_8, v36_at]
  rfl

theorem v50_at (r : Fin 2048) (a : Fin 1) : val_main_v50 (F := Ideal) x0 x1 (ix2 r a) = Ln.scale (gated x0 x1 r) := by
  pointwise [val_main_v50, val_main_v49, val_main_v48, val_main_v47, val_main_v46, val_main_v45, val_main_v44, val_main_v43, val_main_cst_9, val_main_cst_10, val_main_cst_11, v42_at]
  rfl

/-- The normed half of the gate. -/
theorem v58_eq : val_main_v58 (F := Ideal) x0 x1 x4 x5 = Cert.MixRefIdeal.Read.val_main_v77 (F := Ideal) x0 x1 x4 x5 := by
  funext i
  obtain ⟨r, j, rfl⟩ : ∃ (r : Fin 2048) (j : Fin 1024), i = ix2 r j := ⟨i 0, i 1, eq_ix2 i⟩
  refine Eq.trans ?_ (Cert.MixBwdIdeal.RefValue.v77_at x0 x1 x4 x5 r j).symm
  pointwise [val_main_v58, val_main_v57, val_main_v56, val_main_v55, val_main_v54, val_main_v53, val_main_v52, val_main_v51, v42_at, v50_at]
  rfl

/-- The mixed rows. -/
theorem v76_eq : val_main_v76 (F := Ideal) x0 x1 x2 x3 x4 x5 = Cert.MixRefIdeal.Read.val_main_v95 (F := Ideal) x0 x1 x2 x3 x4 x5 := by
  unfold val_main_v76 val_main_v75 val_main_v72 val_main_v71 val_main_v70
  rw [v58_eq]
  rfl

/-- The rows the convolution reads. -/
theorem v86_eq : val_main_v86 (F := Ideal) x0 x1 = Cert.MixRefIdeal.Read.val_main_v173 (F := Ideal) x0 x1 := rfl

/-- The convolution's rows before their bias. -/
theorem v273_eq : val_main_v273 (F := Ideal) x0 x1 x6 = Cert.MixRefIdeal.Read.val_main_v360 (F := Ideal) x0 x1 x6 := rfl

theorem v298_at (r : Fin 2048) (j : Fin 1024) : val_main_v298 (F := Ideal) x0 x1 x6 x7 x8 x9 (ix2 r j) = normed x0 x1 x6 x7 x8 x9 r j :=
  Eq.trans (by rfl) (Cert.MixBwdIdeal.RefValue.v388_at x0 x1 x6 x7 x8 x9 r j)

/-- The reference's result. -/
theorem v301_at (r j : Fin 2048) : val_main_v301 (F := Ideal) x0 x1 x2 x3 x4 x5 x6 x7 x8 x9 (ix2 r j)
    = if h : j.val < 1024 then Gelu.val (pre x0 x1 0 r ⟨j.val, h⟩) * Cert.MixRefIdeal.Read.val_main_v95 (F := Ideal) x0 x1 x2 x3 x4 x5 (ix2 r (⟨j.val, h⟩ : Fin 1024))
      else normed x0 x1 x6 x7 x8 x9 r ⟨j.val - 1024, by omega⟩ * Ideal.logistic (normed x0 x1 x6 x7 x8 x9 r ⟨j.val - 1024, by omega⟩) := by
  have e : ∀ (r : Fin 2048) (j : Fin 1024), val_main_v77 (F := Ideal) x0 x1 x2 x3 x4 x5 (ix2 r j)
      = Gelu.val (pre x0 x1 0 r j) * Cert.MixRefIdeal.Read.val_main_v95 (F := Ideal) x0 x1 x2 x3 x4 x5 (ix2 r j) := fun r j => by
    unfold val_main_v77
    rw [v76_eq]
    exact congrArg₂ (· * ·) (v23_at x0 x1 r j) rfl
  have e' : ∀ (r : Fin 2048) (j : Fin 1024), val_main_v299 (F := Ideal) x0 x1 x6 x7 x8 x9 (ix2 r j)
      = normed x0 x1 x6 x7 x8 x9 r j * Ideal.logistic (normed x0 x1 x6 x7 x8 x9 r j) := fun r j => by
    pointwise [val_main_v299, val_main_call3_v5, val_main_call3_v4, val_main_call3_v3, val_main_call3_v2, val_main_call3_v1, val_main_call3_v0, val_main_call3_cst,
      val_main_call3_cst_0, v298_at]
    rfl
  pointwise [val_main_v301, val_main_v300, e, e']

end Reference

/-! ## The blocks -/

section Blocks

variable (m : (ℓ : Loc nD τ sig) → Buf (Elt Ideal) ℓ)

/-- The block each input window shows at grid point `t`. -/
theorem idx : ∀ t : Fin cfg0.N, win0_0.index t = ![t.val, 0] ∧ win0_1.index t = ![t.val * 8 - 1, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ (grid0.coords t 0).val = t.val :=
  (by decide +kernel : ∀ t : Fin grid0.N, _)

theorem coords_val (t : Fin 8) : (grid0.coords t 0).val = t.val := (idx t).2.2.2.2.2.2.2.2.2.2.2

abbrev az (c : Dev nD) : FVec Ideal S2048x4096 .f32 := m ((c : Thread nD τ).loc main_arg0)
abbrev ab (c : Dev nD) : FVec Ideal S4096 .f32 := m ((c : Thread nD τ).loc main_arg1)
abbrev aws (c : Dev nD) : FVec Ideal S8x128x128 .f32 := m ((c : Thread nD τ).loc main_arg2)
abbrev abs (c : Dev nD) : FVec Ideal S8x128 .f32 := m ((c : Thread nD τ).loc main_arg3)
abbrev acw (c : Dev nD) : FVec Ideal S31x1x1024 .f32 := m ((c : Thread nD τ).loc main_arg6)

theorem z_entry (c : Dev nD) (r : Fin 2048) (j : Fin 4096) : V m c main_v2 (ix2 r j) = az m c (ix2 r j) + ab m c (ix1 j) := by
  simp only [V, hostOps0, hostOps0_1, hostOps0_2, List.flatten_cons, List.flatten_nil, List.append_nil, List.cons_append, List.nil_append]
  entry_read
  pointwise

theorem bias_entry (c : Dev nD) (p : Fin 128) (h : Fin 8) (q : Fin 128) : V m c main_v6 (ix2 p (hc h q)) = abs m c (ix2 h p) := by
  simp only [V, hostOps0, hostOps0_1, hostOps0_2, List.flatten_cons, List.flatten_nil, List.append_nil, List.cons_append, List.nil_append]
  entry_read
  have e : ∀ y : FVec Ideal S128x8x128 .f32, shapeCast S128x1024 y shapeCasts_S128x8x128_S128x1024 (ix2 p (hc h q)) = y (ix3 p h q) := fun y => by
    unfold hc
    pointwise
    blk_ext []
  refine (e _).trans ?_
  pointwise

theorem w_entry (c : Dev nD) (k : Fin 31) (j : Fin 1024) : V m c main_v7 (ix2 (⟨k.val, by omega⟩ : Fin 32) j) = acw m c (ix3 k (0 : Fin 1) j) := by
  simp only [V, hostOps0, hostOps0_1, hostOps0_2, List.flatten_cons, List.flatten_nil, List.append_nil, List.cons_append, List.nil_append]
  entry_read
  show pad S32x1024 ![0, 0] ![1, 0] ![0, 0] (shapeCast S31x1024 (acw m c) shapeCasts_S31x1x1024_S31x1024)
    (sitofp (F := Ideal) .f32 (constantI S_ 32 0#32)) pads_S31x1024_S32x1024_010_000 h_S_ (ix2 (⟨k.val, by omega⟩ : Fin 32) j) = _
  pointwise

/-- The vectors handed over as rows. -/
theorem row_entry (c : Dev nD) (j : Fin 1024) :
    V m c main_v8 (ix2 (0 : Fin 1) j) = m ((c : Thread nD τ).loc main_arg4) (ix1 j)
    ∧ V m c main_v9 (ix2 (0 : Fin 1) j) = m ((c : Thread nD τ).loc main_arg5) (ix1 j)
    ∧ V m c main_v10 (ix2 (0 : Fin 1) j) = m ((c : Thread nD τ).loc main_arg7) (ix1 j)
    ∧ V m c main_v11 (ix2 (0 : Fin 1) j) = m ((c : Thread nD τ).loc main_arg8) (ix1 j)
    ∧ V m c main_v12 (ix2 (0 : Fin 1) j) = m ((c : Thread nD τ).loc main_arg9) (ix1 j) := by
  simp only [V, hostOps0, hostOps0_1, hostOps0_2, List.flatten_cons, List.flatten_nil, List.append_nil, List.cons_append, List.nil_append]
  refine ⟨?_, ?_, ?_, ?_, ?_⟩ <;> entry_read <;> pointwise

theorem pay2_id (x : FVec Ideal S256x4096 .f32) : k0_pay2 (F := Ideal) x = x := shapeCast_self _ _
theorem pay3_id (x : FVec Ideal S32x4096 .f32) : k0_pay3 (F := Ideal) x = x := shapeCast_self _ _
theorem pay4_id (x : FVec Ideal S128x1024 .f32) : k0_pay4 (F := Ideal) x = x := shapeCast_self _ _
theorem pay5_id (x : FVec Ideal S1x1024 .f32) : k0_pay5 (F := Ideal) x = x := shapeCast_self _ _
theorem pay6_id (x : FVec Ideal S1x1024 .f32) : k0_pay6 (F := Ideal) x = x := shapeCast_self _ _
theorem pay7_id (x : FVec Ideal S1x1024 .f32) : k0_pay7 (F := Ideal) x = x := shapeCast_self _ _
theorem pay8_id (x : FVec Ideal S1x1024 .f32) : k0_pay8 (F := Ideal) x = x := shapeCast_self _ _
theorem pay9_id (x : FVec Ideal S1x1024 .f32) : k0_pay9 (F := Ideal) x = x := shapeCast_self _ _

/-- What a tile sees of the call's arguments. -/
theorem sees (c : Dev nD) (t : Fin 8) :
    Sees t (k0_pay2 (F := Ideal) (iblk m c 0 t)) (k0_pay3 (F := Ideal) (iblk m c 1 t)) (iblk m c 2 t) (k0_pay4 (F := Ideal) (iblk m c 3 t))
      (k0_pay5 (F := Ideal) (iblk m c 4 t)) (k0_pay6 (F := Ideal) (iblk m c 5 t)) (iblk m c 6 t) (k0_pay7 (F := Ideal) (iblk m c 7 t))
      (k0_pay8 (F := Ideal) (iblk m c 8 t)) (k0_pay9 (F := Ideal) (iblk m c 9 t)) (az m c) (ab m c) (aws m c) (abs m c)
      (m ((c : Thread nD τ).loc main_arg4)) (m ((c : Thread nD τ).loc main_arg5)) (acw m c) (m ((c : Thread nD τ).loc main_arg7))
      (m ((c : Thread nD τ).loc main_arg8)) (m ((c : Thread nD τ).loc main_arg9)) where
  rows r j := by
    rw [← z_entry]
    refine (congrFun (pay2_id (iblk m c 0 t)) _).trans ?_
    show iblk m c 0 t (ix2 r j) = _
    blk_point [iblk, idx t]
    blk_ext [idx t, row_val]
  past h r j := by
    rw [← z_entry]
    refine (congrFun (pay3_id (iblk m c 1 t)) _).trans ?_
    show iblk m c 1 t (ix2 r j) = _
    blk_point [iblk, idx t]
    blk_ext [idx t]
  weight h p q := by
    show iblk m c 2 t (ix3 h p q) = m ((c : Thread nD τ).loc main_arg2) (ix3 h p q)
    blk_point [iblk, V, idx t]
    blk_ext [idx t]
  bias p h q := by
    rw [← bias_entry m c p h q]
    refine (congrFun (pay4_id (iblk m c 3 t)) _).trans ?_
    show iblk m c 3 t (ix2 p (hc h q)) = _
    blk_point [iblk, idx t]
    blk_ext [idx t]
  gain j := by
    refine Eq.trans ?_ (row_entry m c j).1
    refine (congrFun (pay5_id (iblk m c 4 t)) _).trans ?_
    show iblk m c 4 t (ix2 (0 : Fin 1) j) = _
    blk_point [iblk, idx t]
    blk_ext [idx t]
  shift j := by
    refine Eq.trans ?_ (row_entry m c j).2.1
    refine (congrFun (pay6_id (iblk m c 5 t)) _).trans ?_
    show iblk m c 5 t (ix2 (0 : Fin 1) j) = _
    blk_point [iblk, idx t]
    blk_ext [idx t]
  tap k j := by
    rw [← w_entry]
    show iblk m c 6 t (ix2 (⟨k.val, by omega⟩ : Fin 32) j) = _
    blk_point [iblk, idx t]
    blk_ext [idx t]
  cbias j := by
    refine Eq.trans ?_ (row_entry m c j).2.2.1
    refine (congrFun (pay7_id (iblk m c 7 t)) _).trans ?_
    show iblk m c 7 t (ix2 (0 : Fin 1) j) = _
    blk_point [iblk, idx t]
    blk_ext [idx t]
  cgain j := by
    refine Eq.trans ?_ (row_entry m c j).2.2.2.1
    refine (congrFun (pay8_id (iblk m c 8 t)) _).trans ?_
    show iblk m c 8 t (ix2 (0 : Fin 1) j) = _
    blk_point [iblk, idx t]
    blk_ext [idx t]
  cshift j := by
    refine Eq.trans ?_ (row_entry m c j).2.2.2.2
    refine (congrFun (pay9_id (iblk m c 9 t)) _).trans ?_
    show iblk m c 9 t (ix2 (0 : Fin 1) j) = _
    blk_point [iblk, idx t]
    blk_ext [idx t]

end Blocks

/-! ## A tile -/

section Tile

/-- The two halves of a tile's result. -/
def halves (mixed y : FVec Ideal S256x1024 .f32) : FVec Ideal S256x2048 .bf16 :=
  truncf .bf16 (concatenate S256x2048 1 [⟨S256x1024, mixed⟩, ⟨S256x1024, mulf y (logistic y)⟩]
    concatenates_S256x1024_S256x1024_S256x2048_d1) bitsLt_bf16_f32

theorem pay15_at (z : FVec Ideal S256x4096 .f32) (r : Fin 256) (j : Fin 1024) : k0_pay15 (F := Ideal) z (ix2 r j) = Gelu.val (z (ix2 r (at4 0 j))) := by
  unfold at4
  pointwise [k0_pay15]
  rfl

theorem halves_at (mixed y : FVec Ideal S256x1024 .f32) (r : Fin 256) (j : Fin 2048) :
    halves mixed y (ix2 r j)
      = if h : j.val < 1024 then mixed (ix2 r (⟨j.val, h⟩ : Fin 1024))
        else y (ix2 r (⟨j.val - 1024, by omega⟩ : Fin 1024)) * Ideal.logistic (y (ix2 r (⟨j.val - 1024, by omega⟩ : Fin 1024))) := by
  unfold halves
  pointwise

/-! ### The body, group by group -/

/-- The mask the call makes is the one of the backward call. -/
theorem mask_eq : k0_pay14 (iota .tc S128x128 32 [0] iota_S128x128_d0_w32) k0_pay10 k0_pay11 k0_pay12 k0_pay13 = mask := rfl

/-- The normed second half of the gate. -/
theorem vn_eq (z : FVec Ideal S256x4096 .f32) (g b : FVec Ideal S1x1024 .f32) :
    k0_pay18 (F := Ideal) g b (k0_pay16 z) (k0_pay17 z) = truncf .bf16 (vn z g b) bitsLt_bf16_f32 := rfl

/-- The first half of the result, from the mixed rows. -/
theorem mixed_eq (bias : FVec Ideal S128x1024 .f32) (u : FVec Ideal S256x1024 .f32) (x : FVec Ideal S256x1024 .bf16) (M : IVec S128x128 1)
    (w : Fin 8 → FVec Ideal S1x128x128 .f32) :
    k0_pay31 (F := Ideal) bias u x (k0_pay19 M (w 0)) (k0_pay20 M (w 1)) (k0_pay21 M (w 2)) (k0_pay22 M (w 3)) (k0_pay23 M (w 4)) (k0_pay24 M (w 5))
        (k0_pay25 M (w 6)) (k0_pay26 M (w 7)) (k0_pay27 x) (k0_pay28 x (k0_pay19 M (w 0))) (k0_pay29 x (k0_pay20 M (w 1))) (k0_pay30 x)
      = mulf u (stack2 (mixb M w x bias 0) (mixb M w x bias 1)) := rfl

/-- The rows the convolution reads. -/
theorem seen_eq (z : FVec Ideal S256x4096 .f32) (zp : FVec Ideal S32x4096 .f32) (i : BitVec 32) :
    k0_pay35 (F := Ideal) (k0_pay32 z) (Scalar.cmpi .sgt i 0#32) (k0_pay33 zp) k0_pay34 = seenRows z zp i := rfl

/-- The taps, group by group. -/
theorem first_taps (x : FVec Ideal S256x1024 .f32) (o : BitVec 1) (y n : FVec Ideal S32x1024 .f32) (w : FVec Ideal S32x1024 .f32) :
    k0_pay36 (F := Ideal) x o y n (View.ld w r0_12) (View.ld w r0_13) (View.ld w r0_14) (View.ld w r0_15) (View.ld w r0_16)
      = ksum (k0_pay35 x o y n) w 5 (by decide) := rfl

theorem taps11 (cat : FVec Ideal S288x1024 .f32) (w : FVec Ideal S32x1024 .f32) :
    k0_pay38 (F := Ideal) cat (ksum cat w 5 (by decide)) (seen cat 5) (View.ld w r0_17) (View.ld w r0_18) (View.ld w r0_19) (View.ld w r0_20) (View.ld w r0_21) (View.ld w r0_22) = ksum cat w 11 (by decide) := rfl

theorem taps17 (cat : FVec Ideal S288x1024 .f32) (w : FVec Ideal S32x1024 .f32) :
    k0_pay40 (F := Ideal) cat (ksum cat w 11 (by decide)) (k0_pay39 cat) (View.ld w r0_23) (View.ld w r0_24) (View.ld w r0_25) (View.ld w r0_26) (View.ld w r0_27) (View.ld w r0_28) = ksum cat w 17 (by decide) := rfl

theorem taps23 (cat : FVec Ideal S288x1024 .f32) (w : FVec Ideal S32x1024 .f32) :
    k0_pay42 (F := Ideal) cat (ksum cat w 17 (by decide)) (k0_pay41 cat) (View.ld w r0_29) (View.ld w r0_30) (View.ld w r0_31) (View.ld w r0_32) (View.ld w r0_33) (View.ld w r0_34) = ksum cat w 23 (by decide) := rfl

theorem taps29 (cat : FVec Ideal S288x1024 .f32) (w : FVec Ideal S32x1024 .f32) :
    k0_pay44 (F := Ideal) cat (ksum cat w 23 (by decide)) (k0_pay43 cat) (View.ld w r0_35) (View.ld w r0_36) (View.ld w r0_37) (View.ld w r0_38) (View.ld w r0_39) (View.ld w r0_40) = ksum cat w 29 (by decide) := rfl

theorem last_taps (cat : FVec Ideal S288x1024 .f32) (w : FVec Ideal S32x1024 .f32) (cb cg cn : FVec Ideal S1x1024 .f32) (mixed : FVec Ideal S256x1024 .f32) :
    k0_pay1 (F := Ideal) cb cg cn mixed cat (ksum cat w 29 (by decide)) (k0_pay45 cat) (View.ld w r0_41) (View.ld w r0_42)
      = halves mixed (lnout (addf (taps cat w) (broadcastTo S256x1024 cb broadcasts_S1x1024_S256x1024)) cg cn) := rfl

/-- The whole body. -/
theorem body_eq (z : FVec Ideal S256x4096 .f32) (zp : FVec Ideal S32x4096 .f32) (ws : FVec Ideal S8x128x128 .f32) (bias : FVec Ideal S128x1024 .f32)
    (g b : FVec Ideal S1x1024 .f32) (cw : FVec Ideal S32x1024 .f32) (cb cg cn : FVec Ideal S1x1024 .f32) (i : BitVec 32)
    (M : IVec S128x128 1) (hM : M = mask) (x : FVec Ideal S256x1024 .bf16) (hx : x = truncf .bf16 (vn z g b) bitsLt_bf16_f32)
    (cat : FVec Ideal S288x1024 .f32) (hcat : cat = seenRows z zp i) (first : FVec Ideal S256x1024 .f32) (hfirst : first = ksum cat cw 5 (by decide)) :
    k0_pay1 (F := Ideal) cb cg cn
        (k0_pay31 bias (k0_pay15 z) x (k0_pay19 M (heads ws 0)) (k0_pay20 M (heads ws 1)) (k0_pay21 M (heads ws 2)) (k0_pay22 M (heads ws 3))
          (k0_pay23 M (heads ws 4)) (k0_pay24 M (heads ws 5)) (k0_pay25 M (heads ws 6)) (k0_pay26 M (heads ws 7)) (k0_pay27 x)
          (k0_pay28 x (k0_pay19 M (heads ws 0))) (k0_pay29 x (k0_pay20 M (heads ws 1))) (k0_pay30 x)) cat
        (k0_pay44 cat (k0_pay42 cat (k0_pay40 cat (k0_pay38 cat first (seen cat 5) (View.ld cw r0_17) (View.ld cw r0_18) (View.ld cw r0_19) (View.ld cw r0_20) (View.ld cw r0_21) (View.ld cw r0_22))
          (k0_pay39 cat) (View.ld cw r0_23) (View.ld cw r0_24) (View.ld cw r0_25) (View.ld cw r0_26) (View.ld cw r0_27) (View.ld cw r0_28)) (k0_pay41 cat) (View.ld cw r0_29) (View.ld cw r0_30) (View.ld cw r0_31) (View.ld cw r0_32) (View.ld cw r0_33) (View.ld cw r0_34))
          (k0_pay43 cat) (View.ld cw r0_35) (View.ld cw r0_36) (View.ld cw r0_37) (View.ld cw r0_38) (View.ld cw r0_39) (View.ld cw r0_40)) (k0_pay45 cat) (View.ld cw r0_41) (View.ld cw r0_42)
      = halves (mulf (k0_pay15 (F := Ideal) z) (sp z ws bias g b)) (lnout (conv z zp cw cb i) cg cn) := by
  subst hM hx hcat hfirst
  rw [mixed_eq, taps11, taps17, taps23, taps29, last_taps]
  rfl

/-- The values the body names, from the blocks. -/
theorem v1_eq (i : grid0.Coords) (x0 : FVec Ideal S256x4096 .f32) (x1 : FVec Ideal S32x4096 .f32) (x2 : FVec Ideal S8x128x128 .f32) (x3 : FVec Ideal S128x1024 .f32)
    (x4 x5 : FVec Ideal S1x1024 .f32) (x6 : FVec Ideal S32x1024 .f32) (x7 x8 x9 : FVec Ideal S1x1024 .f32) :
    k0_pay46 (F := Ideal) i x0 x1 x2 x3 x4 x5 x6 x7 x8 x9 = k0_pay2 x0 :=
  congrArg (k0_pay2 (F := Ideal)) (View.ld_unit_lit (Val := Elt Ideal) (e := .f32) (S := S256x4096) (off := ![0, 0]) inb_S256x4096_S256x4096_0_0 x0 (by decide))

theorem v204_eq (i : grid0.Coords) (x0 : FVec Ideal S256x4096 .f32) (x1 : FVec Ideal S32x4096 .f32) (x2 : FVec Ideal S8x128x128 .f32) (x3 : FVec Ideal S128x1024 .f32)
    (x4 x5 : FVec Ideal S1x1024 .f32) (x6 : FVec Ideal S32x1024 .f32) (x7 x8 x9 : FVec Ideal S1x1024 .f32) :
    k0_pay52 (F := Ideal) i x0 x1 x2 x3 x4 x5 x6 x7 x8 x9 = k0_pay33 (k0_pay3 x1) :=
  congrArg (fun x => k0_pay33 (F := Ideal) (k0_pay3 x)) (View.ld_unit_lit (Val := Elt Ideal) (e := .f32) (S := S32x4096) (off := ![0, 0]) inb_S32x4096_S32x4096_0_0 x1 (by decide))

theorem v115_eq (i : grid0.Coords) (x0 : FVec Ideal S256x4096 .f32) (x1 : FVec Ideal S32x4096 .f32) (x2 : FVec Ideal S8x128x128 .f32) (x3 : FVec Ideal S128x1024 .f32)
    (x4 x5 : FVec Ideal S1x1024 .f32) (x6 : FVec Ideal S32x1024 .f32) (x7 x8 x9 : FVec Ideal S1x1024 .f32) :
    k0_pay48 (F := Ideal) i x0 x1 x2 x3 x4 x5 x6 x7 x8 x9 = truncf .bf16 (vn (k0_pay2 (F := Ideal) x0) (k0_pay5 (F := Ideal) x4) (k0_pay6 (F := Ideal) x5)) bitsLt_bf16_f32 := by
  unfold k0_pay48
  rw [v1_eq]
  exact (congrArg₂ (fun g b => k0_pay18 (F := Ideal) (k0_pay5 g) (k0_pay6 b) _ _) (View.ld_unit_lit (Val := Elt Ideal) (e := .f32) (S := S1x1024) (off := ![0, 0]) inb_S1x1024_S1x1024_0_0 x4 (by decide)) (View.ld_unit_lit (Val := Elt Ideal) (e := .f32) (S := S1x1024) (off := ![0, 0]) inb_S1x1024_S1x1024_0_0 x5 (by decide))).trans (vn_eq _ _ _)

variable (m : (ℓ : Loc nD τ sig) → Buf (Elt Ideal) ℓ)

/-- What a tile computes. -/
def tile (c : Dev nD) (t : Fin 8) : FVec Ideal S256x2048 .bf16 :=
  halves (mulf (k0_pay15 (F := Ideal) (k0_pay2 (iblk m c 0 t)))
      (sp (k0_pay2 (F := Ideal) (iblk m c 0 t)) (iblk m c 2 t) (k0_pay4 (F := Ideal) (iblk m c 3 t)) (k0_pay5 (F := Ideal) (iblk m c 4 t))
        (k0_pay6 (F := Ideal) (iblk m c 5 t))))
    (lnout (conv (k0_pay2 (F := Ideal) (iblk m c 0 t)) (k0_pay3 (F := Ideal) (iblk m c 1 t)) (iblk m c 6 t) (k0_pay7 (F := Ideal) (iblk m c 7 t))
      (BitVec.ofNat 32 (grid0.coords t 0).val)) (k0_pay8 (F := Ideal) (iblk m c 8 t)) (k0_pay9 (F := Ideal) (iblk m c 9 t)))

theorem outs (c : Dev nD) (t : Fin cfg0.N) :
    out0_10 (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) = tile m c t := by
  frame_out
  unfold k0_pay54 k0_pay53 k0_pay51 k0_pay50 k0_pay49
  rw [v1_eq, v204_eq, v115_eq]
  exact body_eq _ _ _ _ _ _ _ _ _ _ _ _ mask_eq _ rfl _ (seen_eq _ _ _) _ (first_taps _ _ _ _ _)

theorem tile_at (c : Dev nD) (t : Fin 8) (r : Fin 256) (j : Fin 2048) :
    tile m c t (ix2 r j) = Cert.MixFwdRefIdeal.Read.val_main_v301 (F := Ideal) (az m c) (ab m c) (aws m c) (abs m c)
      (m ((c : Thread nD τ).loc main_arg4)) (m ((c : Thread nD τ).loc main_arg5)) (acw m c) (m ((c : Thread nD τ).loc main_arg7))
      (m ((c : Thread nD τ).loc main_arg8)) (m ((c : Thread nD τ).loc main_arg9)) (ix2 (row t r) j) := by
  have s := sees m c t
  unfold tile
  rw [halves_at, v301_at, coords_val]
  split_ifs with h
  · exact congrArg₂ (· * ·) ((pay15_at _ r _).trans (congrArg Gelu.val (s.pre 0 r _))) (s.sp r _)
  · exact congrArg (fun y => y * Ideal.logistic y) (s.normed r _)

/-- The call's result is the reference's. -/
theorem final (c : Dev nD) :
    (dats m 0 c).arrAt 10 cfg0.N = Cert.MixFwdRefIdeal.Read.val_main_v301 (F := Ideal) (az m c) (ab m c) (aws m c) (abs m c)
      (m ((c : Thread nD τ).loc main_arg4)) (m ((c : Thread nD τ).loc main_arg5)) (acw m c) (m ((c : Thread nD τ).loc main_arg7))
      (m ((c : Thread nD τ).loc main_arg8)) (m ((c : Thread nD τ).loc main_arg9)) := by
  refine (dats m 0 c).arrAt_eq_of_covers 10 _ (by decide +kernel) fun t hf y => ?_
  blk_simp
  rw [after0_10, outs]
  obtain ⟨a, b, rfl⟩ : ∃ (a : Fin 256) (b : Fin 2048), y = ix2 a b := ⟨y 0, y 1, eq_ix2 y⟩
  refine (tile_at m c t a b).trans ?_
  blk_ext [idx t]
  exact row_val t a

end Tile

end Cert.MixFwdIdeal.RefValue

namespace Cert.Proof

/-- The call computes the mixer's two halves. -/
theorem mix_fwd : Cert.algebraic_MixFwdIdeal_MixFwdRefIdeal := by
  pair_intro
  · run_from Cert.MixFwdIdeal.Value.run_blocks m g
  · run_from Cert.MixFwdRefIdeal.Value.run (F := Ideal) m' g'
    all_goals obtain ⟨h0, h1, h2, h3, h4, h5, h6, h7, h8, h9⟩ := hagree c
    refine (Cert.MixFwdRefIdeal.Read.val_main_v301_eq (F := Ideal) _).trans (Eq.trans ?_ (Cert.MixFwdIdeal.RefValue.final m c).symm)
    exact congr(Cert.MixFwdRefIdeal.Read.val_main_v301 (F := Ideal) $h0 $h1 $h2 $h3 $h4 $h5 $h6 $h7 $h8 $h9)

end Cert.Proof
-- ==== Proof.GroupFwd.lean ====
/- The pool mixer's product of the groups, with its bias, scale and residual, against the reference's lines. -/
module

public import proofs.«01_k».proof.Defs
public import proofs.«01_k».proof.Proof.Gen.GroupFwdIdeal.Value
public import proofs.«01_k».proof.Proof.Gen.GroupFwdRefIdeal.Run
public import proofs.«01_k».proof.Proof.Gen.GroupFwdRefIdeal.Read
public import proofs.«01_k».proof.Proof.Rows
public import proofs.«01_k».proof.Proof.PoolFwd
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GroupFwdIdeal.RefValue

open Cert.GroupFwdIdeal Cert.GroupFwdIdeal.Gen
open Cert.GroupFwdRefIdeal.Read Cert.Rows

/-- Channel `l` of chip `k`'s share, of four shares of 128 channels of a group. -/
def lane (k : Fin 4) (l : Fin 128) : Fin 512 := ⟨k.val * 128 + l.val, by omega⟩

theorem lane_val (k : Fin 4) (l : Fin 128) : (lane k l).val = k.val * 128 + l.val := rfl

/-- A sum over a group's channels is the sum over the shares of the sums over each share. -/
theorem sum_lanes {α : Type*} [AddCommMonoid α] (f : Fin 512 → α) :
    ∑ k : Fin 4, ∑ l : Fin 128, f (lane k l) = ∑ l, f l :=
  Fin.sum_mul_add_congr (S := 4) (n := 128) (L := 512) (fun _ _ _ => rfl) rfl

/-- A group's product with its bias. -/
def pre (d : FVec Ideal S2048x2048 .bf16) (w : FVec Ideal S4x512x512 .f32) (b : FVec Ideal S4x512 .f32) (r : Fin 2048) (g : Fin 4) (j : Fin 512) : EReal :=
  (∑ l : Fin 512, d (ix2 r (col g l)) * w (ix3 g l j)) + b (ix2 g j)

section Reference

variable (d : FVec Ideal S2048x2048 .bf16) (w : FVec Ideal S4x512x512 .f32) (b : FVec Ideal S4x512 .f32) (r : Fin 2048) (j : Fin 512)

theorem group0 : val_main_v9 (F := Ideal) d w b (ix2 r j) = pre d w b r 0 j := by
  pointwise [val_main_v9, val_main_v8, val_main_v7, val_main_v6, val_main_v5, val_main_v4, val_main_v3, val_main_v2, val_main_v1, val_main_v0, pre]
  all_goals first | rfl | blk_ext [col_val]
theorem group1 : val_main_v18 (F := Ideal) d w b (ix2 r j) = pre d w b r 1 j := by
  pointwise [val_main_v18, val_main_v17, val_main_v16, val_main_v15, val_main_v14, val_main_v13, val_main_v12, val_main_v11, val_main_v10, val_main_v0, pre]
  all_goals first | rfl | blk_ext [col_val]
theorem group2 : val_main_v27 (F := Ideal) d w b (ix2 r j) = pre d w b r 2 j := by
  pointwise [val_main_v27, val_main_v26, val_main_v25, val_main_v24, val_main_v23, val_main_v22, val_main_v21, val_main_v20, val_main_v19, val_main_v0, pre]
  all_goals first | rfl | blk_ext [col_val]
theorem group3 : val_main_v36 (F := Ideal) d w b (ix2 r j) = pre d w b r 3 j := by
  pointwise [val_main_v36, val_main_v35, val_main_v34, val_main_v33, val_main_v32, val_main_v31, val_main_v30, val_main_v29, val_main_v28, val_main_v0, pre]
  all_goals first | rfl | blk_ext [col_val]

theorem ref_pre (g : Fin 4) : val_main_v37 (F := Ideal) d w b (ix2 r (col g j)) = pre d w b r g j := by
  have hv := col_val g j
  refine (Cert.PoolFwdIdeal.RefValue.sides_at _ _ _ _ r (col g j)).trans ?_
  have e : ∀ (k : Nat) (h : k < 512), k = j.val → (⟨k, h⟩ : Fin 512) = j := fun k h hk => Fin.ext hk
  match g with
  | 0 =>
    rw [dif_pos (by simp at hv; omega), e _ _ (by simp at hv; omega)]
    exact group0 d w b r j
  | 1 =>
    rw [dif_neg (by simp at hv; omega), dif_pos (by simp at hv; omega), e _ _ (by simp at hv; omega)]
    exact group1 d w b r j
  | 2 =>
    rw [dif_neg (by simp at hv; omega), dif_neg (by simp at hv; omega), dif_pos (by simp at hv; omega), e _ _ (by simp at hv; omega)]
    exact group2 d w b r j
  | 3 =>
    rw [dif_neg (by simp at hv; omega), dif_neg (by simp at hv; omega), dif_neg (by simp at hv; omega), e _ _ (by simp at hv; omega)]
    exact group3 d w b r j

theorem ref_out (s : FVec Ideal S2048 .f32) (x : FVec Ideal S2048x2048 .f32) (i : Fin 2048) :
    val_main_v41 (F := Ideal) d w b s x (ix2 r i) = x (ix2 r i) + val_main_v37 (F := Ideal) d w b (ix2 r i) * s (ix1 i) := by
  generalize e : val_main_v37 (F := Ideal) d w b (ix2 r i) = y
  pointwise [val_main_v41, val_main_v40, val_main_v39, val_main_v38]
  rw [e]

end Reference

section Values

variable (m : (ℓ : Loc nD τ sig) → Buf (Elt Ideal) ℓ)

/-- The arguments: the pooled rows, the groups' weights, their biases, the scale, and the residual. -/
abbrev ad (c : Dev nD) : FVec Ideal S2048x2048 .bf16 := m ((c : Thread nD τ).loc main_arg0)
abbrev aw (c : Dev nD) : FVec Ideal S4x512x512 .f32 := m ((c : Thread nD τ).loc main_arg1)
abbrev ab (c : Dev nD) : FVec Ideal S4x512 .f32 := m ((c : Thread nD τ).loc main_arg2)
abbrev sc (c : Dev nD) : FVec Ideal S2048 .f32 := m ((c : Thread nD τ).loc main_arg3)
abbrev ax (c : Dev nD) : FVec Ideal S2048x2048 .f32 := m ((c : Thread nD τ).loc main_arg4)

/-- Row `r` of row block `i`, of four blocks of 512 rows. -/
abbrev R (i : Fin 4) (r : Fin 512) : Fin 2048 := col i r

/-- The grid point of row block `i`, group `g` and share `k`. -/
abbrev pt (i g k : Fin 4) : Fin 64 := ⟨(i.val * 4 + g.val) * 4 + k.val, by omega⟩

theorem exists_point (t : Fin 64) : ∃ i g k, t = pt i g k :=
  ⟨⟨t.val / 16, by omega⟩, ⟨t.val / 4 % 4, by omega⟩, ⟨t.val % 4, by omega⟩, Fin.ext (by show t.val = (t.val / 16 * 4 + t.val / 4 % 4) * 4 + t.val % 4; omega)⟩

/-- The block every window shows at a grid point. -/
theorem idx : ∀ i g k : Fin 4,
    win0_0.index (pt i g k) = ![i.val, g.val * 4 + k.val] ∧ win0_1.index (pt i g k) = ![k.val, g.val, 0]
    ∧ win0_2.index (pt i g k) = ![0, g.val] ∧ win0_3.index (pt i g k) = ![0, g.val] ∧ win0_4.index (pt i g k) = ![i.val, g.val]
    ∧ win0_5.index (pt i g k) = ![i.val, g.val] ∧ win0_6.index (pt i g k) = ![i.val, g.val] := by
  decide +kernel

/-- The gathered weights hold, for each chip, its rows of every group. -/
theorem weight_entry (c : Dev nD) (g k : Fin 4) (l : Fin 128) (j : Fin 512) :
    V m c main_v3 (ix3 k (⟨g.val * 128 + l.val, by omega⟩ : Fin 512) j) = aw m c (ix3 g (lane k l) j) := by
  entry_read
  pointwise
  blk_ext [lane_val]

theorem bias_entry (c : Dev nD) (a : Fin 1) (g : Fin 4) (j : Fin 512) : V m c main_v4 (ix2 a (col g j)) = ab m c (ix2 g j) := by
  entry_read
  pointwise
  blk_ext [col_val]

theorem scale_entry (c : Dev nD) (a : Fin 1) (j : Fin 2048) : V m c main_v5 (ix2 a j) = sc m c (ix1 j) := by
  entry_read
  pointwise

variable (c : Dev nD) (i g k : Fin 4)

theorem blk0 (r : Fin 512) (l : Fin 128) : iblk m c 0 (pt i g k) (ix2 r l) = ad m c (ix2 (R i r) (col g (lane k l))) := by
  blk_point [iblk, V, idx i g k]
  · rfl
  · show (g.val * 4 + k.val) * 128 + l.val = g.val * 512 + (k.val * 128 + l.val); omega

theorem blk1 (l : Fin 128) (j : Fin 512) : iblk m c 1 (pt i g k) (ix3 (0 : Fin 1) l j) = aw m c (ix3 g (lane k l) j) := by
  rw [← weight_entry]
  blk_point [iblk, idx i g k]
  blk_ext [idx i g k]

theorem blk2 (j : Fin 512) : iblk m c 2 (pt i g k) (ix2 (0 : Fin 1) j) = ab m c (ix2 g j) := by
  rw [← bias_entry m c 0]
  blk_point [iblk, idx i g k]
  blk_ext [idx i g k, col_val]

theorem blk3 (j : Fin 512) : iblk m c 3 (pt i g k) (ix2 (0 : Fin 1) j) = sc m c (ix1 (col g j)) := by
  rw [← scale_entry m c 0]
  blk_point [iblk, idx i g k]
  blk_ext [idx i g k, col_val]

theorem blk4 (r j : Fin 512) : iblk m c 4 (pt i g k) (ix2 r j) = ax m c (ix2 (R i r) (col g j)) := by
  blk_point [iblk, V, idx i g k]
  · rfl
  · rfl

end Values

section Payloads

/-- One share's part of the product. -/
def part (d : FVec Ideal S512x128 .bf16) (w : FVec Ideal S1x128x512 .bf16) (y : S512x512.Idx) : EReal :=
  ∑ l : Fin 128, d (ix2 (y 0) l) * w (ix3 (0 : Fin 1) l (y 1))

theorem pay_zero (y : S512x512.Idx) : k0_pay1 (F := Ideal) y = 0 := by
  obtain ⟨r, j, rfl⟩ : ∃ (r j : Fin 512), y = ix2 r j := ⟨y 0, y 1, eq_ix2 y⟩
  pointwise [k0_pay1]

theorem pay_step (d : FVec Ideal S512x128 .bf16) (w : FVec Ideal S1x128x512 .bf16) (a : FVec Ideal S512x512 .f32) (y : S512x512.Idx) :
    k0_pay2 (F := Ideal) d w a y = a y + part d w y := by
  obtain ⟨r, j, rfl⟩ : ∃ (r j : Fin 512), y = ix2 r j := ⟨y 0, y 1, eq_ix2 y⟩
  pointwise [k0_pay2, part]

theorem pay_pre (a : FVec Ideal S512x512 .f32) (b : FVec Ideal S1x512 .f32) (r j : Fin 512) :
    k0_pay3 (F := Ideal) a b (ix2 r j) = a (ix2 r j) + b (ix2 (0 : Fin 1) j) := by
  pointwise [k0_pay3]

theorem pay_out (a : FVec Ideal S512x512 .f32) (b s : FVec Ideal S1x512 .f32) (x : FVec Ideal S512x512 .f32) (r j : Fin 512) :
    k0_pay4 (F := Ideal) a b s x (ix2 r j) = x (ix2 r j) + (a (ix2 r j) + b (ix2 (0 : Fin 1) j)) * s (ix2 (0 : Fin 1) j) := by
  pointwise [k0_pay4, k0_pay3]

end Payloads

section Final

variable (m : (ℓ : Loc nD τ sig) → Buf (Elt Ideal) ℓ) (c : Dev nD)

/-- The accumulator after a point. -/
abbrev acc (n : Nat) (h : n < cfg0.N) : FVec Ideal S512x512 .f32 := (outsAt0 m c n h).2.2

/-- What the accumulator holds when a point begins is what the point before left. -/
theorem carried (x : FVec Ideal S512x512 .f32) (y : S512x512.Idx) :
    View.read (Elt Ideal) (View.whole cc0_scratch0) ((Memref.isWhole_whole cc0_scratch0).unread x) y = x y :=
  congrFun (Memref.IsWhole.read_unread (Val := Elt Ideal) (Memref.isWhole_whole cc0_scratch0) x) y

theorem acc_first (t : Fin cfg0.N) (h : t.val % 4 = 0) (y : S512x512.Idx) :
    acc m c t.val t.isLt y = 0 + part (iblk m c 0 t) (iblk m c 1 t) y := by
  unfold acc
  rw [outsAt0_A m c t h (by omega)]; frame_out
  rw [pay_step, pay_zero]

theorem acc_next (t : Fin cfg0.N) (h : ¬t.val % 4 = 0) (y : S512x512.Idx) :
    acc m c t.val t.isLt y = acc m c (t.val - 1) (Nat.lt_of_le_of_lt (Nat.sub_le _ _) t.isLt) y + part (iblk m c 0 t) (iblk m c 1 t) y := by
  unfold acc
  by_cases h' : t.val % 4 = 3
  · rw [outsAt0_C m c t h h']; frame_out
    rw [pay_step]
    rw [carried]
  · rw [outsAt0_B m c t h h']; frame_out
    rw [pay_step]
    rw [carried]

/-- After a run's last point the accumulator holds the group's whole product. -/
theorem acc_last (i g : Fin 4) (r j : Fin 512) : acc m c (pt i g 3).val (pt i g 3).isLt (ix2 r j)
    = ∑ l : Fin 512, ad m c (ix2 (R i r) (col g l)) * aw m c (ix3 g l j) := by
  rw [Pipeline.eq_sum_fin_of_reset_step_apply_of_flush (fun n h => acc m c n h) 4 (fun _ => 0) (fun t => part (iblk m c 0 t) (iblk m c 1 t))
    (acc_first m c) (acc_next m c) (pt i g 3) (by show ((i.val * 4 + g.val) * 4 + 3) % 4 = 3; omega) (ix2 r j), zero_add, ← sum_lanes]
  refine Finset.sum_congr rfl fun k _ => ?_
  have e : (⟨4 * (((i.val * 4 + g.val) * 4 + 3) / 4) + k.val, by omega⟩ : Fin 64) = pt i g k :=
    Fin.ext (by show 4 * (((i.val * 4 + g.val) * 4 + 3) / 4) + k.val = (i.val * 4 + g.val) * 4 + k.val; omega)
  refine (congrArg (fun t => part (iblk m c 0 t) (iblk m c 1 t) (ix2 r j)) e).trans ?_
  exact Finset.sum_congr rfl fun l _ => congrArg₂ _ (blk0 m c i g k r l) (blk1 m c i g k l j)

theorem outs_last (t : Fin cfg0.N) (h : t.val % 4 = 3) :
    (outsAt0 m c t.val t.isLt).1 = k0_pay4 (F := Ideal) (acc m c t.val t.isLt) (iblk m c 2 t) (iblk m c 3 t) (iblk m c 4 t)
    ∧ (outsAt0 m c t.val t.isLt).2.1 = k0_pay3 (F := Ideal) (acc m c t.val t.isLt) (iblk m c 2 t) := by
  unfold acc
  constructor
  · rw [outsAt0_C m c t (by omega) h]; frame_out
  · rw [outsAt0_C m c t (by omega) h]; frame_out

theorem pre_at (i g : Fin 4) (r j : Fin 512) :
    acc m c (pt i g 3).val (pt i g 3).isLt (ix2 r j) + iblk m c 2 (pt i g 3) (ix2 (0 : Fin 1) j)
      = val_main_v37 (F := Ideal) (ad m c) (aw m c) (ab m c) (ix2 (R i r) (col g j)) := by
  rw [ref_pre, acc_last]
  exact congrArg _ (blk2 m c i g 3 j)

theorem final_pre : (dats m 0 c).arrAt 6 cfg0.N = val_main_v37 (F := Ideal) (ad m c) (aw m c) (ab m c) := by
  refine (dats m 0 c).arrAt_eq_of_covers 6 _ (by decide +kernel) fun t hf y => ?_
  have ht := (flush0_6 t).mp hf
  blk_simp; rw [after0_6, (outs_last m c t ht).2]
  obtain ⟨i, g, k, rfl⟩ := exists_point t
  obtain rfl : k = 3 := Fin.ext (by
    have h : ((i.val * 4 + g.val) * 4 + k.val) % 4 = 3 := ht
    show k.val = 3; omega)
  obtain ⟨r, j, rfl⟩ : ∃ (r j : Fin 512), y = ix2 r j := ⟨y 0, y 1, eq_ix2 y⟩
  refine (pay_pre _ _ r j).trans ((pre_at m c i g r j).trans ?_)
  blk_ext [idx i g 3]
  · exact col_val i r
  · exact col_val g j

theorem final_out : (dats m 0 c).arrAt 5 cfg0.N = val_main_v41 (F := Ideal) (ad m c) (aw m c) (ab m c) (sc m c) (ax m c) := by
  refine (dats m 0 c).arrAt_eq_of_covers 5 _ (by decide +kernel) fun t hf y => ?_
  have ht := (flush0_5 t).mp hf
  blk_simp; rw [after0_5, (outs_last m c t ht).1]
  obtain ⟨i, g, k, rfl⟩ := exists_point t
  obtain rfl : k = 3 := Fin.ext (by
    have h : ((i.val * 4 + g.val) * 4 + k.val) % 4 = 3 := ht
    show k.val = 3; omega)
  obtain ⟨r, j, rfl⟩ : ∃ (r j : Fin 512), y = ix2 r j := ⟨y 0, y 1, eq_ix2 y⟩
  have e : k0_pay4 (F := Ideal) (acc m c (pt i g 3).val (pt i g 3).isLt) (iblk m c 2 (pt i g 3)) (iblk m c 3 (pt i g 3)) (iblk m c 4 (pt i g 3)) (ix2 r j)
      = val_main_v41 (F := Ideal) (ad m c) (aw m c) (ab m c) (sc m c) (ax m c) (ix2 (R i r) (col g j)) := by
    rw [ref_out, ← pre_at m c i g r j, ← blk3 m c i g 3 j, ← blk4 m c i g 3 r j]
    exact pay_out _ _ _ _ r j
  refine e.trans ?_
  blk_ext [idx i g 3]
  · exact col_val i r
  · exact col_val g j

end Final

end Cert.GroupFwdIdeal.RefValue

namespace Cert.Proof

/-- The call computes the groups' product with its bias, scale and residual. -/
theorem group_fwd : Cert.algebraic_GroupFwdIdeal_GroupFwdRefIdeal := by
  pair_intro
  · run_from Cert.GroupFwdIdeal.Value.run_blocks m g
  · run_from Cert.GroupFwdRefIdeal.Value.run (F := Ideal) m' g'
    · exact (Cert.GroupFwdRefIdeal.Read.val_main_v41_eq (F := Ideal) _ _ _ _ _).trans (Cert.GroupFwdIdeal.RefValue.final_out m c).symm
    · exact (Cert.GroupFwdRefIdeal.Read.val_main_v37_eq (F := Ideal) _ _ _).trans (Cert.GroupFwdIdeal.RefValue.final_pre m c).symm

end Cert.Proof
-- ==== Proof.DownFwd.lean ====
/- The gated layer's last product with its residual against the reference's. -/
module

public import proofs.«01_k».proof.Defs
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownFwdIdeal.RefValue

open Cert.DownFwdIdeal Cert.DownFwdIdeal.Gen
open Cert.DownFwdRefIdeal.Read Cert.Rows

open Cert.GateBwdIdeal.RefValue (R C R_val C_val)

/-- Every channel is one of some chip's share. -/
theorem exists_C (l : Fin 5632) : ∃ q j, l = C q j :=
  ⟨⟨l.val / 1408, by omega⟩, ⟨l.val % 1408, by omega⟩, Fin.ext (by simp only [C_val]; omega)⟩

/-- The shares of a weight's rows laid one after the other. -/
def flat (w : FVec Ideal S4x1408x256 .bf16) : FVec Ideal S5632x256 .bf16 :=
  shapeCast S5632x256 (shapeCast S4x1408x256 w shapeCasts_S4x1408x256_S4x1408x256) shapeCasts_S4x1408x256_S5632x256

theorem flat_at (w : FVec Ideal S4x1408x256 .bf16) (q : Fin 4) (l : Fin 1408) (j : Fin 256) : flat w (ix2 (C q l) j) = w (ix3 q l j) := by
  unfold flat C
  pointwise
  blk_ext []

/-- One half, as the program writes it. -/
abbrev half : EReal := Scalar.ofBits (F := Ideal) .f32 0x3F000000#32

theorem tile_at (x : FVec Ideal S1024x256 .f32) (s : FVec Ideal S1024x5632 .bf16) (w : FVec Ideal S4x1408x256 .bf16) (r : Fin 1024) (j : Fin 256) :
    k0_pay1 (F := Ideal) x s w (ix2 r j) = x (ix2 r j) + half * ∑ k : Fin 5632, s (ix2 r k) * flat w (ix2 k j) := by
  have e : k0_pay1 (F := Ideal) x s w = addf x (mulf (broadcast S1024x256 half)
      (matmul dot_S1024x5632_S5632x256_S1024x256_1_0_0_1_n_n none s (flat w) (constant S1024x256 .f32 0x00000000#32))) := rfl
  rw [e]
  generalize flat w = y
  pointwise

theorem ref_at (s : FVec Ideal S2048x5632 .bf16) (w : FVec Ideal S5632x2048 .f32) (x : FVec Ideal S2048x2048 .f32) (r j : Fin 2048) :
    val_main_v4 (F := Ideal) s w x (ix2 r j) = x (ix2 r j) + half * ∑ k : Fin 5632, s (ix2 r k) * w (ix2 k j) := by
  pointwise [val_main_v4, val_main_v3, val_main_v2, val_main_cst, val_main_v1, val_main_v0]

variable (m : (ℓ : Loc nD τ sig) → Buf (Elt Ideal) ℓ)

/-- The arguments: the gated rows, the down weight and the residual. -/
abbrev ds (c : Dev nD) : FVec Ideal S2048x5632 .bf16 := m ((c : Thread nD τ).loc main_arg0)
abbrev aw (c : Dev nD) : FVec Ideal S5632x2048 .f32 := m ((c : Thread nD τ).loc main_arg1)
abbrev ax (c : Dev nD) : FVec Ideal S2048x2048 .f32 := m ((c : Thread nD τ).loc main_arg2)

/-- The grid point of row block `i` and column block `q`. -/
abbrev pt (i : Fin 2) (q : Fin 8) : Fin 16 := ⟨i.val * 8 + q.val, by omega⟩

theorem exists_point (t : Fin 16) : ∃ i q, t = pt i q :=
  ⟨⟨t.val / 8, by omega⟩, ⟨t.val % 8, by omega⟩, Fin.ext (by show t.val = t.val / 8 * 8 + t.val % 8; omega)⟩

/-- The block every window shows at a grid point. -/
theorem idx : ∀ (i : Fin 2) (q : Fin 8), win0_0.index (pt i q) = ![i.val, 0] ∧ win0_1.index (pt i q) = ![0, 0, q.val]
    ∧ win0_2.index (pt i q) = ![i.val, q.val] ∧ win0_3.index (pt i q) = ![i.val, q.val] := by
  decide +kernel

/-- The gathered weight holds each chip's share of the rows. -/
theorem weight_entry (c : Dev nD) (k : Fin 4) (l : Fin 1408) (j : Fin 2048) : V m c main_v1 (ix3 k l j) = aw m c (ix2 (C k l) j) := by
  entry_read
  pointwise
  blk_ext [C]

variable (c : Dev nD) (i : Fin 2) (q : Fin 8)

theorem blk0 (r : Fin 1024) (k : Fin 5632) : iblk m c 0 (pt i q) (ix2 r k) = ds m c (ix2 (R i r) k) := by
  blk_point [iblk, V, idx i q]
  blk_ext [idx i q, R_val]

theorem blk1 (k : Fin 4) (l : Fin 1408) (j : Fin 256) : iblk m c 1 (pt i q) (ix3 k l j) = aw m c (ix2 (C k l) (row q j)) := by
  rw [← weight_entry]
  blk_point [iblk, idx i q]
  blk_ext [idx i q, row_val]

theorem blk2 (r : Fin 1024) (j : Fin 256) : iblk m c 2 (pt i q) (ix2 r j) = ax m c (ix2 (R i r) (row q j)) := by
  blk_point [iblk, V, idx i q]
  · rfl
  · rfl

theorem tile_eq (r : Fin 1024) (j : Fin 256) :
    k0_pay1 (F := Ideal) (iblk m c 2 (pt i q)) (iblk m c 0 (pt i q)) (iblk m c 1 (pt i q)) (ix2 r j)
      = val_main_v4 (F := Ideal) (ds m c) (aw m c) (ax m c) (ix2 (R i r) (row q j)) := by
  refine (tile_at _ _ _ r j).trans ?_
  rw [ref_at]
  refine congrArg₂ _ (blk2 m c i q r j) (congrArg _ (Finset.sum_congr rfl fun k _ => congrArg₂ _ (blk0 m c i q r k) ?_))
  obtain ⟨k, l, rfl⟩ := exists_C k
  exact (flat_at _ k l j).trans (blk1 m c i q k l j)

theorem outs (t : Fin cfg0.N) :
    out0_3 (iblk m c 0 t) (iblk m c 1 t) (iblk m c 2 t) = k0_pay1 (F := Ideal) (iblk m c 2 t) (iblk m c 0 t) (iblk m c 1 t) := by
  frame_out

theorem final : (dats m 0 c).arrAt 3 cfg0.N = val_main_v4 (F := Ideal) (ds m c) (aw m c) (ax m c) := by
  refine (dats m 0 c).arrAt_eq_of_covers 3 _ (by decide +kernel) fun t hf y => ?_
  blk_simp; rw [after0_3, outs]
  obtain ⟨i, q, rfl⟩ := exists_point t
  obtain ⟨a, b, rfl⟩ : ∃ (a : Fin 1024) (b : Fin 256), y = ix2 a b := ⟨y 0, y 1, eq_ix2 y⟩
  refine (tile_eq m c i q a b).trans ?_
  blk_ext [idx i q]
  · rfl
  · rfl

end Cert.DownFwdIdeal.RefValue

namespace Cert.Proof

/-- The call adds half the down product to the residual. -/
theorem down_fwd : Cert.algebraic_DownFwdIdeal_DownFwdRefIdeal := by
  pair_intro
  · run_from Cert.DownFwdIdeal.Value.run_blocks m g
  · run_from Cert.DownFwdRefIdeal.Value.run (F := Ideal) m' g'
    exact (Cert.DownFwdRefIdeal.Read.val_main_v4_eq (F := Ideal) _ _ _).trans (Cert.DownFwdIdeal.RefValue.final m c).symm

end Cert.Proof
-- ==== Proof.RowsFwd.lean ====
/- The product by rows gathered from four chips, with bias and residual, against the reference's. -/
module

public import proofs.«01_k».proof.Defs
public import proofs.«01_k».proof.Proof.Gen.RowsFwdIdeal.Value
public import proofs.«01_k».proof.Proof.Gen.RowsFwdRefIdeal.Run
public import proofs.«01_k».proof.Proof.Gen.RowsFwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RowsFwdIdeal.RefValue

open Cert.RowsFwdIdeal Cert.RowsFwdIdeal.Gen
open Cert.RowsFwdRefIdeal.Read Cert.Rows

open Cert.GateBwdIdeal.RefValue (R R_val)

/-- The shares of a weight's rows laid one after the other. -/
def flat (w : FVec Ideal S4x512x512 .bf16) : FVec Ideal S2048x512 .bf16 :=
  shapeCast S2048x512 (shapeCast S4x512x512 w shapeCasts_S4x512x512_S4x512x512) shapeCasts_S4x512x512_S2048x512

theorem flat_at (w : FVec Ideal S4x512x512 .bf16) (q : Fin 4) (l j : Fin 512) : flat w (ix2 (col q l) j) = w (ix3 q l j) := by
  unfold flat col
  pointwise
  blk_ext []

theorem tile_at (y : FVec Ideal S1024x2048 .bf16) (w : FVec Ideal S4x512x512 .bf16) (x : FVec Ideal S1024x512 .f32) (b : FVec Ideal S1x512 .f32)
    (r : Fin 1024) (j : Fin 512) :
    k0_pay1 (F := Ideal) y w x b (ix2 r j)
      = x (ix2 r j) + (∑ k : Fin 2048, y (ix2 r k) * flat w (ix2 k j)) + b (ix2 (0 : Fin 1) j) := by
  have e : k0_pay1 (F := Ideal) y w x b = addf (addf x
      (matmul dot_S1024x2048_S2048x512_S1024x512_1_0_0_1_n_n none y (flat w) (constant S1024x512 .f32 0x00000000#32)))
      (broadcastTo S1024x512 (shapeCast S1x512 b shapeCasts_S1x512_S1x512) broadcasts_S1x512_S1024x512) := rfl
  rw [e]
  generalize flat w = z
  pointwise

theorem ref_at (y : FVec Ideal S2048x2048 .bf16) (w x : FVec Ideal S2048x2048 .f32) (b : FVec Ideal S2048 .f32) (r j : Fin 2048) :
    val_main_v5 (F := Ideal) y w x b (ix2 r j) = x (ix2 r j) + ((∑ k : Fin 2048, y (ix2 r k) * w (ix2 k j)) + b (ix1 j)) := by
  pointwise [val_main_v5, val_main_v4, val_main_v3, val_main_v2, val_main_v1, val_main_v0]

variable (m : (ℓ : Loc nD τ sig) → Buf (Elt Ideal) ℓ)

/-- The arguments: the rows, the weight, the residual and the bias. -/
abbrev ay (c : Dev nD) : FVec Ideal S2048x2048 .bf16 := m ((c : Thread nD τ).loc main_arg0)
abbrev aw (c : Dev nD) : FVec Ideal S2048x2048 .f32 := m ((c : Thread nD τ).loc main_arg1)
abbrev ax (c : Dev nD) : FVec Ideal S2048x2048 .f32 := m ((c : Thread nD τ).loc main_arg2)
abbrev ab (c : Dev nD) : FVec Ideal S2048 .f32 := m ((c : Thread nD τ).loc main_arg3)

/-- The grid point of row block `i` and column block `q`. -/
abbrev pt (i : Fin 2) (q : Fin 4) : Fin 8 := ⟨i.val * 4 + q.val, by omega⟩

theorem exists_point (t : Fin 8) : ∃ i q, t = pt i q :=
  ⟨⟨t.val / 4, by omega⟩, ⟨t.val % 4, by omega⟩, Fin.ext (by show t.val = t.val / 4 * 4 + t.val % 4; omega)⟩

/-- The block every window shows at a grid point. -/
theorem idx : ∀ (i : Fin 2) (q : Fin 4), win0_0.index (pt i q) = ![i.val, 0] ∧ win0_1.index (pt i q) = ![0, 0, q.val]
    ∧ win0_2.index (pt i q) = ![i.val, q.val] ∧ win0_3.index (pt i q) = ![0, q.val] ∧ win0_4.index (pt i q) = ![i.val, q.val] := by
  decide +kernel

/-- The gathered weight holds each chip's share of the rows. -/
theorem weight_entry (c : Dev nD) (k : Fin 4) (l : Fin 512) (j : Fin 2048) : V m c main_v1 (ix3 k l j) = aw m c (ix2 (col k l) j) := by
  entry_read
  pointwise
  blk_ext [col]

theorem bias_entry (c : Dev nD) (a : Fin 1) (j : Fin 2048) : V m c main_v2 (ix2 a j) = ab m c (ix1 j) := by
  entry_read
  pointwise

variable (c : Dev nD) (i : Fin 2) (q : Fin 4)

theorem blk0 (r : Fin 1024) (k : Fin 2048) : iblk m c 0 (pt i q) (ix2 r k) = ay m c (ix2 (R i r) k) := by
  blk_point [iblk, V, idx i q]
  blk_ext [idx i q, R_val]

theorem blk1 (k : Fin 4) (l : Fin 512) (j : Fin 512) : iblk m c 1 (pt i q) (ix3 k l j) = aw m c (ix2 (col k l) (col q j)) := by
  rw [← weight_entry]
  blk_point [iblk, idx i q]
  blk_ext [idx i q, col_val]

theorem blk2 (r : Fin 1024) (j : Fin 512) : iblk m c 2 (pt i q) (ix2 r j) = ax m c (ix2 (R i r) (col q j)) := by
  blk_point [iblk, V, idx i q]
  · rfl
  · rfl

theorem blk3 (j : Fin 512) : iblk m c 3 (pt i q) (ix2 (0 : Fin 1) j) = ab m c (ix1 (col q j)) := by
  rw [← bias_entry m c 0]
  blk_point [iblk, idx i q]
  blk_ext [idx i q, col_val]

theorem tile_eq (r : Fin 1024) (j : Fin 512) :
    k0_pay1 (F := Ideal) (iblk m c 0 (pt i q)) (iblk m c 1 (pt i q)) (iblk m c 2 (pt i q)) (iblk m c 3 (pt i q)) (ix2 r j)
      = val_main_v5 (F := Ideal) (ay m c) (aw m c) (ax m c) (ab m c) (ix2 (R i r) (col q j)) := by
  refine (tile_at _ _ _ _ r j).trans ?_
  rw [ref_at, ← add_assoc]
  refine congrArg₂ _ (congrArg₂ _ (blk2 m c i q r j) (Finset.sum_congr rfl fun k _ => congrArg₂ _ (blk0 m c i q r k) ?_)) (blk3 m c i q j)
  obtain ⟨k, l, rfl⟩ := exists_col k
  exact (flat_at _ k l j).trans (blk1 m c i q k l j)

theorem outs (t : Fin cfg0.N) : out0_4 (iblk m c 0 t) (iblk m c 1 t) (iblk m c 2 t) (iblk m c 3 t)
    = k0_pay1 (F := Ideal) (iblk m c 0 t) (iblk m c 1 t) (iblk m c 2 t) (iblk m c 3 t) := by
  frame_out

theorem final : (dats m 0 c).arrAt 4 cfg0.N = val_main_v5 (F := Ideal) (ay m c) (aw m c) (ax m c) (ab m c) := by
  refine (dats m 0 c).arrAt_eq_of_covers 4 _ (by decide +kernel) fun t hf y => ?_
  blk_simp; rw [after0_4, outs]
  obtain ⟨i, q, rfl⟩ := exists_point t
  obtain ⟨a, b, rfl⟩ : ∃ (a : Fin 1024) (b : Fin 512), y = ix2 a b := ⟨y 0, y 1, eq_ix2 y⟩
  refine (tile_eq m c i q a b).trans ?_
  blk_ext [idx i q]
  · rfl
  · rfl

end Cert.RowsFwdIdeal.RefValue

namespace Cert.Proof

/-- The call computes the product with its bias and residual. -/
theorem rows_fwd : Cert.algebraic_RowsFwdIdeal_RowsFwdRefIdeal := by
  pair_intro
  · run_from Cert.RowsFwdIdeal.Value.run_blocks m g
  · run_from Cert.RowsFwdRefIdeal.Value.run (F := Ideal) m' g'
    exact (Cert.RowsFwdRefIdeal.Read.val_main_v5_eq (F := Ideal) _ _ _ _).trans (Cert.RowsFwdIdeal.RefValue.final m c).symm

end Cert.Proof
-- ==== Proof.RowsBwd.lean ====
/- The product by the transposed rows gathered from four chips against the derivative of the reference's product. -/
module

public import proofs.«01_k».proof.Defs
public import proofs.«01_k».proof.Proof.Gen.RowsBwdIdeal.Value
public import proofs.«01_k».proof.Proof.Gen.RowsBwdRefIdeal.Run
public import proofs.«01_k».proof.Proof.Gen.RowsBwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RowsBwdIdeal.RefValue

open Cert.RowsBwdIdeal Cert.RowsBwdIdeal.Gen
open Cert.RowsBwdRefIdeal.Read Cert.Rows

open Cert.GateBwdIdeal.RefValue (R R_val)

theorem tile_at (d : FVec Ideal S1024x2048 .bf16) (w : FVec Ideal S1x512x2048 .bf16) (r : Fin 1024) (j : Fin 512) :
    k0_pay1 (F := Ideal) d w (ix2 r j) = ∑ k : Fin 2048, d (ix2 r k) * w (ix3 (0 : Fin 1) j k) := by
  pointwise [k0_pay1]

theorem ref_at (d : FVec Ideal S2048x2048 .bf16) (w : FVec Ideal S2048x2048 .f32) (r j : Fin 2048) :
    val_main_v3 (F := Ideal) d w (ix2 r j) = ∑ k : Fin 2048, d (ix2 r k) * w (ix2 j k) := by
  pointwise [val_main_v3, val_main_v2]

variable (m : (ℓ : Loc nD τ sig) → Buf (Elt Ideal) ℓ)

/-- The arguments: the gradient of the product and the weight. -/
abbrev ad (c : Dev nD) : FVec Ideal S2048x2048 .bf16 := m ((c : Thread nD τ).loc main_arg0)
abbrev aw (c : Dev nD) : FVec Ideal S2048x2048 .f32 := m ((c : Thread nD τ).loc main_arg1)

/-- The grid point of row block `i` and chip `q`. -/
abbrev pt (i : Fin 2) (q : Fin 4) : Fin 8 := ⟨i.val * 4 + q.val, by omega⟩

theorem exists_point (t : Fin 8) : ∃ i q, t = pt i q :=
  ⟨⟨t.val / 4, by omega⟩, ⟨t.val % 4, by omega⟩, Fin.ext (by show t.val = t.val / 4 * 4 + t.val % 4; omega)⟩

/-- The block every window shows at a grid point. -/
theorem idx : ∀ (i : Fin 2) (q : Fin 4), win0_0.index (pt i q) = ![i.val, 0] ∧ win0_1.index (pt i q) = ![q.val, 0, 0]
    ∧ win0_2.index (pt i q) = ![i.val, q.val] := by
  decide +kernel

/-- The gathered weight holds each chip's share of the rows. -/
theorem weight_entry (c : Dev nD) (k : Fin 4) (l : Fin 512) (j : Fin 2048) : V m c main_v1 (ix3 k l j) = aw m c (ix2 (col k l) j) := by
  entry_read
  pointwise
  blk_ext [col]

variable (c : Dev nD) (i : Fin 2) (q : Fin 4)

theorem blk0 (r : Fin 1024) (k : Fin 2048) : iblk m c 0 (pt i q) (ix2 r k) = ad m c (ix2 (R i r) k) := by
  blk_point [iblk, V, idx i q]
  blk_ext [idx i q, R_val]

theorem blk1 (a : Fin 1) (l : Fin 512) (k : Fin 2048) : iblk m c 1 (pt i q) (ix3 a l k) = aw m c (ix2 (col q l) k) := by
  rw [← weight_entry]
  blk_point [iblk, idx i q]
  blk_ext [idx i q]

theorem tile_eq (r : Fin 1024) (j : Fin 512) : k0_pay1 (F := Ideal) (iblk m c 0 (pt i q)) (iblk m c 1 (pt i q)) (ix2 r j)
    = val_main_v3 (F := Ideal) (ad m c) (aw m c) (ix2 (R i r) (col q j)) := by
  refine (tile_at _ _ r j).trans ?_
  rw [ref_at]
  exact Finset.sum_congr rfl fun k _ => congrArg₂ _ (blk0 m c i q r k) (blk1 m c i q 0 j k)

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v3 (F := Ideal) (ad m c) (aw m c) := by
  refine (dats m 0 c).arrAt_eq_of_covers 2 _ (by decide +kernel) fun t hf y => ?_
  blk_simp; rw [after0_2, outs]
  obtain ⟨i, q, rfl⟩ := exists_point t
  obtain ⟨a, b, rfl⟩ : ∃ (a : Fin 1024) (b : Fin 512), y = ix2 a b := ⟨y 0, y 1, eq_ix2 y⟩
  refine (tile_eq m c i q a b).trans ?_
  blk_ext [idx i q]
  · rfl
  · rfl

end Cert.RowsBwdIdeal.RefValue

namespace Cert.Proof

/-- The call computes the gradient with respect to the rows. -/
theorem rows_bwd : Cert.algebraic_RowsBwdIdeal_RowsBwdRefIdeal := by
  pair_intro
  · run_from Cert.RowsBwdIdeal.Value.run_blocks m g
  · run_from Cert.RowsBwdRefIdeal.Value.run (F := Ideal) m' g'
    exact (Cert.RowsBwdRefIdeal.Read.val_main_v3_eq (F := Ideal) _ _).trans (Cert.RowsBwdIdeal.RefValue.final m c).symm

end Cert.Proof
-- ==== Proof.WeightBwd.lean ====
/- The gradient of a weight whose rows are cut over four chips against the derivative of the reference's product. -/
module

public import proofs.«01_k».proof.Defs
public import proofs.«01_k».proof.Proof.Gen.WeightBwdIdeal.Value
public import proofs.«01_k».proof.Proof.Gen.WeightBwdRefIdeal.Run
public import proofs.«01_k».proof.Proof.Gen.WeightBwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WeightBwdIdeal.RefValue

open Cert.WeightBwdIdeal Cert.WeightBwdIdeal.Gen
open Cert.WeightBwdRefIdeal.Read Cert.Rows

open Cert.GateBwdIdeal.RefValue (R R_val)

theorem tile_at (y : FVec Ideal S2048x512 .bf16) (d : FVec Ideal S2048x1024 .bf16) (a : Fin 1) (l : Fin 512) (j : Fin 1024) :
    k0_pay1 (F := Ideal) y d (ix3 a l j) = ∑ k : Fin 2048, y (ix2 k l) * d (ix2 k j) := by
  pointwise [k0_pay1]

theorem product_at (y d : FVec Ideal S2048x2048 .bf16) (l j : Fin 2048) :
    val_main_v6 (F := Ideal) y d (ix2 l j) = ∑ k : Fin 2048, d (ix2 k j) * y (ix2 k l) := by
  pointwise [val_main_v6, val_main_v5, val_main_v4, val_main_v3, val_main_v1]

theorem ref_at (y d : FVec Ideal S2048x2048 .bf16) (q : Fin 4) (l : Fin 512) (j : Fin 2048) :
    val_main_v7 (F := Ideal) y d (ix3 q l j) = ∑ k : Fin 2048, y (ix2 k (col q l)) * d (ix2 k j) := by
  have e : val_main_v7 (F := Ideal) y d (ix3 q l j) = val_main_v6 (F := Ideal) y d (ix2 (col q l) j) := by
    unfold val_main_v7
    generalize val_main_v6 (F := Ideal) y d = z
    pointwise
    blk_ext [col]
  rw [e, product_at]
  exact Finset.sum_congr rfl fun k _ => mul_comm _ _

variable (m : (ℓ : Loc nD τ sig) → Buf (Elt Ideal) ℓ)

/-- The arguments: the rows and the gradient of the product. -/
abbrev ay (c : Dev nD) : FVec Ideal S2048x2048 .bf16 := m ((c : Thread nD τ).loc main_arg0)
abbrev ad (c : Dev nD) : FVec Ideal S2048x2048 .bf16 := m ((c : Thread nD τ).loc main_arg1)

/-- The grid point of chip `q` and column block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![0, q.val] ∧ win0_1.index (pt q i) = ![0, i.val]
    ∧ win0_2.index (pt q i) = ![q.val, 0, i.val] := by
  decide +kernel

variable (c : Dev nD) (q : Fin 4) (i : Fin 2)

theorem blk0 (k : Fin 2048) (l : Fin 512) : iblk m c 0 (pt q i) (ix2 k l) = ay m c (ix2 k (col q l)) := by
  blk_point [iblk, V, idx q i]
  blk_ext [idx q i, col_val]

theorem blk1 (k : Fin 2048) (j : Fin 1024) : iblk m c 1 (pt q i) (ix2 k j) = ad m c (ix2 k (R i j)) := by
  blk_point [iblk, V, idx q i]
  blk_ext [idx q i, R_val]

theorem tile_eq (a : Fin 1) (l : Fin 512) (j : Fin 1024) : k0_pay1 (F := Ideal) (iblk m c 0 (pt q i)) (iblk m c 1 (pt q i)) (ix3 a l j)
    = val_main_v7 (F := Ideal) (ay m c) (ad m c) (ix3 q l (R i j)) := by
  refine (tile_at _ _ a l j).trans ?_
  rw [ref_at]
  exact Finset.sum_congr rfl fun k _ => congrArg₂ _ (blk0 m c q i k l) (blk1 m c q i k j)

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v7 (F := Ideal) (ay m c) (ad m c) := by
  refine (dats m 0 c).arrAt_eq_of_covers 2 _ (by decide +kernel) fun t hf y => ?_
  blk_simp; rw [after0_2, outs]
  obtain ⟨q, i, rfl⟩ := exists_point t
  obtain ⟨a, l, j, rfl⟩ : ∃ (a : Fin 1) (l : Fin 512) (j : Fin 1024), y = ix3 a l j := ⟨y 0, y 1, y 2, eq_ix3 y⟩
  refine (tile_eq m c q i a l j).trans ?_
  blk_ext [idx q i, R_val]

end Cert.WeightBwdIdeal.RefValue

namespace Cert.Proof

/-- The call computes the gradient with respect to the weight. -/
theorem weight_bwd : Cert.algebraic_WeightBwdIdeal_WeightBwdRefIdeal := by
  pair_intro
  · run_from Cert.WeightBwdIdeal.Value.run_blocks m g
  · run_from Cert.WeightBwdRefIdeal.Value.run (F := Ideal) m' g'
    exact (Cert.WeightBwdRefIdeal.Read.val_main_v7_eq (F := Ideal) _ _).trans (Cert.WeightBwdIdeal.RefValue.final m c).symm

end Cert.Proof
-- ==== Proof.RowsSumBwd.lean ====
/- The sum of two products by transposed weights, accumulated over the chips' shares, against the derivative of the reference's two products. -/
module

public import proofs.«01_k».proof.Defs
public import proofs.«01_k».proof.Proof.Gen.RowsSumBwdIdeal.Value
public import proofs.«01_k».proof.Proof.Gen.RowsSumBwdRefIdeal.Run
public import proofs.«01_k».proof.Proof.Gen.RowsSumBwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RowsSumBwdIdeal.RefValue

open Cert.RowsSumBwdIdeal Cert.RowsSumBwdIdeal.Gen
open Cert.RowsSumBwdRefIdeal.Read Cert.Rows

open Cert.GateBwdIdeal.RefValue (R C R_val C_val)

/-- A sum over all channels is the sum over the shares of the sums over each share. -/
theorem sum_shares {α : Type*} [AddCommMonoid α] (f : Fin 5632 → α) :
    ∑ k : Fin 4, ∑ l : Fin 1408, f (C k l) = ∑ l, f l :=
  Fin.sum_mul_add_congr (S := 4) (n := 1408) (L := 5632) (fun _ _ _ => rfl) rfl

theorem ref_at (a b : FVec Ideal S2048x5632 .bf16) (v w : FVec Ideal S2048x5632 .f32) (r j : Fin 2048) :
    val_main_v7 (F := Ideal) a b v w (ix2 r j)
      = (∑ l : Fin 5632, b (ix2 r l) * w (ix2 j l)) + ∑ l : Fin 5632, a (ix2 r l) * v (ix2 j l) := by
  pointwise [val_main_v7, val_main_v6, val_main_v5, val_main_v4, val_main_v3]

/-- The same, over the shares. -/
theorem ref_shares (a b : FVec Ideal S2048x5632 .bf16) (v w : FVec Ideal S2048x5632 .f32) (r j : Fin 2048) :
    val_main_v7 (F := Ideal) a b v w (ix2 r j)
      = ∑ k : Fin 4, ((∑ l : Fin 1408, a (ix2 r (C k l)) * v (ix2 j (C k l))) + ∑ l : Fin 1408, b (ix2 r (C k l)) * w (ix2 j (C k l))) := by
  rw [ref_at, add_comm, ← sum_shares, ← sum_shares, ← Finset.sum_add_distrib]

section Values

variable (m : (ℓ : Loc nD τ sig) → Buf (Elt Ideal) ℓ)

/-- The arguments: the gradients of the two products and the two weights. -/
abbrev aa (c : Dev nD) : FVec Ideal S2048x5632 .bf16 := m ((c : Thread nD τ).loc main_arg0)
abbrev ab (c : Dev nD) : FVec Ideal S2048x5632 .bf16 := m ((c : Thread nD τ).loc main_arg1)
abbrev av (c : Dev nD) : FVec Ideal S2048x5632 .f32 := m ((c : Thread nD τ).loc main_arg2)
abbrev aw (c : Dev nD) : FVec Ideal S2048x5632 .f32 := m ((c : Thread nD τ).loc main_arg3)

/-- The grid point of row block `i`, column block `g` and share `k`. -/
abbrev pt (i g : Fin 2) (k : Fin 4) : Fin 16 := ⟨(i.val * 2 + g.val) * 4 + k.val, by omega⟩

theorem exists_point (t : Fin 16) : ∃ i g k, t = pt i g k :=
  ⟨⟨t.val / 8, by omega⟩, ⟨t.val / 4 % 2, by omega⟩, ⟨t.val % 4, by omega⟩, Fin.ext (by show t.val = (t.val / 8 * 2 + t.val / 4 % 2) * 4 + t.val % 4; omega)⟩

/-- The block every window shows at a grid point. -/
theorem idx : ∀ (i g : Fin 2) (k : Fin 4),
    win0_0.index (pt i g k) = ![i.val, k.val] ∧ win0_1.index (pt i g k) = ![k.val, g.val, 0]
    ∧ win0_2.index (pt i g k) = ![i.val, k.val] ∧ win0_3.index (pt i g k) = ![k.val, g.val, 0] ∧ win0_4.index (pt i g k) = ![i.val, g.val] := by
  decide +kernel

/-- The gathered weights hold each chip's share of the columns. -/
theorem weight_v (c : Dev nD) (k : Fin 4) (j : Fin 2048) (l : Fin 1408) : V m c main_v2 (ix3 k j l) = av m c (ix2 j (C k l)) := by
  entry_read
  pointwise
  blk_ext [C]

theorem weight_w (c : Dev nD) (k : Fin 4) (j : Fin 2048) (l : Fin 1408) : V m c main_v5 (ix3 k j l) = aw m c (ix2 j (C k l)) := by
  entry_read
  pointwise
  blk_ext [C]

variable (c : Dev nD) (i g : Fin 2) (k : Fin 4)

theorem blk0 (r : Fin 1024) (l : Fin 1408) : iblk m c 0 (pt i g k) (ix2 r l) = aa m c (ix2 (R i r) (C k l)) := by
  blk_point [iblk, V, idx i g k]
  · rfl
  · rfl

theorem blk1 (j : Fin 1024) (l : Fin 1408) : iblk m c 1 (pt i g k) (ix3 (0 : Fin 1) j l) = av m c (ix2 (R g j) (C k l)) := by
  rw [← weight_v]
  blk_point [iblk, idx i g k]
  blk_ext [idx i g k, R_val]

theorem blk2 (r : Fin 1024) (l : Fin 1408) : iblk m c 2 (pt i g k) (ix2 r l) = ab m c (ix2 (R i r) (C k l)) := by
  blk_point [iblk, V, idx i g k]
  · rfl
  · rfl

theorem blk3 (j : Fin 1024) (l : Fin 1408) : iblk m c 3 (pt i g k) (ix3 (0 : Fin 1) j l) = aw m c (ix2 (R g j) (C k l)) := by
  rw [← weight_w]
  blk_point [iblk, idx i g k]
  blk_ext [idx i g k, R_val]

end Values

section Payloads

/-- One share's part of a product. -/
def part (d : FVec Ideal S1024x1408 .bf16) (w : FVec Ideal S1x1024x1408 .bf16) (y : S1024x1024.Idx) : EReal :=
  ∑ l : Fin 1408, d (ix2 (y 0) l) * w (ix3 (0 : Fin 1) (y 1) l)

theorem pay_zero (y : S1024x1024.Idx) : k0_pay1 (F := Ideal) y = 0 := by
  obtain ⟨r, j, rfl⟩ : ∃ (r j : Fin 1024), y = ix2 r j := ⟨y 0, y 1, eq_ix2 y⟩
  pointwise [k0_pay1]

theorem pay_a (d : FVec Ideal S1024x1408 .bf16) (w : FVec Ideal S1x1024x1408 .bf16) (a : FVec Ideal S1024x1024 .f32) (y : S1024x1024.Idx) :
    k0_pay2 (F := Ideal) d w a y = a y + part d w y := by
  obtain ⟨r, j, rfl⟩ : ∃ (r j : Fin 1024), y = ix2 r j := ⟨y 0, y 1, eq_ix2 y⟩
  pointwise [k0_pay2, part]

theorem pay_b (d : FVec Ideal S1024x1408 .bf16) (w : FVec Ideal S1x1024x1408 .bf16) (a : FVec Ideal S1024x1024 .f32) (y : S1024x1024.Idx) :
    k0_pay3 (F := Ideal) d w a y = a y + part d w y := by
  obtain ⟨r, j, rfl⟩ : ∃ (r j : Fin 1024), y = ix2 r j := ⟨y 0, y 1, eq_ix2 y⟩
  pointwise [k0_pay3, part]

end Payloads

section Final

variable (m : (ℓ : Loc nD τ sig) → Buf (Elt Ideal) ℓ) (c : Dev nD)

/-- What one point adds: a share's part of both products. -/
def both (t : Fin cfg0.N) (y : S1024x1024.Idx) : EReal :=
  part (iblk m c 0 t) (iblk m c 1 t) y + part (iblk m c 2 t) (iblk m c 3 t) y

/-- The accumulator after a point. -/
abbrev acc (n : Nat) (h : n < cfg0.N) : FVec Ideal S1024x1024 .f32 := (outsAt0 m c n h).2

/-- What the accumulator holds when a point begins is what the point before left. -/
theorem carried (x : FVec Ideal S1024x1024 .f32) (y : S1024x1024.Idx) :
    View.read (Elt Ideal) (View.whole cc0_scratch0) ((Memref.isWhole_whole cc0_scratch0).unread x) y = x y :=
  congrFun (Memref.IsWhole.read_unread (Val := Elt Ideal) (Memref.isWhole_whole cc0_scratch0) x) y

theorem acc_first (t : Fin cfg0.N) (h : t.val % 4 = 0) (y : S1024x1024.Idx) :
    acc m c t.val t.isLt y = 0 + both m c t y := by
  unfold acc both
  rw [outsAt0_A m c t h (by omega)]; frame_out
  rw [pay_b, pay_a, pay_zero, add_assoc]

theorem acc_next (t : Fin cfg0.N) (h : ¬t.val % 4 = 0) (y : S1024x1024.Idx) :
    acc m c t.val t.isLt y = acc m c (t.val - 1) (Nat.lt_of_le_of_lt (Nat.sub_le _ _) t.isLt) y + both m c t y := by
  unfold acc both
  by_cases h' : t.val % 4 = 3
  · rw [outsAt0_C m c t h h']; frame_out
    rw [pay_b, pay_a, carried, add_assoc]
  · rw [outsAt0_B m c t h h']; frame_out
    rw [pay_b, pay_a, carried, add_assoc]

theorem part_a (i g : Fin 2) (k : Fin 4) (r j : Fin 1024) : part (iblk m c 0 (pt i g k)) (iblk m c 1 (pt i g k)) (ix2 r j)
    = ∑ l : Fin 1408, aa m c (ix2 (R i r) (C k l)) * av m c (ix2 (R g j) (C k l)) :=
  Finset.sum_congr rfl fun l _ => congrArg₂ _ (blk0 m c i g k r l) (blk1 m c i g k j l)

theorem part_b (i g : Fin 2) (k : Fin 4) (r j : Fin 1024) : part (iblk m c 2 (pt i g k)) (iblk m c 3 (pt i g k)) (ix2 r j)
    = ∑ l : Fin 1408, ab m c (ix2 (R i r) (C k l)) * aw m c (ix2 (R g j) (C k l)) :=
  Finset.sum_congr rfl fun l _ => congrArg₂ _ (blk2 m c i g k r l) (blk3 m c i g k j l)

theorem both_at (i g : Fin 2) (k : Fin 4) (r j : Fin 1024) : both m c (pt i g k) (ix2 r j)
    = (∑ l : Fin 1408, aa m c (ix2 (R i r) (C k l)) * av m c (ix2 (R g j) (C k l)))
      + ∑ l : Fin 1408, ab m c (ix2 (R i r) (C k l)) * aw m c (ix2 (R g j) (C k l)) := by
  rw [← part_a, ← part_b]
  rfl

/-- After a run's last point the accumulator holds both whole products. -/
theorem acc_last (i g : Fin 2) (r j : Fin 1024) : acc m c (pt i g 3).val (pt i g 3).isLt (ix2 r j)
    = val_main_v7 (F := Ideal) (aa m c) (ab m c) (av m c) (aw m c) (ix2 (R i r) (R g j)) := by
  rw [Pipeline.eq_sum_fin_of_reset_step_apply_of_flush (fun n h => acc m c n h) 4 (fun _ => 0) (both m c)
    (acc_first m c) (acc_next m c) (pt i g 3) (by show ((i.val * 2 + g.val) * 4 + 3) % 4 = 3; omega) (ix2 r j), zero_add, ref_shares]
  refine Finset.sum_congr rfl fun k _ => ?_
  have e : (⟨4 * (((i.val * 2 + g.val) * 4 + 3) / 4) + k.val, by omega⟩ : Fin 16) = pt i g k :=
    Fin.ext (by show 4 * (((i.val * 2 + g.val) * 4 + 3) / 4) + k.val = (i.val * 2 + g.val) * 4 + k.val; omega)
  exact (congrArg (fun t => both m c t (ix2 r j)) e).trans (both_at m c i g k r j)

theorem outs_last (t : Fin cfg0.N) (h : t.val % 4 = 3) : (outsAt0 m c t.val t.isLt).1 = acc m c t.val t.isLt := by
  unfold acc
  rw [outsAt0_C m c t (by omega) h]; frame_out

theorem final : (dats m 0 c).arrAt 4 cfg0.N = val_main_v7 (F := Ideal) (aa m c) (ab m c) (av m c) (aw m c) := by
  refine (dats m 0 c).arrAt_eq_of_covers 4 _ (by decide +kernel) fun t hf y => ?_
  have ht := (flush0_4 t).mp hf
  blk_simp; rw [after0_4, outs_last m c t ht]
  obtain ⟨i, g, k, rfl⟩ := exists_point t
  obtain rfl : k = 3 := Fin.ext (by
    have h : ((i.val * 2 + g.val) * 4 + k.val) % 4 = 3 := ht
    show k.val = 3; omega)
  obtain ⟨r, j, rfl⟩ : ∃ (r j : Fin 1024), y = ix2 r j := ⟨y 0, y 1, eq_ix2 y⟩
  refine (acc_last m c i g r j).trans ?_
  blk_ext [idx i g 3]
  · exact R_val i r
  · exact R_val g j

end Final

end Cert.RowsSumBwdIdeal.RefValue

namespace Cert.Proof

/-- The call computes the gradient with respect to the rows both products share. -/
theorem rows_sum_bwd : Cert.algebraic_RowsSumBwdIdeal_RowsSumBwdRefIdeal := by
  pair_intro
  · run_from Cert.RowsSumBwdIdeal.Value.run_blocks m g
  · run_from Cert.RowsSumBwdRefIdeal.Value.run (F := Ideal) m' g'
    exact (Cert.RowsSumBwdRefIdeal.Read.val_main_v7_eq (F := Ideal) _ _ _ _).trans (Cert.RowsSumBwdIdeal.RefValue.final m c).symm

end Cert.Proof
-- ==== Proof.AdamStep.lean ====
/- The optimiser's step against the reference's. -/
module

public import proofs.«01_k».proof.Defs
public import proofs.«01_k».proof.Proof.Gen.AdamStepIdeal.Value
public import proofs.«01_k».proof.Proof.Gen.AdamStepRefIdeal.Run
public import proofs.«01_k».proof.Proof.Gen.AdamStepRefIdeal.Read
public import proofs.«01_k».proof.Proof.Rows
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamStepIdeal.RefValue

open Cert.AdamStepIdeal Cert.AdamStepIdeal.Gen
open Cert.AdamStepRefIdeal.Read Cert.Rows

/-- Row `r` of row block `t`, of four blocks of 256 rows. -/
def line (t : Fin 4) (r : Fin 256) : Fin 1024 := ⟨t.val * 256 + r.val, by omega⟩

theorem line_val (t : Fin 4) (r : Fin 256) : (line t r).val = t.val * 256 + r.val := rfl

/-- The constant a program writes as `b`. -/
abbrev lit (b : BitVec 32) : EReal := Scalar.ofBits (F := Ideal) .f32 b

/-- The two moments of an element, and its step. -/
def first (g m : EReal) : EReal := lit 0x3F666666#32 * m + lit 0x3DCCCCCD#32 * g
def second (g v : EReal) : EReal := lit 0x3F7FBE77#32 * v + lit 0x3A83126F#32 * (g * g)
def step (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

section Tile

variable (w g a v : FVec Ideal S256x512 .f32) (r : Fin 256) (j : Fin 512)

theorem tile_first : k0_pay1 (F := Ideal) g a (ix2 r j) = first (g (ix2 r j)) (a (ix2 r j)) := by
  pointwise [k0_pay1, first]
theorem tile_second : k0_pay2 (F := Ideal) g v (ix2 r j) = second (g (ix2 r j)) (v (ix2 r j)) := by
  pointwise [k0_pay2, second]
theorem tile_step : k0_pay3 (F := Ideal) w g a v (ix2 r j) = step (w (ix2 r j)) (g (ix2 r j)) (a (ix2 r j)) (v (ix2 r j)) := by
  pointwise [k0_pay3, k0_pay2, k0_pay1, step, second, first]

end Tile

section Reference

variable (w g a v : FVec Ideal S1024x512 .f32) (r : Fin 1024) (j : Fin 512)

theorem ref_first : val_main_v4 (F := Ideal) g a (ix2 r j) = first (g (ix2 r j)) (a (ix2 r j)) := by
  pointwise [val_main_v4, val_main_v3, val_main_v2, val_main_v1, val_main_v0, val_main_cst, val_main_cst_0, first]
theorem ref_second : val_main_v10 (F := Ideal) g v (ix2 r j) = second (g (ix2 r j)) (v (ix2 r j)) := by
  pointwise [val_main_v10, val_main_v9, val_main_v8, val_main_v7, val_main_v6, val_main_v5, val_main_cst_1, val_main_cst_2, second]
theorem ref_step : val_main_v23 (F := Ideal) w g a v (ix2 r j) = step (w (ix2 r j)) (g (ix2 r j)) (a (ix2 r j)) (v (ix2 r j)) := by
  unfold step
  rw [← ref_first, ← ref_second]
  generalize e : val_main_v4 (F := Ideal) g a (ix2 r j) = p
  generalize e' : val_main_v10 (F := Ideal) g v (ix2 r j) = q
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [e, e']

end Reference

variable (m : (ℓ : Loc nD τ sig) → Buf (Elt Ideal) ℓ)

/-- The arguments: the weight, its gradient and the two moments. -/
abbrev aw (c : Dev nD) : FVec Ideal S1024x512 .f32 := m ((c : Thread nD τ).loc main_arg0)
abbrev ag (c : Dev nD) : FVec Ideal S1024x512 .f32 := m ((c : Thread nD τ).loc main_arg1)
abbrev am (c : Dev nD) : FVec Ideal S1024x512 .f32 := m ((c : Thread nD τ).loc main_arg2)
abbrev av (c : Dev nD) : FVec Ideal S1024x512 .f32 := m ((c : Thread nD τ).loc main_arg3)

/-- Every window shows row block `t` at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (c : Dev nD) (t : Fin 4) (r : Fin 256) (j : Fin 512)

theorem blk0 : iblk m c 0 t (ix2 r j) = aw m c (ix2 (line t r) j) := by
  blk_point [iblk, V, idx t]
  blk_ext [idx t, line_val]
theorem blk1 : iblk m c 1 t (ix2 r j) = ag m c (ix2 (line t r) j) := by
  blk_point [iblk, V, idx t]
  blk_ext [idx t, line_val]
theorem blk2 : iblk m c 2 t (ix2 r j) = am m c (ix2 (line t r) j) := by
  blk_point [iblk, V, idx t]
  blk_ext [idx t, line_val]
theorem blk3 : iblk m c 3 t (ix2 r j) = av m c (ix2 (line t r) j) := by
  blk_point [iblk, V, idx t]
  blk_ext [idx t, line_val]

theorem eq_d : k0_pay3 (F := Ideal) (iblk m c 0 t) (iblk m c 1 t) (iblk m c 2 t) (iblk m c 3 t) (ix2 r j)
    = val_main_v23 (F := Ideal) (aw m c) (ag m c) (am m c) (av m c) (ix2 (line t r) j) := by
  rw [ref_step, ← blk0, ← blk1, ← blk2, ← blk3]
  exact tile_step _ _ _ _ r j
theorem eq_m : k0_pay1 (F := Ideal) (iblk m c 1 t) (iblk m c 2 t) (ix2 r j) = val_main_v4 (F := Ideal) (ag m c) (am m c) (ix2 (line t r) j) := by
  rw [ref_first, ← blk1, ← blk2]
  exact tile_first _ _ r j
theorem eq_v : k0_pay2 (F := Ideal) (iblk m c 1 t) (iblk m c 3 t) (ix2 r j) = val_main_v10 (F := Ideal) (ag m c) (av m c) (ix2 (line t r) j) := by
  rw [ref_second, ← blk1, ← blk3]
  exact tile_second _ _ r j

theorem outs_g (t : Fin cfg0.N) : out0_4 (iblk m c 0 t) (iblk m c 1 t) (iblk m c 2 t) (iblk m c 3 t) = (iblk m c 1 t : FVec Ideal S256x512 .f32) := by
  frame_out
theorem outs_d (t : Fin cfg0.N) : out0_5 (iblk m c 0 t) (iblk m c 1 t) (iblk m c 2 t) (iblk m c 3 t)
    = k0_pay3 (F := Ideal) (iblk m c 0 t) (iblk m c 1 t) (iblk m c 2 t) (iblk m c 3 t) := by
  frame_out
theorem outs_m (t : Fin cfg0.N) : out0_6 (iblk m c 0 t) (iblk m c 1 t) (iblk m c 2 t) (iblk m c 3 t) = k0_pay1 (F := Ideal) (iblk m c 1 t) (iblk m c 2 t) := by
  frame_out
theorem outs_v (t : Fin cfg0.N) : out0_7 (iblk m c 0 t) (iblk m c 1 t) (iblk m c 2 t) (iblk m c 3 t) = k0_pay2 (F := Ideal) (iblk m c 1 t) (iblk m c 3 t) := by
  frame_out

theorem final_g : (dats m 0 c).arrAt 4 cfg0.N = ag m c := by
  refine (dats m 0 c).arrAt_eq_of_covers 4 _ (by decide +kernel) fun t hf y => ?_
  blk_simp; rw [after0_4, outs_g]
  obtain ⟨a, b, rfl⟩ : ∃ (a : Fin 256) (b : Fin 512), y = ix2 a b := ⟨y 0, y 1, eq_ix2 y⟩
  refine (blk1 m c t a b).trans ?_
  blk_ext [idx t]
  exact line_val t a

theorem final_d : (dats m 0 c).arrAt 5 cfg0.N = val_main_v23 (F := Ideal) (aw m c) (ag m c) (am m c) (av m c) := by
  refine (dats m 0 c).arrAt_eq_of_covers 5 _ (by decide +kernel) fun t hf y => ?_
  blk_simp; rw [after0_5, outs_d]
  obtain ⟨a, b, rfl⟩ : ∃ (a : Fin 256) (b : Fin 512), y = ix2 a b := ⟨y 0, y 1, eq_ix2 y⟩
  refine (eq_d m c t a b).trans ?_
  blk_ext [idx t]
  exact line_val t a

theorem final_m : (dats m 0 c).arrAt 6 cfg0.N = val_main_v4 (F := Ideal) (ag m c) (am m c) := by
  refine (dats m 0 c).arrAt_eq_of_covers 6 _ (by decide +kernel) fun t hf y => ?_
  blk_simp; rw [after0_6, outs_m]
  obtain ⟨a, b, rfl⟩ : ∃ (a : Fin 256) (b : Fin 512), y = ix2 a b := ⟨y 0, y 1, eq_ix2 y⟩
  refine (eq_m m c t a b).trans ?_
  blk_ext [idx t]
  exact line_val t a

theorem final_v : (dats m 0 c).arrAt 7 cfg0.N = val_main_v10 (F := Ideal) (ag m c) (av m c) := by
  refine (dats m 0 c).arrAt_eq_of_covers 7 _ (by decide +kernel) fun t hf y => ?_
  blk_simp; rw [after0_7, outs_v]
  obtain ⟨a, b, rfl⟩ : ∃ (a : Fin 256) (b : Fin 512), y = ix2 a b := ⟨y 0, y 1, eq_ix2 y⟩
  refine (eq_v m c t a b).trans ?_
  blk_ext [idx t]
  exact line_val t a

end Cert.AdamStepIdeal.RefValue

namespace Cert.Proof

/-- The call computes one step of the optimiser. -/
theorem adam_step : Cert.algebraic_AdamStepIdeal_AdamStepRefIdeal := by
  pair_intro
  · run_from Cert.AdamStepIdeal.Value.run_blocks m g
  · run_from Cert.AdamStepRefIdeal.Value.run (F := Ideal) m' g'
    · exact (Cert.AdamStepIdeal.RefValue.final_g m c).symm
    · exact (Cert.AdamStepRefIdeal.Read.val_main_v23_eq (F := Ideal) _ _ _ _).trans (Cert.AdamStepIdeal.RefValue.final_d m c).symm
    · exact (Cert.AdamStepRefIdeal.Read.val_main_v4_eq (F := Ideal) _ _).trans (Cert.AdamStepIdeal.RefValue.final_m m c).symm
    · exact (Cert.AdamStepRefIdeal.Read.val_main_v10_eq (F := Ideal) _ _).trans (Cert.AdamStepIdeal.RefValue.final_v m c).symm

end Cert.Proof
-- ==== Proof.ColsFwd.lean ====
/- The product by a weight whose columns are cut over four chips against the reference's product. -/
module

public import proofs.«01_k».proof.Defs
public import proofs.«01_k».proof.Proof.Gen.ColsFwdIdeal.Value
public import proofs.«01_k».proof.Proof.Gen.ColsFwdRefIdeal.Run
public import proofs.«01_k».proof.Proof.Gen.ColsFwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ColsFwdIdeal.RefValue

open Cert.ColsFwdIdeal Cert.ColsFwdIdeal.Gen
open Cert.ColsFwdRefIdeal.Read Cert.Rows

open Cert.GateBwdIdeal.RefValue (R C R_val C_val)

theorem tile_at (x : FVec Ideal S1024x2048 .bf16) (w : FVec Ideal S1x2048x1408 .bf16) (r : Fin 1024) (j : Fin 1408) :
    k0_pay1 (F := Ideal) x w (ix2 r j) = ∑ k : Fin 2048, x (ix2 r k) * w (ix3 (0 : Fin 1) k j) := by
  pointwise [k0_pay1]

theorem ref_at (x : FVec Ideal S2048x2048 .bf16) (w : FVec Ideal S2048x5632 .f32) (r : Fin 2048) (j : Fin 5632) :
    val_main_v2 (F := Ideal) x w (ix2 r j) = ∑ k : Fin 2048, x (ix2 r k) * w (ix2 k j) := by
  pointwise [val_main_v2, val_main_v1, val_main_v0]

variable (m : (ℓ : Loc nD τ sig) → Buf (Elt Ideal) ℓ)

/-- The arguments: the rows and the weight. -/
abbrev ax (c : Dev nD) : FVec Ideal S2048x2048 .bf16 := m ((c : Thread nD τ).loc main_arg0)
abbrev aw (c : Dev nD) : FVec Ideal S2048x5632 .f32 := m ((c : Thread nD τ).loc main_arg1)

/-- The grid point of chip `q` and block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![i.val, 0] ∧ win0_1.index (pt q i) = ![q.val, 0, 0]
    ∧ win0_2.index (pt q i) = ![i.val, q.val] := by
  decide +kernel

/-- The gathered weight holds each chip's share of the columns. -/
theorem weight_entry (c : Dev nD) (q : Fin 4) (k : Fin 2048) (j : Fin 1408) : V m c main_v2 (ix3 q k j) = aw m c (ix2 k (C q j)) := by
  entry_read
  pointwise
  blk_ext [C]

variable (c : Dev nD) (q : Fin 4) (i : Fin 2)

theorem blk0 (r : Fin 1024) (k : Fin 2048) : iblk m c 0 (pt q i) (ix2 r k) = ax m c (ix2 (R i r) k) := by
  blk_point [iblk, V, idx q i]
  blk_ext [idx q i, R_val]

theorem blk1 (a : Fin 1) (k : Fin 2048) (j : Fin 1408) : iblk m c 1 (pt q i) (ix3 a k j) = aw m c (ix2 k (C q j)) := by
  rw [← weight_entry]
  blk_point [iblk, idx q i]
  blk_ext [idx q i]

theorem tile_eq (r : Fin 1024) (j : Fin 1408) : k0_pay1 (F := Ideal) (iblk m c 0 (pt q i)) (iblk m c 1 (pt q i)) (ix2 r j)
    = val_main_v2 (F := Ideal) (ax m c) (aw m c) (ix2 (R i r) (C q j)) := by
  refine (tile_at _ _ r j).trans ?_
  rw [ref_at]
  exact Finset.sum_congr rfl fun k _ => congrArg₂ _ (blk0 m c q i r k) (blk1 m c q i 0 k j)

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v2 (F := Ideal) (ax m c) (aw m c) := by
  refine (dats m 0 c).arrAt_eq_of_covers 2 _ (by decide +kernel) fun t hf y => ?_
  blk_simp; rw [after0_2, outs]
  obtain ⟨q, i, rfl⟩ := exists_point t
  obtain ⟨a, b, rfl⟩ : ∃ (a : Fin 1024) (b : Fin 1408), y = ix2 a b := ⟨y 0, y 1, eq_ix2 y⟩
  refine (tile_eq m c q i a b).trans ?_
  blk_ext [idx q i]
  · rfl
  · rfl

end Cert.ColsFwdIdeal.RefValue

namespace Cert.Proof

/-- The call computes the product. -/
theorem cols_fwd : Cert.algebraic_ColsFwdIdeal_ColsFwdRefIdeal := by
  pair_intro
  · run_from Cert.ColsFwdIdeal.Value.run_blocks m g
  · run_from Cert.ColsFwdRefIdeal.Value.run (F := Ideal) m' g'
    exact (Cert.ColsFwdRefIdeal.Read.val_main_v2_eq (F := Ideal) _ _).trans (Cert.ColsFwdIdeal.RefValue.final m c).symm

end Cert.Proof
-- ==== Proof.Shares.lean ====
/- A chip's share of the mixer's 4096 columns, and sums over them. -/
module

public import Idealize.ShloMosaic.Lib.Claim
public import Idealize.ShloMosaic.Lib.Pointwise
public import Idealize.ShloMosaic.Lib.Pipeline.ValueKit

@[expose] public section

open Idealize.ShloMosaic

namespace Cert.Rows

/-- Column `j` of chip `q`'s share, of four shares of 1024 columns. -/
def share (q : Fin 4) (j : Fin 1024) : Fin 4096 := ⟨q.val * 1024 + j.val, by omega⟩

theorem share_val (q : Fin 4) (j : Fin 1024) : (share q j).val = q.val * 1024 + j.val := rfl

/-- A sum over all columns is the sum over the shares of the sums over each share. -/
theorem sum_share {α : Type*} [AddCommMonoid α] (f : Fin 4096 → α) :
    ∑ q : Fin 4, ∑ j : Fin 1024, f (share q j) = ∑ l, f l :=
  Fin.sum_mul_add_congr (S := 4) (n := 1024) (L := 4096) (fun _ _ _ => rfl) rfl

end Cert.Rows
-- ==== Proof.InFwd.lean ====
/- The mixer's first product with its bias, the weight's columns cut over four chips, against the reference's. -/
module

public import proofs.«01_k».proof.Defs
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Rows
public import proofs.«01_k».proof.Proof.Gate
public import proofs.«01_k».proof.Proof.Shares
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InFwdIdeal.RefValue

open Cert.InFwdIdeal Cert.InFwdIdeal.Gen
open Cert.InFwdRefIdeal.Read Cert.Rows

open Cert.GateBwdIdeal.RefValue (R C R_val C_val)

theorem tile_at (x : FVec Ideal S1024x2048 .bf16) (w : FVec Ideal S1x2048x1024 .bf16) (b : FVec Ideal S1x1024 .f32) (r j : Fin 1024) :
    k0_pay1 (F := Ideal) x w b (ix2 r j) = (∑ k : Fin 2048, x (ix2 r k) * w (ix3 (0 : Fin 1) k j)) + b (ix2 (0 : Fin 1) j) := by
  pointwise [k0_pay1]

theorem ref_at (x : FVec Ideal S2048x2048 .bf16) (w : FVec Ideal S2048x4096 .f32) (b : FVec Ideal S4096 .f32) (r : Fin 2048) (j : Fin 4096) :
    val_main_v4 (F := Ideal) x w b (ix2 r j) = (∑ k : Fin 2048, x (ix2 r k) * w (ix2 k j)) + b (ix1 j) := by
  pointwise [val_main_v4, val_main_v3, val_main_v2, val_main_v1, val_main_v0]

variable (m : (ℓ : Loc nD τ sig) → Buf (Elt Ideal) ℓ)

/-- The arguments: the rows, the weight and the bias. -/
abbrev ax (c : Dev nD) : FVec Ideal S2048x2048 .bf16 := m ((c : Thread nD τ).loc main_arg0)
abbrev aw (c : Dev nD) : FVec Ideal S2048x4096 .f32 := m ((c : Thread nD τ).loc main_arg1)
abbrev ab (c : Dev nD) : FVec Ideal S4096 .f32 := m ((c : Thread nD τ).loc main_arg2)

/-- The grid point of chip `q` and block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![i.val, 0] ∧ win0_1.index (pt q i) = ![q.val, 0, 0]
    ∧ win0_2.index (pt q i) = ![0, q.val] ∧ win0_3.index (pt q i) = ![i.val, q.val] := by
  decide +kernel

/-- The gathered weight holds each chip's share of the columns. -/
theorem weight_entry (c : Dev nD) (q : Fin 4) (k : Fin 2048) (j : Fin 1024) : V m c main_v2 (ix3 q k j) = aw m c (ix2 k (share q j)) := by
  entry_read
  pointwise
  blk_ext [share]

theorem bias_entry (c : Dev nD) (a : Fin 1) (j : Fin 4096) : V m c main_v3 (ix2 a j) = ab m c (ix1 j) := by
  entry_read
  pointwise

variable (c : Dev nD) (q : Fin 4) (i : Fin 2)

theorem blk0 (r : Fin 1024) (k : Fin 2048) : iblk m c 0 (pt q i) (ix2 r k) = ax m c (ix2 (R i r) k) := by
  blk_point [iblk, V, idx q i]
  blk_ext [idx q i, R_val]

theorem blk1 (a : Fin 1) (k : Fin 2048) (j : Fin 1024) : iblk m c 1 (pt q i) (ix3 a k j) = aw m c (ix2 k (share q j)) := by
  rw [← weight_entry]
  blk_point [iblk, idx q i]
  blk_ext [idx q i]

theorem blk2 (j : Fin 1024) : iblk m c 2 (pt q i) (ix2 (0 : Fin 1) j) = ab m c (ix1 (share q j)) := by
  rw [← bias_entry m c 0]
  blk_point [iblk, idx q i]
  blk_ext [idx q i, share_val]

theorem tile_eq (r j : Fin 1024) :
    k0_pay1 (F := Ideal) (iblk m c 0 (pt q i)) (iblk m c 1 (pt q i)) (iblk m c 2 (pt q i)) (ix2 r j)
      = val_main_v4 (F := Ideal) (ax m c) (aw m c) (ab m c) (ix2 (R i r) (share q j)) := by
  refine (tile_at _ _ _ r j).trans ?_
  rw [ref_at]
  exact congrArg₂ _ (Finset.sum_congr rfl fun k _ => congrArg₂ _ (blk0 m c q i r k) (blk1 m c q i 0 k j)) (blk2 m c q i j)

theorem outs (t : Fin cfg0.N) : out0_3 (iblk m c 0 t) (iblk m c 1 t) (iblk m c 2 t)
    = k0_pay1 (F := Ideal) (iblk m c 0 t) (iblk m c 1 t) (iblk m c 2 t) := by
  frame_out

theorem final : (dats m 0 c).arrAt 3 cfg0.N = val_main_v4 (F := Ideal) (ax m c) (aw m c) (ab m c) := by
  refine (dats m 0 c).arrAt_eq_of_covers 3 _ (by decide +kernel) fun t hf y => ?_
  blk_simp; rw [after0_3, outs]
  obtain ⟨q, i, rfl⟩ := exists_point t
  obtain ⟨a, b, rfl⟩ : ∃ (a : Fin 1024) (b : Fin 1024), y = ix2 a b := ⟨y 0, y 1, eq_ix2 y⟩
  refine (tile_eq m c q i a b).trans ?_
  blk_ext [idx q i]
  · rfl
  · rfl

end Cert.InFwdIdeal.RefValue

namespace Cert.Proof

/-- The call computes the product with its bias. -/
theorem in_fwd : Cert.algebraic_InFwdIdeal_InFwdRefIdeal := by
  pair_intro
  · run_from Cert.InFwdIdeal.Value.run_blocks m g
  · run_from Cert.InFwdRefIdeal.Value.run (F := Ideal) m' g'
    exact (Cert.InFwdRefIdeal.Read.val_main_v4_eq (F := Ideal) _ _ _).trans (Cert.InFwdIdeal.RefValue.final m c).symm

end Cert.Proof
-- ==== Proof.ColsWeightBwd.lean ====
/- The gradient of the gate's weight, its columns cut over four chips, against the derivative of the reference's product. -/
module

public import proofs.«01_k».proof.Defs
public import proofs.«01_k».proof.Proof.Gen.ColsWeightBwdIdeal.Value
public import proofs.«01_k».proof.Proof.Gen.ColsWeightBwdRefIdeal.Run
public import proofs.«01_k».proof.Proof.Gen.ColsWeightBwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ColsWeightBwdIdeal.RefValue

open Cert.ColsWeightBwdIdeal Cert.ColsWeightBwdIdeal.Gen
open Cert.ColsWeightBwdRefIdeal.Read Cert.Rows

open Cert.GateBwdIdeal.RefValue (R C R_val C_val)

theorem tile_at (h : FVec Ideal S2048x1024 .bf16) (d : FVec Ideal S2048x1408 .bf16) (a : Fin 1) (l : Fin 1024) (j : Fin 1408) :
    k0_pay1 (F := Ideal) h d (ix3 a l j) = ∑ k : Fin 2048, h (ix2 k l) * d (ix2 k j) := by
  pointwise [k0_pay1]

theorem product_at (h : FVec Ideal S2048x2048 .bf16) (d : FVec Ideal S2048x5632 .bf16) (l : Fin 2048) (j : Fin 5632) :
    val_main_v6 (F := Ideal) h d (ix2 l j) = ∑ k : Fin 2048, d (ix2 k j) * h (ix2 k l) := by
  pointwise [val_main_v6, val_main_v5, val_main_v4, val_main_v3, val_main_v1]

theorem ref_at (h : FVec Ideal S2048x2048 .bf16) (d : FVec Ideal S2048x5632 .bf16) (q : Fin 4) (l : Fin 2048) (j : Fin 1408) :
    val_main_v8 (F := Ideal) h d (ix3 q l j) = ∑ k : Fin 2048, h (ix2 k l) * d (ix2 k (C q j)) := by
  have e : val_main_v8 (F := Ideal) h d (ix3 q l j) = val_main_v6 (F := Ideal) h d (ix2 l (C q j)) := by
    unfold val_main_v8 val_main_v7
    generalize val_main_v6 (F := Ideal) h d = z
    pointwise
    blk_ext [C]
  rw [e, product_at]
  exact Finset.sum_congr rfl fun k _ => mul_comm _ _

variable (m : (ℓ : Loc nD τ sig) → Buf (Elt Ideal) ℓ)

/-- The arguments: the rows and the gradient of the product. -/
abbrev ah (c : Dev nD) : FVec Ideal S2048x2048 .bf16 := m ((c : Thread nD τ).loc main_arg0)
abbrev ad (c : Dev nD) : FVec Ideal S2048x5632 .bf16 := m ((c : Thread nD τ).loc main_arg1)

/-- The grid point of chip `q` and block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![0, i.val] ∧ win0_1.index (pt q i) = ![0, q.val]
    ∧ win0_2.index (pt q i) = ![q.val, i.val, 0] := by
  decide +kernel

variable (c : Dev nD) (q : Fin 4) (i : Fin 2)

theorem blk0 (k : Fin 2048) (l : Fin 1024) : iblk m c 0 (pt q i) (ix2 k l) = ah m c (ix2 k (R i l)) := by
  blk_point [iblk, V, idx q i]
  blk_ext [idx q i, R_val]

theorem blk1 (k : Fin 2048) (j : Fin 1408) : iblk m c 1 (pt q i) (ix2 k j) = ad m c (ix2 k (C q j)) := by
  blk_point [iblk, V, idx q i]
  blk_ext [idx q i, C_val]

theorem tile_eq (a : Fin 1) (l : Fin 1024) (j : Fin 1408) : k0_pay1 (F := Ideal) (iblk m c 0 (pt q i)) (iblk m c 1 (pt q i)) (ix3 a l j)
    = val_main_v8 (F := Ideal) (ah m c) (ad m c) (ix3 q (R i l) j) := by
  refine (tile_at _ _ a l j).trans ?_
  rw [ref_at]
  exact Finset.sum_congr rfl fun k _ => congrArg₂ _ (blk0 m c q i k l) (blk1 m c q i k j)

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v8 (F := Ideal) (ah m c) (ad m c) := by
  refine (dats m 0 c).arrAt_eq_of_covers 2 _ (by decide +kernel) fun t hf y => ?_
  blk_simp; rw [after0_2, outs]
  obtain ⟨q, i, rfl⟩ := exists_point t
  obtain ⟨a, l, j, rfl⟩ : ∃ (a : Fin 1) (l : Fin 1024) (j : Fin 1408), y = ix3 a l j := ⟨y 0, y 1, y 2, eq_ix3 y⟩
  refine (tile_eq m c q i a l j).trans ?_
  blk_ext [idx q i, R_val]

end Cert.ColsWeightBwdIdeal.RefValue

namespace Cert.Proof

/-- The call computes the gradient with respect to the gate's weight. -/
theorem cols_weight_bwd : Cert.algebraic_ColsWeightBwdIdeal_ColsWeightBwdRefIdeal := by
  pair_intro
  · run_from Cert.ColsWeightBwdIdeal.Value.run_blocks m g
  · run_from Cert.ColsWeightBwdRefIdeal.Value.run (F := Ideal) m' g'
    exact (Cert.ColsWeightBwdRefIdeal.Read.val_main_v8_eq (F := Ideal) _ _).trans (Cert.ColsWeightBwdIdeal.RefValue.final m c).symm

end Cert.Proof
-- ==== Proof.InWeightBwd.lean ====
/- The gradient of the mixer's first weight, its columns cut over four chips, against the derivative of the reference's product. -/
module

public import proofs.«01_k».proof.Defs
public import proofs.«01_k».proof.Proof.Gen.InWeightBwdIdeal.Value
public import proofs.«01_k».proof.Proof.Gen.InWeightBwdRefIdeal.Run
public import proofs.«01_k».proof.Proof.Gen.InWeightBwdRefIdeal.Read
public import proofs.«01_k».proof.Proof.Rows
public import proofs.«01_k».proof.Proof.Gate
public import proofs.«01_k».proof.Proof.Shares
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InWeightBwdIdeal.RefValue

open Cert.InWeightBwdIdeal Cert.InWeightBwdIdeal.Gen
open Cert.InWeightBwdRefIdeal.Read Cert.Rows

open Cert.GateBwdIdeal.RefValue (R C R_val C_val)

theorem tile_at (h : FVec Ideal S2048x1024 .bf16) (d : FVec Ideal S2048x1024 .bf16) (a : Fin 1) (l : Fin 1024) (j : Fin 1024) :
    k0_pay1 (F := Ideal) h d (ix3 a l j) = ∑ k : Fin 2048, h (ix2 k l) * d (ix2 k j) := by
  pointwise [k0_pay1]

theorem product_at (h : FVec Ideal S2048x2048 .bf16) (d : FVec Ideal S2048x4096 .bf16) (l : Fin 2048) (j : Fin 4096) :
    val_main_v6 (F := Ideal) h d (ix2 l j) = ∑ k : Fin 2048, d (ix2 k j) * h (ix2 k l) := by
  pointwise [val_main_v6, val_main_v5, val_main_v4, val_main_v3, val_main_v1]

theorem ref_at (h : FVec Ideal S2048x2048 .bf16) (d : FVec Ideal S2048x4096 .bf16) (q : Fin 4) (l : Fin 2048) (j : Fin 1024) :
    val_main_v8 (F := Ideal) h d (ix3 q l j) = ∑ k : Fin 2048, h (ix2 k l) * d (ix2 k (share q j)) := by
  have e : val_main_v8 (F := Ideal) h d (ix3 q l j) = val_main_v6 (F := Ideal) h d (ix2 l (share q j)) := by
    unfold val_main_v8 val_main_v7
    generalize val_main_v6 (F := Ideal) h d = z
    pointwise
    blk_ext [share]
  rw [e, product_at]
  exact Finset.sum_congr rfl fun k _ => mul_comm _ _

variable (m : (ℓ : Loc nD τ sig) → Buf (Elt Ideal) ℓ)

/-- The arguments: the rows and the gradient of the product. -/
abbrev ah (c : Dev nD) : FVec Ideal S2048x2048 .bf16 := m ((c : Thread nD τ).loc main_arg0)
abbrev ad (c : Dev nD) : FVec Ideal S2048x4096 .bf16 := m ((c : Thread nD τ).loc main_arg1)

/-- The grid point of chip `q` and block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![0, i.val] ∧ win0_1.index (pt q i) = ![0, q.val]
    ∧ win0_2.index (pt q i) = ![q.val, i.val, 0] := by
  decide +kernel

variable (c : Dev nD) (q : Fin 4) (i : Fin 2)

theorem blk0 (k : Fin 2048) (l : Fin 1024) : iblk m c 0 (pt q i) (ix2 k l) = ah m c (ix2 k (R i l)) := by
  blk_point [iblk, V, idx q i]
  blk_ext [idx q i, R_val]

theorem blk1 (k : Fin 2048) (j : Fin 1024) : iblk m c 1 (pt q i) (ix2 k j) = ad m c (ix2 k (share q j)) := by
  blk_point [iblk, V, idx q i]
  blk_ext [idx q i, share_val]

theorem tile_eq (a : Fin 1) (l : Fin 1024) (j : Fin 1024) : k0_pay1 (F := Ideal) (iblk m c 0 (pt q i)) (iblk m c 1 (pt q i)) (ix3 a l j)
    = val_main_v8 (F := Ideal) (ah m c) (ad m c) (ix3 q (R i l) j) := by
  refine (tile_at _ _ a l j).trans ?_
  rw [ref_at]
  exact Finset.sum_congr rfl fun k _ => congrArg₂ _ (blk0 m c q i k l) (blk1 m c q i k j)

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v8 (F := Ideal) (ah m c) (ad m c) := by
  refine (dats m 0 c).arrAt_eq_of_covers 2 _ (by decide +kernel) fun t hf y => ?_
  blk_simp; rw [after0_2, outs]
  obtain ⟨q, i, rfl⟩ := exists_point t
  obtain ⟨a, l, j, rfl⟩ : ∃ (a : Fin 1) (l : Fin 1024) (j : Fin 1024), y = ix3 a l j := ⟨y 0, y 1, y 2, eq_ix3 y⟩
  refine (tile_eq m c q i a l j).trans ?_
  blk_ext [idx q i, R_val]

end Cert.InWeightBwdIdeal.RefValue

namespace Cert.Proof

/-- The call computes the gradient with respect to the mixer's first weight. -/
theorem in_weight_bwd : Cert.algebraic_InWeightBwdIdeal_InWeightBwdRefIdeal := by
  pair_intro
  · run_from Cert.InWeightBwdIdeal.Value.run_blocks m g
  · run_from Cert.InWeightBwdRefIdeal.Value.run (F := Ideal) m' g'
    exact (Cert.InWeightBwdRefIdeal.Read.val_main_v8_eq (F := Ideal) _ _).trans (Cert.InWeightBwdIdeal.RefValue.final m c).symm

end Cert.Proof
-- ==== Proof.DownWeightBwd.lean ====
/- The gradient of the down weight, its rows cut over four chips, against the derivative of half the product. -/
module

public import proofs.«01_k».proof.Defs
public import proofs.«01_k».proof.Proof.Gen.DownWeightBwdIdeal.Value
public import proofs.«01_k».proof.Proof.Gen.DownWeightBwdRefIdeal.Run
public import proofs.«01_k».proof.Proof.Gen.DownWeightBwdRefIdeal.Read
public import proofs.«01_k».proof.Proof.Rows
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownWeightBwdIdeal.RefValue

open Cert.DownWeightBwdIdeal Cert.DownWeightBwdIdeal.Gen
open Cert.DownWeightBwdRefIdeal.Read Cert.Rows

open Cert.GateBwdIdeal.RefValue (R C R_val C_val)

/-- One half, as the programs write it. -/
abbrev half : EReal := Scalar.ofBits (F := Ideal) .f32 0x3F000000#32

/-- One half is a positive real number, so it may be taken out of a sum. -/
theorem half_sum {n : Nat} (f : Fin n → EReal) : half * ∑ k, f k = ∑ k, half * f k := by
  obtain ⟨s, e, hs⟩ : ∃ s : ℝ, half = (s : EReal) ∧ 0 ≤ s := Cert.GateBwdIdeal.RefValue.half_real
  have add : ∀ a b : EReal, half * (a + b) = half * a + half * b := fun a b => by
    rw [e]
    exact EReal.left_distrib_of_nonneg_of_ne_top (by exact_mod_cast hs) (EReal.coe_ne_top _) a b
  exact map_sum (⟨⟨fun a => half * a, mul_zero _⟩, add⟩ : EReal →+ EReal) f Finset.univ

theorem tile_at (s : FVec Ideal S2048x1408 .bf16) (d : FVec Ideal S2048x1024 .bf16) (a : Fin 1) (l : Fin 1408) (j : Fin 1024) :
    k0_pay1 (F := Ideal) s d (ix3 a l j) = half * ∑ k : Fin 2048, s (ix2 k l) * d (ix2 k j) := by
  pointwise [k0_pay1]

theorem product_at (s : FVec Ideal S2048x5632 .bf16) (d : FVec Ideal S2048x2048 .bf16) (l : Fin 5632) (j : Fin 2048) :
    val_main_v10 (F := Ideal) s d (ix2 l j) = ∑ k : Fin 2048, half * d (ix2 k j) * s (ix2 k l) := by
  pointwise [val_main_v10, val_main_v9, val_main_v8, val_main_v7, val_main_v6, val_main_cst_1, val_main_v5, val_main_v1]

theorem ref_at (s : FVec Ideal S2048x5632 .bf16) (d : FVec Ideal S2048x2048 .bf16) (q : Fin 4) (l : Fin 1408) (j : Fin 2048) :
    val_main_v11 (F := Ideal) s d (ix3 q l j) = half * ∑ k : Fin 2048, s (ix2 k (C q l)) * d (ix2 k j) := by
  have e : val_main_v11 (F := Ideal) s d (ix3 q l j) = val_main_v10 (F := Ideal) s d (ix2 (C q l) j) := by
    unfold val_main_v11
    generalize val_main_v10 (F := Ideal) s d = z
    pointwise
    blk_ext [C]
  rw [e, product_at, half_sum]
  exact Finset.sum_congr rfl fun k _ => by rw [mul_assoc, mul_comm (d _)]

variable (m : (ℓ : Loc nD τ sig) → Buf (Elt Ideal) ℓ)

/-- The arguments: the gated rows and the gradient of the product. -/
abbrev ag (c : Dev nD) : FVec Ideal S2048x5632 .bf16 := m ((c : Thread nD τ).loc main_arg0)
abbrev ad (c : Dev nD) : FVec Ideal S2048x2048 .bf16 := m ((c : Thread nD τ).loc main_arg1)

/-- The grid point of chip `q` and block `i`. -/
abbrev pt (q : Fin 4) (i : Fin 2) : Fin 8 := ⟨q.val * 2 + i.val, by omega⟩

theorem exists_point (t : Fin 8) : ∃ q i, t = pt q i :=
  ⟨⟨t.val / 2, by omega⟩, ⟨t.val % 2, by omega⟩, Fin.ext (by show t.val = t.val / 2 * 2 + t.val % 2; omega)⟩

/-- The block every window shows at a grid point. -/
theorem idx : ∀ (q : Fin 4) (i : Fin 2), win0_0.index (pt q i) = ![0, q.val] ∧ win0_1.index (pt q i) = ![0, i.val]
    ∧ win0_2.index (pt q i) = ![q.val, 0, i.val] := by
  decide +kernel

variable (c : Dev nD) (q : Fin 4) (i : Fin 2)

theorem blk0 (k : Fin 2048) (l : Fin 1408) : iblk m c 0 (pt q i) (ix2 k l) = ag m c (ix2 k (C q l)) := by
  blk_point [iblk, V, idx q i]
  blk_ext [idx q i, C_val]

theorem blk1 (k : Fin 2048) (j : Fin 1024) : iblk m c 1 (pt q i) (ix2 k j) = ad m c (ix2 k (R i j)) := by
  blk_point [iblk, V, idx q i]
  blk_ext [idx q i, R_val]

theorem tile_eq (a : Fin 1) (l : Fin 1408) (j : Fin 1024) : k0_pay1 (F := Ideal) (iblk m c 0 (pt q i)) (iblk m c 1 (pt q i)) (ix3 a l j)
    = val_main_v11 (F := Ideal) (ag m c) (ad m c) (ix3 q l (R i j)) := by
  refine (tile_at _ _ a l j).trans ?_
  rw [ref_at]
  exact congrArg _ (Finset.sum_congr rfl fun k _ => congrArg₂ _ (blk0 m c q i k l) (blk1 m c q i k j))

theorem outs (t : Fin cfg0.N) : out0_2 (iblk m c 0 t) (iblk m c 1 t) = k0_pay1 (F := Ideal) (iblk m c 0 t) (iblk m c 1 t) := by
  frame_out

theorem final : (dats m 0 c).arrAt 2 cfg0.N = val_main_v11 (F := Ideal) (ag m c) (ad m c) := by
  refine (dats m 0 c).arrAt_eq_of_covers 2 _ (by decide +kernel) fun t hf y => ?_
  blk_simp; rw [after0_2, outs]
  obtain ⟨q, i, rfl⟩ := exists_point t
  obtain ⟨a, l, j, rfl⟩ : ∃ (a : Fin 1) (l : Fin 1408) (j : Fin 1024), y = ix3 a l j := ⟨y 0, y 1, y 2, eq_ix3 y⟩
  refine (tile_eq m c q i a l j).trans ?_
  blk_ext [idx q i, R_val]

end Cert.DownWeightBwdIdeal.RefValue

namespace Cert.Proof

/-- The call computes the gradient with respect to the down weight. -/
theorem down_weight_bwd : Cert.algebraic_DownWeightBwdIdeal_DownWeightBwdRefIdeal := by
  pair_intro
  · run_from Cert.DownWeightBwdIdeal.Value.run_blocks m g
  · run_from Cert.DownWeightBwdRefIdeal.Value.run (F := Ideal) m' g'
    exact (Cert.DownWeightBwdRefIdeal.Read.val_main_v11_eq (F := Ideal) _ _).trans (Cert.DownWeightBwdIdeal.RefValue.final m c).symm

end Cert.Proof
-- ==== Proof.InRowsBwd.lean ====
/- The product by a transposed weight, summed over the four chips' shares of its columns, against the derivative of the reference's product. -/
module

public import proofs.«01_k».proof.Defs
public import proofs.«01_k».proof.Proof.Gen.InRowsBwdIdeal.Value
public import proofs.«01_k».proof.Proof.Gen.InRowsBwdRefIdeal.Run
public import proofs.«01_k».proof.Proof.Gen.InRowsBwdRefIdeal.Read
public import proofs.«01_k».proof.Proof.Rows
public import proofs.«01_k».proof.Proof.Gate
public import proofs.«01_k».proof.Proof.Shares
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InRowsBwdIdeal.RefValue

open Cert.InRowsBwdIdeal Cert.InRowsBwdIdeal.Gen
open Cert.InRowsBwdRefIdeal.Read Cert.Rows

open Cert.GateBwdIdeal.RefValue (R C R_val C_val)

/-- One share's part of the product. -/
def part (d : FVec Ideal S512x1024 .bf16) (w : FVec Ideal S1x256x1024 .bf16) (r : Fin 512) (j : Fin 256) : EReal :=
  ∑ l : Fin 1024, d (ix2 r l) * w (ix3 (0 : Fin 1) j l)

theorem tile_at (d0 d1 d2 d3 : FVec Ideal S512x1024 .bf16) (w0 w1 w2 w3 : FVec Ideal S1x256x1024 .bf16) (r : Fin 512) (j : Fin 256) :
    k0_pay1 (F := Ideal) d0 w0 d1 w1 d2 w2 d3 w3 (ix2 r j) = part d0 w0 r j + part d1 w1 r j + part d2 w2 r j + part d3 w3 r j := by
  pointwise [k0_pay1, part]

theorem ref_at (d : FVec Ideal S2048x4096 .bf16) (w : FVec Ideal S2048x4096 .f32) (r j : Fin 2048) :
    val_main_v3 (F := Ideal) d w (ix2 r j) = ∑ q : Fin 4, ∑ l : Fin 1024, d (ix2 r (share q l)) * w (ix2 j (share q l)) := by
  rw [sum_share (fun l => d (ix2 r l) * w (ix2 j l))]
  pointwise [val_main_v3, val_main_v2]

section Loads

variable (d : FVec Ideal S512x4096 .bf16) (w : FVec Ideal S4x256x1024 .bf16) (r : Fin 512) (j : Fin 256) (l : Fin 1024) (a : Fin 1)

theorem ld_d0 : View.ld (Val := Elt Ideal) (e' := .bf16) d r0_0 (ix2 r l) = d (ix2 r (share 0 l)) := by
  rw [View.ld_unit]
  pointwise
  blk_ext [share]
theorem ld_w0 : View.ld (Val := Elt Ideal) (e' := .bf16) w r0_1 (ix3 a j l) = w (ix3 (0 : Fin 4) j l) := by
  rw [View.ld_unit]
  pointwise
  blk_ext []
theorem ld_d1 : View.ld (Val := Elt Ideal) (e' := .bf16) d r0_2 (ix2 r l) = d (ix2 r (share 1 l)) := by
  rw [View.ld_unit]
  pointwise
  blk_ext [share]
theorem ld_w1 : View.ld (Val := Elt Ideal) (e' := .bf16) w r0_3 (ix3 a j l) = w (ix3 (1 : Fin 4) j l) := by
  rw [View.ld_unit]
  pointwise
  blk_ext []
theorem ld_d2 : View.ld (Val := Elt Ideal) (e' := .bf16) d r0_4 (ix2 r l) = d (ix2 r (share 2 l)) := by
  rw [View.ld_unit]
  pointwise
  blk_ext [share]
theorem ld_w2 : View.ld (Val := Elt Ideal) (e' := .bf16) w r0_5 (ix3 a j l) = w (ix3 (2 : Fin 4) j l) := by
  rw [View.ld_unit]
  pointwise
  blk_ext []
theorem ld_d3 : View.ld (Val := Elt Ideal) (e' := .bf16) d r0_6 (ix2 r l) = d (ix2 r (share 3 l)) := by
  rw [View.ld_unit]
  pointwise
  blk_ext [share]
theorem ld_w3 : View.ld (Val := Elt Ideal) (e' := .bf16) w r0_7 (ix3 a j l) = w (ix3 (3 : Fin 4) j l) := by
  rw [View.ld_unit]
  pointwise
  blk_ext []

/-- The tile's result, from the four loads of the rows' columns and of the weight's shares. -/
theorem block_at : k0_pay1 (F := Ideal) (View.ld d r0_0) (View.ld w r0_1) (View.ld d r0_2) (View.ld w r0_3) (View.ld d r0_4) (View.ld w r0_5) (View.ld d r0_6) (View.ld w r0_7) (ix2 r j)
    = ∑ q : Fin 4, ∑ l : Fin 1024, d (ix2 r (share q l)) * w (ix3 q j l) := by
  rw [tile_at, Fin.sum_univ_four]
  refine congrArg₂ _ (congrArg₂ _ (congrArg₂ _ ?_ ?_) ?_) ?_
  · exact Finset.sum_congr rfl fun l _ => congrArg₂ _ (ld_d0 d r l) (ld_w0 w j l 0)
  · exact Finset.sum_congr rfl fun l _ => congrArg₂ _ (ld_d1 d r l) (ld_w1 w j l 0)
  · exact Finset.sum_congr rfl fun l _ => congrArg₂ _ (ld_d2 d r l) (ld_w2 w j l 0)
  · exact Finset.sum_congr rfl fun l _ => congrArg₂ _ (ld_d3 d r l) (ld_w3 w j l 0)

/-- A point's block is that result. -/
theorem out_at : out0_2 (F := Ideal) d w (ix2 r j) = ∑ q : Fin 4, ∑ l : Fin 1024, d (ix2 r (share q l)) * w (ix3 q j l) := by
  have e : out0_2 (F := Ideal) d w = k0_pay1 (F := Ideal) (View.ld d r0_0) (View.ld w r0_1) (View.ld d r0_2) (View.ld w r0_3) (View.ld d r0_4) (View.ld w r0_5) (View.ld d r0_6) (View.ld w r0_7) := by
    frame_out
  rw [e, block_at]

end Loads

variable (m : (ℓ : Loc nD τ sig) → Buf (Elt Ideal) ℓ)

/-- The arguments: the gradient of the product and the weight. -/
abbrev ad (c : Dev nD) : FVec Ideal S2048x4096 .bf16 := m ((c : Thread nD τ).loc main_arg0)
abbrev aw (c : Dev nD) : FVec Ideal S2048x4096 .f32 := m ((c : Thread nD τ).loc main_arg1)

/-- The grid point of row block `i`, of four of 512 rows, and column block `g`, of eight of 256 columns. -/
abbrev pt (i : Fin 4) (g : Fin 8) : Fin 32 := ⟨i.val * 8 + g.val, by omega⟩

theorem exists_point (t : Fin 32) : ∃ i g, t = pt i g :=
  ⟨⟨t.val / 8, by omega⟩, ⟨t.val % 8, by omega⟩, Fin.ext (by show t.val = t.val / 8 * 8 + t.val % 8; omega)⟩

/-- The block every window shows at a grid point. -/
theorem idx : ∀ (i : Fin 4) (g : Fin 8), win0_0.index (pt i g) = ![i.val, 0] ∧ win0_1.index (pt i g) = ![0, g.val, 0]
    ∧ win0_2.index (pt i g) = ![i.val, g.val] := by
  decide +kernel

/-- The gathered weight holds each chip's share of the columns. -/
theorem weight_entry (c : Dev nD) (q : Fin 4) (j : Fin 2048) (l : Fin 1024) : V m c main_v2 (ix3 q j l) = aw m c (ix2 j (share q l)) := by
  entry_read
  pointwise
  blk_ext [share]

variable (c : Dev nD) (i : Fin 4) (g : Fin 8)

theorem blk0 (r : Fin 512) (k : Fin 4096) : iblk m c 0 (pt i g) (ix2 r k) = ad m c (ix2 (col i r) k) := by
  blk_point [iblk, V, idx i g]
  blk_ext [idx i g, col_val]

theorem blk1 (q : Fin 4) (j : Fin 256) (l : Fin 1024) : iblk m c 1 (pt i g) (ix3 q j l) = aw m c (ix2 (row g j) (share q l)) := by
  rw [← weight_entry]
  blk_point [iblk, idx i g]
  blk_ext [idx i g, row_val]

theorem tile_eq (r : Fin 512) (j : Fin 256) : out0_2 (F := Ideal) (iblk m c 0 (pt i g)) (iblk m c 1 (pt i g)) (ix2 r j)
    = val_main_v3 (F := Ideal) (ad m c) (aw m c) (ix2 (col i r) (row g j)) := by
  refine (out_at _ _ r j).trans ?_
  rw [ref_at]
  exact Finset.sum_congr rfl fun q _ => Finset.sum_congr rfl fun l _ => congrArg₂ _ (blk0 m c i g r _) (blk1 m c i g q j l)

theorem final : (dats m 0 c).arrAt 2 cfg0.N = val_main_v3 (F := Ideal) (ad m c) (aw m c) := by
  refine (dats m 0 c).arrAt_eq_of_covers 2 _ (by decide +kernel) fun t hf y => ?_
  blk_simp; rw [after0_2]
  obtain ⟨i, g, rfl⟩ := exists_point t
  obtain ⟨a, b, rfl⟩ : ∃ (a : Fin 512) (b : Fin 256), y = ix2 a b := ⟨y 0, y 1, eq_ix2 y⟩
  refine (tile_eq m c i g a b).trans ?_
  blk_ext [idx i g]
  · rfl
  · rfl

end Cert.InRowsBwdIdeal.RefValue

namespace Cert.Proof

/-- The call computes the gradient with respect to the product's rows. -/
theorem in_rows_bwd : Cert.algebraic_InRowsBwdIdeal_InRowsBwdRefIdeal := by
  pair_intro
  · run_from Cert.InRowsBwdIdeal.Value.run_blocks m g
  · run_from Cert.InRowsBwdRefIdeal.Value.run (F := Ideal) m' g'
    exact (Cert.InRowsBwdRefIdeal.Read.val_main_v3_eq (F := Ideal) _ _).trans (Cert.InRowsBwdIdeal.RefValue.final m c).symm

end Cert.Proof
-- ==== Proof.lean ====
/- The claims put together: frames of both readings of each call and of its reference, and the values. -/
module

public import proofs.«01_k».proof.Defs
public import proofs.«01_k».proof.Proof.Gen.PoolScaleBwd.Frame
public import proofs.«01_k».proof.Proof.Gen.PoolScaleBwdIdeal.Value
public import proofs.«01_k».proof.Proof.Gen.PoolScaleRefIdeal.Run
public import proofs.«01_k».proof.Proof.Gen.PoolScaleRefIdeal.Read
public import proofs.«01_k».proof.Proof.PoolScale
public import proofs.«01_k».proof.Proof.Gen.AttnBwd.Frame
public import proofs.«01_k».proof.Proof.Gen.AttnBwdIdeal.Value
public import proofs.«01_k».proof.Proof.Gen.AttnRefIdeal.Run
public import proofs.«01_k».proof.Proof.Gen.AttnRefIdeal.Read
public import proofs.«01_k».proof.Proof.Attn
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnFwd
public import proofs.«01_k».proof.Proof.Gen.GateBwd.Frame
public import proofs.«01_k».proof.Proof.Gen.GateBwdIdeal.Value
public import proofs.«01_k».proof.Proof.Gen.GateRefIdeal.Run
public import proofs.«01_k».proof.Proof.Gen.GateRefIdeal.Read
public import proofs.«01_k».proof.Proof.Gate
public import proofs.«01_k».proof.Proof.Gen.GateFwd.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateFwd
public import proofs.«01_k».proof.Proof.Gen.ConvBwd.Frame
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Conv
public import proofs.«01_k».proof.Proof.Gen.MixBwd.Frame
public import proofs.«01_k».proof.Proof.Gen.MixBwdIdeal.Value
public import proofs.«01_k».proof.Proof.Gen.MixRefIdeal.Run
public import proofs.«01_k».proof.Proof.Gen.MixRefIdeal.Read
public import proofs.«01_k».proof.Proof.Mix
public import proofs.«01_k».proof.Proof.Gen.PoolBwd.Frame
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.Pool
public import proofs.«01_k».proof.Proof.Gen.NormBwd.Frame
public import proofs.«01_k».proof.Proof.Gen.NormBwdIdeal.Value
public import proofs.«01_k».proof.Proof.Gen.NormRefIdeal.Run
public import proofs.«01_k».proof.Proof.Gen.NormRefIdeal.Read
public import proofs.«01_k».proof.Proof.Norm
public import proofs.«01_k».proof.Proof.Gen.NormKvBwd.Frame
public import proofs.«01_k».proof.Proof.Gen.NormKvBwdIdeal.Value
public import proofs.«01_k».proof.Proof.Gen.NormKvRefIdeal.Run
public import proofs.«01_k».proof.Proof.Gen.NormKvRefIdeal.Read
public import proofs.«01_k».proof.Proof.NormKv
public import proofs.«01_k».proof.Proof.Gen.LossBwd.Frame
public import proofs.«01_k».proof.Proof.Gen.LossBwdIdeal.Value
public import proofs.«01_k».proof.Proof.Gen.LossRefIdeal.Run
public import proofs.«01_k».proof.Proof.Gen.LossRefIdeal.Read
public import proofs.«01_k».proof.Proof.Loss
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormFwd
public import proofs.«01_k».proof.Proof.Gen.PoolFwd.Frame
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.PoolFwd
public import proofs.«01_k».proof.Proof.Gen.MixFwd.Frame
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.MixFwd
public import proofs.«01_k».proof.Proof.Gen.GroupFwd.Frame
public import proofs.«01_k».proof.Proof.Gen.GroupFwdIdeal.Value
public import proofs.«01_k».proof.Proof.Gen.GroupFwdRefIdeal.Run
public import proofs.«01_k».proof.Proof.Gen.GroupFwdRefIdeal.Read
public import proofs.«01_k».proof.Proof.GroupFwd
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.DownFwd
public import proofs.«01_k».proof.Proof.Gen.RowsFwd.Frame
public import proofs.«01_k».proof.Proof.Gen.RowsFwdIdeal.Value
public import proofs.«01_k».proof.Proof.Gen.RowsFwdRefIdeal.Run
public import proofs.«01_k».proof.Proof.Gen.RowsFwdRefIdeal.Read
public import proofs.«01_k».proof.Proof.RowsFwd
public import proofs.«01_k».proof.Proof.Gen.RowsBwd.Frame
public import proofs.«01_k».proof.Proof.Gen.RowsBwdIdeal.Value
public import proofs.«01_k».proof.Proof.Gen.RowsBwdRefIdeal.Run
public import proofs.«01_k».proof.Proof.Gen.RowsBwdRefIdeal.Read
public import proofs.«01_k».proof.Proof.RowsBwd
public import proofs.«01_k».proof.Proof.Gen.WeightBwd.Frame
public import proofs.«01_k».proof.Proof.Gen.WeightBwdIdeal.Value
public import proofs.«01_k».proof.Proof.Gen.WeightBwdRefIdeal.Run
public import proofs.«01_k».proof.Proof.Gen.WeightBwdRefIdeal.Read
public import proofs.«01_k».proof.Proof.WeightBwd
public import proofs.«01_k».proof.Proof.Gen.RowsSumBwd.Frame
public import proofs.«01_k».proof.Proof.Gen.RowsSumBwdIdeal.Value
public import proofs.«01_k».proof.Proof.Gen.RowsSumBwdRefIdeal.Run
public import proofs.«01_k».proof.Proof.Gen.RowsSumBwdRefIdeal.Read
public import proofs.«01_k».proof.Proof.RowsSumBwd
public import proofs.«01_k».proof.Proof.Gen.AdamStep.Frame
public import proofs.«01_k».proof.Proof.Gen.AdamStepIdeal.Value
public import proofs.«01_k».proof.Proof.Gen.AdamStepRefIdeal.Run
public import proofs.«01_k».proof.Proof.Gen.AdamStepRefIdeal.Read
public import proofs.«01_k».proof.Proof.AdamStep
public import proofs.«01_k».proof.Proof.Gen.ColsFwd.Frame
public import proofs.«01_k».proof.Proof.Gen.ColsFwdIdeal.Value
public import proofs.«01_k».proof.Proof.Gen.ColsFwdRefIdeal.Run
public import proofs.«01_k».proof.Proof.Gen.ColsFwdRefIdeal.Read
public import proofs.«01_k».proof.Proof.ColsFwd
public import proofs.«01_k».proof.Proof.Gen.InFwd.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.InFwd
public import proofs.«01_k».proof.Proof.Gen.ColsWeightBwd.Frame
public import proofs.«01_k».proof.Proof.Gen.ColsWeightBwdIdeal.Value
public import proofs.«01_k».proof.Proof.Gen.ColsWeightBwdRefIdeal.Run
public import proofs.«01_k».proof.Proof.Gen.ColsWeightBwdRefIdeal.Read
public import proofs.«01_k».proof.Proof.ColsWeightBwd
public import proofs.«01_k».proof.Proof.Gen.InWeightBwd.Frame
public import proofs.«01_k».proof.Proof.Gen.InWeightBwdIdeal.Value
public import proofs.«01_k».proof.Proof.Gen.InWeightBwdRefIdeal.Run
public import proofs.«01_k».proof.Proof.Gen.InWeightBwdRefIdeal.Read
public import proofs.«01_k».proof.Proof.InWeightBwd
public import proofs.«01_k».proof.Proof.Gen.DownWeightBwd.Frame
public import proofs.«01_k».proof.Proof.Gen.DownWeightBwdIdeal.Value
public import proofs.«01_k».proof.Proof.Gen.DownWeightBwdRefIdeal.Run
public import proofs.«01_k».proof.Proof.Gen.DownWeightBwdRefIdeal.Read
public import proofs.«01_k».proof.Proof.DownWeightBwd
public import proofs.«01_k».proof.Proof.Gen.InRowsBwd.Frame
public import proofs.«01_k».proof.Proof.Gen.InRowsBwdIdeal.Value
public import proofs.«01_k».proof.Proof.Gen.InRowsBwdRefIdeal.Run
public import proofs.«01_k».proof.Proof.Gen.InRowsBwdRefIdeal.Read
public import proofs.«01_k».proof.Proof.InRowsBwd
public import Idealize.ShloMosaic.Adequacy
public import Idealize.ShloMosaic.Init

@[expose] public section

noncomputable section

open Idealize.ShloMosaic Idealize.SL.Sem

namespace Cert.Proof

/-- The reference of the pooling scale runs and keeps its arguments. -/
theorem pool_scale_ref : Cert.quiescent_PoolScaleRefIdeal := fun m ρ _ =>
  (θ_run Cert.PoolScaleRefIdeal.defs _ _).mono
    (fun _ h => ⟨fun c => (h c).2.2.2, sem_eq_zero_of_no_sems (by decide) _⟩) (Cert.PoolScaleRefIdeal.Value.run (F := Ideal) m ρ)

/-- The reference of the attention runs and keeps its arguments. -/
theorem attn_ref : Cert.quiescent_AttnRefIdeal := fun m ρ _ =>
  (θ_run Cert.AttnRefIdeal.defs _ _).mono
    (fun _ h => ⟨fun c => (h c).2.2.2, sem_eq_zero_of_no_sems (by decide) _⟩) (Cert.AttnRefIdeal.Value.run (F := Ideal) m ρ)

/-- The reference of the attention's forward call runs and keeps its arguments. -/
theorem attn_fwd_ref : Cert.quiescent_AttnFwdRefIdeal := fun m ρ _ =>
  (θ_run Cert.AttnFwdRefIdeal.defs _ _).mono
    (fun _ h => ⟨fun c => (h c).2, sem_eq_zero_of_no_sems (by decide) _⟩) (Cert.AttnFwdRefIdeal.Value.run (F := Ideal) m ρ)

/-- The reference of the gate runs and keeps its arguments. -/
theorem gate_ref : Cert.quiescent_GateRefIdeal := fun m ρ _ =>
  (θ_run Cert.GateRefIdeal.defs _ _).mono
    (fun _ h => ⟨fun c => (h c).2.2, sem_eq_zero_of_no_sems (by decide) _⟩) (Cert.GateRefIdeal.Value.run (F := Ideal) m ρ)

/-- The reference of the gate's forward call runs and keeps its arguments. -/
theorem gate_fwd_ref : Cert.quiescent_GateFwdRefIdeal := fun m ρ _ =>
  (θ_run Cert.GateFwdRefIdeal.defs _ _).mono
    (fun _ h => ⟨fun c => (h c).2.2, sem_eq_zero_of_no_sems (by decide) _⟩) (Cert.GateFwdRefIdeal.Value.run (F := Ideal) m ρ)

/-- The reference of the convolution runs and keeps its arguments. -/
theorem conv_ref : Cert.quiescent_ConvRefIdeal := fun m ρ _ =>
  (θ_run Cert.ConvRefIdeal.defs _ _).mono
    (fun _ h => ⟨fun c => (h c).2.2, sem_eq_zero_of_no_sems (by decide) _⟩) (Cert.ConvRefIdeal.Value.run (F := Ideal) m ρ)

/-- The reference of the mixer's second half runs and keeps its arguments. -/
theorem mix_ref : Cert.quiescent_MixRefIdeal := fun m ρ _ =>
  (θ_run Cert.MixRefIdeal.defs _ _).mono
    (fun _ h => ⟨fun c => (h c).2.2.2.2.2.2.2.2.2.2.2, sem_eq_zero_of_no_sems (by decide) _⟩) (Cert.MixRefIdeal.Value.run (F := Ideal) m ρ)

/-- The reference of the pooling runs and keeps its arguments. -/
theorem pool_ref : Cert.quiescent_PoolRefIdeal := fun m ρ _ =>
  (θ_run Cert.PoolRefIdeal.defs _ _).mono
    (fun _ h => ⟨fun c => (h c).2.2.2, sem_eq_zero_of_no_sems (by decide) _⟩) (Cert.PoolRefIdeal.Value.run (F := Ideal) m ρ)

/-- The reference of the norm runs and keeps its arguments. -/
theorem norm_ref : Cert.quiescent_NormRefIdeal := fun m ρ _ =>
  (θ_run Cert.NormRefIdeal.defs _ _).mono
    (fun _ h => ⟨fun c => (h c).2.2.2, sem_eq_zero_of_no_sems (by decide) _⟩) (Cert.NormRefIdeal.Value.run (F := Ideal) m ρ)

/-- The reference of the keys' norm runs and keeps its arguments. -/
theorem normkv_ref : Cert.quiescent_NormKvRefIdeal := fun m ρ _ =>
  (θ_run Cert.NormKvRefIdeal.defs _ _).mono
    (fun _ h => ⟨fun c => (h c).2, sem_eq_zero_of_no_sems (by decide) _⟩) (Cert.NormKvRefIdeal.Value.run (F := Ideal) m ρ)

/-- The reference of the loss runs and keeps its arguments. -/
theorem loss_ref : Cert.quiescent_LossRefIdeal := fun m ρ _ =>
  (θ_run Cert.LossRefIdeal.defs _ _).mono
    (fun _ h => ⟨fun c => (h c).2.2.2.2, sem_eq_zero_of_no_sems (by decide) _⟩) (Cert.LossRefIdeal.Value.run (F := Ideal) m ρ)

/-- The reference of the norm's forward call runs and keeps its arguments. -/
theorem norm_fwd_ref : Cert.quiescent_NormFwdRefIdeal := fun m ρ _ =>
  (θ_run Cert.NormFwdRefIdeal.defs _ _).mono
    (fun _ h => ⟨fun c => (h c).2, sem_eq_zero_of_no_sems (by decide) _⟩) (Cert.NormFwdRefIdeal.Value.run (F := Ideal) m ρ)

/-- The reference of the pooling's forward call runs and keeps its arguments. -/
theorem pool_fwd_ref : Cert.quiescent_PoolFwdRefIdeal := fun m ρ _ =>
  (θ_run Cert.PoolFwdRefIdeal.defs _ _).mono
    (fun _ h => ⟨fun c => (h c).2, sem_eq_zero_of_no_sems (by decide) _⟩) (Cert.PoolFwdRefIdeal.Value.run (F := Ideal) m ρ)

/-- The reference of the mixer's forward call runs and keeps its arguments. -/
theorem mix_fwd_ref : Cert.quiescent_MixFwdRefIdeal := fun m ρ _ =>
  (θ_run Cert.MixFwdRefIdeal.defs _ _).mono
    (fun _ h => ⟨fun c => (h c).2, sem_eq_zero_of_no_sems (by decide) _⟩) (Cert.MixFwdRefIdeal.Value.run (F := Ideal) m ρ)

/-- The reference of the grouped product runs and keeps its arguments. -/
theorem group_fwd_ref : Cert.quiescent_GroupFwdRefIdeal := fun m ρ _ =>
  (θ_run Cert.GroupFwdRefIdeal.defs _ _).mono
    (fun _ h => ⟨fun c => (h c).2.2, sem_eq_zero_of_no_sems (by decide) _⟩) (Cert.GroupFwdRefIdeal.Value.run (F := Ideal) m ρ)

/-- The reference of the down product runs and keeps its arguments. -/
theorem down_fwd_ref : Cert.quiescent_DownFwdRefIdeal := fun m ρ _ =>
  (θ_run Cert.DownFwdRefIdeal.defs _ _).mono
    (fun _ h => ⟨fun c => (h c).2, sem_eq_zero_of_no_sems (by decide) _⟩) (Cert.DownFwdRefIdeal.Value.run (F := Ideal) m ρ)

/-- The reference of the product by gathered rows runs and keeps its arguments. -/
theorem rows_fwd_ref : Cert.quiescent_RowsFwdRefIdeal := fun m ρ _ =>
  (θ_run Cert.RowsFwdRefIdeal.defs _ _).mono
    (fun _ h => ⟨fun c => (h c).2, sem_eq_zero_of_no_sems (by decide) _⟩) (Cert.RowsFwdRefIdeal.Value.run (F := Ideal) m ρ)

/-- The reference of the product by the gathered rows transposed runs and keeps its arguments. -/
theorem rows_bwd_ref : Cert.quiescent_RowsBwdRefIdeal := fun m ρ _ =>
  (θ_run Cert.RowsBwdRefIdeal.defs _ _).mono
    (fun _ h => ⟨fun c => (h c).2, sem_eq_zero_of_no_sems (by decide) _⟩) (Cert.RowsBwdRefIdeal.Value.run (F := Ideal) m ρ)

/-- The reference of the weight's gradient runs and keeps its arguments. -/
theorem weight_bwd_ref : Cert.quiescent_WeightBwdRefIdeal := fun m ρ _ =>
  (θ_run Cert.WeightBwdRefIdeal.defs _ _).mono
    (fun _ h => ⟨fun c => (h c).2, sem_eq_zero_of_no_sems (by decide) _⟩) (Cert.WeightBwdRefIdeal.Value.run (F := Ideal) m ρ)

/-- The reference of the sum of two products runs and keeps its arguments. -/
theorem rows_sum_bwd_ref : Cert.quiescent_RowsSumBwdRefIdeal := fun m ρ _ =>
  (θ_run Cert.RowsSumBwdRefIdeal.defs _ _).mono
    (fun _ h => ⟨fun c => (h c).2, sem_eq_zero_of_no_sems (by decide) _⟩) (Cert.RowsSumBwdRefIdeal.Value.run (F := Ideal) m ρ)

/-- The reference of the optimiser's step runs and keeps its arguments. -/
theorem adam_step_ref : Cert.quiescent_AdamStepRefIdeal := fun m ρ _ =>
  (θ_run Cert.AdamStepRefIdeal.defs _ _).mono
    (fun _ h => ⟨fun c => (h c).2.2.2.2, sem_eq_zero_of_no_sems (by decide) _⟩) (Cert.AdamStepRefIdeal.Value.run (F := Ideal) m ρ)

/-- The reference of the gate's product runs and keeps its arguments. -/
theorem cols_fwd_ref : Cert.quiescent_ColsFwdRefIdeal := fun m ρ _ =>
  (θ_run Cert.ColsFwdRefIdeal.defs _ _).mono
    (fun _ h => ⟨fun c => (h c).2, sem_eq_zero_of_no_sems (by decide) _⟩) (Cert.ColsFwdRefIdeal.Value.run (F := Ideal) m ρ)

/-- The reference of the mixer's first product runs and keeps its arguments. -/
theorem in_fwd_ref : Cert.quiescent_InFwdRefIdeal := fun m ρ _ =>
  (θ_run Cert.InFwdRefIdeal.defs _ _).mono
    (fun _ h => ⟨fun c => (h c).2, sem_eq_zero_of_no_sems (by decide) _⟩) (Cert.InFwdRefIdeal.Value.run (F := Ideal) m ρ)

/-- The reference of the gradient of the gate's weight runs and keeps its arguments. -/
theorem cols_weight_bwd_ref : Cert.quiescent_ColsWeightBwdRefIdeal := fun m ρ _ =>
  (θ_run Cert.ColsWeightBwdRefIdeal.defs _ _).mono
    (fun _ h => ⟨fun c => (h c).2, sem_eq_zero_of_no_sems (by decide) _⟩) (Cert.ColsWeightBwdRefIdeal.Value.run (F := Ideal) m ρ)

/-- The reference of the gradient of the mixer's first weight runs and keeps its arguments. -/
theorem in_weight_bwd_ref : Cert.quiescent_InWeightBwdRefIdeal := fun m ρ _ =>
  (θ_run Cert.InWeightBwdRefIdeal.defs _ _).mono
    (fun _ h => ⟨fun c => (h c).2, sem_eq_zero_of_no_sems (by decide) _⟩) (Cert.InWeightBwdRefIdeal.Value.run (F := Ideal) m ρ)

/-- The reference of the gradient of the down weight runs and keeps its arguments. -/
theorem down_weight_bwd_ref : Cert.quiescent_DownWeightBwdRefIdeal := fun m ρ _ =>
  (θ_run Cert.DownWeightBwdRefIdeal.defs _ _).mono
    (fun _ h => ⟨fun c => (h c).2, sem_eq_zero_of_no_sems (by decide) _⟩) (Cert.DownWeightBwdRefIdeal.Value.run (F := Ideal) m ρ)

/-- The reference of the gradient of the mixer's rows runs and keeps its arguments. -/
theorem in_rows_bwd_ref : Cert.quiescent_InRowsBwdRefIdeal := fun m ρ _ =>
  (θ_run Cert.InRowsBwdRefIdeal.defs _ _).mono
    (fun _ h => ⟨fun c => (h c).2, sem_eq_zero_of_no_sems (by decide) _⟩) (Cert.InRowsBwdRefIdeal.Value.run (F := Ideal) m ρ)

/-- The precondition's shapes fit. -/
theorem finite_q_k_facts : Cert.Pre_finite_q_k.Facts := ⟨by decide, by decide, by decide⟩

/-- The precondition's shapes fit. -/
theorem finite_dx_wd_b_facts : Cert.Pre_finite_dx_wd_b.Facts := ⟨by decide, by decide, by decide, by decide⟩

/-- The precondition's shapes fit. -/
theorem finite_gate_facts : Cert.Pre_finite_gate.Facts := ⟨by decide, by decide, by decide, by decide, by decide, by decide, by decide, by decide, by decide⟩

/-- The precondition's shapes fit. -/
theorem finite_dd_facts : Cert.Pre_finite_dd.Facts := ⟨by decide⟩

/-- The precondition's shapes fit. -/
theorem finite_g_facts : Cert.Pre_finite_g.Facts := ⟨by decide⟩

theorem claim : Cert.Claim :=
  ⟨Cert.PoolScaleBwd.Gen.facts, Cert.PoolScaleBwdIdeal.Gen.facts, Cert.PoolScaleRefIdeal.Gen.facts,
    Cert.AttnBwd.Gen.facts, Cert.AttnBwdIdeal.Gen.facts, Cert.AttnRefIdeal.Gen.facts,
    Cert.AttnFwd.Gen.facts, Cert.AttnFwdIdeal.Gen.facts, Cert.AttnFwdRefIdeal.Gen.facts,
    Cert.GateBwd.Gen.facts, Cert.GateBwdIdeal.Gen.facts, Cert.GateRefIdeal.Gen.facts,
    Cert.GateFwd.Gen.facts, Cert.GateFwdIdeal.Gen.facts, Cert.GateFwdRefIdeal.Gen.facts,
    Cert.ConvBwd.Gen.facts, Cert.ConvBwdIdeal.Gen.facts, Cert.ConvRefIdeal.Gen.facts,
    Cert.MixBwd.Gen.facts, Cert.MixBwdIdeal.Gen.facts, Cert.MixRefIdeal.Gen.facts,
    Cert.PoolBwd.Gen.facts, Cert.PoolBwdIdeal.Gen.facts, Cert.PoolRefIdeal.Gen.facts,
    Cert.NormBwd.Gen.facts, Cert.NormBwdIdeal.Gen.facts, Cert.NormRefIdeal.Gen.facts,
    Cert.NormKvBwd.Gen.facts, Cert.NormKvBwdIdeal.Gen.facts, Cert.NormKvRefIdeal.Gen.facts,
    Cert.LossBwd.Gen.facts, Cert.LossBwdIdeal.Gen.facts, Cert.LossRefIdeal.Gen.facts,
    Cert.NormFwd.Gen.facts, Cert.NormFwdIdeal.Gen.facts, Cert.NormFwdRefIdeal.Gen.facts,
    Cert.PoolFwd.Gen.facts, Cert.PoolFwdIdeal.Gen.facts, Cert.PoolFwdRefIdeal.Gen.facts,
    Cert.MixFwd.Gen.facts, Cert.MixFwdIdeal.Gen.facts, Cert.MixFwdRefIdeal.Gen.facts,
    Cert.GroupFwd.Gen.facts, Cert.GroupFwdIdeal.Gen.facts, Cert.GroupFwdRefIdeal.Gen.facts,
    Cert.DownFwd.Gen.facts, Cert.DownFwdIdeal.Gen.facts, Cert.DownFwdRefIdeal.Gen.facts,
    Cert.RowsFwd.Gen.facts, Cert.RowsFwdIdeal.Gen.facts, Cert.RowsFwdRefIdeal.Gen.facts,
    Cert.RowsBwd.Gen.facts, Cert.RowsBwdIdeal.Gen.facts, Cert.RowsBwdRefIdeal.Gen.facts,
    Cert.WeightBwd.Gen.facts, Cert.WeightBwdIdeal.Gen.facts, Cert.WeightBwdRefIdeal.Gen.facts,
    Cert.RowsSumBwd.Gen.facts, Cert.RowsSumBwdIdeal.Gen.facts, Cert.RowsSumBwdRefIdeal.Gen.facts,
    Cert.AdamStep.Gen.facts, Cert.AdamStepIdeal.Gen.facts, Cert.AdamStepRefIdeal.Gen.facts,
    Cert.ColsFwd.Gen.facts, Cert.ColsFwdIdeal.Gen.facts, Cert.ColsFwdRefIdeal.Gen.facts,
    Cert.InFwd.Gen.facts, Cert.InFwdIdeal.Gen.facts, Cert.InFwdRefIdeal.Gen.facts,
    Cert.ColsWeightBwd.Gen.facts, Cert.ColsWeightBwdIdeal.Gen.facts, Cert.ColsWeightBwdRefIdeal.Gen.facts,
    Cert.InWeightBwd.Gen.facts, Cert.InWeightBwdIdeal.Gen.facts, Cert.InWeightBwdRefIdeal.Gen.facts,
    Cert.DownWeightBwd.Gen.facts, Cert.DownWeightBwdIdeal.Gen.facts, Cert.DownWeightBwdRefIdeal.Gen.facts,
    Cert.InRowsBwd.Gen.facts, Cert.InRowsBwdIdeal.Gen.facts, Cert.InRowsBwdRefIdeal.Gen.facts,
    finite_q_k_facts, finite_dx_wd_b_facts, finite_gate_facts, finite_dd_facts, finite_g_facts,
    fun m ρ _ => Cert.PoolScaleBwd.Gen.frame m ρ, fun m ρ _ => Cert.PoolScaleBwdIdeal.Gen.frame m ρ, pool_scale_ref,
    fun m ρ _ => Cert.AttnBwd.Gen.frame m ρ, fun m ρ _ => Cert.AttnBwdIdeal.Gen.frame m ρ, fun m ρ _ => Cert.AttnBwdIdeal.Gen.frame m ρ, attn_ref, fun m ρ _ => attn_ref m ρ trivial,
    fun m ρ _ => Cert.AttnFwd.Gen.frame m ρ, fun m ρ _ => Cert.AttnFwdIdeal.Gen.frame m ρ, attn_fwd_ref,
    fun m ρ _ => Cert.GateBwd.Gen.frame m ρ, fun m ρ _ => Cert.GateBwdIdeal.Gen.frame m ρ, fun m ρ _ => Cert.GateBwdIdeal.Gen.frame m ρ, gate_ref, fun m ρ _ => gate_ref m ρ trivial,
    fun m ρ _ => Cert.GateFwd.Gen.frame m ρ, fun m ρ _ => Cert.GateFwdIdeal.Gen.frame m ρ, gate_fwd_ref,
    fun m ρ _ => Cert.ConvBwd.Gen.frame m ρ, fun m ρ _ => Cert.ConvBwdIdeal.Gen.frame m ρ, conv_ref,
    fun m ρ _ => Cert.MixBwd.Gen.frame m ρ, fun m ρ _ => Cert.MixBwdIdeal.Gen.frame m ρ, fun m ρ _ => Cert.MixBwdIdeal.Gen.frame m ρ, mix_ref, fun m ρ _ => mix_ref m ρ trivial,
    fun m ρ _ => Cert.PoolBwd.Gen.frame m ρ, fun m ρ _ => Cert.PoolBwdIdeal.Gen.frame m ρ, fun m ρ _ => Cert.PoolBwdIdeal.Gen.frame m ρ, pool_ref, fun m ρ _ => pool_ref m ρ trivial,
    fun m ρ _ => Cert.NormBwd.Gen.frame m ρ, fun m ρ _ => Cert.NormBwdIdeal.Gen.frame m ρ, norm_ref,
    fun m ρ _ => Cert.NormKvBwd.Gen.frame m ρ, fun m ρ _ => Cert.NormKvBwdIdeal.Gen.frame m ρ, normkv_ref,
    fun m ρ _ => Cert.LossBwd.Gen.frame m ρ, fun m ρ _ => Cert.LossBwdIdeal.Gen.frame m ρ, loss_ref,
    fun m ρ _ => Cert.NormFwd.Gen.frame m ρ, fun m ρ _ => Cert.NormFwdIdeal.Gen.frame m ρ, norm_fwd_ref,
    fun m ρ _ => Cert.PoolFwd.Gen.frame m ρ, fun m ρ _ => Cert.PoolFwdIdeal.Gen.frame m ρ, fun m ρ _ => Cert.PoolFwdIdeal.Gen.frame m ρ, pool_fwd_ref, fun m ρ _ => pool_fwd_ref m ρ trivial,
    fun m ρ _ => Cert.MixFwd.Gen.frame m ρ, fun m ρ _ => Cert.MixFwdIdeal.Gen.frame m ρ, mix_fwd_ref,
    fun m ρ _ => Cert.GroupFwd.Gen.frame m ρ, fun m ρ _ => Cert.GroupFwdIdeal.Gen.frame m ρ, group_fwd_ref,
    fun m ρ _ => Cert.DownFwd.Gen.frame m ρ, fun m ρ _ => Cert.DownFwdIdeal.Gen.frame m ρ, down_fwd_ref,
    fun m ρ _ => Cert.RowsFwd.Gen.frame m ρ, fun m ρ _ => Cert.RowsFwdIdeal.Gen.frame m ρ, rows_fwd_ref,
    fun m ρ _ => Cert.RowsBwd.Gen.frame m ρ, fun m ρ _ => Cert.RowsBwdIdeal.Gen.frame m ρ, rows_bwd_ref,
    fun m ρ _ => Cert.WeightBwd.Gen.frame m ρ, fun m ρ _ => Cert.WeightBwdIdeal.Gen.frame m ρ, weight_bwd_ref,
    fun m ρ _ => Cert.RowsSumBwd.Gen.frame m ρ, fun m ρ _ => Cert.RowsSumBwdIdeal.Gen.frame m ρ, rows_sum_bwd_ref,
    fun m ρ _ => Cert.AdamStep.Gen.frame m ρ, fun m ρ _ => Cert.AdamStepIdeal.Gen.frame m ρ, adam_step_ref,
    fun m ρ _ => Cert.ColsFwd.Gen.frame m ρ, fun m ρ _ => Cert.ColsFwdIdeal.Gen.frame m ρ, cols_fwd_ref,
    fun m ρ _ => Cert.InFwd.Gen.frame m ρ, fun m ρ _ => Cert.InFwdIdeal.Gen.frame m ρ, in_fwd_ref,
    fun m ρ _ => Cert.ColsWeightBwd.Gen.frame m ρ, fun m ρ _ => Cert.ColsWeightBwdIdeal.Gen.frame m ρ, cols_weight_bwd_ref,
    fun m ρ _ => Cert.InWeightBwd.Gen.frame m ρ, fun m ρ _ => Cert.InWeightBwdIdeal.Gen.frame m ρ, in_weight_bwd_ref,
    fun m ρ _ => Cert.DownWeightBwd.Gen.frame m ρ, fun m ρ _ => Cert.DownWeightBwdIdeal.Gen.frame m ρ, down_weight_bwd_ref,
    fun m ρ _ => Cert.InRowsBwd.Gen.frame m ρ, fun m ρ _ => Cert.InRowsBwdIdeal.Gen.frame m ρ, in_rows_bwd_ref,
    trivial, pool_scale, trivial, @attn finite_q_k_facts, trivial, attn_fwd, trivial, @gate finite_dx_wd_b_facts, trivial, gate_fwd, trivial, conv, trivial, @mix finite_gate_facts, trivial, @pool finite_dd_facts, trivial, norm, trivial, normkv, trivial, loss, trivial, norm_fwd, trivial, @pool_fwd finite_g_facts, trivial, mix_fwd, trivial, group_fwd, trivial, down_fwd, trivial, rows_fwd, trivial, rows_bwd, trivial, weight_bwd, trivial, rows_sum_bwd, trivial, adam_step, trivial, cols_fwd, trivial, in_fwd, trivial, cols_weight_bwd, trivial, in_weight_bwd, trivial, down_weight_bwd, trivial, in_rows_bwd⟩

end Cert.Proof

end
